-- ==== Defs.lean ====
def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_SwigluBwd (m : (ℓ : Loc Cert.SwigluBwd.nD Cert.SwigluBwd.τ Cert.SwigluBwd.sig) → Buf (Elt Bits) ℓ) : Prop :=
  True

def Pre_SwigluBwdIdeal (m : (ℓ : Loc Cert.SwigluBwdIdeal.nD Cert.SwigluBwdIdeal.τ Cert.SwigluBwdIdeal.sig) → Buf (Elt Ideal) ℓ) : Prop :=
  True

def Pre_SwigluBwdIdeal_swiglu_bwd_finite [hPre_swiglu_bwd_finite : Cert.Pre_swiglu_bwd_finite.Facts] (m : (ℓ : Loc Cert.SwigluBwdIdeal.nD Cert.SwigluBwdIdeal.τ Cert.SwigluBwdIdeal.sig) → Buf (Elt Ideal) ℓ) : Prop :=
  ∀ c : Dev Cert.SwigluBwdIdeal.nD,
    (Cert.Pre_swiglu_bwd_finite.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1)) (m ((c.tc : Thread Cert.SwigluBwdIdeal.nD Cert.SwigluBwdIdeal.τ).loc Cert.SwigluBwdIdeal.main_arg2))).1 = (fun _ => 1#1)
    ∧ (Cert.Pre_swiglu_bwd_finite.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1)) (m ((c.tc : Thread Cert.SwigluBwdIdeal.nD Cert.SwigluBwdIdeal.τ).loc Cert.SwigluBwdIdeal.main_arg2))).2.1 = (fun _ => 1#1)
    ∧ (Cert.Pre_swiglu_bwd_finite.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1)) (m ((c.tc : Thread Cert.SwigluBwdIdeal.nD Cert.SwigluBwdIdeal.τ).loc Cert.SwigluBwdIdeal.main_arg2))).2.2 = (fun _ => 1#1)

def Pre_SwigluBwdRefIdeal (m : (ℓ : Loc Cert.SwigluBwdRefIdeal.nD Cert.SwigluBwdRefIdeal.τ Cert.SwigluBwdRefIdeal.sig) → Buf (Elt Ideal) ℓ) : Prop :=
  True

def Pre_SwigluBwdRefIdeal_swiglu_bwd_finite [hPre_swiglu_bwd_finite : Cert.Pre_swiglu_bwd_finite.Facts] (m : (ℓ : Loc Cert.SwigluBwdRefIdeal.nD Cert.SwigluBwdRefIdeal.τ Cert.SwigluBwdRefIdeal.sig) → Buf (Elt Ideal) ℓ) : Prop :=
  ∀ c : Dev Cert.SwigluBwdRefIdeal.nD,
    (Cert.Pre_swiglu_bwd_finite.fn (F := Ideal) (m ((c.tc : Thread Cert.SwigluBwdRefIdeal.nD Cert.SwigluBwdRefIdeal.τ).loc Cert.SwigluBwdRefIdeal.main_arg0)) (m ((c.tc : Thread Cert.SwigluBwdRefIdeal.nD Cert.SwigluBwdRefIdeal.τ).loc Cert.SwigluBwdRefIdeal.main_arg1)) (m ((c.tc : Thread Cert.SwigluBwdRefIdeal.nD Cert.SwigluBwdRefIdeal.τ).loc Cert.SwigluBwdRefIdeal.main_arg2))).1 = (fun _ => 1#1)
    ∧ (Cert.Pre_swiglu_bwd_finite.fn (F := Ideal) (m ((c.tc : Thread Cert.SwigluBwdRefIdeal.nD Cert.SwigluBwdRefIdeal.τ).loc Cert.SwigluBwdRefIdeal.main_arg0)) (m ((c.tc : Thread Cert.SwigluBwdRefIdeal.nD Cert.SwigluBwdRefIdeal.τ).loc Cert.SwigluBwdRefIdeal.main_arg1)) (m ((c.tc : Thread Cert.SwigluBwdRefIdeal.nD Cert.SwigluBwdRefIdeal.τ).loc Cert.SwigluBwdRefIdeal.main_arg2))).2.1 = (fun _ => 1#1)
    ∧ (Cert.Pre_swiglu_bwd_finite.fn (F := Ideal) (m ((c.tc : Thread Cert.SwigluBwdRefIdeal.nD Cert.SwigluBwdRefIdeal.τ).loc Cert.SwigluBwdRefIdeal.main_arg0)) (m ((c.tc : Thread Cert.SwigluBwdRefIdeal.nD Cert.SwigluBwdRefIdeal.τ).loc Cert.SwigluBwdRefIdeal.main_arg1)) (m ((c.tc : Thread Cert.SwigluBwdRefIdeal.nD Cert.SwigluBwdRefIdeal.τ).loc Cert.SwigluBwdRefIdeal.main_arg2))).2.2 = (fun _ => 1#1)

def Pre_NormFfnBwd (m : (ℓ : Loc Cert.NormFfnBwd.nD Cert.NormFfnBwd.τ Cert.NormFfnBwd.sig) → Buf (Elt Bits) ℓ) : Prop :=
  True

def Pre_NormFfnBwdIdeal (m : (ℓ : Loc Cert.NormFfnBwdIdeal.nD Cert.NormFfnBwdIdeal.τ Cert.NormFfnBwdIdeal.sig) → Buf (Elt Ideal) ℓ) : Prop :=
  True

def Pre_NormFfnBwdRefIdeal (m : (ℓ : Loc Cert.NormFfnBwdRefIdeal.nD Cert.NormFfnBwdRefIdeal.τ Cert.NormFfnBwdRefIdeal.sig) → Buf (Elt Ideal) ℓ) : Prop :=
  True

def Pre_NormMixBwd (m : (ℓ : Loc Cert.NormMixBwd.nD Cert.NormMixBwd.τ Cert.NormMixBwd.sig) → Buf (Elt Bits) ℓ) : Prop :=
  True

def Pre_NormMixBwdIdeal (m : (ℓ : Loc Cert.NormMixBwdIdeal.nD Cert.NormMixBwdIdeal.τ Cert.NormMixBwdIdeal.sig) → Buf (Elt Ideal) ℓ) : Prop :=
  True

def Pre_NormMixBwdRefIdeal (m : (ℓ : Loc Cert.NormMixBwdRefIdeal.nD Cert.NormMixBwdRefIdeal.τ Cert.NormMixBwdRefIdeal.sig) → Buf (Elt Ideal) ℓ) : Prop :=
  True

def Pre_MixOutBwd (m : (ℓ : Loc Cert.MixOutBwd.nD Cert.MixOutBwd.τ Cert.MixOutBwd.sig) → Buf (Elt Bits) ℓ) : Prop :=
  True

def Pre_MixOutBwdIdeal (m : (ℓ : Loc Cert.MixOutBwdIdeal.nD Cert.MixOutBwdIdeal.τ Cert.MixOutBwdIdeal.sig) → Buf (Elt Ideal) ℓ) : Prop :=
  True

def Pre_MixOutBwdRefIdeal (m : (ℓ : Loc Cert.MixOutBwdRefIdeal.nD Cert.MixOutBwdRefIdeal.τ Cert.MixOutBwdRefIdeal.sig) → Buf (Elt Ideal) ℓ) : Prop :=
  True

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdIdeal_pool_bwd_finite [hPre_pool_bwd_finite : Cert.Pre_pool_bwd_finite.Facts] (m : (ℓ : Loc Cert.PoolBwdIdeal.nD Cert.PoolBwdIdeal.τ Cert.PoolBwdIdeal.sig) → Buf (Elt Ideal) ℓ) : Prop :=
  ∀ c : Dev Cert.PoolBwdIdeal.nD,
    (Cert.Pre_pool_bwd_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3)) (m ((c.tc : Thread Cert.PoolBwdIdeal.nD Cert.PoolBwdIdeal.τ).loc Cert.PoolBwdIdeal.main_arg4))).1 = (fun _ => 1#1)
    ∧ (Cert.Pre_pool_bwd_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3)) (m ((c.tc : Thread Cert.PoolBwdIdeal.nD Cert.PoolBwdIdeal.τ).loc Cert.PoolBwdIdeal.main_arg4))).2.1 = (fun _ => 1#1)
    ∧ (Cert.Pre_pool_bwd_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3)) (m ((c.tc : Thread Cert.PoolBwdIdeal.nD Cert.PoolBwdIdeal.τ).loc Cert.PoolBwdIdeal.main_arg4))).2.2.1 = (fun _ => 1#1)
    ∧ (Cert.Pre_pool_bwd_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3)) (m ((c.tc : Thread Cert.PoolBwdIdeal.nD Cert.PoolBwdIdeal.τ).loc Cert.PoolBwdIdeal.main_arg4))).2.2.2 = (fun _ => 1#1)

def Pre_PoolBwdRefIdeal (m : (ℓ : Loc Cert.PoolBwdRefIdeal.nD Cert.PoolBwdRefIdeal.τ Cert.PoolBwdRefIdeal.sig) → Buf (Elt Ideal) ℓ) : Prop :=
  True

def Pre_PoolBwdRefIdeal_pool_bwd_finite [hPre_pool_bwd_finite : Cert.Pre_pool_bwd_finite.Facts] (m : (ℓ : Loc Cert.PoolBwdRefIdeal.nD Cert.PoolBwdRefIdeal.τ Cert.PoolBwdRefIdeal.sig) → Buf (Elt Ideal) ℓ) : Prop :=
  ∀ c : Dev Cert.PoolBwdRefIdeal.nD,
    (Cert.Pre_pool_bwd_finite.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3)) (m ((c.tc : Thread Cert.PoolBwdRefIdeal.nD Cert.PoolBwdRefIdeal.τ).loc Cert.PoolBwdRefIdeal.main_arg4))).1 = (fun _ => 1#1)
    ∧ (Cert.Pre_pool_bwd_finite.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3)) (m ((c.tc : Thread Cert.PoolBwdRefIdeal.nD Cert.PoolBwdRefIdeal.τ).loc Cert.PoolBwdRefIdeal.main_arg4))).2.1 = (fun _ => 1#1)
    ∧ (Cert.Pre_pool_bwd_finite.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3)) (m ((c.tc : Thread Cert.PoolBwdRefIdeal.nD Cert.PoolBwdRefIdeal.τ).loc Cert.PoolBwdRefIdeal.main_arg4))).2.2.1 = (fun _ => 1#1)
    ∧ (Cert.Pre_pool_bwd_finite.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3)) (m ((c.tc : Thread Cert.PoolBwdRefIdeal.nD Cert.PoolBwdRefIdeal.τ).loc Cert.PoolBwdRefIdeal.main_arg4))).2.2.2 = (fun _ => 1#1)

def Pre_LruBwd (m : (ℓ : Loc Cert.LruBwd.nD Cert.LruBwd.τ Cert.LruBwd.sig) → Buf (Elt Bits) ℓ) : Prop :=
  True

def Pre_LruBwdIdeal (m : (ℓ : Loc Cert.LruBwdIdeal.nD Cert.LruBwdIdeal.τ Cert.LruBwdIdeal.sig) → Buf (Elt Ideal) ℓ) : Prop :=
  True

def Pre_LruBwdIdeal_lru_bwd_finite [hPre_lru_bwd_finite : Cert.Pre_lru_bwd_finite.Facts] (m : (ℓ : Loc Cert.LruBwdIdeal.nD Cert.LruBwdIdeal.τ Cert.LruBwdIdeal.sig) → Buf (Elt Ideal) ℓ) : Prop :=
  ∀ c : Dev Cert.LruBwdIdeal.nD,
    (Cert.Pre_lru_bwd_finite.fn (F := Ideal) (m ((c.tc : Thread Cert.LruBwdIdeal.nD Cert.LruBwdIdeal.τ).loc Cert.LruBwdIdeal.main_arg0)) (m ((c.tc : Thread Cert.LruBwdIdeal.nD Cert.LruBwdIdeal.τ).loc Cert.LruBwdIdeal.main_arg1)) (m ((c.tc : Thread Cert.LruBwdIdeal.nD Cert.LruBwdIdeal.τ).loc Cert.LruBwdIdeal.main_arg2)) (m ((c.tc : Thread Cert.LruBwdIdeal.nD Cert.LruBwdIdeal.τ).loc Cert.LruBwdIdeal.main_arg3)) (m ((c.tc : Thread Cert.LruBwdIdeal.nD Cert.LruBwdIdeal.τ).loc Cert.LruBwdIdeal.main_arg4)) (m ((c.tc : Thread Cert.LruBwdIdeal.nD Cert.LruBwdIdeal.τ).loc Cert.LruBwdIdeal.main_arg5)) (m ((c.tc : Thread Cert.LruBwdIdeal.nD Cert.LruBwdIdeal.τ).loc Cert.LruBwdIdeal.main_arg6)) (m ((c.tc : Thread Cert.LruBwdIdeal.nD Cert.LruBwdIdeal.τ).loc Cert.LruBwdIdeal.main_arg7)) (m ((c.tc : Thread Cert.LruBwdIdeal.nD Cert.LruBwdIdeal.τ).loc Cert.LruBwdIdeal.main_arg8))).1 = (fun _ => 1#1)
    ∧ (Cert.Pre_lru_bwd_finite.fn (F := Ideal) (m ((c.tc : Thread Cert.LruBwdIdeal.nD Cert.LruBwdIdeal.τ).loc Cert.LruBwdIdeal.main_arg0)) (m ((c.tc : Thread Cert.LruBwdIdeal.nD Cert.LruBwdIdeal.τ).loc Cert.LruBwdIdeal.main_arg1)) (m ((c.tc : Thread Cert.LruBwdIdeal.nD Cert.LruBwdIdeal.τ).loc Cert.LruBwdIdeal.main_arg2)) (m ((c.tc : Thread Cert.LruBwdIdeal.nD Cert.LruBwdIdeal.τ).loc Cert.LruBwdIdeal.main_arg3)) (m ((c.tc : Thread Cert.LruBwdIdeal.nD Cert.LruBwdIdeal.τ).loc Cert.LruBwdIdeal.main_arg4)) (m ((c.tc : Thread Cert.LruBwdIdeal.nD Cert.LruBwdIdeal.τ).loc Cert.LruBwdIdeal.main_arg5)) (m ((c.tc : Thread Cert.LruBwdIdeal.nD Cert.LruBwdIdeal.τ).loc Cert.LruBwdIdeal.main_arg6)) (m ((c.tc : Thread Cert.LruBwdIdeal.nD Cert.LruBwdIdeal.τ).loc Cert.LruBwdIdeal.main_arg7)) (m ((c.tc : Thread Cert.LruBwdIdeal.nD Cert.LruBwdIdeal.τ).loc Cert.LruBwdIdeal.main_arg8))).2.1 = (fun _ => 1#1)
    ∧ (Cert.Pre_lru_bwd_finite.fn (F := Ideal) (m ((c.tc : Thread Cert.LruBwdIdeal.nD Cert.LruBwdIdeal.τ).loc Cert.LruBwdIdeal.main_arg0)) (m ((c.tc : Thread Cert.LruBwdIdeal.nD Cert.LruBwdIdeal.τ).loc Cert.LruBwdIdeal.main_arg1)) (m ((c.tc : Thread Cert.LruBwdIdeal.nD Cert.LruBwdIdeal.τ).loc Cert.LruBwdIdeal.main_arg2)) (m ((c.tc : Thread Cert.LruBwdIdeal.nD Cert.LruBwdIdeal.τ).loc Cert.LruBwdIdeal.main_arg3)) (m ((c.tc : Thread Cert.LruBwdIdeal.nD Cert.LruBwdIdeal.τ).loc Cert.LruBwdIdeal.main_arg4)) (m ((c.tc : Thread Cert.LruBwdIdeal.nD Cert.LruBwdIdeal.τ).loc Cert.LruBwdIdeal.main_arg5)) (m ((c.tc : Thread Cert.LruBwdIdeal.nD Cert.LruBwdIdeal.τ).loc Cert.LruBwdIdeal.main_arg6)) (m ((c.tc : Thread Cert.LruBwdIdeal.nD Cert.LruBwdIdeal.τ).loc Cert.LruBwdIdeal.main_arg7)) (m ((c.tc : Thread Cert.LruBwdIdeal.nD Cert.LruBwdIdeal.τ).loc Cert.LruBwdIdeal.main_arg8))).2.2.1 = (fun _ => 1#1)
    ∧ (Cert.Pre_lru_bwd_finite.fn (F := Ideal) (m ((c.tc : Thread Cert.LruBwdIdeal.nD Cert.LruBwdIdeal.τ).loc Cert.LruBwdIdeal.main_arg0)) (m ((c.tc : Thread Cert.LruBwdIdeal.nD Cert.LruBwdIdeal.τ).loc Cert.LruBwdIdeal.main_arg1)) (m ((c.tc : Thread Cert.LruBwdIdeal.nD Cert.LruBwdIdeal.τ).loc Cert.LruBwdIdeal.main_arg2)) (m ((c.tc : Thread Cert.LruBwdIdeal.nD Cert.LruBwdIdeal.τ).loc Cert.LruBwdIdeal.main_arg3)) (m ((c.tc : Thread Cert.LruBwdIdeal.nD Cert.LruBwdIdeal.τ).loc Cert.LruBwdIdeal.main_arg4)) (m ((c.tc : Thread Cert.LruBwdIdeal.nD Cert.LruBwdIdeal.τ).loc Cert.LruBwdIdeal.main_arg5)) (m ((c.tc : Thread Cert.LruBwdIdeal.nD Cert.LruBwdIdeal.τ).loc Cert.LruBwdIdeal.main_arg6)) (m ((c.tc : Thread Cert.LruBwdIdeal.nD Cert.LruBwdIdeal.τ).loc Cert.LruBwdIdeal.main_arg7)) (m ((c.tc : Thread Cert.LruBwdIdeal.nD Cert.LruBwdIdeal.τ).loc Cert.LruBwdIdeal.main_arg8))).2.2.2.1 = (fun _ => 1#1)
    ∧ (Cert.Pre_lru_bwd_finite.fn (F := Ideal) (m ((c.tc : Thread Cert.LruBwdIdeal.nD Cert.LruBwdIdeal.τ).loc Cert.LruBwdIdeal.main_arg0)) (m ((c.tc : Thread Cert.LruBwdIdeal.nD Cert.LruBwdIdeal.τ).loc Cert.LruBwdIdeal.main_arg1)) (m ((c.tc : Thread Cert.LruBwdIdeal.nD Cert.LruBwdIdeal.τ).loc Cert.LruBwdIdeal.main_arg2)) (m ((c.tc : Thread Cert.LruBwdIdeal.nD Cert.LruBwdIdeal.τ).loc Cert.LruBwdIdeal.main_arg3)) (m ((c.tc : Thread Cert.LruBwdIdeal.nD Cert.LruBwdIdeal.τ).loc Cert.LruBwdIdeal.main_arg4)) (m ((c.tc : Thread Cert.LruBwdIdeal.nD Cert.LruBwdIdeal.τ).loc Cert.LruBwdIdeal.main_arg5)) (m ((c.tc : Thread Cert.LruBwdIdeal.nD Cert.LruBwdIdeal.τ).loc Cert.LruBwdIdeal.main_arg6)) (m ((c.tc : Thread Cert.LruBwdIdeal.nD Cert.LruBwdIdeal.τ).loc Cert.LruBwdIdeal.main_arg7)) (m ((c.tc : Thread Cert.LruBwdIdeal.nD Cert.LruBwdIdeal.τ).loc Cert.LruBwdIdeal.main_arg8))).2.2.2.2.1 = (fun _ => 1#1)
    ∧ (Cert.Pre_lru_bwd_finite.fn (F := Ideal) (m ((c.tc : Thread Cert.LruBwdIdeal.nD Cert.LruBwdIdeal.τ).loc Cert.LruBwdIdeal.main_arg0)) (m ((c.tc : Thread Cert.LruBwdIdeal.nD Cert.LruBwdIdeal.τ).loc Cert.LruBwdIdeal.main_arg1)) (m ((c.tc : Thread Cert.LruBwdIdeal.nD Cert.LruBwdIdeal.τ).loc Cert.LruBwdIdeal.main_arg2)) (m ((c.tc : Thread Cert.LruBwdIdeal.nD Cert.LruBwdIdeal.τ).loc Cert.LruBwdIdeal.main_arg3)) (m ((c.tc : Thread Cert.LruBwdIdeal.nD Cert.LruBwdIdeal.τ).loc Cert.LruBwdIdeal.main_arg4)) (m ((c.tc : Thread Cert.LruBwdIdeal.nD Cert.LruBwdIdeal.τ).loc Cert.LruBwdIdeal.main_arg5)) (m ((c.tc : Thread Cert.LruBwdIdeal.nD Cert.LruBwdIdeal.τ).loc Cert.LruBwdIdeal.main_arg6)) (m ((c.tc : Thread Cert.LruBwdIdeal.nD Cert.LruBwdIdeal.τ).loc Cert.LruBwdIdeal.main_arg7)) (m ((c.tc : Thread Cert.LruBwdIdeal.nD Cert.LruBwdIdeal.τ).loc Cert.LruBwdIdeal.main_arg8))).2.2.2.2.2.1 = (fun _ => 1#1)
    ∧ (Cert.Pre_lru_bwd_finite.fn (F := Ideal) (m ((c.tc : Thread Cert.LruBwdIdeal.nD Cert.LruBwdIdeal.τ).loc Cert.LruBwdIdeal.main_arg0)) (m ((c.tc : Thread Cert.LruBwdIdeal.nD Cert.LruBwdIdeal.τ).loc Cert.LruBwdIdeal.main_arg1)) (m ((c.tc : Thread Cert.LruBwdIdeal.nD Cert.LruBwdIdeal.τ).loc Cert.LruBwdIdeal.main_arg2)) (m ((c.tc : Thread Cert.LruBwdIdeal.nD Cert.LruBwdIdeal.τ).loc Cert.LruBwdIdeal.main_arg3)) (m ((c.tc : Thread Cert.LruBwdIdeal.nD Cert.LruBwdIdeal.τ).loc Cert.LruBwdIdeal.main_arg4)) (m ((c.tc : Thread Cert.LruBwdIdeal.nD Cert.LruBwdIdeal.τ).loc Cert.LruBwdIdeal.main_arg5)) (m ((c.tc : Thread Cert.LruBwdIdeal.nD Cert.LruBwdIdeal.τ).loc Cert.LruBwdIdeal.main_arg6)) (m ((c.tc : Thread Cert.LruBwdIdeal.nD Cert.LruBwdIdeal.τ).loc Cert.LruBwdIdeal.main_arg7)) (m ((c.tc : Thread Cert.LruBwdIdeal.nD Cert.LruBwdIdeal.τ).loc Cert.LruBwdIdeal.main_arg8))).2.2.2.2.2.2.1 = (fun _ => 1#1)
    ∧ (Cert.Pre_lru_bwd_finite.fn (F := Ideal) (m ((c.tc : Thread Cert.LruBwdIdeal.nD Cert.LruBwdIdeal.τ).loc Cert.LruBwdIdeal.main_arg0)) (m ((c.tc : Thread Cert.LruBwdIdeal.nD Cert.LruBwdIdeal.τ).loc Cert.LruBwdIdeal.main_arg1)) (m ((c.tc : Thread Cert.LruBwdIdeal.nD Cert.LruBwdIdeal.τ).loc Cert.LruBwdIdeal.main_arg2)) (m ((c.tc : Thread Cert.LruBwdIdeal.nD Cert.LruBwdIdeal.τ).loc Cert.LruBwdIdeal.main_arg3)) (m ((c.tc : Thread Cert.LruBwdIdeal.nD Cert.LruBwdIdeal.τ).loc Cert.LruBwdIdeal.main_arg4)) (m ((c.tc : Thread Cert.LruBwdIdeal.nD Cert.LruBwdIdeal.τ).loc Cert.LruBwdIdeal.main_arg5)) (m ((c.tc : Thread Cert.LruBwdIdeal.nD Cert.LruBwdIdeal.τ).loc Cert.LruBwdIdeal.main_arg6)) (m ((c.tc : Thread Cert.LruBwdIdeal.nD Cert.LruBwdIdeal.τ).loc Cert.LruBwdIdeal.main_arg7)) (m ((c.tc : Thread Cert.LruBwdIdeal.nD Cert.LruBwdIdeal.τ).loc Cert.LruBwdIdeal.main_arg8))).2.2.2.2.2.2.2.1 = (fun _ => 1#1)
    ∧ (Cert.Pre_lru_bwd_finite.fn (F := Ideal) (m ((c.tc : Thread Cert.LruBwdIdeal.nD Cert.LruBwdIdeal.τ).loc Cert.LruBwdIdeal.main_arg0)) (m ((c.tc : Thread Cert.LruBwdIdeal.nD Cert.LruBwdIdeal.τ).loc Cert.LruBwdIdeal.main_arg1)) (m ((c.tc : Thread Cert.LruBwdIdeal.nD Cert.LruBwdIdeal.τ).loc Cert.LruBwdIdeal.main_arg2)) (m ((c.tc : Thread Cert.LruBwdIdeal.nD Cert.LruBwdIdeal.τ).loc Cert.LruBwdIdeal.main_arg3)) (m ((c.tc : Thread Cert.LruBwdIdeal.nD Cert.LruBwdIdeal.τ).loc Cert.LruBwdIdeal.main_arg4)) (m ((c.tc : Thread Cert.LruBwdIdeal.nD Cert.LruBwdIdeal.τ).loc Cert.LruBwdIdeal.main_arg5)) (m ((c.tc : Thread Cert.LruBwdIdeal.nD Cert.LruBwdIdeal.τ).loc Cert.LruBwdIdeal.main_arg6)) (m ((c.tc : Thread Cert.LruBwdIdeal.nD Cert.LruBwdIdeal.τ).loc Cert.LruBwdIdeal.main_arg7)) (m ((c.tc : Thread Cert.LruBwdIdeal.nD Cert.LruBwdIdeal.τ).loc Cert.LruBwdIdeal.main_arg8))).2.2.2.2.2.2.2.2 = (fun _ => 1#1)

def Pre_LruBwdRefIdeal (m : (ℓ : Loc Cert.LruBwdRefIdeal.nD Cert.LruBwdRefIdeal.τ Cert.LruBwdRefIdeal.sig) → Buf (Elt Ideal) ℓ) : Prop :=
  True

def Pre_LruBwdRefIdeal_lru_bwd_finite [hPre_lru_bwd_finite : Cert.Pre_lru_bwd_finite.Facts] (m : (ℓ : Loc Cert.LruBwdRefIdeal.nD Cert.LruBwdRefIdeal.τ Cert.LruBwdRefIdeal.sig) → Buf (Elt Ideal) ℓ) : Prop :=
  ∀ c : Dev Cert.LruBwdRefIdeal.nD,
    (Cert.Pre_lru_bwd_finite.fn (F := Ideal) (m ((c.tc : Thread Cert.LruBwdRefIdeal.nD Cert.LruBwdRefIdeal.τ).loc Cert.LruBwdRefIdeal.main_arg0)) (m ((c.tc : Thread Cert.LruBwdRefIdeal.nD Cert.LruBwdRefIdeal.τ).loc Cert.LruBwdRefIdeal.main_arg1)) (m ((c.tc : Thread Cert.LruBwdRefIdeal.nD Cert.LruBwdRefIdeal.τ).loc Cert.LruBwdRefIdeal.main_arg2)) (m ((c.tc : Thread Cert.LruBwdRefIdeal.nD Cert.LruBwdRefIdeal.τ).loc Cert.LruBwdRefIdeal.main_arg3)) (m ((c.tc : Thread Cert.LruBwdRefIdeal.nD Cert.LruBwdRefIdeal.τ).loc Cert.LruBwdRefIdeal.main_arg4)) (m ((c.tc : Thread Cert.LruBwdRefIdeal.nD Cert.LruBwdRefIdeal.τ).loc Cert.LruBwdRefIdeal.main_arg5)) (m ((c.tc : Thread Cert.LruBwdRefIdeal.nD Cert.LruBwdRefIdeal.τ).loc Cert.LruBwdRefIdeal.main_arg6)) (m ((c.tc : Thread Cert.LruBwdRefIdeal.nD Cert.LruBwdRefIdeal.τ).loc Cert.LruBwdRefIdeal.main_arg7)) (m ((c.tc : Thread Cert.LruBwdRefIdeal.nD Cert.LruBwdRefIdeal.τ).loc Cert.LruBwdRefIdeal.main_arg8))).1 = (fun _ => 1#1)
    ∧ (Cert.Pre_lru_bwd_finite.fn (F := Ideal) (m ((c.tc : Thread Cert.LruBwdRefIdeal.nD Cert.LruBwdRefIdeal.τ).loc Cert.LruBwdRefIdeal.main_arg0)) (m ((c.tc : Thread Cert.LruBwdRefIdeal.nD Cert.LruBwdRefIdeal.τ).loc Cert.LruBwdRefIdeal.main_arg1)) (m ((c.tc : Thread Cert.LruBwdRefIdeal.nD Cert.LruBwdRefIdeal.τ).loc Cert.LruBwdRefIdeal.main_arg2)) (m ((c.tc : Thread Cert.LruBwdRefIdeal.nD Cert.LruBwdRefIdeal.τ).loc Cert.LruBwdRefIdeal.main_arg3)) (m ((c.tc : Thread Cert.LruBwdRefIdeal.nD Cert.LruBwdRefIdeal.τ).loc Cert.LruBwdRefIdeal.main_arg4)) (m ((c.tc : Thread Cert.LruBwdRefIdeal.nD Cert.LruBwdRefIdeal.τ).loc Cert.LruBwdRefIdeal.main_arg5)) (m ((c.tc : Thread Cert.LruBwdRefIdeal.nD Cert.LruBwdRefIdeal.τ).loc Cert.LruBwdRefIdeal.main_arg6)) (m ((c.tc : Thread Cert.LruBwdRefIdeal.nD Cert.LruBwdRefIdeal.τ).loc Cert.LruBwdRefIdeal.main_arg7)) (m ((c.tc : Thread Cert.LruBwdRefIdeal.nD Cert.LruBwdRefIdeal.τ).loc Cert.LruBwdRefIdeal.main_arg8))).2.1 = (fun _ => 1#1)
    ∧ (Cert.Pre_lru_bwd_finite.fn (F := Ideal) (m ((c.tc : Thread Cert.LruBwdRefIdeal.nD Cert.LruBwdRefIdeal.τ).loc Cert.LruBwdRefIdeal.main_arg0)) (m ((c.tc : Thread Cert.LruBwdRefIdeal.nD Cert.LruBwdRefIdeal.τ).loc Cert.LruBwdRefIdeal.main_arg1)) (m ((c.tc : Thread Cert.LruBwdRefIdeal.nD Cert.LruBwdRefIdeal.τ).loc Cert.LruBwdRefIdeal.main_arg2)) (m ((c.tc : Thread Cert.LruBwdRefIdeal.nD Cert.LruBwdRefIdeal.τ).loc Cert.LruBwdRefIdeal.main_arg3)) (m ((c.tc : Thread Cert.LruBwdRefIdeal.nD Cert.LruBwdRefIdeal.τ).loc Cert.LruBwdRefIdeal.main_arg4)) (m ((c.tc : Thread Cert.LruBwdRefIdeal.nD Cert.LruBwdRefIdeal.τ).loc Cert.LruBwdRefIdeal.main_arg5)) (m ((c.tc : Thread Cert.LruBwdRefIdeal.nD Cert.LruBwdRefIdeal.τ).loc Cert.LruBwdRefIdeal.main_arg6)) (m ((c.tc : Thread Cert.LruBwdRefIdeal.nD Cert.LruBwdRefIdeal.τ).loc Cert.LruBwdRefIdeal.main_arg7)) (m ((c.tc : Thread Cert.LruBwdRefIdeal.nD Cert.LruBwdRefIdeal.τ).loc Cert.LruBwdRefIdeal.main_arg8))).2.2.1 = (fun _ => 1#1)
    ∧ (Cert.Pre_lru_bwd_finite.fn (F := Ideal) (m ((c.tc : Thread Cert.LruBwdRefIdeal.nD Cert.LruBwdRefIdeal.τ).loc Cert.LruBwdRefIdeal.main_arg0)) (m ((c.tc : Thread Cert.LruBwdRefIdeal.nD Cert.LruBwdRefIdeal.τ).loc Cert.LruBwdRefIdeal.main_arg1)) (m ((c.tc : Thread Cert.LruBwdRefIdeal.nD Cert.LruBwdRefIdeal.τ).loc Cert.LruBwdRefIdeal.main_arg2)) (m ((c.tc : Thread Cert.LruBwdRefIdeal.nD Cert.LruBwdRefIdeal.τ).loc Cert.LruBwdRefIdeal.main_arg3)) (m ((c.tc : Thread Cert.LruBwdRefIdeal.nD Cert.LruBwdRefIdeal.τ).loc Cert.LruBwdRefIdeal.main_arg4)) (m ((c.tc : Thread Cert.LruBwdRefIdeal.nD Cert.LruBwdRefIdeal.τ).loc Cert.LruBwdRefIdeal.main_arg5)) (m ((c.tc : Thread Cert.LruBwdRefIdeal.nD Cert.LruBwdRefIdeal.τ).loc Cert.LruBwdRefIdeal.main_arg6)) (m ((c.tc : Thread Cert.LruBwdRefIdeal.nD Cert.LruBwdRefIdeal.τ).loc Cert.LruBwdRefIdeal.main_arg7)) (m ((c.tc : Thread Cert.LruBwdRefIdeal.nD Cert.LruBwdRefIdeal.τ).loc Cert.LruBwdRefIdeal.main_arg8))).2.2.2.1 = (fun _ => 1#1)
    ∧ (Cert.Pre_lru_bwd_finite.fn (F := Ideal) (m ((c.tc : Thread Cert.LruBwdRefIdeal.nD Cert.LruBwdRefIdeal.τ).loc Cert.LruBwdRefIdeal.main_arg0)) (m ((c.tc : Thread Cert.LruBwdRefIdeal.nD Cert.LruBwdRefIdeal.τ).loc Cert.LruBwdRefIdeal.main_arg1)) (m ((c.tc : Thread Cert.LruBwdRefIdeal.nD Cert.LruBwdRefIdeal.τ).loc Cert.LruBwdRefIdeal.main_arg2)) (m ((c.tc : Thread Cert.LruBwdRefIdeal.nD Cert.LruBwdRefIdeal.τ).loc Cert.LruBwdRefIdeal.main_arg3)) (m ((c.tc : Thread Cert.LruBwdRefIdeal.nD Cert.LruBwdRefIdeal.τ).loc Cert.LruBwdRefIdeal.main_arg4)) (m ((c.tc : Thread Cert.LruBwdRefIdeal.nD Cert.LruBwdRefIdeal.τ).loc Cert.LruBwdRefIdeal.main_arg5)) (m ((c.tc : Thread Cert.LruBwdRefIdeal.nD Cert.LruBwdRefIdeal.τ).loc Cert.LruBwdRefIdeal.main_arg6)) (m ((c.tc : Thread Cert.LruBwdRefIdeal.nD Cert.LruBwdRefIdeal.τ).loc Cert.LruBwdRefIdeal.main_arg7)) (m ((c.tc : Thread Cert.LruBwdRefIdeal.nD Cert.LruBwdRefIdeal.τ).loc Cert.LruBwdRefIdeal.main_arg8))).2.2.2.2.1 = (fun _ => 1#1)
    ∧ (Cert.Pre_lru_bwd_finite.fn (F := Ideal) (m ((c.tc : Thread Cert.LruBwdRefIdeal.nD Cert.LruBwdRefIdeal.τ).loc Cert.LruBwdRefIdeal.main_arg0)) (m ((c.tc : Thread Cert.LruBwdRefIdeal.nD Cert.LruBwdRefIdeal.τ).loc Cert.LruBwdRefIdeal.main_arg1)) (m ((c.tc : Thread Cert.LruBwdRefIdeal.nD Cert.LruBwdRefIdeal.τ).loc Cert.LruBwdRefIdeal.main_arg2)) (m ((c.tc : Thread Cert.LruBwdRefIdeal.nD Cert.LruBwdRefIdeal.τ).loc Cert.LruBwdRefIdeal.main_arg3)) (m ((c.tc : Thread Cert.LruBwdRefIdeal.nD Cert.LruBwdRefIdeal.τ).loc Cert.LruBwdRefIdeal.main_arg4)) (m ((c.tc : Thread Cert.LruBwdRefIdeal.nD Cert.LruBwdRefIdeal.τ).loc Cert.LruBwdRefIdeal.main_arg5)) (m ((c.tc : Thread Cert.LruBwdRefIdeal.nD Cert.LruBwdRefIdeal.τ).loc Cert.LruBwdRefIdeal.main_arg6)) (m ((c.tc : Thread Cert.LruBwdRefIdeal.nD Cert.LruBwdRefIdeal.τ).loc Cert.LruBwdRefIdeal.main_arg7)) (m ((c.tc : Thread Cert.LruBwdRefIdeal.nD Cert.LruBwdRefIdeal.τ).loc Cert.LruBwdRefIdeal.main_arg8))).2.2.2.2.2.1 = (fun _ => 1#1)
    ∧ (Cert.Pre_lru_bwd_finite.fn (F := Ideal) (m ((c.tc : Thread Cert.LruBwdRefIdeal.nD Cert.LruBwdRefIdeal.τ).loc Cert.LruBwdRefIdeal.main_arg0)) (m ((c.tc : Thread Cert.LruBwdRefIdeal.nD Cert.LruBwdRefIdeal.τ).loc Cert.LruBwdRefIdeal.main_arg1)) (m ((c.tc : Thread Cert.LruBwdRefIdeal.nD Cert.LruBwdRefIdeal.τ).loc Cert.LruBwdRefIdeal.main_arg2)) (m ((c.tc : Thread Cert.LruBwdRefIdeal.nD Cert.LruBwdRefIdeal.τ).loc Cert.LruBwdRefIdeal.main_arg3)) (m ((c.tc : Thread Cert.LruBwdRefIdeal.nD Cert.LruBwdRefIdeal.τ).loc Cert.LruBwdRefIdeal.main_arg4)) (m ((c.tc : Thread Cert.LruBwdRefIdeal.nD Cert.LruBwdRefIdeal.τ).loc Cert.LruBwdRefIdeal.main_arg5)) (m ((c.tc : Thread Cert.LruBwdRefIdeal.nD Cert.LruBwdRefIdeal.τ).loc Cert.LruBwdRefIdeal.main_arg6)) (m ((c.tc : Thread Cert.LruBwdRefIdeal.nD Cert.LruBwdRefIdeal.τ).loc Cert.LruBwdRefIdeal.main_arg7)) (m ((c.tc : Thread Cert.LruBwdRefIdeal.nD Cert.LruBwdRefIdeal.τ).loc Cert.LruBwdRefIdeal.main_arg8))).2.2.2.2.2.2.1 = (fun _ => 1#1)
    ∧ (Cert.Pre_lru_bwd_finite.fn (F := Ideal) (m ((c.tc : Thread Cert.LruBwdRefIdeal.nD Cert.LruBwdRefIdeal.τ).loc Cert.LruBwdRefIdeal.main_arg0)) (m ((c.tc : Thread Cert.LruBwdRefIdeal.nD Cert.LruBwdRefIdeal.τ).loc Cert.LruBwdRefIdeal.main_arg1)) (m ((c.tc : Thread Cert.LruBwdRefIdeal.nD Cert.LruBwdRefIdeal.τ).loc Cert.LruBwdRefIdeal.main_arg2)) (m ((c.tc : Thread Cert.LruBwdRefIdeal.nD Cert.LruBwdRefIdeal.τ).loc Cert.LruBwdRefIdeal.main_arg3)) (m ((c.tc : Thread Cert.LruBwdRefIdeal.nD Cert.LruBwdRefIdeal.τ).loc Cert.LruBwdRefIdeal.main_arg4)) (m ((c.tc : Thread Cert.LruBwdRefIdeal.nD Cert.LruBwdRefIdeal.τ).loc Cert.LruBwdRefIdeal.main_arg5)) (m ((c.tc : Thread Cert.LruBwdRefIdeal.nD Cert.LruBwdRefIdeal.τ).loc Cert.LruBwdRefIdeal.main_arg6)) (m ((c.tc : Thread Cert.LruBwdRefIdeal.nD Cert.LruBwdRefIdeal.τ).loc Cert.LruBwdRefIdeal.main_arg7)) (m ((c.tc : Thread Cert.LruBwdRefIdeal.nD Cert.LruBwdRefIdeal.τ).loc Cert.LruBwdRefIdeal.main_arg8))).2.2.2.2.2.2.2.1 = (fun _ => 1#1)
    ∧ (Cert.Pre_lru_bwd_finite.fn (F := Ideal) (m ((c.tc : Thread Cert.LruBwdRefIdeal.nD Cert.LruBwdRefIdeal.τ).loc Cert.LruBwdRefIdeal.main_arg0)) (m ((c.tc : Thread Cert.LruBwdRefIdeal.nD Cert.LruBwdRefIdeal.τ).loc Cert.LruBwdRefIdeal.main_arg1)) (m ((c.tc : Thread Cert.LruBwdRefIdeal.nD Cert.LruBwdRefIdeal.τ).loc Cert.LruBwdRefIdeal.main_arg2)) (m ((c.tc : Thread Cert.LruBwdRefIdeal.nD Cert.LruBwdRefIdeal.τ).loc Cert.LruBwdRefIdeal.main_arg3)) (m ((c.tc : Thread Cert.LruBwdRefIdeal.nD Cert.LruBwdRefIdeal.τ).loc Cert.LruBwdRefIdeal.main_arg4)) (m ((c.tc : Thread Cert.LruBwdRefIdeal.nD Cert.LruBwdRefIdeal.τ).loc Cert.LruBwdRefIdeal.main_arg5)) (m ((c.tc : Thread Cert.LruBwdRefIdeal.nD Cert.LruBwdRefIdeal.τ).loc Cert.LruBwdRefIdeal.main_arg6)) (m ((c.tc : Thread Cert.LruBwdRefIdeal.nD Cert.LruBwdRefIdeal.τ).loc Cert.LruBwdRefIdeal.main_arg7)) (m ((c.tc : Thread Cert.LruBwdRefIdeal.nD Cert.LruBwdRefIdeal.τ).loc Cert.LruBwdRefIdeal.main_arg8))).2.2.2.2.2.2.2.2 = (fun _ => 1#1)

def Pre_SwigluFwd (m : (ℓ : Loc Cert.SwigluFwd.nD Cert.SwigluFwd.τ Cert.SwigluFwd.sig) → Buf (Elt Bits) ℓ) : Prop :=
  True

def Pre_SwigluFwdIdeal (m : (ℓ : Loc Cert.SwigluFwdIdeal.nD Cert.SwigluFwdIdeal.τ Cert.SwigluFwdIdeal.sig) → Buf (Elt Ideal) ℓ) : Prop :=
  True

def Pre_SwigluFwdRefIdeal (m : (ℓ : Loc Cert.SwigluFwdRefIdeal.nD Cert.SwigluFwdRefIdeal.τ Cert.SwigluFwdRefIdeal.sig) → Buf (Elt Ideal) ℓ) : Prop :=
  True

def Pre_NormFfnFwd (m : (ℓ : Loc Cert.NormFfnFwd.nD Cert.NormFfnFwd.τ Cert.NormFfnFwd.sig) → Buf (Elt Bits) ℓ) : Prop :=
  True

def Pre_NormFfnFwdIdeal (m : (ℓ : Loc Cert.NormFfnFwdIdeal.nD Cert.NormFfnFwdIdeal.τ Cert.NormFfnFwdIdeal.sig) → Buf (Elt Ideal) ℓ) : Prop :=
  True

def Pre_NormFfnFwdRefIdeal (m : (ℓ : Loc Cert.NormFfnFwdRefIdeal.nD Cert.NormFfnFwdRefIdeal.τ Cert.NormFfnFwdRefIdeal.sig) → Buf (Elt Ideal) ℓ) : Prop :=
  True

def Pre_NormMixFwd (m : (ℓ : Loc Cert.NormMixFwd.nD Cert.NormMixFwd.τ Cert.NormMixFwd.sig) → Buf (Elt Bits) ℓ) : Prop :=
  True

def Pre_NormMixFwdIdeal (m : (ℓ : Loc Cert.NormMixFwdIdeal.nD Cert.NormMixFwdIdeal.τ Cert.NormMixFwdIdeal.sig) → Buf (Elt Ideal) ℓ) : Prop :=
  True

def Pre_NormMixFwdRefIdeal (m : (ℓ : Loc Cert.NormMixFwdRefIdeal.nD Cert.NormMixFwdRefIdeal.τ Cert.NormMixFwdRefIdeal.sig) → Buf (Elt Ideal) ℓ) : Prop :=
  True

def Pre_MixOutFwd (m : (ℓ : Loc Cert.MixOutFwd.nD Cert.MixOutFwd.τ Cert.MixOutFwd.sig) → Buf (Elt Bits) ℓ) : Prop :=
  True

def Pre_MixOutFwdIdeal (m : (ℓ : Loc Cert.MixOutFwdIdeal.nD Cert.MixOutFwdIdeal.τ Cert.MixOutFwdIdeal.sig) → Buf (Elt Ideal) ℓ) : Prop :=
  True

def Pre_MixOutFwdRefIdeal (m : (ℓ : Loc Cert.MixOutFwdRefIdeal.nD Cert.MixOutFwdRefIdeal.τ Cert.MixOutFwdRefIdeal.sig) → Buf (Elt Ideal) ℓ) : Prop :=
  True

def Pre_LruFwd (m : (ℓ : Loc Cert.LruFwd.nD Cert.LruFwd.τ Cert.LruFwd.sig) → Buf (Elt Bits) ℓ) : Prop :=
  True

def Pre_LruFwdIdeal (m : (ℓ : Loc Cert.LruFwdIdeal.nD Cert.LruFwdIdeal.τ Cert.LruFwdIdeal.sig) → Buf (Elt Ideal) ℓ) : Prop :=
  True

def Pre_LruFwdRefIdeal (m : (ℓ : Loc Cert.LruFwdRefIdeal.nD Cert.LruFwdRefIdeal.τ Cert.LruFwdRefIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_pool_fwd_finite [hPre_pool_fwd_finite : Cert.Pre_pool_fwd_finite.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_pool_fwd_finite.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2)) (m ((c.tc : Thread Cert.PoolFwdIdeal.nD Cert.PoolFwdIdeal.τ).loc Cert.PoolFwdIdeal.main_arg3))) = (fun _ => 1#1)

def Pre_PoolFwdRefIdeal (m : (ℓ : Loc Cert.PoolFwdRefIdeal.nD Cert.PoolFwdRefIdeal.τ Cert.PoolFwdRefIdeal.sig) → Buf (Elt Ideal) ℓ) : Prop :=
  True

def Pre_PoolFwdRefIdeal_pool_fwd_finite [hPre_pool_fwd_finite : Cert.Pre_pool_fwd_finite.Facts] (m : (ℓ : Loc Cert.PoolFwdRefIdeal.nD Cert.PoolFwdRefIdeal.τ Cert.PoolFwdRefIdeal.sig) → Buf (Elt Ideal) ℓ) : Prop :=
  ∀ c : Dev Cert.PoolFwdRefIdeal.nD,
    (Cert.Pre_pool_fwd_finite.fn (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1)) (m ((c.tc : Thread Cert.PoolFwdRefIdeal.nD Cert.PoolFwdRefIdeal.τ).loc Cert.PoolFwdRefIdeal.main_arg2)) (m ((c.tc : Thread Cert.PoolFwdRefIdeal.nD Cert.PoolFwdRefIdeal.τ).loc Cert.PoolFwdRefIdeal.main_arg3))) = (fun _ => 1#1)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_SwigluBwd [hSwigluBwd : Cert.SwigluBwd.Facts] : Prop :=
  ∀ (m : (ℓ : Loc Cert.SwigluBwd.nD Cert.SwigluBwd.τ Cert.SwigluBwd.sig) → Buf (Elt Bits) ℓ) (g : Dev Cert.SwigluBwd.nD → PrngReg), Pre_SwigluBwd m →
    θ_run (Cert.SwigluBwd.defs (F := Bits)) (onTc (τ := Cert.SwigluBwd.τ) (Cert.SwigluBwd.main (F := Bits))) ⟨m, fun _ => 0, g⟩ (fun r => (∀ c : Dev Cert.SwigluBwd.nD,
      r.2.mem ((c.tc : Thread Cert.SwigluBwd.nD Cert.SwigluBwd.τ).loc Cert.SwigluBwd.main_arg0) = m ((c.tc : Thread Cert.SwigluBwd.nD Cert.SwigluBwd.τ).loc Cert.SwigluBwd.main_arg0)
      ∧ r.2.mem ((c.tc : Thread Cert.SwigluBwd.nD Cert.SwigluBwd.τ).loc Cert.SwigluBwd.main_arg1) = m ((c.tc : Thread Cert.SwigluBwd.nD Cert.SwigluBwd.τ).loc Cert.SwigluBwd.main_arg1)
      ∧ r.2.mem ((c.tc : Thread Cert.SwigluBwd.nD Cert.SwigluBwd.τ).loc Cert.SwigluBwd.main_arg2) = m ((c.tc : Thread Cert.SwigluBwd.nD Cert.SwigluBwd.τ).loc Cert.SwigluBwd.main_arg2))
      ∧ r.2.sem = fun _ => 0)

def quiescent_SwigluBwdIdeal [hSwigluBwdIdeal : Cert.SwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
      ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2))
      ∧ r.2.sem = fun _ => 0)

def quiescent_SwigluBwdIdeal_pre_swiglu_bwd_finite [hSwigluBwdIdeal : Cert.SwigluBwdIdeal.Facts] [hPre_swiglu_bwd_finite : Cert.Pre_swiglu_bwd_finite.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal_swiglu_bwd_finite m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
      ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2))
      ∧ r.2.sem = fun _ => 0)

def quiescent_SwigluBwdRefIdeal [hSwigluBwdRefIdeal : Cert.SwigluBwdRefIdeal.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1)
      ∧ r.2.mem ((c.tc : Thread Cert.SwigluBwdRefIdeal.nD Cert.SwigluBwdRefIdeal.τ).loc Cert.SwigluBwdRefIdeal.main_arg2) = m ((c.tc : Thread Cert.SwigluBwdRefIdeal.nD Cert.SwigluBwdRefIdeal.τ).loc Cert.SwigluBwdRefIdeal.main_arg2))
      ∧ r.2.sem = fun _ => 0)

def quiescent_SwigluBwdRefIdeal_pre_swiglu_bwd_finite [hSwigluBwdRefIdeal : Cert.SwigluBwdRefIdeal.Facts] [hPre_swiglu_bwd_finite : Cert.Pre_swiglu_bwd_finite.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal_swiglu_bwd_finite m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1)
      ∧ r.2.mem ((c.tc : Thread Cert.SwigluBwdRefIdeal.nD Cert.SwigluBwdRefIdeal.τ).loc Cert.SwigluBwdRefIdeal.main_arg2) = m ((c.tc : Thread Cert.SwigluBwdRefIdeal.nD Cert.SwigluBwdRefIdeal.τ).loc Cert.SwigluBwdRefIdeal.main_arg2))
      ∧ r.2.sem = fun _ => 0)

def quiescent_NormFfnBwd [hNormFfnBwd : Cert.NormFfnBwd.Facts] : Prop :=
  ∀ (m : (ℓ : Loc Cert.NormFfnBwd.nD Cert.NormFfnBwd.τ Cert.NormFfnBwd.sig) → Buf (Elt Bits) ℓ) (g : Dev Cert.NormFfnBwd.nD → PrngReg), Pre_NormFfnBwd m →
    θ_run (Cert.NormFfnBwd.defs (F := Bits)) (onTc (τ := Cert.NormFfnBwd.τ) (Cert.NormFfnBwd.main (F := Bits))) ⟨m, fun _ => 0, g⟩ (fun r => (∀ c : Dev Cert.NormFfnBwd.nD,
      r.2.mem ((c.tc : Thread Cert.NormFfnBwd.nD Cert.NormFfnBwd.τ).loc Cert.NormFfnBwd.main_arg0) = m ((c.tc : Thread Cert.NormFfnBwd.nD Cert.NormFfnBwd.τ).loc Cert.NormFfnBwd.main_arg0)
      ∧ r.2.mem ((c.tc : Thread Cert.NormFfnBwd.nD Cert.NormFfnBwd.τ).loc Cert.NormFfnBwd.main_arg1) = m ((c.tc : Thread Cert.NormFfnBwd.nD Cert.NormFfnBwd.τ).loc Cert.NormFfnBwd.main_arg1)
      ∧ r.2.mem ((c.tc : Thread Cert.NormFfnBwd.nD Cert.NormFfnBwd.τ).loc Cert.NormFfnBwd.main_arg2) = m ((c.tc : Thread Cert.NormFfnBwd.nD Cert.NormFfnBwd.τ).loc Cert.NormFfnBwd.main_arg2)
      ∧ r.2.mem ((c.tc : Thread Cert.NormFfnBwd.nD Cert.NormFfnBwd.τ).loc Cert.NormFfnBwd.main_arg3) = m ((c.tc : Thread Cert.NormFfnBwd.nD Cert.NormFfnBwd.τ).loc Cert.NormFfnBwd.main_arg3)
      ∧ r.2.mem ((c.tc : Thread Cert.NormFfnBwd.nD Cert.NormFfnBwd.τ).loc Cert.NormFfnBwd.main_arg4) = m ((c.tc : Thread Cert.NormFfnBwd.nD Cert.NormFfnBwd.τ).loc Cert.NormFfnBwd.main_arg4))
      ∧ r.2.sem = fun _ => 0)

def quiescent_NormFfnBwdIdeal [hNormFfnBwdIdeal : Cert.NormFfnBwdIdeal.Facts] : Prop :=
  ∀ (m : (ℓ : Loc Cert.NormFfnBwdIdeal.nD Cert.NormFfnBwdIdeal.τ Cert.NormFfnBwdIdeal.sig) → Buf (Elt Ideal) ℓ) (g : Dev Cert.NormFfnBwdIdeal.nD → PrngReg), Pre_NormFfnBwdIdeal m →
    θ_run (Cert.NormFfnBwdIdeal.defs (F := Ideal)) (onTc (τ := Cert.NormFfnBwdIdeal.τ) (Cert.NormFfnBwdIdeal.main (F := Ideal))) ⟨m, fun _ => 0, g⟩ (fun r => (∀ c : Dev Cert.NormFfnBwdIdeal.nD,
      r.2.mem ((c.tc : Thread Cert.NormFfnBwdIdeal.nD Cert.NormFfnBwdIdeal.τ).loc Cert.NormFfnBwdIdeal.main_arg0) = m ((c.tc : Thread Cert.NormFfnBwdIdeal.nD Cert.NormFfnBwdIdeal.τ).loc Cert.NormFfnBwdIdeal.main_arg0)
      ∧ r.2.mem ((c.tc : Thread Cert.NormFfnBwdIdeal.nD Cert.NormFfnBwdIdeal.τ).loc Cert.NormFfnBwdIdeal.main_arg1) = m ((c.tc : Thread Cert.NormFfnBwdIdeal.nD Cert.NormFfnBwdIdeal.τ).loc Cert.NormFfnBwdIdeal.main_arg1)
      ∧ r.2.mem ((c.tc : Thread Cert.NormFfnBwdIdeal.nD Cert.NormFfnBwdIdeal.τ).loc Cert.NormFfnBwdIdeal.main_arg2) = m ((c.tc : Thread Cert.NormFfnBwdIdeal.nD Cert.NormFfnBwdIdeal.τ).loc Cert.NormFfnBwdIdeal.main_arg2)
      ∧ r.2.mem ((c.tc : Thread Cert.NormFfnBwdIdeal.nD Cert.NormFfnBwdIdeal.τ).loc Cert.NormFfnBwdIdeal.main_arg3) = m ((c.tc : Thread Cert.NormFfnBwdIdeal.nD Cert.NormFfnBwdIdeal.τ).loc Cert.NormFfnBwdIdeal.main_arg3)
      ∧ r.2.mem ((c.tc : Thread Cert.NormFfnBwdIdeal.nD Cert.NormFfnBwdIdeal.τ).loc Cert.NormFfnBwdIdeal.main_arg4) = m ((c.tc : Thread Cert.NormFfnBwdIdeal.nD Cert.NormFfnBwdIdeal.τ).loc Cert.NormFfnBwdIdeal.main_arg4))
      ∧ r.2.sem = fun _ => 0)

def quiescent_NormFfnBwdRefIdeal [hNormFfnBwdRefIdeal : Cert.NormFfnBwdRefIdeal.Facts] : Prop :=
  ∀ (m : (ℓ : Loc Cert.NormFfnBwdRefIdeal.nD Cert.NormFfnBwdRefIdeal.τ Cert.NormFfnBwdRefIdeal.sig) → Buf (Elt Ideal) ℓ) (g : Dev Cert.NormFfnBwdRefIdeal.nD → PrngReg), Pre_NormFfnBwdRefIdeal m →
    θ_run (Cert.NormFfnBwdRefIdeal.defs (F := Ideal)) (onTc (τ := Cert.NormFfnBwdRefIdeal.τ) (Cert.NormFfnBwdRefIdeal.main (F := Ideal))) ⟨m, fun _ => 0, g⟩ (fun r => (∀ c : Dev Cert.NormFfnBwdRefIdeal.nD,
      r.2.mem ((c.tc : Thread Cert.NormFfnBwdRefIdeal.nD Cert.NormFfnBwdRefIdeal.τ).loc Cert.NormFfnBwdRefIdeal.main_arg0) = m ((c.tc : Thread Cert.NormFfnBwdRefIdeal.nD Cert.NormFfnBwdRefIdeal.τ).loc Cert.NormFfnBwdRefIdeal.main_arg0)
      ∧ r.2.mem ((c.tc : Thread Cert.NormFfnBwdRefIdeal.nD Cert.NormFfnBwdRefIdeal.τ).loc Cert.NormFfnBwdRefIdeal.main_arg1) = m ((c.tc : Thread Cert.NormFfnBwdRefIdeal.nD Cert.NormFfnBwdRefIdeal.τ).loc Cert.NormFfnBwdRefIdeal.main_arg1)
      ∧ r.2.mem ((c.tc : Thread Cert.NormFfnBwdRefIdeal.nD Cert.NormFfnBwdRefIdeal.τ).loc Cert.NormFfnBwdRefIdeal.main_arg2) = m ((c.tc : Thread Cert.NormFfnBwdRefIdeal.nD Cert.NormFfnBwdRefIdeal.τ).loc Cert.NormFfnBwdRefIdeal.main_arg2)
      ∧ r.2.mem ((c.tc : Thread Cert.NormFfnBwdRefIdeal.nD Cert.NormFfnBwdRefIdeal.τ).loc Cert.NormFfnBwdRefIdeal.main_arg3) = m ((c.tc : Thread Cert.NormFfnBwdRefIdeal.nD Cert.NormFfnBwdRefIdeal.τ).loc Cert.NormFfnBwdRefIdeal.main_arg3)
      ∧ r.2.mem ((c.tc : Thread Cert.NormFfnBwdRefIdeal.nD Cert.NormFfnBwdRefIdeal.τ).loc Cert.NormFfnBwdRefIdeal.main_arg4) = m ((c.tc : Thread Cert.NormFfnBwdRefIdeal.nD Cert.NormFfnBwdRefIdeal.τ).loc Cert.NormFfnBwdRefIdeal.main_arg4))
      ∧ r.2.sem = fun _ => 0)

def quiescent_NormMixBwd [hNormMixBwd : Cert.NormMixBwd.Facts] : Prop :=
  ∀ (m : (ℓ : Loc Cert.NormMixBwd.nD Cert.NormMixBwd.τ Cert.NormMixBwd.sig) → Buf (Elt Bits) ℓ) (g : Dev Cert.NormMixBwd.nD → PrngReg), Pre_NormMixBwd m →
    θ_run (Cert.NormMixBwd.defs (F := Bits)) (onTc (τ := Cert.NormMixBwd.τ) (Cert.NormMixBwd.main (F := Bits))) ⟨m, fun _ => 0, g⟩ (fun r => (∀ c : Dev Cert.NormMixBwd.nD,
      r.2.mem ((c.tc : Thread Cert.NormMixBwd.nD Cert.NormMixBwd.τ).loc Cert.NormMixBwd.main_arg0) = m ((c.tc : Thread Cert.NormMixBwd.nD Cert.NormMixBwd.τ).loc Cert.NormMixBwd.main_arg0)
      ∧ r.2.mem ((c.tc : Thread Cert.NormMixBwd.nD Cert.NormMixBwd.τ).loc Cert.NormMixBwd.main_arg1) = m ((c.tc : Thread Cert.NormMixBwd.nD Cert.NormMixBwd.τ).loc Cert.NormMixBwd.main_arg1)
      ∧ r.2.mem ((c.tc : Thread Cert.NormMixBwd.nD Cert.NormMixBwd.τ).loc Cert.NormMixBwd.main_arg2) = m ((c.tc : Thread Cert.NormMixBwd.nD Cert.NormMixBwd.τ).loc Cert.NormMixBwd.main_arg2)
      ∧ r.2.mem ((c.tc : Thread Cert.NormMixBwd.nD Cert.NormMixBwd.τ).loc Cert.NormMixBwd.main_arg3) = m ((c.tc : Thread Cert.NormMixBwd.nD Cert.NormMixBwd.τ).loc Cert.NormMixBwd.main_arg3)
      ∧ r.2.mem ((c.tc : Thread Cert.NormMixBwd.nD Cert.NormMixBwd.τ).loc Cert.NormMixBwd.main_arg4) = m ((c.tc : Thread Cert.NormMixBwd.nD Cert.NormMixBwd.τ).loc Cert.NormMixBwd.main_arg4))
      ∧ r.2.sem = fun _ => 0)

def quiescent_NormMixBwdIdeal [hNormMixBwdIdeal : Cert.NormMixBwdIdeal.Facts] : Prop :=
  ∀ (m : (ℓ : Loc Cert.NormMixBwdIdeal.nD Cert.NormMixBwdIdeal.τ Cert.NormMixBwdIdeal.sig) → Buf (Elt Ideal) ℓ) (g : Dev Cert.NormMixBwdIdeal.nD → PrngReg), Pre_NormMixBwdIdeal m →
    θ_run (Cert.NormMixBwdIdeal.defs (F := Ideal)) (onTc (τ := Cert.NormMixBwdIdeal.τ) (Cert.NormMixBwdIdeal.main (F := Ideal))) ⟨m, fun _ => 0, g⟩ (fun r => (∀ c : Dev Cert.NormMixBwdIdeal.nD,
      r.2.mem ((c.tc : Thread Cert.NormMixBwdIdeal.nD Cert.NormMixBwdIdeal.τ).loc Cert.NormMixBwdIdeal.main_arg0) = m ((c.tc : Thread Cert.NormMixBwdIdeal.nD Cert.NormMixBwdIdeal.τ).loc Cert.NormMixBwdIdeal.main_arg0)
      ∧ r.2.mem ((c.tc : Thread Cert.NormMixBwdIdeal.nD Cert.NormMixBwdIdeal.τ).loc Cert.NormMixBwdIdeal.main_arg1) = m ((c.tc : Thread Cert.NormMixBwdIdeal.nD Cert.NormMixBwdIdeal.τ).loc Cert.NormMixBwdIdeal.main_arg1)
      ∧ r.2.mem ((c.tc : Thread Cert.NormMixBwdIdeal.nD Cert.NormMixBwdIdeal.τ).loc Cert.NormMixBwdIdeal.main_arg2) = m ((c.tc : Thread Cert.NormMixBwdIdeal.nD Cert.NormMixBwdIdeal.τ).loc Cert.NormMixBwdIdeal.main_arg2)
      ∧ r.2.mem ((c.tc : Thread Cert.NormMixBwdIdeal.nD Cert.NormMixBwdIdeal.τ).loc Cert.NormMixBwdIdeal.main_arg3) = m ((c.tc : Thread Cert.NormMixBwdIdeal.nD Cert.NormMixBwdIdeal.τ).loc Cert.NormMixBwdIdeal.main_arg3)
      ∧ r.2.mem ((c.tc : Thread Cert.NormMixBwdIdeal.nD Cert.NormMixBwdIdeal.τ).loc Cert.NormMixBwdIdeal.main_arg4) = m ((c.tc : Thread Cert.NormMixBwdIdeal.nD Cert.NormMixBwdIdeal.τ).loc Cert.NormMixBwdIdeal.main_arg4))
      ∧ r.2.sem = fun _ => 0)

def quiescent_NormMixBwdRefIdeal [hNormMixBwdRefIdeal : Cert.NormMixBwdRefIdeal.Facts] : Prop :=
  ∀ (m : (ℓ : Loc Cert.NormMixBwdRefIdeal.nD Cert.NormMixBwdRefIdeal.τ Cert.NormMixBwdRefIdeal.sig) → Buf (Elt Ideal) ℓ) (g : Dev Cert.NormMixBwdRefIdeal.nD → PrngReg), Pre_NormMixBwdRefIdeal m →
    θ_run (Cert.NormMixBwdRefIdeal.defs (F := Ideal)) (onTc (τ := Cert.NormMixBwdRefIdeal.τ) (Cert.NormMixBwdRefIdeal.main (F := Ideal))) ⟨m, fun _ => 0, g⟩ (fun r => (∀ c : Dev Cert.NormMixBwdRefIdeal.nD,
      r.2.mem ((c.tc : Thread Cert.NormMixBwdRefIdeal.nD Cert.NormMixBwdRefIdeal.τ).loc Cert.NormMixBwdRefIdeal.main_arg0) = m ((c.tc : Thread Cert.NormMixBwdRefIdeal.nD Cert.NormMixBwdRefIdeal.τ).loc Cert.NormMixBwdRefIdeal.main_arg0)
      ∧ r.2.mem ((c.tc : Thread Cert.NormMixBwdRefIdeal.nD Cert.NormMixBwdRefIdeal.τ).loc Cert.NormMixBwdRefIdeal.main_arg1) = m ((c.tc : Thread Cert.NormMixBwdRefIdeal.nD Cert.NormMixBwdRefIdeal.τ).loc Cert.NormMixBwdRefIdeal.main_arg1)
      ∧ r.2.mem ((c.tc : Thread Cert.NormMixBwdRefIdeal.nD Cert.NormMixBwdRefIdeal.τ).loc Cert.NormMixBwdRefIdeal.main_arg2) = m ((c.tc : Thread Cert.NormMixBwdRefIdeal.nD Cert.NormMixBwdRefIdeal.τ).loc Cert.NormMixBwdRefIdeal.main_arg2)
      ∧ r.2.mem ((c.tc : Thread Cert.NormMixBwdRefIdeal.nD Cert.NormMixBwdRefIdeal.τ).loc Cert.NormMixBwdRefIdeal.main_arg3) = m ((c.tc : Thread Cert.NormMixBwdRefIdeal.nD Cert.NormMixBwdRefIdeal.τ).loc Cert.NormMixBwdRefIdeal.main_arg3)
      ∧ r.2.mem ((c.tc : Thread Cert.NormMixBwdRefIdeal.nD Cert.NormMixBwdRefIdeal.τ).loc Cert.NormMixBwdRefIdeal.main_arg4) = m ((c.tc : Thread Cert.NormMixBwdRefIdeal.nD Cert.NormMixBwdRefIdeal.τ).loc Cert.NormMixBwdRefIdeal.main_arg4))
      ∧ r.2.sem = fun _ => 0)

def quiescent_MixOutBwd [hMixOutBwd : Cert.MixOutBwd.Facts] : Prop :=
  ∀ (m : (ℓ : Loc Cert.MixOutBwd.nD Cert.MixOutBwd.τ Cert.MixOutBwd.sig) → Buf (Elt Bits) ℓ) (g : Dev Cert.MixOutBwd.nD → PrngReg), Pre_MixOutBwd m →
    θ_run (Cert.MixOutBwd.defs (F := Bits)) (onTc (τ := Cert.MixOutBwd.τ) (Cert.MixOutBwd.main (F := Bits))) ⟨m, fun _ => 0, g⟩ (fun r => (∀ c : Dev Cert.MixOutBwd.nD,
      r.2.mem ((c.tc : Thread Cert.MixOutBwd.nD Cert.MixOutBwd.τ).loc Cert.MixOutBwd.main_arg0) = m ((c.tc : Thread Cert.MixOutBwd.nD Cert.MixOutBwd.τ).loc Cert.MixOutBwd.main_arg0)
      ∧ r.2.mem ((c.tc : Thread Cert.MixOutBwd.nD Cert.MixOutBwd.τ).loc Cert.MixOutBwd.main_arg1) = m ((c.tc : Thread Cert.MixOutBwd.nD Cert.MixOutBwd.τ).loc Cert.MixOutBwd.main_arg1)
      ∧ r.2.mem ((c.tc : Thread Cert.MixOutBwd.nD Cert.MixOutBwd.τ).loc Cert.MixOutBwd.main_arg2) = m ((c.tc : Thread Cert.MixOutBwd.nD Cert.MixOutBwd.τ).loc Cert.MixOutBwd.main_arg2)
      ∧ r.2.mem ((c.tc : Thread Cert.MixOutBwd.nD Cert.MixOutBwd.τ).loc Cert.MixOutBwd.main_arg3) = m ((c.tc : Thread Cert.MixOutBwd.nD Cert.MixOutBwd.τ).loc Cert.MixOutBwd.main_arg3)
      ∧ r.2.mem ((c.tc : Thread Cert.MixOutBwd.nD Cert.MixOutBwd.τ).loc Cert.MixOutBwd.main_arg4) = m ((c.tc : Thread Cert.MixOutBwd.nD Cert.MixOutBwd.τ).loc Cert.MixOutBwd.main_arg4)
      ∧ r.2.mem ((c.tc : Thread Cert.MixOutBwd.nD Cert.MixOutBwd.τ).loc Cert.MixOutBwd.main_arg5) = m ((c.tc : Thread Cert.MixOutBwd.nD Cert.MixOutBwd.τ).loc Cert.MixOutBwd.main_arg5)
      ∧ r.2.mem ((c.tc : Thread Cert.MixOutBwd.nD Cert.MixOutBwd.τ).loc Cert.MixOutBwd.main_arg6) = m ((c.tc : Thread Cert.MixOutBwd.nD Cert.MixOutBwd.τ).loc Cert.MixOutBwd.main_arg6))
      ∧ r.2.sem = fun _ => 0)

def quiescent_MixOutBwdIdeal [hMixOutBwdIdeal : Cert.MixOutBwdIdeal.Facts] : Prop :=
  ∀ (m : (ℓ : Loc Cert.MixOutBwdIdeal.nD Cert.MixOutBwdIdeal.τ Cert.MixOutBwdIdeal.sig) → Buf (Elt Ideal) ℓ) (g : Dev Cert.MixOutBwdIdeal.nD → PrngReg), Pre_MixOutBwdIdeal m →
    θ_run (Cert.MixOutBwdIdeal.defs (F := Ideal)) (onTc (τ := Cert.MixOutBwdIdeal.τ) (Cert.MixOutBwdIdeal.main (F := Ideal))) ⟨m, fun _ => 0, g⟩ (fun r => (∀ c : Dev Cert.MixOutBwdIdeal.nD,
      r.2.mem ((c.tc : Thread Cert.MixOutBwdIdeal.nD Cert.MixOutBwdIdeal.τ).loc Cert.MixOutBwdIdeal.main_arg0) = m ((c.tc : Thread Cert.MixOutBwdIdeal.nD Cert.MixOutBwdIdeal.τ).loc Cert.MixOutBwdIdeal.main_arg0)
      ∧ r.2.mem ((c.tc : Thread Cert.MixOutBwdIdeal.nD Cert.MixOutBwdIdeal.τ).loc Cert.MixOutBwdIdeal.main_arg1) = m ((c.tc : Thread Cert.MixOutBwdIdeal.nD Cert.MixOutBwdIdeal.τ).loc Cert.MixOutBwdIdeal.main_arg1)
      ∧ r.2.mem ((c.tc : Thread Cert.MixOutBwdIdeal.nD Cert.MixOutBwdIdeal.τ).loc Cert.MixOutBwdIdeal.main_arg2) = m ((c.tc : Thread Cert.MixOutBwdIdeal.nD Cert.MixOutBwdIdeal.τ).loc Cert.MixOutBwdIdeal.main_arg2)
      ∧ r.2.mem ((c.tc : Thread Cert.MixOutBwdIdeal.nD Cert.MixOutBwdIdeal.τ).loc Cert.MixOutBwdIdeal.main_arg3) = m ((c.tc : Thread Cert.MixOutBwdIdeal.nD Cert.MixOutBwdIdeal.τ).loc Cert.MixOutBwdIdeal.main_arg3)
      ∧ r.2.mem ((c.tc : Thread Cert.MixOutBwdIdeal.nD Cert.MixOutBwdIdeal.τ).loc Cert.MixOutBwdIdeal.main_arg4) = m ((c.tc : Thread Cert.MixOutBwdIdeal.nD Cert.MixOutBwdIdeal.τ).loc Cert.MixOutBwdIdeal.main_arg4)
      ∧ r.2.mem ((c.tc : Thread Cert.MixOutBwdIdeal.nD Cert.MixOutBwdIdeal.τ).loc Cert.MixOutBwdIdeal.main_arg5) = m ((c.tc : Thread Cert.MixOutBwdIdeal.nD Cert.MixOutBwdIdeal.τ).loc Cert.MixOutBwdIdeal.main_arg5)
      ∧ r.2.mem ((c.tc : Thread Cert.MixOutBwdIdeal.nD Cert.MixOutBwdIdeal.τ).loc Cert.MixOutBwdIdeal.main_arg6) = m ((c.tc : Thread Cert.MixOutBwdIdeal.nD Cert.MixOutBwdIdeal.τ).loc Cert.MixOutBwdIdeal.main_arg6))
      ∧ r.2.sem = fun _ => 0)

def quiescent_MixOutBwdRefIdeal [hMixOutBwdRefIdeal : Cert.MixOutBwdRefIdeal.Facts] : Prop :=
  ∀ (m : (ℓ : Loc Cert.MixOutBwdRefIdeal.nD Cert.MixOutBwdRefIdeal.τ Cert.MixOutBwdRefIdeal.sig) → Buf (Elt Ideal) ℓ) (g : Dev Cert.MixOutBwdRefIdeal.nD → PrngReg), Pre_MixOutBwdRefIdeal m →
    θ_run (Cert.MixOutBwdRefIdeal.defs (F := Ideal)) (onTc (τ := Cert.MixOutBwdRefIdeal.τ) (Cert.MixOutBwdRefIdeal.main (F := Ideal))) ⟨m, fun _ => 0, g⟩ (fun r => (∀ c : Dev Cert.MixOutBwdRefIdeal.nD,
      r.2.mem ((c.tc : Thread Cert.MixOutBwdRefIdeal.nD Cert.MixOutBwdRefIdeal.τ).loc Cert.MixOutBwdRefIdeal.main_arg0) = m ((c.tc : Thread Cert.MixOutBwdRefIdeal.nD Cert.MixOutBwdRefIdeal.τ).loc Cert.MixOutBwdRefIdeal.main_arg0)
      ∧ r.2.mem ((c.tc : Thread Cert.MixOutBwdRefIdeal.nD Cert.MixOutBwdRefIdeal.τ).loc Cert.MixOutBwdRefIdeal.main_arg1) = m ((c.tc : Thread Cert.MixOutBwdRefIdeal.nD Cert.MixOutBwdRefIdeal.τ).loc Cert.MixOutBwdRefIdeal.main_arg1)
      ∧ r.2.mem ((c.tc : Thread Cert.MixOutBwdRefIdeal.nD Cert.MixOutBwdRefIdeal.τ).loc Cert.MixOutBwdRefIdeal.main_arg2) = m ((c.tc : Thread Cert.MixOutBwdRefIdeal.nD Cert.MixOutBwdRefIdeal.τ).loc Cert.MixOutBwdRefIdeal.main_arg2)
      ∧ r.2.mem ((c.tc : Thread Cert.MixOutBwdRefIdeal.nD Cert.MixOutBwdRefIdeal.τ).loc Cert.MixOutBwdRefIdeal.main_arg3) = m ((c.tc : Thread Cert.MixOutBwdRefIdeal.nD Cert.MixOutBwdRefIdeal.τ).loc Cert.MixOutBwdRefIdeal.main_arg3)
      ∧ r.2.mem ((c.tc : Thread Cert.MixOutBwdRefIdeal.nD Cert.MixOutBwdRefIdeal.τ).loc Cert.MixOutBwdRefIdeal.main_arg4) = m ((c.tc : Thread Cert.MixOutBwdRefIdeal.nD Cert.MixOutBwdRefIdeal.τ).loc Cert.MixOutBwdRefIdeal.main_arg4)
      ∧ r.2.mem ((c.tc : Thread Cert.MixOutBwdRefIdeal.nD Cert.MixOutBwdRefIdeal.τ).loc Cert.MixOutBwdRefIdeal.main_arg5) = m ((c.tc : Thread Cert.MixOutBwdRefIdeal.nD Cert.MixOutBwdRefIdeal.τ).loc Cert.MixOutBwdRefIdeal.main_arg5)
      ∧ r.2.mem ((c.tc : Thread Cert.MixOutBwdRefIdeal.nD Cert.MixOutBwdRefIdeal.τ).loc Cert.MixOutBwdRefIdeal.main_arg6) = m ((c.tc : Thread Cert.MixOutBwdRefIdeal.nD Cert.MixOutBwdRefIdeal.τ).loc Cert.MixOutBwdRefIdeal.main_arg6))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3)
      ∧ r.2.mem ((c.tc : Thread Cert.PoolBwd.nD Cert.PoolBwd.τ).loc Cert.PoolBwd.main_arg4) = m ((c.tc : Thread Cert.PoolBwd.nD Cert.PoolBwd.τ).loc Cert.PoolBwd.main_arg4))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
      ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4))
      ∧ r.2.sem = fun _ => 0)

def quiescent_PoolBwdIdeal_pre_pool_bwd_finite [hPoolBwdIdeal : Cert.PoolBwdIdeal.Facts] [hPre_pool_bwd_finite : Cert.Pre_pool_bwd_finite.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal_pool_bwd_finite m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
      ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4))
      ∧ r.2.sem = fun _ => 0)

def quiescent_PoolBwdRefIdeal [hPoolBwdRefIdeal : Cert.PoolBwdRefIdeal.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3)
      ∧ r.2.mem ((c.tc : Thread Cert.PoolBwdRefIdeal.nD Cert.PoolBwdRefIdeal.τ).loc Cert.PoolBwdRefIdeal.main_arg4) = m ((c.tc : Thread Cert.PoolBwdRefIdeal.nD Cert.PoolBwdRefIdeal.τ).loc Cert.PoolBwdRefIdeal.main_arg4))
      ∧ r.2.sem = fun _ => 0)

def quiescent_PoolBwdRefIdeal_pre_pool_bwd_finite [hPoolBwdRefIdeal : Cert.PoolBwdRefIdeal.Facts] [hPre_pool_bwd_finite : Cert.Pre_pool_bwd_finite.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal_pool_bwd_finite m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3)
      ∧ r.2.mem ((c.tc : Thread Cert.PoolBwdRefIdeal.nD Cert.PoolBwdRefIdeal.τ).loc Cert.PoolBwdRefIdeal.main_arg4) = m ((c.tc : Thread Cert.PoolBwdRefIdeal.nD Cert.PoolBwdRefIdeal.τ).loc Cert.PoolBwdRefIdeal.main_arg4))
      ∧ r.2.sem = fun _ => 0)

def quiescent_LruBwd [hLruBwd : Cert.LruBwd.Facts] : Prop :=
  ∀ (m : (ℓ : Loc Cert.LruBwd.nD Cert.LruBwd.τ Cert.LruBwd.sig) → Buf (Elt Bits) ℓ) (g : Dev Cert.LruBwd.nD → PrngReg), Pre_LruBwd m →
    θ_run (Cert.LruBwd.defs (F := Bits)) (onTc (τ := Cert.LruBwd.τ) (Cert.LruBwd.main (F := Bits))) ⟨m, fun _ => 0, g⟩ (fun r => (∀ c : Dev Cert.LruBwd.nD,
      r.2.mem ((c.tc : Thread Cert.LruBwd.nD Cert.LruBwd.τ).loc Cert.LruBwd.main_arg0) = m ((c.tc : Thread Cert.LruBwd.nD Cert.LruBwd.τ).loc Cert.LruBwd.main_arg0)
      ∧ r.2.mem ((c.tc : Thread Cert.LruBwd.nD Cert.LruBwd.τ).loc Cert.LruBwd.main_arg1) = m ((c.tc : Thread Cert.LruBwd.nD Cert.LruBwd.τ).loc Cert.LruBwd.main_arg1)
      ∧ r.2.mem ((c.tc : Thread Cert.LruBwd.nD Cert.LruBwd.τ).loc Cert.LruBwd.main_arg2) = m ((c.tc : Thread Cert.LruBwd.nD Cert.LruBwd.τ).loc Cert.LruBwd.main_arg2)
      ∧ r.2.mem ((c.tc : Thread Cert.LruBwd.nD Cert.LruBwd.τ).loc Cert.LruBwd.main_arg3) = m ((c.tc : Thread Cert.LruBwd.nD Cert.LruBwd.τ).loc Cert.LruBwd.main_arg3)
      ∧ r.2.mem ((c.tc : Thread Cert.LruBwd.nD Cert.LruBwd.τ).loc Cert.LruBwd.main_arg4) = m ((c.tc : Thread Cert.LruBwd.nD Cert.LruBwd.τ).loc Cert.LruBwd.main_arg4)
      ∧ r.2.mem ((c.tc : Thread Cert.LruBwd.nD Cert.LruBwd.τ).loc Cert.LruBwd.main_arg5) = m ((c.tc : Thread Cert.LruBwd.nD Cert.LruBwd.τ).loc Cert.LruBwd.main_arg5)
      ∧ r.2.mem ((c.tc : Thread Cert.LruBwd.nD Cert.LruBwd.τ).loc Cert.LruBwd.main_arg6) = m ((c.tc : Thread Cert.LruBwd.nD Cert.LruBwd.τ).loc Cert.LruBwd.main_arg6)
      ∧ r.2.mem ((c.tc : Thread Cert.LruBwd.nD Cert.LruBwd.τ).loc Cert.LruBwd.main_arg7) = m ((c.tc : Thread Cert.LruBwd.nD Cert.LruBwd.τ).loc Cert.LruBwd.main_arg7)
      ∧ r.2.mem ((c.tc : Thread Cert.LruBwd.nD Cert.LruBwd.τ).loc Cert.LruBwd.main_arg8) = m ((c.tc : Thread Cert.LruBwd.nD Cert.LruBwd.τ).loc Cert.LruBwd.main_arg8))
      ∧ r.2.sem = fun _ => 0)

def quiescent_LruBwdIdeal [hLruBwdIdeal : Cert.LruBwdIdeal.Facts] : Prop :=
  ∀ (m : (ℓ : Loc Cert.LruBwdIdeal.nD Cert.LruBwdIdeal.τ Cert.LruBwdIdeal.sig) → Buf (Elt Ideal) ℓ) (g : Dev Cert.LruBwdIdeal.nD → PrngReg), Pre_LruBwdIdeal m →
    θ_run (Cert.LruBwdIdeal.defs (F := Ideal)) (onTc (τ := Cert.LruBwdIdeal.τ) (Cert.LruBwdIdeal.main (F := Ideal))) ⟨m, fun _ => 0, g⟩ (fun r => (∀ c : Dev Cert.LruBwdIdeal.nD,
      r.2.mem ((c.tc : Thread Cert.LruBwdIdeal.nD Cert.LruBwdIdeal.τ).loc Cert.LruBwdIdeal.main_arg0) = m ((c.tc : Thread Cert.LruBwdIdeal.nD Cert.LruBwdIdeal.τ).loc Cert.LruBwdIdeal.main_arg0)
      ∧ r.2.mem ((c.tc : Thread Cert.LruBwdIdeal.nD Cert.LruBwdIdeal.τ).loc Cert.LruBwdIdeal.main_arg1) = m ((c.tc : Thread Cert.LruBwdIdeal.nD Cert.LruBwdIdeal.τ).loc Cert.LruBwdIdeal.main_arg1)
      ∧ r.2.mem ((c.tc : Thread Cert.LruBwdIdeal.nD Cert.LruBwdIdeal.τ).loc Cert.LruBwdIdeal.main_arg2) = m ((c.tc : Thread Cert.LruBwdIdeal.nD Cert.LruBwdIdeal.τ).loc Cert.LruBwdIdeal.main_arg2)
      ∧ r.2.mem ((c.tc : Thread Cert.LruBwdIdeal.nD Cert.LruBwdIdeal.τ).loc Cert.LruBwdIdeal.main_arg3) = m ((c.tc : Thread Cert.LruBwdIdeal.nD Cert.LruBwdIdeal.τ).loc Cert.LruBwdIdeal.main_arg3)
      ∧ r.2.mem ((c.tc : Thread Cert.LruBwdIdeal.nD Cert.LruBwdIdeal.τ).loc Cert.LruBwdIdeal.main_arg4) = m ((c.tc : Thread Cert.LruBwdIdeal.nD Cert.LruBwdIdeal.τ).loc Cert.LruBwdIdeal.main_arg4)
      ∧ r.2.mem ((c.tc : Thread Cert.LruBwdIdeal.nD Cert.LruBwdIdeal.τ).loc Cert.LruBwdIdeal.main_arg5) = m ((c.tc : Thread Cert.LruBwdIdeal.nD Cert.LruBwdIdeal.τ).loc Cert.LruBwdIdeal.main_arg5)
      ∧ r.2.mem ((c.tc : Thread Cert.LruBwdIdeal.nD Cert.LruBwdIdeal.τ).loc Cert.LruBwdIdeal.main_arg6) = m ((c.tc : Thread Cert.LruBwdIdeal.nD Cert.LruBwdIdeal.τ).loc Cert.LruBwdIdeal.main_arg6)
      ∧ r.2.mem ((c.tc : Thread Cert.LruBwdIdeal.nD Cert.LruBwdIdeal.τ).loc Cert.LruBwdIdeal.main_arg7) = m ((c.tc : Thread Cert.LruBwdIdeal.nD Cert.LruBwdIdeal.τ).loc Cert.LruBwdIdeal.main_arg7)
      ∧ r.2.mem ((c.tc : Thread Cert.LruBwdIdeal.nD Cert.LruBwdIdeal.τ).loc Cert.LruBwdIdeal.main_arg8) = m ((c.tc : Thread Cert.LruBwdIdeal.nD Cert.LruBwdIdeal.τ).loc Cert.LruBwdIdeal.main_arg8))
      ∧ r.2.sem = fun _ => 0)

def quiescent_LruBwdIdeal_pre_lru_bwd_finite [hLruBwdIdeal : Cert.LruBwdIdeal.Facts] [hPre_lru_bwd_finite : Cert.Pre_lru_bwd_finite.Facts] : Prop :=
  ∀ (m : (ℓ : Loc Cert.LruBwdIdeal.nD Cert.LruBwdIdeal.τ Cert.LruBwdIdeal.sig) → Buf (Elt Ideal) ℓ) (g : Dev Cert.LruBwdIdeal.nD → PrngReg), Pre_LruBwdIdeal_lru_bwd_finite m →
    θ_run (Cert.LruBwdIdeal.defs (F := Ideal)) (onTc (τ := Cert.LruBwdIdeal.τ) (Cert.LruBwdIdeal.main (F := Ideal))) ⟨m, fun _ => 0, g⟩ (fun r => (∀ c : Dev Cert.LruBwdIdeal.nD,
      r.2.mem ((c.tc : Thread Cert.LruBwdIdeal.nD Cert.LruBwdIdeal.τ).loc Cert.LruBwdIdeal.main_arg0) = m ((c.tc : Thread Cert.LruBwdIdeal.nD Cert.LruBwdIdeal.τ).loc Cert.LruBwdIdeal.main_arg0)
      ∧ r.2.mem ((c.tc : Thread Cert.LruBwdIdeal.nD Cert.LruBwdIdeal.τ).loc Cert.LruBwdIdeal.main_arg1) = m ((c.tc : Thread Cert.LruBwdIdeal.nD Cert.LruBwdIdeal.τ).loc Cert.LruBwdIdeal.main_arg1)
      ∧ r.2.mem ((c.tc : Thread Cert.LruBwdIdeal.nD Cert.LruBwdIdeal.τ).loc Cert.LruBwdIdeal.main_arg2) = m ((c.tc : Thread Cert.LruBwdIdeal.nD Cert.LruBwdIdeal.τ).loc Cert.LruBwdIdeal.main_arg2)
      ∧ r.2.mem ((c.tc : Thread Cert.LruBwdIdeal.nD Cert.LruBwdIdeal.τ).loc Cert.LruBwdIdeal.main_arg3) = m ((c.tc : Thread Cert.LruBwdIdeal.nD Cert.LruBwdIdeal.τ).loc Cert.LruBwdIdeal.main_arg3)
      ∧ r.2.mem ((c.tc : Thread Cert.LruBwdIdeal.nD Cert.LruBwdIdeal.τ).loc Cert.LruBwdIdeal.main_arg4) = m ((c.tc : Thread Cert.LruBwdIdeal.nD Cert.LruBwdIdeal.τ).loc Cert.LruBwdIdeal.main_arg4)
      ∧ r.2.mem ((c.tc : Thread Cert.LruBwdIdeal.nD Cert.LruBwdIdeal.τ).loc Cert.LruBwdIdeal.main_arg5) = m ((c.tc : Thread Cert.LruBwdIdeal.nD Cert.LruBwdIdeal.τ).loc Cert.LruBwdIdeal.main_arg5)
      ∧ r.2.mem ((c.tc : Thread Cert.LruBwdIdeal.nD Cert.LruBwdIdeal.τ).loc Cert.LruBwdIdeal.main_arg6) = m ((c.tc : Thread Cert.LruBwdIdeal.nD Cert.LruBwdIdeal.τ).loc Cert.LruBwdIdeal.main_arg6)
      ∧ r.2.mem ((c.tc : Thread Cert.LruBwdIdeal.nD Cert.LruBwdIdeal.τ).loc Cert.LruBwdIdeal.main_arg7) = m ((c.tc : Thread Cert.LruBwdIdeal.nD Cert.LruBwdIdeal.τ).loc Cert.LruBwdIdeal.main_arg7)
      ∧ r.2.mem ((c.tc : Thread Cert.LruBwdIdeal.nD Cert.LruBwdIdeal.τ).loc Cert.LruBwdIdeal.main_arg8) = m ((c.tc : Thread Cert.LruBwdIdeal.nD Cert.LruBwdIdeal.τ).loc Cert.LruBwdIdeal.main_arg8))
      ∧ r.2.sem = fun _ => 0)

def quiescent_LruBwdRefIdeal [hLruBwdRefIdeal : Cert.LruBwdRefIdeal.Facts] : Prop :=
  ∀ (m : (ℓ : Loc Cert.LruBwdRefIdeal.nD Cert.LruBwdRefIdeal.τ Cert.LruBwdRefIdeal.sig) → Buf (Elt Ideal) ℓ) (g : Dev Cert.LruBwdRefIdeal.nD → PrngReg), Pre_LruBwdRefIdeal m →
    θ_run (Cert.LruBwdRefIdeal.defs (F := Ideal)) (onTc (τ := Cert.LruBwdRefIdeal.τ) (Cert.LruBwdRefIdeal.main (F := Ideal))) ⟨m, fun _ => 0, g⟩ (fun r => (∀ c : Dev Cert.LruBwdRefIdeal.nD,
      r.2.mem ((c.tc : Thread Cert.LruBwdRefIdeal.nD Cert.LruBwdRefIdeal.τ).loc Cert.LruBwdRefIdeal.main_arg0) = m ((c.tc : Thread Cert.LruBwdRefIdeal.nD Cert.LruBwdRefIdeal.τ).loc Cert.LruBwdRefIdeal.main_arg0)
      ∧ r.2.mem ((c.tc : Thread Cert.LruBwdRefIdeal.nD Cert.LruBwdRefIdeal.τ).loc Cert.LruBwdRefIdeal.main_arg1) = m ((c.tc : Thread Cert.LruBwdRefIdeal.nD Cert.LruBwdRefIdeal.τ).loc Cert.LruBwdRefIdeal.main_arg1)
      ∧ r.2.mem ((c.tc : Thread Cert.LruBwdRefIdeal.nD Cert.LruBwdRefIdeal.τ).loc Cert.LruBwdRefIdeal.main_arg2) = m ((c.tc : Thread Cert.LruBwdRefIdeal.nD Cert.LruBwdRefIdeal.τ).loc Cert.LruBwdRefIdeal.main_arg2)
      ∧ r.2.mem ((c.tc : Thread Cert.LruBwdRefIdeal.nD Cert.LruBwdRefIdeal.τ).loc Cert.LruBwdRefIdeal.main_arg3) = m ((c.tc : Thread Cert.LruBwdRefIdeal.nD Cert.LruBwdRefIdeal.τ).loc Cert.LruBwdRefIdeal.main_arg3)
      ∧ r.2.mem ((c.tc : Thread Cert.LruBwdRefIdeal.nD Cert.LruBwdRefIdeal.τ).loc Cert.LruBwdRefIdeal.main_arg4) = m ((c.tc : Thread Cert.LruBwdRefIdeal.nD Cert.LruBwdRefIdeal.τ).loc Cert.LruBwdRefIdeal.main_arg4)
      ∧ r.2.mem ((c.tc : Thread Cert.LruBwdRefIdeal.nD Cert.LruBwdRefIdeal.τ).loc Cert.LruBwdRefIdeal.main_arg5) = m ((c.tc : Thread Cert.LruBwdRefIdeal.nD Cert.LruBwdRefIdeal.τ).loc Cert.LruBwdRefIdeal.main_arg5)
      ∧ r.2.mem ((c.tc : Thread Cert.LruBwdRefIdeal.nD Cert.LruBwdRefIdeal.τ).loc Cert.LruBwdRefIdeal.main_arg6) = m ((c.tc : Thread Cert.LruBwdRefIdeal.nD Cert.LruBwdRefIdeal.τ).loc Cert.LruBwdRefIdeal.main_arg6)
      ∧ r.2.mem ((c.tc : Thread Cert.LruBwdRefIdeal.nD Cert.LruBwdRefIdeal.τ).loc Cert.LruBwdRefIdeal.main_arg7) = m ((c.tc : Thread Cert.LruBwdRefIdeal.nD Cert.LruBwdRefIdeal.τ).loc Cert.LruBwdRefIdeal.main_arg7)
      ∧ r.2.mem ((c.tc : Thread Cert.LruBwdRefIdeal.nD Cert.LruBwdRefIdeal.τ).loc Cert.LruBwdRefIdeal.main_arg8) = m ((c.tc : Thread Cert.LruBwdRefIdeal.nD Cert.LruBwdRefIdeal.τ).loc Cert.LruBwdRefIdeal.main_arg8))
      ∧ r.2.sem = fun _ => 0)

def quiescent_LruBwdRefIdeal_pre_lru_bwd_finite [hLruBwdRefIdeal : Cert.LruBwdRefIdeal.Facts] [hPre_lru_bwd_finite : Cert.Pre_lru_bwd_finite.Facts] : Prop :=
  ∀ (m : (ℓ : Loc Cert.LruBwdRefIdeal.nD Cert.LruBwdRefIdeal.τ Cert.LruBwdRefIdeal.sig) → Buf (Elt Ideal) ℓ) (g : Dev Cert.LruBwdRefIdeal.nD → PrngReg), Pre_LruBwdRefIdeal_lru_bwd_finite m →
    θ_run (Cert.LruBwdRefIdeal.defs (F := Ideal)) (onTc (τ := Cert.LruBwdRefIdeal.τ) (Cert.LruBwdRefIdeal.main (F := Ideal))) ⟨m, fun _ => 0, g⟩ (fun r => (∀ c : Dev Cert.LruBwdRefIdeal.nD,
      r.2.mem ((c.tc : Thread Cert.LruBwdRefIdeal.nD Cert.LruBwdRefIdeal.τ).loc Cert.LruBwdRefIdeal.main_arg0) = m ((c.tc : Thread Cert.LruBwdRefIdeal.nD Cert.LruBwdRefIdeal.τ).loc Cert.LruBwdRefIdeal.main_arg0)
      ∧ r.2.mem ((c.tc : Thread Cert.LruBwdRefIdeal.nD Cert.LruBwdRefIdeal.τ).loc Cert.LruBwdRefIdeal.main_arg1) = m ((c.tc : Thread Cert.LruBwdRefIdeal.nD Cert.LruBwdRefIdeal.τ).loc Cert.LruBwdRefIdeal.main_arg1)
      ∧ r.2.mem ((c.tc : Thread Cert.LruBwdRefIdeal.nD Cert.LruBwdRefIdeal.τ).loc Cert.LruBwdRefIdeal.main_arg2) = m ((c.tc : Thread Cert.LruBwdRefIdeal.nD Cert.LruBwdRefIdeal.τ).loc Cert.LruBwdRefIdeal.main_arg2)
      ∧ r.2.mem ((c.tc : Thread Cert.LruBwdRefIdeal.nD Cert.LruBwdRefIdeal.τ).loc Cert.LruBwdRefIdeal.main_arg3) = m ((c.tc : Thread Cert.LruBwdRefIdeal.nD Cert.LruBwdRefIdeal.τ).loc Cert.LruBwdRefIdeal.main_arg3)
      ∧ r.2.mem ((c.tc : Thread Cert.LruBwdRefIdeal.nD Cert.LruBwdRefIdeal.τ).loc Cert.LruBwdRefIdeal.main_arg4) = m ((c.tc : Thread Cert.LruBwdRefIdeal.nD Cert.LruBwdRefIdeal.τ).loc Cert.LruBwdRefIdeal.main_arg4)
      ∧ r.2.mem ((c.tc : Thread Cert.LruBwdRefIdeal.nD Cert.LruBwdRefIdeal.τ).loc Cert.LruBwdRefIdeal.main_arg5) = m ((c.tc : Thread Cert.LruBwdRefIdeal.nD Cert.LruBwdRefIdeal.τ).loc Cert.LruBwdRefIdeal.main_arg5)
      ∧ r.2.mem ((c.tc : Thread Cert.LruBwdRefIdeal.nD Cert.LruBwdRefIdeal.τ).loc Cert.LruBwdRefIdeal.main_arg6) = m ((c.tc : Thread Cert.LruBwdRefIdeal.nD Cert.LruBwdRefIdeal.τ).loc Cert.LruBwdRefIdeal.main_arg6)
      ∧ r.2.mem ((c.tc : Thread Cert.LruBwdRefIdeal.nD Cert.LruBwdRefIdeal.τ).loc Cert.LruBwdRefIdeal.main_arg7) = m ((c.tc : Thread Cert.LruBwdRefIdeal.nD Cert.LruBwdRefIdeal.τ).loc Cert.LruBwdRefIdeal.main_arg7)
      ∧ r.2.mem ((c.tc : Thread Cert.LruBwdRefIdeal.nD Cert.LruBwdRefIdeal.τ).loc Cert.LruBwdRefIdeal.main_arg8) = m ((c.tc : Thread Cert.LruBwdRefIdeal.nD Cert.LruBwdRefIdeal.τ).loc Cert.LruBwdRefIdeal.main_arg8))
      ∧ r.2.sem = fun _ => 0)

def quiescent_SwigluFwd [hSwigluFwd : Cert.SwigluFwd.Facts] : Prop :=
  ∀ (m : (ℓ : Loc Cert.SwigluFwd.nD Cert.SwigluFwd.τ Cert.SwigluFwd.sig) → Buf (Elt Bits) ℓ) (g : Dev Cert.SwigluFwd.nD → PrngReg), Pre_SwigluFwd m →
    θ_run (Cert.SwigluFwd.defs (F := Bits)) (onTc (τ := Cert.SwigluFwd.τ) (Cert.SwigluFwd.main (F := Bits))) ⟨m, fun _ => 0, g⟩ (fun r => (∀ c : Dev Cert.SwigluFwd.nD,
      r.2.mem ((c.tc : Thread Cert.SwigluFwd.nD Cert.SwigluFwd.τ).loc Cert.SwigluFwd.main_arg0) = m ((c.tc : Thread Cert.SwigluFwd.nD Cert.SwigluFwd.τ).loc Cert.SwigluFwd.main_arg0)
      ∧ r.2.mem ((c.tc : Thread Cert.SwigluFwd.nD Cert.SwigluFwd.τ).loc Cert.SwigluFwd.main_arg1) = m ((c.tc : Thread Cert.SwigluFwd.nD Cert.SwigluFwd.τ).loc Cert.SwigluFwd.main_arg1)
      ∧ r.2.mem ((c.tc : Thread Cert.SwigluFwd.nD Cert.SwigluFwd.τ).loc Cert.SwigluFwd.main_arg2) = m ((c.tc : Thread Cert.SwigluFwd.nD Cert.SwigluFwd.τ).loc Cert.SwigluFwd.main_arg2))
      ∧ r.2.sem = fun _ => 0)

def quiescent_SwigluFwdIdeal [hSwigluFwdIdeal : Cert.SwigluFwdIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg), Pre_SwigluFwdIdeal m →
    θ_run (Cert.SwigluFwdIdeal.defs (F := Ideal)) (onTc (τ := Cert.SwigluFwdIdeal.τ) (Cert.SwigluFwdIdeal.main (F := Ideal))) ⟨m, fun _ => 0, g⟩ (fun r => (∀ c : Dev Cert.SwigluFwdIdeal.nD,
      r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0)
      ∧ r.2.mem ((c.tc : Thread Cert.SwigluFwdIdeal.nD Cert.SwigluFwdIdeal.τ).loc Cert.SwigluFwdIdeal.main_arg1) = m ((c.tc : Thread Cert.SwigluFwdIdeal.nD Cert.SwigluFwdIdeal.τ).loc Cert.SwigluFwdIdeal.main_arg1)
      ∧ r.2.mem ((c.tc : Thread Cert.SwigluFwdIdeal.nD Cert.SwigluFwdIdeal.τ).loc Cert.SwigluFwdIdeal.main_arg2) = m ((c.tc : Thread Cert.SwigluFwdIdeal.nD Cert.SwigluFwdIdeal.τ).loc Cert.SwigluFwdIdeal.main_arg2))
      ∧ r.2.sem = fun _ => 0)

def quiescent_SwigluFwdRefIdeal [hSwigluFwdRefIdeal : Cert.SwigluFwdRefIdeal.Facts] : Prop :=
  ∀ (m : (ℓ : Loc Cert.SwigluFwdRefIdeal.nD Cert.SwigluFwdRefIdeal.τ Cert.SwigluFwdRefIdeal.sig) → Buf (Elt Ideal) ℓ) (g : Dev Cert.SwigluFwdRefIdeal.nD → PrngReg), Pre_SwigluFwdRefIdeal m →
    θ_run (Cert.SwigluFwdRefIdeal.defs (F := Ideal)) (onTc (τ := Cert.SwigluFwdRefIdeal.τ) (Cert.SwigluFwdRefIdeal.main (F := Ideal))) ⟨m, fun _ => 0, g⟩ (fun r => (∀ c : Dev Cert.SwigluFwdRefIdeal.nD,
      r.2.mem ((c.tc : Thread Cert.SwigluFwdRefIdeal.nD Cert.SwigluFwdRefIdeal.τ).loc Cert.SwigluFwdRefIdeal.main_arg0) = m ((c.tc : Thread Cert.SwigluFwdRefIdeal.nD Cert.SwigluFwdRefIdeal.τ).loc Cert.SwigluFwdRefIdeal.main_arg0)
      ∧ r.2.mem ((c.tc : Thread Cert.SwigluFwdRefIdeal.nD Cert.SwigluFwdRefIdeal.τ).loc Cert.SwigluFwdRefIdeal.main_arg1) = m ((c.tc : Thread Cert.SwigluFwdRefIdeal.nD Cert.SwigluFwdRefIdeal.τ).loc Cert.SwigluFwdRefIdeal.main_arg1)
      ∧ r.2.mem ((c.tc : Thread Cert.SwigluFwdRefIdeal.nD Cert.SwigluFwdRefIdeal.τ).loc Cert.SwigluFwdRefIdeal.main_arg2) = m ((c.tc : Thread Cert.SwigluFwdRefIdeal.nD Cert.SwigluFwdRefIdeal.τ).loc Cert.SwigluFwdRefIdeal.main_arg2))
      ∧ r.2.sem = fun _ => 0)

def quiescent_NormFfnFwd [hNormFfnFwd : Cert.NormFfnFwd.Facts] : Prop :=
  ∀ (m : (ℓ : Loc Cert.NormFfnFwd.nD Cert.NormFfnFwd.τ Cert.NormFfnFwd.sig) → Buf (Elt Bits) ℓ) (g : Dev Cert.NormFfnFwd.nD → PrngReg), Pre_NormFfnFwd m →
    θ_run (Cert.NormFfnFwd.defs (F := Bits)) (onTc (τ := Cert.NormFfnFwd.τ) (Cert.NormFfnFwd.main (F := Bits))) ⟨m, fun _ => 0, g⟩ (fun r => (∀ c : Dev Cert.NormFfnFwd.nD,
      r.2.mem ((c.tc : Thread Cert.NormFfnFwd.nD Cert.NormFfnFwd.τ).loc Cert.NormFfnFwd.main_arg0) = m ((c.tc : Thread Cert.NormFfnFwd.nD Cert.NormFfnFwd.τ).loc Cert.NormFfnFwd.main_arg0)
      ∧ r.2.mem ((c.tc : Thread Cert.NormFfnFwd.nD Cert.NormFfnFwd.τ).loc Cert.NormFfnFwd.main_arg1) = m ((c.tc : Thread Cert.NormFfnFwd.nD Cert.NormFfnFwd.τ).loc Cert.NormFfnFwd.main_arg1)
      ∧ r.2.mem ((c.tc : Thread Cert.NormFfnFwd.nD Cert.NormFfnFwd.τ).loc Cert.NormFfnFwd.main_arg2) = m ((c.tc : Thread Cert.NormFfnFwd.nD Cert.NormFfnFwd.τ).loc Cert.NormFfnFwd.main_arg2))
      ∧ r.2.sem = fun _ => 0)

def quiescent_NormFfnFwdIdeal [hNormFfnFwdIdeal : Cert.NormFfnFwdIdeal.Facts] : Prop :=
  ∀ (m : (ℓ : Loc Cert.NormFfnFwdIdeal.nD Cert.NormFfnFwdIdeal.τ Cert.NormFfnFwdIdeal.sig) → Buf (Elt Ideal) ℓ) (g : Dev Cert.NormFfnFwdIdeal.nD → PrngReg), Pre_NormFfnFwdIdeal m →
    θ_run (Cert.NormFfnFwdIdeal.defs (F := Ideal)) (onTc (τ := Cert.NormFfnFwdIdeal.τ) (Cert.NormFfnFwdIdeal.main (F := Ideal))) ⟨m, fun _ => 0, g⟩ (fun r => (∀ c : Dev Cert.NormFfnFwdIdeal.nD,
      r.2.mem ((c.tc : Thread Cert.NormFfnFwdIdeal.nD Cert.NormFfnFwdIdeal.τ).loc Cert.NormFfnFwdIdeal.main_arg0) = m ((c.tc : Thread Cert.NormFfnFwdIdeal.nD Cert.NormFfnFwdIdeal.τ).loc Cert.NormFfnFwdIdeal.main_arg0)
      ∧ r.2.mem ((c.tc : Thread Cert.NormFfnFwdIdeal.nD Cert.NormFfnFwdIdeal.τ).loc Cert.NormFfnFwdIdeal.main_arg1) = m ((c.tc : Thread Cert.NormFfnFwdIdeal.nD Cert.NormFfnFwdIdeal.τ).loc Cert.NormFfnFwdIdeal.main_arg1)
      ∧ r.2.mem ((c.tc : Thread Cert.NormFfnFwdIdeal.nD Cert.NormFfnFwdIdeal.τ).loc Cert.NormFfnFwdIdeal.main_arg2) = m ((c.tc : Thread Cert.NormFfnFwdIdeal.nD Cert.NormFfnFwdIdeal.τ).loc Cert.NormFfnFwdIdeal.main_arg2))
      ∧ r.2.sem = fun _ => 0)

def quiescent_NormFfnFwdRefIdeal [hNormFfnFwdRefIdeal : Cert.NormFfnFwdRefIdeal.Facts] : Prop :=
  ∀ (m : (ℓ : Loc Cert.NormFfnFwdRefIdeal.nD Cert.NormFfnFwdRefIdeal.τ Cert.NormFfnFwdRefIdeal.sig) → Buf (Elt Ideal) ℓ) (g : Dev Cert.NormFfnFwdRefIdeal.nD → PrngReg), Pre_NormFfnFwdRefIdeal m →
    θ_run (Cert.NormFfnFwdRefIdeal.defs (F := Ideal)) (onTc (τ := Cert.NormFfnFwdRefIdeal.τ) (Cert.NormFfnFwdRefIdeal.main (F := Ideal))) ⟨m, fun _ => 0, g⟩ (fun r => (∀ c : Dev Cert.NormFfnFwdRefIdeal.nD,
      r.2.mem ((c.tc : Thread Cert.NormFfnFwdRefIdeal.nD Cert.NormFfnFwdRefIdeal.τ).loc Cert.NormFfnFwdRefIdeal.main_arg0) = m ((c.tc : Thread Cert.NormFfnFwdRefIdeal.nD Cert.NormFfnFwdRefIdeal.τ).loc Cert.NormFfnFwdRefIdeal.main_arg0)
      ∧ r.2.mem ((c.tc : Thread Cert.NormFfnFwdRefIdeal.nD Cert.NormFfnFwdRefIdeal.τ).loc Cert.NormFfnFwdRefIdeal.main_arg1) = m ((c.tc : Thread Cert.NormFfnFwdRefIdeal.nD Cert.NormFfnFwdRefIdeal.τ).loc Cert.NormFfnFwdRefIdeal.main_arg1)
      ∧ r.2.mem ((c.tc : Thread Cert.NormFfnFwdRefIdeal.nD Cert.NormFfnFwdRefIdeal.τ).loc Cert.NormFfnFwdRefIdeal.main_arg2) = m ((c.tc : Thread Cert.NormFfnFwdRefIdeal.nD Cert.NormFfnFwdRefIdeal.τ).loc Cert.NormFfnFwdRefIdeal.main_arg2))
      ∧ r.2.sem = fun _ => 0)

def quiescent_NormMixFwd [hNormMixFwd : Cert.NormMixFwd.Facts] : Prop :=
  ∀ (m : (ℓ : Loc Cert.NormMixFwd.nD Cert.NormMixFwd.τ Cert.NormMixFwd.sig) → Buf (Elt Bits) ℓ) (g : Dev Cert.NormMixFwd.nD → PrngReg), Pre_NormMixFwd m →
    θ_run (Cert.NormMixFwd.defs (F := Bits)) (onTc (τ := Cert.NormMixFwd.τ) (Cert.NormMixFwd.main (F := Bits))) ⟨m, fun _ => 0, g⟩ (fun r => (∀ c : Dev Cert.NormMixFwd.nD,
      r.2.mem ((c.tc : Thread Cert.NormMixFwd.nD Cert.NormMixFwd.τ).loc Cert.NormMixFwd.main_arg0) = m ((c.tc : Thread Cert.NormMixFwd.nD Cert.NormMixFwd.τ).loc Cert.NormMixFwd.main_arg0)
      ∧ r.2.mem ((c.tc : Thread Cert.NormMixFwd.nD Cert.NormMixFwd.τ).loc Cert.NormMixFwd.main_arg1) = m ((c.tc : Thread Cert.NormMixFwd.nD Cert.NormMixFwd.τ).loc Cert.NormMixFwd.main_arg1)
      ∧ r.2.mem ((c.tc : Thread Cert.NormMixFwd.nD Cert.NormMixFwd.τ).loc Cert.NormMixFwd.main_arg2) = m ((c.tc : Thread Cert.NormMixFwd.nD Cert.NormMixFwd.τ).loc Cert.NormMixFwd.main_arg2))
      ∧ r.2.sem = fun _ => 0)

def quiescent_NormMixFwdIdeal [hNormMixFwdIdeal : Cert.NormMixFwdIdeal.Facts] : Prop :=
  ∀ (m : (ℓ : Loc Cert.NormMixFwdIdeal.nD Cert.NormMixFwdIdeal.τ Cert.NormMixFwdIdeal.sig) → Buf (Elt Ideal) ℓ) (g : Dev Cert.NormMixFwdIdeal.nD → PrngReg), Pre_NormMixFwdIdeal m →
    θ_run (Cert.NormMixFwdIdeal.defs (F := Ideal)) (onTc (τ := Cert.NormMixFwdIdeal.τ) (Cert.NormMixFwdIdeal.main (F := Ideal))) ⟨m, fun _ => 0, g⟩ (fun r => (∀ c : Dev Cert.NormMixFwdIdeal.nD,
      r.2.mem ((c.tc : Thread Cert.NormMixFwdIdeal.nD Cert.NormMixFwdIdeal.τ).loc Cert.NormMixFwdIdeal.main_arg0) = m ((c.tc : Thread Cert.NormMixFwdIdeal.nD Cert.NormMixFwdIdeal.τ).loc Cert.NormMixFwdIdeal.main_arg0)
      ∧ r.2.mem ((c.tc : Thread Cert.NormMixFwdIdeal.nD Cert.NormMixFwdIdeal.τ).loc Cert.NormMixFwdIdeal.main_arg1) = m ((c.tc : Thread Cert.NormMixFwdIdeal.nD Cert.NormMixFwdIdeal.τ).loc Cert.NormMixFwdIdeal.main_arg1)
      ∧ r.2.mem ((c.tc : Thread Cert.NormMixFwdIdeal.nD Cert.NormMixFwdIdeal.τ).loc Cert.NormMixFwdIdeal.main_arg2) = m ((c.tc : Thread Cert.NormMixFwdIdeal.nD Cert.NormMixFwdIdeal.τ).loc Cert.NormMixFwdIdeal.main_arg2))
      ∧ r.2.sem = fun _ => 0)

def quiescent_NormMixFwdRefIdeal [hNormMixFwdRefIdeal : Cert.NormMixFwdRefIdeal.Facts] : Prop :=
  ∀ (m : (ℓ : Loc Cert.NormMixFwdRefIdeal.nD Cert.NormMixFwdRefIdeal.τ Cert.NormMixFwdRefIdeal.sig) → Buf (Elt Ideal) ℓ) (g : Dev Cert.NormMixFwdRefIdeal.nD → PrngReg), Pre_NormMixFwdRefIdeal m →
    θ_run (Cert.NormMixFwdRefIdeal.defs (F := Ideal)) (onTc (τ := Cert.NormMixFwdRefIdeal.τ) (Cert.NormMixFwdRefIdeal.main (F := Ideal))) ⟨m, fun _ => 0, g⟩ (fun r => (∀ c : Dev Cert.NormMixFwdRefIdeal.nD,
      r.2.mem ((c.tc : Thread Cert.NormMixFwdRefIdeal.nD Cert.NormMixFwdRefIdeal.τ).loc Cert.NormMixFwdRefIdeal.main_arg0) = m ((c.tc : Thread Cert.NormMixFwdRefIdeal.nD Cert.NormMixFwdRefIdeal.τ).loc Cert.NormMixFwdRefIdeal.main_arg0)
      ∧ r.2.mem ((c.tc : Thread Cert.NormMixFwdRefIdeal.nD Cert.NormMixFwdRefIdeal.τ).loc Cert.NormMixFwdRefIdeal.main_arg1) = m ((c.tc : Thread Cert.NormMixFwdRefIdeal.nD Cert.NormMixFwdRefIdeal.τ).loc Cert.NormMixFwdRefIdeal.main_arg1)
      ∧ r.2.mem ((c.tc : Thread Cert.NormMixFwdRefIdeal.nD Cert.NormMixFwdRefIdeal.τ).loc Cert.NormMixFwdRefIdeal.main_arg2) = m ((c.tc : Thread Cert.NormMixFwdRefIdeal.nD Cert.NormMixFwdRefIdeal.τ).loc Cert.NormMixFwdRefIdeal.main_arg2))
      ∧ r.2.sem = fun _ => 0)

def quiescent_MixOutFwd [hMixOutFwd : Cert.MixOutFwd.Facts] : Prop :=
  ∀ (m : (ℓ : Loc Cert.MixOutFwd.nD Cert.MixOutFwd.τ Cert.MixOutFwd.sig) → Buf (Elt Bits) ℓ) (g : Dev Cert.MixOutFwd.nD → PrngReg), Pre_MixOutFwd m →
    θ_run (Cert.MixOutFwd.defs (F := Bits)) (onTc (τ := Cert.MixOutFwd.τ) (Cert.MixOutFwd.main (F := Bits))) ⟨m, fun _ => 0, g⟩ (fun r => (∀ c : Dev Cert.MixOutFwd.nD,
      r.2.mem ((c.tc : Thread Cert.MixOutFwd.nD Cert.MixOutFwd.τ).loc Cert.MixOutFwd.main_arg0) = m ((c.tc : Thread Cert.MixOutFwd.nD Cert.MixOutFwd.τ).loc Cert.MixOutFwd.main_arg0)
      ∧ r.2.mem ((c.tc : Thread Cert.MixOutFwd.nD Cert.MixOutFwd.τ).loc Cert.MixOutFwd.main_arg1) = m ((c.tc : Thread Cert.MixOutFwd.nD Cert.MixOutFwd.τ).loc Cert.MixOutFwd.main_arg1)
      ∧ r.2.mem ((c.tc : Thread Cert.MixOutFwd.nD Cert.MixOutFwd.τ).loc Cert.MixOutFwd.main_arg2) = m ((c.tc : Thread Cert.MixOutFwd.nD Cert.MixOutFwd.τ).loc Cert.MixOutFwd.main_arg2)
      ∧ r.2.mem ((c.tc : Thread Cert.MixOutFwd.nD Cert.MixOutFwd.τ).loc Cert.MixOutFwd.main_arg3) = m ((c.tc : Thread Cert.MixOutFwd.nD Cert.MixOutFwd.τ).loc Cert.MixOutFwd.main_arg3)
      ∧ r.2.mem ((c.tc : Thread Cert.MixOutFwd.nD Cert.MixOutFwd.τ).loc Cert.MixOutFwd.main_arg4) = m ((c.tc : Thread Cert.MixOutFwd.nD Cert.MixOutFwd.τ).loc Cert.MixOutFwd.main_arg4)
      ∧ r.2.mem ((c.tc : Thread Cert.MixOutFwd.nD Cert.MixOutFwd.τ).loc Cert.MixOutFwd.main_arg5) = m ((c.tc : Thread Cert.MixOutFwd.nD Cert.MixOutFwd.τ).loc Cert.MixOutFwd.main_arg5)
      ∧ r.2.mem ((c.tc : Thread Cert.MixOutFwd.nD Cert.MixOutFwd.τ).loc Cert.MixOutFwd.main_arg6) = m ((c.tc : Thread Cert.MixOutFwd.nD Cert.MixOutFwd.τ).loc Cert.MixOutFwd.main_arg6))
      ∧ r.2.sem = fun _ => 0)

def quiescent_MixOutFwdIdeal [hMixOutFwdIdeal : Cert.MixOutFwdIdeal.Facts] : Prop :=
  ∀ (m : (ℓ : Loc Cert.MixOutFwdIdeal.nD Cert.MixOutFwdIdeal.τ Cert.MixOutFwdIdeal.sig) → Buf (Elt Ideal) ℓ) (g : Dev Cert.MixOutFwdIdeal.nD → PrngReg), Pre_MixOutFwdIdeal m →
    θ_run (Cert.MixOutFwdIdeal.defs (F := Ideal)) (onTc (τ := Cert.MixOutFwdIdeal.τ) (Cert.MixOutFwdIdeal.main (F := Ideal))) ⟨m, fun _ => 0, g⟩ (fun r => (∀ c : Dev Cert.MixOutFwdIdeal.nD,
      r.2.mem ((c.tc : Thread Cert.MixOutFwdIdeal.nD Cert.MixOutFwdIdeal.τ).loc Cert.MixOutFwdIdeal.main_arg0) = m ((c.tc : Thread Cert.MixOutFwdIdeal.nD Cert.MixOutFwdIdeal.τ).loc Cert.MixOutFwdIdeal.main_arg0)
      ∧ r.2.mem ((c.tc : Thread Cert.MixOutFwdIdeal.nD Cert.MixOutFwdIdeal.τ).loc Cert.MixOutFwdIdeal.main_arg1) = m ((c.tc : Thread Cert.MixOutFwdIdeal.nD Cert.MixOutFwdIdeal.τ).loc Cert.MixOutFwdIdeal.main_arg1)
      ∧ r.2.mem ((c.tc : Thread Cert.MixOutFwdIdeal.nD Cert.MixOutFwdIdeal.τ).loc Cert.MixOutFwdIdeal.main_arg2) = m ((c.tc : Thread Cert.MixOutFwdIdeal.nD Cert.MixOutFwdIdeal.τ).loc Cert.MixOutFwdIdeal.main_arg2)
      ∧ r.2.mem ((c.tc : Thread Cert.MixOutFwdIdeal.nD Cert.MixOutFwdIdeal.τ).loc Cert.MixOutFwdIdeal.main_arg3) = m ((c.tc : Thread Cert.MixOutFwdIdeal.nD Cert.MixOutFwdIdeal.τ).loc Cert.MixOutFwdIdeal.main_arg3)
      ∧ r.2.mem ((c.tc : Thread Cert.MixOutFwdIdeal.nD Cert.MixOutFwdIdeal.τ).loc Cert.MixOutFwdIdeal.main_arg4) = m ((c.tc : Thread Cert.MixOutFwdIdeal.nD Cert.MixOutFwdIdeal.τ).loc Cert.MixOutFwdIdeal.main_arg4)
      ∧ r.2.mem ((c.tc : Thread Cert.MixOutFwdIdeal.nD Cert.MixOutFwdIdeal.τ).loc Cert.MixOutFwdIdeal.main_arg5) = m ((c.tc : Thread Cert.MixOutFwdIdeal.nD Cert.MixOutFwdIdeal.τ).loc Cert.MixOutFwdIdeal.main_arg5)
      ∧ r.2.mem ((c.tc : Thread Cert.MixOutFwdIdeal.nD Cert.MixOutFwdIdeal.τ).loc Cert.MixOutFwdIdeal.main_arg6) = m ((c.tc : Thread Cert.MixOutFwdIdeal.nD Cert.MixOutFwdIdeal.τ).loc Cert.MixOutFwdIdeal.main_arg6))
      ∧ r.2.sem = fun _ => 0)

def quiescent_MixOutFwdRefIdeal [hMixOutFwdRefIdeal : Cert.MixOutFwdRefIdeal.Facts] : Prop :=
  ∀ (m : (ℓ : Loc Cert.MixOutFwdRefIdeal.nD Cert.MixOutFwdRefIdeal.τ Cert.MixOutFwdRefIdeal.sig) → Buf (Elt Ideal) ℓ) (g : Dev Cert.MixOutFwdRefIdeal.nD → PrngReg), Pre_MixOutFwdRefIdeal m →
    θ_run (Cert.MixOutFwdRefIdeal.defs (F := Ideal)) (onTc (τ := Cert.MixOutFwdRefIdeal.τ) (Cert.MixOutFwdRefIdeal.main (F := Ideal))) ⟨m, fun _ => 0, g⟩ (fun r => (∀ c : Dev Cert.MixOutFwdRefIdeal.nD,
      r.2.mem ((c.tc : Thread Cert.MixOutFwdRefIdeal.nD Cert.MixOutFwdRefIdeal.τ).loc Cert.MixOutFwdRefIdeal.main_arg0) = m ((c.tc : Thread Cert.MixOutFwdRefIdeal.nD Cert.MixOutFwdRefIdeal.τ).loc Cert.MixOutFwdRefIdeal.main_arg0)
      ∧ r.2.mem ((c.tc : Thread Cert.MixOutFwdRefIdeal.nD Cert.MixOutFwdRefIdeal.τ).loc Cert.MixOutFwdRefIdeal.main_arg1) = m ((c.tc : Thread Cert.MixOutFwdRefIdeal.nD Cert.MixOutFwdRefIdeal.τ).loc Cert.MixOutFwdRefIdeal.main_arg1)
      ∧ r.2.mem ((c.tc : Thread Cert.MixOutFwdRefIdeal.nD Cert.MixOutFwdRefIdeal.τ).loc Cert.MixOutFwdRefIdeal.main_arg2) = m ((c.tc : Thread Cert.MixOutFwdRefIdeal.nD Cert.MixOutFwdRefIdeal.τ).loc Cert.MixOutFwdRefIdeal.main_arg2)
      ∧ r.2.mem ((c.tc : Thread Cert.MixOutFwdRefIdeal.nD Cert.MixOutFwdRefIdeal.τ).loc Cert.MixOutFwdRefIdeal.main_arg3) = m ((c.tc : Thread Cert.MixOutFwdRefIdeal.nD Cert.MixOutFwdRefIdeal.τ).loc Cert.MixOutFwdRefIdeal.main_arg3)
      ∧ r.2.mem ((c.tc : Thread Cert.MixOutFwdRefIdeal.nD Cert.MixOutFwdRefIdeal.τ).loc Cert.MixOutFwdRefIdeal.main_arg4) = m ((c.tc : Thread Cert.MixOutFwdRefIdeal.nD Cert.MixOutFwdRefIdeal.τ).loc Cert.MixOutFwdRefIdeal.main_arg4)
      ∧ r.2.mem ((c.tc : Thread Cert.MixOutFwdRefIdeal.nD Cert.MixOutFwdRefIdeal.τ).loc Cert.MixOutFwdRefIdeal.main_arg5) = m ((c.tc : Thread Cert.MixOutFwdRefIdeal.nD Cert.MixOutFwdRefIdeal.τ).loc Cert.MixOutFwdRefIdeal.main_arg5)
      ∧ r.2.mem ((c.tc : Thread Cert.MixOutFwdRefIdeal.nD Cert.MixOutFwdRefIdeal.τ).loc Cert.MixOutFwdRefIdeal.main_arg6) = m ((c.tc : Thread Cert.MixOutFwdRefIdeal.nD Cert.MixOutFwdRefIdeal.τ).loc Cert.MixOutFwdRefIdeal.main_arg6))
      ∧ r.2.sem = fun _ => 0)

def quiescent_LruFwd [hLruFwd : Cert.LruFwd.Facts] : Prop :=
  ∀ (m : (ℓ : Loc Cert.LruFwd.nD Cert.LruFwd.τ Cert.LruFwd.sig) → Buf (Elt Bits) ℓ) (g : Dev Cert.LruFwd.nD → PrngReg), Pre_LruFwd m →
    θ_run (Cert.LruFwd.defs (F := Bits)) (onTc (τ := Cert.LruFwd.τ) (Cert.LruFwd.main (F := Bits))) ⟨m, fun _ => 0, g⟩ (fun r => (∀ c : Dev Cert.LruFwd.nD,
      r.2.mem ((c.tc : Thread Cert.LruFwd.nD Cert.LruFwd.τ).loc Cert.LruFwd.main_arg0) = m ((c.tc : Thread Cert.LruFwd.nD Cert.LruFwd.τ).loc Cert.LruFwd.main_arg0)
      ∧ r.2.mem ((c.tc : Thread Cert.LruFwd.nD Cert.LruFwd.τ).loc Cert.LruFwd.main_arg1) = m ((c.tc : Thread Cert.LruFwd.nD Cert.LruFwd.τ).loc Cert.LruFwd.main_arg1)
      ∧ r.2.mem ((c.tc : Thread Cert.LruFwd.nD Cert.LruFwd.τ).loc Cert.LruFwd.main_arg2) = m ((c.tc : Thread Cert.LruFwd.nD Cert.LruFwd.τ).loc Cert.LruFwd.main_arg2)
      ∧ r.2.mem ((c.tc : Thread Cert.LruFwd.nD Cert.LruFwd.τ).loc Cert.LruFwd.main_arg3) = m ((c.tc : Thread Cert.LruFwd.nD Cert.LruFwd.τ).loc Cert.LruFwd.main_arg3)
      ∧ r.2.mem ((c.tc : Thread Cert.LruFwd.nD Cert.LruFwd.τ).loc Cert.LruFwd.main_arg4) = m ((c.tc : Thread Cert.LruFwd.nD Cert.LruFwd.τ).loc Cert.LruFwd.main_arg4)
      ∧ r.2.mem ((c.tc : Thread Cert.LruFwd.nD Cert.LruFwd.τ).loc Cert.LruFwd.main_arg5) = m ((c.tc : Thread Cert.LruFwd.nD Cert.LruFwd.τ).loc Cert.LruFwd.main_arg5)
      ∧ r.2.mem ((c.tc : Thread Cert.LruFwd.nD Cert.LruFwd.τ).loc Cert.LruFwd.main_arg6) = m ((c.tc : Thread Cert.LruFwd.nD Cert.LruFwd.τ).loc Cert.LruFwd.main_arg6)
      ∧ r.2.mem ((c.tc : Thread Cert.LruFwd.nD Cert.LruFwd.τ).loc Cert.LruFwd.main_arg7) = m ((c.tc : Thread Cert.LruFwd.nD Cert.LruFwd.τ).loc Cert.LruFwd.main_arg7))
      ∧ r.2.sem = fun _ => 0)

def quiescent_LruFwdIdeal [hLruFwdIdeal : Cert.LruFwdIdeal.Facts] : Prop :=
  ∀ (m : (ℓ : Loc Cert.LruFwdIdeal.nD Cert.LruFwdIdeal.τ Cert.LruFwdIdeal.sig) → Buf (Elt Ideal) ℓ) (g : Dev Cert.LruFwdIdeal.nD → PrngReg), Pre_LruFwdIdeal m →
    θ_run (Cert.LruFwdIdeal.defs (F := Ideal)) (onTc (τ := Cert.LruFwdIdeal.τ) (Cert.LruFwdIdeal.main (F := Ideal))) ⟨m, fun _ => 0, g⟩ (fun r => (∀ c : Dev Cert.LruFwdIdeal.nD,
      r.2.mem ((c.tc : Thread Cert.LruFwdIdeal.nD Cert.LruFwdIdeal.τ).loc Cert.LruFwdIdeal.main_arg0) = m ((c.tc : Thread Cert.LruFwdIdeal.nD Cert.LruFwdIdeal.τ).loc Cert.LruFwdIdeal.main_arg0)
      ∧ r.2.mem ((c.tc : Thread Cert.LruFwdIdeal.nD Cert.LruFwdIdeal.τ).loc Cert.LruFwdIdeal.main_arg1) = m ((c.tc : Thread Cert.LruFwdIdeal.nD Cert.LruFwdIdeal.τ).loc Cert.LruFwdIdeal.main_arg1)
      ∧ r.2.mem ((c.tc : Thread Cert.LruFwdIdeal.nD Cert.LruFwdIdeal.τ).loc Cert.LruFwdIdeal.main_arg2) = m ((c.tc : Thread Cert.LruFwdIdeal.nD Cert.LruFwdIdeal.τ).loc Cert.LruFwdIdeal.main_arg2)
      ∧ r.2.mem ((c.tc : Thread Cert.LruFwdIdeal.nD Cert.LruFwdIdeal.τ).loc Cert.LruFwdIdeal.main_arg3) = m ((c.tc : Thread Cert.LruFwdIdeal.nD Cert.LruFwdIdeal.τ).loc Cert.LruFwdIdeal.main_arg3)
      ∧ r.2.mem ((c.tc : Thread Cert.LruFwdIdeal.nD Cert.LruFwdIdeal.τ).loc Cert.LruFwdIdeal.main_arg4) = m ((c.tc : Thread Cert.LruFwdIdeal.nD Cert.LruFwdIdeal.τ).loc Cert.LruFwdIdeal.main_arg4)
      ∧ r.2.mem ((c.tc : Thread Cert.LruFwdIdeal.nD Cert.LruFwdIdeal.τ).loc Cert.LruFwdIdeal.main_arg5) = m ((c.tc : Thread Cert.LruFwdIdeal.nD Cert.LruFwdIdeal.τ).loc Cert.LruFwdIdeal.main_arg5)
      ∧ r.2.mem ((c.tc : Thread Cert.LruFwdIdeal.nD Cert.LruFwdIdeal.τ).loc Cert.LruFwdIdeal.main_arg6) = m ((c.tc : Thread Cert.LruFwdIdeal.nD Cert.LruFwdIdeal.τ).loc Cert.LruFwdIdeal.main_arg6)
      ∧ r.2.mem ((c.tc : Thread Cert.LruFwdIdeal.nD Cert.LruFwdIdeal.τ).loc Cert.LruFwdIdeal.main_arg7) = m ((c.tc : Thread Cert.LruFwdIdeal.nD Cert.LruFwdIdeal.τ).loc Cert.LruFwdIdeal.main_arg7))
      ∧ r.2.sem = fun _ => 0)

def quiescent_LruFwdRefIdeal [hLruFwdRefIdeal : Cert.LruFwdRefIdeal.Facts] : Prop :=
  ∀ (m : (ℓ : Loc Cert.LruFwdRefIdeal.nD Cert.LruFwdRefIdeal.τ Cert.LruFwdRefIdeal.sig) → Buf (Elt Ideal) ℓ) (g : Dev Cert.LruFwdRefIdeal.nD → PrngReg), Pre_LruFwdRefIdeal m →
    θ_run (Cert.LruFwdRefIdeal.defs (F := Ideal)) (onTc (τ := Cert.LruFwdRefIdeal.τ) (Cert.LruFwdRefIdeal.main (F := Ideal))) ⟨m, fun _ => 0, g⟩ (fun r => (∀ c : Dev Cert.LruFwdRefIdeal.nD,
      r.2.mem ((c.tc : Thread Cert.LruFwdRefIdeal.nD Cert.LruFwdRefIdeal.τ).loc Cert.LruFwdRefIdeal.main_arg0) = m ((c.tc : Thread Cert.LruFwdRefIdeal.nD Cert.LruFwdRefIdeal.τ).loc Cert.LruFwdRefIdeal.main_arg0)
      ∧ r.2.mem ((c.tc : Thread Cert.LruFwdRefIdeal.nD Cert.LruFwdRefIdeal.τ).loc Cert.LruFwdRefIdeal.main_arg1) = m ((c.tc : Thread Cert.LruFwdRefIdeal.nD Cert.LruFwdRefIdeal.τ).loc Cert.LruFwdRefIdeal.main_arg1)
      ∧ r.2.mem ((c.tc : Thread Cert.LruFwdRefIdeal.nD Cert.LruFwdRefIdeal.τ).loc Cert.LruFwdRefIdeal.main_arg2) = m ((c.tc : Thread Cert.LruFwdRefIdeal.nD Cert.LruFwdRefIdeal.τ).loc Cert.LruFwdRefIdeal.main_arg2)
      ∧ r.2.mem ((c.tc : Thread Cert.LruFwdRefIdeal.nD Cert.LruFwdRefIdeal.τ).loc Cert.LruFwdRefIdeal.main_arg3) = m ((c.tc : Thread Cert.LruFwdRefIdeal.nD Cert.LruFwdRefIdeal.τ).loc Cert.LruFwdRefIdeal.main_arg3)
      ∧ r.2.mem ((c.tc : Thread Cert.LruFwdRefIdeal.nD Cert.LruFwdRefIdeal.τ).loc Cert.LruFwdRefIdeal.main_arg4) = m ((c.tc : Thread Cert.LruFwdRefIdeal.nD Cert.LruFwdRefIdeal.τ).loc Cert.LruFwdRefIdeal.main_arg4)
      ∧ r.2.mem ((c.tc : Thread Cert.LruFwdRefIdeal.nD Cert.LruFwdRefIdeal.τ).loc Cert.LruFwdRefIdeal.main_arg5) = m ((c.tc : Thread Cert.LruFwdRefIdeal.nD Cert.LruFwdRefIdeal.τ).loc Cert.LruFwdRefIdeal.main_arg5)
      ∧ r.2.mem ((c.tc : Thread Cert.LruFwdRefIdeal.nD Cert.LruFwdRefIdeal.τ).loc Cert.LruFwdRefIdeal.main_arg6) = m ((c.tc : Thread Cert.LruFwdRefIdeal.nD Cert.LruFwdRefIdeal.τ).loc Cert.LruFwdRefIdeal.main_arg6)
      ∧ r.2.mem ((c.tc : Thread Cert.LruFwdRefIdeal.nD Cert.LruFwdRefIdeal.τ).loc Cert.LruFwdRefIdeal.main_arg7) = m ((c.tc : Thread Cert.LruFwdRefIdeal.nD Cert.LruFwdRefIdeal.τ).loc Cert.LruFwdRefIdeal.main_arg7))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2)
      ∧ r.2.mem ((c.tc : Thread Cert.PoolFwd.nD Cert.PoolFwd.τ).loc Cert.PoolFwd.main_arg3) = m ((c.tc : Thread Cert.PoolFwd.nD Cert.PoolFwd.τ).loc Cert.PoolFwd.main_arg3))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2)
      ∧ r.2.mem ((c.tc : Thread Cert.PoolFwdIdeal.nD Cert.PoolFwdIdeal.τ).loc Cert.PoolFwdIdeal.main_arg3) = m ((c.tc : Thread Cert.PoolFwdIdeal.nD Cert.PoolFwdIdeal.τ).loc Cert.PoolFwdIdeal.main_arg3))
      ∧ r.2.sem = fun _ => 0)

def quiescent_PoolFwdIdeal_pre_pool_fwd_finite [hPoolFwdIdeal : Cert.PoolFwdIdeal.Facts] [hPre_pool_fwd_finite : Cert.Pre_pool_fwd_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_pool_fwd_finite m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2)
      ∧ r.2.mem ((c.tc : Thread Cert.PoolFwdIdeal.nD Cert.PoolFwdIdeal.τ).loc Cert.PoolFwdIdeal.main_arg3) = m ((c.tc : Thread Cert.PoolFwdIdeal.nD Cert.PoolFwdIdeal.τ).loc Cert.PoolFwdIdeal.main_arg3))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2)
      ∧ r.2.mem ((c.tc : Thread Cert.PoolFwdRefIdeal.nD Cert.PoolFwdRefIdeal.τ).loc Cert.PoolFwdRefIdeal.main_arg3) = m ((c.tc : Thread Cert.PoolFwdRefIdeal.nD Cert.PoolFwdRefIdeal.τ).loc Cert.PoolFwdRefIdeal.main_arg3))
      ∧ r.2.sem = fun _ => 0)

def quiescent_PoolFwdRefIdeal_pre_pool_fwd_finite [hPoolFwdRefIdeal : Cert.PoolFwdRefIdeal.Facts] [hPre_pool_fwd_finite : Cert.Pre_pool_fwd_finite.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal_pool_fwd_finite m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2)
      ∧ r.2.mem ((c.tc : Thread Cert.PoolFwdRefIdeal.nD Cert.PoolFwdRefIdeal.τ).loc Cert.PoolFwdRefIdeal.main_arg3) = m ((c.tc : Thread Cert.PoolFwdRefIdeal.nD Cert.PoolFwdRefIdeal.τ).loc Cert.PoolFwdRefIdeal.main_arg3))
      ∧ r.2.sem = fun _ => 0)

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v3_0)) (v1 : (c : Dev Cert.LossHeadIdeal.nD) → Buf (Elt Ideal) ((c.tc : Thread Cert.LossHeadIdeal.nD Cert.LossHeadIdeal.τ).loc Cert.LossHeadIdeal.main_v3_1)) (v2 : (c : Dev Cert.LossHeadIdeal.nD) → Buf (Elt Ideal) ((c.tc : Thread Cert.LossHeadIdeal.nD Cert.LossHeadIdeal.τ).loc Cert.LossHeadIdeal.main_v3_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v3_0) = v0 c
          ∧ r.2.mem ((c.tc : Thread Cert.LossHeadIdeal.nD Cert.LossHeadIdeal.τ).loc Cert.LossHeadIdeal.main_v3_1) = v1 c
          ∧ r.2.mem ((c.tc : Thread Cert.LossHeadIdeal.nD Cert.LossHeadIdeal.τ).loc Cert.LossHeadIdeal.main_v3_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v52) = v0 c
          ∧ r.2.mem ((c.tc : Thread Cert.LossHeadRefIdeal.nD Cert.LossHeadRefIdeal.τ).loc Cert.LossHeadRefIdeal.main_v53) = v1 c
          ∧ r.2.mem ((c.tc : Thread Cert.LossHeadRefIdeal.nD Cert.LossHeadRefIdeal.τ).loc Cert.LossHeadRefIdeal.main_v54) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_SwigluBwd_SwigluBwdIdeal : Prop :=
  True

def algebraic_SwigluBwdIdeal_SwigluBwdRefIdeal_pre_swiglu_bwd_finite [hSwigluBwdIdeal : Cert.SwigluBwdIdeal.Facts] [hSwigluBwdRefIdeal : Cert.SwigluBwdRefIdeal.Facts] [hPre_swiglu_bwd_finite : Cert.Pre_swiglu_bwd_finite.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg)
    (m' : (ℓ : Loc Cert.SwigluBwdRefIdeal.nD Cert.SwigluBwdRefIdeal.τ Cert.SwigluBwdRefIdeal.sig) → Buf (Elt Ideal) ℓ) (g' : Dev Cert.SwigluBwdRefIdeal.nD → PrngReg), Pre_SwigluBwdIdeal_swiglu_bwd_finite m →
    (∀ c : Dev Cert.SwigluBwdIdeal.nD,
      m' ((c.tc : Thread Cert.SwigluBwdRefIdeal.nD Cert.SwigluBwdRefIdeal.τ).loc Cert.SwigluBwdRefIdeal.main_arg0) = m ((c.tc : Thread Cert.SwigluBwdIdeal.nD Cert.SwigluBwdIdeal.τ).loc Cert.SwigluBwdIdeal.main_arg0)
      ∧ m' ((c.tc : Thread Cert.SwigluBwdRefIdeal.nD Cert.SwigluBwdRefIdeal.τ).loc Cert.SwigluBwdRefIdeal.main_arg1) = m ((c.tc : Thread Cert.SwigluBwdIdeal.nD Cert.SwigluBwdIdeal.τ).loc Cert.SwigluBwdIdeal.main_arg1)
      ∧ m' ((c.tc : Thread Cert.SwigluBwdRefIdeal.nD Cert.SwigluBwdRefIdeal.τ).loc Cert.SwigluBwdRefIdeal.main_arg2) = m ((c.tc : Thread Cert.SwigluBwdIdeal.nD Cert.SwigluBwdIdeal.τ).loc Cert.SwigluBwdIdeal.main_arg2)) →
    ∃ (v0 : (c : Dev Cert.SwigluBwdIdeal.nD) → Buf (Elt Ideal) ((c.tc : Thread Cert.SwigluBwdIdeal.nD Cert.SwigluBwdIdeal.τ).loc Cert.SwigluBwdIdeal.main_v4_0)) (v1 : (c : Dev Cert.SwigluBwdIdeal.nD) → Buf (Elt Ideal) ((c.tc : Thread Cert.SwigluBwdIdeal.nD Cert.SwigluBwdIdeal.τ).loc Cert.SwigluBwdIdeal.main_v4_1)),
      θ_run (Cert.SwigluBwdIdeal.defs (F := Ideal)) (onTc (τ := Cert.SwigluBwdIdeal.τ) (Cert.SwigluBwdIdeal.main (F := Ideal))) ⟨m, fun _ => 0, g⟩ (fun r => ∀ c : Dev Cert.SwigluBwdIdeal.nD,
          r.2.mem ((c.tc : Thread Cert.SwigluBwdIdeal.nD Cert.SwigluBwdIdeal.τ).loc Cert.SwigluBwdIdeal.main_v4_0) = v0 c
          ∧ r.2.mem ((c.tc : Thread Cert.SwigluBwdIdeal.nD Cert.SwigluBwdIdeal.τ).loc Cert.SwigluBwdIdeal.main_v4_1) = v1 c
          ∧ r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
          ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
          ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2))
      ∧ θ_run (Cert.SwigluBwdRefIdeal.defs (F := Ideal)) (onTc (τ := Cert.SwigluBwdRefIdeal.τ) (Cert.SwigluBwdRefIdeal.main (F := Ideal))) ⟨m', fun _ => 0, g'⟩ (fun r => ∀ c : Dev Cert.SwigluBwdRefIdeal.nD,
          r.2.mem ((c.tc : Thread Cert.SwigluBwdRefIdeal.nD Cert.SwigluBwdRefIdeal.τ).loc Cert.SwigluBwdRefIdeal.main_v22) = v0 c
          ∧ r.2.mem ((c.tc : Thread Cert.SwigluBwdRefIdeal.nD Cert.SwigluBwdRefIdeal.τ).loc Cert.SwigluBwdRefIdeal.main_v10) = v1 c
          ∧ r.2.mem ((c.tc : Thread Cert.SwigluBwdRefIdeal.nD Cert.SwigluBwdRefIdeal.τ).loc Cert.SwigluBwdRefIdeal.main_arg0) = m' ((c.tc : Thread Cert.SwigluBwdRefIdeal.nD Cert.SwigluBwdRefIdeal.τ).loc Cert.SwigluBwdRefIdeal.main_arg0)
          ∧ r.2.mem ((c.tc : Thread Cert.SwigluBwdRefIdeal.nD Cert.SwigluBwdRefIdeal.τ).loc Cert.SwigluBwdRefIdeal.main_arg1) = m' ((c.tc : Thread Cert.SwigluBwdRefIdeal.nD Cert.SwigluBwdRefIdeal.τ).loc Cert.SwigluBwdRefIdeal.main_arg1)
          ∧ r.2.mem ((c.tc : Thread Cert.SwigluBwdRefIdeal.nD Cert.SwigluBwdRefIdeal.τ).loc Cert.SwigluBwdRefIdeal.main_arg2) = m' ((c.tc : Thread Cert.SwigluBwdRefIdeal.nD Cert.SwigluBwdRefIdeal.τ).loc Cert.SwigluBwdRefIdeal.main_arg2))

def preserves_NormFfnBwd_NormFfnBwdIdeal : Prop :=
  True

def algebraic_NormFfnBwdIdeal_NormFfnBwdRefIdeal [hNormFfnBwdIdeal : Cert.NormFfnBwdIdeal.Facts] [hNormFfnBwdRefIdeal : Cert.NormFfnBwdRefIdeal.Facts] : Prop :=
  ∀ (m : (ℓ : Loc Cert.NormFfnBwdIdeal.nD Cert.NormFfnBwdIdeal.τ Cert.NormFfnBwdIdeal.sig) → Buf (Elt Ideal) ℓ) (g : Dev Cert.NormFfnBwdIdeal.nD → PrngReg)
    (m' : (ℓ : Loc Cert.NormFfnBwdRefIdeal.nD Cert.NormFfnBwdRefIdeal.τ Cert.NormFfnBwdRefIdeal.sig) → Buf (Elt Ideal) ℓ) (g' : Dev Cert.NormFfnBwdRefIdeal.nD → PrngReg), Pre_NormFfnBwdIdeal m →
    (∀ c : Dev Cert.NormFfnBwdIdeal.nD,
      m' ((c.tc : Thread Cert.NormFfnBwdRefIdeal.nD Cert.NormFfnBwdRefIdeal.τ).loc Cert.NormFfnBwdRefIdeal.main_arg0) = m ((c.tc : Thread Cert.NormFfnBwdIdeal.nD Cert.NormFfnBwdIdeal.τ).loc Cert.NormFfnBwdIdeal.main_arg0)
      ∧ m' ((c.tc : Thread Cert.NormFfnBwdRefIdeal.nD Cert.NormFfnBwdRefIdeal.τ).loc Cert.NormFfnBwdRefIdeal.main_arg1) = m ((c.tc : Thread Cert.NormFfnBwdIdeal.nD Cert.NormFfnBwdIdeal.τ).loc Cert.NormFfnBwdIdeal.main_arg1)
      ∧ m' ((c.tc : Thread Cert.NormFfnBwdRefIdeal.nD Cert.NormFfnBwdRefIdeal.τ).loc Cert.NormFfnBwdRefIdeal.main_arg2) = m ((c.tc : Thread Cert.NormFfnBwdIdeal.nD Cert.NormFfnBwdIdeal.τ).loc Cert.NormFfnBwdIdeal.main_arg2)
      ∧ m' ((c.tc : Thread Cert.NormFfnBwdRefIdeal.nD Cert.NormFfnBwdRefIdeal.τ).loc Cert.NormFfnBwdRefIdeal.main_arg3) = m ((c.tc : Thread Cert.NormFfnBwdIdeal.nD Cert.NormFfnBwdIdeal.τ).loc Cert.NormFfnBwdIdeal.main_arg3)
      ∧ m' ((c.tc : Thread Cert.NormFfnBwdRefIdeal.nD Cert.NormFfnBwdRefIdeal.τ).loc Cert.NormFfnBwdRefIdeal.main_arg4) = m ((c.tc : Thread Cert.NormFfnBwdIdeal.nD Cert.NormFfnBwdIdeal.τ).loc Cert.NormFfnBwdIdeal.main_arg4)) →
    ∃ (v0 : (c : Dev Cert.NormFfnBwdIdeal.nD) → Buf (Elt Ideal) ((c.tc : Thread Cert.NormFfnBwdIdeal.nD Cert.NormFfnBwdIdeal.τ).loc Cert.NormFfnBwdIdeal.main_v9_0)) (v1 : (c : Dev Cert.NormFfnBwdIdeal.nD) → Buf (Elt Ideal) ((c.tc : Thread Cert.NormFfnBwdIdeal.nD Cert.NormFfnBwdIdeal.τ).loc Cert.NormFfnBwdIdeal.main_v9_1)) (v2 : (c : Dev Cert.NormFfnBwdIdeal.nD) → Buf (Elt Ideal) ((c.tc : Thread Cert.NormFfnBwdIdeal.nD Cert.NormFfnBwdIdeal.τ).loc Cert.NormFfnBwdIdeal.main_v9_2)),
      θ_run (Cert.NormFfnBwdIdeal.defs (F := Ideal)) (onTc (τ := Cert.NormFfnBwdIdeal.τ) (Cert.NormFfnBwdIdeal.main (F := Ideal))) ⟨m, fun _ => 0, g⟩ (fun r => ∀ c : Dev Cert.NormFfnBwdIdeal.nD,
          r.2.mem ((c.tc : Thread Cert.NormFfnBwdIdeal.nD Cert.NormFfnBwdIdeal.τ).loc Cert.NormFfnBwdIdeal.main_v9_0) = v0 c
          ∧ r.2.mem ((c.tc : Thread Cert.NormFfnBwdIdeal.nD Cert.NormFfnBwdIdeal.τ).loc Cert.NormFfnBwdIdeal.main_v9_1) = v1 c
          ∧ r.2.mem ((c.tc : Thread Cert.NormFfnBwdIdeal.nD Cert.NormFfnBwdIdeal.τ).loc Cert.NormFfnBwdIdeal.main_v9_2) = v2 c
          ∧ r.2.mem ((c.tc : Thread Cert.NormFfnBwdIdeal.nD Cert.NormFfnBwdIdeal.τ).loc Cert.NormFfnBwdIdeal.main_arg0) = m ((c.tc : Thread Cert.NormFfnBwdIdeal.nD Cert.NormFfnBwdIdeal.τ).loc Cert.NormFfnBwdIdeal.main_arg0)
          ∧ r.2.mem ((c.tc : Thread Cert.NormFfnBwdIdeal.nD Cert.NormFfnBwdIdeal.τ).loc Cert.NormFfnBwdIdeal.main_arg1) = m ((c.tc : Thread Cert.NormFfnBwdIdeal.nD Cert.NormFfnBwdIdeal.τ).loc Cert.NormFfnBwdIdeal.main_arg1)
          ∧ r.2.mem ((c.tc : Thread Cert.NormFfnBwdIdeal.nD Cert.NormFfnBwdIdeal.τ).loc Cert.NormFfnBwdIdeal.main_arg2) = m ((c.tc : Thread Cert.NormFfnBwdIdeal.nD Cert.NormFfnBwdIdeal.τ).loc Cert.NormFfnBwdIdeal.main_arg2)
          ∧ r.2.mem ((c.tc : Thread Cert.NormFfnBwdIdeal.nD Cert.NormFfnBwdIdeal.τ).loc Cert.NormFfnBwdIdeal.main_arg3) = m ((c.tc : Thread Cert.NormFfnBwdIdeal.nD Cert.NormFfnBwdIdeal.τ).loc Cert.NormFfnBwdIdeal.main_arg3)
          ∧ r.2.mem ((c.tc : Thread Cert.NormFfnBwdIdeal.nD Cert.NormFfnBwdIdeal.τ).loc Cert.NormFfnBwdIdeal.main_arg4) = m ((c.tc : Thread Cert.NormFfnBwdIdeal.nD Cert.NormFfnBwdIdeal.τ).loc Cert.NormFfnBwdIdeal.main_arg4))
      ∧ θ_run (Cert.NormFfnBwdRefIdeal.defs (F := Ideal)) (onTc (τ := Cert.NormFfnBwdRefIdeal.τ) (Cert.NormFfnBwdRefIdeal.main (F := Ideal))) ⟨m', fun _ => 0, g'⟩ (fun r => ∀ c : Dev Cert.NormFfnBwdRefIdeal.nD,
          r.2.mem ((c.tc : Thread Cert.NormFfnBwdRefIdeal.nD Cert.NormFfnBwdRefIdeal.τ).loc Cert.NormFfnBwdRefIdeal.main_v42) = v0 c
          ∧ r.2.mem ((c.tc : Thread Cert.NormFfnBwdRefIdeal.nD Cert.NormFfnBwdRefIdeal.τ).loc Cert.NormFfnBwdRefIdeal.main_v44) = v1 c
          ∧ r.2.mem ((c.tc : Thread Cert.NormFfnBwdRefIdeal.nD Cert.NormFfnBwdRefIdeal.τ).loc Cert.NormFfnBwdRefIdeal.main_v45) = v2 c
          ∧ r.2.mem ((c.tc : Thread Cert.NormFfnBwdRefIdeal.nD Cert.NormFfnBwdRefIdeal.τ).loc Cert.NormFfnBwdRefIdeal.main_arg0) = m' ((c.tc : Thread Cert.NormFfnBwdRefIdeal.nD Cert.NormFfnBwdRefIdeal.τ).loc Cert.NormFfnBwdRefIdeal.main_arg0)
          ∧ r.2.mem ((c.tc : Thread Cert.NormFfnBwdRefIdeal.nD Cert.NormFfnBwdRefIdeal.τ).loc Cert.NormFfnBwdRefIdeal.main_arg1) = m' ((c.tc : Thread Cert.NormFfnBwdRefIdeal.nD Cert.NormFfnBwdRefIdeal.τ).loc Cert.NormFfnBwdRefIdeal.main_arg1)
          ∧ r.2.mem ((c.tc : Thread Cert.NormFfnBwdRefIdeal.nD Cert.NormFfnBwdRefIdeal.τ).loc Cert.NormFfnBwdRefIdeal.main_arg2) = m' ((c.tc : Thread Cert.NormFfnBwdRefIdeal.nD Cert.NormFfnBwdRefIdeal.τ).loc Cert.NormFfnBwdRefIdeal.main_arg2)
          ∧ r.2.mem ((c.tc : Thread Cert.NormFfnBwdRefIdeal.nD Cert.NormFfnBwdRefIdeal.τ).loc Cert.NormFfnBwdRefIdeal.main_arg3) = m' ((c.tc : Thread Cert.NormFfnBwdRefIdeal.nD Cert.NormFfnBwdRefIdeal.τ).loc Cert.NormFfnBwdRefIdeal.main_arg3)
          ∧ r.2.mem ((c.tc : Thread Cert.NormFfnBwdRefIdeal.nD Cert.NormFfnBwdRefIdeal.τ).loc Cert.NormFfnBwdRefIdeal.main_arg4) = m' ((c.tc : Thread Cert.NormFfnBwdRefIdeal.nD Cert.NormFfnBwdRefIdeal.τ).loc Cert.NormFfnBwdRefIdeal.main_arg4))

def preserves_NormMixBwd_NormMixBwdIdeal : Prop :=
  True

def algebraic_NormMixBwdIdeal_NormMixBwdRefIdeal [hNormMixBwdIdeal : Cert.NormMixBwdIdeal.Facts] [hNormMixBwdRefIdeal : Cert.NormMixBwdRefIdeal.Facts] : Prop :=
  ∀ (m : (ℓ : Loc Cert.NormMixBwdIdeal.nD Cert.NormMixBwdIdeal.τ Cert.NormMixBwdIdeal.sig) → Buf (Elt Ideal) ℓ) (g : Dev Cert.NormMixBwdIdeal.nD → PrngReg)
    (m' : (ℓ : Loc Cert.NormMixBwdRefIdeal.nD Cert.NormMixBwdRefIdeal.τ Cert.NormMixBwdRefIdeal.sig) → Buf (Elt Ideal) ℓ) (g' : Dev Cert.NormMixBwdRefIdeal.nD → PrngReg), Pre_NormMixBwdIdeal m →
    (∀ c : Dev Cert.NormMixBwdIdeal.nD,
      m' ((c.tc : Thread Cert.NormMixBwdRefIdeal.nD Cert.NormMixBwdRefIdeal.τ).loc Cert.NormMixBwdRefIdeal.main_arg0) = m ((c.tc : Thread Cert.NormMixBwdIdeal.nD Cert.NormMixBwdIdeal.τ).loc Cert.NormMixBwdIdeal.main_arg0)
      ∧ m' ((c.tc : Thread Cert.NormMixBwdRefIdeal.nD Cert.NormMixBwdRefIdeal.τ).loc Cert.NormMixBwdRefIdeal.main_arg1) = m ((c.tc : Thread Cert.NormMixBwdIdeal.nD Cert.NormMixBwdIdeal.τ).loc Cert.NormMixBwdIdeal.main_arg1)
      ∧ m' ((c.tc : Thread Cert.NormMixBwdRefIdeal.nD Cert.NormMixBwdRefIdeal.τ).loc Cert.NormMixBwdRefIdeal.main_arg2) = m ((c.tc : Thread Cert.NormMixBwdIdeal.nD Cert.NormMixBwdIdeal.τ).loc Cert.NormMixBwdIdeal.main_arg2)
      ∧ m' ((c.tc : Thread Cert.NormMixBwdRefIdeal.nD Cert.NormMixBwdRefIdeal.τ).loc Cert.NormMixBwdRefIdeal.main_arg3) = m ((c.tc : Thread Cert.NormMixBwdIdeal.nD Cert.NormMixBwdIdeal.τ).loc Cert.NormMixBwdIdeal.main_arg3)
      ∧ m' ((c.tc : Thread Cert.NormMixBwdRefIdeal.nD Cert.NormMixBwdRefIdeal.τ).loc Cert.NormMixBwdRefIdeal.main_arg4) = m ((c.tc : Thread Cert.NormMixBwdIdeal.nD Cert.NormMixBwdIdeal.τ).loc Cert.NormMixBwdIdeal.main_arg4)) →
    ∃ (v0 : (c : Dev Cert.NormMixBwdIdeal.nD) → Buf (Elt Ideal) ((c.tc : Thread Cert.NormMixBwdIdeal.nD Cert.NormMixBwdIdeal.τ).loc Cert.NormMixBwdIdeal.main_v8_0)) (v1 : (c : Dev Cert.NormMixBwdIdeal.nD) → Buf (Elt Ideal) ((c.tc : Thread Cert.NormMixBwdIdeal.nD Cert.NormMixBwdIdeal.τ).loc Cert.NormMixBwdIdeal.main_v8_1)) (v2 : (c : Dev Cert.NormMixBwdIdeal.nD) → Buf (Elt Ideal) ((c.tc : Thread Cert.NormMixBwdIdeal.nD Cert.NormMixBwdIdeal.τ).loc Cert.NormMixBwdIdeal.main_v8_2)),
      θ_run (Cert.NormMixBwdIdeal.defs (F := Ideal)) (onTc (τ := Cert.NormMixBwdIdeal.τ) (Cert.NormMixBwdIdeal.main (F := Ideal))) ⟨m, fun _ => 0, g⟩ (fun r => ∀ c : Dev Cert.NormMixBwdIdeal.nD,
          r.2.mem ((c.tc : Thread Cert.NormMixBwdIdeal.nD Cert.NormMixBwdIdeal.τ).loc Cert.NormMixBwdIdeal.main_v8_0) = v0 c
          ∧ r.2.mem ((c.tc : Thread Cert.NormMixBwdIdeal.nD Cert.NormMixBwdIdeal.τ).loc Cert.NormMixBwdIdeal.main_v8_1) = v1 c
          ∧ r.2.mem ((c.tc : Thread Cert.NormMixBwdIdeal.nD Cert.NormMixBwdIdeal.τ).loc Cert.NormMixBwdIdeal.main_v8_2) = v2 c
          ∧ r.2.mem ((c.tc : Thread Cert.NormMixBwdIdeal.nD Cert.NormMixBwdIdeal.τ).loc Cert.NormMixBwdIdeal.main_arg0) = m ((c.tc : Thread Cert.NormMixBwdIdeal.nD Cert.NormMixBwdIdeal.τ).loc Cert.NormMixBwdIdeal.main_arg0)
          ∧ r.2.mem ((c.tc : Thread Cert.NormMixBwdIdeal.nD Cert.NormMixBwdIdeal.τ).loc Cert.NormMixBwdIdeal.main_arg1) = m ((c.tc : Thread Cert.NormMixBwdIdeal.nD Cert.NormMixBwdIdeal.τ).loc Cert.NormMixBwdIdeal.main_arg1)
          ∧ r.2.mem ((c.tc : Thread Cert.NormMixBwdIdeal.nD Cert.NormMixBwdIdeal.τ).loc Cert.NormMixBwdIdeal.main_arg2) = m ((c.tc : Thread Cert.NormMixBwdIdeal.nD Cert.NormMixBwdIdeal.τ).loc Cert.NormMixBwdIdeal.main_arg2)
          ∧ r.2.mem ((c.tc : Thread Cert.NormMixBwdIdeal.nD Cert.NormMixBwdIdeal.τ).loc Cert.NormMixBwdIdeal.main_arg3) = m ((c.tc : Thread Cert.NormMixBwdIdeal.nD Cert.NormMixBwdIdeal.τ).loc Cert.NormMixBwdIdeal.main_arg3)
          ∧ r.2.mem ((c.tc : Thread Cert.NormMixBwdIdeal.nD Cert.NormMixBwdIdeal.τ).loc Cert.NormMixBwdIdeal.main_arg4) = m ((c.tc : Thread Cert.NormMixBwdIdeal.nD Cert.NormMixBwdIdeal.τ).loc Cert.NormMixBwdIdeal.main_arg4))
      ∧ θ_run (Cert.NormMixBwdRefIdeal.defs (F := Ideal)) (onTc (τ := Cert.NormMixBwdRefIdeal.τ) (Cert.NormMixBwdRefIdeal.main (F := Ideal))) ⟨m', fun _ => 0, g'⟩ (fun r => ∀ c : Dev Cert.NormMixBwdRefIdeal.nD,
          r.2.mem ((c.tc : Thread Cert.NormMixBwdRefIdeal.nD Cert.NormMixBwdRefIdeal.τ).loc Cert.NormMixBwdRefIdeal.main_v42) = v0 c
          ∧ r.2.mem ((c.tc : Thread Cert.NormMixBwdRefIdeal.nD Cert.NormMixBwdRefIdeal.τ).loc Cert.NormMixBwdRefIdeal.main_v44) = v1 c
          ∧ r.2.mem ((c.tc : Thread Cert.NormMixBwdRefIdeal.nD Cert.NormMixBwdRefIdeal.τ).loc Cert.NormMixBwdRefIdeal.main_v45) = v2 c
          ∧ r.2.mem ((c.tc : Thread Cert.NormMixBwdRefIdeal.nD Cert.NormMixBwdRefIdeal.τ).loc Cert.NormMixBwdRefIdeal.main_arg0) = m' ((c.tc : Thread Cert.NormMixBwdRefIdeal.nD Cert.NormMixBwdRefIdeal.τ).loc Cert.NormMixBwdRefIdeal.main_arg0)
          ∧ r.2.mem ((c.tc : Thread Cert.NormMixBwdRefIdeal.nD Cert.NormMixBwdRefIdeal.τ).loc Cert.NormMixBwdRefIdeal.main_arg1) = m' ((c.tc : Thread Cert.NormMixBwdRefIdeal.nD Cert.NormMixBwdRefIdeal.τ).loc Cert.NormMixBwdRefIdeal.main_arg1)
          ∧ r.2.mem ((c.tc : Thread Cert.NormMixBwdRefIdeal.nD Cert.NormMixBwdRefIdeal.τ).loc Cert.NormMixBwdRefIdeal.main_arg2) = m' ((c.tc : Thread Cert.NormMixBwdRefIdeal.nD Cert.NormMixBwdRefIdeal.τ).loc Cert.NormMixBwdRefIdeal.main_arg2)
          ∧ r.2.mem ((c.tc : Thread Cert.NormMixBwdRefIdeal.nD Cert.NormMixBwdRefIdeal.τ).loc Cert.NormMixBwdRefIdeal.main_arg3) = m' ((c.tc : Thread Cert.NormMixBwdRefIdeal.nD Cert.NormMixBwdRefIdeal.τ).loc Cert.NormMixBwdRefIdeal.main_arg3)
          ∧ r.2.mem ((c.tc : Thread Cert.NormMixBwdRefIdeal.nD Cert.NormMixBwdRefIdeal.τ).loc Cert.NormMixBwdRefIdeal.main_arg4) = m' ((c.tc : Thread Cert.NormMixBwdRefIdeal.nD Cert.NormMixBwdRefIdeal.τ).loc Cert.NormMixBwdRefIdeal.main_arg4))

def preserves_MixOutBwd_MixOutBwdIdeal : Prop :=
  True

def algebraic_MixOutBwdIdeal_MixOutBwdRefIdeal [hMixOutBwdIdeal : Cert.MixOutBwdIdeal.Facts] [hMixOutBwdRefIdeal : Cert.MixOutBwdRefIdeal.Facts] : Prop :=
  ∀ (m : (ℓ : Loc Cert.MixOutBwdIdeal.nD Cert.MixOutBwdIdeal.τ Cert.MixOutBwdIdeal.sig) → Buf (Elt Ideal) ℓ) (g : Dev Cert.MixOutBwdIdeal.nD → PrngReg)
    (m' : (ℓ : Loc Cert.MixOutBwdRefIdeal.nD Cert.MixOutBwdRefIdeal.τ Cert.MixOutBwdRefIdeal.sig) → Buf (Elt Ideal) ℓ) (g' : Dev Cert.MixOutBwdRefIdeal.nD → PrngReg), Pre_MixOutBwdIdeal m →
    (∀ c : Dev Cert.MixOutBwdIdeal.nD,
      m' ((c.tc : Thread Cert.MixOutBwdRefIdeal.nD Cert.MixOutBwdRefIdeal.τ).loc Cert.MixOutBwdRefIdeal.main_arg0) = m ((c.tc : Thread Cert.MixOutBwdIdeal.nD Cert.MixOutBwdIdeal.τ).loc Cert.MixOutBwdIdeal.main_arg0)
      ∧ m' ((c.tc : Thread Cert.MixOutBwdRefIdeal.nD Cert.MixOutBwdRefIdeal.τ).loc Cert.MixOutBwdRefIdeal.main_arg1) = m ((c.tc : Thread Cert.MixOutBwdIdeal.nD Cert.MixOutBwdIdeal.τ).loc Cert.MixOutBwdIdeal.main_arg1)
      ∧ m' ((c.tc : Thread Cert.MixOutBwdRefIdeal.nD Cert.MixOutBwdRefIdeal.τ).loc Cert.MixOutBwdRefIdeal.main_arg2) = m ((c.tc : Thread Cert.MixOutBwdIdeal.nD Cert.MixOutBwdIdeal.τ).loc Cert.MixOutBwdIdeal.main_arg2)
      ∧ m' ((c.tc : Thread Cert.MixOutBwdRefIdeal.nD Cert.MixOutBwdRefIdeal.τ).loc Cert.MixOutBwdRefIdeal.main_arg3) = m ((c.tc : Thread Cert.MixOutBwdIdeal.nD Cert.MixOutBwdIdeal.τ).loc Cert.MixOutBwdIdeal.main_arg3)
      ∧ m' ((c.tc : Thread Cert.MixOutBwdRefIdeal.nD Cert.MixOutBwdRefIdeal.τ).loc Cert.MixOutBwdRefIdeal.main_arg4) = m ((c.tc : Thread Cert.MixOutBwdIdeal.nD Cert.MixOutBwdIdeal.τ).loc Cert.MixOutBwdIdeal.main_arg4)
      ∧ m' ((c.tc : Thread Cert.MixOutBwdRefIdeal.nD Cert.MixOutBwdRefIdeal.τ).loc Cert.MixOutBwdRefIdeal.main_arg5) = m ((c.tc : Thread Cert.MixOutBwdIdeal.nD Cert.MixOutBwdIdeal.τ).loc Cert.MixOutBwdIdeal.main_arg5)
      ∧ m' ((c.tc : Thread Cert.MixOutBwdRefIdeal.nD Cert.MixOutBwdRefIdeal.τ).loc Cert.MixOutBwdRefIdeal.main_arg6) = m ((c.tc : Thread Cert.MixOutBwdIdeal.nD Cert.MixOutBwdIdeal.τ).loc Cert.MixOutBwdIdeal.main_arg6)) →
    ∃ (v0 : (c : Dev Cert.MixOutBwdIdeal.nD) → Buf (Elt Ideal) ((c.tc : Thread Cert.MixOutBwdIdeal.nD Cert.MixOutBwdIdeal.τ).loc Cert.MixOutBwdIdeal.main_v11_0)) (v1 : (c : Dev Cert.MixOutBwdIdeal.nD) → Buf (Elt Ideal) ((c.tc : Thread Cert.MixOutBwdIdeal.nD Cert.MixOutBwdIdeal.τ).loc Cert.MixOutBwdIdeal.main_v11_1)) (v2 : (c : Dev Cert.MixOutBwdIdeal.nD) → Buf (Elt Ideal) ((c.tc : Thread Cert.MixOutBwdIdeal.nD Cert.MixOutBwdIdeal.τ).loc Cert.MixOutBwdIdeal.main_v11_2)) (v3 : (c : Dev Cert.MixOutBwdIdeal.nD) → Buf (Elt Ideal) ((c.tc : Thread Cert.MixOutBwdIdeal.nD Cert.MixOutBwdIdeal.τ).loc Cert.MixOutBwdIdeal.main_v11_3)) (v4 : (c : Dev Cert.MixOutBwdIdeal.nD) → Buf (Elt Ideal) ((c.tc : Thread Cert.MixOutBwdIdeal.nD Cert.MixOutBwdIdeal.τ).loc Cert.MixOutBwdIdeal.main_v11_4)) (v5 : (c : Dev Cert.MixOutBwdIdeal.nD) → Buf (Elt Ideal) ((c.tc : Thread Cert.MixOutBwdIdeal.nD Cert.MixOutBwdIdeal.τ).loc Cert.MixOutBwdIdeal.main_v11_5)),
      θ_run (Cert.MixOutBwdIdeal.defs (F := Ideal)) (onTc (τ := Cert.MixOutBwdIdeal.τ) (Cert.MixOutBwdIdeal.main (F := Ideal))) ⟨m, fun _ => 0, g⟩ (fun r => ∀ c : Dev Cert.MixOutBwdIdeal.nD,
          r.2.mem ((c.tc : Thread Cert.MixOutBwdIdeal.nD Cert.MixOutBwdIdeal.τ).loc Cert.MixOutBwdIdeal.main_v11_0) = v0 c
          ∧ r.2.mem ((c.tc : Thread Cert.MixOutBwdIdeal.nD Cert.MixOutBwdIdeal.τ).loc Cert.MixOutBwdIdeal.main_v11_1) = v1 c
          ∧ r.2.mem ((c.tc : Thread Cert.MixOutBwdIdeal.nD Cert.MixOutBwdIdeal.τ).loc Cert.MixOutBwdIdeal.main_v11_2) = v2 c
          ∧ r.2.mem ((c.tc : Thread Cert.MixOutBwdIdeal.nD Cert.MixOutBwdIdeal.τ).loc Cert.MixOutBwdIdeal.main_v11_3) = v3 c
          ∧ r.2.mem ((c.tc : Thread Cert.MixOutBwdIdeal.nD Cert.MixOutBwdIdeal.τ).loc Cert.MixOutBwdIdeal.main_v11_4) = v4 c
          ∧ r.2.mem ((c.tc : Thread Cert.MixOutBwdIdeal.nD Cert.MixOutBwdIdeal.τ).loc Cert.MixOutBwdIdeal.main_v11_5) = v5 c
          ∧ r.2.mem ((c.tc : Thread Cert.MixOutBwdIdeal.nD Cert.MixOutBwdIdeal.τ).loc Cert.MixOutBwdIdeal.main_arg0) = m ((c.tc : Thread Cert.MixOutBwdIdeal.nD Cert.MixOutBwdIdeal.τ).loc Cert.MixOutBwdIdeal.main_arg0)
          ∧ r.2.mem ((c.tc : Thread Cert.MixOutBwdIdeal.nD Cert.MixOutBwdIdeal.τ).loc Cert.MixOutBwdIdeal.main_arg1) = m ((c.tc : Thread Cert.MixOutBwdIdeal.nD Cert.MixOutBwdIdeal.τ).loc Cert.MixOutBwdIdeal.main_arg1)
          ∧ r.2.mem ((c.tc : Thread Cert.MixOutBwdIdeal.nD Cert.MixOutBwdIdeal.τ).loc Cert.MixOutBwdIdeal.main_arg2) = m ((c.tc : Thread Cert.MixOutBwdIdeal.nD Cert.MixOutBwdIdeal.τ).loc Cert.MixOutBwdIdeal.main_arg2)
          ∧ r.2.mem ((c.tc : Thread Cert.MixOutBwdIdeal.nD Cert.MixOutBwdIdeal.τ).loc Cert.MixOutBwdIdeal.main_arg3) = m ((c.tc : Thread Cert.MixOutBwdIdeal.nD Cert.MixOutBwdIdeal.τ).loc Cert.MixOutBwdIdeal.main_arg3)
          ∧ r.2.mem ((c.tc : Thread Cert.MixOutBwdIdeal.nD Cert.MixOutBwdIdeal.τ).loc Cert.MixOutBwdIdeal.main_arg4) = m ((c.tc : Thread Cert.MixOutBwdIdeal.nD Cert.MixOutBwdIdeal.τ).loc Cert.MixOutBwdIdeal.main_arg4)
          ∧ r.2.mem ((c.tc : Thread Cert.MixOutBwdIdeal.nD Cert.MixOutBwdIdeal.τ).loc Cert.MixOutBwdIdeal.main_arg5) = m ((c.tc : Thread Cert.MixOutBwdIdeal.nD Cert.MixOutBwdIdeal.τ).loc Cert.MixOutBwdIdeal.main_arg5)
          ∧ r.2.mem ((c.tc : Thread Cert.MixOutBwdIdeal.nD Cert.MixOutBwdIdeal.τ).loc Cert.MixOutBwdIdeal.main_arg6) = m ((c.tc : Thread Cert.MixOutBwdIdeal.nD Cert.MixOutBwdIdeal.τ).loc Cert.MixOutBwdIdeal.main_arg6))
      ∧ θ_run (Cert.MixOutBwdRefIdeal.defs (F := Ideal)) (onTc (τ := Cert.MixOutBwdRefIdeal.τ) (Cert.MixOutBwdRefIdeal.main (F := Ideal))) ⟨m', fun _ => 0, g'⟩ (fun r => ∀ c : Dev Cert.MixOutBwdRefIdeal.nD,
          r.2.mem ((c.tc : Thread Cert.MixOutBwdRefIdeal.nD Cert.MixOutBwdRefIdeal.τ).loc Cert.MixOutBwdRefIdeal.main_v36) = v0 c
          ∧ r.2.mem ((c.tc : Thread Cert.MixOutBwdRefIdeal.nD Cert.MixOutBwdRefIdeal.τ).loc Cert.MixOutBwdRefIdeal.main_v37) = v1 c
          ∧ r.2.mem ((c.tc : Thread Cert.MixOutBwdRefIdeal.nD Cert.MixOutBwdRefIdeal.τ).loc Cert.MixOutBwdRefIdeal.main_v38) = v2 c
          ∧ r.2.mem ((c.tc : Thread Cert.MixOutBwdRefIdeal.nD Cert.MixOutBwdRefIdeal.τ).loc Cert.MixOutBwdRefIdeal.main_v19) = v3 c
          ∧ r.2.mem ((c.tc : Thread Cert.MixOutBwdRefIdeal.nD Cert.MixOutBwdRefIdeal.τ).loc Cert.MixOutBwdRefIdeal.main_v40) = v4 c
          ∧ r.2.mem ((c.tc : Thread Cert.MixOutBwdRefIdeal.nD Cert.MixOutBwdRefIdeal.τ).loc Cert.MixOutBwdRefIdeal.main_v30) = v5 c
          ∧ r.2.mem ((c.tc : Thread Cert.MixOutBwdRefIdeal.nD Cert.MixOutBwdRefIdeal.τ).loc Cert.MixOutBwdRefIdeal.main_arg0) = m' ((c.tc : Thread Cert.MixOutBwdRefIdeal.nD Cert.MixOutBwdRefIdeal.τ).loc Cert.MixOutBwdRefIdeal.main_arg0)
          ∧ r.2.mem ((c.tc : Thread Cert.MixOutBwdRefIdeal.nD Cert.MixOutBwdRefIdeal.τ).loc Cert.MixOutBwdRefIdeal.main_arg1) = m' ((c.tc : Thread Cert.MixOutBwdRefIdeal.nD Cert.MixOutBwdRefIdeal.τ).loc Cert.MixOutBwdRefIdeal.main_arg1)
          ∧ r.2.mem ((c.tc : Thread Cert.MixOutBwdRefIdeal.nD Cert.MixOutBwdRefIdeal.τ).loc Cert.MixOutBwdRefIdeal.main_arg2) = m' ((c.tc : Thread Cert.MixOutBwdRefIdeal.nD Cert.MixOutBwdRefIdeal.τ).loc Cert.MixOutBwdRefIdeal.main_arg2)
          ∧ r.2.mem ((c.tc : Thread Cert.MixOutBwdRefIdeal.nD Cert.MixOutBwdRefIdeal.τ).loc Cert.MixOutBwdRefIdeal.main_arg3) = m' ((c.tc : Thread Cert.MixOutBwdRefIdeal.nD Cert.MixOutBwdRefIdeal.τ).loc Cert.MixOutBwdRefIdeal.main_arg3)
          ∧ r.2.mem ((c.tc : Thread Cert.MixOutBwdRefIdeal.nD Cert.MixOutBwdRefIdeal.τ).loc Cert.MixOutBwdRefIdeal.main_arg4) = m' ((c.tc : Thread Cert.MixOutBwdRefIdeal.nD Cert.MixOutBwdRefIdeal.τ).loc Cert.MixOutBwdRefIdeal.main_arg4)
          ∧ r.2.mem ((c.tc : Thread Cert.MixOutBwdRefIdeal.nD Cert.MixOutBwdRefIdeal.τ).loc Cert.MixOutBwdRefIdeal.main_arg5) = m' ((c.tc : Thread Cert.MixOutBwdRefIdeal.nD Cert.MixOutBwdRefIdeal.τ).loc Cert.MixOutBwdRefIdeal.main_arg5)
          ∧ r.2.mem ((c.tc : Thread Cert.MixOutBwdRefIdeal.nD Cert.MixOutBwdRefIdeal.τ).loc Cert.MixOutBwdRefIdeal.main_arg6) = m' ((c.tc : Thread Cert.MixOutBwdRefIdeal.nD Cert.MixOutBwdRefIdeal.τ).loc Cert.MixOutBwdRefIdeal.main_arg6))

def preserves_PoolBwd_PoolBwdIdeal : Prop :=
  True

def algebraic_PoolBwdIdeal_PoolBwdRefIdeal_pre_pool_bwd_finite [hPoolBwdIdeal : Cert.PoolBwdIdeal.Facts] [hPoolBwdRefIdeal : Cert.PoolBwdRefIdeal.Facts] [hPre_pool_bwd_finite : Cert.Pre_pool_bwd_finite.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolBwdRefIdeal.nD Cert.PoolBwdRefIdeal.τ Cert.PoolBwdRefIdeal.sig) → Buf (Elt Ideal) ℓ) (g' : Dev Cert.PoolBwdRefIdeal.nD → PrngReg), Pre_PoolBwdIdeal_pool_bwd_finite m →
    (∀ c : Dev Cert.PoolBwdIdeal.nD,
      m' ((c.tc : Thread Cert.PoolBwdRefIdeal.nD Cert.PoolBwdRefIdeal.τ).loc Cert.PoolBwdRefIdeal.main_arg0) = m ((c.tc : Thread Cert.PoolBwdIdeal.nD Cert.PoolBwdIdeal.τ).loc Cert.PoolBwdIdeal.main_arg0)
      ∧ m' ((c.tc : Thread Cert.PoolBwdRefIdeal.nD Cert.PoolBwdRefIdeal.τ).loc Cert.PoolBwdRefIdeal.main_arg1) = m ((c.tc : Thread Cert.PoolBwdIdeal.nD Cert.PoolBwdIdeal.τ).loc Cert.PoolBwdIdeal.main_arg1)
      ∧ m' ((c.tc : Thread Cert.PoolBwdRefIdeal.nD Cert.PoolBwdRefIdeal.τ).loc Cert.PoolBwdRefIdeal.main_arg2) = m ((c.tc : Thread Cert.PoolBwdIdeal.nD Cert.PoolBwdIdeal.τ).loc Cert.PoolBwdIdeal.main_arg2)
      ∧ m' ((c.tc : Thread Cert.PoolBwdRefIdeal.nD Cert.PoolBwdRefIdeal.τ).loc Cert.PoolBwdRefIdeal.main_arg3) = m ((c.tc : Thread Cert.PoolBwdIdeal.nD Cert.PoolBwdIdeal.τ).loc Cert.PoolBwdIdeal.main_arg3)
      ∧ m' ((c.tc : Thread Cert.PoolBwdRefIdeal.nD Cert.PoolBwdRefIdeal.τ).loc Cert.PoolBwdRefIdeal.main_arg4) = m ((c.tc : Thread Cert.PoolBwdIdeal.nD Cert.PoolBwdIdeal.τ).loc Cert.PoolBwdIdeal.main_arg4)) →
    ∃ (v0 : (c : Dev Cert.PoolBwdIdeal.nD) → Buf (Elt Ideal) ((c.tc : Thread Cert.PoolBwdIdeal.nD Cert.PoolBwdIdeal.τ).loc Cert.PoolBwdIdeal.main_v4_0)) (v1 : (c : Dev Cert.PoolBwdIdeal.nD) → Buf (Elt Ideal) ((c.tc : Thread Cert.PoolBwdIdeal.nD Cert.PoolBwdIdeal.τ).loc Cert.PoolBwdIdeal.main_v4_1)) (v2 : (c : Dev Cert.PoolBwdIdeal.nD) → Buf (Elt Ideal) ((c.tc : Thread Cert.PoolBwdIdeal.nD Cert.PoolBwdIdeal.τ).loc Cert.PoolBwdIdeal.main_v4_2)) (v3 : (c : Dev Cert.PoolBwdIdeal.nD) → Buf (Elt Ideal) ((c.tc : Thread Cert.PoolBwdIdeal.nD Cert.PoolBwdIdeal.τ).loc Cert.PoolBwdIdeal.main_v4_3)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v4_0) = v0 c
          ∧ r.2.mem ((c.tc : Thread Cert.PoolBwdIdeal.nD Cert.PoolBwdIdeal.τ).loc Cert.PoolBwdIdeal.main_v4_1) = v1 c
          ∧ r.2.mem ((c.tc : Thread Cert.PoolBwdIdeal.nD Cert.PoolBwdIdeal.τ).loc Cert.PoolBwdIdeal.main_v4_2) = v2 c
          ∧ r.2.mem ((c.tc : Thread Cert.PoolBwdIdeal.nD Cert.PoolBwdIdeal.τ).loc Cert.PoolBwdIdeal.main_v4_3) = v3 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
          ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4))
      ∧ θ_run (Cert.PoolBwdRefIdeal.defs (F := Ideal)) (onTc (τ := Cert.PoolBwdRefIdeal.τ) (Cert.PoolBwdRefIdeal.main (F := Ideal))) ⟨m', fun _ => 0, g'⟩ (fun r => ∀ c : Dev Cert.PoolBwdRefIdeal.nD,
          r.2.mem ((c.tc : Thread Cert.PoolBwdRefIdeal.nD Cert.PoolBwdRefIdeal.τ).loc Cert.PoolBwdRefIdeal.main_v180) = v0 c
          ∧ r.2.mem ((c.tc : Thread Cert.PoolBwdRefIdeal.nD Cert.PoolBwdRefIdeal.τ).loc Cert.PoolBwdRefIdeal.main_v110) = v1 c
          ∧ r.2.mem ((c.tc : Thread Cert.PoolBwdRefIdeal.nD Cert.PoolBwdRefIdeal.τ).loc Cert.PoolBwdRefIdeal.main_v181) = v2 c
          ∧ r.2.mem ((c.tc : Thread Cert.PoolBwdRefIdeal.nD Cert.PoolBwdRefIdeal.τ).loc Cert.PoolBwdRefIdeal.main_v182) = v3 c
          ∧ r.2.mem ((c.tc : Thread Cert.PoolBwdRefIdeal.nD Cert.PoolBwdRefIdeal.τ).loc Cert.PoolBwdRefIdeal.main_arg0) = m' ((c.tc : Thread Cert.PoolBwdRefIdeal.nD Cert.PoolBwdRefIdeal.τ).loc Cert.PoolBwdRefIdeal.main_arg0)
          ∧ r.2.mem ((c.tc : Thread Cert.PoolBwdRefIdeal.nD Cert.PoolBwdRefIdeal.τ).loc Cert.PoolBwdRefIdeal.main_arg1) = m' ((c.tc : Thread Cert.PoolBwdRefIdeal.nD Cert.PoolBwdRefIdeal.τ).loc Cert.PoolBwdRefIdeal.main_arg1)
          ∧ r.2.mem ((c.tc : Thread Cert.PoolBwdRefIdeal.nD Cert.PoolBwdRefIdeal.τ).loc Cert.PoolBwdRefIdeal.main_arg2) = m' ((c.tc : Thread Cert.PoolBwdRefIdeal.nD Cert.PoolBwdRefIdeal.τ).loc Cert.PoolBwdRefIdeal.main_arg2)
          ∧ r.2.mem ((c.tc : Thread Cert.PoolBwdRefIdeal.nD Cert.PoolBwdRefIdeal.τ).loc Cert.PoolBwdRefIdeal.main_arg3) = m' ((c.tc : Thread Cert.PoolBwdRefIdeal.nD Cert.PoolBwdRefIdeal.τ).loc Cert.PoolBwdRefIdeal.main_arg3)
          ∧ r.2.mem ((c.tc : Thread Cert.PoolBwdRefIdeal.nD Cert.PoolBwdRefIdeal.τ).loc Cert.PoolBwdRefIdeal.main_arg4) = m' ((c.tc : Thread Cert.PoolBwdRefIdeal.nD Cert.PoolBwdRefIdeal.τ).loc Cert.PoolBwdRefIdeal.main_arg4))

def preserves_LruBwd_LruBwdIdeal : Prop :=
  IdealRules.named_const.Statement Cert.LruBwdIdeal.κ "gelu_cubic" .f32 0x3D372713#32 ((8943 / 200000 : ℝ) : EReal)
  ∧ IdealRules.named_const.Statement Cert.LruBwdIdeal.κ "gelu_cubic_slope" .f32 0x3E095D4F#32 ((26829 / 200000 : ℝ) : EReal)

def algebraic_LruBwdIdeal_LruBwdRefIdeal_pre_lru_bwd_finite [hLruBwdIdeal : Cert.LruBwdIdeal.Facts] [hLruBwdRefIdeal : Cert.LruBwdRefIdeal.Facts] [hPre_lru_bwd_finite : Cert.Pre_lru_bwd_finite.Facts] : Prop :=
  ∀ (m : (ℓ : Loc Cert.LruBwdIdeal.nD Cert.LruBwdIdeal.τ Cert.LruBwdIdeal.sig) → Buf (Elt Ideal) ℓ) (g : Dev Cert.LruBwdIdeal.nD → PrngReg)
    (m' : (ℓ : Loc Cert.LruBwdRefIdeal.nD Cert.LruBwdRefIdeal.τ Cert.LruBwdRefIdeal.sig) → Buf (Elt Ideal) ℓ) (g' : Dev Cert.LruBwdRefIdeal.nD → PrngReg), Pre_LruBwdIdeal_lru_bwd_finite m →
    (∀ c : Dev Cert.LruBwdIdeal.nD,
      m' ((c.tc : Thread Cert.LruBwdRefIdeal.nD Cert.LruBwdRefIdeal.τ).loc Cert.LruBwdRefIdeal.main_arg0) = m ((c.tc : Thread Cert.LruBwdIdeal.nD Cert.LruBwdIdeal.τ).loc Cert.LruBwdIdeal.main_arg0)
      ∧ m' ((c.tc : Thread Cert.LruBwdRefIdeal.nD Cert.LruBwdRefIdeal.τ).loc Cert.LruBwdRefIdeal.main_arg1) = m ((c.tc : Thread Cert.LruBwdIdeal.nD Cert.LruBwdIdeal.τ).loc Cert.LruBwdIdeal.main_arg1)
      ∧ m' ((c.tc : Thread Cert.LruBwdRefIdeal.nD Cert.LruBwdRefIdeal.τ).loc Cert.LruBwdRefIdeal.main_arg2) = m ((c.tc : Thread Cert.LruBwdIdeal.nD Cert.LruBwdIdeal.τ).loc Cert.LruBwdIdeal.main_arg2)
      ∧ m' ((c.tc : Thread Cert.LruBwdRefIdeal.nD Cert.LruBwdRefIdeal.τ).loc Cert.LruBwdRefIdeal.main_arg3) = m ((c.tc : Thread Cert.LruBwdIdeal.nD Cert.LruBwdIdeal.τ).loc Cert.LruBwdIdeal.main_arg3)
      ∧ m' ((c.tc : Thread Cert.LruBwdRefIdeal.nD Cert.LruBwdRefIdeal.τ).loc Cert.LruBwdRefIdeal.main_arg4) = m ((c.tc : Thread Cert.LruBwdIdeal.nD Cert.LruBwdIdeal.τ).loc Cert.LruBwdIdeal.main_arg4)
      ∧ m' ((c.tc : Thread Cert.LruBwdRefIdeal.nD Cert.LruBwdRefIdeal.τ).loc Cert.LruBwdRefIdeal.main_arg5) = m ((c.tc : Thread Cert.LruBwdIdeal.nD Cert.LruBwdIdeal.τ).loc Cert.LruBwdIdeal.main_arg5)
      ∧ m' ((c.tc : Thread Cert.LruBwdRefIdeal.nD Cert.LruBwdRefIdeal.τ).loc Cert.LruBwdRefIdeal.main_arg6) = m ((c.tc : Thread Cert.LruBwdIdeal.nD Cert.LruBwdIdeal.τ).loc Cert.LruBwdIdeal.main_arg6)
      ∧ m' ((c.tc : Thread Cert.LruBwdRefIdeal.nD Cert.LruBwdRefIdeal.τ).loc Cert.LruBwdRefIdeal.main_arg7) = m ((c.tc : Thread Cert.LruBwdIdeal.nD Cert.LruBwdIdeal.τ).loc Cert.LruBwdIdeal.main_arg7)
      ∧ m' ((c.tc : Thread Cert.LruBwdRefIdeal.nD Cert.LruBwdRefIdeal.τ).loc Cert.LruBwdRefIdeal.main_arg8) = m ((c.tc : Thread Cert.LruBwdIdeal.nD Cert.LruBwdIdeal.τ).loc Cert.LruBwdIdeal.main_arg8)) →
    ∃ (v0 : (c : Dev Cert.LruBwdIdeal.nD) → Buf (Elt Ideal) ((c.tc : Thread Cert.LruBwdIdeal.nD Cert.LruBwdIdeal.τ).loc Cert.LruBwdIdeal.main_v104_0)) (v1 : (c : Dev Cert.LruBwdIdeal.nD) → Buf (Elt Ideal) ((c.tc : Thread Cert.LruBwdIdeal.nD Cert.LruBwdIdeal.τ).loc Cert.LruBwdIdeal.main_v104_1)) (v2 : (c : Dev Cert.LruBwdIdeal.nD) → Buf (Elt Ideal) ((c.tc : Thread Cert.LruBwdIdeal.nD Cert.LruBwdIdeal.τ).loc Cert.LruBwdIdeal.main_v104_2)) (v3 : (c : Dev Cert.LruBwdIdeal.nD) → Buf (Elt Ideal) ((c.tc : Thread Cert.LruBwdIdeal.nD Cert.LruBwdIdeal.τ).loc Cert.LruBwdIdeal.main_v104_3)) (v4 : (c : Dev Cert.LruBwdIdeal.nD) → Buf (Elt Ideal) ((c.tc : Thread Cert.LruBwdIdeal.nD Cert.LruBwdIdeal.τ).loc Cert.LruBwdIdeal.main_v104_4)) (v5 : (c : Dev Cert.LruBwdIdeal.nD) → Buf (Elt Ideal) ((c.tc : Thread Cert.LruBwdIdeal.nD Cert.LruBwdIdeal.τ).loc Cert.LruBwdIdeal.main_v104_5)) (v6 : (c : Dev Cert.LruBwdIdeal.nD) → Buf (Elt Ideal) ((c.tc : Thread Cert.LruBwdIdeal.nD Cert.LruBwdIdeal.τ).loc Cert.LruBwdIdeal.main_v104_6)) (v7 : (c : Dev Cert.LruBwdIdeal.nD) → Buf (Elt Ideal) ((c.tc : Thread Cert.LruBwdIdeal.nD Cert.LruBwdIdeal.τ).loc Cert.LruBwdIdeal.main_v104_7)) (v8 : (c : Dev Cert.LruBwdIdeal.nD) → Buf (Elt Ideal) ((c.tc : Thread Cert.LruBwdIdeal.nD Cert.LruBwdIdeal.τ).loc Cert.LruBwdIdeal.main_v104_8)),
      θ_run (Cert.LruBwdIdeal.defs (F := Ideal)) (onTc (τ := Cert.LruBwdIdeal.τ) (Cert.LruBwdIdeal.main (F := Ideal))) ⟨m, fun _ => 0, g⟩ (fun r => ∀ c : Dev Cert.LruBwdIdeal.nD,
          r.2.mem ((c.tc : Thread Cert.LruBwdIdeal.nD Cert.LruBwdIdeal.τ).loc Cert.LruBwdIdeal.main_v104_0) = v0 c
          ∧ r.2.mem ((c.tc : Thread Cert.LruBwdIdeal.nD Cert.LruBwdIdeal.τ).loc Cert.LruBwdIdeal.main_v104_1) = v1 c
          ∧ r.2.mem ((c.tc : Thread Cert.LruBwdIdeal.nD Cert.LruBwdIdeal.τ).loc Cert.LruBwdIdeal.main_v104_2) = v2 c
          ∧ r.2.mem ((c.tc : Thread Cert.LruBwdIdeal.nD Cert.LruBwdIdeal.τ).loc Cert.LruBwdIdeal.main_v104_3) = v3 c
          ∧ r.2.mem ((c.tc : Thread Cert.LruBwdIdeal.nD Cert.LruBwdIdeal.τ).loc Cert.LruBwdIdeal.main_v104_4) = v4 c
          ∧ r.2.mem ((c.tc : Thread Cert.LruBwdIdeal.nD Cert.LruBwdIdeal.τ).loc Cert.LruBwdIdeal.main_v104_5) = v5 c
          ∧ r.2.mem ((c.tc : Thread Cert.LruBwdIdeal.nD Cert.LruBwdIdeal.τ).loc Cert.LruBwdIdeal.main_v104_6) = v6 c
          ∧ r.2.mem ((c.tc : Thread Cert.LruBwdIdeal.nD Cert.LruBwdIdeal.τ).loc Cert.LruBwdIdeal.main_v104_7) = v7 c
          ∧ r.2.mem ((c.tc : Thread Cert.LruBwdIdeal.nD Cert.LruBwdIdeal.τ).loc Cert.LruBwdIdeal.main_v104_8) = v8 c
          ∧ r.2.mem ((c.tc : Thread Cert.LruBwdIdeal.nD Cert.LruBwdIdeal.τ).loc Cert.LruBwdIdeal.main_arg0) = m ((c.tc : Thread Cert.LruBwdIdeal.nD Cert.LruBwdIdeal.τ).loc Cert.LruBwdIdeal.main_arg0)
          ∧ r.2.mem ((c.tc : Thread Cert.LruBwdIdeal.nD Cert.LruBwdIdeal.τ).loc Cert.LruBwdIdeal.main_arg1) = m ((c.tc : Thread Cert.LruBwdIdeal.nD Cert.LruBwdIdeal.τ).loc Cert.LruBwdIdeal.main_arg1)
          ∧ r.2.mem ((c.tc : Thread Cert.LruBwdIdeal.nD Cert.LruBwdIdeal.τ).loc Cert.LruBwdIdeal.main_arg2) = m ((c.tc : Thread Cert.LruBwdIdeal.nD Cert.LruBwdIdeal.τ).loc Cert.LruBwdIdeal.main_arg2)
          ∧ r.2.mem ((c.tc : Thread Cert.LruBwdIdeal.nD Cert.LruBwdIdeal.τ).loc Cert.LruBwdIdeal.main_arg3) = m ((c.tc : Thread Cert.LruBwdIdeal.nD Cert.LruBwdIdeal.τ).loc Cert.LruBwdIdeal.main_arg3)
          ∧ r.2.mem ((c.tc : Thread Cert.LruBwdIdeal.nD Cert.LruBwdIdeal.τ).loc Cert.LruBwdIdeal.main_arg4) = m ((c.tc : Thread Cert.LruBwdIdeal.nD Cert.LruBwdIdeal.τ).loc Cert.LruBwdIdeal.main_arg4)
          ∧ r.2.mem ((c.tc : Thread Cert.LruBwdIdeal.nD Cert.LruBwdIdeal.τ).loc Cert.LruBwdIdeal.main_arg5) = m ((c.tc : Thread Cert.LruBwdIdeal.nD Cert.LruBwdIdeal.τ).loc Cert.LruBwdIdeal.main_arg5)
          ∧ r.2.mem ((c.tc : Thread Cert.LruBwdIdeal.nD Cert.LruBwdIdeal.τ).loc Cert.LruBwdIdeal.main_arg6) = m ((c.tc : Thread Cert.LruBwdIdeal.nD Cert.LruBwdIdeal.τ).loc Cert.LruBwdIdeal.main_arg6)
          ∧ r.2.mem ((c.tc : Thread Cert.LruBwdIdeal.nD Cert.LruBwdIdeal.τ).loc Cert.LruBwdIdeal.main_arg7) = m ((c.tc : Thread Cert.LruBwdIdeal.nD Cert.LruBwdIdeal.τ).loc Cert.LruBwdIdeal.main_arg7)
          ∧ r.2.mem ((c.tc : Thread Cert.LruBwdIdeal.nD Cert.LruBwdIdeal.τ).loc Cert.LruBwdIdeal.main_arg8) = m ((c.tc : Thread Cert.LruBwdIdeal.nD Cert.LruBwdIdeal.τ).loc Cert.LruBwdIdeal.main_arg8))
      ∧ θ_run (Cert.LruBwdRefIdeal.defs (F := Ideal)) (onTc (τ := Cert.LruBwdRefIdeal.τ) (Cert.LruBwdRefIdeal.main (F := Ideal))) ⟨m', fun _ => 0, g'⟩ (fun r => ∀ c : Dev Cert.LruBwdRefIdeal.nD,
          r.2.mem ((c.tc : Thread Cert.LruBwdRefIdeal.nD Cert.LruBwdRefIdeal.τ).loc Cert.LruBwdRefIdeal.main_v262) = v0 c
          ∧ r.2.mem ((c.tc : Thread Cert.LruBwdRefIdeal.nD Cert.LruBwdRefIdeal.τ).loc Cert.LruBwdRefIdeal.main_v264) = v1 c
          ∧ r.2.mem ((c.tc : Thread Cert.LruBwdRefIdeal.nD Cert.LruBwdRefIdeal.τ).loc Cert.LruBwdRefIdeal.main_v256) = v2 c
          ∧ r.2.mem ((c.tc : Thread Cert.LruBwdRefIdeal.nD Cert.LruBwdRefIdeal.τ).loc Cert.LruBwdRefIdeal.main_v265) = v3 c
          ∧ r.2.mem ((c.tc : Thread Cert.LruBwdRefIdeal.nD Cert.LruBwdRefIdeal.τ).loc Cert.LruBwdRefIdeal.main_v212) = v4 c
          ∧ r.2.mem ((c.tc : Thread Cert.LruBwdRefIdeal.nD Cert.LruBwdRefIdeal.τ).loc Cert.LruBwdRefIdeal.main_v266) = v5 c
          ∧ r.2.mem ((c.tc : Thread Cert.LruBwdRefIdeal.nD Cert.LruBwdRefIdeal.τ).loc Cert.LruBwdRefIdeal.main_v202) = v6 c
          ∧ r.2.mem ((c.tc : Thread Cert.LruBwdRefIdeal.nD Cert.LruBwdRefIdeal.τ).loc Cert.LruBwdRefIdeal.main_v267) = v7 c
          ∧ r.2.mem ((c.tc : Thread Cert.LruBwdRefIdeal.nD Cert.LruBwdRefIdeal.τ).loc Cert.LruBwdRefIdeal.main_v268) = v8 c
          ∧ r.2.mem ((c.tc : Thread Cert.LruBwdRefIdeal.nD Cert.LruBwdRefIdeal.τ).loc Cert.LruBwdRefIdeal.main_arg0) = m' ((c.tc : Thread Cert.LruBwdRefIdeal.nD Cert.LruBwdRefIdeal.τ).loc Cert.LruBwdRefIdeal.main_arg0)
          ∧ r.2.mem ((c.tc : Thread Cert.LruBwdRefIdeal.nD Cert.LruBwdRefIdeal.τ).loc Cert.LruBwdRefIdeal.main_arg1) = m' ((c.tc : Thread Cert.LruBwdRefIdeal.nD Cert.LruBwdRefIdeal.τ).loc Cert.LruBwdRefIdeal.main_arg1)
          ∧ r.2.mem ((c.tc : Thread Cert.LruBwdRefIdeal.nD Cert.LruBwdRefIdeal.τ).loc Cert.LruBwdRefIdeal.main_arg2) = m' ((c.tc : Thread Cert.LruBwdRefIdeal.nD Cert.LruBwdRefIdeal.τ).loc Cert.LruBwdRefIdeal.main_arg2)
          ∧ r.2.mem ((c.tc : Thread Cert.LruBwdRefIdeal.nD Cert.LruBwdRefIdeal.τ).loc Cert.LruBwdRefIdeal.main_arg3) = m' ((c.tc : Thread Cert.LruBwdRefIdeal.nD Cert.LruBwdRefIdeal.τ).loc Cert.LruBwdRefIdeal.main_arg3)
          ∧ r.2.mem ((c.tc : Thread Cert.LruBwdRefIdeal.nD Cert.LruBwdRefIdeal.τ).loc Cert.LruBwdRefIdeal.main_arg4) = m' ((c.tc : Thread Cert.LruBwdRefIdeal.nD Cert.LruBwdRefIdeal.τ).loc Cert.LruBwdRefIdeal.main_arg4)
          ∧ r.2.mem ((c.tc : Thread Cert.LruBwdRefIdeal.nD Cert.LruBwdRefIdeal.τ).loc Cert.LruBwdRefIdeal.main_arg5) = m' ((c.tc : Thread Cert.LruBwdRefIdeal.nD Cert.LruBwdRefIdeal.τ).loc Cert.LruBwdRefIdeal.main_arg5)
          ∧ r.2.mem ((c.tc : Thread Cert.LruBwdRefIdeal.nD Cert.LruBwdRefIdeal.τ).loc Cert.LruBwdRefIdeal.main_arg6) = m' ((c.tc : Thread Cert.LruBwdRefIdeal.nD Cert.LruBwdRefIdeal.τ).loc Cert.LruBwdRefIdeal.main_arg6)
          ∧ r.2.mem ((c.tc : Thread Cert.LruBwdRefIdeal.nD Cert.LruBwdRefIdeal.τ).loc Cert.LruBwdRefIdeal.main_arg7) = m' ((c.tc : Thread Cert.LruBwdRefIdeal.nD Cert.LruBwdRefIdeal.τ).loc Cert.LruBwdRefIdeal.main_arg7)
          ∧ r.2.mem ((c.tc : Thread Cert.LruBwdRefIdeal.nD Cert.LruBwdRefIdeal.τ).loc Cert.LruBwdRefIdeal.main_arg8) = m' ((c.tc : Thread Cert.LruBwdRefIdeal.nD Cert.LruBwdRefIdeal.τ).loc Cert.LruBwdRefIdeal.main_arg8))

def preserves_SwigluFwd_SwigluFwdIdeal : Prop :=
  True

def algebraic_SwigluFwdIdeal_SwigluFwdRefIdeal [hSwigluFwdIdeal : Cert.SwigluFwdIdeal.Facts] [hSwigluFwdRefIdeal : Cert.SwigluFwdRefIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg)
    (m' : (ℓ : Loc Cert.SwigluFwdRefIdeal.nD Cert.SwigluFwdRefIdeal.τ Cert.SwigluFwdRefIdeal.sig) → Buf (Elt Ideal) ℓ) (g' : Dev Cert.SwigluFwdRefIdeal.nD → PrngReg), Pre_SwigluFwdIdeal m →
    (∀ c : Dev Cert.SwigluFwdIdeal.nD,
      m' ((c.tc : Thread Cert.SwigluFwdRefIdeal.nD Cert.SwigluFwdRefIdeal.τ).loc Cert.SwigluFwdRefIdeal.main_arg0) = m ((c.tc : Thread Cert.SwigluFwdIdeal.nD Cert.SwigluFwdIdeal.τ).loc Cert.SwigluFwdIdeal.main_arg0)
      ∧ m' ((c.tc : Thread Cert.SwigluFwdRefIdeal.nD Cert.SwigluFwdRefIdeal.τ).loc Cert.SwigluFwdRefIdeal.main_arg1) = m ((c.tc : Thread Cert.SwigluFwdIdeal.nD Cert.SwigluFwdIdeal.τ).loc Cert.SwigluFwdIdeal.main_arg1)
      ∧ m' ((c.tc : Thread Cert.SwigluFwdRefIdeal.nD Cert.SwigluFwdRefIdeal.τ).loc Cert.SwigluFwdRefIdeal.main_arg2) = m ((c.tc : Thread Cert.SwigluFwdIdeal.nD Cert.SwigluFwdIdeal.τ).loc Cert.SwigluFwdIdeal.main_arg2)) →
    ∃ (v0 : (c : Dev Cert.SwigluFwdIdeal.nD) → Buf (Elt Ideal) ((c.tc : Thread Cert.SwigluFwdIdeal.nD Cert.SwigluFwdIdeal.τ).loc Cert.SwigluFwdIdeal.main_v4)),
      θ_run (Cert.SwigluFwdIdeal.defs (F := Ideal)) (onTc (τ := Cert.SwigluFwdIdeal.τ) (Cert.SwigluFwdIdeal.main (F := Ideal))) ⟨m, fun _ => 0, g⟩ (fun r => ∀ c : Dev Cert.SwigluFwdIdeal.nD,
          r.2.mem ((c.tc : Thread Cert.SwigluFwdIdeal.nD Cert.SwigluFwdIdeal.τ).loc Cert.SwigluFwdIdeal.main_v4) = v0 c
          ∧ r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0)
          ∧ r.2.mem ((c.tc : Thread Cert.SwigluFwdIdeal.nD Cert.SwigluFwdIdeal.τ).loc Cert.SwigluFwdIdeal.main_arg1) = m ((c.tc : Thread Cert.SwigluFwdIdeal.nD Cert.SwigluFwdIdeal.τ).loc Cert.SwigluFwdIdeal.main_arg1)
          ∧ r.2.mem ((c.tc : Thread Cert.SwigluFwdIdeal.nD Cert.SwigluFwdIdeal.τ).loc Cert.SwigluFwdIdeal.main_arg2) = m ((c.tc : Thread Cert.SwigluFwdIdeal.nD Cert.SwigluFwdIdeal.τ).loc Cert.SwigluFwdIdeal.main_arg2))
      ∧ θ_run (Cert.SwigluFwdRefIdeal.defs (F := Ideal)) (onTc (τ := Cert.SwigluFwdRefIdeal.τ) (Cert.SwigluFwdRefIdeal.main (F := Ideal))) ⟨m', fun _ => 0, g'⟩ (fun r => ∀ c : Dev Cert.SwigluFwdRefIdeal.nD,
          r.2.mem ((c.tc : Thread Cert.SwigluFwdRefIdeal.nD Cert.SwigluFwdRefIdeal.τ).loc Cert.SwigluFwdRefIdeal.main_v8) = v0 c
          ∧ r.2.mem ((c.tc : Thread Cert.SwigluFwdRefIdeal.nD Cert.SwigluFwdRefIdeal.τ).loc Cert.SwigluFwdRefIdeal.main_arg0) = m' ((c.tc : Thread Cert.SwigluFwdRefIdeal.nD Cert.SwigluFwdRefIdeal.τ).loc Cert.SwigluFwdRefIdeal.main_arg0)
          ∧ r.2.mem ((c.tc : Thread Cert.SwigluFwdRefIdeal.nD Cert.SwigluFwdRefIdeal.τ).loc Cert.SwigluFwdRefIdeal.main_arg1) = m' ((c.tc : Thread Cert.SwigluFwdRefIdeal.nD Cert.SwigluFwdRefIdeal.τ).loc Cert.SwigluFwdRefIdeal.main_arg1)
          ∧ r.2.mem ((c.tc : Thread Cert.SwigluFwdRefIdeal.nD Cert.SwigluFwdRefIdeal.τ).loc Cert.SwigluFwdRefIdeal.main_arg2) = m' ((c.tc : Thread Cert.SwigluFwdRefIdeal.nD Cert.SwigluFwdRefIdeal.τ).loc Cert.SwigluFwdRefIdeal.main_arg2))

def preserves_NormFfnFwd_NormFfnFwdIdeal : Prop :=
  True

def algebraic_NormFfnFwdIdeal_NormFfnFwdRefIdeal [hNormFfnFwdIdeal : Cert.NormFfnFwdIdeal.Facts] [hNormFfnFwdRefIdeal : Cert.NormFfnFwdRefIdeal.Facts] : Prop :=
  ∀ (m : (ℓ : Loc Cert.NormFfnFwdIdeal.nD Cert.NormFfnFwdIdeal.τ Cert.NormFfnFwdIdeal.sig) → Buf (Elt Ideal) ℓ) (g : Dev Cert.NormFfnFwdIdeal.nD → PrngReg)
    (m' : (ℓ : Loc Cert.NormFfnFwdRefIdeal.nD Cert.NormFfnFwdRefIdeal.τ Cert.NormFfnFwdRefIdeal.sig) → Buf (Elt Ideal) ℓ) (g' : Dev Cert.NormFfnFwdRefIdeal.nD → PrngReg), Pre_NormFfnFwdIdeal m →
    (∀ c : Dev Cert.NormFfnFwdIdeal.nD,
      m' ((c.tc : Thread Cert.NormFfnFwdRefIdeal.nD Cert.NormFfnFwdRefIdeal.τ).loc Cert.NormFfnFwdRefIdeal.main_arg0) = m ((c.tc : Thread Cert.NormFfnFwdIdeal.nD Cert.NormFfnFwdIdeal.τ).loc Cert.NormFfnFwdIdeal.main_arg0)
      ∧ m' ((c.tc : Thread Cert.NormFfnFwdRefIdeal.nD Cert.NormFfnFwdRefIdeal.τ).loc Cert.NormFfnFwdRefIdeal.main_arg1) = m ((c.tc : Thread Cert.NormFfnFwdIdeal.nD Cert.NormFfnFwdIdeal.τ).loc Cert.NormFfnFwdIdeal.main_arg1)
      ∧ m' ((c.tc : Thread Cert.NormFfnFwdRefIdeal.nD Cert.NormFfnFwdRefIdeal.τ).loc Cert.NormFfnFwdRefIdeal.main_arg2) = m ((c.tc : Thread Cert.NormFfnFwdIdeal.nD Cert.NormFfnFwdIdeal.τ).loc Cert.NormFfnFwdIdeal.main_arg2)) →
    ∃ (v0 : (c : Dev Cert.NormFfnFwdIdeal.nD) → Buf (Elt Ideal) ((c.tc : Thread Cert.NormFfnFwdIdeal.nD Cert.NormFfnFwdIdeal.τ).loc Cert.NormFfnFwdIdeal.main_v5)),
      θ_run (Cert.NormFfnFwdIdeal.defs (F := Ideal)) (onTc (τ := Cert.NormFfnFwdIdeal.τ) (Cert.NormFfnFwdIdeal.main (F := Ideal))) ⟨m, fun _ => 0, g⟩ (fun r => ∀ c : Dev Cert.NormFfnFwdIdeal.nD,
          r.2.mem ((c.tc : Thread Cert.NormFfnFwdIdeal.nD Cert.NormFfnFwdIdeal.τ).loc Cert.NormFfnFwdIdeal.main_v5) = v0 c
          ∧ r.2.mem ((c.tc : Thread Cert.NormFfnFwdIdeal.nD Cert.NormFfnFwdIdeal.τ).loc Cert.NormFfnFwdIdeal.main_arg0) = m ((c.tc : Thread Cert.NormFfnFwdIdeal.nD Cert.NormFfnFwdIdeal.τ).loc Cert.NormFfnFwdIdeal.main_arg0)
          ∧ r.2.mem ((c.tc : Thread Cert.NormFfnFwdIdeal.nD Cert.NormFfnFwdIdeal.τ).loc Cert.NormFfnFwdIdeal.main_arg1) = m ((c.tc : Thread Cert.NormFfnFwdIdeal.nD Cert.NormFfnFwdIdeal.τ).loc Cert.NormFfnFwdIdeal.main_arg1)
          ∧ r.2.mem ((c.tc : Thread Cert.NormFfnFwdIdeal.nD Cert.NormFfnFwdIdeal.τ).loc Cert.NormFfnFwdIdeal.main_arg2) = m ((c.tc : Thread Cert.NormFfnFwdIdeal.nD Cert.NormFfnFwdIdeal.τ).loc Cert.NormFfnFwdIdeal.main_arg2))
      ∧ θ_run (Cert.NormFfnFwdRefIdeal.defs (F := Ideal)) (onTc (τ := Cert.NormFfnFwdRefIdeal.τ) (Cert.NormFfnFwdRefIdeal.main (F := Ideal))) ⟨m', fun _ => 0, g'⟩ (fun r => ∀ c : Dev Cert.NormFfnFwdRefIdeal.nD,
          r.2.mem ((c.tc : Thread Cert.NormFfnFwdRefIdeal.nD Cert.NormFfnFwdRefIdeal.τ).loc Cert.NormFfnFwdRefIdeal.main_v15) = v0 c
          ∧ r.2.mem ((c.tc : Thread Cert.NormFfnFwdRefIdeal.nD Cert.NormFfnFwdRefIdeal.τ).loc Cert.NormFfnFwdRefIdeal.main_arg0) = m' ((c.tc : Thread Cert.NormFfnFwdRefIdeal.nD Cert.NormFfnFwdRefIdeal.τ).loc Cert.NormFfnFwdRefIdeal.main_arg0)
          ∧ r.2.mem ((c.tc : Thread Cert.NormFfnFwdRefIdeal.nD Cert.NormFfnFwdRefIdeal.τ).loc Cert.NormFfnFwdRefIdeal.main_arg1) = m' ((c.tc : Thread Cert.NormFfnFwdRefIdeal.nD Cert.NormFfnFwdRefIdeal.τ).loc Cert.NormFfnFwdRefIdeal.main_arg1)
          ∧ r.2.mem ((c.tc : Thread Cert.NormFfnFwdRefIdeal.nD Cert.NormFfnFwdRefIdeal.τ).loc Cert.NormFfnFwdRefIdeal.main_arg2) = m' ((c.tc : Thread Cert.NormFfnFwdRefIdeal.nD Cert.NormFfnFwdRefIdeal.τ).loc Cert.NormFfnFwdRefIdeal.main_arg2))

def preserves_NormMixFwd_NormMixFwdIdeal : Prop :=
  True

def algebraic_NormMixFwdIdeal_NormMixFwdRefIdeal [hNormMixFwdIdeal : Cert.NormMixFwdIdeal.Facts] [hNormMixFwdRefIdeal : Cert.NormMixFwdRefIdeal.Facts] : Prop :=
  ∀ (m : (ℓ : Loc Cert.NormMixFwdIdeal.nD Cert.NormMixFwdIdeal.τ Cert.NormMixFwdIdeal.sig) → Buf (Elt Ideal) ℓ) (g : Dev Cert.NormMixFwdIdeal.nD → PrngReg)
    (m' : (ℓ : Loc Cert.NormMixFwdRefIdeal.nD Cert.NormMixFwdRefIdeal.τ Cert.NormMixFwdRefIdeal.sig) → Buf (Elt Ideal) ℓ) (g' : Dev Cert.NormMixFwdRefIdeal.nD → PrngReg), Pre_NormMixFwdIdeal m →
    (∀ c : Dev Cert.NormMixFwdIdeal.nD,
      m' ((c.tc : Thread Cert.NormMixFwdRefIdeal.nD Cert.NormMixFwdRefIdeal.τ).loc Cert.NormMixFwdRefIdeal.main_arg0) = m ((c.tc : Thread Cert.NormMixFwdIdeal.nD Cert.NormMixFwdIdeal.τ).loc Cert.NormMixFwdIdeal.main_arg0)
      ∧ m' ((c.tc : Thread Cert.NormMixFwdRefIdeal.nD Cert.NormMixFwdRefIdeal.τ).loc Cert.NormMixFwdRefIdeal.main_arg1) = m ((c.tc : Thread Cert.NormMixFwdIdeal.nD Cert.NormMixFwdIdeal.τ).loc Cert.NormMixFwdIdeal.main_arg1)
      ∧ m' ((c.tc : Thread Cert.NormMixFwdRefIdeal.nD Cert.NormMixFwdRefIdeal.τ).loc Cert.NormMixFwdRefIdeal.main_arg2) = m ((c.tc : Thread Cert.NormMixFwdIdeal.nD Cert.NormMixFwdIdeal.τ).loc Cert.NormMixFwdIdeal.main_arg2)) →
    ∃ (v0 : (c : Dev Cert.NormMixFwdIdeal.nD) → Buf (Elt Ideal) ((c.tc : Thread Cert.NormMixFwdIdeal.nD Cert.NormMixFwdIdeal.τ).loc Cert.NormMixFwdIdeal.main_v5)),
      θ_run (Cert.NormMixFwdIdeal.defs (F := Ideal)) (onTc (τ := Cert.NormMixFwdIdeal.τ) (Cert.NormMixFwdIdeal.main (F := Ideal))) ⟨m, fun _ => 0, g⟩ (fun r => ∀ c : Dev Cert.NormMixFwdIdeal.nD,
          r.2.mem ((c.tc : Thread Cert.NormMixFwdIdeal.nD Cert.NormMixFwdIdeal.τ).loc Cert.NormMixFwdIdeal.main_v5) = v0 c
          ∧ r.2.mem ((c.tc : Thread Cert.NormMixFwdIdeal.nD Cert.NormMixFwdIdeal.τ).loc Cert.NormMixFwdIdeal.main_arg0) = m ((c.tc : Thread Cert.NormMixFwdIdeal.nD Cert.NormMixFwdIdeal.τ).loc Cert.NormMixFwdIdeal.main_arg0)
          ∧ r.2.mem ((c.tc : Thread Cert.NormMixFwdIdeal.nD Cert.NormMixFwdIdeal.τ).loc Cert.NormMixFwdIdeal.main_arg1) = m ((c.tc : Thread Cert.NormMixFwdIdeal.nD Cert.NormMixFwdIdeal.τ).loc Cert.NormMixFwdIdeal.main_arg1)
          ∧ r.2.mem ((c.tc : Thread Cert.NormMixFwdIdeal.nD Cert.NormMixFwdIdeal.τ).loc Cert.NormMixFwdIdeal.main_arg2) = m ((c.tc : Thread Cert.NormMixFwdIdeal.nD Cert.NormMixFwdIdeal.τ).loc Cert.NormMixFwdIdeal.main_arg2))
      ∧ θ_run (Cert.NormMixFwdRefIdeal.defs (F := Ideal)) (onTc (τ := Cert.NormMixFwdRefIdeal.τ) (Cert.NormMixFwdRefIdeal.main (F := Ideal))) ⟨m', fun _ => 0, g'⟩ (fun r => ∀ c : Dev Cert.NormMixFwdRefIdeal.nD,
          r.2.mem ((c.tc : Thread Cert.NormMixFwdRefIdeal.nD Cert.NormMixFwdRefIdeal.τ).loc Cert.NormMixFwdRefIdeal.main_v14) = v0 c
          ∧ r.2.mem ((c.tc : Thread Cert.NormMixFwdRefIdeal.nD Cert.NormMixFwdRefIdeal.τ).loc Cert.NormMixFwdRefIdeal.main_arg0) = m' ((c.tc : Thread Cert.NormMixFwdRefIdeal.nD Cert.NormMixFwdRefIdeal.τ).loc Cert.NormMixFwdRefIdeal.main_arg0)
          ∧ r.2.mem ((c.tc : Thread Cert.NormMixFwdRefIdeal.nD Cert.NormMixFwdRefIdeal.τ).loc Cert.NormMixFwdRefIdeal.main_arg1) = m' ((c.tc : Thread Cert.NormMixFwdRefIdeal.nD Cert.NormMixFwdRefIdeal.τ).loc Cert.NormMixFwdRefIdeal.main_arg1)
          ∧ r.2.mem ((c.tc : Thread Cert.NormMixFwdRefIdeal.nD Cert.NormMixFwdRefIdeal.τ).loc Cert.NormMixFwdRefIdeal.main_arg2) = m' ((c.tc : Thread Cert.NormMixFwdRefIdeal.nD Cert.NormMixFwdRefIdeal.τ).loc Cert.NormMixFwdRefIdeal.main_arg2))

def preserves_MixOutFwd_MixOutFwdIdeal : Prop :=
  True

def algebraic_MixOutFwdIdeal_MixOutFwdRefIdeal [hMixOutFwdIdeal : Cert.MixOutFwdIdeal.Facts] [hMixOutFwdRefIdeal : Cert.MixOutFwdRefIdeal.Facts] : Prop :=
  ∀ (m : (ℓ : Loc Cert.MixOutFwdIdeal.nD Cert.MixOutFwdIdeal.τ Cert.MixOutFwdIdeal.sig) → Buf (Elt Ideal) ℓ) (g : Dev Cert.MixOutFwdIdeal.nD → PrngReg)
    (m' : (ℓ : Loc Cert.MixOutFwdRefIdeal.nD Cert.MixOutFwdRefIdeal.τ Cert.MixOutFwdRefIdeal.sig) → Buf (Elt Ideal) ℓ) (g' : Dev Cert.MixOutFwdRefIdeal.nD → PrngReg), Pre_MixOutFwdIdeal m →
    (∀ c : Dev Cert.MixOutFwdIdeal.nD,
      m' ((c.tc : Thread Cert.MixOutFwdRefIdeal.nD Cert.MixOutFwdRefIdeal.τ).loc Cert.MixOutFwdRefIdeal.main_arg0) = m ((c.tc : Thread Cert.MixOutFwdIdeal.nD Cert.MixOutFwdIdeal.τ).loc Cert.MixOutFwdIdeal.main_arg0)
      ∧ m' ((c.tc : Thread Cert.MixOutFwdRefIdeal.nD Cert.MixOutFwdRefIdeal.τ).loc Cert.MixOutFwdRefIdeal.main_arg1) = m ((c.tc : Thread Cert.MixOutFwdIdeal.nD Cert.MixOutFwdIdeal.τ).loc Cert.MixOutFwdIdeal.main_arg1)
      ∧ m' ((c.tc : Thread Cert.MixOutFwdRefIdeal.nD Cert.MixOutFwdRefIdeal.τ).loc Cert.MixOutFwdRefIdeal.main_arg2) = m ((c.tc : Thread Cert.MixOutFwdIdeal.nD Cert.MixOutFwdIdeal.τ).loc Cert.MixOutFwdIdeal.main_arg2)
      ∧ m' ((c.tc : Thread Cert.MixOutFwdRefIdeal.nD Cert.MixOutFwdRefIdeal.τ).loc Cert.MixOutFwdRefIdeal.main_arg3) = m ((c.tc : Thread Cert.MixOutFwdIdeal.nD Cert.MixOutFwdIdeal.τ).loc Cert.MixOutFwdIdeal.main_arg3)
      ∧ m' ((c.tc : Thread Cert.MixOutFwdRefIdeal.nD Cert.MixOutFwdRefIdeal.τ).loc Cert.MixOutFwdRefIdeal.main_arg4) = m ((c.tc : Thread Cert.MixOutFwdIdeal.nD Cert.MixOutFwdIdeal.τ).loc Cert.MixOutFwdIdeal.main_arg4)
      ∧ m' ((c.tc : Thread Cert.MixOutFwdRefIdeal.nD Cert.MixOutFwdRefIdeal.τ).loc Cert.MixOutFwdRefIdeal.main_arg5) = m ((c.tc : Thread Cert.MixOutFwdIdeal.nD Cert.MixOutFwdIdeal.τ).loc Cert.MixOutFwdIdeal.main_arg5)
      ∧ m' ((c.tc : Thread Cert.MixOutFwdRefIdeal.nD Cert.MixOutFwdRefIdeal.τ).loc Cert.MixOutFwdRefIdeal.main_arg6) = m ((c.tc : Thread Cert.MixOutFwdIdeal.nD Cert.MixOutFwdIdeal.τ).loc Cert.MixOutFwdIdeal.main_arg6)) →
    ∃ (v0 : (c : Dev Cert.MixOutFwdIdeal.nD) → Buf (Elt Ideal) ((c.tc : Thread Cert.MixOutFwdIdeal.nD Cert.MixOutFwdIdeal.τ).loc Cert.MixOutFwdIdeal.main_v11)),
      θ_run (Cert.MixOutFwdIdeal.defs (F := Ideal)) (onTc (τ := Cert.MixOutFwdIdeal.τ) (Cert.MixOutFwdIdeal.main (F := Ideal))) ⟨m, fun _ => 0, g⟩ (fun r => ∀ c : Dev Cert.MixOutFwdIdeal.nD,
          r.2.mem ((c.tc : Thread Cert.MixOutFwdIdeal.nD Cert.MixOutFwdIdeal.τ).loc Cert.MixOutFwdIdeal.main_v11) = v0 c
          ∧ r.2.mem ((c.tc : Thread Cert.MixOutFwdIdeal.nD Cert.MixOutFwdIdeal.τ).loc Cert.MixOutFwdIdeal.main_arg0) = m ((c.tc : Thread Cert.MixOutFwdIdeal.nD Cert.MixOutFwdIdeal.τ).loc Cert.MixOutFwdIdeal.main_arg0)
          ∧ r.2.mem ((c.tc : Thread Cert.MixOutFwdIdeal.nD Cert.MixOutFwdIdeal.τ).loc Cert.MixOutFwdIdeal.main_arg1) = m ((c.tc : Thread Cert.MixOutFwdIdeal.nD Cert.MixOutFwdIdeal.τ).loc Cert.MixOutFwdIdeal.main_arg1)
          ∧ r.2.mem ((c.tc : Thread Cert.MixOutFwdIdeal.nD Cert.MixOutFwdIdeal.τ).loc Cert.MixOutFwdIdeal.main_arg2) = m ((c.tc : Thread Cert.MixOutFwdIdeal.nD Cert.MixOutFwdIdeal.τ).loc Cert.MixOutFwdIdeal.main_arg2)
          ∧ r.2.mem ((c.tc : Thread Cert.MixOutFwdIdeal.nD Cert.MixOutFwdIdeal.τ).loc Cert.MixOutFwdIdeal.main_arg3) = m ((c.tc : Thread Cert.MixOutFwdIdeal.nD Cert.MixOutFwdIdeal.τ).loc Cert.MixOutFwdIdeal.main_arg3)
          ∧ r.2.mem ((c.tc : Thread Cert.MixOutFwdIdeal.nD Cert.MixOutFwdIdeal.τ).loc Cert.MixOutFwdIdeal.main_arg4) = m ((c.tc : Thread Cert.MixOutFwdIdeal.nD Cert.MixOutFwdIdeal.τ).loc Cert.MixOutFwdIdeal.main_arg4)
          ∧ r.2.mem ((c.tc : Thread Cert.MixOutFwdIdeal.nD Cert.MixOutFwdIdeal.τ).loc Cert.MixOutFwdIdeal.main_arg5) = m ((c.tc : Thread Cert.MixOutFwdIdeal.nD Cert.MixOutFwdIdeal.τ).loc Cert.MixOutFwdIdeal.main_arg5)
          ∧ r.2.mem ((c.tc : Thread Cert.MixOutFwdIdeal.nD Cert.MixOutFwdIdeal.τ).loc Cert.MixOutFwdIdeal.main_arg6) = m ((c.tc : Thread Cert.MixOutFwdIdeal.nD Cert.MixOutFwdIdeal.τ).loc Cert.MixOutFwdIdeal.main_arg6))
      ∧ θ_run (Cert.MixOutFwdRefIdeal.defs (F := Ideal)) (onTc (τ := Cert.MixOutFwdRefIdeal.τ) (Cert.MixOutFwdRefIdeal.main (F := Ideal))) ⟨m', fun _ => 0, g'⟩ (fun r => ∀ c : Dev Cert.MixOutFwdRefIdeal.nD,
          r.2.mem ((c.tc : Thread Cert.MixOutFwdRefIdeal.nD Cert.MixOutFwdRefIdeal.τ).loc Cert.MixOutFwdRefIdeal.main_v16) = v0 c
          ∧ r.2.mem ((c.tc : Thread Cert.MixOutFwdRefIdeal.nD Cert.MixOutFwdRefIdeal.τ).loc Cert.MixOutFwdRefIdeal.main_arg0) = m' ((c.tc : Thread Cert.MixOutFwdRefIdeal.nD Cert.MixOutFwdRefIdeal.τ).loc Cert.MixOutFwdRefIdeal.main_arg0)
          ∧ r.2.mem ((c.tc : Thread Cert.MixOutFwdRefIdeal.nD Cert.MixOutFwdRefIdeal.τ).loc Cert.MixOutFwdRefIdeal.main_arg1) = m' ((c.tc : Thread Cert.MixOutFwdRefIdeal.nD Cert.MixOutFwdRefIdeal.τ).loc Cert.MixOutFwdRefIdeal.main_arg1)
          ∧ r.2.mem ((c.tc : Thread Cert.MixOutFwdRefIdeal.nD Cert.MixOutFwdRefIdeal.τ).loc Cert.MixOutFwdRefIdeal.main_arg2) = m' ((c.tc : Thread Cert.MixOutFwdRefIdeal.nD Cert.MixOutFwdRefIdeal.τ).loc Cert.MixOutFwdRefIdeal.main_arg2)
          ∧ r.2.mem ((c.tc : Thread Cert.MixOutFwdRefIdeal.nD Cert.MixOutFwdRefIdeal.τ).loc Cert.MixOutFwdRefIdeal.main_arg3) = m' ((c.tc : Thread Cert.MixOutFwdRefIdeal.nD Cert.MixOutFwdRefIdeal.τ).loc Cert.MixOutFwdRefIdeal.main_arg3)
          ∧ r.2.mem ((c.tc : Thread Cert.MixOutFwdRefIdeal.nD Cert.MixOutFwdRefIdeal.τ).loc Cert.MixOutFwdRefIdeal.main_arg4) = m' ((c.tc : Thread Cert.MixOutFwdRefIdeal.nD Cert.MixOutFwdRefIdeal.τ).loc Cert.MixOutFwdRefIdeal.main_arg4)
          ∧ r.2.mem ((c.tc : Thread Cert.MixOutFwdRefIdeal.nD Cert.MixOutFwdRefIdeal.τ).loc Cert.MixOutFwdRefIdeal.main_arg5) = m' ((c.tc : Thread Cert.MixOutFwdRefIdeal.nD Cert.MixOutFwdRefIdeal.τ).loc Cert.MixOutFwdRefIdeal.main_arg5)
          ∧ r.2.mem ((c.tc : Thread Cert.MixOutFwdRefIdeal.nD Cert.MixOutFwdRefIdeal.τ).loc Cert.MixOutFwdRefIdeal.main_arg6) = m' ((c.tc : Thread Cert.MixOutFwdRefIdeal.nD Cert.MixOutFwdRefIdeal.τ).loc Cert.MixOutFwdRefIdeal.main_arg6))

def preserves_LruFwd_LruFwdIdeal : Prop :=
  True

def algebraic_LruFwdIdeal_LruFwdRefIdeal [hLruFwdIdeal : Cert.LruFwdIdeal.Facts] [hLruFwdRefIdeal : Cert.LruFwdRefIdeal.Facts] : Prop :=
  ∀ (m : (ℓ : Loc Cert.LruFwdIdeal.nD Cert.LruFwdIdeal.τ Cert.LruFwdIdeal.sig) → Buf (Elt Ideal) ℓ) (g : Dev Cert.LruFwdIdeal.nD → PrngReg)
    (m' : (ℓ : Loc Cert.LruFwdRefIdeal.nD Cert.LruFwdRefIdeal.τ Cert.LruFwdRefIdeal.sig) → Buf (Elt Ideal) ℓ) (g' : Dev Cert.LruFwdRefIdeal.nD → PrngReg), Pre_LruFwdIdeal m →
    (∀ c : Dev Cert.LruFwdIdeal.nD,
      m' ((c.tc : Thread Cert.LruFwdRefIdeal.nD Cert.LruFwdRefIdeal.τ).loc Cert.LruFwdRefIdeal.main_arg0) = m ((c.tc : Thread Cert.LruFwdIdeal.nD Cert.LruFwdIdeal.τ).loc Cert.LruFwdIdeal.main_arg0)
      ∧ m' ((c.tc : Thread Cert.LruFwdRefIdeal.nD Cert.LruFwdRefIdeal.τ).loc Cert.LruFwdRefIdeal.main_arg1) = m ((c.tc : Thread Cert.LruFwdIdeal.nD Cert.LruFwdIdeal.τ).loc Cert.LruFwdIdeal.main_arg1)
      ∧ m' ((c.tc : Thread Cert.LruFwdRefIdeal.nD Cert.LruFwdRefIdeal.τ).loc Cert.LruFwdRefIdeal.main_arg2) = m ((c.tc : Thread Cert.LruFwdIdeal.nD Cert.LruFwdIdeal.τ).loc Cert.LruFwdIdeal.main_arg2)
      ∧ m' ((c.tc : Thread Cert.LruFwdRefIdeal.nD Cert.LruFwdRefIdeal.τ).loc Cert.LruFwdRefIdeal.main_arg3) = m ((c.tc : Thread Cert.LruFwdIdeal.nD Cert.LruFwdIdeal.τ).loc Cert.LruFwdIdeal.main_arg3)
      ∧ m' ((c.tc : Thread Cert.LruFwdRefIdeal.nD Cert.LruFwdRefIdeal.τ).loc Cert.LruFwdRefIdeal.main_arg4) = m ((c.tc : Thread Cert.LruFwdIdeal.nD Cert.LruFwdIdeal.τ).loc Cert.LruFwdIdeal.main_arg4)
      ∧ m' ((c.tc : Thread Cert.LruFwdRefIdeal.nD Cert.LruFwdRefIdeal.τ).loc Cert.LruFwdRefIdeal.main_arg5) = m ((c.tc : Thread Cert.LruFwdIdeal.nD Cert.LruFwdIdeal.τ).loc Cert.LruFwdIdeal.main_arg5)
      ∧ m' ((c.tc : Thread Cert.LruFwdRefIdeal.nD Cert.LruFwdRefIdeal.τ).loc Cert.LruFwdRefIdeal.main_arg6) = m ((c.tc : Thread Cert.LruFwdIdeal.nD Cert.LruFwdIdeal.τ).loc Cert.LruFwdIdeal.main_arg6)
      ∧ m' ((c.tc : Thread Cert.LruFwdRefIdeal.nD Cert.LruFwdRefIdeal.τ).loc Cert.LruFwdRefIdeal.main_arg7) = m ((c.tc : Thread Cert.LruFwdIdeal.nD Cert.LruFwdIdeal.τ).loc Cert.LruFwdIdeal.main_arg7)) →
    ∃ (v0 : (c : Dev Cert.LruFwdIdeal.nD) → Buf (Elt Ideal) ((c.tc : Thread Cert.LruFwdIdeal.nD Cert.LruFwdIdeal.τ).loc Cert.LruFwdIdeal.main_v5_0)) (v1 : (c : Dev Cert.LruFwdIdeal.nD) → Buf (Elt Ideal) ((c.tc : Thread Cert.LruFwdIdeal.nD Cert.LruFwdIdeal.τ).loc Cert.LruFwdIdeal.main_v5_1)),
      θ_run (Cert.LruFwdIdeal.defs (F := Ideal)) (onTc (τ := Cert.LruFwdIdeal.τ) (Cert.LruFwdIdeal.main (F := Ideal))) ⟨m, fun _ => 0, g⟩ (fun r => ∀ c : Dev Cert.LruFwdIdeal.nD,
          r.2.mem ((c.tc : Thread Cert.LruFwdIdeal.nD Cert.LruFwdIdeal.τ).loc Cert.LruFwdIdeal.main_v5_0) = v0 c
          ∧ r.2.mem ((c.tc : Thread Cert.LruFwdIdeal.nD Cert.LruFwdIdeal.τ).loc Cert.LruFwdIdeal.main_v5_1) = v1 c
          ∧ r.2.mem ((c.tc : Thread Cert.LruFwdIdeal.nD Cert.LruFwdIdeal.τ).loc Cert.LruFwdIdeal.main_arg0) = m ((c.tc : Thread Cert.LruFwdIdeal.nD Cert.LruFwdIdeal.τ).loc Cert.LruFwdIdeal.main_arg0)
          ∧ r.2.mem ((c.tc : Thread Cert.LruFwdIdeal.nD Cert.LruFwdIdeal.τ).loc Cert.LruFwdIdeal.main_arg1) = m ((c.tc : Thread Cert.LruFwdIdeal.nD Cert.LruFwdIdeal.τ).loc Cert.LruFwdIdeal.main_arg1)
          ∧ r.2.mem ((c.tc : Thread Cert.LruFwdIdeal.nD Cert.LruFwdIdeal.τ).loc Cert.LruFwdIdeal.main_arg2) = m ((c.tc : Thread Cert.LruFwdIdeal.nD Cert.LruFwdIdeal.τ).loc Cert.LruFwdIdeal.main_arg2)
          ∧ r.2.mem ((c.tc : Thread Cert.LruFwdIdeal.nD Cert.LruFwdIdeal.τ).loc Cert.LruFwdIdeal.main_arg3) = m ((c.tc : Thread Cert.LruFwdIdeal.nD Cert.LruFwdIdeal.τ).loc Cert.LruFwdIdeal.main_arg3)
          ∧ r.2.mem ((c.tc : Thread Cert.LruFwdIdeal.nD Cert.LruFwdIdeal.τ).loc Cert.LruFwdIdeal.main_arg4) = m ((c.tc : Thread Cert.LruFwdIdeal.nD Cert.LruFwdIdeal.τ).loc Cert.LruFwdIdeal.main_arg4)
          ∧ r.2.mem ((c.tc : Thread Cert.LruFwdIdeal.nD Cert.LruFwdIdeal.τ).loc Cert.LruFwdIdeal.main_arg5) = m ((c.tc : Thread Cert.LruFwdIdeal.nD Cert.LruFwdIdeal.τ).loc Cert.LruFwdIdeal.main_arg5)
          ∧ r.2.mem ((c.tc : Thread Cert.LruFwdIdeal.nD Cert.LruFwdIdeal.τ).loc Cert.LruFwdIdeal.main_arg6) = m ((c.tc : Thread Cert.LruFwdIdeal.nD Cert.LruFwdIdeal.τ).loc Cert.LruFwdIdeal.main_arg6)
          ∧ r.2.mem ((c.tc : Thread Cert.LruFwdIdeal.nD Cert.LruFwdIdeal.τ).loc Cert.LruFwdIdeal.main_arg7) = m ((c.tc : Thread Cert.LruFwdIdeal.nD Cert.LruFwdIdeal.τ).loc Cert.LruFwdIdeal.main_arg7))
      ∧ θ_run (Cert.LruFwdRefIdeal.defs (F := Ideal)) (onTc (τ := Cert.LruFwdRefIdeal.τ) (Cert.LruFwdRefIdeal.main (F := Ideal))) ⟨m', fun _ => 0, g'⟩ (fun r => ∀ c : Dev Cert.LruFwdRefIdeal.nD,
          r.2.mem ((c.tc : Thread Cert.LruFwdRefIdeal.nD Cert.LruFwdRefIdeal.τ).loc Cert.LruFwdRefIdeal.main_v96) = v0 c
          ∧ r.2.mem ((c.tc : Thread Cert.LruFwdRefIdeal.nD Cert.LruFwdRefIdeal.τ).loc Cert.LruFwdRefIdeal.main_v97) = v1 c
          ∧ r.2.mem ((c.tc : Thread Cert.LruFwdRefIdeal.nD Cert.LruFwdRefIdeal.τ).loc Cert.LruFwdRefIdeal.main_arg0) = m' ((c.tc : Thread Cert.LruFwdRefIdeal.nD Cert.LruFwdRefIdeal.τ).loc Cert.LruFwdRefIdeal.main_arg0)
          ∧ r.2.mem ((c.tc : Thread Cert.LruFwdRefIdeal.nD Cert.LruFwdRefIdeal.τ).loc Cert.LruFwdRefIdeal.main_arg1) = m' ((c.tc : Thread Cert.LruFwdRefIdeal.nD Cert.LruFwdRefIdeal.τ).loc Cert.LruFwdRefIdeal.main_arg1)
          ∧ r.2.mem ((c.tc : Thread Cert.LruFwdRefIdeal.nD Cert.LruFwdRefIdeal.τ).loc Cert.LruFwdRefIdeal.main_arg2) = m' ((c.tc : Thread Cert.LruFwdRefIdeal.nD Cert.LruFwdRefIdeal.τ).loc Cert.LruFwdRefIdeal.main_arg2)
          ∧ r.2.mem ((c.tc : Thread Cert.LruFwdRefIdeal.nD Cert.LruFwdRefIdeal.τ).loc Cert.LruFwdRefIdeal.main_arg3) = m' ((c.tc : Thread Cert.LruFwdRefIdeal.nD Cert.LruFwdRefIdeal.τ).loc Cert.LruFwdRefIdeal.main_arg3)
          ∧ r.2.mem ((c.tc : Thread Cert.LruFwdRefIdeal.nD Cert.LruFwdRefIdeal.τ).loc Cert.LruFwdRefIdeal.main_arg4) = m' ((c.tc : Thread Cert.LruFwdRefIdeal.nD Cert.LruFwdRefIdeal.τ).loc Cert.LruFwdRefIdeal.main_arg4)
          ∧ r.2.mem ((c.tc : Thread Cert.LruFwdRefIdeal.nD Cert.LruFwdRefIdeal.τ).loc Cert.LruFwdRefIdeal.main_arg5) = m' ((c.tc : Thread Cert.LruFwdRefIdeal.nD Cert.LruFwdRefIdeal.τ).loc Cert.LruFwdRefIdeal.main_arg5)
          ∧ r.2.mem ((c.tc : Thread Cert.LruFwdRefIdeal.nD Cert.LruFwdRefIdeal.τ).loc Cert.LruFwdRefIdeal.main_arg6) = m' ((c.tc : Thread Cert.LruFwdRefIdeal.nD Cert.LruFwdRefIdeal.τ).loc Cert.LruFwdRefIdeal.main_arg6)
          ∧ r.2.mem ((c.tc : Thread Cert.LruFwdRefIdeal.nD Cert.LruFwdRefIdeal.τ).loc Cert.LruFwdRefIdeal.main_arg7) = m' ((c.tc : Thread Cert.LruFwdRefIdeal.nD Cert.LruFwdRefIdeal.τ).loc Cert.LruFwdRefIdeal.main_arg7))

def preserves_PoolFwd_PoolFwdIdeal : Prop :=
  True

def algebraic_PoolFwdIdeal_PoolFwdRefIdeal_pre_pool_fwd_finite [hPoolFwdIdeal : Cert.PoolFwdIdeal.Facts] [hPoolFwdRefIdeal : Cert.PoolFwdRefIdeal.Facts] [hPre_pool_fwd_finite : Cert.Pre_pool_fwd_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal_pool_fwd_finite m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)
      ∧ m' ((c.tc : Thread Cert.PoolFwdRefIdeal.nD Cert.PoolFwdRefIdeal.τ).loc Cert.PoolFwdRefIdeal.main_arg2) = m ((c.tc : Thread Cert.PoolFwdIdeal.nD Cert.PoolFwdIdeal.τ).loc Cert.PoolFwdIdeal.main_arg2)
      ∧ m' ((c.tc : Thread Cert.PoolFwdRefIdeal.nD Cert.PoolFwdRefIdeal.τ).loc Cert.PoolFwdRefIdeal.main_arg3) = m ((c.tc : Thread Cert.PoolFwdIdeal.nD Cert.PoolFwdIdeal.τ).loc Cert.PoolFwdIdeal.main_arg3)) →
    ∃ (v0 : (c : Dev Cert.PoolFwdIdeal.nD) → Buf (Elt Ideal) ((c.tc : Thread Cert.PoolFwdIdeal.nD Cert.PoolFwdIdeal.τ).loc Cert.PoolFwdIdeal.main_v3)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v3) = v0 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2)
          ∧ r.2.mem ((c.tc : Thread Cert.PoolFwdIdeal.nD Cert.PoolFwdIdeal.τ).loc Cert.PoolFwdIdeal.main_arg3) = m ((c.tc : Thread Cert.PoolFwdIdeal.nD Cert.PoolFwdIdeal.τ).loc Cert.PoolFwdIdeal.main_arg3))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v89) = v0 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1)
          ∧ r.2.mem ((c.tc : Thread Cert.PoolFwdRefIdeal.nD Cert.PoolFwdRefIdeal.τ).loc Cert.PoolFwdRefIdeal.main_arg2) = m' ((c.tc : Thread Cert.PoolFwdRefIdeal.nD Cert.PoolFwdRefIdeal.τ).loc Cert.PoolFwdRefIdeal.main_arg2)
          ∧ r.2.mem ((c.tc : Thread Cert.PoolFwdRefIdeal.nD Cert.PoolFwdRefIdeal.τ).loc Cert.PoolFwdRefIdeal.main_arg3) = m' ((c.tc : Thread Cert.PoolFwdRefIdeal.nD Cert.PoolFwdRefIdeal.τ).loc Cert.PoolFwdRefIdeal.main_arg3))

def Claim : Prop :=
  ∃ (hLossHead : Cert.LossHead.Facts) (hLossHeadIdeal : Cert.LossHeadIdeal.Facts) (hLossHeadRefIdeal : Cert.LossHeadRefIdeal.Facts) (hSwigluBwd : Cert.SwigluBwd.Facts) (hSwigluBwdIdeal : Cert.SwigluBwdIdeal.Facts) (hSwigluBwdRefIdeal : Cert.SwigluBwdRefIdeal.Facts) (hNormFfnBwd : Cert.NormFfnBwd.Facts) (hNormFfnBwdIdeal : Cert.NormFfnBwdIdeal.Facts) (hNormFfnBwdRefIdeal : Cert.NormFfnBwdRefIdeal.Facts) (hNormMixBwd : Cert.NormMixBwd.Facts) (hNormMixBwdIdeal : Cert.NormMixBwdIdeal.Facts) (hNormMixBwdRefIdeal : Cert.NormMixBwdRefIdeal.Facts) (hMixOutBwd : Cert.MixOutBwd.Facts) (hMixOutBwdIdeal : Cert.MixOutBwdIdeal.Facts) (hMixOutBwdRefIdeal : Cert.MixOutBwdRefIdeal.Facts) (hPoolBwd : Cert.PoolBwd.Facts) (hPoolBwdIdeal : Cert.PoolBwdIdeal.Facts) (hPoolBwdRefIdeal : Cert.PoolBwdRefIdeal.Facts) (hLruBwd : Cert.LruBwd.Facts) (hLruBwdIdeal : Cert.LruBwdIdeal.Facts) (hLruBwdRefIdeal : Cert.LruBwdRefIdeal.Facts) (hSwigluFwd : Cert.SwigluFwd.Facts) (hSwigluFwdIdeal : Cert.SwigluFwdIdeal.Facts) (hSwigluFwdRefIdeal : Cert.SwigluFwdRefIdeal.Facts) (hNormFfnFwd : Cert.NormFfnFwd.Facts) (hNormFfnFwdIdeal : Cert.NormFfnFwdIdeal.Facts) (hNormFfnFwdRefIdeal : Cert.NormFfnFwdRefIdeal.Facts) (hNormMixFwd : Cert.NormMixFwd.Facts) (hNormMixFwdIdeal : Cert.NormMixFwdIdeal.Facts) (hNormMixFwdRefIdeal : Cert.NormMixFwdRefIdeal.Facts) (hMixOutFwd : Cert.MixOutFwd.Facts) (hMixOutFwdIdeal : Cert.MixOutFwdIdeal.Facts) (hMixOutFwdRefIdeal : Cert.MixOutFwdRefIdeal.Facts) (hLruFwd : Cert.LruFwd.Facts) (hLruFwdIdeal : Cert.LruFwdIdeal.Facts) (hLruFwdRefIdeal : Cert.LruFwdRefIdeal.Facts) (hPoolFwd : Cert.PoolFwd.Facts) (hPoolFwdIdeal : Cert.PoolFwdIdeal.Facts) (hPoolFwdRefIdeal : Cert.PoolFwdRefIdeal.Facts) (hPre_swiglu_bwd_finite : Cert.Pre_swiglu_bwd_finite.Facts) (hPre_pool_bwd_finite : Cert.Pre_pool_bwd_finite.Facts) (hPre_lru_bwd_finite : Cert.Pre_lru_bwd_finite.Facts) (hPre_pool_fwd_finite : Cert.Pre_pool_fwd_finite.Facts),
    quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_SwigluBwd (hSwigluBwd := hSwigluBwd)
    ∧ quiescent_SwigluBwdIdeal (hSwigluBwdIdeal := hSwigluBwdIdeal)
    ∧ quiescent_SwigluBwdIdeal_pre_swiglu_bwd_finite (hSwigluBwdIdeal := hSwigluBwdIdeal) (hPre_swiglu_bwd_finite := hPre_swiglu_bwd_finite)
    ∧ quiescent_SwigluBwdRefIdeal (hSwigluBwdRefIdeal := hSwigluBwdRefIdeal)
    ∧ quiescent_SwigluBwdRefIdeal_pre_swiglu_bwd_finite (hSwigluBwdRefIdeal := hSwigluBwdRefIdeal) (hPre_swiglu_bwd_finite := hPre_swiglu_bwd_finite)
    ∧ quiescent_NormFfnBwd (hNormFfnBwd := hNormFfnBwd)
    ∧ quiescent_NormFfnBwdIdeal (hNormFfnBwdIdeal := hNormFfnBwdIdeal)
    ∧ quiescent_NormFfnBwdRefIdeal (hNormFfnBwdRefIdeal := hNormFfnBwdRefIdeal)
    ∧ quiescent_NormMixBwd (hNormMixBwd := hNormMixBwd)
    ∧ quiescent_NormMixBwdIdeal (hNormMixBwdIdeal := hNormMixBwdIdeal)
    ∧ quiescent_NormMixBwdRefIdeal (hNormMixBwdRefIdeal := hNormMixBwdRefIdeal)
    ∧ quiescent_MixOutBwd (hMixOutBwd := hMixOutBwd)
    ∧ quiescent_MixOutBwdIdeal (hMixOutBwdIdeal := hMixOutBwdIdeal)
    ∧ quiescent_MixOutBwdRefIdeal (hMixOutBwdRefIdeal := hMixOutBwdRefIdeal)
    ∧ quiescent_PoolBwd (hPoolBwd := hPoolBwd)
    ∧ quiescent_PoolBwdIdeal (hPoolBwdIdeal := hPoolBwdIdeal)
    ∧ quiescent_PoolBwdIdeal_pre_pool_bwd_finite (hPoolBwdIdeal := hPoolBwdIdeal) (hPre_pool_bwd_finite := hPre_pool_bwd_finite)
    ∧ quiescent_PoolBwdRefIdeal (hPoolBwdRefIdeal := hPoolBwdRefIdeal)
    ∧ quiescent_PoolBwdRefIdeal_pre_pool_bwd_finite (hPoolBwdRefIdeal := hPoolBwdRefIdeal) (hPre_pool_bwd_finite := hPre_pool_bwd_finite)
    ∧ quiescent_LruBwd (hLruBwd := hLruBwd)
    ∧ quiescent_LruBwdIdeal (hLruBwdIdeal := hLruBwdIdeal)
    ∧ quiescent_LruBwdIdeal_pre_lru_bwd_finite (hLruBwdIdeal := hLruBwdIdeal) (hPre_lru_bwd_finite := hPre_lru_bwd_finite)
    ∧ quiescent_LruBwdRefIdeal (hLruBwdRefIdeal := hLruBwdRefIdeal)
    ∧ quiescent_LruBwdRefIdeal_pre_lru_bwd_finite (hLruBwdRefIdeal := hLruBwdRefIdeal) (hPre_lru_bwd_finite := hPre_lru_bwd_finite)
    ∧ quiescent_SwigluFwd (hSwigluFwd := hSwigluFwd)
    ∧ quiescent_SwigluFwdIdeal (hSwigluFwdIdeal := hSwigluFwdIdeal)
    ∧ quiescent_SwigluFwdRefIdeal (hSwigluFwdRefIdeal := hSwigluFwdRefIdeal)
    ∧ quiescent_NormFfnFwd (hNormFfnFwd := hNormFfnFwd)
    ∧ quiescent_NormFfnFwdIdeal (hNormFfnFwdIdeal := hNormFfnFwdIdeal)
    ∧ quiescent_NormFfnFwdRefIdeal (hNormFfnFwdRefIdeal := hNormFfnFwdRefIdeal)
    ∧ quiescent_NormMixFwd (hNormMixFwd := hNormMixFwd)
    ∧ quiescent_NormMixFwdIdeal (hNormMixFwdIdeal := hNormMixFwdIdeal)
    ∧ quiescent_NormMixFwdRefIdeal (hNormMixFwdRefIdeal := hNormMixFwdRefIdeal)
    ∧ quiescent_MixOutFwd (hMixOutFwd := hMixOutFwd)
    ∧ quiescent_MixOutFwdIdeal (hMixOutFwdIdeal := hMixOutFwdIdeal)
    ∧ quiescent_MixOutFwdRefIdeal (hMixOutFwdRefIdeal := hMixOutFwdRefIdeal)
    ∧ quiescent_LruFwd (hLruFwd := hLruFwd)
    ∧ quiescent_LruFwdIdeal (hLruFwdIdeal := hLruFwdIdeal)
    ∧ quiescent_LruFwdRefIdeal (hLruFwdRefIdeal := hLruFwdRefIdeal)
    ∧ quiescent_PoolFwd (hPoolFwd := hPoolFwd)
    ∧ quiescent_PoolFwdIdeal (hPoolFwdIdeal := hPoolFwdIdeal)
    ∧ quiescent_PoolFwdIdeal_pre_pool_fwd_finite (hPoolFwdIdeal := hPoolFwdIdeal) (hPre_pool_fwd_finite := hPre_pool_fwd_finite)
    ∧ quiescent_PoolFwdRefIdeal (hPoolFwdRefIdeal := hPoolFwdRefIdeal)
    ∧ quiescent_PoolFwdRefIdeal_pre_pool_fwd_finite (hPoolFwdRefIdeal := hPoolFwdRefIdeal) (hPre_pool_fwd_finite := hPre_pool_fwd_finite)
    ∧ preserves_LossHead_LossHeadIdeal
    ∧ algebraic_LossHeadIdeal_LossHeadRefIdeal (hLossHeadIdeal := hLossHeadIdeal) (hLossHeadRefIdeal := hLossHeadRefIdeal)
    ∧ preserves_SwigluBwd_SwigluBwdIdeal
    ∧ algebraic_SwigluBwdIdeal_SwigluBwdRefIdeal_pre_swiglu_bwd_finite (hSwigluBwdIdeal := hSwigluBwdIdeal) (hSwigluBwdRefIdeal := hSwigluBwdRefIdeal) (hPre_swiglu_bwd_finite := hPre_swiglu_bwd_finite)
    ∧ preserves_NormFfnBwd_NormFfnBwdIdeal
    ∧ algebraic_NormFfnBwdIdeal_NormFfnBwdRefIdeal (hNormFfnBwdIdeal := hNormFfnBwdIdeal) (hNormFfnBwdRefIdeal := hNormFfnBwdRefIdeal)
    ∧ preserves_NormMixBwd_NormMixBwdIdeal
    ∧ algebraic_NormMixBwdIdeal_NormMixBwdRefIdeal (hNormMixBwdIdeal := hNormMixBwdIdeal) (hNormMixBwdRefIdeal := hNormMixBwdRefIdeal)
    ∧ preserves_MixOutBwd_MixOutBwdIdeal
    ∧ algebraic_MixOutBwdIdeal_MixOutBwdRefIdeal (hMixOutBwdIdeal := hMixOutBwdIdeal) (hMixOutBwdRefIdeal := hMixOutBwdRefIdeal)
    ∧ preserves_PoolBwd_PoolBwdIdeal
    ∧ algebraic_PoolBwdIdeal_PoolBwdRefIdeal_pre_pool_bwd_finite (hPoolBwdIdeal := hPoolBwdIdeal) (hPoolBwdRefIdeal := hPoolBwdRefIdeal) (hPre_pool_bwd_finite := hPre_pool_bwd_finite)
    ∧ preserves_LruBwd_LruBwdIdeal
    ∧ algebraic_LruBwdIdeal_LruBwdRefIdeal_pre_lru_bwd_finite (hLruBwdIdeal := hLruBwdIdeal) (hLruBwdRefIdeal := hLruBwdRefIdeal) (hPre_lru_bwd_finite := hPre_lru_bwd_finite)
    ∧ preserves_SwigluFwd_SwigluFwdIdeal
    ∧ algebraic_SwigluFwdIdeal_SwigluFwdRefIdeal (hSwigluFwdIdeal := hSwigluFwdIdeal) (hSwigluFwdRefIdeal := hSwigluFwdRefIdeal)
    ∧ preserves_NormFfnFwd_NormFfnFwdIdeal
    ∧ algebraic_NormFfnFwdIdeal_NormFfnFwdRefIdeal (hNormFfnFwdIdeal := hNormFfnFwdIdeal) (hNormFfnFwdRefIdeal := hNormFfnFwdRefIdeal)
    ∧ preserves_NormMixFwd_NormMixFwdIdeal
    ∧ algebraic_NormMixFwdIdeal_NormMixFwdRefIdeal (hNormMixFwdIdeal := hNormMixFwdIdeal) (hNormMixFwdRefIdeal := hNormMixFwdRefIdeal)
    ∧ preserves_MixOutFwd_MixOutFwdIdeal
    ∧ algebraic_MixOutFwdIdeal_MixOutFwdRefIdeal (hMixOutFwdIdeal := hMixOutFwdIdeal) (hMixOutFwdRefIdeal := hMixOutFwdRefIdeal)
    ∧ preserves_LruFwd_LruFwdIdeal
    ∧ algebraic_LruFwdIdeal_LruFwdRefIdeal (hLruFwdIdeal := hLruFwdIdeal) (hLruFwdRefIdeal := hLruFwdRefIdeal)
    ∧ preserves_PoolFwd_PoolFwdIdeal
    ∧ algebraic_PoolFwdIdeal_PoolFwdRefIdeal_pre_pool_fwd_finite (hPoolFwdIdeal := hPoolFwdIdeal) (hPoolFwdRefIdeal := hPoolFwdRefIdeal) (hPre_pool_fwd_finite := hPre_pool_fwd_finite)
-- ==== Pre_lru_bwd_finite.lean ====
abbrev S1x2048x5120 : Shape := ⟨3, ![1, 2048, 5120]⟩
abbrev S4x1280 : Shape := ⟨2, ![4, 1280]⟩
abbrev S1280 : Shape := ⟨1, ![1280]⟩
abbrev S10x128x128 : Shape := ⟨3, ![10, 128, 128]⟩
abbrev S10x128 : Shape := ⟨2, ![10, 128]⟩
abbrev S1x2048x1280 : Shape := ⟨3, ![1, 2048, 1280]⟩
abbrev S1x2048x2560 : Shape := ⟨3, ![1, 2048, 2560]⟩
abbrev S_ : Shape := ⟨0, ![]⟩

class Facts : Prop where
  slices_S1x2048x5120_S1x2048x2560_0_0_512 : S1x2048x5120.Slices ![0, 0, 512] S1x2048x2560
  bcast_S_S1x2048x2560 : S_.BroadcastsInDim S1x2048x2560 (![] : Fin 0 → Fin S1x2048x2560.rank)
  bcast_S_S4x1280 : S_.BroadcastsInDim S4x1280 (![] : Fin 0 → Fin S4x1280.rank)
  bcast_S_S1280 : S_.BroadcastsInDim S1280 (![] : Fin 0 → Fin S1280.rank)
  bcast_S_S10x128x128 : S_.BroadcastsInDim S10x128x128 (![] : Fin 0 → Fin S10x128x128.rank)
  bcast_S_S10x128 : S_.BroadcastsInDim S10x128 (![] : Fin 0 → Fin S10x128.rank)
  bcast_S_S1x2048x1280 : S_.BroadcastsInDim S1x2048x1280 (![] : Fin 0 → Fin S1x2048x1280.rank)

variable [Facts]

def fn_part1 {F : FTy → Type} [FloatOps F] (main_arg6 : FVec F S10x128 .f32) (main_arg7 : FVec F S1280 .f32) (main_arg8 : FVec F S1x2048x1280 .f32) (main_v3 : IVec S1x2048x2560 1) (main_v6 : IVec S4x1280 1) (main_v9 : IVec S1280 1) (main_v12 : IVec S10x128x128 1) (main_v15 : IVec S10x128 1) (main_v16 : FVec F S10x128x128 .f32) (main_v17 : FVec F S10x128x128 .f32) : IVec S1x2048x2560 1 × IVec S4x1280 1 × IVec S1280 1 × IVec S10x128x128 1 × IVec S10x128 1 × IVec S10x128x128 1 × IVec S10x128 1 × IVec S1280 1 × IVec S1x2048x1280 1 :=
  let main_v18 : IVec S10x128x128 1 := cmpf .olt main_v16 main_v17
  let main_v19 : FVec F S10x128 .f32 := Host.absf main_arg6
  let main_cst_5 : FVec F S_ .f32 := constant S_ .f32 0x7F800000#32
  let main_v20 : FVec F S10x128 .f32 := broadcastInDim S10x128 ![] bcast_S_S10x128 main_cst_5
  let main_v21 : IVec S10x128 1 := cmpf .olt main_v19 main_v20
  let main_v22 : FVec F S1280 .f32 := Host.absf main_arg7
  let main_cst_6 : FVec F S_ .f32 := constant S_ .f32 0x7F800000#32
  let main_v23 : FVec F S1280 .f32 := broadcastInDim S1280 ![] bcast_S_S1280 main_cst_6
  let main_v24 : IVec S1280 1 := cmpf .olt main_v22 main_v23
  let main_v25 : FVec F S1x2048x1280 .f32 := Host.absf main_arg8
  let main_cst_7 : FVec F S_ .f32 := constant S_ .f32 0x7F800000#32
  let main_v26 : FVec F S1x2048x1280 .f32 := broadcastInDim S1x2048x1280 ![] bcast_S_S1x2048x1280 main_cst_7
  let main_v27 : IVec S1x2048x1280 1 := cmpf .olt main_v25 main_v26
  (main_v3, main_v6, main_v9, main_v12, main_v15, main_v18, main_v21, main_v24, main_v27)

def fn {F : FTy → Type} [FloatOps F] (main_arg0 : FVec F S1x2048x5120 .f32) (main_arg1 : FVec F S4x1280 .f32) (main_arg2 : FVec F S1280 .f32) (main_arg3 : FVec F S10x128x128 .f32) (main_arg4 : FVec F S10x128 .f32) (main_arg5 : FVec F S10x128x128 .f32) (main_arg6 : FVec F S10x128 .f32) (main_arg7 : FVec F S1280 .f32) (main_arg8 : FVec F S1x2048x1280 .f32) : IVec S1x2048x2560 1 × IVec S4x1280 1 × IVec S1280 1 × IVec S10x128x128 1 × IVec S10x128 1 × IVec S10x128x128 1 × IVec S10x128 1 × IVec S1280 1 × IVec S1x2048x1280 1 :=
  let main_v0 : FVec F S1x2048x2560 .f32 := (extractStridedSlice S1x2048x2560 ![0, 0, 512] · slices_S1x2048x5120_S1x2048x2560_0_0_512) main_arg0
  let main_v1 : FVec F S1x2048x2560 .f32 := Host.absf main_v0
  let main_cst : FVec F S_ .f32 := constant S_ .f32 0x7F800000#32
  let main_v2 : FVec F S1x2048x2560 .f32 := broadcastInDim S1x2048x2560 ![] bcast_S_S1x2048x2560 main_cst
  let main_v3 : IVec S1x2048x2560 1 := cmpf .olt main_v1 main_v2
  let main_v4 : FVec F S4x1280 .f32 := Host.absf main_arg1
  let main_cst_0 : FVec F S_ .f32 := constant S_ .f32 0x7F800000#32
  let main_v5 : FVec F S4x1280 .f32 := broadcastInDim S4x1280 ![] bcast_S_S4x1280 main_cst_0
  let main_v6 : IVec S4x1280 1 := cmpf .olt main_v4 main_v5
  let main_v7 : FVec F S1280 .f32 := Host.absf main_arg2
  let main_cst_1 : FVec F S_ .f32 := constant S_ .f32 0x7F800000#32
  let main_v8 : FVec F S1280 .f32 := broadcastInDim S1280 ![] bcast_S_S1280 main_cst_1
  let main_v9 : IVec S1280 1 := cmpf .olt main_v7 main_v8
  let main_v10 : FVec F S10x128x128 .f32 := Host.absf main_arg3
  let main_cst_2 : FVec F S_ .f32 := constant S_ .f32 0x7F800000#32
  let main_v11 : FVec F S10x128x128 .f32 := broadcastInDim S10x128x128 ![] bcast_S_S10x128x128 main_cst_2
  let main_v12 : IVec S10x128x128 1 := cmpf .olt main_v10 main_v11
  let main_v13 : FVec F S10x128 .f32 := Host.absf main_arg4
  let main_cst_3 : FVec F S_ .f32 := constant S_ .f32 0x7F800000#32
  let main_v14 : FVec F S10x128 .f32 := broadcastInDim S10x128 ![] bcast_S_S10x128 main_cst_3
  let main_v15 : IVec S10x128 1 := cmpf .olt main_v13 main_v14
  let main_v16 : FVec F S10x128x128 .f32 := Host.absf main_arg5
  let main_cst_4 : FVec F S_ .f32 := constant S_ .f32 0x7F800000#32
  let main_v17 : FVec F S10x128x128 .f32 := broadcastInDim S10x128x128 ![] bcast_S_S10x128x128 main_cst_4
  fn_part1 (F := F) main_arg6 main_arg7 main_arg8 main_v3 main_v6 main_v9 main_v12 main_v15 main_v16 main_v17
-- ==== Pre_pool_bwd_finite.lean ====
abbrev S1x2048x5120 : Shape := ⟨3, ![1, 2048, 5120]⟩
abbrev S4x128x128 : Shape := ⟨3, ![4, 128, 128]⟩
abbrev S4x128 : Shape := ⟨2, ![4, 128]⟩
abbrev S512 : Shape := ⟨1, ![512]⟩
abbrev S1x2048x512 : Shape := ⟨3, ![1, 2048, 512]⟩
abbrev S_ : Shape := ⟨0, ![]⟩

class Facts : Prop where
  slices_S1x2048x5120_S1x2048x512_0_0_0 : S1x2048x5120.Slices ![0, 0, 0] S1x2048x512
  bcast_S_S1x2048x512 : S_.BroadcastsInDim S1x2048x512 (![] : Fin 0 → Fin S1x2048x512.rank)
  bcast_S_S4x128x128 : S_.BroadcastsInDim S4x128x128 (![] : Fin 0 → Fin S4x128x128.rank)
  bcast_S_S512 : S_.BroadcastsInDim S512 (![] : Fin 0 → Fin S512.rank)

variable [Facts]

def fn {F : FTy → Type} [FloatOps F] (main_arg0 : FVec F S1x2048x5120 .f32) (main_arg1 : FVec F S4x128x128 .f32) (main_arg2 : FVec F S4x128 .f32) (main_arg3 : FVec F S512 .f32) (main_arg4 : FVec F S1x2048x512 .f32) : IVec S1x2048x512 1 × IVec S4x128x128 1 × IVec S512 1 × IVec S1x2048x512 1 :=
  let main_v0 : FVec F S1x2048x512 .f32 := (extractStridedSlice S1x2048x512 ![0, 0, 0] · slices_S1x2048x5120_S1x2048x512_0_0_0) main_arg0
  let main_v1 : FVec F S1x2048x512 .f32 := Host.absf main_v0
  let main_cst : FVec F S_ .f32 := constant S_ .f32 0x7F800000#32
  let main_v2 : FVec F S1x2048x512 .f32 := broadcastInDim S1x2048x512 ![] bcast_S_S1x2048x512 main_cst
  let main_v3 : IVec S1x2048x512 1 := cmpf .olt main_v1 main_v2
  let main_v4 : FVec F S4x128x128 .f32 := Host.absf main_arg1
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_v7 : FVec F S512 .f32 := Host.absf main_arg3
  let main_cst_1 : FVec F S_ .f32 := constant S_ .f32 0x7F800000#32
  let main_v8 : FVec F S512 .f32 := broadcastInDim S512 ![] bcast_S_S512 main_cst_1
  let main_v9 : IVec S512 1 := cmpf .olt main_v7 main_v8
  let main_v10 : FVec F S1x2048x512 .f32 := Host.absf main_arg4
  let main_cst_2 : FVec F S_ .f32 := constant S_ .f32 0x7F800000#32
  let main_v11 : FVec F S1x2048x512 .f32 := broadcastInDim S1x2048x512 ![] bcast_S_S1x2048x512 main_cst_2
  let main_v12 : IVec S1x2048x512 1 := cmpf .olt main_v10 main_v11
  (main_v3, main_v6, main_v9, main_v12)
-- ==== Pre_pool_fwd_finite.lean ====
abbrev S1x2048x5120 : Shape := ⟨3, ![1, 2048, 5120]⟩
abbrev S4x128x128 : Shape := ⟨3, ![4, 128, 128]⟩
abbrev S4x128 : Shape := ⟨2, ![4, 128]⟩
abbrev S512 : Shape := ⟨1, ![512]⟩
abbrev S1x2048x512 : Shape := ⟨3, ![1, 2048, 512]⟩
abbrev S_ : Shape := ⟨0, ![]⟩

class Facts : Prop where
  slices_S1x2048x5120_S1x2048x512_0_0_0 : S1x2048x5120.Slices ![0, 0, 0] S1x2048x512
  bcast_S_S1x2048x512 : S_.BroadcastsInDim S1x2048x512 (![] : Fin 0 → Fin S1x2048x512.rank)

variable [Facts]

def fn {F : FTy → Type} [FloatOps F] (main_arg0 : FVec F S1x2048x5120 .f32) (main_arg1 : FVec F S4x128x128 .f32) (main_arg2 : FVec F S4x128 .f32) (main_arg3 : FVec F S512 .f32) : IVec S1x2048x512 1 :=
  let main_v0 : FVec F S1x2048x512 .f32 := (extractStridedSlice S1x2048x512 ![0, 0, 0] · slices_S1x2048x5120_S1x2048x512_0_0_0) main_arg0
  let main_v1 : FVec F S1x2048x512 .f32 := Host.absf main_v0
  let main_cst : FVec F S_ .f32 := constant S_ .f32 0x7F800000#32
  let main_v2 : FVec F S1x2048x512 .f32 := broadcastInDim S1x2048x512 ![] bcast_S_S1x2048x512 main_cst
  let main_v3 : IVec S1x2048x512 1 := cmpf .olt main_v1 main_v2
  main_v3
-- ==== Pre_swiglu_bwd_finite.lean ====
abbrev S1x2048x5632 : Shape := ⟨3, ![1, 2048, 5632]⟩
abbrev S2816x1024 : Shape := ⟨2, ![2816, 1024]⟩
abbrev S1x2048x1024 : Shape := ⟨3, ![1, 2048, 1024]⟩
abbrev S1x2048x2816 : Shape := ⟨3, ![1, 2048, 2816]⟩
abbrev S_ : Shape := ⟨0, ![]⟩

class Facts : Prop where
  slices_S1x2048x5632_S1x2048x2816_0_0_2816 : S1x2048x5632.Slices ![0, 0, 2816] S1x2048x2816
  bcast_S_S1x2048x2816 : S_.BroadcastsInDim S1x2048x2816 (![] : Fin 0 → Fin S1x2048x2816.rank)
  bcast_S_S2816x1024 : S_.BroadcastsInDim S2816x1024 (![] : Fin 0 → Fin S2816x1024.rank)
  bcast_S_S1x2048x1024 : S_.BroadcastsInDim S1x2048x1024 (![] : Fin 0 → Fin S1x2048x1024.rank)

variable [Facts]

def fn {F : FTy → Type} [FloatOps F] (main_arg0 : FVec F S1x2048x5632 .f32) (main_arg1 : FVec F S2816x1024 .f32) (main_arg2 : FVec F S1x2048x1024 .f32) : IVec S1x2048x2816 1 × IVec S2816x1024 1 × IVec S1x2048x1024 1 :=
  let main_v0 : FVec F S1x2048x2816 .f32 := (extractStridedSlice S1x2048x2816 ![0, 0, 2816] · slices_S1x2048x5632_S1x2048x2816_0_0_2816) main_arg0
  let main_v1 : FVec F S1x2048x2816 .f32 := Host.absf main_v0
  let main_cst : FVec F S_ .f32 := constant S_ .f32 0x7F800000#32
  let main_v2 : FVec F S1x2048x2816 .f32 := broadcastInDim S1x2048x2816 ![] bcast_S_S1x2048x2816 main_cst
  let main_v3 : IVec S1x2048x2816 1 := cmpf .olt main_v1 main_v2
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_v7 : FVec F S1x2048x1024 .f32 := Host.absf main_arg2
  let main_cst_1 : FVec F S_ .f32 := constant S_ .f32 0x7F800000#32
  let main_v8 : FVec F S1x2048x1024 .f32 := broadcastInDim S1x2048x1024 ![] bcast_S_S1x2048x1024 main_cst_1
  let main_v9 : IVec S1x2048x1024 1 := cmpf .olt main_v7 main_v8
  (main_v3, main_v6, main_v9)
-- ==== LossHead.lean ====
abbrev S1x2048x1024 : Shape := ⟨3, ![1, 2048, 1024]⟩
abbrev S1024 : Shape := ⟨1, ![1024]⟩
abbrev S2048x1024 : Shape := ⟨2, ![2048, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 9
  | .vmem => 11
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1x2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S1x128, .f32⟩
  | .hbm, ⟨7, _⟩ => ⟨S2048x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x128, .f32⟩
  | .local _ .vmem, ⟨10, _⟩ => ⟨S1x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def k0_cond5 (i : grid0.Coords) : BitVec 1 :=
  let arg0 : BitVec 32 := BitVec.ofNat 32 (i 0).val
  let c3_i32 : BitVec 32 := 3#32
  let v60 : BitVec 1 := Scalar.cmpi .eq arg0 c3_i32
  let v61 : BitVec 32 := Scalar.extui v60
  let c0_i32_23 : BitVec 32 := 0#32
  let v62 : BitVec 1 := Scalar.cmpi .ne v61 c0_i32_23
  v62

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S1x2048x1024 : Shape := ⟨3, ![1, 2048, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x1024 : Shape := ⟨2, ![1, 1024]⟩
abbrev S2048 : Shape := ⟨1, ![2048]⟩
abbrev S1x128 : Shape := ⟨2, ![1, 128]⟩
abbrev S2048x1024 : Shape := ⟨2, ![2048, 1024]⟩

abbrev nBuf : Space → Nat
  | .hbm => 75
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1x2048x1024, .f32⟩
  | .hbm, ⟨3, _⟩ => ⟨S1x2048x1024, .f32⟩
  | .hbm, ⟨4, _⟩ => ⟨S_, .f32⟩
  | .hbm, ⟨5, _⟩ => ⟨S1x2048, .f32⟩
  | .hbm, ⟨6, _⟩ => ⟨S1x2048x1, .f32⟩
  | .hbm, ⟨7, _⟩ => ⟨S_, .f32⟩
  | .hbm, ⟨8, _⟩ => ⟨S1x2048x1, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S1x2048x1, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S1x2048x1024, .f32⟩
  | .hbm, ⟨19, _⟩ => ⟨S1x2048x1024, .f32⟩
  | .hbm, ⟨20, _⟩ => ⟨S1x1x1024, .f32⟩
  | .hbm, ⟨21, _⟩ => ⟨S1x2048x1024, .f32⟩
  | .hbm, ⟨22, _⟩ => ⟨S1x2048x1024, .f32⟩
  | .hbm, ⟨23, _⟩ => ⟨S1x2048x1024, .f32⟩
  | .hbm, ⟨24, _⟩ => ⟨S1x2048x1024, .f32⟩
  | .hbm, ⟨25, _⟩ => ⟨S_, .f32⟩
  | .hbm, ⟨26, _⟩ => ⟨S1x2048x1024, .f32⟩
  | .hbm, ⟨27, _⟩ => ⟨S1x2048x1024, .f32⟩
  | .hbm, ⟨28, _⟩ => ⟨S_, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1x2048, .f32⟩
  | .hbm, ⟨41, _⟩ => ⟨S_, .f32⟩
  | .hbm, ⟨42, _⟩ => ⟨S1x2048, .f32⟩
  | .hbm, ⟨43, _⟩ => ⟨S1x2048, .f32⟩
  | .hbm, ⟨44, _⟩ => ⟨S1x2048x1024, .f32⟩
  | .hbm, ⟨45, _⟩ => ⟨S1x2048x1024, .f32⟩
  | .hbm, ⟨46, _⟩ => ⟨S1x2048x1024, .f32⟩
  | .hbm, ⟨47, _⟩ => ⟨S_, .f32⟩
  | .hbm, ⟨48, _⟩ => ⟨S1x1024, .f32⟩
  | .hbm, ⟨49, _⟩ => ⟨S1x1x1024, .f32⟩
  | .hbm, ⟨50, _⟩ => ⟨S1x2048x1024, .f32⟩
  | .hbm, ⟨51, _⟩ => ⟨S1x2048x1024, .f32⟩
  | .hbm, ⟨52, _⟩ => ⟨S_, .f32⟩
  | .hbm, ⟨53, _⟩ => ⟨S1024, .f32⟩
  | .hbm, ⟨54, _⟩ => ⟨S1x2048x1024, .f32⟩
  | .hbm, ⟨55, _⟩ => ⟨S_, .f32⟩
  | .hbm, ⟨56, _⟩ => ⟨S1x2048, .f32⟩
  | .hbm, ⟨57, _⟩ => ⟨S1x2048x1, .f32⟩
  | .hbm, ⟨58, _⟩ => ⟨S1x2048x1024, .f32⟩
  | .hbm, ⟨59, _⟩ => ⟨S1x2048x1024, .f32⟩
  | .hbm, ⟨60, _⟩ => ⟨S1x2048x1, .f32⟩
  | .hbm, ⟨61, _⟩ => ⟨S_, .f32⟩
  | .hbm, ⟨62, _⟩ => ⟨S1x2048x1, .f32⟩
  | .hbm, ⟨63, _⟩ => ⟨S1x2048x1, .f32⟩
  | .hbm, ⟨64, _⟩ => ⟨S_, .f32⟩
  | .hbm, ⟨65, _⟩ => ⟨S2048, .f32⟩
  | .hbm, ⟨66, _⟩ => ⟨S1x2048, .f32⟩
  | .hbm, ⟨67, _⟩ => ⟨S1x2048x1024, .f32⟩
  | .hbm, ⟨68, _⟩ => ⟨S1x2048x1024, .f32⟩
  | .hbm, ⟨69, _⟩ => ⟨S1x2048x1024, .f32⟩
  | .hbm, ⟨70, _⟩ => ⟨S1x2048x1024, .f32⟩
  | .hbm, ⟨71, _⟩ => ⟨S1x2048x1024, .f32⟩
  | .hbm, ⟨72, _⟩ => ⟨S1x128, .f32⟩
  | .hbm, ⟨73, _⟩ => ⟨S2048x1024, .f32⟩
  | .hbm, ⟨74, _⟩ => ⟨S1x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== SwigluBwd.lean ====
abbrev S1x2048x5632 : Shape := ⟨3, ![1, 2048, 5632]⟩
abbrev S2816x1024 : Shape := ⟨2, ![2816, 1024]⟩
abbrev S1x2048x1024 : Shape := ⟨3, ![1, 2048, 1024]⟩
abbrev S2048x5632 : Shape := ⟨2, ![2048, 5632]⟩
abbrev S2048x1024 : Shape := ⟨2, ![2048, 1024]⟩
abbrev S2x2048x2816 : Shape := ⟨3, ![2, 2048, 2816]⟩
abbrev S512x1408 : Shape := ⟨2, ![512, 1408]⟩
abbrev S512x1024 : Shape := ⟨2, ![512, 1024]⟩
abbrev S1408x1024 : Shape := ⟨2, ![1408, 1024]⟩
abbrev S2x512x1408 : Shape := ⟨3, ![2, 512, 1408]⟩
abbrev S1x512x1408 : Shape := ⟨3, ![1, 512, 1408]⟩

abbrev nBuf : Space → Nat
  | .hbm => 9
  | .vmem => 12
  | .smem => 0
  | _ => 0

abbrev bufTy : (tb : Table) → Fin (tcTables nBuf tb) → BufTy
  | .hbm, ⟨0, _⟩ => ⟨S1x2048x5632, .f32⟩
  | .hbm, ⟨1, _⟩ => ⟨S2816x1024, .f32⟩
  | .hbm, ⟨2, _⟩ => ⟨S1x2048x1024, .f32⟩
  | .hbm, ⟨3, _⟩ => ⟨S2048x5632, .f32⟩
  | .hbm, ⟨4, _⟩ => ⟨S2048x5632, .bf16⟩
  | .hbm, ⟨5, _⟩ => ⟨S2048x1024, .f32⟩
  | .hbm, ⟨6, _⟩ => ⟨S2816x1024, .bf16⟩
  | .hbm, ⟨7, _⟩ => ⟨S2x2048x2816, .bf16⟩
  | .hbm, ⟨8, _⟩ => ⟨S2816x1024, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S512x1024, .f32⟩
  | .local _ .vmem, ⟨5, _⟩ => ⟨S512x1024, .f32⟩
  | .local _ .vmem, ⟨6, _⟩ => ⟨S1408x1024, .bf16⟩
  | .local _ .vmem, ⟨7, _⟩ => ⟨S1408x1024, .bf16⟩
  | .local _ .vmem, ⟨8, _⟩ => ⟨S2x512x1408, .bf16⟩
  | .local _ .vmem, ⟨9, _⟩ => ⟨S2x512x1408, .bf16⟩
  | .local _ .vmem, ⟨10, _⟩ => ⟨S1408x1024, .f32⟩
  | .local _ .vmem, ⟨11, _⟩ => ⟨S1408x1024, .f32⟩
  | _, _ => ⟨S1x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v19 : BitVec 1 := Scalar.cmpi .eq arg1 c0_i32
  let v20 : BitVec 32 := Scalar.extui v19
  let c0_i32_9 : BitVec 32 := 0#32
  let v21 : BitVec 1 := Scalar.cmpi .ne v20 c0_i32_9
  v21

def k0_cond2 (i : grid0.Coords) : BitVec 1 :=
  let arg1 : BitVec 32 := BitVec.ofNat 32 (i 1).val
  let c0_i32 : BitVec 32 := 0#32
  let v19 : BitVec 1 := Scalar.cmpi .eq arg1 c0_i32
  let v_true : BitVec 1 := 1#1
  let v22 : BitVec 1 := Scalar.xori v19 v_true
  let v23 : BitVec 32 := Scalar.extui v22
  let c0_i32_10 : BitVec 32 := 0#32
  let v24 : BitVec 1 := Scalar.cmpi .ne v23 c0_i32_10
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1408x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== SwigluBwdRefIdeal.lean ====
abbrev S1x2048x5632 : Shape := ⟨3, ![1, 2048, 5632]⟩
abbrev S2816x1024 : Shape := ⟨2, ![2816, 1024]⟩
abbrev S1x2048x1024 : Shape := ⟨3, ![1, 2048, 1024]⟩
abbrev S1x2048x2816 : Shape := ⟨3, ![1, 2048, 2816]⟩
abbrev S_ : Shape := ⟨0, ![]⟩
abbrev S1024x2816 : Shape := ⟨2, ![1024, 2816]⟩
abbrev S2048x5632 : Shape := ⟨2, ![2048, 5632]⟩
abbrev S2048x2816 : Shape := ⟨2, ![2048, 2816]⟩
abbrev S2x2048x2816 : Shape := ⟨3, ![2, 2048, 2816]⟩

abbrev nBuf : Space → Nat
  | .hbm => 43
  | .vmem => 0
  | .smem => 0
  | _ => 0

abbrev bufTy : (tb : Table) → Fin (tcTables nBuf tb) → BufTy
  | .hbm, ⟨0, _⟩ => ⟨S1x2048x5632, .f32⟩
  | .hbm, ⟨1, _⟩ => ⟨S2816x1024, .f32⟩
  | .hbm, ⟨2, _⟩ => ⟨S1x2048x1024, .f32⟩
  | .hbm, ⟨3, _⟩ => ⟨S1x2048x2816, .f32⟩
  | .hbm, ⟨4, _⟩ => ⟨S1x2048x2816, .f32⟩
  | .hbm, ⟨5, _⟩ => ⟨S1x2048x2816, .f32⟩
  | .hbm, ⟨6, _⟩ => ⟨S1x2048x2816, .f32⟩
  | .hbm, ⟨7, _⟩ => ⟨S_, .f32⟩
  | .hbm, ⟨8, _⟩ => ⟨S1x2048x2816, .f32⟩
  | .hbm, ⟨9, _⟩ => ⟨S1x2048x2816, .f32⟩
  | .hbm, ⟨10, _⟩ => ⟨S_, .f32⟩
  | .hbm, ⟨11, _⟩ => ⟨S1x2048x2816, .f32⟩
  | .hbm, ⟨12, _⟩ => ⟨S1x2048x2816, .f32⟩
  | .hbm, ⟨13, _⟩ => ⟨S_, .f32⟩
  | .hbm, ⟨14, _⟩ => ⟨S1x2048x2816, .f32⟩
  | .hbm, ⟨15, _⟩ => ⟨S1x2048x2816, .f32⟩
  | .hbm, ⟨16, _⟩ => ⟨S1x2048x2816, .f32⟩
  | .hbm, ⟨17, _⟩ => ⟨S1x2048x2816, .f32⟩
  | .hbm, ⟨18, _⟩ => ⟨S1x2048x2816, .f32⟩
  | .hbm, ⟨19, _⟩ => ⟨S1x2048x1024, .f32⟩
  | .hbm, ⟨20, _⟩ => ⟨S_, .f32⟩
  | .hbm, ⟨21, _⟩ => ⟨S1x2048x1024, .f32⟩
  | .hbm, ⟨22, _⟩ => ⟨S1x2048x1024, .f32⟩
  | .hbm, ⟨23, _⟩ => ⟨S_, .f32⟩
  | .hbm, ⟨24, _⟩ => ⟨S1x2048x1024, .f32⟩
  | .hbm, ⟨25, _⟩ => ⟨S1x2048x1024, .f32⟩
  | .hbm, ⟨26, _⟩ => ⟨S1024x2816, .f32⟩
  | .hbm, ⟨27, _⟩ => ⟨S2816x1024, .f32⟩
  | .hbm, ⟨28, _⟩ => ⟨S1x2048x2816, .f32⟩
  | .hbm, ⟨29, _⟩ => ⟨S1x2048x2816, .f32⟩
  | .hbm, ⟨30, _⟩ => ⟨S1x2048x2816, .f32⟩
  | .hbm, ⟨31, _⟩ => ⟨S1x2048x2816, .f32⟩
  | .hbm, ⟨32, _⟩ => ⟨S1x2048x2816, .f32⟩
  | .hbm, ⟨33, _⟩ => ⟨S1x2048x2816, .f32⟩
  | .hbm, ⟨34, _⟩ => ⟨S1x2048x2816, .f32⟩
  | .hbm, ⟨35, _⟩ => ⟨S1x2048x5632, .f32⟩
  | .hbm, ⟨36, _⟩ => ⟨S2048x5632, .f32⟩
  | .hbm, ⟨37, _⟩ => ⟨S2048x2816, .f32⟩
  | .hbm, ⟨38, _⟩ => ⟨S2048x2816, .f32⟩
  | .hbm, ⟨39, _⟩ => ⟨S1x2048x2816, .f32⟩
  | .hbm, ⟨40, _⟩ => ⟨S1x2048x2816, .f32⟩
  | .hbm, ⟨41, _⟩ => ⟨S2x2048x2816, .f32⟩
  | .hbm, ⟨42, _⟩ => ⟨S2x2048x2816, .bf16⟩
  | _, _ => ⟨S1x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩

abbrev nD : Nat := 1
abbrev τ : Topo := Topo.v7x

variable {F : FTy → Type} [FloatOps F]
-- ==== NormFfnBwd.lean ====
abbrev S1x2048x1024 : Shape := ⟨3, ![1, 2048, 1024]⟩
abbrev S1024 : Shape := ⟨1, ![1024]⟩
abbrev S1024x5632 : Shape := ⟨2, ![1024, 5632]⟩
abbrev S1x2048x5632 : Shape := ⟨3, ![1, 2048, 5632]⟩
abbrev S1024x4x1408 : Shape := ⟨3, ![1024, 4, 1408]⟩
abbrev S4x1024x1408 : Shape := ⟨3, ![4, 1024, 1408]⟩
abbrev S2048x2x2816 : Shape := ⟨3, ![2048, 2, 2816]⟩
abbrev S2x2048x2816 : Shape := ⟨3, ![2, 2048, 2816]⟩
abbrev S2048x1024 : Shape := ⟨2, ![2048, 1024]⟩
abbrev S1x1024 : Shape := ⟨2, ![1, 1024]⟩
abbrev S512x1024 : Shape := ⟨2, ![512, 1024]⟩
abbrev S1x512x1408 : Shape := ⟨3, ![1, 512, 1408]⟩
abbrev S1x1024x1408 : Shape := ⟨3, ![1, 1024, 1408]⟩
abbrev S512 : Shape := ⟨1, ![512]⟩
abbrev S512x1 : Shape := ⟨2, ![512, 1]⟩
abbrev S512x1408 : Shape := ⟨2, ![512, 1408]⟩
abbrev S1024x1408 : Shape := ⟨2, ![1024, 1408]⟩

abbrev nBuf : Space → Nat
  | .hbm => 17
  | .vmem => 16
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1024x5632, .f32⟩
  | .hbm, ⟨3, _⟩ => ⟨S1x2048x5632, .f32⟩
  | .hbm, ⟨4, _⟩ => ⟨S1x2048x1024, .f32⟩
  | .hbm, ⟨5, _⟩ => ⟨S1024x5632, .bf16⟩
  | .hbm, ⟨6, _⟩ => ⟨S1024x4x1408, .bf16⟩
  | .hbm, ⟨7, _⟩ => ⟨S4x1024x1408, .bf16⟩
  | .hbm, ⟨8, _⟩ => ⟨S2048x2x2816, .f32⟩
  | .hbm, ⟨9, _⟩ => ⟨S2x2048x2816, .f32⟩
  | .hbm, ⟨10, _⟩ => ⟨S2x2048x2816, .bf16⟩
  | .hbm, ⟨11, _⟩ => ⟨S2048x1024, .f32⟩
  | .hbm, ⟨12, _⟩ => ⟨S1x1024, .f32⟩
  | .hbm, ⟨13, _⟩ => ⟨S2048x1024, .f32⟩
  | .hbm, ⟨14, _⟩ => ⟨S2048x1024, .f32⟩
  | .hbm, ⟨15, _⟩ => ⟨S4x1024x1408, .f32⟩
  | .hbm, ⟨16, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x512x1408, .bf16⟩
  | .local _ .vmem, ⟨4, _⟩ => ⟨S1x512x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024x1408, .f32⟩
  | .local _ .vmem, ⟨12, _⟩ => ⟨S1x1024x1408, .f32⟩
  | .local _ .vmem, ⟨13, _⟩ => ⟨S1x1024, .f32⟩
  | .local _ .vmem, ⟨14, _⟩ => ⟨S2048x1024, .f32⟩
  | .local _ .vmem, ⟨15, _⟩ => ⟨S1x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v18 : BitVec 32 := Scalar.muli arg1 c512_i32
  v18
def k0_cond1 (i : grid0.Coords) : BitVec 1 :=
  let arg0 : BitVec 32 := BitVec.ofNat 32 (i 0).val
  let c0_i32 : BitVec 32 := 0#32
  let v23 : BitVec 1 := Scalar.cmpi .eq arg0 c0_i32
  let v24 : BitVec 32 := Scalar.extui v23
  let c0_i32_12 : BitVec 32 := 0#32
  let v25 : BitVec 1 := Scalar.cmpi .ne v24 c0_i32_12
  v25

def k0_off1 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v40 : Index := Scalar.indexCast v19
  let c0_20 : Index := 0#32
  ![v40.toNat, 0]
def k0_cond2 (i : grid0.Coords) : BitVec 1 :=
  let arg0 : BitVec 32 := BitVec.ofNat 32 (i 0).val
  let c0_i32_13 : BitVec 32 := 0#32
  let v26 : BitVec 1 := Scalar.cmpi .sgt arg0 c0_i32_13
  let v27 : BitVec 32 := Scalar.extui v26
  let c0_i32_14 : BitVec 32 := 0#32
  let v28 : BitVec 1 := Scalar.cmpi .ne v27 c0_i32_14
  v28

def k0_off2 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v40 : Index := Scalar.indexCast v19
  let c0_20 : Index := 0#32
  ![v40.toNat, 0]
def k0_cond5 (i : grid0.Coords) : BitVec 1 :=
  let arg0 : BitVec 32 := BitVec.ofNat 32 (i 0).val
  let c3_i32 : BitVec 32 := 3#32
  let v37 : BitVec 1 := Scalar.cmpi .eq arg0 c3_i32
  let v38 : BitVec 32 := Scalar.extui v37
  let c0_i32_19 : BitVec 32 := 0#32
  let v39 : BitVec 1 := Scalar.cmpi .ne v38 c0_i32_19
  v39

def k0_off3 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v40 : Index := Scalar.indexCast v19
  let c0_20 : Index := 0#32
  ![v40.toNat, 0]
def k0_cond3 (i : grid0.Coords) : BitVec 1 :=
  let arg1 : BitVec 32 := BitVec.ofNat 32 (i 1).val
  let c0_i32_16 : BitVec 32 := 0#32
  let v31 : BitVec 1 := Scalar.cmpi .eq arg1 c0_i32_16
  let v32 : BitVec 32 := Scalar.extui v31
  let c0_i32_17 : BitVec 32 := 0#32
  let v33 : BitVec 1 := Scalar.cmpi .ne v32 c0_i32_17
  v33

def k0_cond4 (i : grid0.Coords) : BitVec 1 :=
  let arg1 : BitVec 32 := BitVec.ofNat 32 (i 1).val
  let c0_i32_16 : BitVec 32 := 0#32
  let v31 : BitVec 1 := Scalar.cmpi .eq arg1 c0_i32_16
  let v_true : BitVec 1 := 1#1
  let v34 : BitVec 1 := Scalar.xori v31 v_true
  let v35 : BitVec 32 := Scalar.extui v34
  let c0_i32_18 : BitVec 32 := 0#32
  let v36 : BitVec 1 := Scalar.cmpi .ne v35 c0_i32_18
  v36

def k0_cond8 (i : grid0.Coords) : BitVec 1 :=
  let arg1 : BitVec 32 := BitVec.ofNat 32 (i 1).val
  let c3_i32_32 : BitVec 32 := 3#32
  let v67 : BitVec 1 := Scalar.cmpi .eq arg1 c3_i32_32
  let v68 : BitVec 32 := Scalar.extui v67
  let c0_i32_33 : BitVec 32 := 0#32
  let v69 : BitVec 1 := Scalar.cmpi .ne v68 c0_i32_33
  v69

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== NormFfnBwdRefIdeal.lean ====
abbrev S1x2048x1024 : Shape := ⟨3, ![1, 2048, 1024]⟩
abbrev S1024 : Shape := ⟨1, ![1024]⟩
abbrev S1024x5632 : Shape := ⟨2, ![1024, 5632]⟩
abbrev S1x2048x5632 : Shape := ⟨3, ![1, 2048, 5632]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S5632x1024 : Shape := ⟨2, ![5632, 1024]⟩
abbrev S1x1024 : Shape := ⟨2, ![1, 1024]⟩
abbrev S2048 : Shape := ⟨1, ![2048]⟩
abbrev S2048x1024 : Shape := ⟨2, ![2048, 1024]⟩
abbrev S1024x4x1408 : Shape := ⟨3, ![1024, 4, 1408]⟩
abbrev S4x1024x1408 : Shape := ⟨3, ![4, 1024, 1408]⟩

abbrev nBuf : Space → Nat
  | .hbm => 60
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1024x5632, .f32⟩
  | .hbm, ⟨3, _⟩ => ⟨S1x2048x5632, .f32⟩
  | .hbm, ⟨4, _⟩ => ⟨S1x2048x1024, .f32⟩
  | .hbm, ⟨5, _⟩ => ⟨S1x2048x1024, .f32⟩
  | .hbm, ⟨6, _⟩ => ⟨S_, .f32⟩
  | .hbm, ⟨7, _⟩ => ⟨S1x2048, .f32⟩
  | .hbm, ⟨8, _⟩ => ⟨S1x2048x1, .f32⟩
  | .hbm, ⟨9, _⟩ => ⟨S_, .f32⟩
  | .hbm, ⟨10, _⟩ => ⟨S1x2048x1, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S_, .f32⟩
  | .hbm, ⟨18, _⟩ => ⟨S1x2048x1, .f32⟩
  | .hbm, ⟨19, _⟩ => ⟨S1x2048x1, .f32⟩
  | .hbm, ⟨20, _⟩ => ⟨S1x2048x1024, .f32⟩
  | .hbm, ⟨21, _⟩ => ⟨S1x2048x1024, .f32⟩
  | .hbm, ⟨22, _⟩ => ⟨S1x1x1024, .f32⟩
  | .hbm, ⟨23, _⟩ => ⟨S1x2048x1024, .f32⟩
  | .hbm, ⟨24, _⟩ => ⟨S1x2048x1024, .f32⟩
  | .hbm, ⟨25, _⟩ => ⟨S1x2048x5632, .f32⟩
  | .hbm, ⟨26, _⟩ => ⟨S5632x1024, .f32⟩
  | .hbm, ⟨27, _⟩ => ⟨S1024x5632, .f32⟩
  | .hbm, ⟨28, _⟩ => ⟨S1x2048x1024, .f32⟩
  | .hbm, ⟨29, _⟩ => ⟨S1x2048x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x2048x1024, .f32⟩
  | .hbm, ⟨34, _⟩ => ⟨S1x2048x1024, .f32⟩
  | .hbm, ⟨35, _⟩ => ⟨S_, .f32⟩
  | .hbm, ⟨36, _⟩ => ⟨S1024, .f32⟩
  | .hbm, ⟨37, _⟩ => ⟨S1x2048x1024, .f32⟩
  | .hbm, ⟨38, _⟩ => ⟨S_, .f32⟩
  | .hbm, ⟨39, _⟩ => ⟨S1x2048, .f32⟩
  | .hbm, ⟨40, _⟩ => ⟨S1x2048x1, .f32⟩
  | .hbm, ⟨41, _⟩ => ⟨S1x2048x1024, .f32⟩
  | .hbm, ⟨42, _⟩ => ⟨S1x2048x1024, .f32⟩
  | .hbm, ⟨43, _⟩ => ⟨S1x2048x1024, .f32⟩
  | .hbm, ⟨44, _⟩ => ⟨S1x2048x1, .f32⟩
  | .hbm, ⟨45, _⟩ => ⟨S_, .f32⟩
  | .hbm, ⟨46, _⟩ => ⟨S1x2048x1, .f32⟩
  | .hbm, ⟨47, _⟩ => ⟨S1x2048x1, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S1x2048x1024, .f32⟩
  | .hbm, ⟨52, _⟩ => ⟨S1x2048x1024, .f32⟩
  | .hbm, ⟨53, _⟩ => ⟨S1x2048x1024, .f32⟩
  | .hbm, ⟨54, _⟩ => ⟨S1x2048x1024, .f32⟩
  | .hbm, ⟨55, _⟩ => ⟨S1x2048x1024, .f32⟩
  | .hbm, ⟨56, _⟩ => ⟨S2048x1024, .f32⟩
  | .hbm, ⟨57, _⟩ => ⟨S1024x4x1408, .f32⟩
  | .hbm, ⟨58, _⟩ => ⟨S4x1024x1408, .f32⟩
  | .hbm, ⟨59, _⟩ => ⟨S1x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== NormMixBwd.lean ====
abbrev S1x2048x1024 : Shape := ⟨3, ![1, 2048, 1024]⟩
abbrev S1024 : Shape := ⟨1, ![1024]⟩
abbrev S1024x5120 : Shape := ⟨2, ![1024, 5120]⟩
abbrev S1x2048x5120 : Shape := ⟨3, ![1, 2048, 5120]⟩
abbrev S1024x4x1280 : Shape := ⟨3, ![1024, 4, 1280]⟩
abbrev S4x1024x1280 : Shape := ⟨3, ![4, 1024, 1280]⟩
abbrev S2048x1024 : Shape := ⟨2, ![2048, 1024]⟩
abbrev S1x1024 : Shape := ⟨2, ![1, 1024]⟩
abbrev S2048x5120 : Shape := ⟨2, ![2048, 5120]⟩
abbrev S512x1024 : Shape := ⟨2, ![512, 1024]⟩
abbrev S512x1280 : Shape := ⟨2, ![512, 1280]⟩
abbrev S1x1024x1280 : Shape := ⟨3, ![1, 1024, 1280]⟩
abbrev S512 : Shape := ⟨1, ![512]⟩
abbrev S512x1 : Shape := ⟨2, ![512, 1]⟩
abbrev S1024x1280 : Shape := ⟨2, ![1024, 1280]⟩

abbrev nBuf : Space → Nat
  | .hbm => 16
  | .vmem => 16
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1024x5120, .f32⟩
  | .hbm, ⟨3, _⟩ => ⟨S1x2048x5120, .f32⟩
  | .hbm, ⟨4, _⟩ => ⟨S1x2048x1024, .f32⟩
  | .hbm, ⟨5, _⟩ => ⟨S1024x5120, .bf16⟩
  | .hbm, ⟨6, _⟩ => ⟨S1024x4x1280, .bf16⟩
  | .hbm, ⟨7, _⟩ => ⟨S4x1024x1280, .bf16⟩
  | .hbm, ⟨8, _⟩ => ⟨S2048x1024, .f32⟩
  | .hbm, ⟨9, _⟩ => ⟨S1x1024, .f32⟩
  | .hbm, ⟨10, _⟩ => ⟨S2048x5120, .f32⟩
  | .hbm, ⟨11, _⟩ => ⟨S2048x5120, .bf16⟩
  | .hbm, ⟨12, _⟩ => ⟨S2048x1024, .f32⟩
  | .hbm, ⟨13, _⟩ => ⟨S2048x1024, .f32⟩
  | .hbm, ⟨14, _⟩ => ⟨S4x1024x1280, .f32⟩
  | .hbm, ⟨15, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1280, .bf16⟩
  | .local _ .vmem, ⟨4, _⟩ => ⟨S512x1280, .bf16⟩
  | .local _ .vmem, ⟨5, _⟩ => ⟨S1x1024x1280, .bf16⟩
  | .local _ .vmem, ⟨6, _⟩ => ⟨S1x1024x1280, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024x1280, .f32⟩
  | .local _ .vmem, ⟨12, _⟩ => ⟨S1x1024x1280, .f32⟩
  | .local _ .vmem, ⟨13, _⟩ => ⟨S1x1024, .f32⟩
  | .local _ .vmem, ⟨14, _⟩ => ⟨S2048x1024, .f32⟩
  | .local _ .vmem, ⟨15, _⟩ => ⟨S1x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v18 : BitVec 32 := Scalar.muli arg1 c512_i32
  v18
def k0_cond1 (i : grid0.Coords) : BitVec 1 :=
  let arg0 : BitVec 32 := BitVec.ofNat 32 (i 0).val
  let c0_i32 : BitVec 32 := 0#32
  let v23 : BitVec 1 := Scalar.cmpi .eq arg0 c0_i32
  let v24 : BitVec 32 := Scalar.extui v23
  let c0_i32_11 : BitVec 32 := 0#32
  let v25 : BitVec 1 := Scalar.cmpi .ne v24 c0_i32_11
  v25

def k0_off1 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v40 : Index := Scalar.indexCast v19
  let c0_19 : Index := 0#32
  ![v40.toNat, 0]
def k0_cond2 (i : grid0.Coords) : BitVec 1 :=
  let arg0 : BitVec 32 := BitVec.ofNat 32 (i 0).val
  let c0_i32_12 : BitVec 32 := 0#32
  let v26 : BitVec 1 := Scalar.cmpi .sgt arg0 c0_i32_12
  let v27 : BitVec 32 := Scalar.extui v26
  let c0_i32_13 : BitVec 32 := 0#32
  let v28 : BitVec 1 := Scalar.cmpi .ne v27 c0_i32_13
  v28

def k0_off2 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v40 : Index := Scalar.indexCast v19
  let c0_19 : Index := 0#32
  ![v40.toNat, 0]
def k0_cond5 (i : grid0.Coords) : BitVec 1 :=
  let arg0 : BitVec 32 := BitVec.ofNat 32 (i 0).val
  let c3_i32 : BitVec 32 := 3#32
  let v37 : BitVec 1 := Scalar.cmpi .eq arg0 c3_i32
  let v38 : BitVec 32 := Scalar.extui v37
  let c0_i32_18 : BitVec 32 := 0#32
  let v39 : BitVec 1 := Scalar.cmpi .ne v38 c0_i32_18
  v39

def k0_off3 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v40 : Index := Scalar.indexCast v19
  let c0_19 : Index := 0#32
  ![v40.toNat, 0]
def k0_cond3 (i : grid0.Coords) : BitVec 1 :=
  let arg1 : BitVec 32 := BitVec.ofNat 32 (i 1).val
  let c0_i32_15 : BitVec 32 := 0#32
  let v31 : BitVec 1 := Scalar.cmpi .eq arg1 c0_i32_15
  let v32 : BitVec 32 := Scalar.extui v31
  let c0_i32_16 : BitVec 32 := 0#32
  let v33 : BitVec 1 := Scalar.cmpi .ne v32 c0_i32_16
  v33

def k0_cond4 (i : grid0.Coords) : BitVec 1 :=
  let arg1 : BitVec 32 := BitVec.ofNat 32 (i 1).val
  let c0_i32_15 : BitVec 32 := 0#32
  let v31 : BitVec 1 := Scalar.cmpi .eq arg1 c0_i32_15
  let v_true : BitVec 1 := 1#1
  let v34 : BitVec 1 := Scalar.xori v31 v_true
  let v35 : BitVec 32 := Scalar.extui v34
  let c0_i32_17 : BitVec 32 := 0#32
  let v36 : BitVec 1 := Scalar.cmpi .ne v35 c0_i32_17
  v36

def k0_cond8 (i : grid0.Coords) : BitVec 1 :=
  let arg1 : BitVec 32 := BitVec.ofNat 32 (i 1).val
  let c3_i32_31 : BitVec 32 := 3#32
  let v67 : BitVec 1 := Scalar.cmpi .eq arg1 c3_i32_31
  let v68 : BitVec 32 := Scalar.extui v67
  let c0_i32_32 : BitVec 32 := 0#32
  let v69 : BitVec 1 := Scalar.cmpi .ne v68 c0_i32_32
  v69

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== NormMixBwdRefIdeal.lean ====
abbrev S1x2048x1024 : Shape := ⟨3, ![1, 2048, 1024]⟩
abbrev S1024 : Shape := ⟨1, ![1024]⟩
abbrev S1024x5120 : Shape := ⟨2, ![1024, 5120]⟩
abbrev S1x2048x5120 : Shape := ⟨3, ![1, 2048, 5120]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S5120x1024 : Shape := ⟨2, ![5120, 1024]⟩
abbrev S1x1024 : Shape := ⟨2, ![1, 1024]⟩
abbrev S2048 : Shape := ⟨1, ![2048]⟩
abbrev S2048x1024 : Shape := ⟨2, ![2048, 1024]⟩
abbrev S1024x4x1280 : Shape := ⟨3, ![1024, 4, 1280]⟩
abbrev S4x1024x1280 : Shape := ⟨3, ![4, 1024, 1280]⟩

abbrev nBuf : Space → Nat
  | .hbm => 60
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1024x5120, .f32⟩
  | .hbm, ⟨3, _⟩ => ⟨S1x2048x5120, .f32⟩
  | .hbm, ⟨4, _⟩ => ⟨S1x2048x1024, .f32⟩
  | .hbm, ⟨5, _⟩ => ⟨S1x2048x1024, .f32⟩
  | .hbm, ⟨6, _⟩ => ⟨S_, .f32⟩
  | .hbm, ⟨7, _⟩ => ⟨S1x2048, .f32⟩
  | .hbm, ⟨8, _⟩ => ⟨S1x2048x1, .f32⟩
  | .hbm, ⟨9, _⟩ => ⟨S_, .f32⟩
  | .hbm, ⟨10, _⟩ => ⟨S1x2048x1, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S_, .f32⟩
  | .hbm, ⟨18, _⟩ => ⟨S1x2048x1, .f32⟩
  | .hbm, ⟨19, _⟩ => ⟨S1x2048x1, .f32⟩
  | .hbm, ⟨20, _⟩ => ⟨S1x2048x1024, .f32⟩
  | .hbm, ⟨21, _⟩ => ⟨S1x2048x1024, .f32⟩
  | .hbm, ⟨22, _⟩ => ⟨S1x1x1024, .f32⟩
  | .hbm, ⟨23, _⟩ => ⟨S1x2048x1024, .f32⟩
  | .hbm, ⟨24, _⟩ => ⟨S1x2048x1024, .f32⟩
  | .hbm, ⟨25, _⟩ => ⟨S1x2048x5120, .f32⟩
  | .hbm, ⟨26, _⟩ => ⟨S5120x1024, .f32⟩
  | .hbm, ⟨27, _⟩ => ⟨S1024x5120, .f32⟩
  | .hbm, ⟨28, _⟩ => ⟨S1x2048x1024, .f32⟩
  | .hbm, ⟨29, _⟩ => ⟨S1x2048x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x2048x1024, .f32⟩
  | .hbm, ⟨34, _⟩ => ⟨S1x2048x1024, .f32⟩
  | .hbm, ⟨35, _⟩ => ⟨S_, .f32⟩
  | .hbm, ⟨36, _⟩ => ⟨S1024, .f32⟩
  | .hbm, ⟨37, _⟩ => ⟨S1x2048x1024, .f32⟩
  | .hbm, ⟨38, _⟩ => ⟨S_, .f32⟩
  | .hbm, ⟨39, _⟩ => ⟨S1x2048, .f32⟩
  | .hbm, ⟨40, _⟩ => ⟨S1x2048x1, .f32⟩
  | .hbm, ⟨41, _⟩ => ⟨S1x2048x1024, .f32⟩
  | .hbm, ⟨42, _⟩ => ⟨S1x2048x1024, .f32⟩
  | .hbm, ⟨43, _⟩ => ⟨S1x2048x1024, .f32⟩
  | .hbm, ⟨44, _⟩ => ⟨S1x2048x1, .f32⟩
  | .hbm, ⟨45, _⟩ => ⟨S_, .f32⟩
  | .hbm, ⟨46, _⟩ => ⟨S1x2048x1, .f32⟩
  | .hbm, ⟨47, _⟩ => ⟨S1x2048x1, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S1x2048x1024, .f32⟩
  | .hbm, ⟨52, _⟩ => ⟨S1x2048x1024, .f32⟩
  | .hbm, ⟨53, _⟩ => ⟨S1x2048x1024, .f32⟩
  | .hbm, ⟨54, _⟩ => ⟨S1x2048x1024, .f32⟩
  | .hbm, ⟨55, _⟩ => ⟨S1x2048x1024, .f32⟩
  | .hbm, ⟨56, _⟩ => ⟨S2048x1024, .f32⟩
  | .hbm, ⟨57, _⟩ => ⟨S1024x4x1280, .f32⟩
  | .hbm, ⟨58, _⟩ => ⟨S4x1024x1280, .f32⟩
  | .hbm, ⟨59, _⟩ => ⟨S1x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== MixOutBwd.lean ====
abbrev S1x2048x5120 : Shape := ⟨3, ![1, 2048, 5120]⟩
abbrev S1x2048x512 : Shape := ⟨3, ![1, 2048, 512]⟩
abbrev S1x2048x1280 : Shape := ⟨3, ![1, 2048, 1280]⟩
abbrev S512x1024 : Shape := ⟨2, ![512, 1024]⟩
abbrev S1280x1024 : Shape := ⟨2, ![1280, 1024]⟩
abbrev S1024x1024 : Shape := ⟨2, ![1024, 1024]⟩
abbrev S1x2048x1024 : Shape := ⟨3, ![1, 2048, 1024]⟩
abbrev S512x4x256 : Shape := ⟨3, ![512, 4, 256]⟩
abbrev S4x512x256 : Shape := ⟨3, ![4, 512, 256]⟩
abbrev S2048x1024 : Shape := ⟨2, ![2048, 1024]⟩
abbrev S2048x5120 : Shape := ⟨2, ![2048, 5120]⟩
abbrev S2048x512 : Shape := ⟨2, ![2048, 512]⟩
abbrev S2048x1280 : Shape := ⟨2, ![2048, 1280]⟩
abbrev S2048x2048 : Shape := ⟨2, ![2048, 2048]⟩
abbrev S256x1024 : Shape := ⟨2, ![256, 1024]⟩
abbrev S256x512 : Shape := ⟨2, ![256, 512]⟩
abbrev S256x1280 : Shape := ⟨2, ![256, 1280]⟩
abbrev S256x2048 : Shape := ⟨2, ![256, 2048]⟩
abbrev S3 : Shape := ⟨1, ![3]⟩
abbrev S1x512x256 : Shape := ⟨3, ![1, 512, 256]⟩
abbrev S512x256 : Shape := ⟨2, ![512, 256]⟩
abbrev S256x256 : Shape := ⟨2, ![256, 256]⟩
abbrev S1 : Shape := ⟨1, ![1]⟩
abbrev S_ : Shape := ⟨0, ![]⟩

abbrev nBuf : Space → Nat
  | .hbm => 24
  | .vmem => 22
  | .smem => 0
  | _ => 0

abbrev bufTy : (tb : Table) → Fin (tcTables nBuf tb) → BufTy
  | .hbm, ⟨0, _⟩ => ⟨S1x2048x5120, .f32⟩
  | .hbm, ⟨1, _⟩ => ⟨S1x2048x512, .f32⟩
  | .hbm, ⟨2, _⟩ => ⟨S1x2048x1280, .f32⟩
  | .hbm, ⟨3, _⟩ => ⟨S512x1024, .f32⟩
  | .hbm, ⟨4, _⟩ => ⟨S1280x1024, .f32⟩
  | .hbm, ⟨5, _⟩ => ⟨S1024x1024, .f32⟩
  | .hbm, ⟨6, _⟩ => ⟨S1x2048x1024, .f32⟩
  | .hbm, ⟨7, _⟩ => ⟨S512x1024, .bf16⟩
  | .hbm, ⟨8, _⟩ => ⟨S512x4x256, .bf16⟩
  | .hbm, ⟨9, _⟩ => ⟨S4x512x256, .bf16⟩
  | .hbm, ⟨10, _⟩ => ⟨S2048x1024, .f32⟩
  | .hbm, ⟨11, _⟩ => ⟨S2048x5120, .f32⟩
  | .hbm, ⟨12, _⟩ => ⟨S2048x512, .f32⟩
  | .hbm, ⟨13, _⟩ => ⟨S2048x512, .bf16⟩
  | .hbm, ⟨14, _⟩ => ⟨S2048x1280, .f32⟩
  | .hbm, ⟨15, _⟩ => ⟨S2048x1280, .bf16⟩
  | .hbm, ⟨16, _⟩ => ⟨S1280x1024, .bf16⟩
  | .hbm, ⟨17, _⟩ => ⟨S1024x1024, .bf16⟩
  | .hbm, ⟨18, _⟩ => ⟨S2048x2048, .bf16⟩
  | .hbm, ⟨19, _⟩ => ⟨S2048x512, .f32⟩
  | .hbm, ⟨20, _⟩ => ⟨S2048x1280, .f32⟩
  | .hbm, ⟨21, _⟩ => ⟨S1024x1024, .f32⟩
  | .hbm, ⟨22, _⟩ => ⟨S4x512x256, .f32⟩
  | .hbm, ⟨23, _⟩ => ⟨S1280x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x512, .bf16⟩
  | .local _ .vmem, ⟨7, _⟩ => ⟨S256x512, .bf16⟩
  | .local _ .vmem, ⟨8, _⟩ => ⟨S256x1280, .bf16⟩
  | .local _ .vmem, ⟨9, _⟩ => ⟨S256x1280, .bf16⟩
  | .local _ .vmem, ⟨10, _⟩ => ⟨S4x512x256, .bf16⟩
  | .local _ .vmem, ⟨11, _⟩ => ⟨S1280x1024, .bf16⟩
  | .local _ .vmem, ⟨12, _⟩ => ⟨S1024x1024, .bf16⟩
  | .local _ .vmem, ⟨13, _⟩ => ⟨S256x2048, .bf16⟩
  | .local _ .vmem, ⟨14, _⟩ => ⟨S256x2048, .bf16⟩
  | .local _ .vmem, ⟨15, _⟩ => ⟨S256x512, .f32⟩
  | .local _ .vmem, ⟨16, _⟩ => ⟨S256x512, .f32⟩
  | .local _ .vmem, ⟨17, _⟩ => ⟨S256x1280, .f32⟩
  | .local _ .vmem, ⟨18, _⟩ => ⟨S256x1280, .f32⟩
  | .local _ .vmem, ⟨19, _⟩ => ⟨S1024x1024, .f32⟩
  | .local _ .vmem, ⟨20, _⟩ => ⟨S4x512x256, .f32⟩
  | .local _ .vmem, ⟨21, _⟩ => ⟨S1280x1024, .f32⟩
  | _, _ => ⟨S1x2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v11_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1280x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1280 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixOutBwdRefIdeal.lean ====
abbrev S1x2048x5120 : Shape := ⟨3, ![1, 2048, 5120]⟩
abbrev S1x2048x512 : Shape := ⟨3, ![1, 2048, 512]⟩
abbrev S1x2048x1280 : Shape := ⟨3, ![1, 2048, 1280]⟩
abbrev S512x1024 : Shape := ⟨2, ![512, 1024]⟩
abbrev S1280x1024 : Shape := ⟨2, ![1280, 1024]⟩
abbrev S1024x1024 : Shape := ⟨2, ![1024, 1024]⟩
abbrev S1x2048x1024 : Shape := ⟨3, ![1, 2048, 1024]⟩
abbrev S1x2048x2048 : Shape := ⟨3, ![1, 2048, 2048]⟩
abbrev S_ : Shape := ⟨0, ![]⟩
abbrev S1024x1280 : Shape := ⟨2, ![1024, 1280]⟩
abbrev S1024x512 : Shape := ⟨2, ![1024, 512]⟩
abbrev S2048x2048 : Shape := ⟨2, ![2048, 2048]⟩
abbrev S2048x512 : Shape := ⟨2, ![2048, 512]⟩
abbrev S2048x1280 : Shape := ⟨2, ![2048, 1280]⟩
abbrev S512x4x256 : Shape := ⟨3, ![512, 4, 256]⟩
abbrev S4x512x256 : Shape := ⟨3, ![4, 512, 256]⟩

abbrev nBuf : Space → Nat
  | .hbm => 53
  | .vmem => 0
  | .smem => 0
  | _ => 0

abbrev bufTy : (tb : Table) → Fin (tcTables nBuf tb) → BufTy
  | .hbm, ⟨0, _⟩ => ⟨S1x2048x5120, .f32⟩
  | .hbm, ⟨1, _⟩ => ⟨S1x2048x512, .f32⟩
  | .hbm, ⟨2, _⟩ => ⟨S1x2048x1280, .f32⟩
  | .hbm, ⟨3, _⟩ => ⟨S512x1024, .f32⟩
  | .hbm, ⟨4, _⟩ => ⟨S1280x1024, .f32⟩
  | .hbm, ⟨5, _⟩ => ⟨S1024x1024, .f32⟩
  | .hbm, ⟨6, _⟩ => ⟨S1x2048x1024, .f32⟩
  | .hbm, ⟨7, _⟩ => ⟨S1x2048x2048, .f32⟩
  | .hbm, ⟨8, _⟩ => ⟨S1x2048x1024, .f32⟩
  | .hbm, ⟨9, _⟩ => ⟨S1x2048x1024, .f32⟩
  | .hbm, ⟨10, _⟩ => ⟨S1x2048x2048, .f32⟩
  | .hbm, ⟨11, _⟩ => ⟨S1x2048x2048, .f32⟩
  | .hbm, ⟨12, _⟩ => ⟨S_, .f32⟩
  | .hbm, ⟨13, _⟩ => ⟨S1x2048x2048, .f32⟩
  | .hbm, ⟨14, _⟩ => ⟨S1x2048x2048, .f32⟩
  | .hbm, ⟨15, _⟩ => ⟨S_, .f32⟩
  | .hbm, ⟨16, _⟩ => ⟨S1x2048x2048, .f32⟩
  | .hbm, ⟨17, _⟩ => ⟨S1x2048x2048, .f32⟩
  | .hbm, ⟨18, _⟩ => ⟨S_, .f32⟩
  | .hbm, ⟨19, _⟩ => ⟨S1x2048x2048, .f32⟩
  | .hbm, ⟨20, _⟩ => ⟨S1x2048x2048, .f32⟩
  | .hbm, ⟨21, _⟩ => ⟨S1x2048x2048, .f32⟩
  | .hbm, ⟨22, _⟩ => ⟨S1x2048x1024, .f32⟩
  | .hbm, ⟨23, _⟩ => ⟨S1x2048x1024, .f32⟩
  | .hbm, ⟨24, _⟩ => ⟨S1x2048x1024, .f32⟩
  | .hbm, ⟨25, _⟩ => ⟨S1x2048x1024, .f32⟩
  | .hbm, ⟨26, _⟩ => ⟨S1x2048x1024, .f32⟩
  | .hbm, ⟨27, _⟩ => ⟨S1x2048x1024, .f32⟩
  | .hbm, ⟨28, _⟩ => ⟨S1024x1024, .f32⟩
  | .hbm, ⟨29, _⟩ => ⟨S1024x1024, .f32⟩
  | .hbm, ⟨30, _⟩ => ⟨S1x2048x1024, .f32⟩
  | .hbm, ⟨31, _⟩ => ⟨S1x2048x1024, .f32⟩
  | .hbm, ⟨32, _⟩ => ⟨S1x2048x1024, .f32⟩
  | .hbm, ⟨33, _⟩ => ⟨S1x2048x1024, .f32⟩
  | .hbm, ⟨34, _⟩ => ⟨S1x2048x1024, .f32⟩
  | .hbm, ⟨35, _⟩ => ⟨S_, .f32⟩
  | .hbm, ⟨36, _⟩ => ⟨S1x2048x2048, .f32⟩
  | .hbm, ⟨37, _⟩ => ⟨S_, .f32⟩
  | .hbm, ⟨38, _⟩ => ⟨S1x2048x2048, .f32⟩
  | .hbm, ⟨39, _⟩ => ⟨S1x2048x2048, .f32⟩
  | .hbm, ⟨40, _⟩ => ⟨S1x2048x2048, .f32⟩
  | .hbm, ⟨41, _⟩ => ⟨S1024x1280, .f32⟩
  | .hbm, ⟨42, _⟩ => ⟨S1280x1024, .f32⟩
  | .hbm, ⟨43, _⟩ => ⟨S1x2048x1280, .f32⟩
  | .hbm, ⟨44, _⟩ => ⟨S1024x512, .f32⟩
  | .hbm, ⟨45, _⟩ => ⟨S512x1024, .f32⟩
  | .hbm, ⟨46, _⟩ => ⟨S1x2048x512, .f32⟩
  | .hbm, ⟨47, _⟩ => ⟨S2048x2048, .f32⟩
  | .hbm, ⟨48, _⟩ => ⟨S2048x2048, .bf16⟩
  | .hbm, ⟨49, _⟩ => ⟨S2048x512, .f32⟩
  | .hbm, ⟨50, _⟩ => ⟨S2048x1280, .f32⟩
  | .hbm, ⟨51, _⟩ => ⟨S512x4x256, .f32⟩
  | .hbm, ⟨52, _⟩ => ⟨S4x512x256, .f32⟩
  | _, _ => ⟨S1x2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== PoolBwd.lean ====
abbrev S1x2048x5120 : Shape := ⟨3, ![1, 2048, 5120]⟩
abbrev S4x128x128 : Shape := ⟨3, ![4, 128, 128]⟩
abbrev S4x128 : Shape := ⟨2, ![4, 128]⟩
abbrev S512 : Shape := ⟨1, ![512]⟩
abbrev S1x2048x512 : Shape := ⟨3, ![1, 2048, 512]⟩
abbrev S2048x5120 : Shape := ⟨2, ![2048, 5120]⟩
abbrev S2048x512 : Shape := ⟨2, ![2048, 512]⟩
abbrev S4x1x128 : Shape := ⟨3, ![4, 1, 128]⟩
abbrev S1x512 : Shape := ⟨2, ![1, 512]⟩
abbrev S2064x128 : Shape := ⟨2, ![2064, 128]⟩
abbrev S8x128 : Shape := ⟨2, ![8, 128]⟩
abbrev S2048x128 : Shape := ⟨2, ![2048, 128]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩
abbrev S128 : Shape := ⟨1, ![128]⟩

abbrev nBuf : Space → Nat
  | .hbm => 13
  | .vmem => 10
  | .smem => 0
  | _ => 0

abbrev bufTy : (tb : Table) → Fin (tcTables nBuf tb) → BufTy
  | .hbm, ⟨0, _⟩ => ⟨S1x2048x5120, .f32⟩
  | .hbm, ⟨1, _⟩ => ⟨S4x128x128, .f32⟩
  | .hbm, ⟨2, _⟩ => ⟨S4x128, .f32⟩
  | .hbm, ⟨3, _⟩ => ⟨S512, .f32⟩
  | .hbm, ⟨4, _⟩ => ⟨S1x2048x512, .f32⟩
  | .hbm, ⟨5, _⟩ => ⟨S2048x5120, .f32⟩
  | .hbm, ⟨6, _⟩ => ⟨S2048x512, .f32⟩
  | .hbm, ⟨7, _⟩ => ⟨S4x1x128, .f32⟩
  | .hbm, ⟨8, _⟩ => ⟨S1x512, .f32⟩
  | .hbm, ⟨9, _⟩ => ⟨S2048x512, .bf16⟩
  | .hbm, ⟨10, _⟩ => ⟨S4x128x128, .f32⟩
  | .hbm, ⟨11, _⟩ => ⟨S4x1x128, .f32⟩
  | .hbm, ⟨12, _⟩ => ⟨S1x512, .f32⟩
  | .local _ .vmem, ⟨0, _⟩ => ⟨S2048x512, .f32⟩
  | .local _ .vmem, ⟨1, _⟩ => ⟨S2048x512, .f32⟩
  | .local _ .vmem, ⟨2, _⟩ => ⟨S4x128x128, .f32⟩
  | .local _ .vmem, ⟨3, _⟩ => ⟨S4x1x128, .f32⟩
  | .local _ .vmem, ⟨4, _⟩ => ⟨S1x512, .f32⟩
  | .local _ .vmem, ⟨5, _⟩ => ⟨S2048x512, .bf16⟩
  | .local _ .vmem, ⟨6, _⟩ => ⟨S4x128x128, .f32⟩
  | .local _ .vmem, ⟨7, _⟩ => ⟨S4x1x128, .f32⟩
  | .local _ .vmem, ⟨8, _⟩ => ⟨S1x512, .f32⟩
  | .local _ .vmem, ⟨9, _⟩ => ⟨S2064x128, .f32⟩
  | _, _ => ⟨S1x2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== PoolBwdRefIdeal.lean ====
abbrev S1x2048x5120 : Shape := ⟨3, ![1, 2048, 5120]⟩
abbrev S4x128x128 : Shape := ⟨3, ![4, 128, 128]⟩
abbrev S4x128 : Shape := ⟨2, ![4, 128]⟩
abbrev S512 : Shape := ⟨1, ![512]⟩
abbrev S1x2048x512 : Shape := ⟨3, ![1, 2048, 512]⟩
abbrev S1x2048x4x128 : Shape := ⟨4, ![1, 2048, 4, 128]⟩
abbrev S1x2048x1x128 : Shape := ⟨4, ![1, 2048, 1, 128]⟩
abbrev S1x2048x128 : Shape := ⟨3, ![1, 2048, 128]⟩
abbrev S_ : Shape := ⟨0, ![]⟩
abbrev S1x1x128 : Shape := ⟨3, ![1, 1, 128]⟩
abbrev S1x2049x128 : Shape := ⟨3, ![1, 2049, 128]⟩
abbrev S1x2047x128 : Shape := ⟨3, ![1, 2047, 128]⟩
abbrev S2048 : Shape := ⟨1, ![2048]⟩
abbrev S1x2048x1 : Shape := ⟨3, ![1, 2048, 1]⟩
abbrev S1x3x128 : Shape := ⟨3, ![1, 3, 128]⟩
abbrev S1x2045x128 : Shape := ⟨3, ![1, 2045, 128]⟩
abbrev S1x7x128 : Shape := ⟨3, ![1, 7, 128]⟩
abbrev S1x2041x128 : Shape := ⟨3, ![1, 2041, 128]⟩
abbrev S1x15x128 : Shape := ⟨3, ![1, 15, 128]⟩
abbrev S1x2033x128 : Shape := ⟨3, ![1, 2033, 128]⟩
abbrev S4x128x1x2048 : Shape := ⟨4, ![4, 128, 1, 2048]⟩
abbrev S1x1x4x128 : Shape := ⟨4, ![1, 1, 4, 128]⟩
abbrev S1x1x512 : Shape := ⟨3, ![1, 1, 512]⟩
abbrev S1x512 : Shape := ⟨2, ![1, 512]⟩
abbrev S1x4x128 : Shape := ⟨3, ![1, 4, 128]⟩
abbrev S4x1x2048x128 : Shape := ⟨4, ![4, 1, 2048, 128]⟩
abbrev S2048x512 : Shape := ⟨2, ![2048, 512]⟩
abbrev S4x1x128 : Shape := ⟨3, ![4, 1, 128]⟩

abbrev nBuf : Space → Nat
  | .hbm => 240
  | .vmem => 0
  | .smem => 0
  | _ => 0

abbrev hbmTy0_0 (i : Nat) : BufTy := match i % 128 with
  | 0 => ⟨S1x2048x5120, .f32⟩
  | 1 => ⟨S4x128x128, .f32⟩
  | 2 => ⟨S4x128, .f32⟩
  | 3 => ⟨S512, .f32⟩
  | 4 => ⟨S1x2048x512, .f32⟩
  | 5 => ⟨S1x2048x512, .f32⟩
  | 6 => ⟨S1x2048x4x128, .f32⟩
  | 7 => ⟨S1x2048x1x128, .f32⟩
  | 8 => ⟨S1x2048x128, .f32⟩
  | 9 => ⟨S_, .f32⟩
  | 10 => ⟨S_, .f32⟩
  | 11 => ⟨S1x2048x128, .f32⟩
  | 12 => ⟨S_, .f32⟩
  | 13 => ⟨S1x1x128, .f32⟩
  | 14 => ⟨S1x2049x128, .f32⟩
  | 15 => ⟨S_, .f32⟩
  | 16 => ⟨S1x1x128, .f32⟩
  | 17 => ⟨S_, .f32⟩
  | 18 => ⟨S1x1x128, .f32⟩
  | 19 => ⟨S1x2047x128, .f32⟩
  | 20 => ⟨S1x2048x128, .f32⟩
  | 21 => ⟨S_, .f32⟩
  | 22 => ⟨S1x1x128, .f32⟩
  | 23 => ⟨S2048, .f32⟩
  | 24 => ⟨S_, .f32⟩
  | 25 => ⟨S2048, .f32⟩
  | 26 => ⟨S2048, .f32⟩
  | 27 => ⟨S_, .f32⟩
  | 28 => ⟨S2048, .f32⟩
  | 29 => ⟨S2048, .f32⟩
  | 30 => ⟨S1x2048x1, .f32⟩
  | 31 => ⟨S1x2048x128, .f32⟩
  | 32 => ⟨S1x2048x128, .f32⟩
  | 33 => ⟨S1x2048x128, .f32⟩
  | 34 => ⟨S1x2048x128, .f32⟩
  | 35 => ⟨S1x2048x1x128, .f32⟩
  | 36 => ⟨S1x2048x128, .f32⟩
  | 37 => ⟨S_, .f32⟩
  | 38 => ⟨S_, .f32⟩
  | 39 => ⟨S1x2048x128, .f32⟩
  | 40 => ⟨S_, .f32⟩
  | 41 => ⟨S1x1x128, .f32⟩
  | 42 => ⟨S1x2049x128, .f32⟩
  | 43 => ⟨S_, .f32⟩
  | 44 => ⟨S1x1x128, .f32⟩
  | 45 => ⟨S_, .f32⟩
  | 46 => ⟨S1x3x128, .f32⟩
  | 47 => ⟨S1x2045x128, .f32⟩
  | 48 => ⟨S1x2048x128, .f32⟩
  | 49 => ⟨S_, .f32⟩
  | 50 => ⟨S1x3x128, .f32⟩
  | 51 => ⟨S2048, .f32⟩
  | 52 => ⟨S_, .f32⟩
  | 53 => ⟨S2048, .f32⟩
  | 54 => ⟨S2048, .f32⟩
  | 55 => ⟨S_, .f32⟩
  | 56 => ⟨S2048, .f32⟩
  | 57 => ⟨S2048, .f32⟩
  | 58 => ⟨S1x2048x1, .f32⟩
  | 59 => ⟨S1x2048x128, .f32⟩
  | 60 => ⟨S1x2048x128, .f32⟩
  | 61 => ⟨S1x2048x128, .f32⟩
  | 62 => ⟨S1x2048x128, .f32⟩
  | 63 => ⟨S1x2048x1x128, .f32⟩
  | 64 => ⟨S1x2048x128, .f32⟩
  | 65 => ⟨S_, .f32⟩
  | 66 => ⟨S_, .f32⟩
  | 67 => ⟨S1x2048x128, .f32⟩
  | 68 => ⟨S_, .f32⟩
  | 69 => ⟨S1x1x128, .f32⟩
  | 70 => ⟨S1x2049x128, .f32⟩
  | 71 => ⟨S_, .f32⟩
  | 72 => ⟨S1x1x128, .f32⟩
  | 73 => ⟨S_, .f32⟩
  | 74 => ⟨S1x7x128, .f32⟩
  | 75 => ⟨S1x2041x128, .f32⟩
  | 76 => ⟨S1x2048x128, .f32⟩
  | 77 => ⟨S_, .f32⟩
  | 78 => ⟨S1x7x128, .f32⟩
  | 79 => ⟨S2048, .f32⟩
  | 80 => ⟨S_, .f32⟩
  | 81 => ⟨S2048, .f32⟩
  | 82 => ⟨S2048, .f32⟩
  | 83 => ⟨S_, .f32⟩
  | 84 => ⟨S2048, .f32⟩
  | 85 => ⟨S2048, .f32⟩
  | 86 => ⟨S1x2048x1, .f32⟩
  | 87 => ⟨S1x2048x128, .f32⟩
  | 88 => ⟨S1x2048x128, .f32⟩
  | 89 => ⟨S1x2048x128, .f32⟩
  | 90 => ⟨S1x2048x128, .f32⟩
  | 91 => ⟨S1x2048x1x128, .f32⟩
  | 92 => ⟨S1x2048x128, .f32⟩
  | 93 => ⟨S_, .f32⟩
  | 94 => ⟨S_, .f32⟩
  | 95 => ⟨S1x2048x128, .f32⟩
  | 96 => ⟨S_, .f32⟩
  | 97 => ⟨S1x1x128, .f32⟩
  | 98 => ⟨S1x2049x128, .f32⟩
  | 99 => ⟨S_, .f32⟩
  | 100 => ⟨S1x1x128, .f32⟩
  | 101 => ⟨S_, .f32⟩
  | 102 => ⟨S1x15x128, .f32⟩
  | 103 => ⟨S1x2033x128, .f32⟩
  | 104 => ⟨S1x2048x128, .f32⟩
  | 105 => ⟨S_, .f32⟩
  | 106 => ⟨S1x15x128, .f32⟩
  | 107 => ⟨S2048, .f32⟩
  | 108 => ⟨S_, .f32⟩
  | 109 => ⟨S2048, .f32⟩
  | 110 => ⟨S2048, .f32⟩
  | 111 => ⟨S_, .f32⟩
  | 112 => ⟨S2048, .f32⟩
  | 113 => ⟨S2048, .f32⟩
  | 114 => ⟨S1x2048x1, .f32⟩
  | 115 => ⟨S1x2048x128, .f32⟩
  | 116 => ⟨S1x2048x128, .f32⟩
  | 117 => ⟨S1x2048x128, .f32⟩
  | 118 => ⟨S1x2048x128, .f32⟩
  | 119 => ⟨S1x2048x1x128, .f32⟩
  | 120 => ⟨S1x2048x1x128, .f32⟩
  | 121 => ⟨S1x2048x1x128, .f32⟩
  | 122 => ⟨S1x2048x1x128, .f32⟩
  | 123 => ⟨S1x2048x4x128, .f32⟩
  | 124 => ⟨S4x128x1x2048, .f32⟩
  | 125 => ⟨S1x2048x4x128, .f32⟩
  | 126 => ⟨S1x1x4x128, .f32⟩
  | 127 => ⟨S1x2048x4x128, .f32⟩
  | _ => ⟨S1x2048x5120, .f32⟩

abbrev hbmTy0_1 (i : Nat) : BufTy := match i % 128 with
  | 0 => ⟨S1x2048x4x128, .f32⟩
  | 1 => ⟨S1x2048x512, .f32⟩
  | 2 => ⟨S1x1x512, .f32⟩
  | 3 => ⟨S1x2048x512, .f32⟩
  | 4 => ⟨S1x2048x512, .f32⟩
  | 5 => ⟨S1x2048x512, .f32⟩
  | 6 => ⟨S_, .f32⟩
  | 7 => ⟨S1x512, .f32⟩
  | 8 => ⟨S1x1x512, .f32⟩
  | 9 => ⟨S1x2048x512, .f32⟩
  | 10 => ⟨S1x2048x512, .f32⟩
  | 11 => ⟨S_, .f32⟩
  | 12 => ⟨S512, .f32⟩
  | 13 => ⟨S1x2048x4x128, .f32⟩
  | 14 => ⟨S_, .f32⟩
  | 15 => ⟨S1x4x128, .f32⟩
  | 16 => ⟨S1x1x4x128, .f32⟩
  | 17 => ⟨S_, .f32⟩
  | 18 => ⟨S4x128, .f32⟩
  | 19 => ⟨S4x128x1x2048, .f32⟩
  | 20 => ⟨S4x1x2048x128, .f32⟩
  | 21 => ⟨S1x2048x4x128, .f32⟩
  | 22 => ⟨S4x128x128, .f32⟩
  | 23 => ⟨S4x128x128, .f32⟩
  | 24 => ⟨S1x2048x1x128, .f32⟩
  | 25 => ⟨S1x2048x128, .f32⟩
  | 26 => ⟨S1x2048x1x128, .f32⟩
  | 27 => ⟨S1x2048x128, .f32⟩
  | 28 => ⟨S1x2048x1x128, .f32⟩
  | 29 => ⟨S1x2048x128, .f32⟩
  | 30 => ⟨S1x2048x1x128, .f32⟩
  | 31 => ⟨S1x2048x128, .f32⟩
  | 32 => ⟨S1x2048x128, .f32⟩
  | 33 => ⟨S1x2048x128, .f32⟩
  | 34 => ⟨S1x2048x128, .f32⟩
  | 35 => ⟨S1x2048x128, .f32⟩
  | 36 => ⟨S1x15x128, .f32⟩
  | 37 => ⟨S1x2033x128, .f32⟩
  | 38 => ⟨S_, .f32⟩
  | 39 => ⟨S1x2049x128, .f32⟩
  | 40 => ⟨S1x1x128, .f32⟩
  | 41 => ⟨S1x2048x128, .f32⟩
  | 42 => ⟨S1x2048x128, .f32⟩
  | 43 => ⟨S_, .f32⟩
  | 44 => ⟨S_, .f32⟩
  | 45 => ⟨S1x2048x128, .f32⟩
  | 46 => ⟨S1x2048x128, .f32⟩
  | 47 => ⟨S1x2048x1x128, .f32⟩
  | 48 => ⟨S_, .f32⟩
  | 49 => ⟨S1x2048x4x128, .f32⟩
  | 50 => ⟨S1x2048x128, .f32⟩
  | 51 => ⟨S1x2048x128, .f32⟩
  | 52 => ⟨S1x2048x128, .f32⟩
  | 53 => ⟨S1x2048x128, .f32⟩
  | 54 => ⟨S1x7x128, .f32⟩
  | 55 => ⟨S1x2041x128, .f32⟩
  | 56 => ⟨S_, .f32⟩
  | 57 => ⟨S1x2049x128, .f32⟩
  | 58 => ⟨S1x1x128, .f32⟩
  | 59 => ⟨S1x2048x128, .f32⟩
  | 60 => ⟨S1x2048x128, .f32⟩
  | 61 => ⟨S_, .f32⟩
  | 62 => ⟨S_, .f32⟩
  | 63 => ⟨S1x2048x128, .f32⟩
  | 64 => ⟨S1x2048x128, .f32⟩
  | 65 => ⟨S1x2048x1x128, .f32⟩
  | 66 => ⟨S_, .f32⟩
  | 67 => ⟨S1x2048x4x128, .f32⟩
  | 68 => ⟨S1x2048x4x128, .f32⟩
  | 69 => ⟨S1x2048x128, .f32⟩
  | 70 => ⟨S1x2048x128, .f32⟩
  | 71 => ⟨S1x2048x128, .f32⟩
  | 72 => ⟨S1x2048x128, .f32⟩
  | 73 => ⟨S1x3x128, .f32⟩
  | 74 => ⟨S1x2045x128, .f32⟩
  | 75 => ⟨S_, .f32⟩
  | 76 => ⟨S1x2049x128, .f32⟩
  | 77 => ⟨S1x1x128, .f32⟩
  | 78 => ⟨S1x2048x128, .f32⟩
  | 79 => ⟨S1x2048x128, .f32⟩
  | 80 => ⟨S_, .f32⟩
  | 81 => ⟨S_, .f32⟩
  | 82 => ⟨S1x2048x128, .f32⟩
  | 83 => ⟨S1x2048x128, .f32⟩
  | 84 => ⟨S1x2048x1x128, .f32⟩
  | 85 => ⟨S_, .f32⟩
  | 86 => ⟨S1x2048x4x128, .f32⟩
  | 87 => ⟨S1x2048x4x128, .f32⟩
  | 88 => ⟨S1x2048x128, .f32⟩
  | 89 => ⟨S1x2048x128, .f32⟩
  | 90 => ⟨S1x2048x128, .f32⟩
  | 91 => ⟨S1x2048x128, .f32⟩
  | 92 => ⟨S1x1x128, .f32⟩
  | 93 => ⟨S1x2047x128, .f32⟩
  | 94 => ⟨S_, .f32⟩
  | 95 => ⟨S1x2049x128, .f32⟩
  | 96 => ⟨S1x1x128, .f32⟩
  | 97 => ⟨S1x2048x128, .f32⟩
  | 98 => ⟨S1x2048x128, .f32⟩
  | 99 => ⟨S_, .f32⟩
  | 100 => ⟨S_, .f32⟩
  | 101 => ⟨S1x2048x128, .f32⟩
  | 102 => ⟨S1x2048x128, .f32⟩
  | 103 => ⟨S1x2048x1x128, .f32⟩
  | 104 => ⟨S_, .f32⟩
  | 105 => ⟨S1x2048x4x128, .f32⟩
  | 106 => ⟨S1x2048x4x128, .f32⟩
  | 107 => ⟨S1x2048x512, .f32⟩
  | 108 => ⟨S2048x512, .f32⟩
  | 109 => ⟨S2048x512, .bf16⟩
  | 110 => ⟨S4x1x128, .f32⟩
  | 111 => ⟨S1x512, .f32⟩
  | _ => ⟨S1x2048x5120, .f32⟩

abbrev hbmTy (i : Nat) : BufTy := match i / 128 with
  | 0 => hbmTy0_0 i
  | 1 => hbmTy0_1 i
  | _ => ⟨S1x2048x5120, .f32⟩

abbrev bufTy : (tb : Table) → Fin (tcTables nBuf tb) → BufTy
  | .hbm, ⟨i, _⟩ => hbmTy i
  | _, _ => ⟨S1x2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_call0_cst : Ref sig .tc := ⟨.hbm, 9, rfl⟩
abbrev main_call0_call0_v0 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call1_call0_cst : Ref sig .tc := ⟨.hbm, 37, rfl⟩
abbrev main_call1_call0_v0 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_cst_10 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call2_call0_cst : Ref sig .tc := ⟨.hbm, 65, rfl⟩
abbrev main_call2_call0_v0 : Ref sig .tc := ⟨.hbm, 66, rfl⟩
abbrev main_v44 : Ref sig .tc := ⟨.hbm, 67, rfl⟩
abbrev main_cst_11 : Ref sig .tc := ⟨.hbm, 68, rfl⟩
abbrev main_v45 : Ref sig .tc := ⟨.hbm, 69, rfl⟩
abbrev main_v46 : Ref sig .tc := ⟨.hbm, 70, rfl⟩
abbrev main_cst_12 : Ref sig .tc := ⟨.hbm, 71, rfl⟩
abbrev main_v47 : Ref sig .tc := ⟨.hbm, 72, rfl⟩
abbrev main_cst_13 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_14 : Ref sig .tc := ⟨.hbm, 77, rfl⟩
abbrev main_v51 : Ref sig .tc := ⟨.hbm, 78, rfl⟩
abbrev main_v52 : Ref sig .tc := ⟨.hbm, 79, rfl⟩
abbrev main_cst_15 : Ref sig .tc := ⟨.hbm, 80, rfl⟩
abbrev main_v53 : Ref sig .tc := ⟨.hbm, 81, rfl⟩
abbrev main_v54 : Ref sig .tc := ⟨.hbm, 82, rfl⟩
abbrev main_cst_16 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_call3_call0_cst : Ref sig .tc := ⟨.hbm, 93, rfl⟩
abbrev main_call3_call0_v0 : Ref sig .tc := ⟨.hbm, 94, rfl⟩
abbrev main_v64 : Ref sig .tc := ⟨.hbm, 95, rfl⟩
abbrev main_cst_17 : Ref sig .tc := ⟨.hbm, 96, rfl⟩
abbrev main_v65 : Ref sig .tc := ⟨.hbm, 97, rfl⟩
abbrev main_v66 : Ref sig .tc := ⟨.hbm, 98, rfl⟩
abbrev main_cst_18 : Ref sig .tc := ⟨.hbm, 99, rfl⟩
abbrev main_v67 : Ref sig .tc := ⟨.hbm, 100, rfl⟩
abbrev main_cst_19 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_20 : Ref sig .tc := ⟨.hbm, 105, rfl⟩
abbrev main_v71 : Ref sig .tc := ⟨.hbm, 106, rfl⟩
abbrev main_v72 : Ref sig .tc := ⟨.hbm, 107, rfl⟩
abbrev main_cst_21 : Ref sig .tc := ⟨.hbm, 108, rfl⟩
abbrev main_v73 : Ref sig .tc := ⟨.hbm, 109, rfl⟩
abbrev main_v74 : Ref sig .tc := ⟨.hbm, 110, rfl⟩
abbrev main_cst_22 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_23 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_24 : Ref sig .tc := ⟨.hbm, 139, rfl⟩
abbrev main_v101 : Ref sig .tc := ⟨.hbm, 140, rfl⟩
abbrev main_v102 : Ref sig .tc := ⟨.hbm, 141, rfl⟩
abbrev main_cst_25 : Ref sig .tc := ⟨.hbm, 142, rfl⟩
abbrev main_v103 : Ref sig .tc := ⟨.hbm, 143, rfl⟩
abbrev main_v104 : Ref sig .tc := ⟨.hbm, 144, rfl⟩
abbrev main_cst_26 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_cst_27 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_call4_call0_cst : Ref sig .tc := ⟨.hbm, 171, rfl⟩
abbrev main_call4_call0_v0 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_cst_28 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_cst_29 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_call5_call0_cst : Ref sig .tc := ⟨.hbm, 189, rfl⟩
abbrev main_call5_call0_v0 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_cst_30 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_cst_31 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_call6_call0_cst : Ref sig .tc := ⟨.hbm, 208, rfl⟩
abbrev main_call6_call0_v0 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_cst_32 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_cst_33 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_call7_call0_cst : Ref sig .tc := ⟨.hbm, 227, rfl⟩
abbrev main_call7_call0_v0 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_cst_34 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩

abbrev nD : Nat := 1
abbrev τ : Topo := Topo.v7x

variable {F : FTy → Type} [FloatOps F]
-- ==== LruBwd.lean ====
abbrev S1x2048x5120 : Shape := ⟨3, ![1, 2048, 5120]⟩
abbrev S4x1280 : Shape := ⟨2, ![4, 1280]⟩
abbrev S1280 : Shape := ⟨1, ![1280]⟩
abbrev S10x128x128 : Shape := ⟨3, ![10, 128, 128]⟩
abbrev S10x128 : Shape := ⟨2, ![10, 128]⟩
abbrev S1x2048x1280 : Shape := ⟨3, ![1, 2048, 1280]⟩
abbrev S2048x5120 : Shape := ⟨2, ![2048, 5120]⟩
abbrev S1x1280 : Shape := ⟨2, ![1, 1280]⟩
abbrev S10x1x128 : Shape := ⟨3, ![10, 1, 128]⟩
abbrev S2048x1280 : Shape := ⟨2, ![2048, 1280]⟩
abbrev S_ : Shape := ⟨0, ![]⟩
abbrev S1x3x1280 : Shape := ⟨3, ![1, 3, 1280]⟩
abbrev S1x2051x1280 : Shape := ⟨3, ![1, 2051, 1280]⟩
abbrev S1x1x1280 : Shape := ⟨3, ![1, 1, 1280]⟩
abbrev S1x2048x10x128 : Shape := ⟨4, ![1, 2048, 10, 128]⟩
abbrev S10x128x1x2048 : Shape := ⟨4, ![10, 128, 1, 2048]⟩
abbrev S1x1x10x128 : Shape := ⟨4, ![1, 1, 10, 128]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048x1x1 : Shape := ⟨5, ![1, 2048, 2048, 1, 1]⟩
abbrev S1x1x2048x10x128 : Shape := ⟨5, ![1, 1, 2048, 10, 128]⟩
abbrev S1x2048x2048x10x128 : Shape := ⟨5, ![1, 2048, 2048, 10, 128]⟩
abbrev S1x2048x1x10x128 : Shape := ⟨5, ![1, 2048, 1, 10, 128]⟩
abbrev S2048x128 : Shape := ⟨2, ![2048, 128]⟩
abbrev S4x128 : Shape := ⟨2, ![4, 128]⟩
abbrev S1x128 : Shape := ⟨2, ![1, 128]⟩
abbrev S1x128x128 : Shape := ⟨3, ![1, 128, 128]⟩
abbrev S1x1x128 : Shape := ⟨3, ![1, 1, 128]⟩
abbrev S2064x128 : Shape := ⟨2, ![2064, 128]⟩
abbrev S4096x128 : Shape := ⟨2, ![4096, 128]⟩
abbrev S8x128 : Shape := ⟨2, ![8, 128]⟩
abbrev S1024x128 : Shape := ⟨2, ![1024, 128]⟩
abbrev S128x128 : Shape := ⟨2, ![128, 128]⟩
abbrev S128 : Shape := ⟨1, ![128]⟩

abbrev nBuf : Space → Nat
  | .hbm => 154
  | .vmem => 45
  | .smem => 0
  | _ => 0

abbrev hbmTy0_0 (i : Nat) : BufTy := match i % 128 with
  | 0 => ⟨S1x2048x5120, .f32⟩
  | 1 => ⟨S4x1280, .f32⟩
  | 2 => ⟨S1280, .f32⟩
  | 3 => ⟨S10x128x128, .f32⟩
  | 4 => ⟨S10x128, .f32⟩
  | 5 => ⟨S10x128x128, .f32⟩
  | 6 => ⟨S10x128, .f32⟩
  | 7 => ⟨S1280, .f32⟩
  | 8 => ⟨S1x2048x1280, .f32⟩
  | 9 => ⟨S2048x5120, .f32⟩
  | 10 => ⟨S1x1280, .f32⟩
  | 11 => ⟨S10x1x128, .f32⟩
  | 12 => ⟨S10x1x128, .f32⟩
  | 13 => ⟨S1x1280, .f32⟩
  | 14 => ⟨S2048x1280, .f32⟩
  | 15 => ⟨S1x2048x1280, .f32⟩
  | 16 => ⟨S_, .f32⟩
  | 17 => ⟨S1x3x1280, .f32⟩
  | 18 => ⟨S1x2051x1280, .f32⟩
  | 19 => ⟨S1x2048x1280, .f32⟩
  | 20 => ⟨S1x1280, .f32⟩
  | 21 => ⟨S1280, .f32⟩
  | 22 => ⟨S1x1x1280, .f32⟩
  | 23 => ⟨S1x2048x1280, .f32⟩
  | 24 => ⟨S1x2048x1280, .f32⟩
  | 25 => ⟨S_, .f32⟩
  | 26 => ⟨S1x2048x1280, .f32⟩
  | 27 => ⟨S1x2048x1280, .f32⟩
  | 28 => ⟨S1x2048x1280, .f32⟩
  | 29 => ⟨S1x1280, .f32⟩
  | 30 => ⟨S1280, .f32⟩
  | 31 => ⟨S1x1x1280, .f32⟩
  | 32 => ⟨S1x2048x1280, .f32⟩
  | 33 => ⟨S1x2048x1280, .f32⟩
  | 34 => ⟨S1x2048x1280, .f32⟩
  | 35 => ⟨S1x2048x1280, .f32⟩
  | 36 => ⟨S1x1280, .f32⟩
  | 37 => ⟨S1280, .f32⟩
  | 38 => ⟨S1x1x1280, .f32⟩
  | 39 => ⟨S1x2048x1280, .f32⟩
  | 40 => ⟨S1x2048x1280, .f32⟩
  | 41 => ⟨S1x2048x1280, .f32⟩
  | 42 => ⟨S1x2048x1280, .f32⟩
  | 43 => ⟨S1x1280, .f32⟩
  | 44 => ⟨S1280, .f32⟩
  | 45 => ⟨S1x1x1280, .f32⟩
  | 46 => ⟨S1x2048x1280, .f32⟩
  | 47 => ⟨S1x2048x1280, .f32⟩
  | 48 => ⟨S1x2048x1280, .f32⟩
  | 49 => ⟨S1x1x1280, .f32⟩
  | 50 => ⟨S1x2048x1280, .f32⟩
  | 51 => ⟨S1x2048x1280, .f32⟩
  | 52 => ⟨S1x2048x10x128, .f32⟩
  | 53 => ⟨S10x128x1x2048, .f32⟩
  | 54 => ⟨S1x2048x10x128, .f32⟩
  | 55 => ⟨S1x1x10x128, .f32⟩
  | 56 => ⟨S1x2048x10x128, .f32⟩
  | 57 => ⟨S1x2048x10x128, .f32⟩
  | 58 => ⟨S1x2048x10x128, .f32⟩
  | 59 => ⟨S1x2048x10x128, .f32⟩
  | 60 => ⟨S_, .f32⟩
  | 61 => ⟨S1x2048x10x128, .f32⟩
  | 62 => ⟨S1x2048x10x128, .f32⟩
  | 63 => ⟨S_, .f32⟩
  | 64 => ⟨S1x2048x10x128, .f32⟩
  | 65 => ⟨S1x2048x10x128, .f32⟩
  | 66 => ⟨S10x128x1x2048, .f32⟩
  | 67 => ⟨S1x2048x10x128, .f32⟩
  | 68 => ⟨S1x1x10x128, .f32⟩
  | 69 => ⟨S1x2048x10x128, .f32⟩
  | 70 => ⟨S1x2048x10x128, .f32⟩
  | 71 => ⟨S1x2048x10x128, .f32⟩
  | 72 => ⟨S1x2048x10x128, .f32⟩
  | 73 => ⟨S_, .f32⟩
  | 74 => ⟨S1x2048x10x128, .f32⟩
  | 75 => ⟨S1x2048x10x128, .f32⟩
  | 76 => ⟨S_, .f32⟩
  | 77 => ⟨S1x2048x10x128, .f32⟩
  | 78 => ⟨S1x2048x10x128, .f32⟩
  | 79 => ⟨S_, .f32⟩
  | 80 => ⟨S1x2048x10x128, .f32⟩
  | 81 => ⟨S1x2048x10x128, .f32⟩
  | 82 => ⟨S1280, .f32⟩
  | 83 => ⟨S_, .f32⟩
  | 84 => ⟨S1280, .f32⟩
  | 85 => ⟨S1280, .f32⟩
  | 86 => ⟨S1280, .f32⟩
  | 87 => ⟨S1280, .f32⟩
  | 88 => ⟨S1280, .i1⟩
  | 89 => ⟨S1280, .f32⟩
  | 90 => ⟨S1280, .f32⟩
  | 91 => ⟨S1280, .f32⟩
  | 92 => ⟨S1280, .f32⟩
  | 93 => ⟨S1280, .f32⟩
  | 94 => ⟨S1280, .f32⟩
  | 95 => ⟨S1280, .f32⟩
  | 96 => ⟨S1280, .f32⟩
  | 97 => ⟨S10x128, .f32⟩
  | 98 => ⟨S1x1x10x128, .f32⟩
  | 99 => ⟨S1x2048x10x128, .f32⟩
  | 100 => ⟨S1x2048x10x128, .f32⟩
  | 101 => ⟨S_, .f32⟩
  | 102 => ⟨S1x2048x10x128, .f32⟩
  | 103 => ⟨S1x2048x10x128, .f32⟩
  | 104 => ⟨S1x2048x10x128, .f32⟩
  | 105 => ⟨S1x2048x10x128, .f32⟩
  | 106 => ⟨S1x2048x10x128, .f32⟩
  | 107 => ⟨S1x2048x10x128, .f32⟩
  | 108 => ⟨S1x2048x10x128, .f32⟩
  | 109 => ⟨S2048, .i32⟩
  | 110 => ⟨S2048x1, .i32⟩
  | 111 => ⟨S2048, .i32⟩
  | 112 => ⟨S1x2048, .i32⟩
  | 113 => ⟨S2048x2048, .i32⟩
  | 114 => ⟨S2048x2048, .i32⟩
  | 115 => ⟨S2048x2048, .i1⟩
  | 116 => ⟨S1x2048x2048x1x1, .i1⟩
  | 117 => ⟨S1x1x2048x10x128, .f32⟩
  | 118 => ⟨S_, .f32⟩
  | 119 => ⟨S_, .f32⟩
  | 120 => ⟨S1x2048x2048x10x128, .i1⟩
  | 121 => ⟨S1x2048x2048x10x128, .f32⟩
  | 122 => ⟨S1x2048x2048x10x128, .f32⟩
  | 123 => ⟨S1x2048x2048x10x128, .f32⟩
  | 124 => ⟨S_, .f32⟩
  | 125 => ⟨S1x2048x10x128, .f32⟩
  | 126 => ⟨S1x2048x1x10x128, .f32⟩
  | 127 => ⟨S1x1x2048x10x128, .f32⟩
  | _ => ⟨S1x2048x5120, .f32⟩

abbrev hbmTy0_1 (i : Nat) : BufTy := match i % 128 with
  | 0 => ⟨S1x2048x2048x10x128, .f32⟩
  | 1 => ⟨S1x2048x2048x10x128, .f32⟩
  | 2 => ⟨S1x2048x2048x10x128, .f32⟩
  | 3 => ⟨S1x2048x2048x10x128, .f32⟩
  | 4 => ⟨S_, .f32⟩
  | 5 => ⟨S_, .f32⟩
  | 6 => ⟨S1x2048x2048x10x128, .i1⟩
  | 7 => ⟨S1x2048x2048x10x128, .f32⟩
  | 8 => ⟨S1x2048x2048x10x128, .f32⟩
  | 9 => ⟨S1x1x2048x10x128, .f32⟩
  | 10 => ⟨S1x2048x2048x10x128, .f32⟩
  | 11 => ⟨S1x2048x2048x10x128, .f32⟩
  | 12 => ⟨S_, .f32⟩
  | 13 => ⟨S1x2048x10x128, .f32⟩
  | 14 => ⟨S1x2048x1280, .f32⟩
  | 15 => ⟨S2048x1280, .f32⟩
  | 16 => ⟨S2048x1280, .f32⟩
  | 17 => ⟨S2048x1280, .bf16⟩
  | 18 => ⟨S2048x1280, .bf16⟩
  | 19 => ⟨S4x1280, .f32⟩
  | 20 => ⟨S1x1280, .f32⟩
  | 21 => ⟨S10x128x128, .f32⟩
  | 22 => ⟨S10x1x128, .f32⟩
  | 23 => ⟨S10x128x128, .f32⟩
  | 24 => ⟨S10x1x128, .f32⟩
  | 25 => ⟨S1x1280, .f32⟩
  | _ => ⟨S1x2048x5120, .f32⟩

abbrev hbmTy (i : Nat) : BufTy := match i / 128 with
  | 0 => hbmTy0_0 i
  | 1 => hbmTy0_1 i
  | _ => ⟨S1x2048x5120, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S4x128, .f32⟩
  | .local _ .vmem, ⟨5, _⟩ => ⟨S4x128, .f32⟩
  | .local _ .vmem, ⟨6, _⟩ => ⟨S1x128, .f32⟩
  | .local _ .vmem, ⟨7, _⟩ => ⟨S1x128, .f32⟩
  | .local _ .vmem, ⟨8, _⟩ => ⟨S1x128x128, .f32⟩
  | .local _ .vmem, ⟨9, _⟩ => ⟨S1x128x128, .f32⟩
  | .local _ .vmem, ⟨10, _⟩ => ⟨S1x1x128, .f32⟩
  | .local _ .vmem, ⟨11, _⟩ => ⟨S1x1x128, .f32⟩
  | .local _ .vmem, ⟨12, _⟩ => ⟨S1x128x128, .f32⟩
  | .local _ .vmem, ⟨13, _⟩ => ⟨S1x128x128, .f32⟩
  | .local _ .vmem, ⟨14, _⟩ => ⟨S1x1x128, .f32⟩
  | .local _ .vmem, ⟨15, _⟩ => ⟨S1x1x128, .f32⟩
  | .local _ .vmem, ⟨16, _⟩ => ⟨S1x128, .f32⟩
  | .local _ .vmem, ⟨17, _⟩ => ⟨S1x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x128, .bf16⟩
  | .local _ .vmem, ⟨23, _⟩ => ⟨S2048x128, .bf16⟩
  | .local _ .vmem, ⟨24, _⟩ => ⟨S2048x128, .bf16⟩
  | .local _ .vmem, ⟨25, _⟩ => ⟨S2048x128, .bf16⟩
  | .local _ .vmem, ⟨26, _⟩ => ⟨S4x128, .f32⟩
  | .local _ .vmem, ⟨27, _⟩ => ⟨S4x128, .f32⟩
  | .local _ .vmem, ⟨28, _⟩ => ⟨S1x128, .f32⟩
  | .local _ .vmem, ⟨29, _⟩ => ⟨S1x128, .f32⟩
  | .local _ .vmem, ⟨30, _⟩ => ⟨S1x128x128, .f32⟩
  | .local _ .vmem, ⟨31, _⟩ => ⟨S1x128x128, .f32⟩
  | .local _ .vmem, ⟨32, _⟩ => ⟨S1x1x128, .f32⟩
  | .local _ .vmem, ⟨33, _⟩ => ⟨S1x1x128, .f32⟩
  | .local _ .vmem, ⟨34, _⟩ => ⟨S1x128x128, .f32⟩
  | .local _ .vmem, ⟨35, _⟩ => ⟨S1x128x128, .f32⟩
  | .local _ .vmem, ⟨36, _⟩ => ⟨S1x1x128, .f32⟩
  | .local _ .vmem, ⟨37, _⟩ => ⟨S1x1x128, .f32⟩
  | .local _ .vmem, ⟨38, _⟩ => ⟨S1x128, .f32⟩
  | .local _ .vmem, ⟨39, _⟩ => ⟨S1x128, .f32⟩
  | .local _ .vmem, ⟨40, _⟩ => ⟨S2064x128, .f32⟩
  | .local _ .vmem, ⟨41, _⟩ => ⟨S4096x128, .f32⟩
  | .local _ .vmem, ⟨42, _⟩ => ⟨S4096x128, .f32⟩
  | .local _ .vmem, ⟨43, _⟩ => ⟨S4096x128, .f32⟩
  | .local _ .vmem, ⟨44, _⟩ => ⟨S4096x128, .f32⟩
  | _, _ => ⟨S1x2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_1 : Ref sig .tc := ⟨.hbm, 60, rfl⟩
abbrev main_v49 : Ref sig .tc := ⟨.hbm, 61, rfl⟩
abbrev main_v50 : Ref sig .tc := ⟨.hbm, 62, rfl⟩
abbrev main_cst_2 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_3 : Ref sig .tc := ⟨.hbm, 73, rfl⟩
abbrev main_v60 : Ref sig .tc := ⟨.hbm, 74, rfl⟩
abbrev main_v61 : Ref sig .tc := ⟨.hbm, 75, rfl⟩
abbrev main_cst_4 : Ref sig .tc := ⟨.hbm, 76, rfl⟩
abbrev main_v62 : Ref sig .tc := ⟨.hbm, 77, rfl⟩
abbrev main_v63 : Ref sig .tc := ⟨.hbm, 78, rfl⟩
abbrev main_cst_5 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_call0_cst : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_v5 : Ref sig .tc := ⟨.hbm, 89, rfl⟩
abbrev main_call0_v6 : Ref sig .tc := ⟨.hbm, 90, rfl⟩
abbrev main_call0_v7 : Ref sig .tc := ⟨.hbm, 91, rfl⟩
abbrev main_call0_v8 : Ref sig .tc := ⟨.hbm, 92, rfl⟩
abbrev main_call0_v9 : Ref sig .tc := ⟨.hbm, 93, rfl⟩
abbrev main_call0_v10 : Ref sig .tc := ⟨.hbm, 94, rfl⟩
abbrev main_call0_v11 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_6 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_7 : Ref sig .tc := ⟨.hbm, 118, rfl⟩
abbrev main_call1_v0 : Ref sig .tc := ⟨.hbm, 119, rfl⟩
abbrev main_call1_v1 : Ref sig .tc := ⟨.hbm, 120, rfl⟩
abbrev main_call1_v2 : Ref sig .tc := ⟨.hbm, 121, rfl⟩
abbrev main_call1_v3 : Ref sig .tc := ⟨.hbm, 122, rfl⟩
abbrev main_v88 : Ref sig .tc := ⟨.hbm, 123, rfl⟩
abbrev main_cst_8 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_9 : Ref sig .tc := ⟨.hbm, 132, rfl⟩
abbrev main_call2_v0 : Ref sig .tc := ⟨.hbm, 133, rfl⟩
abbrev main_call2_v1 : Ref sig .tc := ⟨.hbm, 134, rfl⟩
abbrev main_call2_v2 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_10 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104_0 : Ref sig .tc := ⟨.hbm, 145, rfl⟩
abbrev main_v104_1 : Ref sig .tc := ⟨.hbm, 146, rfl⟩
abbrev main_v104_2 : Ref sig .tc := ⟨.hbm, 147, rfl⟩
abbrev main_v104_3 : Ref sig .tc := ⟨.hbm, 148, rfl⟩
abbrev main_v104_4 : Ref sig .tc := ⟨.hbm, 149, rfl⟩
abbrev main_v104_5 : Ref sig .tc := ⟨.hbm, 150, rfl⟩
abbrev main_v104_6 : Ref sig .tc := ⟨.hbm, 151, rfl⟩
abbrev main_v104_7 : Ref sig .tc := ⟨.hbm, 152, rfl⟩
abbrev main_v104_8 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_scratch3 : Ref sig .tc := ⟨.vmem, 43, rfl⟩
abbrev cc0_scratch4 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c14_i32 : BitVec 32 := 14#32
  let v0 : BitVec 32 := Scalar.addi c14_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== LruBwdIdeal.lean ====
variable {F : FTy → Type} [FloatOps F] [Named F]
def κ : String → Option EReal := fun
  | "gelu_cubic" => some ((8943 / 200000 : ℝ) : EReal)
  | "gelu_cubic_slope" => some ((26829 / 200000 : ℝ) : EReal)
  | _ => none
-- ==== LruBwdRefIdeal.lean ====
abbrev S1x2048x5120 : Shape := ⟨3, ![1, 2048, 5120]⟩
abbrev S4x1280 : Shape := ⟨2, ![4, 1280]⟩
abbrev S1280 : Shape := ⟨1, ![1280]⟩
abbrev S10x128x128 : Shape := ⟨3, ![10, 128, 128]⟩
abbrev S10x128 : Shape := ⟨2, ![10, 128]⟩
abbrev S1x2048x1280 : Shape := ⟨3, ![1, 2048, 1280]⟩
abbrev S_ : Shape := ⟨0, ![]⟩
abbrev S1x3x1280 : Shape := ⟨3, ![1, 3, 1280]⟩
abbrev S1x2051x1280 : Shape := ⟨3, ![1, 2051, 1280]⟩
abbrev S1x1280 : Shape := ⟨2, ![1, 1280]⟩
abbrev S1x1x1280 : Shape := ⟨3, ![1, 1, 1280]⟩
abbrev S1x2048x10x128 : Shape := ⟨4, ![1, 2048, 10, 128]⟩
abbrev S10x128x1x2048 : Shape := ⟨4, ![10, 128, 1, 2048]⟩
abbrev S1x1x10x128 : Shape := ⟨4, ![1, 1, 10, 128]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048x1x1 : Shape := ⟨5, ![1, 2048, 2048, 1, 1]⟩
abbrev S1x1x2048x10x128 : Shape := ⟨5, ![1, 1, 2048, 10, 128]⟩
abbrev S1x2048x2048x10x128 : Shape := ⟨5, ![1, 2048, 2048, 10, 128]⟩
abbrev S1x2048x1x10x128 : Shape := ⟨5, ![1, 2048, 1, 10, 128]⟩
abbrev S2048x10x128 : Shape := ⟨3, ![2048, 10, 128]⟩
abbrev S1x10x128 : Shape := ⟨3, ![1, 10, 128]⟩
abbrev S10x1x2048x128 : Shape := ⟨4, ![10, 1, 2048, 128]⟩
abbrev S2048x1280 : Shape := ⟨2, ![2048, 1280]⟩
abbrev S10x1x128 : Shape := ⟨3, ![10, 1, 128]⟩

abbrev nBuf : Space → Nat
  | .hbm => 402
  | .vmem => 0
  | .smem => 0
  | _ => 0

abbrev hbmTy0_0 (i : Nat) : BufTy := match i % 128 with
  | 0 => ⟨S1x2048x5120, .f32⟩
  | 1 => ⟨S4x1280, .f32⟩
  | 2 => ⟨S1280, .f32⟩
  | 3 => ⟨S10x128x128, .f32⟩
  | 4 => ⟨S10x128, .f32⟩
  | 5 => ⟨S10x128x128, .f32⟩
  | 6 => ⟨S10x128, .f32⟩
  | 7 => ⟨S1280, .f32⟩
  | 8 => ⟨S1x2048x1280, .f32⟩
  | 9 => ⟨S1x2048x1280, .f32⟩
  | 10 => ⟨S1x2048x1280, .f32⟩
  | 11 => ⟨S_, .f32⟩
  | 12 => ⟨S1x3x1280, .f32⟩
  | 13 => ⟨S1x2051x1280, .f32⟩
  | 14 => ⟨S_, .f32⟩
  | 15 => ⟨S1x3x1280, .f32⟩
  | 16 => ⟨S1x2048x1280, .f32⟩
  | 17 => ⟨S1x1280, .f32⟩
  | 18 => ⟨S1280, .f32⟩
  | 19 => ⟨S1x1x1280, .f32⟩
  | 20 => ⟨S1x2048x1280, .f32⟩
  | 21 => ⟨S1x2048x1280, .f32⟩
  | 22 => ⟨S_, .f32⟩
  | 23 => ⟨S1x2048x1280, .f32⟩
  | 24 => ⟨S1x2048x1280, .f32⟩
  | 25 => ⟨S1x2048x1280, .f32⟩
  | 26 => ⟨S1x1280, .f32⟩
  | 27 => ⟨S1280, .f32⟩
  | 28 => ⟨S1x1x1280, .f32⟩
  | 29 => ⟨S1x2048x1280, .f32⟩
  | 30 => ⟨S1x2048x1280, .f32⟩
  | 31 => ⟨S1x2048x1280, .f32⟩
  | 32 => ⟨S1x2048x1280, .f32⟩
  | 33 => ⟨S1x1280, .f32⟩
  | 34 => ⟨S1280, .f32⟩
  | 35 => ⟨S1x1x1280, .f32⟩
  | 36 => ⟨S1x2048x1280, .f32⟩
  | 37 => ⟨S1x2048x1280, .f32⟩
  | 38 => ⟨S1x2048x1280, .f32⟩
  | 39 => ⟨S1x2048x1280, .f32⟩
  | 40 => ⟨S1x1280, .f32⟩
  | 41 => ⟨S1280, .f32⟩
  | 42 => ⟨S1x1x1280, .f32⟩
  | 43 => ⟨S1x2048x1280, .f32⟩
  | 44 => ⟨S1x2048x1280, .f32⟩
  | 45 => ⟨S1x2048x1280, .f32⟩
  | 46 => ⟨S1x1x1280, .f32⟩
  | 47 => ⟨S1x2048x1280, .f32⟩
  | 48 => ⟨S1x2048x1280, .f32⟩
  | 49 => ⟨S1x2048x10x128, .f32⟩
  | 50 => ⟨S10x128x1x2048, .f32⟩
  | 51 => ⟨S1x2048x10x128, .f32⟩
  | 52 => ⟨S1x1x10x128, .f32⟩
  | 53 => ⟨S1x2048x10x128, .f32⟩
  | 54 => ⟨S1x2048x10x128, .f32⟩
  | 55 => ⟨S1x2048x10x128, .f32⟩
  | 56 => ⟨S1x2048x10x128, .f32⟩
  | 57 => ⟨S_, .f32⟩
  | 58 => ⟨S1x2048x10x128, .f32⟩
  | 59 => ⟨S1x2048x10x128, .f32⟩
  | 60 => ⟨S_, .f32⟩
  | 61 => ⟨S1x2048x10x128, .f32⟩
  | 62 => ⟨S1x2048x10x128, .f32⟩
  | 63 => ⟨S_, .f32⟩
  | 64 => ⟨S1x2048x10x128, .f32⟩
  | 65 => ⟨S1x2048x10x128, .f32⟩
  | 66 => ⟨S1x2048x10x128, .f32⟩
  | 67 => ⟨S10x128x1x2048, .f32⟩
  | 68 => ⟨S1x2048x10x128, .f32⟩
  | 69 => ⟨S1x1x10x128, .f32⟩
  | 70 => ⟨S1x2048x10x128, .f32⟩
  | 71 => ⟨S1x2048x10x128, .f32⟩
  | 72 => ⟨S1x2048x10x128, .f32⟩
  | 73 => ⟨S1x2048x10x128, .f32⟩
  | 74 => ⟨S_, .f32⟩
  | 75 => ⟨S1x2048x10x128, .f32⟩
  | 76 => ⟨S1x2048x10x128, .f32⟩
  | 77 => ⟨S_, .f32⟩
  | 78 => ⟨S1x2048x10x128, .f32⟩
  | 79 => ⟨S1x2048x10x128, .f32⟩
  | 80 => ⟨S_, .f32⟩
  | 81 => ⟨S1x2048x10x128, .f32⟩
  | 82 => ⟨S1x2048x10x128, .f32⟩
  | 83 => ⟨S1x2048x10x128, .f32⟩
  | 84 => ⟨S_, .f32⟩
  | 85 => ⟨S1x2048x10x128, .f32⟩
  | 86 => ⟨S1x2048x10x128, .f32⟩
  | 87 => ⟨S1280, .f32⟩
  | 88 => ⟨S_, .f32⟩
  | 89 => ⟨S1280, .f32⟩
  | 90 => ⟨S1280, .f32⟩
  | 91 => ⟨S1280, .f32⟩
  | 92 => ⟨S1280, .f32⟩
  | 93 => ⟨S1280, .i1⟩
  | 94 => ⟨S1280, .f32⟩
  | 95 => ⟨S1280, .f32⟩
  | 96 => ⟨S1280, .f32⟩
  | 97 => ⟨S1280, .f32⟩
  | 98 => ⟨S1280, .f32⟩
  | 99 => ⟨S1280, .f32⟩
  | 100 => ⟨S1280, .f32⟩
  | 101 => ⟨S1280, .f32⟩
  | 102 => ⟨S_, .f32⟩
  | 103 => ⟨S1280, .f32⟩
  | 104 => ⟨S1280, .i1⟩
  | 105 => ⟨S_, .f32⟩
  | 106 => ⟨S1280, .f32⟩
  | 107 => ⟨S1280, .f32⟩
  | 108 => ⟨S_, .f32⟩
  | 109 => ⟨S1280, .f32⟩
  | 110 => ⟨S1280, .i1⟩
  | 111 => ⟨S_, .f32⟩
  | 112 => ⟨S1280, .f32⟩
  | 113 => ⟨S1280, .f32⟩
  | 114 => ⟨S1280, .f32⟩
  | 115 => ⟨S1280, .f32⟩
  | 116 => ⟨S_, .f32⟩
  | 117 => ⟨S_, .f32⟩
  | 118 => ⟨S_, .i1⟩
  | 119 => ⟨S_, .f32⟩
  | 120 => ⟨S_, .f32⟩
  | 121 => ⟨S_, .f32⟩
  | 122 => ⟨S_, .f32⟩
  | 123 => ⟨S1280, .f32⟩
  | 124 => ⟨S1280, .i1⟩
  | 125 => ⟨S_, .f32⟩
  | 126 => ⟨S1280, .f32⟩
  | 127 => ⟨S1280, .f32⟩
  | _ => ⟨S1x2048x5120, .f32⟩

abbrev hbmTy0_1 (i : Nat) : BufTy := match i % 128 with
  | 0 => ⟨S1280, .f32⟩
  | 1 => ⟨S1280, .f32⟩
  | 2 => ⟨S1280, .f32⟩
  | 3 => ⟨S_, .f32⟩
  | 4 => ⟨S1280, .f32⟩
  | 5 => ⟨S1280, .f32⟩
  | 6 => ⟨S10x128, .f32⟩
  | 7 => ⟨S1x1x10x128, .f32⟩
  | 8 => ⟨S1x2048x10x128, .f32⟩
  | 9 => ⟨S1x2048x10x128, .f32⟩
  | 10 => ⟨S_, .f32⟩
  | 11 => ⟨S1x2048x10x128, .f32⟩
  | 12 => ⟨S1x2048x10x128, .f32⟩
  | 13 => ⟨S1x2048x10x128, .f32⟩
  | 14 => ⟨S1x2048x10x128, .f32⟩
  | 15 => ⟨S1x2048x10x128, .f32⟩
  | 16 => ⟨S1x2048x10x128, .f32⟩
  | 17 => ⟨S_, .f32⟩
  | 18 => ⟨S1x2048x10x128, .f32⟩
  | 19 => ⟨S1x2048x10x128, .f32⟩
  | 20 => ⟨S1x2048x10x128, .f32⟩
  | 21 => ⟨S1x2048x10x128, .f32⟩
  | 22 => ⟨S2048, .i32⟩
  | 23 => ⟨S2048x1, .i32⟩
  | 24 => ⟨S2048, .i32⟩
  | 25 => ⟨S1x2048, .i32⟩
  | 26 => ⟨S2048x2048, .i32⟩
  | 27 => ⟨S2048x2048, .i32⟩
  | 28 => ⟨S2048x2048, .i1⟩
  | 29 => ⟨S1x2048x2048x1x1, .i1⟩
  | 30 => ⟨S1x1x2048x10x128, .f32⟩
  | 31 => ⟨S_, .f32⟩
  | 32 => ⟨S_, .f32⟩
  | 33 => ⟨S1x2048x2048x10x128, .i1⟩
  | 34 => ⟨S1x2048x2048x10x128, .f32⟩
  | 35 => ⟨S1x2048x2048x10x128, .f32⟩
  | 36 => ⟨S1x2048x2048x10x128, .f32⟩
  | 37 => ⟨S_, .f32⟩
  | 38 => ⟨S1x2048x2048x10x128, .f32⟩
  | 39 => ⟨S_, .f32⟩
  | 40 => ⟨S1x2048x10x128, .f32⟩
  | 41 => ⟨S1x2048x1x10x128, .f32⟩
  | 42 => ⟨S1x1x2048x10x128, .f32⟩
  | 43 => ⟨S1x2048x2048x10x128, .f32⟩
  | 44 => ⟨S1x2048x2048x10x128, .f32⟩
  | 45 => ⟨S1x2048x2048x10x128, .f32⟩
  | 46 => ⟨S1x2048x2048x10x128, .f32⟩
  | 47 => ⟨S_, .f32⟩
  | 48 => ⟨S_, .f32⟩
  | 49 => ⟨S1x2048x2048x10x128, .i1⟩
  | 50 => ⟨S1x2048x2048x10x128, .f32⟩
  | 51 => ⟨S1x2048x2048x10x128, .f32⟩
  | 52 => ⟨S_, .f32⟩
  | 53 => ⟨S1x2048x2048x10x128, .f32⟩
  | 54 => ⟨S1x1x2048x10x128, .f32⟩
  | 55 => ⟨S1x2048x2048x10x128, .f32⟩
  | 56 => ⟨S1x2048x2048x10x128, .f32⟩
  | 57 => ⟨S_, .f32⟩
  | 58 => ⟨S1x2048x10x128, .f32⟩
  | 59 => ⟨S1x2048x1280, .f32⟩
  | 60 => ⟨S1x2048x1280, .f32⟩
  | 61 => ⟨S1x2048x1280, .f32⟩
  | 62 => ⟨S1x2048x1280, .f32⟩
  | 63 => ⟨S_, .f32⟩
  | 64 => ⟨S1x2048x1280, .f32⟩
  | 65 => ⟨S1x2048x1280, .f32⟩
  | 66 => ⟨S_, .f32⟩
  | 67 => ⟨S1x2048x1280, .f32⟩
  | 68 => ⟨S1x2048x1280, .f32⟩
  | 69 => ⟨S_, .f32⟩
  | 70 => ⟨S1x2048x1280, .f32⟩
  | 71 => ⟨S1x2048x1280, .f32⟩
  | 72 => ⟨S1x2048x1280, .f32⟩
  | 73 => ⟨S_, .f32⟩
  | 74 => ⟨S1x2048x1280, .f32⟩
  | 75 => ⟨S1x2048x1280, .f32⟩
  | 76 => ⟨S1x2048x1280, .f32⟩
  | 77 => ⟨S_, .f32⟩
  | 78 => ⟨S1x2048x1280, .f32⟩
  | 79 => ⟨S1x2048x1280, .f32⟩
  | 80 => ⟨S_, .f32⟩
  | 81 => ⟨S1x2048x1280, .f32⟩
  | 82 => ⟨S1x2048x1280, .f32⟩
  | 83 => ⟨S1x2048x1280, .f32⟩
  | 84 => ⟨S_, .f32⟩
  | 85 => ⟨S1x2048x1280, .f32⟩
  | 86 => ⟨S1x2048x1280, .f32⟩
  | 87 => ⟨S_, .f32⟩
  | 88 => ⟨S1x2048x1280, .f32⟩
  | 89 => ⟨S1x2048x1280, .f32⟩
  | 90 => ⟨S1x2048x1280, .f32⟩
  | 91 => ⟨S1x2048x1280, .f32⟩
  | 92 => ⟨S1x2048x1280, .f32⟩
  | 93 => ⟨S1x2048x1280, .f32⟩
  | 94 => ⟨S1x2048x1280, .f32⟩
  | 95 => ⟨S1x2048x1280, .f32⟩
  | 96 => ⟨S_, .f32⟩
  | 97 => ⟨S1x2048x1280, .f32⟩
  | 98 => ⟨S1x2048x1280, .f32⟩
  | 99 => ⟨S1x2048x1280, .f32⟩
  | 100 => ⟨S_, .f32⟩
  | 101 => ⟨S1x2048x1280, .f32⟩
  | 102 => ⟨S1x2048x1280, .f32⟩
  | 103 => ⟨S1x2048x1280, .f32⟩
  | 104 => ⟨S_, .f32⟩
  | 105 => ⟨S1x2048x1280, .f32⟩
  | 106 => ⟨S1x2048x1280, .f32⟩
  | 107 => ⟨S_, .f32⟩
  | 108 => ⟨S1x2048x1280, .f32⟩
  | 109 => ⟨S1x2048x1280, .f32⟩
  | 110 => ⟨S1x2048x1280, .f32⟩
  | 111 => ⟨S1x2048x1280, .f32⟩
  | 112 => ⟨S1x2048x10x128, .f32⟩
  | 113 => ⟨S1x2048x2048x10x128, .f32⟩
  | 114 => ⟨S1x2048x2048x10x128, .f32⟩
  | 115 => ⟨S_, .f32⟩
  | 116 => ⟨S1x2048x10x128, .f32⟩
  | 117 => ⟨S1x1x2048x10x128, .f32⟩
  | 118 => ⟨S1x2048x2048x10x128, .f32⟩
  | 119 => ⟨S1x2048x2048x10x128, .f32⟩
  | 120 => ⟨S_, .f32⟩
  | 121 => ⟨S2048x10x128, .f32⟩
  | 122 => ⟨S1x2048x10x128, .f32⟩
  | 123 => ⟨S_, .f32⟩
  | 124 => ⟨S1x2048x2048x10x128, .f32⟩
  | 125 => ⟨S1x2048x2048x10x128, .f32⟩
  | 126 => ⟨S1x2048x2048x10x128, .f32⟩
  | 127 => ⟨S_, .f32⟩
  | _ => ⟨S1x2048x5120, .f32⟩

abbrev hbmTy0_2 (i : Nat) : BufTy := match i % 128 with
  | 0 => ⟨S1x2048x10x128, .f32⟩
  | 1 => ⟨S1x2048x1x10x128, .f32⟩
  | 2 => ⟨S1x2048x2048x10x128, .f32⟩
  | 3 => ⟨S_, .f32⟩
  | 4 => ⟨S1x2048x10x128, .f32⟩
  | 5 => ⟨S1x1x2048x10x128, .f32⟩
  | 6 => ⟨S_, .f32⟩
  | 7 => ⟨S2048x10x128, .f32⟩
  | 8 => ⟨S1x2048x10x128, .f32⟩
  | 9 => ⟨S_, .f32⟩
  | 10 => ⟨S2048x10x128, .f32⟩
  | 11 => ⟨S1x2048x10x128, .f32⟩
  | 12 => ⟨S1x2048x10x128, .f32⟩
  | 13 => ⟨S1x2048x2048x10x128, .f32⟩
  | 14 => ⟨S_, .f32⟩
  | 15 => ⟨S1x2048x2048x10x128, .f32⟩
  | 16 => ⟨S1x2048x2048x10x128, .f32⟩
  | 17 => ⟨S_, .f32⟩
  | 18 => ⟨S2048x10x128, .f32⟩
  | 19 => ⟨S1x1x2048x10x128, .f32⟩
  | 20 => ⟨S_, .f32⟩
  | 21 => ⟨S2048x10x128, .f32⟩
  | 22 => ⟨S1x2048x10x128, .f32⟩
  | 23 => ⟨S1x2048x10x128, .f32⟩
  | 24 => ⟨S1x2048x10x128, .f32⟩
  | 25 => ⟨S1x2048x10x128, .f32⟩
  | 26 => ⟨S1x2048x10x128, .f32⟩
  | 27 => ⟨S1x2048x10x128, .f32⟩
  | 28 => ⟨S1x2048x10x128, .f32⟩
  | 29 => ⟨S1x2048x10x128, .f32⟩
  | 30 => ⟨S_, .f32⟩
  | 31 => ⟨S1x2048x10x128, .f32⟩
  | 32 => ⟨S1x2048x10x128, .f32⟩
  | 33 => ⟨S1x2048x10x128, .f32⟩
  | 34 => ⟨S1x2048x10x128, .f32⟩
  | 35 => ⟨S_, .f32⟩
  | 36 => ⟨S1x10x128, .f32⟩
  | 37 => ⟨S1x1x10x128, .f32⟩
  | 38 => ⟨S1x2048x10x128, .f32⟩
  | 39 => ⟨S1x2048x10x128, .f32⟩
  | 40 => ⟨S_, .f32⟩
  | 41 => ⟨S10x128, .f32⟩
  | 42 => ⟨S1280, .f32⟩
  | 43 => ⟨S1280, .f32⟩
  | 44 => ⟨S1280, .f32⟩
  | 45 => ⟨S_, .f32⟩
  | 46 => ⟨S1x2048x10x128, .f32⟩
  | 47 => ⟨S1x2048x10x128, .f32⟩
  | 48 => ⟨S1x2048x10x128, .f32⟩
  | 49 => ⟨S_, .f32⟩
  | 50 => ⟨S1x10x128, .f32⟩
  | 51 => ⟨S1x1x10x128, .f32⟩
  | 52 => ⟨S_, .f32⟩
  | 53 => ⟨S10x128, .f32⟩
  | 54 => ⟨S10x128x1x2048, .f32⟩
  | 55 => ⟨S10x1x2048x128, .f32⟩
  | 56 => ⟨S1x2048x10x128, .f32⟩
  | 57 => ⟨S1x2048x10x128, .f32⟩
  | 58 => ⟨S10x128x128, .f32⟩
  | 59 => ⟨S10x128x128, .f32⟩
  | 60 => ⟨S1x2048x10x128, .f32⟩
  | 61 => ⟨S_, .f32⟩
  | 62 => ⟨S1x10x128, .f32⟩
  | 63 => ⟨S1x1x10x128, .f32⟩
  | 64 => ⟨S_, .f32⟩
  | 65 => ⟨S10x128, .f32⟩
  | 66 => ⟨S10x128x1x2048, .f32⟩
  | 67 => ⟨S10x1x2048x128, .f32⟩
  | 68 => ⟨S1x2048x10x128, .f32⟩
  | 69 => ⟨S1x2048x10x128, .f32⟩
  | 70 => ⟨S10x128x128, .f32⟩
  | 71 => ⟨S10x128x128, .f32⟩
  | 72 => ⟨S1x2048x1280, .f32⟩
  | 73 => ⟨S_, .f32⟩
  | 74 => ⟨S1x1280, .f32⟩
  | 75 => ⟨S1x1x1280, .f32⟩
  | 76 => ⟨S_, .f32⟩
  | 77 => ⟨S1280, .f32⟩
  | 78 => ⟨S1x2048x1280, .f32⟩
  | 79 => ⟨S_, .f32⟩
  | 80 => ⟨S1x1280, .f32⟩
  | 81 => ⟨S1x1x1280, .f32⟩
  | 82 => ⟨S1x2048x1280, .f32⟩
  | 83 => ⟨S1x2048x1280, .f32⟩
  | 84 => ⟨S_, .f32⟩
  | 85 => ⟨S1280, .f32⟩
  | 86 => ⟨S1x1280, .f32⟩
  | 87 => ⟨S_, .f32⟩
  | 88 => ⟨S4x1280, .f32⟩
  | 89 => ⟨S_, .f32⟩
  | 90 => ⟨S1x2051x1280, .f32⟩
  | 91 => ⟨S1x2048x1280, .f32⟩
  | 92 => ⟨S_, .f32⟩
  | 93 => ⟨S1x1280, .f32⟩
  | 94 => ⟨S1x1x1280, .f32⟩
  | 95 => ⟨S1x2048x1280, .f32⟩
  | 96 => ⟨S1x2048x1280, .f32⟩
  | 97 => ⟨S_, .f32⟩
  | 98 => ⟨S1280, .f32⟩
  | 99 => ⟨S1x1280, .f32⟩
  | 100 => ⟨S_, .f32⟩
  | 101 => ⟨S4x1280, .f32⟩
  | 102 => ⟨S4x1280, .f32⟩
  | 103 => ⟨S_, .f32⟩
  | 104 => ⟨S1x2051x1280, .f32⟩
  | 105 => ⟨S1x2051x1280, .f32⟩
  | 106 => ⟨S1x2048x1280, .f32⟩
  | 107 => ⟨S_, .f32⟩
  | 108 => ⟨S1x1280, .f32⟩
  | 109 => ⟨S1x1x1280, .f32⟩
  | 110 => ⟨S1x2048x1280, .f32⟩
  | 111 => ⟨S1x2048x1280, .f32⟩
  | 112 => ⟨S_, .f32⟩
  | 113 => ⟨S1280, .f32⟩
  | 114 => ⟨S1x1280, .f32⟩
  | 115 => ⟨S_, .f32⟩
  | 116 => ⟨S4x1280, .f32⟩
  | 117 => ⟨S4x1280, .f32⟩
  | 118 => ⟨S_, .f32⟩
  | 119 => ⟨S1x2051x1280, .f32⟩
  | 120 => ⟨S1x2051x1280, .f32⟩
  | 121 => ⟨S1x2048x1280, .f32⟩
  | 122 => ⟨S_, .f32⟩
  | 123 => ⟨S1x1280, .f32⟩
  | 124 => ⟨S1x1x1280, .f32⟩
  | 125 => ⟨S1x2048x1280, .f32⟩
  | 126 => ⟨S1x2048x1280, .f32⟩
  | 127 => ⟨S_, .f32⟩
  | _ => ⟨S1x2048x5120, .f32⟩

abbrev hbmTy0_3 (i : Nat) : BufTy := match i % 128 with
  | 0 => ⟨S1280, .f32⟩
  | 1 => ⟨S1x1280, .f32⟩
  | 2 => ⟨S_, .f32⟩
  | 3 => ⟨S4x1280, .f32⟩
  | 4 => ⟨S4x1280, .f32⟩
  | 5 => ⟨S_, .f32⟩
  | 6 => ⟨S1x2051x1280, .f32⟩
  | 7 => ⟨S1x2051x1280, .f32⟩
  | 8 => ⟨S1x3x1280, .f32⟩
  | 9 => ⟨S1x2048x1280, .f32⟩
  | 10 => ⟨S2048x1280, .f32⟩
  | 11 => ⟨S2048x1280, .bf16⟩
  | 12 => ⟨S2048x1280, .f32⟩
  | 13 => ⟨S2048x1280, .bf16⟩
  | 14 => ⟨S1x1280, .f32⟩
  | 15 => ⟨S10x1x128, .f32⟩
  | 16 => ⟨S10x1x128, .f32⟩
  | 17 => ⟨S1x1280, .f32⟩
  | _ => ⟨S1x2048x5120, .f32⟩

abbrev hbmTy (i : Nat) : BufTy := match i / 128 with
  | 0 => hbmTy0_0 i
  | 1 => hbmTy0_1 i
  | 2 => hbmTy0_2 i
  | 3 => hbmTy0_3 i
  | _ => ⟨S1x2048x5120, .f32⟩

abbrev bufTy : (tb : Table) → Fin (tcTables nBuf tb) → BufTy
  | .hbm, ⟨i, _⟩ => hbmTy i
  | _, _ => ⟨S1x2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_2 : Ref sig .tc := ⟨.hbm, 57, rfl⟩
abbrev main_v45 : Ref sig .tc := ⟨.hbm, 58, rfl⟩
abbrev main_v46 : Ref sig .tc := ⟨.hbm, 59, rfl⟩
abbrev main_cst_3 : Ref sig .tc := ⟨.hbm, 60, rfl⟩
abbrev main_v47 : Ref sig .tc := ⟨.hbm, 61, rfl⟩
abbrev main_v48 : Ref sig .tc := ⟨.hbm, 62, rfl⟩
abbrev main_cst_4 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_5 : Ref sig .tc := ⟨.hbm, 74, rfl⟩
abbrev main_v59 : Ref sig .tc := ⟨.hbm, 75, rfl⟩
abbrev main_v60 : Ref sig .tc := ⟨.hbm, 76, rfl⟩
abbrev main_cst_6 : Ref sig .tc := ⟨.hbm, 77, rfl⟩
abbrev main_v61 : Ref sig .tc := ⟨.hbm, 78, rfl⟩
abbrev main_v62 : Ref sig .tc := ⟨.hbm, 79, rfl⟩
abbrev main_cst_7 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_8 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_call0_cst : Ref sig .tc := ⟨.hbm, 88, rfl⟩
abbrev main_call0_v0 : Ref sig .tc := ⟨.hbm, 89, rfl⟩
abbrev main_call0_v1 : Ref sig .tc := ⟨.hbm, 90, rfl⟩
abbrev main_call0_v2 : Ref sig .tc := ⟨.hbm, 91, rfl⟩
abbrev main_call0_v3 : Ref sig .tc := ⟨.hbm, 92, rfl⟩
abbrev main_call0_v4 : Ref sig .tc := ⟨.hbm, 93, rfl⟩
abbrev main_call0_v5 : Ref sig .tc := ⟨.hbm, 94, rfl⟩
abbrev main_call0_v6 : Ref sig .tc := ⟨.hbm, 95, rfl⟩
abbrev main_call0_v7 : Ref sig .tc := ⟨.hbm, 96, rfl⟩
abbrev main_call0_v8 : Ref sig .tc := ⟨.hbm, 97, rfl⟩
abbrev main_call0_v9 : Ref sig .tc := ⟨.hbm, 98, rfl⟩
abbrev main_call0_v10 : Ref sig .tc := ⟨.hbm, 99, rfl⟩
abbrev main_call0_v11 : Ref sig .tc := ⟨.hbm, 100, rfl⟩
abbrev main_v69_0 : Ref sig .tc := ⟨.hbm, 101, rfl⟩
abbrev main_call0_cst_0 : Ref sig .tc := ⟨.hbm, 102, rfl⟩
abbrev main_call0_v13 : Ref sig .tc := ⟨.hbm, 103, rfl⟩
abbrev main_call0_v14 : Ref sig .tc := ⟨.hbm, 104, rfl⟩
abbrev main_call0_cst_1 : Ref sig .tc := ⟨.hbm, 105, rfl⟩
abbrev main_call0_v15 : Ref sig .tc := ⟨.hbm, 106, rfl⟩
abbrev main_call0_v16 : Ref sig .tc := ⟨.hbm, 107, rfl⟩
abbrev main_call0_cst_2 : Ref sig .tc := ⟨.hbm, 108, rfl⟩
abbrev main_call0_v17 : Ref sig .tc := ⟨.hbm, 109, rfl⟩
abbrev main_call0_v18 : Ref sig .tc := ⟨.hbm, 110, rfl⟩
abbrev main_call0_cst_3 : Ref sig .tc := ⟨.hbm, 111, rfl⟩
abbrev main_call0_v19 : Ref sig .tc := ⟨.hbm, 112, rfl⟩
abbrev main_call0_v20 : Ref sig .tc := ⟨.hbm, 113, rfl⟩
abbrev main_call0_v21 : Ref sig .tc := ⟨.hbm, 114, rfl⟩
abbrev main_v69_1 : Ref sig .tc := ⟨.hbm, 115, rfl⟩
abbrev main_call0_cst_4 : Ref sig .tc := ⟨.hbm, 116, rfl⟩
abbrev main_call0_cst_5 : Ref sig .tc := ⟨.hbm, 117, rfl⟩
abbrev main_call0_v23 : Ref sig .tc := ⟨.hbm, 118, rfl⟩
abbrev main_call0_cst_6 : Ref sig .tc := ⟨.hbm, 119, rfl⟩
abbrev main_call0_cst_7 : Ref sig .tc := ⟨.hbm, 120, rfl⟩
abbrev main_call0_v24 : Ref sig .tc := ⟨.hbm, 121, rfl⟩
abbrev main_call0_cst_8 : Ref sig .tc := ⟨.hbm, 122, rfl⟩
abbrev main_call0_v25 : Ref sig .tc := ⟨.hbm, 123, rfl⟩
abbrev main_call0_v26 : Ref sig .tc := ⟨.hbm, 124, rfl⟩
abbrev main_call0_cst_9 : Ref sig .tc := ⟨.hbm, 125, rfl⟩
abbrev main_call0_v27 : Ref sig .tc := ⟨.hbm, 126, rfl⟩
abbrev main_call0_v28 : Ref sig .tc := ⟨.hbm, 127, rfl⟩
abbrev main_call0_v29 : Ref sig .tc := ⟨.hbm, 128, rfl⟩
abbrev main_call0_v30 : Ref sig .tc := ⟨.hbm, 129, rfl⟩
abbrev main_call0_v31 : Ref sig .tc := ⟨.hbm, 130, rfl⟩
abbrev main_call0_cst_10 : Ref sig .tc := ⟨.hbm, 131, rfl⟩
abbrev main_call0_v32 : Ref sig .tc := ⟨.hbm, 132, rfl⟩
abbrev main_v69_2 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_cst_9 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_cst_10 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_cst_11 : Ref sig .tc := ⟨.hbm, 159, rfl⟩
abbrev main_call1_v0 : Ref sig .tc := ⟨.hbm, 160, rfl⟩
abbrev main_v93_1 : Ref sig .tc := ⟨.hbm, 161, rfl⟩
abbrev main_call1_v2 : Ref sig .tc := ⟨.hbm, 162, rfl⟩
abbrev main_call1_v3 : Ref sig .tc := ⟨.hbm, 163, rfl⟩
abbrev main_v93_0 : Ref sig .tc := ⟨.hbm, 164, rfl⟩
abbrev main_call1_cst : Ref sig .tc := ⟨.hbm, 165, rfl⟩
abbrev main_v93_2 : Ref sig .tc := ⟨.hbm, 166, rfl⟩
abbrev main_cst_12 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_cst_13 : Ref sig .tc := ⟨.hbm, 175, rfl⟩
abbrev main_call2_v0 : Ref sig .tc := ⟨.hbm, 176, rfl⟩
abbrev main_v101_1 : Ref sig .tc := ⟨.hbm, 177, rfl⟩
abbrev main_call2_v2 : Ref sig .tc := ⟨.hbm, 178, rfl⟩
abbrev main_v101_0 : Ref sig .tc := ⟨.hbm, 179, rfl⟩
abbrev main_call2_cst : Ref sig .tc := ⟨.hbm, 180, rfl⟩
abbrev main_v101_2 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_cst_14 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_cst_15 : Ref sig .tc := ⟨.hbm, 191, rfl⟩
abbrev main_v110 : Ref sig .tc := ⟨.hbm, 192, rfl⟩
abbrev main_v111 : Ref sig .tc := ⟨.hbm, 193, rfl⟩
abbrev main_cst_16 : Ref sig .tc := ⟨.hbm, 194, rfl⟩
abbrev main_v112 : Ref sig .tc := ⟨.hbm, 195, rfl⟩
abbrev main_v113 : Ref sig .tc := ⟨.hbm, 196, rfl⟩
abbrev main_cst_17 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_cst_18 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_cst_19 : Ref sig .tc := ⟨.hbm, 205, rfl⟩
abbrev main_v120 : Ref sig .tc := ⟨.hbm, 206, rfl⟩
abbrev main_v121 : Ref sig .tc := ⟨.hbm, 207, rfl⟩
abbrev main_cst_20 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_cst_21 : Ref sig .tc := ⟨.hbm, 212, rfl⟩
abbrev main_v125 : Ref sig .tc := ⟨.hbm, 213, rfl⟩
abbrev main_v126 : Ref sig .tc := ⟨.hbm, 214, rfl⟩
abbrev main_cst_22 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_cst_23 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_cst_24 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_cst_25 : Ref sig .tc := ⟨.hbm, 232, rfl⟩
abbrev main_v141 : Ref sig .tc := ⟨.hbm, 233, rfl⟩
abbrev main_v142 : Ref sig .tc := ⟨.hbm, 234, rfl⟩
abbrev main_cst_26 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_v149 : Ref sig .tc := ⟨.hbm, 242, rfl⟩
abbrev main_cst_27 : Ref sig .tc := ⟨.hbm, 243, rfl⟩
abbrev main_v150 : Ref sig .tc := ⟨.hbm, 244, rfl⟩
abbrev main_v151 : Ref sig .tc := ⟨.hbm, 245, rfl⟩
abbrev main_v152 : Ref sig .tc := ⟨.hbm, 246, rfl⟩
abbrev main_v153 : Ref sig .tc := ⟨.hbm, 247, rfl⟩
abbrev main_cst_28 : Ref sig .tc := ⟨.hbm, 248, rfl⟩
abbrev main_v154 : Ref sig .tc := ⟨.hbm, 249, rfl⟩
abbrev main_v155 : Ref sig .tc := ⟨.hbm, 250, rfl⟩
abbrev main_call3_cst : Ref sig .tc := ⟨.hbm, 251, rfl⟩
abbrev main_call3_v0 : Ref sig .tc := ⟨.hbm, 252, rfl⟩
abbrev main_v156 : Ref sig .tc := ⟨.hbm, 253, rfl⟩
abbrev main_v157 : Ref sig .tc := ⟨.hbm, 254, rfl⟩
abbrev main_cst_29 : Ref sig .tc := ⟨.hbm, 255, rfl⟩
abbrev main_v158 : Ref sig .tc := ⟨.hbm, 256, rfl⟩
abbrev main_v159 : Ref sig .tc := ⟨.hbm, 257, rfl⟩
abbrev main_v160 : Ref sig .tc := ⟨.hbm, 258, rfl⟩
abbrev main_cst_30 : Ref sig .tc := ⟨.hbm, 259, rfl⟩
abbrev main_v161 : Ref sig .tc := ⟨.hbm, 260, rfl⟩
abbrev main_v162 : Ref sig .tc := ⟨.hbm, 261, rfl⟩
abbrev main_cst_31 : Ref sig .tc := ⟨.hbm, 262, rfl⟩
abbrev main_v163 : Ref sig .tc := ⟨.hbm, 263, rfl⟩
abbrev main_v164 : Ref sig .tc := ⟨.hbm, 264, rfl⟩
abbrev main_cst_32 : Ref sig .tc := ⟨.hbm, 265, rfl⟩
abbrev main_v165 : Ref sig .tc := ⟨.hbm, 266, rfl⟩
abbrev main_v166 : Ref sig .tc := ⟨.hbm, 267, rfl⟩
abbrev main_v167 : Ref sig .tc := ⟨.hbm, 268, rfl⟩
abbrev main_v168 : Ref sig .tc := ⟨.hbm, 269, rfl⟩
abbrev main_call4_cst : Ref sig .tc := ⟨.hbm, 270, rfl⟩
abbrev main_call4_v0 : Ref sig .tc := ⟨.hbm, 271, rfl⟩
abbrev main_call4_v1 : Ref sig .tc := ⟨.hbm, 272, rfl⟩
abbrev main_call4_cst_0 : Ref sig .tc := ⟨.hbm, 273, rfl⟩
abbrev main_call4_v2 : Ref sig .tc := ⟨.hbm, 274, rfl⟩
abbrev main_v169 : Ref sig .tc := ⟨.hbm, 275, rfl⟩
abbrev main_cst_33 : Ref sig .tc := ⟨.hbm, 276, rfl⟩
abbrev main_v170 : Ref sig .tc := ⟨.hbm, 277, rfl⟩
abbrev main_v171 : Ref sig .tc := ⟨.hbm, 278, rfl⟩
abbrev main_v172 : Ref sig .tc := ⟨.hbm, 279, rfl⟩
abbrev main_v173 : Ref sig .tc := ⟨.hbm, 280, rfl⟩
abbrev main_v174 : Ref sig .tc := ⟨.hbm, 281, rfl⟩
abbrev main_v175 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_cst_34 : Ref sig .tc := ⟨.hbm, 286, rfl⟩
abbrev main_v179 : Ref sig .tc := ⟨.hbm, 287, rfl⟩
abbrev main_v180 : Ref sig .tc := ⟨.hbm, 288, rfl⟩
abbrev main_v181 : Ref sig .tc := ⟨.hbm, 289, rfl⟩
abbrev main_v182 : Ref sig .tc := ⟨.hbm, 290, rfl⟩
abbrev main_cst_35 : Ref sig .tc := ⟨.hbm, 291, rfl⟩
abbrev main_v183 : Ref sig .tc := ⟨.hbm, 292, rfl⟩
abbrev main_v184 : Ref sig .tc := ⟨.hbm, 293, rfl⟩
abbrev main_v185 : Ref sig .tc := ⟨.hbm, 294, rfl⟩
abbrev main_v186 : Ref sig .tc := ⟨.hbm, 295, rfl⟩
abbrev main_cst_36 : Ref sig .tc := ⟨.hbm, 296, rfl⟩
abbrev main_v187 : Ref sig .tc := ⟨.hbm, 297, rfl⟩
abbrev main_v188 : Ref sig .tc := ⟨.hbm, 298, rfl⟩
abbrev main_v189 : Ref sig .tc := ⟨.hbm, 299, rfl⟩
abbrev main_v190 : Ref sig .tc := ⟨.hbm, 300, rfl⟩
abbrev main_cst_37 : Ref sig .tc := ⟨.hbm, 301, rfl⟩
abbrev main_v191 : Ref sig .tc := ⟨.hbm, 302, rfl⟩
abbrev main_v192 : Ref sig .tc := ⟨.hbm, 303, rfl⟩
abbrev main_v193 : Ref sig .tc := ⟨.hbm, 304, rfl⟩
abbrev main_cst_38 : Ref sig .tc := ⟨.hbm, 305, rfl⟩
abbrev main_v194 : Ref sig .tc := ⟨.hbm, 306, rfl⟩
abbrev main_v195 : Ref sig .tc := ⟨.hbm, 307, rfl⟩
abbrev main_cst_39 : Ref sig .tc := ⟨.hbm, 308, rfl⟩
abbrev main_v196 : Ref sig .tc := ⟨.hbm, 309, rfl⟩
abbrev main_v197 : Ref sig .tc := ⟨.hbm, 310, rfl⟩
abbrev main_v198 : Ref sig .tc := ⟨.hbm, 311, rfl⟩
abbrev main_v199 : Ref sig .tc := ⟨.hbm, 312, rfl⟩
abbrev main_v200 : Ref sig .tc := ⟨.hbm, 313, rfl⟩
abbrev main_v201 : Ref sig .tc := ⟨.hbm, 314, rfl⟩
abbrev main_v202 : Ref sig .tc := ⟨.hbm, 315, rfl⟩
abbrev main_v203 : Ref sig .tc := ⟨.hbm, 316, rfl⟩
abbrev main_cst_40 : Ref sig .tc := ⟨.hbm, 317, rfl⟩
abbrev main_v204 : Ref sig .tc := ⟨.hbm, 318, rfl⟩
abbrev main_v205 : Ref sig .tc := ⟨.hbm, 319, rfl⟩
abbrev main_cst_41 : Ref sig .tc := ⟨.hbm, 320, rfl⟩
abbrev main_v206 : Ref sig .tc := ⟨.hbm, 321, rfl⟩
abbrev main_v207 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_v211 : Ref sig .tc := ⟨.hbm, 326, rfl⟩
abbrev main_v212 : Ref sig .tc := ⟨.hbm, 327, rfl⟩
abbrev main_v213 : Ref sig .tc := ⟨.hbm, 328, rfl⟩
abbrev main_cst_42 : Ref sig .tc := ⟨.hbm, 329, rfl⟩
abbrev main_v214 : Ref sig .tc := ⟨.hbm, 330, rfl⟩
abbrev main_v215 : Ref sig .tc := ⟨.hbm, 331, rfl⟩
abbrev main_cst_43 : Ref sig .tc := ⟨.hbm, 332, rfl⟩
abbrev main_v216 : Ref sig .tc := ⟨.hbm, 333, rfl⟩
abbrev main_v217 : Ref sig .tc := ⟨.hbm, 334, rfl⟩
abbrev main_cst_44 : Ref sig .tc := ⟨.hbm, 335, rfl⟩
abbrev main_v218 : Ref sig .tc := ⟨.hbm, 336, rfl⟩
abbrev main_v219 : Ref sig .tc := ⟨.hbm, 337, rfl⟩
abbrev main_v220 : Ref sig .tc := ⟨.hbm, 338, rfl⟩
abbrev main_v221 : Ref sig .tc := ⟨.hbm, 339, rfl⟩
abbrev main_cst_45 : Ref sig .tc := ⟨.hbm, 340, rfl⟩
abbrev main_v222 : Ref sig .tc := ⟨.hbm, 341, rfl⟩
abbrev main_v223 : Ref sig .tc := ⟨.hbm, 342, rfl⟩
abbrev main_cst_46 : Ref sig .tc := ⟨.hbm, 343, rfl⟩
abbrev main_v224 : Ref sig .tc := ⟨.hbm, 344, rfl⟩
abbrev main_cst_47 : Ref sig .tc := ⟨.hbm, 345, rfl⟩
abbrev main_v225 : Ref sig .tc := ⟨.hbm, 346, rfl⟩
abbrev main_v226 : Ref sig .tc := ⟨.hbm, 347, rfl⟩
abbrev main_cst_48 : Ref sig .tc := ⟨.hbm, 348, rfl⟩
abbrev main_v227 : Ref sig .tc := ⟨.hbm, 349, rfl⟩
abbrev main_v228 : Ref sig .tc := ⟨.hbm, 350, rfl⟩
abbrev main_v229 : Ref sig .tc := ⟨.hbm, 351, rfl⟩
abbrev main_v230 : Ref sig .tc := ⟨.hbm, 352, rfl⟩
abbrev main_cst_49 : Ref sig .tc := ⟨.hbm, 353, rfl⟩
abbrev main_v231 : Ref sig .tc := ⟨.hbm, 354, rfl⟩
abbrev main_v232 : Ref sig .tc := ⟨.hbm, 355, rfl⟩
abbrev main_cst_50 : Ref sig .tc := ⟨.hbm, 356, rfl⟩
abbrev main_v233 : Ref sig .tc := ⟨.hbm, 357, rfl⟩
abbrev main_v234 : Ref sig .tc := ⟨.hbm, 358, rfl⟩
abbrev main_cst_51 : Ref sig .tc := ⟨.hbm, 359, rfl⟩
abbrev main_v235 : Ref sig .tc := ⟨.hbm, 360, rfl⟩
abbrev main_v236 : Ref sig .tc := ⟨.hbm, 361, rfl⟩
abbrev main_v237 : Ref sig .tc := ⟨.hbm, 362, rfl⟩
abbrev main_cst_52 : Ref sig .tc := ⟨.hbm, 363, rfl⟩
abbrev main_v238 : Ref sig .tc := ⟨.hbm, 364, rfl⟩
abbrev main_v239 : Ref sig .tc := ⟨.hbm, 365, rfl⟩
abbrev main_v240 : Ref sig .tc := ⟨.hbm, 366, rfl⟩
abbrev main_v241 : Ref sig .tc := ⟨.hbm, 367, rfl⟩
abbrev main_cst_53 : Ref sig .tc := ⟨.hbm, 368, rfl⟩
abbrev main_v242 : Ref sig .tc := ⟨.hbm, 369, rfl⟩
abbrev main_v243 : Ref sig .tc := ⟨.hbm, 370, rfl⟩
abbrev main_cst_54 : Ref sig .tc := ⟨.hbm, 371, rfl⟩
abbrev main_v244 : Ref sig .tc := ⟨.hbm, 372, rfl⟩
abbrev main_v245 : Ref sig .tc := ⟨.hbm, 373, rfl⟩
abbrev main_cst_55 : Ref sig .tc := ⟨.hbm, 374, rfl⟩
abbrev main_v246 : Ref sig .tc := ⟨.hbm, 375, rfl⟩
abbrev main_v247 : Ref sig .tc := ⟨.hbm, 376, rfl⟩
abbrev main_v248 : Ref sig .tc := ⟨.hbm, 377, rfl⟩
abbrev main_cst_56 : Ref sig .tc := ⟨.hbm, 378, rfl⟩
abbrev main_v249 : Ref sig .tc := ⟨.hbm, 379, rfl⟩
abbrev main_v250 : Ref sig .tc := ⟨.hbm, 380, rfl⟩
abbrev main_v251 : Ref sig .tc := ⟨.hbm, 381, rfl⟩
abbrev main_v252 : Ref sig .tc := ⟨.hbm, 382, rfl⟩
abbrev main_cst_57 : Ref sig .tc := ⟨.hbm, 383, rfl⟩
abbrev main_v253 : Ref sig .tc := ⟨.hbm, 384, rfl⟩
abbrev main_v254 : Ref sig .tc := ⟨.hbm, 385, rfl⟩
abbrev main_cst_58 : Ref sig .tc := ⟨.hbm, 386, rfl⟩
abbrev main_v255 : Ref sig .tc := ⟨.hbm, 387, rfl⟩
abbrev main_v256 : Ref sig .tc := ⟨.hbm, 388, rfl⟩
abbrev main_cst_59 : Ref sig .tc := ⟨.hbm, 389, rfl⟩
abbrev main_v257 : Ref sig .tc := ⟨.hbm, 390, rfl⟩
abbrev main_v258 : Ref sig .tc := ⟨.hbm, 391, rfl⟩
abbrev main_v259 : Ref sig .tc := ⟨.hbm, 392, rfl⟩
abbrev main_v260 : Ref sig .tc := ⟨.hbm, 393, rfl⟩
abbrev main_v261 : Ref sig .tc := ⟨.hbm, 394, rfl⟩
abbrev main_v262 : Ref sig .tc := ⟨.hbm, 395, rfl⟩
abbrev main_v263 : Ref sig .tc := ⟨.hbm, 396, rfl⟩
abbrev main_v264 : Ref sig .tc := ⟨.hbm, 397, rfl⟩
abbrev main_v265 : Ref sig .tc := ⟨.hbm, 398, rfl⟩
abbrev main_v266 : Ref sig .tc := ⟨.hbm, 399, rfl⟩
abbrev main_v267 : Ref sig .tc := ⟨.hbm, 400, rfl⟩
abbrev main_v268 : Ref sig .tc := ⟨.hbm, 401, rfl⟩

abbrev nD : Nat := 1
abbrev τ : Topo := Topo.v7x

variable {F : FTy → Type} [FloatOps F]
-- ==== SwigluFwd.lean ====
abbrev S1x2048x5632 : Shape := ⟨3, ![1, 2048, 5632]⟩
abbrev S1x2048x1024 : Shape := ⟨3, ![1, 2048, 1024]⟩
abbrev S2816x1024 : Shape := ⟨2, ![2816, 1024]⟩
abbrev S2048x5632 : Shape := ⟨2, ![2048, 5632]⟩
abbrev S2048x1024 : Shape := ⟨2, ![2048, 1024]⟩
abbrev S512x2816 : Shape := ⟨2, ![512, 2816]⟩
abbrev S512x1024 : Shape := ⟨2, ![512, 1024]⟩

abbrev nBuf : Space → Nat
  | .hbm => 8
  | .vmem => 9
  | .smem => 0
  | _ => 0

abbrev bufTy : (tb : Table) → Fin (tcTables nBuf tb) → BufTy
  | .hbm, ⟨0, _⟩ => ⟨S1x2048x5632, .f32⟩
  | .hbm, ⟨1, _⟩ => ⟨S1x2048x1024, .f32⟩
  | .hbm, ⟨2, _⟩ => ⟨S2816x1024, .f32⟩
  | .hbm, ⟨3, _⟩ => ⟨S2048x5632, .f32⟩
  | .hbm, ⟨4, _⟩ => ⟨S2048x5632, .bf16⟩
  | .hbm, ⟨5, _⟩ => ⟨S2048x1024, .f32⟩
  | .hbm, ⟨6, _⟩ => ⟨S2816x1024, .bf16⟩
  | .hbm, ⟨7, _⟩ => ⟨S2048x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x1024, .f32⟩
  | .local _ .vmem, ⟨5, _⟩ => ⟨S512x1024, .f32⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | _, _ => ⟨S1x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SwigluFwdRefIdeal.lean ====
abbrev S1x2048x5632 : Shape := ⟨3, ![1, 2048, 5632]⟩
abbrev S1x2048x1024 : Shape := ⟨3, ![1, 2048, 1024]⟩
abbrev S2816x1024 : Shape := ⟨2, ![2816, 1024]⟩
abbrev S1x2048x2816 : Shape := ⟨3, ![1, 2048, 2816]⟩
abbrev S_ : Shape := ⟨0, ![]⟩
abbrev S2048x1024 : Shape := ⟨2, ![2048, 1024]⟩

abbrev nBuf : Space → Nat
  | .hbm => 21
  | .vmem => 0
  | .smem => 0
  | _ => 0

abbrev bufTy : (tb : Table) → Fin (tcTables nBuf tb) → BufTy
  | .hbm, ⟨0, _⟩ => ⟨S1x2048x5632, .f32⟩
  | .hbm, ⟨1, _⟩ => ⟨S1x2048x1024, .f32⟩
  | .hbm, ⟨2, _⟩ => ⟨S2816x1024, .f32⟩
  | .hbm, ⟨3, _⟩ => ⟨S1x2048x2816, .f32⟩
  | .hbm, ⟨4, _⟩ => ⟨S1x2048x2816, .f32⟩
  | .hbm, ⟨5, _⟩ => ⟨S1x2048x2816, .f32⟩
  | .hbm, ⟨6, _⟩ => ⟨S1x2048x2816, .f32⟩
  | .hbm, ⟨7, _⟩ => ⟨S_, .f32⟩
  | .hbm, ⟨8, _⟩ => ⟨S1x2048x2816, .f32⟩
  | .hbm, ⟨9, _⟩ => ⟨S1x2048x2816, .f32⟩
  | .hbm, ⟨10, _⟩ => ⟨S_, .f32⟩
  | .hbm, ⟨11, _⟩ => ⟨S1x2048x2816, .f32⟩
  | .hbm, ⟨12, _⟩ => ⟨S1x2048x2816, .f32⟩
  | .hbm, ⟨13, _⟩ => ⟨S1x2048x2816, .f32⟩
  | .hbm, ⟨14, _⟩ => ⟨S1x2048x2816, .f32⟩
  | .hbm, ⟨15, _⟩ => ⟨S1x2048x1024, .f32⟩
  | .hbm, ⟨16, _⟩ => ⟨S_, .f32⟩
  | .hbm, ⟨17, _⟩ => ⟨S1x2048x1024, .f32⟩
  | .hbm, ⟨18, _⟩ => ⟨S1x2048x1024, .f32⟩
  | .hbm, ⟨19, _⟩ => ⟨S1x2048x1024, .f32⟩
  | .hbm, ⟨20, _⟩ => ⟨S2048x1024, .f32⟩
  | _, _ => ⟨S1x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]
-- ==== NormFfnFwd.lean ====
abbrev S1x2048x1024 : Shape := ⟨3, ![1, 2048, 1024]⟩
abbrev S1024 : Shape := ⟨1, ![1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2048x1024 : Shape := ⟨2, ![2048, 1024]⟩
abbrev S1x1024 : Shape := ⟨2, ![1, 1024]⟩
abbrev S2048x5632 : Shape := ⟨2, ![2048, 5632]⟩
abbrev S512x1024 : Shape := ⟨2, ![512, 1024]⟩
abbrev S1x1024x1408 : Shape := ⟨3, ![1, 1024, 1408]⟩
abbrev S512x1408 : Shape := ⟨2, ![512, 1408]⟩
abbrev S512 : Shape := ⟨1, ![512]⟩
abbrev S512x1 : Shape := ⟨2, ![512, 1]⟩
abbrev S1024x1408 : Shape := ⟨2, ![1024, 1408]⟩

abbrev nBuf : Space → Nat
  | .hbm => 9
  | .vmem => 7
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1024x5632, .f32⟩
  | .hbm, ⟨3, _⟩ => ⟨S1024x5632, .bf16⟩
  | .hbm, ⟨4, _⟩ => ⟨S1024x4x1408, .bf16⟩
  | .hbm, ⟨5, _⟩ => ⟨S4x1024x1408, .bf16⟩
  | .hbm, ⟨6, _⟩ => ⟨S2048x1024, .f32⟩
  | .hbm, ⟨7, _⟩ => ⟨S1x1024, .f32⟩
  | .hbm, ⟨8, _⟩ => ⟨S2048x5632, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S512x1408, .bf16⟩
  | .local _ .vmem, ⟨6, _⟩ => ⟨S512x1408, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== NormFfnFwdRefIdeal.lean ====
abbrev S1x2048x1024 : Shape := ⟨3, ![1, 2048, 1024]⟩
abbrev S1024 : Shape := ⟨1, ![1024]⟩
abbrev S1024x5632 : Shape := ⟨2, ![1024, 5632]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x2048x5632 : Shape := ⟨3, ![1, 2048, 5632]⟩
abbrev S2048x5632 : Shape := ⟨2, ![2048, 5632]⟩

abbrev nBuf : Space → Nat
  | .hbm => 22
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1024x5632, .f32⟩
  | .hbm, ⟨3, _⟩ => ⟨S1x2048x1024, .f32⟩
  | .hbm, ⟨4, _⟩ => ⟨S_, .f32⟩
  | .hbm, ⟨5, _⟩ => ⟨S1x2048, .f32⟩
  | .hbm, ⟨6, _⟩ => ⟨S1x2048x1, .f32⟩
  | .hbm, ⟨7, _⟩ => ⟨S_, .f32⟩
  | .hbm, ⟨8, _⟩ => ⟨S1x2048x1, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S1x2048x1, .f32⟩
  | .hbm, ⟨14, _⟩ => ⟨S1x2048x1024, .f32⟩
  | .hbm, ⟨15, _⟩ => ⟨S1x2048x1024, .f32⟩
  | .hbm, ⟨16, _⟩ => ⟨S1x1x1024, .f32⟩
  | .hbm, ⟨17, _⟩ => ⟨S1x2048x1024, .f32⟩
  | .hbm, ⟨18, _⟩ => ⟨S1x2048x1024, .f32⟩
  | .hbm, ⟨19, _⟩ => ⟨S1x2048x5632, .f32⟩
  | .hbm, ⟨20, _⟩ => ⟨S2048x5632, .f32⟩
  | .hbm, ⟨21, _⟩ => ⟨S2048x5632, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== NormMixFwd.lean ====
abbrev S1x2048x1024 : Shape := ⟨3, ![1, 2048, 1024]⟩
abbrev S1024 : Shape := ⟨1, ![1024]⟩
abbrev S1024x5120 : Shape := ⟨2, ![1024, 5120]⟩
abbrev S1024x4x1280 : Shape := ⟨3, ![1024, 4, 1280]⟩
abbrev S4x1024x1280 : Shape := ⟨3, ![4, 1024, 1280]⟩
abbrev S2048x1024 : Shape := ⟨2, ![2048, 1024]⟩
abbrev S1x1024 : Shape := ⟨2, ![1, 1024]⟩
abbrev S2048x5120 : Shape := ⟨2, ![2048, 5120]⟩
abbrev S512x1024 : Shape := ⟨2, ![512, 1024]⟩
abbrev S1x1024x1280 : Shape := ⟨3, ![1, 1024, 1280]⟩
abbrev S512x1280 : Shape := ⟨2, ![512, 1280]⟩
abbrev S512 : Shape := ⟨1, ![512]⟩
abbrev S512x1 : Shape := ⟨2, ![512, 1]⟩
abbrev S1024x1280 : Shape := ⟨2, ![1024, 1280]⟩

abbrev nBuf : Space → Nat
  | .hbm => 9
  | .vmem => 7
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1024x5120, .f32⟩
  | .hbm, ⟨3, _⟩ => ⟨S1024x5120, .bf16⟩
  | .hbm, ⟨4, _⟩ => ⟨S1024x4x1280, .bf16⟩
  | .hbm, ⟨5, _⟩ => ⟨S4x1024x1280, .bf16⟩
  | .hbm, ⟨6, _⟩ => ⟨S2048x1024, .f32⟩
  | .hbm, ⟨7, _⟩ => ⟨S1x1024, .f32⟩
  | .hbm, ⟨8, _⟩ => ⟨S2048x5120, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1280, .bf16⟩
  | .local _ .vmem, ⟨4, _⟩ => ⟨S1x1024x1280, .bf16⟩
  | .local _ .vmem, ⟨5, _⟩ => ⟨S512x1280, .f32⟩
  | .local _ .vmem, ⟨6, _⟩ => ⟨S512x1280, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== NormMixFwdRefIdeal.lean ====
abbrev S1x2048x1024 : Shape := ⟨3, ![1, 2048, 1024]⟩
abbrev S1024 : Shape := ⟨1, ![1024]⟩
abbrev S1024x5120 : Shape := ⟨2, ![1024, 5120]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x2048x5120 : Shape := ⟨3, ![1, 2048, 5120]⟩
abbrev S2048x5120 : Shape := ⟨2, ![2048, 5120]⟩

abbrev nBuf : Space → Nat
  | .hbm => 21
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1024x5120, .f32⟩
  | .hbm, ⟨3, _⟩ => ⟨S1x2048x1024, .f32⟩
  | .hbm, ⟨4, _⟩ => ⟨S_, .f32⟩
  | .hbm, ⟨5, _⟩ => ⟨S1x2048, .f32⟩
  | .hbm, ⟨6, _⟩ => ⟨S1x2048x1, .f32⟩
  | .hbm, ⟨7, _⟩ => ⟨S_, .f32⟩
  | .hbm, ⟨8, _⟩ => ⟨S1x2048x1, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S1x2048x1, .f32⟩
  | .hbm, ⟨14, _⟩ => ⟨S1x2048x1024, .f32⟩
  | .hbm, ⟨15, _⟩ => ⟨S1x2048x1024, .f32⟩
  | .hbm, ⟨16, _⟩ => ⟨S1x1x1024, .f32⟩
  | .hbm, ⟨17, _⟩ => ⟨S1x2048x1024, .f32⟩
  | .hbm, ⟨18, _⟩ => ⟨S1x2048x1024, .f32⟩
  | .hbm, ⟨19, _⟩ => ⟨S1x2048x5120, .f32⟩
  | .hbm, ⟨20, _⟩ => ⟨S2048x5120, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== MixOutFwd.lean ====
abbrev S1x2048x1024 : Shape := ⟨3, ![1, 2048, 1024]⟩
abbrev S1x2048x5120 : Shape := ⟨3, ![1, 2048, 5120]⟩
abbrev S1x2048x512 : Shape := ⟨3, ![1, 2048, 512]⟩
abbrev S1x2048x1280 : Shape := ⟨3, ![1, 2048, 1280]⟩
abbrev S512x1024 : Shape := ⟨2, ![512, 1024]⟩
abbrev S1280x1024 : Shape := ⟨2, ![1280, 1024]⟩
abbrev S1024x1024 : Shape := ⟨2, ![1024, 1024]⟩
abbrev S512x4x256 : Shape := ⟨3, ![512, 4, 256]⟩
abbrev S4x512x256 : Shape := ⟨3, ![4, 512, 256]⟩
abbrev S2048x1024 : Shape := ⟨2, ![2048, 1024]⟩
abbrev S2048x5120 : Shape := ⟨2, ![2048, 5120]⟩
abbrev S2048x512 : Shape := ⟨2, ![2048, 512]⟩
abbrev S2048x1280 : Shape := ⟨2, ![2048, 1280]⟩
abbrev S512x512 : Shape := ⟨2, ![512, 512]⟩
abbrev S512x1280 : Shape := ⟨2, ![512, 1280]⟩
abbrev S1x512x256 : Shape := ⟨3, ![1, 512, 256]⟩
abbrev S512x256 : Shape := ⟨2, ![512, 256]⟩

abbrev nBuf : Space → Nat
  | .hbm => 19
  | .vmem => 15
  | .smem => 0
  | _ => 0

abbrev bufTy : (tb : Table) → Fin (tcTables nBuf tb) → BufTy
  | .hbm, ⟨0, _⟩ => ⟨S1x2048x1024, .f32⟩
  | .hbm, ⟨1, _⟩ => ⟨S1x2048x5120, .f32⟩
  | .hbm, ⟨2, _⟩ => ⟨S1x2048x512, .f32⟩
  | .hbm, ⟨3, _⟩ => ⟨S1x2048x1280, .f32⟩
  | .hbm, ⟨4, _⟩ => ⟨S512x1024, .f32⟩
  | .hbm, ⟨5, _⟩ => ⟨S1280x1024, .f32⟩
  | .hbm, ⟨6, _⟩ => ⟨S1024x1024, .f32⟩
  | .hbm, ⟨7, _⟩ => ⟨S512x1024, .bf16⟩
  | .hbm, ⟨8, _⟩ => ⟨S512x4x256, .bf16⟩
  | .hbm, ⟨9, _⟩ => ⟨S4x512x256, .bf16⟩
  | .hbm, ⟨10, _⟩ => ⟨S2048x1024, .f32⟩
  | .hbm, ⟨11, _⟩ => ⟨S2048x5120, .f32⟩
  | .hbm, ⟨12, _⟩ => ⟨S2048x512, .f32⟩
  | .hbm, ⟨13, _⟩ => ⟨S2048x512, .bf16⟩
  | .hbm, ⟨14, _⟩ => ⟨S2048x1280, .f32⟩
  | .hbm, ⟨15, _⟩ => ⟨S2048x1280, .bf16⟩
  | .hbm, ⟨16, _⟩ => ⟨S1280x1024, .bf16⟩
  | .hbm, ⟨17, _⟩ => ⟨S1024x1024, .bf16⟩
  | .hbm, ⟨18, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x512, .bf16⟩
  | .local _ .vmem, ⟨7, _⟩ => ⟨S512x512, .bf16⟩
  | .local _ .vmem, ⟨8, _⟩ => ⟨S512x1280, .bf16⟩
  | .local _ .vmem, ⟨9, _⟩ => ⟨S512x1280, .bf16⟩
  | .local _ .vmem, ⟨10, _⟩ => ⟨S4x512x256, .bf16⟩
  | .local _ .vmem, ⟨11, _⟩ => ⟨S1280x1024, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1280x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixOutFwdRefIdeal.lean ====
abbrev S1x2048x1024 : Shape := ⟨3, ![1, 2048, 1024]⟩
abbrev S1x2048x5120 : Shape := ⟨3, ![1, 2048, 5120]⟩
abbrev S1x2048x512 : Shape := ⟨3, ![1, 2048, 512]⟩
abbrev S1x2048x1280 : Shape := ⟨3, ![1, 2048, 1280]⟩
abbrev S512x1024 : Shape := ⟨2, ![512, 1024]⟩
abbrev S1280x1024 : Shape := ⟨2, ![1280, 1024]⟩
abbrev S1024x1024 : Shape := ⟨2, ![1024, 1024]⟩
abbrev S1x2048x2048 : Shape := ⟨3, ![1, 2048, 2048]⟩
abbrev S_ : Shape := ⟨0, ![]⟩
abbrev S2048x1024 : Shape := ⟨2, ![2048, 1024]⟩

abbrev nBuf : Space → Nat
  | .hbm => 26
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x5120, .f32⟩
  | .hbm, ⟨2, _⟩ => ⟨S1x2048x512, .f32⟩
  | .hbm, ⟨3, _⟩ => ⟨S1x2048x1280, .f32⟩
  | .hbm, ⟨4, _⟩ => ⟨S512x1024, .f32⟩
  | .hbm, ⟨5, _⟩ => ⟨S1280x1024, .f32⟩
  | .hbm, ⟨6, _⟩ => ⟨S1024x1024, .f32⟩
  | .hbm, ⟨7, _⟩ => ⟨S1x2048x1024, .f32⟩
  | .hbm, ⟨8, _⟩ => ⟨S1x2048x1024, .f32⟩
  | .hbm, ⟨9, _⟩ => ⟨S1x2048x2048, .f32⟩
  | .hbm, ⟨10, _⟩ => ⟨S1x2048x2048, .f32⟩
  | .hbm, ⟨11, _⟩ => ⟨S1x2048x2048, .f32⟩
  | .hbm, ⟨12, _⟩ => ⟨S_, .f32⟩
  | .hbm, ⟨13, _⟩ => ⟨S1x2048x2048, .f32⟩
  | .hbm, ⟨14, _⟩ => ⟨S1x2048x2048, .f32⟩
  | .hbm, ⟨15, _⟩ => ⟨S_, .f32⟩
  | .hbm, ⟨16, _⟩ => ⟨S1x2048x2048, .f32⟩
  | .hbm, ⟨17, _⟩ => ⟨S1x2048x2048, .f32⟩
  | .hbm, ⟨18, _⟩ => ⟨S1x2048x1024, .f32⟩
  | .hbm, ⟨19, _⟩ => ⟨S1x2048x1024, .f32⟩
  | .hbm, ⟨20, _⟩ => ⟨S1x2048x1024, .f32⟩
  | .hbm, ⟨21, _⟩ => ⟨S1x2048x1024, .f32⟩
  | .hbm, ⟨22, _⟩ => ⟨S1x2048x1024, .f32⟩
  | .hbm, ⟨23, _⟩ => ⟨S1x2048x1024, .f32⟩
  | .hbm, ⟨24, _⟩ => ⟨S1x2048x1024, .f32⟩
  | .hbm, ⟨25, _⟩ => ⟨S2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== LruFwd.lean ====
abbrev S1x2048x5120 : Shape := ⟨3, ![1, 2048, 5120]⟩
abbrev S4x1280 : Shape := ⟨2, ![4, 1280]⟩
abbrev S1280 : Shape := ⟨1, ![1280]⟩
abbrev S10x128x128 : Shape := ⟨3, ![10, 128, 128]⟩
abbrev S10x128 : Shape := ⟨2, ![10, 128]⟩
abbrev S2048x5120 : Shape := ⟨2, ![2048, 5120]⟩
abbrev S1x1280 : Shape := ⟨2, ![1, 1280]⟩
abbrev S10x1x128 : Shape := ⟨3, ![10, 1, 128]⟩
abbrev S2048x1280 : Shape := ⟨2, ![2048, 1280]⟩
abbrev S2048x128 : Shape := ⟨2, ![2048, 128]⟩
abbrev S4x128 : Shape := ⟨2, ![4, 128]⟩
abbrev S1x128 : Shape := ⟨2, ![1, 128]⟩
abbrev S1x128x128 : Shape := ⟨3, ![1, 128, 128]⟩
abbrev S1x1x128 : Shape := ⟨3, ![1, 1, 128]⟩
abbrev S2064x128 : Shape := ⟨2, ![2064, 128]⟩
abbrev S4096x128 : Shape := ⟨2, ![4096, 128]⟩
abbrev S8x128 : Shape := ⟨2, ![8, 128]⟩
abbrev S1024x128 : Shape := ⟨2, ![1024, 128]⟩
abbrev S128x128 : Shape := ⟨2, ![128, 128]⟩

abbrev nBuf : Space → Nat
  | .hbm => 15
  | .vmem => 27
  | .smem => 0
  | _ => 0

abbrev bufTy : (tb : Table) → Fin (tcTables nBuf tb) → BufTy
  | .hbm, ⟨0, _⟩ => ⟨S1x2048x5120, .f32⟩
  | .hbm, ⟨1, _⟩ => ⟨S4x1280, .f32⟩
  | .hbm, ⟨2, _⟩ => ⟨S1280, .f32⟩
  | .hbm, ⟨3, _⟩ => ⟨S10x128x128, .f32⟩
  | .hbm, ⟨4, _⟩ => ⟨S10x128, .f32⟩
  | .hbm, ⟨5, _⟩ => ⟨S10x128x128, .f32⟩
  | .hbm, ⟨6, _⟩ => ⟨S10x128, .f32⟩
  | .hbm, ⟨7, _⟩ => ⟨S1280, .f32⟩
  | .hbm, ⟨8, _⟩ => ⟨S2048x5120, .f32⟩
  | .hbm, ⟨9, _⟩ => ⟨S1x1280, .f32⟩
  | .hbm, ⟨10, _⟩ => ⟨S10x1x128, .f32⟩
  | .hbm, ⟨11, _⟩ => ⟨S10x1x128, .f32⟩
  | .hbm, ⟨12, _⟩ => ⟨S1x1280, .f32⟩
  | .hbm, ⟨13, _⟩ => ⟨S2048x1280, .bf16⟩
  | .hbm, ⟨14, _⟩ => ⟨S2048x1280, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S4x128, .f32⟩
  | .local _ .vmem, ⟨5, _⟩ => ⟨S4x128, .f32⟩
  | .local _ .vmem, ⟨6, _⟩ => ⟨S1x128, .f32⟩
  | .local _ .vmem, ⟨7, _⟩ => ⟨S1x128, .f32⟩
  | .local _ .vmem, ⟨8, _⟩ => ⟨S1x128x128, .f32⟩
  | .local _ .vmem, ⟨9, _⟩ => ⟨S1x128x128, .f32⟩
  | .local _ .vmem, ⟨10, _⟩ => ⟨S1x1x128, .f32⟩
  | .local _ .vmem, ⟨11, _⟩ => ⟨S1x1x128, .f32⟩
  | .local _ .vmem, ⟨12, _⟩ => ⟨S1x128x128, .f32⟩
  | .local _ .vmem, ⟨13, _⟩ => ⟨S1x128x128, .f32⟩
  | .local _ .vmem, ⟨14, _⟩ => ⟨S1x1x128, .f32⟩
  | .local _ .vmem, ⟨15, _⟩ => ⟨S1x1x128, .f32⟩
  | .local _ .vmem, ⟨16, _⟩ => ⟨S1x128, .f32⟩
  | .local _ .vmem, ⟨17, _⟩ => ⟨S1x128, .f32⟩
  | .local _ .vmem, ⟨18, _⟩ => ⟨S2048x128, .bf16⟩
  | .local _ .vmem, ⟨19, _⟩ => ⟨S2048x128, .bf16⟩
  | .local _ .vmem, ⟨20, _⟩ => ⟨S2048x128, .f32⟩
  | .local _ .vmem, ⟨21, _⟩ => ⟨S2048x128, .f32⟩
  | .local _ .vmem, ⟨22, _⟩ => ⟨S2064x128, .f32⟩
  | .local _ .vmem, ⟨23, _⟩ => ⟨S4096x128, .f32⟩
  | .local _ .vmem, ⟨24, _⟩ => ⟨S4096x128, .f32⟩
  | .local _ .vmem, ⟨25, _⟩ => ⟨S4096x128, .f32⟩
  | .local _ .vmem, ⟨26, _⟩ => ⟨S4096x128, .f32⟩
  | _, _ => ⟨S1x2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c14_i32 : BitVec 32 := 14#32
  let v0 : BitVec 32 := Scalar.addi c14_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== LruFwdRefIdeal.lean ====
abbrev S1x2048x5120 : Shape := ⟨3, ![1, 2048, 5120]⟩
abbrev S4x1280 : Shape := ⟨2, ![4, 1280]⟩
abbrev S1280 : Shape := ⟨1, ![1280]⟩
abbrev S10x128x128 : Shape := ⟨3, ![10, 128, 128]⟩
abbrev S10x128 : Shape := ⟨2, ![10, 128]⟩
abbrev S1x2048x1280 : Shape := ⟨3, ![1, 2048, 1280]⟩
abbrev S_ : Shape := ⟨0, ![]⟩
abbrev S1x2051x1280 : Shape := ⟨3, ![1, 2051, 1280]⟩
abbrev S1x1280 : Shape := ⟨2, ![1, 1280]⟩
abbrev S1x1x1280 : Shape := ⟨3, ![1, 1, 1280]⟩
abbrev S1x2048x10x128 : Shape := ⟨4, ![1, 2048, 10, 128]⟩
abbrev S10x128x1x2048 : Shape := ⟨4, ![10, 128, 1, 2048]⟩
abbrev S1x1x10x128 : Shape := ⟨4, ![1, 1, 10, 128]⟩
abbrev S2048x1x1280 : Shape := ⟨3, ![2048, 1, 1280]⟩
abbrev S2048x1280 : Shape := ⟨2, ![2048, 1280]⟩

abbrev nBuf : Space → Nat
  | .hbm => 157
  | .vmem => 0
  | .smem => 0
  | _ => 0

abbrev hbmTy0_0 (i : Nat) : BufTy := match i % 128 with
  | 0 => ⟨S1x2048x5120, .f32⟩
  | 1 => ⟨S4x1280, .f32⟩
  | 2 => ⟨S1280, .f32⟩
  | 3 => ⟨S10x128x128, .f32⟩
  | 4 => ⟨S10x128, .f32⟩
  | 5 => ⟨S10x128x128, .f32⟩
  | 6 => ⟨S10x128, .f32⟩
  | 7 => ⟨S1280, .f32⟩
  | 8 => ⟨S1x2048x1280, .f32⟩
  | 9 => ⟨S_, .i32⟩
  | 10 => ⟨S_, .f32⟩
  | 11 => ⟨S1x2051x1280, .f32⟩
  | 12 => ⟨S1x2048x1280, .f32⟩
  | 13 => ⟨S1x1280, .f32⟩
  | 14 => ⟨S1280, .f32⟩
  | 15 => ⟨S1x1x1280, .f32⟩
  | 16 => ⟨S1x2048x1280, .f32⟩
  | 17 => ⟨S1x2048x1280, .f32⟩
  | 18 => ⟨S_, .f32⟩
  | 19 => ⟨S1x2048x1280, .f32⟩
  | 20 => ⟨S1x2048x1280, .f32⟩
  | 21 => ⟨S1x2048x1280, .f32⟩
  | 22 => ⟨S1x1280, .f32⟩
  | 23 => ⟨S1280, .f32⟩
  | 24 => ⟨S1x1x1280, .f32⟩
  | 25 => ⟨S1x2048x1280, .f32⟩
  | 26 => ⟨S1x2048x1280, .f32⟩
  | 27 => ⟨S1x2048x1280, .f32⟩
  | 28 => ⟨S1x2048x1280, .f32⟩
  | 29 => ⟨S1x1280, .f32⟩
  | 30 => ⟨S1280, .f32⟩
  | 31 => ⟨S1x1x1280, .f32⟩
  | 32 => ⟨S1x2048x1280, .f32⟩
  | 33 => ⟨S1x2048x1280, .f32⟩
  | 34 => ⟨S1x2048x1280, .f32⟩
  | 35 => ⟨S1x2048x1280, .f32⟩
  | 36 => ⟨S1x1280, .f32⟩
  | 37 => ⟨S1280, .f32⟩
  | 38 => ⟨S1x1x1280, .f32⟩
  | 39 => ⟨S1x2048x1280, .f32⟩
  | 40 => ⟨S1x2048x1280, .f32⟩
  | 41 => ⟨S1x2048x1280, .f32⟩
  | 42 => ⟨S1x1x1280, .f32⟩
  | 43 => ⟨S1x2048x1280, .f32⟩
  | 44 => ⟨S1x2048x1280, .f32⟩
  | 45 => ⟨S1x2048x10x128, .f32⟩
  | 46 => ⟨S10x128x1x2048, .f32⟩
  | 47 => ⟨S1x2048x10x128, .f32⟩
  | 48 => ⟨S1x1x10x128, .f32⟩
  | 49 => ⟨S1x2048x10x128, .f32⟩
  | 50 => ⟨S1x2048x10x128, .f32⟩
  | 51 => ⟨S1x2048x10x128, .f32⟩
  | 52 => ⟨S1x2048x10x128, .f32⟩
  | 53 => ⟨S_, .f32⟩
  | 54 => ⟨S1x2048x10x128, .f32⟩
  | 55 => ⟨S1x2048x10x128, .f32⟩
  | 56 => ⟨S_, .f32⟩
  | 57 => ⟨S1x2048x10x128, .f32⟩
  | 58 => ⟨S1x2048x10x128, .f32⟩
  | 59 => ⟨S1x2048x1280, .f32⟩
  | 60 => ⟨S10x128x1x2048, .f32⟩
  | 61 => ⟨S1x2048x10x128, .f32⟩
  | 62 => ⟨S1x1x10x128, .f32⟩
  | 63 => ⟨S1x2048x10x128, .f32⟩
  | 64 => ⟨S1x2048x10x128, .f32⟩
  | 65 => ⟨S1x2048x10x128, .f32⟩
  | 66 => ⟨S1x2048x10x128, .f32⟩
  | 67 => ⟨S_, .f32⟩
  | 68 => ⟨S1x2048x10x128, .f32⟩
  | 69 => ⟨S1x2048x10x128, .f32⟩
  | 70 => ⟨S_, .f32⟩
  | 71 => ⟨S1x2048x10x128, .f32⟩
  | 72 => ⟨S1x2048x10x128, .f32⟩
  | 73 => ⟨S1x2048x1280, .f32⟩
  | 74 => ⟨S_, .f32⟩
  | 75 => ⟨S1x2048x1280, .f32⟩
  | 76 => ⟨S1x2048x1280, .f32⟩
  | 77 => ⟨S1280, .f32⟩
  | 78 => ⟨S_, .f32⟩
  | 79 => ⟨S1280, .f32⟩
  | 80 => ⟨S1280, .f32⟩
  | 81 => ⟨S1280, .f32⟩
  | 82 => ⟨S1280, .f32⟩
  | 83 => ⟨S1280, .i1⟩
  | 84 => ⟨S1280, .f32⟩
  | 85 => ⟨S1280, .f32⟩
  | 86 => ⟨S1280, .f32⟩
  | 87 => ⟨S1280, .f32⟩
  | 88 => ⟨S1280, .f32⟩
  | 89 => ⟨S1280, .f32⟩
  | 90 => ⟨S1280, .f32⟩
  | 91 => ⟨S1280, .f32⟩
  | 92 => ⟨S1x1x1280, .f32⟩
  | 93 => ⟨S1x2048x1280, .f32⟩
  | 94 => ⟨S1x2048x1280, .f32⟩
  | 95 => ⟨S1x2048x1280, .f32⟩
  | 96 => ⟨S_, .f32⟩
  | 97 => ⟨S1x2048x1280, .f32⟩
  | 98 => ⟨S1x2048x1280, .f32⟩
  | 99 => ⟨S1x2048x1280, .f32⟩
  | 100 => ⟨S1x2048x1280, .f32⟩
  | 101 => ⟨S1x2048x1280, .f32⟩
  | 102 => ⟨S1x2048x1280, .f32⟩
  | 103 => ⟨S1x2048x1280, .f32⟩
  | 104 => ⟨S_, .f32⟩
  | 105 => ⟨S1x1280, .f32⟩
  | 106 => ⟨S2048x1x1280, .f32⟩
  | 107 => ⟨S2048x1x1280, .f32⟩
  | 108 => ⟨S_, .f32⟩
  | 109 => ⟨S2048x1x1280, .f32⟩
  | 110 => ⟨S_, .i32⟩
  | 111 => ⟨S2048x1x1280, .f32⟩
  | 112 => ⟨S2048x1x1280, .f32⟩
  | 113 => ⟨S_, .i32⟩
  | 114 => ⟨S1x1280, .f32⟩
  | 115 => ⟨S2048x1x1280, .f32⟩
  | 116 => ⟨S_, .i32⟩
  | 117 => ⟨S_, .i1⟩
  | 118 => ⟨S_, .i32⟩
  | 119 => ⟨S_, .i32⟩
  | 120 => ⟨S1x1x1280, .f32⟩
  | 121 => ⟨S1x1280, .f32⟩
  | 122 => ⟨S_, .i32⟩
  | 123 => ⟨S_, .i32⟩
  | 124 => ⟨S1x1x1280, .f32⟩
  | 125 => ⟨S1x1280, .f32⟩
  | 126 => ⟨S1x1280, .f32⟩
  | 127 => ⟨S1x1280, .f32⟩
  | _ => ⟨S1x2048x5120, .f32⟩

abbrev hbmTy0_1 (i : Nat) : BufTy := match i % 128 with
  | 0 => ⟨S1x1x1280, .f32⟩
  | 1 => ⟨S_, .i32⟩
  | 2 => ⟨S_, .i32⟩
  | 3 => ⟨S2048x1x1280, .f32⟩
  | 4 => ⟨S_, .i32⟩
  | 5 => ⟨S_, .i32⟩
  | 6 => ⟨S1x2048x1280, .f32⟩
  | 7 => ⟨S1x2048x1280, .f32⟩
  | 8 => ⟨S1x2048x1280, .f32⟩
  | 9 => ⟨S1x2048x1280, .f32⟩
  | 10 => ⟨S_, .f32⟩
  | 11 => ⟨S1x2048x1280, .f32⟩
  | 12 => ⟨S1x2048x1280, .f32⟩
  | 13 => ⟨S1x2048x1280, .f32⟩
  | 14 => ⟨S_, .f32⟩
  | 15 => ⟨S1x2048x1280, .f32⟩
  | 16 => ⟨S1x2048x1280, .f32⟩
  | 17 => ⟨S1x2048x1280, .f32⟩
  | 18 => ⟨S_, .f32⟩
  | 19 => ⟨S1x2048x1280, .f32⟩
  | 20 => ⟨S1x2048x1280, .f32⟩
  | 21 => ⟨S_, .f32⟩
  | 22 => ⟨S1x2048x1280, .f32⟩
  | 23 => ⟨S1x2048x1280, .f32⟩
  | 24 => ⟨S1x2048x1280, .f32⟩
  | 25 => ⟨S1x2048x1280, .f32⟩
  | 26 => ⟨S2048x1280, .f32⟩
  | 27 => ⟨S2048x1280, .bf16⟩
  | 28 => ⟨S2048x1280, .f32⟩
  | _ => ⟨S1x2048x5120, .f32⟩

abbrev hbmTy (i : Nat) : BufTy := match i / 128 with
  | 0 => hbmTy0_0 i
  | 1 => hbmTy0_1 i
  | _ => ⟨S1x2048x5120, .f32⟩

abbrev bufTy : (tb : Table) → Fin (tcTables nBuf tb) → BufTy
  | .hbm, ⟨i, _⟩ => hbmTy i
  | _, _ => ⟨S1x2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_0 : Ref sig .tc := ⟨.hbm, 53, rfl⟩
abbrev main_v42 : Ref sig .tc := ⟨.hbm, 54, rfl⟩
abbrev main_v43 : Ref sig .tc := ⟨.hbm, 55, rfl⟩
abbrev main_cst_1 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_2 : Ref sig .tc := ⟨.hbm, 67, rfl⟩
abbrev main_v54 : Ref sig .tc := ⟨.hbm, 68, rfl⟩
abbrev main_v55 : Ref sig .tc := ⟨.hbm, 69, rfl⟩
abbrev main_cst_3 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_4 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_5 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_6 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_7 : Ref sig .tc := ⟨.hbm, 108, rfl⟩
abbrev main_v77 : Ref sig .tc := ⟨.hbm, 109, rfl⟩
abbrev main_c_8 : Ref sig .tc := ⟨.hbm, 110, rfl⟩
abbrev main_v78_0 : Ref sig .tc := ⟨.hbm, 111, rfl⟩
abbrev main_v78_1 : Ref sig .tc := ⟨.hbm, 112, rfl⟩
abbrev main_v78_2 : Ref sig .tc := ⟨.hbm, 113, rfl⟩
abbrev main_v78_3 : Ref sig .tc := ⟨.hbm, 114, rfl⟩
abbrev main_v78_4 : Ref sig .tc := ⟨.hbm, 115, rfl⟩
abbrev main_while0c_c_17 : Ref sig .tc := ⟨.hbm, 116, rfl⟩
abbrev main_while0c_v98 : Ref sig .tc := ⟨.hbm, 117, rfl⟩
abbrev main_while0b_call2_c : Ref sig .tc := ⟨.hbm, 118, rfl⟩
abbrev main_while0b_call2_c_0 : Ref sig .tc := ⟨.hbm, 119, rfl⟩
abbrev main_while0b_call2_v0 : Ref sig .tc := ⟨.hbm, 120, rfl⟩
abbrev main_while0b_v98 : Ref sig .tc := ⟨.hbm, 121, rfl⟩
abbrev main_while0b_call3_c : Ref sig .tc := ⟨.hbm, 122, rfl⟩
abbrev main_while0b_call3_c_0 : Ref sig .tc := ⟨.hbm, 123, rfl⟩
abbrev main_while0b_call3_v0 : Ref sig .tc := ⟨.hbm, 124, rfl⟩
abbrev main_while0b_v99 : Ref sig .tc := ⟨.hbm, 125, rfl⟩
abbrev main_while0b_v100 : Ref sig .tc := ⟨.hbm, 126, rfl⟩
abbrev main_while0b_v101 : Ref sig .tc := ⟨.hbm, 127, rfl⟩
abbrev main_while0b_call4_v0 : Ref sig .tc := ⟨.hbm, 128, rfl⟩
abbrev main_while0b_call4_c : Ref sig .tc := ⟨.hbm, 129, rfl⟩
abbrev main_while0b_call4_c_0 : Ref sig .tc := ⟨.hbm, 130, rfl⟩
abbrev main_while0b_v102 : Ref sig .tc := ⟨.hbm, 131, rfl⟩
abbrev main_while0b_c_17 : Ref sig .tc := ⟨.hbm, 132, rfl⟩
abbrev main_while0b_v103 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_9 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_cst_10 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_cst_11 : Ref sig .tc := ⟨.hbm, 146, rfl⟩
abbrev main_v89 : Ref sig .tc := ⟨.hbm, 147, rfl⟩
abbrev main_v90 : Ref sig .tc := ⟨.hbm, 148, rfl⟩
abbrev main_cst_12 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩

abbrev nD : Nat := 1
abbrev τ : Topo := Topo.v7x

variable {F : FTy → Type} [FloatOps F]

abbrev main_while0_count : Scf.Loop 32 := ⟨0#32, 2048#32, 1#32⟩
-- ==== PoolFwd.lean ====
abbrev S1x2048x5120 : Shape := ⟨3, ![1, 2048, 5120]⟩
abbrev S4x128x128 : Shape := ⟨3, ![4, 128, 128]⟩
abbrev S4x128 : Shape := ⟨2, ![4, 128]⟩
abbrev S512 : Shape := ⟨1, ![512]⟩
abbrev S2048x5120 : Shape := ⟨2, ![2048, 5120]⟩
abbrev S4x1x128 : Shape := ⟨3, ![4, 1, 128]⟩
abbrev S1x512 : Shape := ⟨2, ![1, 512]⟩
abbrev S2048x512 : Shape := ⟨2, ![2048, 512]⟩
abbrev S2064x128 : Shape := ⟨2, ![2064, 128]⟩
abbrev S8x128 : Shape := ⟨2, ![8, 128]⟩
abbrev S2048x128 : Shape := ⟨2, ![2048, 128]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩

abbrev nBuf : Space → Nat
  | .hbm => 8
  | .vmem => 6
  | .smem => 0
  | _ => 0

abbrev bufTy : (tb : Table) → Fin (tcTables nBuf tb) → BufTy
  | .hbm, ⟨0, _⟩ => ⟨S1x2048x5120, .f32⟩
  | .hbm, ⟨1, _⟩ => ⟨S4x128x128, .f32⟩
  | .hbm, ⟨2, _⟩ => ⟨S4x128, .f32⟩
  | .hbm, ⟨3, _⟩ => ⟨S512, .f32⟩
  | .hbm, ⟨4, _⟩ => ⟨S2048x5120, .f32⟩
  | .hbm, ⟨5, _⟩ => ⟨S4x1x128, .f32⟩
  | .hbm, ⟨6, _⟩ => ⟨S1x512, .f32⟩
  | .hbm, ⟨7, _⟩ => ⟨S2048x512, .bf16⟩
  | .local _ .vmem, ⟨0, _⟩ => ⟨S2048x512, .f32⟩
  | .local _ .vmem, ⟨1, _⟩ => ⟨S4x128x128, .f32⟩
  | .local _ .vmem, ⟨2, _⟩ => ⟨S4x1x128, .f32⟩
  | .local _ .vmem, ⟨3, _⟩ => ⟨S1x512, .f32⟩
  | .local _ .vmem, ⟨4, _⟩ => ⟨S2048x512, .bf16⟩
  | .local _ .vmem, ⟨5, _⟩ => ⟨S2064x128, .f32⟩
  | _, _ => ⟨S1x2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== PoolFwdRefIdeal.lean ====
abbrev S1x2048x5120 : Shape := ⟨3, ![1, 2048, 5120]⟩
abbrev S4x128x128 : Shape := ⟨3, ![4, 128, 128]⟩
abbrev S4x128 : Shape := ⟨2, ![4, 128]⟩
abbrev S512 : Shape := ⟨1, ![512]⟩
abbrev S1x2048x512 : Shape := ⟨3, ![1, 2048, 512]⟩
abbrev S1x2048x4x128 : Shape := ⟨4, ![1, 2048, 4, 128]⟩
abbrev S1x2048x1x128 : Shape := ⟨4, ![1, 2048, 1, 128]⟩
abbrev S1x2048x128 : Shape := ⟨3, ![1, 2048, 128]⟩
abbrev S_ : Shape := ⟨0, ![]⟩
abbrev S1x1x128 : Shape := ⟨3, ![1, 1, 128]⟩
abbrev S1x2049x128 : Shape := ⟨3, ![1, 2049, 128]⟩
abbrev S1x2047x128 : Shape := ⟨3, ![1, 2047, 128]⟩
abbrev S2048 : Shape := ⟨1, ![2048]⟩
abbrev S1x2048x1 : Shape := ⟨3, ![1, 2048, 1]⟩
abbrev S1x3x128 : Shape := ⟨3, ![1, 3, 128]⟩
abbrev S1x2045x128 : Shape := ⟨3, ![1, 2045, 128]⟩
abbrev S1x7x128 : Shape := ⟨3, ![1, 7, 128]⟩
abbrev S1x2041x128 : Shape := ⟨3, ![1, 2041, 128]⟩
abbrev S1x15x128 : Shape := ⟨3, ![1, 15, 128]⟩
abbrev S1x2033x128 : Shape := ⟨3, ![1, 2033, 128]⟩
abbrev S4x128x1x2048 : Shape := ⟨4, ![4, 128, 1, 2048]⟩
abbrev S1x1x4x128 : Shape := ⟨4, ![1, 1, 4, 128]⟩
abbrev S1x1x512 : Shape := ⟨3, ![1, 1, 512]⟩
abbrev S2048x512 : Shape := ⟨2, ![2048, 512]⟩

abbrev nBuf : Space → Nat
  | .hbm => 118
  | .vmem => 0
  | .smem => 0
  | _ => 0

abbrev bufTy : (tb : Table) → Fin (tcTables nBuf tb) → BufTy
  | .hbm, ⟨0, _⟩ => ⟨S1x2048x5120, .f32⟩
  | .hbm, ⟨1, _⟩ => ⟨S4x128x128, .f32⟩
  | .hbm, ⟨2, _⟩ => ⟨S4x128, .f32⟩
  | .hbm, ⟨3, _⟩ => ⟨S512, .f32⟩
  | .hbm, ⟨4, _⟩ => ⟨S1x2048x512, .f32⟩
  | .hbm, ⟨5, _⟩ => ⟨S1x2048x4x128, .f32⟩
  | .hbm, ⟨6, _⟩ => ⟨S1x2048x1x128, .f32⟩
  | .hbm, ⟨7, _⟩ => ⟨S1x2048x128, .f32⟩
  | .hbm, ⟨8, _⟩ => ⟨S_, .f32⟩
  | .hbm, ⟨9, _⟩ => ⟨S_, .f32⟩
  | .hbm, ⟨10, _⟩ => ⟨S1x2048x128, .f32⟩
  | .hbm, ⟨11, _⟩ => ⟨S_, .f32⟩
  | .hbm, ⟨12, _⟩ => ⟨S1x1x128, .f32⟩
  | .hbm, ⟨13, _⟩ => ⟨S1x2049x128, .f32⟩
  | .hbm, ⟨14, _⟩ => ⟨S_, .f32⟩
  | .hbm, ⟨15, _⟩ => ⟨S1x1x128, .f32⟩
  | .hbm, ⟨16, _⟩ => ⟨S1x2047x128, .f32⟩
  | .hbm, ⟨17, _⟩ => ⟨S1x2048x128, .f32⟩
  | .hbm, ⟨18, _⟩ => ⟨S2048, .f32⟩
  | .hbm, ⟨19, _⟩ => ⟨S_, .f32⟩
  | .hbm, ⟨20, _⟩ => ⟨S2048, .f32⟩
  | .hbm, ⟨21, _⟩ => ⟨S2048, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S1x2048x1, .f32⟩
  | .hbm, ⟨26, _⟩ => ⟨S1x2048x128, .f32⟩
  | .hbm, ⟨27, _⟩ => ⟨S1x2048x128, .f32⟩
  | .hbm, ⟨28, _⟩ => ⟨S1x2048x128, .f32⟩
  | .hbm, ⟨29, _⟩ => ⟨S1x2048x128, .f32⟩
  | .hbm, ⟨30, _⟩ => ⟨S1x2048x1x128, .f32⟩
  | .hbm, ⟨31, _⟩ => ⟨S1x2048x128, .f32⟩
  | .hbm, ⟨32, _⟩ => ⟨S_, .f32⟩
  | .hbm, ⟨33, _⟩ => ⟨S_, .f32⟩
  | .hbm, ⟨34, _⟩ => ⟨S1x2048x128, .f32⟩
  | .hbm, ⟨35, _⟩ => ⟨S_, .f32⟩
  | .hbm, ⟨36, _⟩ => ⟨S1x1x128, .f32⟩
  | .hbm, ⟨37, _⟩ => ⟨S1x2049x128, .f32⟩
  | .hbm, ⟨38, _⟩ => ⟨S_, .f32⟩
  | .hbm, ⟨39, _⟩ => ⟨S1x3x128, .f32⟩
  | .hbm, ⟨40, _⟩ => ⟨S1x2045x128, .f32⟩
  | .hbm, ⟨41, _⟩ => ⟨S1x2048x128, .f32⟩
  | .hbm, ⟨42, _⟩ => ⟨S2048, .f32⟩
  | .hbm, ⟨43, _⟩ => ⟨S_, .f32⟩
  | .hbm, ⟨44, _⟩ => ⟨S2048, .f32⟩
  | .hbm, ⟨45, _⟩ => ⟨S2048, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S1x2048x1, .f32⟩
  | .hbm, ⟨50, _⟩ => ⟨S1x2048x128, .f32⟩
  | .hbm, ⟨51, _⟩ => ⟨S1x2048x128, .f32⟩
  | .hbm, ⟨52, _⟩ => ⟨S1x2048x128, .f32⟩
  | .hbm, ⟨53, _⟩ => ⟨S1x2048x128, .f32⟩
  | .hbm, ⟨54, _⟩ => ⟨S1x2048x1x128, .f32⟩
  | .hbm, ⟨55, _⟩ => ⟨S1x2048x128, .f32⟩
  | .hbm, ⟨56, _⟩ => ⟨S_, .f32⟩
  | .hbm, ⟨57, _⟩ => ⟨S_, .f32⟩
  | .hbm, ⟨58, _⟩ => ⟨S1x2048x128, .f32⟩
  | .hbm, ⟨59, _⟩ => ⟨S_, .f32⟩
  | .hbm, ⟨60, _⟩ => ⟨S1x1x128, .f32⟩
  | .hbm, ⟨61, _⟩ => ⟨S1x2049x128, .f32⟩
  | .hbm, ⟨62, _⟩ => ⟨S_, .f32⟩
  | .hbm, ⟨63, _⟩ => ⟨S1x7x128, .f32⟩
  | .hbm, ⟨64, _⟩ => ⟨S1x2041x128, .f32⟩
  | .hbm, ⟨65, _⟩ => ⟨S1x2048x128, .f32⟩
  | .hbm, ⟨66, _⟩ => ⟨S2048, .f32⟩
  | .hbm, ⟨67, _⟩ => ⟨S_, .f32⟩
  | .hbm, ⟨68, _⟩ => ⟨S2048, .f32⟩
  | .hbm, ⟨69, _⟩ => ⟨S2048, .f32⟩
  | .hbm, ⟨70, _⟩ => ⟨S_, .f32⟩
  | .hbm, ⟨71, _⟩ => ⟨S2048, .f32⟩
  | .hbm, ⟨72, _⟩ => ⟨S2048, .f32⟩
  | .hbm, ⟨73, _⟩ => ⟨S1x2048x1, .f32⟩
  | .hbm, ⟨74, _⟩ => ⟨S1x2048x128, .f32⟩
  | .hbm, ⟨75, _⟩ => ⟨S1x2048x128, .f32⟩
  | .hbm, ⟨76, _⟩ => ⟨S1x2048x128, .f32⟩
  | .hbm, ⟨77, _⟩ => ⟨S1x2048x128, .f32⟩
  | .hbm, ⟨78, _⟩ => ⟨S1x2048x1x128, .f32⟩
  | .hbm, ⟨79, _⟩ => ⟨S1x2048x128, .f32⟩
  | .hbm, ⟨80, _⟩ => ⟨S_, .f32⟩
  | .hbm, ⟨81, _⟩ => ⟨S_, .f32⟩
  | .hbm, ⟨82, _⟩ => ⟨S1x2048x128, .f32⟩
  | .hbm, ⟨83, _⟩ => ⟨S_, .f32⟩
  | .hbm, ⟨84, _⟩ => ⟨S1x1x128, .f32⟩
  | .hbm, ⟨85, _⟩ => ⟨S1x2049x128, .f32⟩
  | .hbm, ⟨86, _⟩ => ⟨S_, .f32⟩
  | .hbm, ⟨87, _⟩ => ⟨S1x15x128, .f32⟩
  | .hbm, ⟨88, _⟩ => ⟨S1x2033x128, .f32⟩
  | .hbm, ⟨89, _⟩ => ⟨S1x2048x128, .f32⟩
  | .hbm, ⟨90, _⟩ => ⟨S2048, .f32⟩
  | .hbm, ⟨91, _⟩ => ⟨S_, .f32⟩
  | .hbm, ⟨92, _⟩ => ⟨S2048, .f32⟩
  | .hbm, ⟨93, _⟩ => ⟨S2048, .f32⟩
  | .hbm, ⟨94, _⟩ => ⟨S_, .f32⟩
  | .hbm, ⟨95, _⟩ => ⟨S2048, .f32⟩
  | .hbm, ⟨96, _⟩ => ⟨S2048, .f32⟩
  | .hbm, ⟨97, _⟩ => ⟨S1x2048x1, .f32⟩
  | .hbm, ⟨98, _⟩ => ⟨S1x2048x128, .f32⟩
  | .hbm, ⟨99, _⟩ => ⟨S1x2048x128, .f32⟩
  | .hbm, ⟨100, _⟩ => ⟨S1x2048x128, .f32⟩
  | .hbm, ⟨101, _⟩ => ⟨S1x2048x128, .f32⟩
  | .hbm, ⟨102, _⟩ => ⟨S1x2048x1x128, .f32⟩
  | .hbm, ⟨103, _⟩ => ⟨S1x2048x1x128, .f32⟩
  | .hbm, ⟨104, _⟩ => ⟨S1x2048x1x128, .f32⟩
  | .hbm, ⟨105, _⟩ => ⟨S1x2048x1x128, .f32⟩
  | .hbm, ⟨106, _⟩ => ⟨S1x2048x4x128, .f32⟩
  | .hbm, ⟨107, _⟩ => ⟨S4x128x1x2048, .f32⟩
  | .hbm, ⟨108, _⟩ => ⟨S1x2048x4x128, .f32⟩
  | .hbm, ⟨109, _⟩ => ⟨S1x1x4x128, .f32⟩
  | .hbm, ⟨110, _⟩ => ⟨S1x2048x4x128, .f32⟩
  | .hbm, ⟨111, _⟩ => ⟨S1x2048x4x128, .f32⟩
  | .hbm, ⟨112, _⟩ => ⟨S1x2048x512, .f32⟩
  | .hbm, ⟨113, _⟩ => ⟨S1x1x512, .f32⟩
  | .hbm, ⟨114, _⟩ => ⟨S1x2048x512, .f32⟩
  | .hbm, ⟨115, _⟩ => ⟨S1x2048x512, .f32⟩
  | .hbm, ⟨116, _⟩ => ⟨S2048x512, .f32⟩
  | .hbm, ⟨117, _⟩ => ⟨S2048x512, .bf16⟩
  | _, _ => ⟨S1x2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_call0_cst : Ref sig .tc := ⟨.hbm, 8, rfl⟩
abbrev main_call0_call0_v0 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call1_call0_cst : Ref sig .tc := ⟨.hbm, 32, rfl⟩
abbrev main_call1_call0_v0 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call2_call0_cst : Ref sig .tc := ⟨.hbm, 56, rfl⟩
abbrev main_call2_call0_v0 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_call3_call0_cst : Ref sig .tc := ⟨.hbm, 80, rfl⟩
abbrev main_call3_call0_v0 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_cst_14 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩

abbrev nD : Nat := 1
abbrev τ : Topo := Topo.v7x

variable {F : FTy → Type} [FloatOps F]
-- ==== Proof.Rms.lean ====
/-
  The gradient of a root-mean-square norm, on one row, over the extended reals: the form a kernel writes out by hand
  and the form that differentiating the norm's own lines gives are one number, whatever the row holds.
-/
module

public import Idealize.ShloMosaic.Lib.Pipeline.ValueKit
public import Idealize.ShloMosaic.Lib.Claim
public import Idealize.ShloMosaic.Lib.Pointwise

@[expose] public section

noncomputable section

open Idealize.ShloMosaic

namespace Cert.Rms

/-- A nonnegative real factor goes into a sum of extended reals. -/
theorem mul_sum {ι : Type*} (s : Finset ι) (r : ℝ) (hr : 0 ≤ r) (f : ι → EReal) :
    (r : EReal) * ∑ k ∈ s, f k = ∑ k ∈ s, (r : EReal) * f k := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-- A nonnegative real factor goes into a difference of extended reals. -/
theorem mul_sub (r : ℝ) (hr : 0 ≤ r) (a b : EReal) : (r : EReal) * (a - b) = r * a - r * b := by
  rw [sub_eq_add_neg, EReal.left_distrib_of_nonneg_of_ne_top (by exact_mod_cast hr) (EReal.coe_ne_top r),
    sub_eq_add_neg, mul_neg]

/-- A sum of squares of extended reals is nonnegative. -/
theorem sq_nonneg (x : EReal) : 0 ≤ x * x := by
  induction x using EReal.rec with
  | bot => simp
  | top => simp
  | coe r => exact_mod_cast mul_self_nonneg r

/-- Dividing by a positive real is multiplying by its inverse. -/
theorem div_pos (x : EReal) (n : ℝ) (hn : 0 < n) : Ideal.div x (n : EReal) = ((n⁻¹ : ℝ) : EReal) * x := by
  rw [Ideal.div_coe hn.ne', mul_comm, one_div]

/-- Twice an extended real, as a sum. -/
theorem add_self (x : EReal) : x + x = ((2 : ℝ) : EReal) * x := by
  induction x using EReal.rec with
  | bot => rw [EReal.coe_mul_bot_of_pos (by norm_num)]; rfl
  | top => rw [EReal.coe_mul_top_of_pos (by norm_num)]; rfl
  | coe r => norm_cast; ring_nf

/-- The reciprocal root of a row's mean square plus `e`, as the kernels and the norm's lines write it. -/
def rinv {n : ℕ} (w e : EReal) (x : Fin n → EReal) : EReal :=
  Ideal.rsqrt (Ideal.div (∑ k, x k * x k) w + e)

/-- A row's mean square plus a positive `e` is `⊤`, or the row is real throughout and the number is a positive real. -/
theorem mean_cases {n : ℕ} (w e : ℝ) (hw : 0 < w) (he : 0 < e) (x : Fin n → EReal) :
    Ideal.div (∑ k, x k * x k) (w : EReal) + (e : EReal) = ⊤ ∨
      (∃ v : ℝ, 0 < v ∧ Ideal.div (∑ k, x k * x k) (w : EReal) + (e : EReal) = (v : EReal))
        ∧ ∃ y : Fin n → ℝ, ∀ k, x k = (y k : EReal) := by
  have h0 : 0 ≤ ∑ k, x k * x k := Finset.sum_nonneg fun k _ => sq_nonneg (x k)
  rw [div_pos _ _ hw]
  generalize hS : ∑ k, x k * x k = S at *
  induction S using EReal.rec with
  | bot => exact absurd h0 (by simp)
  | top => left; rw [EReal.coe_mul_top_of_pos (inv_pos.mpr hw)]; rfl
  | coe s =>
    right
    refine ⟨⟨w⁻¹ * s + e, ?_, by norm_cast⟩, ?_⟩
    · have : 0 ≤ s := by exact_mod_cast h0
      positivity
    · refine ⟨fun k => (x k).toReal, fun k => ?_⟩
      have hk : x k * x k ≤ ((s : ℝ) : EReal) := hS ▸ Finset.single_le_sum (fun j _ => sq_nonneg (x j)) (Finset.mem_univ k)
      have hlt : x k * x k < ⊤ := lt_of_le_of_lt hk (EReal.coe_lt_top s)
      refine (EReal.coe_toReal ?_ ?_).symm
      · intro h; rw [h] at hlt; simp at hlt
      · intro h; rw [h] at hlt; simp at hlt

/-- At a positive real, the reciprocal root is a positive real whose square is the inverse. -/
theorem rsqrt_pos (v : ℝ) (hv : 0 < v) : ∃ r : ℝ, 0 < r ∧ Ideal.rsqrt (v : EReal) = (r : EReal) ∧ v⁻¹ = r * r := by
  refine ⟨(Real.sqrt v)⁻¹, inv_pos.mpr (Real.sqrt_pos.mpr hv), ?_, ?_⟩
  · rw [Ideal.rsqrt_coe, if_neg (not_lt.mpr hv.le), if_neg hv.ne']
  · rw [← mul_inv, Real.mul_self_sqrt hv.le]

/-- **One row of the norm's gradient.** With `r` the reciprocal root of the row's mean square plus `e`, the form by
    hand `r (d − x r · mean (d · x r))` is what differentiating the norm gives: `d r` and twice `x p`, `p` the
    derivative of the reciprocal root, `−½ r / (mean square + e)`, times `Σ x d`, over the row's length. -/
theorem row_grad {n : ℕ} (w e : ℝ) (hw : 0 < w) (he : 0 < e) (x d : Fin n → EReal) (j : Fin n) :
    rinv w e x * (d j - x j * rinv w e x * Ideal.div (∑ k, d k * (x k * rinv w e x)) (w : EReal))
      = d j * rinv w e x
        + x j * Ideal.div ((∑ k, x k * d k)
            * (Ideal.div (rinv w e x) (Ideal.div (∑ k, x k * x k) (w : EReal) + (e : EReal)) * ((-(1 / 2) : ℝ) : EReal)))
            (w : EReal)
        + Ideal.div ((∑ k, x k * d k)
            * (Ideal.div (rinv w e x) (Ideal.div (∑ k, x k * x k) (w : EReal) + (e : EReal)) * ((-(1 / 2) : ℝ) : EReal)))
            (w : EReal) * x j := by
  unfold rinv
  rcases mean_cases w e hw he x with h | ⟨⟨v, hv, h⟩, y, hy⟩
  · rw [h, div_pos _ w hw, div_pos _ w hw]
    simp [Ideal.div]
  · rw [h]
    obtain ⟨r, hr, e1, e2⟩ := rsqrt_pos v hv
    rw [e1, div_pos _ v hv, div_pos _ w hw, div_pos _ w hw, e2]
    have hs : ∑ k, d k * (x k * (r : EReal)) = (r : EReal) * ∑ k, x k * d k := by
      rw [mul_sum _ _ hr.le]
      exact Finset.sum_congr rfl fun k _ => by rw [mul_comm (x k), mul_left_comm, mul_comm (d k)]
    rw [hs, mul_sub _ hr.le]
    generalize ∑ k, x k * d k = D
    have hp : (y j : EReal) * (((w⁻¹ : ℝ) : EReal) * (D * (((r * r : ℝ) : EReal) * r * ((-(1 / 2) : ℝ) : EReal))))
        = ((-(r * (y j * r) * (w⁻¹ * r)) / 2 : ℝ) : EReal) * D := by
      rw [mul_comm D, ← mul_assoc, ← mul_assoc]
      norm_cast
      congr 2
      ring
    have hl : (r : EReal) * ((y j : EReal) * r * (((w⁻¹ : ℝ) : EReal) * ((r : EReal) * D)))
        = ((r * (y j * r) * (w⁻¹ * r) : ℝ) : EReal) * D := by
      rw [← mul_assoc (((w⁻¹ : ℝ) : EReal)), ← mul_assoc, ← mul_assoc]
      norm_cast
    have h2 : ((2 : ℝ) : EReal) * (((-(r * (y j * r) * (w⁻¹ * r)) / 2 : ℝ) : EReal) * D)
        = -(((r * (y j * r) * (w⁻¹ * r) : ℝ) : EReal) * D) := by
      have h3 : (2 : ℝ) * (-(r * (y j * r) * (w⁻¹ * r)) / 2) = -(r * (y j * r) * (w⁻¹ * r)) := by ring
      rw [← mul_assoc, ← EReal.coe_mul, h3, EReal.coe_neg, EReal.neg_mul]
    rw [hy j, mul_comm _ (y j : EReal), hp, add_assoc, add_self, hl, h2, mul_comm (d j), sub_eq_add_neg]

/-- The rows' length, 1024, as the programs write it. -/
theorem len_eq : Ideal.ofBits .f32 0x44800000#32 = ((1024 : ℝ) : EReal) := by
  simp [Ideal.ofBits, Ideal.ieee]
  rw [← EReal.coe_mul]
  norm_num

/-- The norm's `1e-6`, as the programs write it, is a positive real. -/
theorem eps_pos : ∃ e : ℝ, 0 < e ∧ Ideal.ofBits .f32 0x358637BD#32 = (e : EReal) := by
  refine ⟨8796093 * (2 ^ 43 : ℝ)⁻¹, by positivity, ?_⟩
  simp [Ideal.ofBits, Ideal.ieee]

/-- The rows' length and the norm's `1e-6`, as the programs write them. -/
abbrev W : EReal := Ideal.ofBits .f32 0x44800000#32
abbrev E : EReal := Ideal.ofBits .f32 0x358637BD#32

theorem half_eq : Ideal.ofBits .f32 0x3F000000#32 = ((1 / 2 : ℝ) : EReal) := by
  simp [Ideal.ofBits, Ideal.ieee]
  rw [← EReal.coe_mul]
  norm_num

theorem two_eq : Ideal.ofBits .f32 0x40000000#32 = ((2 : ℝ) : EReal) := by
  simp [Ideal.ofBits, Ideal.ieee]
  rw [← EReal.coe_mul]
  norm_num

theorem inv_len_eq : Ideal.ofBits .f32 0x3A800000#32 = ((1 / 1024 : ℝ) : EReal) := by
  simp [Ideal.ofBits, Ideal.ieee]
  rw [← EReal.coe_mul]
  norm_num

theorem neg_half_eq : Ideal.ofBits .f32 0xBF000000#32 = ((-(1 / 2) : ℝ) : EReal) := by
  simp [Ideal.ofBits, Ideal.ieee]
  rw [← EReal.coe_mul]
  norm_num

/-- `row_grad` at the programs' constants. -/
theorem row_grad_const (x d : Fin 1024 → EReal) (j : Fin 1024) :
    d j * rinv W E x
        + x j * Ideal.div ((∑ k, x k * d k)
            * (Ideal.div (rinv W E x) (Ideal.div (∑ k, x k * x k) W + E) * ((-(1 / 2) : ℝ) : EReal))) W
        + Ideal.div ((∑ k, x k * d k)
            * (Ideal.div (rinv W E x) (Ideal.div (∑ k, x k * x k) W + E) * ((-(1 / 2) : ℝ) : EReal))) W * x j
      = rinv W E x * (d j - x j * rinv W E x * Ideal.div (∑ k, d k * (x k * rinv W E x)) W) := by
  obtain ⟨e, he, h⟩ := eps_pos
  rw [show W = ((1024 : ℝ) : EReal) from len_eq, show E = (e : EReal) from h]
  exact (row_grad 1024 e (by norm_num) he x d j).symm

/-- An array `1 × 1 × n` summed over its first two axes: its one entry at each place of the last. -/
theorem reduce_d0_1 {n : ℕ} (h : (⟨3, ![1, 1, n]⟩ : Shape).ReducesTo [0, 1] ⟨1, ![n]⟩)
    (v : (⟨3, ![1, 1, n]⟩ : Shape).Idx → EReal) (b : EReal) (k : Fin n) : Ideal.hostReduceAdd h v b (ix1 k) = b + v (ix3 0 0 k) := by
  have hk : ∀ i, h.drop i = ix1 k ↔ i 2 = k := by
    intro i
    have h0 := Shape.ReducesTo.drop_apply_val_of_eq h i 0 2 Nat.one_pos rfl
    constructor
    · intro e
      rw [e] at h0
      exact Fin.ext h0.symm
    · intro e
      funext a; apply Fin.ext
      match a with
      | ⟨0, _⟩ => exact h0.trans (congrArg Fin.val e)
  unfold Ideal.hostReduceAdd
  congr 1
  refine (Finset.sum_filter_eq_sum_of_fiber _ (fun _ : Fin 1 => (ix3 0 0 k : (⟨3, ![1, 1, n]⟩ : Shape).Idx))
    (fun _ _ _ => Subsingleton.elim _ _) (fun i => ?_) v).trans (by simp)
  rw [hk i]
  constructor
  · intro e
    refine ⟨0, ?_⟩
    funext a; apply Fin.ext
    match a with
    | ⟨0, _⟩ => exact (Nat.lt_one_iff.mp (i 0).isLt).symm
    | ⟨1, _⟩ => exact (Nat.lt_one_iff.mp (i 1).isLt).symm
    | ⟨2, _⟩ => exact congrArg Fin.val e.symm
  · rintro ⟨_, rfl⟩; rfl

/-- An array `1 × n × 1` summed over its first and last axes: its one entry at each place of the middle one. -/
theorem reduce_d0_2 {n : ℕ} (h : (⟨3, ![1, n, 1]⟩ : Shape).ReducesTo [0, 2] ⟨1, ![n]⟩)
    (v : (⟨3, ![1, n, 1]⟩ : Shape).Idx → EReal) (b : EReal) (k : Fin n) : Ideal.hostReduceAdd h v b (ix1 k) = b + v (ix3 0 k 0) := by
  have hk : ∀ i, h.drop i = ix1 k ↔ i 1 = k := by
    intro i
    have h0 := Shape.ReducesTo.drop_apply_val_of_eq h i 0 1 Nat.one_pos rfl
    constructor
    · intro e
      rw [e] at h0
      exact Fin.ext h0.symm
    · intro e
      funext a; apply Fin.ext
      match a with
      | ⟨0, _⟩ => exact h0.trans (congrArg Fin.val e)
  unfold Ideal.hostReduceAdd
  congr 1
  refine (Finset.sum_filter_eq_sum_of_fiber _ (fun _ : Fin 1 => (ix3 0 k 0 : (⟨3, ![1, n, 1]⟩ : Shape).Idx))
    (fun _ _ _ => Subsingleton.elim _ _) (fun i => ?_) v).trans (by simp)
  rw [hk i]
  constructor
  · intro e
    refine ⟨0, ?_⟩
    funext a; apply Fin.ext
    match a with
    | ⟨0, _⟩ => exact (Nat.lt_one_iff.mp (i 0).isLt).symm
    | ⟨1, _⟩ => exact congrArg Fin.val e.symm
    | ⟨2, _⟩ => exact (Nat.lt_one_iff.mp (i 2).isLt).symm
  · rintro ⟨_, rfl⟩; rfl

end Cert.Rms

end
-- ==== Proof.LossValue.lean ====
/-
  The kernel of the last norm and the loss: what its three results hold, written at one place of each array.
-/
module

public import proofs.«01_k».proof.Proof.Rms
public import proofs.«01_k».proof.Proof.Gen.LossHeadIdeal.Value

@[expose] public section

set_option maxRecDepth 16384

noncomputable section

open Idealize.ShloMosaic Idealize.ShloMosaic.TcCoe Idealize.SL.Sem
open Idealize.ShloMosaic.Pipeline (Dat)

namespace Cert.LossHeadIdeal.Value

open Cert.LossHeadIdeal Cert.LossHeadIdeal.Gen

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

/-- Row `i` of the activations, the gain and row `i` of the target, as the arguments hold them. -/
abbrev xrow (c : Dev nD) (i : Fin 2048) : Fin 1024 → EReal := fun k => m ((c.tc : Thread nD τ).loc main_arg0) (ix3 0 i k)
abbrev grow (c : Dev nD) : Fin 1024 → EReal := fun k => m ((c.tc : Thread nD τ).loc main_arg1) (ix1 k)
abbrev trow (c : Dev nD) (i : Fin 2048) : Fin 1024 → EReal := fun k => m ((c.tc : Thread nD τ).loc main_arg2) (ix3 0 i k)

open Cert.Rms (W E)

/-- The inverse of the rows' length, as the kernel writes it. -/
abbrev C : EReal := Ideal.ofBits .f32 0x3A800000#32

/-- On rows `x`, `g`, `t`: the normed entry, the error against the target, the loss's gradient at the norm's result,
    the row's mean squared error, and the gradient through the norm as the kernel writes it. -/
def xh (x : Fin 1024 → EReal) (j : Fin 1024) : EReal := x j * Rms.rinv W E x
def err (x g t : Fin 1024 → EReal) (j : Fin 1024) : EReal := xh x j * g j - t j
def dy (x g t : Fin 1024 → EReal) (j : Fin 1024) : EReal := err x g t j * C
def mse (x g t : Fin 1024 → EReal) : EReal := Ideal.div (∑ k, err x g t k * err x g t k) W
def dx (x g t : Fin 1024 → EReal) (j : Fin 1024) : EReal :=
  Rms.rinv W E x * (dy x g t j * g j - xh x j * Ideal.div (∑ k, dy x g t k * g k * xh x k) W)

theorem pay7_apply (v2 : Vec Ideal S512x1024 .f32) (p : Fin 512) :
    k0_pay7 v2 (ix2 p 0) = Rms.rinv W E (fun k => v2 (ix2 p k)) := by
  pointwise [k0_pay7, k0_pay6]
  rfl

theorem pay8_apply (v2 : Vec Ideal S512x1024 .f32) (p : Fin 512) (j : Fin 1024) :
    k0_pay8 v2 (ix2 p j) = xh (fun k => v2 (ix2 p k)) j := by
  pointwise [k0_pay8, k0_pay6, pay7_apply]
  rfl

theorem pay9_apply (v0 : Vec Ideal S1x1024 .f32) (v2 v16 : Vec Ideal S512x1024 .f32) (p : Fin 512) (j : Fin 1024) :
    k0_pay9 v0 v2 v16 (ix2 p j) = err (fun k => v2 (ix2 p k)) (fun k => v0 (ix2 0 k)) (fun k => v16 (ix2 p k)) j := by
  pointwise [k0_pay9, k0_pay5, pay8_apply]
  rfl

theorem pay13_apply (v0 : Vec Ideal S1x1024 .f32) (v2 v16 : Vec Ideal S512x1024 .f32) (p : Fin 512) (j : Fin 1024) :
    k0_pay13 v0 v2 v16 (ix2 p j) = dy (fun k => v2 (ix2 p k)) (fun k => v0 (ix2 0 k)) (fun k => v16 (ix2 p k)) j := by
  pointwise [k0_pay13, pay9_apply]
  rfl

theorem pay14_apply (v0 : Vec Ideal S1x1024 .f32) (v2 v16 : Vec Ideal S512x1024 .f32) (p : Fin 512) (j : Fin 1024) :
    k0_pay14 v0 v2 v16 (ix2 p j) = dy (fun k => v2 (ix2 p k)) (fun k => v0 (ix2 0 k)) (fun k => v16 (ix2 p k)) j
      * xh (fun k => v2 (ix2 p k)) j := by
  pointwise [k0_pay14, pay13_apply, pay8_apply]

theorem pay10_apply (v0 : Vec Ideal S1x1024 .f32) (v2 v16 : Vec Ideal S512x1024 .f32) (j : Fin 128) :
    k0_pay10 v0 v2 v16 (ix2 0 j) = Ideal.ofBits .f32 0x3F000000#32
      * ∑ p : Fin 512, mse (fun k => v2 (ix2 p k)) (fun k => v0 (ix2 0 k)) (fun k => v16 (ix2 p k)) := by
  pointwise [k0_pay10, pay9_apply]
  rfl

theorem pay4_apply (v0 : Vec Ideal S1x1024 .f32) (v2 v16 : Vec Ideal S512x1024 .f32) (p : Fin 512) (j : Fin 1024) :
    k0_pay4 (k0_pay5 v0) (k0_pay7 v2) (k0_pay8 v2) (k0_pay13 v0 v2 v16) (ix2 p j)
      = dx (fun k => v2 (ix2 p k)) (fun k => v0 (ix2 0 k)) (fun k => v16 (ix2 p k)) j := by
  pointwise [k0_pay4, k0_pay5, pay7_apply, pay8_apply, pay13_apply]
  rfl

theorem x_blk (c : Dev nD) (t : Fin cfg0.N) (p : Fin 512) (k : Fin 1024) (h : t.val * 512 + p.val < 2048) :
    iblk m c 0 t (ix2 p k) = xrow m c ⟨t.val * 512 + p.val, h⟩ k := by
  blk_point [iblk, V, idx t]

theorem t_blk (c : Dev nD) (t : Fin cfg0.N) (p : Fin 512) (k : Fin 1024) (h : t.val * 512 + p.val < 2048) :
    iblk m c 2 t (ix2 p k) = trow m c ⟨t.val * 512 + p.val, h⟩ k := by
  blk_point [iblk, V, idx t]

theorem g_blk (c : Dev nD) (t : Fin cfg0.N) (k : Fin 1024) :
    iblk m c 1 t (ix2 0 k) = grow m c k := by
  blk_point [iblk, V, idx t]

theorem dx_point (c : Dev nD) (t : Fin cfg0.N) (p : Fin 512) (j : Fin 1024) (h : t.val * 512 + p.val < 2048) :
    (outsAt0 m c t.val t.isLt).2.1 (ix2 p j) = dx (xrow m c ⟨t.val * 512 + p.val, h⟩) (grow m c) (trow m c ⟨t.val * 512 + p.val, h⟩) j := by
  have hN : t.val < 4 := t.isLt
  have e : (outsAt0 m c t.val t.isLt).2.1 = k0_pay4 (k0_pay5 (iblk m c 1 t)) (k0_pay7 (iblk m c 0 t)) (k0_pay8 (iblk m c 0 t)) (k0_pay13 (iblk m c 1 t) (iblk m c 0 t) (iblk m c 2 t)) := by
    by_cases h0 : t.val % 4 = 0
    · rw [outsAt0_A m c t h0 (by omega) h0 (by omega) (by omega)]; frame_out
    · by_cases h3 : t.val % 4 = 3
      · rw [outsAt0_C m c t h0 (by omega) h0 (by omega) h3]; frame_out
      · rw [outsAt0_B m c t h0 (by omega) h0 (by omega) h3]; frame_out
  rw [e, pay4_apply]
  simp only [x_blk m c t p _ h, t_blk m c t p _ h, g_blk]

/-- Point `t`'s part of the gain's gradient, and of the loss. -/
def dgTerm (c : Dev nD) (t : Fin cfg0.N) (j : S1x1024.Idx) : EReal :=
  ∑ p : Fin 512, dy (xrow m c ⟨t.val * 512 + p.val, by have : t.val < 4 := t.isLt; omega⟩) (grow m c)
      (trow m c ⟨t.val * 512 + p.val, by have : t.val < 4 := t.isLt; omega⟩) (j 1)
    * xh (xrow m c ⟨t.val * 512 + p.val, by have : t.val < 4 := t.isLt; omega⟩) (j 1)

def lossTerm (c : Dev nD) (t : Fin cfg0.N) (j : S1x128.Idx) : EReal :=
  Ideal.ofBits .f32 0x3F000000#32
    * ∑ p : Fin 512, mse (xrow m c ⟨t.val * 512 + p.val, by have : t.val < 4 := t.isLt; omega⟩) (grow m c)
      (trow m c ⟨t.val * 512 + p.val, by have : t.val < 4 := t.isLt; omega⟩)

theorem dg_pay (c : Dev nD) (t : Fin cfg0.N) (j : S1x1024.Idx) :
    k0_pay1 (k0_pay14 (iblk m c 1 t) (iblk m c 0 t) (iblk m c 2 t)) j = dgTerm m c t j := by
  have hN : t.val < 4 := t.isLt
  idx_vars j
  pointwise [k0_pay1, pay14_apply]
  refine Finset.sum_congr rfl fun p _ => ?_
  simp only [x_blk m c t p _ (by omega), t_blk m c t p _ (by omega), g_blk]
  rfl

theorem loss_pay (c : Dev nD) (t : Fin cfg0.N) (j : S1x128.Idx) :
    k0_pay10 (iblk m c 1 t) (iblk m c 0 t) (iblk m c 2 t) j = lossTerm m c t j := by
  have hN : t.val < 4 := t.isLt
  idx_vars j
  obtain rfl : j0 = 0 := Subsingleton.elim _ _
  refine (pay10_apply _ _ _ _).trans ?_
  refine congrArg (_ * ·) (Finset.sum_congr rfl fun p _ => ?_)
  simp only [x_blk m c t p _ (by omega), t_blk m c t p _ (by omega), g_blk]

theorem dg_start (c : Dev nD) (t : Fin cfg0.N) (ht : t.val % 4 = 0) (j : S1x1024.Idx) :
    (outsAt0 m c t.val t.isLt).2.2.2.2 j = 0 + dgTerm m c t j := by
  have hN : t.val < 4 := t.isLt
  rw [outsAt0_A m c t ht (by omega) ht (by omega) (by omega), zero_add, ← dg_pay]
  frame_out
  idx_vars j
  pointwise [k0_pay2]

theorem dg_step (c : Dev nD) (t : Fin cfg0.N) (ht : ¬t.val % 4 = 0) (j : S1x1024.Idx) :
    (outsAt0 m c t.val t.isLt).2.2.2.2 j
      = (outsAt0 m c (t.val - 1) (Nat.lt_of_le_of_lt (Nat.sub_le _ _) t.isLt)).2.2.2.2 j + dgTerm m c t j := by
  have hN : t.val < 4 := t.isLt
  rw [← dg_pay]
  by_cases h3 : t.val % 4 = 3
  · rw [outsAt0_C m c t ht (by omega) ht (by omega) h3]; frame_out; idx_vars j; pointwise [k0_pay3]; exact congrArg (· + _) (congrFun (Memref.IsWhole.read_unread _ _) _)
  · rw [outsAt0_B m c t ht (by omega) ht (by omega) h3]; frame_out; idx_vars j; pointwise [k0_pay3]; exact congrArg (· + _) (congrFun (Memref.IsWhole.read_unread _ _) _)

theorem loss_start (c : Dev nD) (t : Fin cfg0.N) (ht : t.val % 4 = 0) (j : S1x128.Idx) :
    (outsAt0 m c t.val t.isLt).2.2.2.1 j = 0 + lossTerm m c t j := by
  have hN : t.val < 4 := t.isLt
  rw [outsAt0_A m c t ht (by omega) ht (by omega) (by omega), zero_add, ← loss_pay]
  frame_out
  idx_vars j
  pointwise [k0_pay11]

theorem loss_step (c : Dev nD) (t : Fin cfg0.N) (ht : ¬t.val % 4 = 0) (j : S1x128.Idx) :
    (outsAt0 m c t.val t.isLt).2.2.2.1 j
      = (outsAt0 m c (t.val - 1) (Nat.lt_of_le_of_lt (Nat.sub_le _ _) t.isLt)).2.2.2.1 j + lossTerm m c t j := by
  have hN : t.val < 4 := t.isLt
  rw [← loss_pay]
  by_cases h3 : t.val % 4 = 3
  · rw [outsAt0_C m c t ht (by omega) ht (by omega) h3]; frame_out; idx_vars j; pointwise [k0_pay12]; exact congrArg (· + _) (congrFun (Memref.IsWhole.read_unread _ _) _)
  · rw [outsAt0_B m c t ht (by omega) ht (by omega) h3]; frame_out; idx_vars j; pointwise [k0_pay12]; exact congrArg (· + _) (congrFun (Memref.IsWhole.read_unread _ _) _)

/-- What the last point leaves in the two accumulated results is what it leaves in the two accumulators. -/
theorem last_out (c : Dev nD) (t : Fin cfg0.N) (h3 : t.val % 4 = 3) :
    (outsAt0 m c t.val t.isLt).1 = (outsAt0 m c t.val t.isLt).2.2.2.1
      ∧ (outsAt0 m c t.val t.isLt).2.2.1 = (outsAt0 m c t.val t.isLt).2.2.2.2 := by
  have hN : t.val < 4 := t.isLt
  rw [outsAt0_C m c t (by omega) (by omega) (by omega) (by omega) h3]
  constructor
  · frame_out
  · frame_out

def LOSS (c : Dev nD) : Buf (Elt Ideal) ((c.tc : Thread nD τ).loc main_v3_0) := fun _ =>
  show EReal from Ideal.ofBits .f32 0x3F000000#32 * ∑ i : Fin 2048, mse (xrow m c i) (grow m c) (trow m c i)
def DX (c : Dev nD) : Buf (Elt Ideal) ((c.tc : Thread nD τ).loc main_v3_1) := fun i =>
  dx (xrow m c (i 0)) (grow m c) (trow m c (i 0)) (i 1)
def DG (c : Dev nD) : Buf (Elt Ideal) ((c.tc : Thread nD τ).loc main_v3_2) := fun j =>
  show EReal from ∑ i : Fin 2048, dy (xrow m c i) (grow m c) (trow m c i) (j 1) * xh (xrow m c i) (j 1)

abbrev last : Fin cfg0.N := ⟨3, by decide +kernel⟩

theorem dg_total (c : Dev nD) (j : S1x1024.Idx) : (outsAt0 m c last.val last.isLt).2.2.2.2 j = DG m c j := by
  have h := Pipeline.eq_sum_fin_of_reset_step_apply_last (fun n h => (outsAt0 m c n h).2.2.2.2) 4 (fun _ => 0) (dgTerm m c)
    (dg_start m c) (dg_step m c) (by decide +kernel) last (by decide +kernel) j
  rw [h, zero_add]
  exact Fin.sum_mul_add_congr (S := 4) (n := 512) (fun s k hl => rfl)

theorem loss_total (c : Dev nD) (j : S1x128.Idx) : (outsAt0 m c last.val last.isLt).2.2.2.1 j = LOSS m c j := by
  have h := Pipeline.eq_sum_fin_of_reset_step_apply_last (fun n h => (outsAt0 m c n h).2.2.2.1) 4 (fun _ => 0) (lossTerm m c)
    (loss_start m c) (loss_step m c) (by decide +kernel) last (by decide +kernel) j
  rw [h, zero_add]
  unfold lossTerm LOSS
  rw [Rms.half_eq, ← Rms.mul_sum _ _ (by norm_num)]
  exact congrArg (_ * ·) (Fin.sum_mul_add_congr (S := 4) (n := 512) (fun s k hl => rfl))

theorem dx_place (t : Fin cfg0.N) (p : Fin 512) (j : Fin 1024) (h : t.val * 512 + p.val < 2048) :
    (ix2 ⟨t.val * 512 + p.val, h⟩ j : S2048x1024.Idx) = ((View.whole main_v3_1).slice (win0_4.rect t)).emb (ix2 p j) := by
  blk_ext [idx t]

theorem dx_point' (c : Dev nD) (t : Fin cfg0.N) (p : Fin 512) (j : Fin 1024) :
    (outsAt0 m c t.val t.isLt).2.1 (ix2 p j) = DX m c (((View.whole main_v3_1).slice (win0_4.rect t)).emb (ix2 p j)) := by
  have hN : t.val < 4 := t.isLt
  rw [← dx_place t p j (by omega)]
  exact dx_point m c t p j (by omega)

theorem final_dx (c : Dev nD) : (dats m 0 c).arrAt 4 cfg0.N = DX m c := by
  refine (dats m 0 c).arrAt_eq_of_covers 4 _ (by decide +kernel) fun t _ y => ?_
  blk_simp
  rw [after0_4]
  idx_vars y
  exact dx_point' m c t y0 y1

theorem final_loss (c : Dev nD) : (dats m 0 c).arrAt 3 cfg0.N = LOSS m c := by
  refine (dats m 0 c).arrAt_eq_of_after_last 3 last (by decide +kernel) _ fun j => ?_
  blk_simp
  rw [after0_3, (last_out m c last (by decide +kernel)).1]
  rw [loss_total m c]

theorem final_dg (c : Dev nD) : (dats m 0 c).arrAt 5 cfg0.N = DG m c := by
  refine (dats m 0 c).arrAt_eq_of_after_last 5 last (by decide +kernel) _ fun j => ?_
  blk_simp
  rw [after0_5, (last_out m c last (by decide +kernel)).2]
  rw [dg_total m c]

end Cert.LossHeadIdeal.Value

end
-- ==== Proof.LossRef.lean ====
/-
  The derivative of the loss's own lines, read at one place of each result.
-/
module

public import proofs.«01_k».proof.Proof.LossValue
public import proofs.«01_k».proof.Proof.Gen.LossHeadRefIdeal.Run
public import proofs.«01_k».proof.Proof.Gen.LossHeadRefIdeal.Read

@[expose] public section

set_option maxRecDepth 16384

noncomputable section

open Idealize.ShloMosaic Idealize.ShloMosaic.TcCoe Idealize.SL.Sem

namespace Cert.LossHeadRefIdeal.Value

open Cert.LossHeadRefIdeal Cert.LossHeadRefIdeal.Gen Cert.LossHeadRefIdeal.Read
open Cert.Rms (W E)
open Cert.LossHeadIdeal.Value (C xh err dy mse dx)

variable (x : (⟨S1x2048x1024, .f32⟩ : BufTy).Contents (Elt Ideal)) (g : (⟨S1024, .f32⟩ : BufTy).Contents (Elt Ideal))
  (t : (⟨S1x2048x1024, .f32⟩ : BufTy).Contents (Elt Ideal))

abbrev xr (i : Fin 2048) : Fin 1024 → EReal := fun k => x (ix3 0 i k)
abbrev gr : Fin 1024 → EReal := fun k => g (ix1 k)

theorem v6_at (i : Fin 2048) : val_main_v6 (F := Ideal) x (ix3 0 i 0) = Ideal.div (∑ k, x (ix3 0 i k) * x (ix3 0 i k)) W + E := by
  pointwise [val_main_v6, val_main_v5, val_main_v4, val_main_v3, val_main_v2, val_main_v1, val_main_v0, val_main_cst, val_main_cst_0, val_main_cst_1]

theorem v7_at (i : Fin 2048) : val_main_v7 (F := Ideal) x (ix3 0 i 0) = Rms.rinv W E (xr x i) := by
  pointwise [val_main_v7, v6_at]
  rfl

theorem v10_at (i : Fin 2048) : val_main_v10 (F := Ideal) x (ix3 0 i 0)
    = Ideal.div (Rms.rinv W E (xr x i)) (Ideal.div (∑ k, x (ix3 0 i k) * x (ix3 0 i k)) W + E) * ((-(1 / 2) : ℝ) : EReal) := by
  pointwise [val_main_v10, val_main_v9, val_main_v8, val_main_cst_2, v7_at, v6_at]
  rw [Rms.neg_half_eq, mul_comm]

theorem v12_at (i : Fin 2048) (j : Fin 1024) : val_main_v12 (F := Ideal) x (ix3 0 i j) = xh (xr x i) j := by
  pointwise [val_main_v12, val_main_v11, v7_at]
  rfl

theorem v16_at (i : Fin 2048) (j : Fin 1024) : val_main_v16 (F := Ideal) x g t (ix3 0 i j) = err (xr x i) (gr g) (xr t i) j := by
  pointwise [val_main_v16, val_main_v15, val_main_v14, val_main_v13, v12_at]
  rfl

theorem v30_at (i : Fin 2048) (j : Fin 1024) : val_main_v30 (F := Ideal) x g t (ix3 0 i j) = dy (xr x i) (gr g) (xr t i) j := by
  pointwise [val_main_v30, val_main_v29, val_main_v28, val_main_v27, val_main_v26, val_main_v25, val_main_v19, val_main_v18, val_main_cst_3, val_main_cst_8, val_main_cst_9, val_main_cst_10, v16_at]
  rw [← mul_assoc, mul_comm]
  refine congrArg (err (xr x i) (gr g) (xr t i) j * ·) ?_
  rw [Rms.half_eq, Rms.len_eq, Rms.div_pos _ _ (by norm_num), Rms.two_eq, show C = _ from Rms.inv_len_eq, ← EReal.coe_mul, ← EReal.coe_mul]
  exact congrArg Real.toEReal (by norm_num)

theorem v35_at (i : Fin 2048) (j : Fin 1024) : val_main_v35 (F := Ideal) x g t (ix3 0 i j) = dy (xr x i) (gr g) (xr t i) j * g (ix1 j) := by
  pointwise [val_main_v35, val_main_v34, val_main_v13, v30_at]

theorem v44_at (i : Fin 2048) : val_main_v44 (F := Ideal) x g t (ix3 0 i 0)
    = Ideal.div ((∑ k, x (ix3 0 i k) * (dy (xr x i) (gr g) (xr t i) k * g (ix1 k))) * val_main_v10 (F := Ideal) x (ix3 0 i 0)) W := by
  pointwise [val_main_v44, val_main_v43, val_main_v42, val_main_v39, val_main_v38, val_main_v37, v35_at, val_main_cst_13, val_main_cst_14]

theorem v45_at (i : Fin 2048) : val_main_v45 (F := Ideal) x g t (ix1 i) = val_main_v44 (F := Ideal) x g t (ix3 0 i 0) := by
  refine (Rms.reduce_d0_2 reducesTo_S1x2048x1_S2048_d0_2 (val_main_v44 (F := Ideal) x g t) _ i).trans ?_
  pointwise [val_main_cst_15]

theorem v36_at (j : Fin 1024) : val_main_v36 (F := Ideal) x g t (ix1 j) = val_main_v33 (F := Ideal) x g t (ix3 0 0 j) := by
  refine (Rms.reduce_d0_1 reducesTo_S1x1x1024_S1024_d0_1 (val_main_v33 (F := Ideal) x g t) _ j).trans ?_
  pointwise [val_main_cst_12]

theorem v53_at (i : Fin 2048) (j : Fin 1024) : val_main_v53 (F := Ideal) x g t (ix2 i j) = dx (xr x i) (gr g) (xr t i) j := by
  pointwise [val_main_v53, val_main_v51, val_main_v50, val_main_v49, val_main_v48, val_main_v47, val_main_v46, val_main_v41, val_main_v40, v45_at, v44_at, v35_at, v7_at, v10_at]
  exact Rms.row_grad_const (xr x i) (fun k => dy (xr x i) (gr g) (xr t i) k * g (ix1 k)) j

theorem v54_at (j : Fin 1024) : val_main_v54 (F := Ideal) x g t (ix2 0 j) = ∑ i : Fin 2048, dy (xr x i) (gr g) (xr t i) j * xh (xr x i) j := by
  pointwise [val_main_v54, v36_at, val_main_v33, val_main_v32, val_main_v31, v12_at, v30_at, val_main_cst_11]
  exact Finset.sum_congr rfl fun i _ => mul_comm _ _

theorem v52_at (j : Fin 128) : val_main_v52 (F := Ideal) x g t (ix2 0 j) = Ideal.ofBits .f32 0x3F000000#32 * ∑ i : Fin 2048, mse (xr x i) (gr g) (xr t i) := by
  pointwise [val_main_v52, val_main_v24, val_main_v23, val_main_v22, val_main_v21, val_main_v20, val_main_v17, v16_at, val_main_cst_4, val_main_cst_5, val_main_cst_6, val_main_cst_7]
  simp only [Finset.univ_unique, Finset.sum_singleton]
  rfl

/-- The reference's run, its three results named by their last lines. -/
theorem run_vals (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v52) = val_main_v52 (F := Ideal) (m ((c.tc : Thread nD τ).loc main_arg0)) (m ((c.tc : Thread nD τ).loc main_arg1)) (m ((c.tc : Thread nD τ).loc main_arg2))
      ∧ r.2.mem ((c.tc : Thread nD τ).loc main_v53) = val_main_v53 (F := Ideal) (m ((c.tc : Thread nD τ).loc main_arg0)) (m ((c.tc : Thread nD τ).loc main_arg1)) (m ((c.tc : Thread nD τ).loc main_arg2))
      ∧ r.2.mem ((c.tc : Thread nD τ).loc main_v54) = val_main_v54 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v52_eq _ _ _), (h c).2.1.trans (val_main_v53_eq m c),
      (h c).2.2.1.trans (val_main_v54_eq _ _ _), (h c).2.2.2⟩)
    (run m ρ)

end Cert.LossHeadRefIdeal.Value

end
-- ==== Proof.LossPair.lean ====
/-
  The loss and its gradient through the last norm: the three frames, and the equality of the kernel's three results with
  the derivative of the loss's own lines.
-/
module

public import proofs.«01_k».proof.Defs
public import proofs.«01_k».proof.Proof.LossRef
public import proofs.«01_k».proof.Proof.Gen.LossHead.Frame

@[expose] public section

noncomputable section

namespace Cert.Proof

open Idealize.ShloMosaic Idealize.SL.Sem

theorem frame_LossHead : Cert.quiescent_LossHead := fun m ρ _ => Cert.LossHead.Gen.frame m ρ
theorem frame_LossHeadIdeal : Cert.quiescent_LossHeadIdeal := fun m ρ _ => Cert.LossHeadIdeal.Gen.frame m ρ
theorem frame_LossHeadRefIdeal : Cert.quiescent_LossHeadRefIdeal := fun m ρ _ =>
  (θ_run Cert.LossHeadRefIdeal.defs _ _).mono (fun r h => ⟨fun c => (h c).2.2.2,
      Idealize.ShloMosaic.sem_eq_zero_of_no_sems (by decide) r.2⟩)
    (Cert.LossHeadRefIdeal.Value.run_vals m ρ)

/-- The loss, its gradient at the last layer's result and its gradient at the last norm's gain: the kernel's three
    results are the loss and its derivative, at every argument. -/
theorem algebraic_LossHead : Cert.algebraic_LossHeadIdeal_LossHeadRefIdeal := by
  pair_intro
  · run_from Cert.LossHeadIdeal.Value.run_blocks m g
  · run_from Cert.LossHeadRefIdeal.Value.run_vals m' g'
    · rw [Cert.LossHeadIdeal.Value.final_loss]
      funext i
      idx_vars i
      obtain rfl : i0 = 0 := Subsingleton.elim _ _
      exact Cert.LossHeadRefIdeal.Value.v52_at _ _ _ i1
    · rw [Cert.LossHeadIdeal.Value.final_dx]
      funext i
      idx_vars i
      exact Cert.LossHeadRefIdeal.Value.v53_at _ _ _ i0 i1
    · rw [Cert.LossHeadIdeal.Value.final_dg]
      funext i
      idx_vars i
      obtain rfl : i0 = 0 := Subsingleton.elim _ _
      exact Cert.LossHeadRefIdeal.Value.v54_at _ _ _ i1

end Cert.Proof

end
-- ==== Proof.SwigluValue.lean ====
/-
  The kernel of the gated unit's gradient: what its two results hold, written at one place of each array.
-/
module

public import proofs.«01_k».proof.Proof.Gen.SwigluBwdIdeal.Value
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SwigluBwdIdeal.Value

open Cert.SwigluBwdIdeal Cert.SwigluBwdIdeal.Gen

variable (m : (ℓ : Loc nD τ sig) → Buf (Elt Ideal) ℓ)

theorem idx : ∀ t : Fin cfg0.N, win0_0.index t = ![t.val % 4, t.val / 4] ∧ win0_1.index t = ![t.val % 4, t.val / 4 + 2]
    ∧ win0_2.index t = ![t.val % 4, 0] ∧ win0_3.index t = ![t.val / 4, 0] ∧ win0_4.index t = ![0, t.val % 4, t.val / 4]
    ∧ win0_5.index t = ![t.val / 4, 0] :=
  (by decide +kernel : ∀ t : Fin grid0.N, _)

/-- The two halves of the gated unit's argument at token `i` and lane `f`, the cotangent and the weight. -/
abbrev ua (c : Dev nD) (i : Fin 2048) (f : Fin 2816) : EReal := m ((c.tc : Thread nD τ).loc main_arg0) (ix3 0 i ⟨f.val, by omega⟩)
abbrev ub (c : Dev nD) (i : Fin 2048) (f : Fin 2816) : EReal := m ((c.tc : Thread nD τ).loc main_arg0) (ix3 0 i ⟨f.val + 2816, by omega⟩)
abbrev wd (c : Dev nD) (f : Fin 2816) (k : Fin 1024) : EReal := m ((c.tc : Thread nD τ).loc main_arg1) (ix2 f k)
abbrev ct (c : Dev nD) (i : Fin 2048) (k : Fin 1024) : EReal := m ((c.tc : Thread nD τ).loc main_arg2) (ix3 0 i k)

abbrev H : EReal := Ideal.ofBits .f32 0x3F000000#32

/-- The gradient at the unit's result, from a row of the cotangent and a row of the weight. -/
def ds (d w : Fin 1024 → EReal) : EReal := ∑ k, H * d k * w k
/-- The gradient at the gate, as the kernel writes it. -/
def da (a b s : EReal) : EReal := s * b * (Ideal.logistic a * (1 + a * (1 - Ideal.logistic a)))
def db (a s : EReal) : EReal := s * (a * Ideal.logistic a)

variable (v0 v3 : Vec Ideal S512x1408 .bf16) (v6 : Vec Ideal S512x1024 .f32) (v11 : Vec Ideal S1408x1024 .bf16)

theorem pay6_apply (p : Fin 512) (f : Fin 1408) :
    k0_pay6 v6 v11 (ix2 p f) = ds (fun k => v6 (ix2 p k)) (fun k => v11 (ix2 f k)) := by
  pointwise [k0_pay6, k0_pay5]
  rfl

theorem pay9_apply (f : Fin 1408) (k : Fin 1024) :
    k0_pay9 v0 v3 v6 (ix2 f k) = ∑ p : Fin 512, v0 (ix2 p f) * Ideal.logistic (v0 (ix2 p f)) * v3 (ix2 p f) * (H * v6 (ix2 p k)) := by
  pointwise [k0_pay9, k0_pay5, k0_pay8, k0_pay7, k0_pay3, k0_pay4]

theorem pay1_apply (p : Fin 512) (f : Fin 1408) :
    k0_pay1 (k0_pay11 v0 v3 v6 v11) (ix3 0 p f) = da (v0 (ix2 p f)) (v3 (ix2 p f)) (ds (fun k => v6 (ix2 p k)) (fun k => v11 (ix2 f k))) := by
  pointwise [k0_pay1, k0_pay11, k0_pay7, k0_pay3, k0_pay4, pay6_apply]
  rfl

theorem pay2_apply (p : Fin 512) (f : Fin 1408) :
    k0_pay2 (k0_pay6 v6 v11) (k0_pay8 v0) (ix3 0 p f) = db (v0 (ix2 p f)) (ds (fun k => v6 (ix2 p k)) (fun k => v11 (ix2 f k))) := by
  pointwise [k0_pay2, k0_pay8, k0_pay7, k0_pay3, pay6_apply]
  rfl

variable (c : Dev nD) (t : Fin cfg0.N)

theorem lt8 : t.val < 8 := t.isLt

theorem a_blk (p : Fin 512) (f : Fin 1408) (h : t.val % 4 * 512 + p.val < 2048) (h' : t.val / 4 * 1408 + f.val < 2816) :
    iblk m c 0 t (ix2 p f) = ua m c ⟨t.val % 4 * 512 + p.val, h⟩ ⟨t.val / 4 * 1408 + f.val, h'⟩ := by
  blk_point [iblk, V, idx t]

theorem b_blk (p : Fin 512) (f : Fin 1408) (h : t.val % 4 * 512 + p.val < 2048) (h' : t.val / 4 * 1408 + f.val < 2816) :
    iblk m c 1 t (ix2 p f) = ub m c ⟨t.val % 4 * 512 + p.val, h⟩ ⟨t.val / 4 * 1408 + f.val, h'⟩ := by
  blk_point [iblk, V, idx t]

theorem ct_blk (p : Fin 512) (k : Fin 1024) (h : t.val % 4 * 512 + p.val < 2048) :
    iblk m c 2 t (ix2 p k) = ct m c ⟨t.val % 4 * 512 + p.val, h⟩ k := by
  blk_point [iblk, V, idx t]

theorem wd_blk (f : Fin 1408) (k : Fin 1024) (h' : t.val / 4 * 1408 + f.val < 2816) :
    iblk m c 3 t (ix2 f k) = wd m c ⟨t.val / 4 * 1408 + f.val, h'⟩ k := by
  blk_point [iblk, V, idx t]

/-- What one point adds to the weight's gradient. -/
def dwTerm (j : S1408x1024.Idx) : EReal :=
  ∑ p : Fin 512, (fun (i : Fin 2048) (f : Fin 2816) => ua m c i f * Ideal.logistic (ua m c i f) * ub m c i f * (H * ct m c i (j 1)))
    ⟨t.val % 4 * 512 + p.val, by have := lt8 t; omega⟩ ⟨t.val / 4 * 1408 + (j 0).val, by have := lt8 t; have := (j 0).isLt; dsimp at this; omega⟩

theorem dw_pay (j : S1408x1024.Idx) : k0_pay9 (iblk m c 0 t) (iblk m c 1 t) (iblk m c 2 t) j = dwTerm m c t j := by
  have hN := lt8 t
  idx_vars j
  refine (pay9_apply _ _ _ _ _).trans (Finset.sum_congr rfl fun p _ => ?_)
  rw [a_blk m c t p _ (by omega) (by omega), b_blk m c t p _ (by omega) (by omega), ct_blk m c t p _ (by omega)]
  rfl

theorem dw_start (ht : t.val % 4 = 0) (j : S1408x1024.Idx) :
    (outsAt0 m c t.val t.isLt).2 j = 0 + dwTerm m c t j := by
  rw [outsAt0_A m c t ht (by omega), zero_add, ← dw_pay]
  frame_out

theorem dw_step (ht : ¬t.val % 4 = 0) (j : S1408x1024.Idx) :
    (outsAt0 m c t.val t.isLt).2 j
      = (outsAt0 m c (t.val - 1) (Nat.lt_of_le_of_lt (Nat.sub_le _ _) t.isLt)).2 j + dwTerm m c t j := by
  rw [← dw_pay, outsAt0_B m c t ht (by omega)]
  frame_out
  idx_vars j
  pointwise [k0_pay10]

section Stack
variable {R C : ℕ} (i1 : ∀ a, (![1, 0, 0] : Fin 3 → ℕ) a + (![1, R, C] : Fin 3 → ℕ) a ≤ (⟨3, ![2, R, C]⟩ : Shape).size a)
  (i0 : ∀ a, (![0, 0, 0] : Fin 3 → ℕ) a + (![1, R, C] : Fin 3 → ℕ) a ≤ (⟨3, ![2, R, C]⟩ : Shape).size a)
  (w1 w0 : (⟨3, ![1, R, C]⟩ : Shape).Idx → Elt Ideal .bf16) (p : Fin R) (f : Fin C)

/-- A stack of two blocks, each stored whole: its second and its first block. -/
theorem stack_snd (L : List (View.Piece (Elt Ideal) (⟨3, ![2, R, C]⟩ : Shape) .bf16)) :
    View.canon (Val := Elt Ideal) (⟨Rect.unit ![1, 0, 0] ![1, R, C] i1, w1⟩ :: L) (ix3 1 p f) = w1 (ix3 0 p f) := by
  have e : (Rect.unit (s := (⟨3, ![2, R, C]⟩ : Shape)) ![1, 0, 0] ![1, R, C] i1).emb (ix3 (0 : Fin 1) p f) = ix3 1 p f := by
    funext a; apply Fin.ext
    match a with
    | ⟨0, _⟩ => simp [Rect.emb_apply]
    | ⟨1, _⟩ => simp [Rect.emb_apply]
    | ⟨2, _⟩ => simp [Rect.emb_apply]
  exact (congrArg _ e.symm).trans (View.canon_cons_emb (Rect.unit (s := (⟨3, ![2, R, C]⟩ : Shape)) ![1, 0, 0] ![1, R, C] i1) w1 L (ix3 (0 : Fin 1) p f))

theorem stack_fst : View.canon (Val := Elt Ideal) [⟨Rect.unit ![1, 0, 0] ![1, R, C] i1, w1⟩, ⟨Rect.unit ![0, 0, 0] ![1, R, C] i0, w0⟩]
    (ix3 0 p f) = w0 (ix3 0 p f) := by
  have e : (Rect.unit (s := (⟨3, ![2, R, C]⟩ : Shape)) ![0, 0, 0] ![1, R, C] i0).emb (ix3 (0 : Fin 1) p f) = ix3 0 p f := by
    funext a; apply Fin.ext
    match a with
    | ⟨0, _⟩ => simp [Rect.emb_apply]
    | ⟨1, _⟩ => simp [Rect.emb_apply]
    | ⟨2, _⟩ => simp [Rect.emb_apply]
  refine (View.canon_cons_of_not_mem _ _ fun h => ?_).trans ((congrArg _ e.symm).trans (View.canon_cons_emb (Rect.unit (s := (⟨3, ![2, R, C]⟩ : Shape)) ![0, 0, 0] ![1, R, C] i0) w0 [] (ix3 (0 : Fin 1) p f)))
  have := (Rect.mem_set_unit.mp (show ix3 0 p f ∈ (Rect.unit (s := (⟨3, ![2, R, C]⟩ : Shape)) ![1, 0, 0] ![1, R, C] i1).set from h) 0).1
  simp at this

end Stack

theorem da_point (p : Fin 512) (f : Fin 1408) :
    (outsAt0 m c t.val t.isLt).1 (ix3 0 p f) = k0_pay1 (k0_pay11 (iblk m c 0 t) (iblk m c 1 t) (iblk m c 2 t) (iblk m c 3 t)) (ix3 0 p f) := by
  by_cases ht : t.val % 4 = 0
  · rw [outsAt0_A m c t ht (by omega)]
    frame_out
    exact stack_fst _ _ _ _ p f
  · rw [outsAt0_B m c t ht (by omega)]
    frame_out
    exact stack_fst _ _ _ _ p f

theorem db_point (p : Fin 512) (f : Fin 1408) :
    (outsAt0 m c t.val t.isLt).1 (ix3 1 p f) = k0_pay2 (k0_pay6 (iblk m c 2 t) (iblk m c 3 t)) (k0_pay8 (iblk m c 0 t)) (ix3 0 p f) := by
  by_cases ht : t.val % 4 = 0
  · rw [outsAt0_A m c t ht (by omega)]
    frame_out
    exact stack_snd _ _ p f _
  · rw [outsAt0_B m c t ht (by omega)]
    frame_out
    exact stack_snd _ _ p f _

/-- The two results: the gradient at the gate and at the value, stacked, and the weight's gradient. -/
def du (s : Fin 2) (i : Fin 2048) (f : Fin 2816) : EReal :=
  if s = 0 then da (ua m c i f) (ub m c i f) (ds (ct m c i) (wd m c f)) else db (ua m c i f) (ds (ct m c i) (wd m c f))
def DU : Buf (Elt Ideal) ((c.tc : Thread nD τ).loc main_v4_0) := fun i => du m c (i 0) (i 1) (i 2)
def DW : Buf (Elt Ideal) ((c.tc : Thread nD τ).loc main_v4_1) := fun j =>
  show EReal from ∑ i : Fin 2048, ua m c i (j 0) * Ideal.logistic (ua m c i (j 0)) * ub m c i (j 0) * (H * ct m c i (j 1))

theorem du_point (s : Fin 2) (p : Fin 512) (f : Fin 1408) (h : t.val % 4 * 512 + p.val < 2048) (h' : t.val / 4 * 1408 + f.val < 2816) :
    (outsAt0 m c t.val t.isLt).1 (ix3 s p f) = du m c s ⟨t.val % 4 * 512 + p.val, h⟩ ⟨t.val / 4 * 1408 + f.val, h'⟩ := by
  have e : s = 0 ∨ s = 1 := by omega
  rcases e with rfl | rfl
  · rw [da_point, pay1_apply, a_blk m c t p f h h', b_blk m c t p f h h']
    simp only [ct_blk m c t p _ h, wd_blk m c t f _ h']
    rfl
  · rw [db_point, pay2_apply, a_blk m c t p f h h']
    simp only [ct_blk m c t p _ h, wd_blk m c t f _ h']
    rfl

theorem du_place (s : Fin 2) (p : Fin 512) (f : Fin 1408) (h : t.val % 4 * 512 + p.val < 2048) (h' : t.val / 4 * 1408 + f.val < 2816) :
    (ix3 s ⟨t.val % 4 * 512 + p.val, h⟩ ⟨t.val / 4 * 1408 + f.val, h'⟩ : S2x2048x2816.Idx)
      = ((View.whole main_v4_0).slice (win0_4.rect t)).emb (ix3 s p f) := by
  blk_ext [idx t]

theorem du_point' (s : Fin 2) (p : Fin 512) (f : Fin 1408) :
    (outsAt0 m c t.val t.isLt).1 (ix3 s p f) = DU m c (((View.whole main_v4_0).slice (win0_4.rect t)).emb (ix3 s p f)) := by
  have hN := lt8 t
  rw [← du_place t s p f (by omega) (by omega)]
  exact du_point m c t s p f (by omega) (by omega)

theorem final_du : (dats m 0 c).arrAt 4 cfg0.N = DU m c := by
  refine (dats m 0 c).arrAt_eq_of_covers 4 _ (by decide +kernel) fun t _ y => ?_
  blk_simp
  rw [after0_4]
  idx_vars y
  exact du_point' m c t y0 y1 y2

theorem dw_place (f : Fin 1408) (k : Fin 1024) (h' : t.val / 4 * 1408 + f.val < 2816) :
    (ix2 ⟨t.val / 4 * 1408 + f.val, h'⟩ k : S2816x1024.Idx) = ((View.whole main_v4_1).slice (win0_5.rect t)).emb (ix2 f k) := by
  blk_ext [idx t]

theorem dw_point (ht : t.val % 4 = 3) (f : Fin 1408) (k : Fin 1024) :
    (outsAt0 m c t.val t.isLt).2 (ix2 f k) = DW m c (((View.whole main_v4_1).slice (win0_5.rect t)).emb (ix2 f k)) := by
  have hN := lt8 t
  rw [← dw_place t f k (by omega)]
  refine (Pipeline.eq_sum_fin_of_reset_step_apply_of_flush (fun n h => (outsAt0 m c n h).2) 4 (fun _ => 0) (dwTerm m c)
    (dw_start m c) (dw_step m c) t ht (ix2 f k)).trans ?_
  rw [zero_add]
  refine Fin.sum_mul_add_congr (S := 4) (n := 512) (f := fun i => ua m c i _ * Ideal.logistic (ua m c i _) * ub m c i _ * (H * ct m c i _)) (fun s p hl => ?_)
  have e1 : (4 * (t.val / 4) + s.val) % 4 = s.val := by omega
  have e2 : (4 * (t.val / 4) + s.val) / 4 = t.val / 4 := by omega
  simp only [e1, e2]
  rfl

theorem final_dw : (dats m 0 c).arrAt 5 cfg0.N = DW m c := by
  refine (dats m 0 c).arrAt_eq_of_covers 5 _ (by decide +kernel) fun t hf y => ?_
  have ht : t.val % 4 = 3 :=
    (by decide +kernel : ∀ t : Fin cfg0.N, (cfg0.win 5).flush t = true → t.val % 4 = 3) t hf
  blk_simp
  rw [after0_5]
  idx_vars y
  exact dw_point m c t ht y0 y1

end Cert.SwigluBwdIdeal.Value

end
-- ==== Proof.Fin.lean ====
/-
  Finiteness: what a precondition `|x| < ∞` says of a number.
-/
module

public import Idealize.ShloMosaic.PureOps.Ideal
public import Idealize.ShloMosaic.Lib.StableHlo
public import Idealize.ShloMosaic.Lib.Pointwise

@[expose] public section

open Idealize.ShloMosaic

namespace Cert.Finite

theorem top_eq : Ideal.ofBits .f32 0x7F800000#32 = (⊤ : EReal) := by
  simp [Ideal.ofBits, Ideal.ieee]

/-- A number whose absolute value compares below infinity is a real number. -/
theorem real_of_lt {x : EReal} (h : Ideal.cmp .olt (max x (-x)) (Ideal.ofBits .f32 0x7F800000#32) = 1#1) : ∃ r : ℝ, x = r := by
  rw [top_eq] at h
  induction x using EReal.rec with
  | bot => exact absurd h (by simp [Ideal.cmp])
  | coe r => exact ⟨r, rfl⟩
  | top => exact absurd h (by simp [Ideal.cmp])

theorem real_of_all {s : Shape} (x : FVec Ideal s .f32) (b : FVec Ideal s .f32) (hb : ∀ i, b i = Ideal.ofBits .f32 0x7F800000#32)
    (h : cmpf .olt (Host.absf x) b = fun _ => 1#1) (i : s.Idx) : ∃ r : ℝ, x i = r := by
  refine real_of_lt ?_
  rw [← hb i]
  exact congrFun h i

theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem real_add {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

theorem real_sum {ι : Type*} (s : Finset ι) (f : ι → EReal) (h : ∀ i, ∃ r : ℝ, f i = r) : ∃ r : ℝ, ∑ i ∈ s, f i = r := by
  classical
  induction s using Finset.induction_on with
  | empty => exact ⟨0, rfl⟩
  | insert a s ha ih =>
    rw [Finset.sum_insert ha]
    exact real_add (h a) ih

end Cert.Finite
-- ==== Proof.SwigluRef.lean ====
/-
  The derivative of the gated unit's own lines, read at one place of each result, and its equality with what the kernel leaves.
-/
module

public import proofs.«01_k».proof.Proof.SwigluValue
public import proofs.«01_k».proof.Proof.Fin
public import proofs.«01_k».proof.Proof.Gen.SwigluBwdRefIdeal.Run
public import proofs.«01_k».proof.Proof.Gen.SwigluBwdRefIdeal.Read

@[expose] public section

set_option maxRecDepth 16384

noncomputable section

open Idealize.ShloMosaic Idealize.ShloMosaic.TcCoe Idealize.SL.Sem

namespace Cert.SwigluBwdRefIdeal.Value

open Cert.SwigluBwdRefIdeal Cert.SwigluBwdRefIdeal.Gen Cert.SwigluBwdRefIdeal.Read
open Cert.SwigluBwdIdeal.Value (H ds da db)

/-- The derivative of `a · σ(a)` times a finite cotangent, written as the sum the product rule gives and as the kernel's product. -/
theorem silu_grad (a : EReal) (s : ℝ) :
    (s : EReal) * Ideal.logistic a + a * s * (Ideal.logistic a * (1 - Ideal.logistic a)) = s * (Ideal.logistic a * (1 + a * (1 - Ideal.logistic a))) := by
  induction a using EReal.rec with
  | bot => simp
  | top =>
    rw [Ideal.logistic_top, show (1 : EReal) - 1 = 0 from by rw [← EReal.coe_one, ← EReal.coe_sub, sub_self, EReal.coe_zero]]
    simp
  | coe r =>
    rw [Ideal.logistic_coe]
    norm_cast
    ring

variable (u : (⟨S1x2048x5632, .f32⟩ : BufTy).Contents (Elt Ideal)) (w : (⟨S2816x1024, .f32⟩ : BufTy).Contents (Elt Ideal))
  (d : (⟨S1x2048x1024, .f32⟩ : BufTy).Contents (Elt Ideal))

abbrev ur (i : Fin 2048) (f : Fin 2816) : EReal := u (ix3 0 i ⟨f.val, by omega⟩)
abbrev vr (i : Fin 2048) (f : Fin 2816) : EReal := u (ix3 0 i ⟨f.val + 2816, by omega⟩)
abbrev dr (i : Fin 2048) : Fin 1024 → EReal := fun k => d (ix3 0 i k)
abbrev wr (f : Fin 2816) : Fin 1024 → EReal := fun k => w (ix2 f k)

theorem v2_2_at (i : Fin 2048) (f : Fin 2816) : val_main_v2_2 (F := Ideal) u (ix3 0 i f) = Ideal.logistic (ur u i f) := by
  pointwise [val_main_v2_2, val_main_call0_v4, val_main_call0_cst_0, val_main_call0_v3, val_main_call0_v2, val_main_call0_cst, val_main_call0_v1, val_main_call0_v0, val_main_v0]
  rfl

theorem v1_at (i : Fin 2048) (f : Fin 2816) : val_main_v1 (F := Ideal) u (ix3 0 i f) = vr u i f := by
  pointwise [val_main_v1]
  exact congrArg (fun q => u (ix3 0 i q)) (Fin.ext (Nat.add_comm _ _))

theorem v11_at (i : Fin 2048) (f : Fin 2816) : val_main_v11 (F := Ideal) w d (ix3 0 i f) = ds (dr d i) (wr w f) := by
  pointwise [val_main_v11, val_main_v8, val_main_v7, val_main_cst_0]
  rfl

theorem v14_at (i : Fin 2048) (f : Fin 2816) (hs : ∃ r : ℝ, ds (dr d i) (wr w f) * vr u i f = r) :
    val_main_v14 (F := Ideal) u w d (ix3 0 i f) = da (ur u i f) (vr u i f) (ds (dr d i) (wr w f)) := by
  pointwise [val_main_v14, val_main_call1_v1, val_main_call1_v2, val_main_call1_v0, val_main_v13, val_main_v2_1, val_main_call0_v7, val_main_call0_v6, val_main_call0_cst_1, val_main_v0, v1_at, v2_2_at, v11_at]
  obtain ⟨r, hr⟩ := hs
  unfold da
  rw [hr]
  exact silu_grad _ _

theorem v12_at (i : Fin 2048) (f : Fin 2816) : val_main_v12 (F := Ideal) u w d (ix3 0 i f) = db (ur u i f) (ds (dr d i) (wr w f)) := by
  pointwise [val_main_v12, val_main_v2_0, val_main_v0, v2_2_at, v11_at]
  exact mul_comm _ _

theorem v10_at (f : Fin 2816) (k : Fin 1024) : val_main_v10 (F := Ideal) u d (ix2 f k)
    = ∑ i : Fin 2048, ur u i f * Ideal.logistic (ur u i f) * vr u i f * (H * d (ix3 0 i k)) := by
  pointwise [val_main_v10, val_main_v9, val_main_v8, val_main_v7, val_main_cst_0, val_main_v3, val_main_v2_0, val_main_v0]
  rw [Finset.univ_unique, Finset.sum_singleton]
  refine Finset.sum_congr rfl fun i _ => ?_
  refine (mul_comm _ _).trans (congrArg (· * _) (congrArg₂ (· * ·) (congrArg _ (v2_2_at u i f)) (v1_at u i f)))

theorem v22_0 (i : Fin 2048) (f : Fin 2816) : val_main_v22 (F := Ideal) u w d (ix3 0 i f) = val_main_v14 (F := Ideal) u w d (ix3 0 i f) := by
  pointwise [val_main_v22, val_main_v21, val_main_v19, val_main_v17, val_main_v16, val_main_v15]
theorem v22_1 (i : Fin 2048) (f : Fin 2816) : val_main_v22 (F := Ideal) u w d (ix3 1 i f) = val_main_v12 (F := Ideal) u w d (ix3 0 i f) := by
  pointwise [val_main_v22, val_main_v21, val_main_v20, val_main_v18, val_main_v16, val_main_v15]

/-- The reference's run, its two results named by their last lines. -/
theorem run_vals (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = val_main_v22 (F := Ideal) (m ((c.tc : Thread nD τ).loc main_arg0)) (m ((c.tc : Thread nD τ).loc main_arg1)) (m ((c.tc : Thread nD τ).loc main_arg2))
      ∧ r.2.mem ((c.tc : Thread nD τ).loc main_v10) = val_main_v10 (F := Ideal) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v22_eq m c), (h c).2.1.trans (val_main_v10_eq _ _), (h c).2.2⟩)
    (run m ρ)

end Cert.SwigluBwdRefIdeal.Value

end
-- ==== Proof.SwigluPair.lean ====
/-
  The gated unit's gradient: the frames, and the equality of the kernel's two results with the derivative of the unit's own lines.
-/
module

public import proofs.«01_k».proof.Defs
public import proofs.«01_k».proof.Proof.SwigluRef
public import proofs.«01_k».proof.Proof.Gen.SwigluBwd.Frame

@[expose] public section

set_option maxRecDepth 16384

noncomputable section

namespace Cert.Proof

open Idealize.ShloMosaic Idealize.SL.Sem

theorem facts_swiglu_bwd_finite : Cert.Pre_swiglu_bwd_finite.Facts where
  slices_S1x2048x5632_S1x2048x2816_0_0_2816 := by decide
  bcast_S_S1x2048x2816 := by decide
  bcast_S_S2816x1024 := by decide
  bcast_S_S1x2048x1024 := by decide

local instance : Cert.Pre_swiglu_bwd_finite.Facts := facts_swiglu_bwd_finite

theorem frame_SwigluBwd : Cert.quiescent_SwigluBwd := fun m ρ _ => Cert.SwigluBwd.Gen.frame m ρ
theorem frame_SwigluBwdIdeal : Cert.quiescent_SwigluBwdIdeal := fun m ρ _ => Cert.SwigluBwdIdeal.Gen.frame m ρ
theorem frame_SwigluBwdIdeal_pre : Cert.quiescent_SwigluBwdIdeal_pre_swiglu_bwd_finite := fun m ρ _ => Cert.SwigluBwdIdeal.Gen.frame m ρ
theorem frame_SwigluBwdRefIdeal : Cert.quiescent_SwigluBwdRefIdeal := fun m ρ _ =>
  (θ_run Cert.SwigluBwdRefIdeal.defs _ _).mono (fun r h => ⟨fun c => (h c).2.2,
      Idealize.ShloMosaic.sem_eq_zero_of_no_sems (by decide) r.2⟩)
    (Cert.SwigluBwdRefIdeal.Value.run_vals m ρ)
theorem frame_SwigluBwdRefIdeal_pre : Cert.quiescent_SwigluBwdRefIdeal_pre_swiglu_bwd_finite := fun m ρ _ => frame_SwigluBwdRefIdeal m ρ trivial

/-- What the precondition says: the gate's partner, the weight and the cotangent are real numbers, so each product the gate's
    gradient takes is one. -/
theorem swiglu_real (u : FVec Ideal Cert.Pre_swiglu_bwd_finite.S1x2048x5632 .f32) (w : FVec Ideal Cert.Pre_swiglu_bwd_finite.S2816x1024 .f32)
    (d : FVec Ideal Cert.Pre_swiglu_bwd_finite.S1x2048x1024 .f32)
    (h0 : (Cert.Pre_swiglu_bwd_finite.fn (F := Ideal) u w d).1 = fun _ => 1#1)
    (h1 : (Cert.Pre_swiglu_bwd_finite.fn (F := Ideal) u w d).2.1 = fun _ => 1#1)
    (h2 : (Cert.Pre_swiglu_bwd_finite.fn (F := Ideal) u w d).2.2 = fun _ => 1#1) (i : Fin 2048) (f : Fin 2816) :
    ∃ r : ℝ, Cert.SwigluBwdIdeal.Value.ds (fun k => d (ix3 0 i k)) (fun k => w (ix2 f k)) * u (ix3 0 i ⟨f.val + 2816, by omega⟩) = r := by
  have e0 := Cert.Finite.real_of_all _ _ (fun _ => rfl) h0 (ix3 0 i f)
  have e1 := fun k => Cert.Finite.real_of_all _ _ (fun _ => rfl) h1 (ix2 f k)
  have e2 := fun k => Cert.Finite.real_of_all _ _ (fun _ => rfl) h2 (ix3 0 i k)
  refine Cert.Finite.real_mul (Cert.Finite.real_sum _ _ fun k => Cert.Finite.real_mul (Cert.Finite.real_mul ⟨1 / 2, ?_⟩ (e2 k)) (e1 k)) ?_
  · simp [Ideal.ofBits, Ideal.ieee]
    rw [← EReal.coe_mul]; norm_num
  · obtain ⟨r, hr⟩ := e0
    refine ⟨r, Eq.trans ?_ hr⟩
    pointwise []
    exact congrArg (fun q => u (ix3 0 i q)) (Fin.ext (Nat.add_comm _ _))

/-- The gradient at the gated unit's two inputs and at its weight: the kernel's two results are the derivative of
    `0.5 · (a · σ(a) · b) W`, where the cotangent, the weight and `b` are finite. -/
theorem algebraic_SwigluBwd : Cert.algebraic_SwigluBwdIdeal_SwigluBwdRefIdeal_pre_swiglu_bwd_finite := by
  pair_intro
  · run_from Cert.SwigluBwdIdeal.Value.run_blocks m g
  · run_from Cert.SwigluBwdRefIdeal.Value.run_vals m' g'
    · rw [Cert.SwigluBwdIdeal.Value.final_du]
      funext i
      idx_vars i
      have e : i0 = 0 ∨ i0 = 1 := by omega
      rcases e with rfl | rfl
      · exact (Cert.SwigluBwdRefIdeal.Value.v22_0 _ _ _ i1 i2).trans
          (Cert.SwigluBwdRefIdeal.Value.v14_at _ _ _ i1 i2 (swiglu_real _ _ _ (hpre c).1 (hpre c).2.1 (hpre c).2.2 i1 i2))
      · exact (Cert.SwigluBwdRefIdeal.Value.v22_1 _ _ _ i1 i2).trans (Cert.SwigluBwdRefIdeal.Value.v12_at _ _ _ i1 i2)
    · rw [Cert.SwigluBwdIdeal.Value.final_dw]
      funext i
      idx_vars i
      exact Cert.SwigluBwdRefIdeal.Value.v10_at _ _ i0 i1

end Cert.Proof

end
-- ==== Proof.Loads.lean ====
/-
  What a whole buffer holds after one store, and what a load of it reads: the load or the store takes either the whole
  buffer or one band of its rows.
-/
module

public import Idealize.ShloMosaic.Lib.VecWindow
public import Idealize.ShloMosaic.Lib.Tactic

@[expose] public section

namespace Cert.Loads

open Idealize.ShloMosaic

variable {sig : RefSig} {κ : Kind} {sp : Space} {e : EltTy} {Val : EltTy → Type}

/-- A load of a whole matrix reads its contents. -/
theorem load2 {a b : ℕ} {m : Memref sig κ sp ⟨2, ![a, b]⟩ e} (h : m.IsWhole) (x : (⟨2, ![a, b]⟩ : Shape).Idx → Val e)
    (inb : ∀ i, (![0, 0] : Fin 2 → ℕ) i + (![a, b] : Fin 2 → ℕ) i ≤ (![a, b] : Fin 2 → ℕ) i) :
    View.readAt Val m.view (Rect.unit (s := ⟨2, ![a, b]⟩) ![0, 0] ![a, b] inb).toLoadRect (h.unread x) = x :=
  (View.readAt_full (s := ⟨2, ![a, b]⟩) m.view _ inb).trans (h.read_unread x)

/-- A load of a whole array of rank three reads its contents. -/
theorem load3 {a b c : ℕ} {m : Memref sig κ sp ⟨3, ![a, b, c]⟩ e} (h : m.IsWhole) (x : (⟨3, ![a, b, c]⟩ : Shape).Idx → Val e)
    (inb : ∀ i, (![0, 0, 0] : Fin 3 → ℕ) i + (![a, b, c] : Fin 3 → ℕ) i ≤ (![a, b, c] : Fin 3 → ℕ) i) :
    View.readAt Val m.view (Rect.unit (s := ⟨3, ![a, b, c]⟩) ![0, 0, 0] ![a, b, c] inb).toLoadRect (h.unread x) = x :=
  (View.readAt_full (s := ⟨3, ![a, b, c]⟩) m.view _ inb).trans (h.read_unread x)

/-- A store of a whole matrix leaves what was stored. -/
theorem store2 {a b : ℕ} (v : View sig κ sp ⟨2, ![a, b]⟩ e) (f : v.ty.Contents Val)
    (inb : ∀ i, (![0, 0] : Fin 2 → ℕ) i + (![a, b] : Fin 2 → ℕ) i ≤ (![a, b] : Fin 2 → ℕ) i)
    (w : (⟨2, ![a, b]⟩ : Shape).Idx → Val e) :
    v.read Val (v.writes Val f [⟨Rect.unit (s := ⟨2, ![a, b]⟩) ![0, 0] ![a, b] inb, w⟩]) = w :=
  View.read_writes_full (s := ⟨2, ![a, b]⟩) v f inb w []

/-- A store of a whole array of rank three leaves what was stored. -/
theorem store3 {a b c : ℕ} (v : View sig κ sp ⟨3, ![a, b, c]⟩ e) (f : v.ty.Contents Val)
    (inb : ∀ i, (![0, 0, 0] : Fin 3 → ℕ) i + (![a, b, c] : Fin 3 → ℕ) i ≤ (![a, b, c] : Fin 3 → ℕ) i)
    (w : (⟨3, ![a, b, c]⟩ : Shape).Idx → Val e) :
    v.read Val (v.writes Val f [⟨Rect.unit (s := ⟨3, ![a, b, c]⟩) ![0, 0, 0] ![a, b, c] inb, w⟩]) = w :=
  View.read_writes_full (s := ⟨3, ![a, b, c]⟩) v f inb w []

/-- A load of a whole matrix after a store of it reads what was stored. -/
theorem reload2 [∀ e, Nonempty (Val e)] {a b : ℕ} (v : View sig κ sp ⟨2, ![a, b]⟩ e)
    (inb inb' : ∀ i, (![0, 0] : Fin 2 → ℕ) i + (![a, b] : Fin 2 → ℕ) i ≤ (![a, b] : Fin 2 → ℕ) i)
    (w : (⟨2, ![a, b]⟩ : Shape).Idx → Val e) :
    v.readCov [⟨Rect.unit (s := ⟨2, ![a, b]⟩) ![0, 0] ![a, b] inb, w⟩] (Rect.unit (s := ⟨2, ![a, b]⟩) ![0, 0] ![a, b] inb').toLoadRect = w :=
  View.readCov_full (s := ⟨2, ![a, b]⟩) v inb' inb w []

variable {s : Shape} {off off' size : Fin s.rank → ℕ}

/-- A load of a band reads that window of the contents. -/
theorem loadBand {m : Memref sig κ sp s e} (h : m.IsWhole) (x : s.Idx → Val e) (inb : ∀ a, off a + size a ≤ s.size a)
    (ho : off = off') (inb' : ∀ a, off' a + size a ≤ s.size a) :
    View.readAt Val m.view (Rect.unit off size inb).toLoadRect (h.unread x) = VecWindow.window x off' size inb' := by
  rw [View.readAt_unit m.view _ inb ho inb', h.read_unread]

/-- A store of a band puts it over the contents. -/
theorem storeBand {m : Memref sig κ sp s e} (h : m.IsWhole) (x : s.Idx → Val e) (inb : ∀ a, off a + size a ≤ s.size a)
    (w : (Rect.unit off size inb).shape.Idx → Val e) (ho : off = off') :
    View.read Val m.view (m.view.writes Val (h.unread x) [⟨Rect.unit off size inb, w⟩]) = VecWindow.put x off' size w := by
  rw [View.read_writes_cons_put m.view _ inb w [] ho, View.writes_nil, h.read_unread]

/-- A load of the band just stored reads what was stored. -/
theorem reloadBand [∀ e, Nonempty (Val e)] (v : View sig κ sp s e) (inb : ∀ a, off a + size a ≤ s.size a)
    (inb' : ∀ a, off' a + size a ≤ s.size a) (w : (Rect.unit off size inb).shape.Idx → Val e) (ho : off = off') :
    v.readCov [⟨Rect.unit off size inb, w⟩] (Rect.unit off' size inb').toLoadRect = w := by
  subst ho
  funext y
  exact View.read_writes_cons_emb v v.junk (Rect.unit off size inb) w [] y

end Cert.Loads
-- ==== Proof.FfnBody.lean ====
/-
  The kernel that undoes a norm and the projection after it, run at one grid point on any buffers: what each buffer holds
  afterwards, in every branch the point takes. One of its two carried buffers is first stored at the thirteenth
  point, so its contents before that are anything.
-/
module

public import proofs.«01_k».proof.Proof.Gen.NormFfnBwdIdeal.Frame
public import proofs.«01_k».proof.Proof.Gen.NormFfnBwdIdeal.Skeleton
public import Idealize.ShloMosaic.Lib.VecWindow
public import proofs.«01_k».proof.Proof.Loads

@[expose] public section

set_option maxRecDepth 16384

noncomputable section

namespace Cert.NormFfnBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.NormFfnBwdIdeal Cert.NormFfnBwdIdeal.Gen

variable {F : FTy → Type} [FloatOps F]

local notation "𝕄" => MT nD τ sig Unit (Elt F) ℕ (UR sig nD τ) ℕ

/-- The first of the 512 rows of the point's block of tokens. -/
abbrev off (t : Fin grid0.N) : Fin 2 → ℕ := ![512 * (t.val % 4), 0]

theorem off_inb (t : Fin grid0.N) : ∀ a, off t a + S512x1024.size a ≤ S2048x1024.size a :=
  (by decide +kernel : ∀ t : Fin grid0.N, ∀ a, off t a + S512x1024.size a ≤ S2048x1024.size a) t

/-- Where each branch loads and stores its block of rows. -/
theorem off_eq : ∀ t : Fin grid0.N, k0_off1 (grid0.coords t) = off t ∧ k0_off2 (grid0.coords t) = off t ∧ k0_off3 (grid0.coords t) = off t := by
  decide +kernel

/-- Which points take which branch. -/
theorem conds : ∀ t : Fin grid0.N, (k0_cond1 (grid0.coords t) = 1#1 ↔ t.val < 4) ∧ (k0_cond2 (grid0.coords t) = 1#1 ↔ ¬ t.val < 4)
    ∧ (k0_cond3 (grid0.coords t) = 1#1 ↔ t.val % 4 = 0) ∧ (k0_cond4 (grid0.coords t) = 1#1 ↔ ¬ t.val % 4 = 0)
    ∧ (k0_cond5 (grid0.coords t) = 1#1 ↔ 12 ≤ t.val) ∧ (k0_cond8 (grid0.coords t) = 1#1 ↔ t.val % 4 = 3)
    ∧ (Scalar.cmpi .ne (Scalar.extui (Scalar.cmpi .eq (BitVec.ofNat 32 (grid0.coords t 1).val) 0#32)) 0#32 = 1#1 ↔ t.val % 4 = 0)
    ∧ (Scalar.cmpi .ne (Scalar.extui (Scalar.xori (Scalar.cmpi .eq (BitVec.ofNat 32 (grid0.coords t 1).val) 0#32) 1#1)) 0#32 = 1#1 ↔ ¬ t.val % 4 = 0) := by
  decide +kernel

/-- The block of the gradient at the norm's result after the point: the point's product, added to what was there from the second round on. -/
def rows (t : Fin grid0.N) (x2 : Vec F S1x512x1408 .bf16) (x3 : Vec F S1x1024x1408 .bf16) (H : Vec F S2048x1024 .f32) : Vec F S512x1024 .f32 :=
  if t.val < 4 then k0_pay13 x2 x3 else k0_pay14 x2 x3 (VecWindow.window H (off t) S512x1024.size (off_inb t))

/-- The weight gradient's block after the point. -/
def weight (t : Fin grid0.N) (x0 : Vec F S512x1024 .f32) (x1 : Vec F S1x1024 .f32) (x2 : Vec F S1x512x1408 .bf16) (d : Vec F S1x1024x1408 .f32) : Vec F S1x1024x1408 .f32 :=
  if t.val % 4 = 0 then k0_pay1 (k0_pay15 x1 x0 x2) else k0_pay2 (k0_pay15 x1 x0 x2) d

/-- The sum of the gain's gradient after the point: touched in the last round only. -/
def gain (t : Fin grid0.N) (x0 : Vec F S512x1024 .f32) (h : Vec F S512x1024 .f32) (G : Vec F S1x1024 .f32) : Vec F S1x1024 .f32 :=
  if 12 ≤ t.val then (if t.val % 4 = 0 then k0_pay4 (k0_pay10 x0) h else k0_pay5 (k0_pay10 x0) h G) else G

set_option maxHeartbeats 4000000 in
theorem run (c : Dev nD) (t : Fin grid0.N)
    (arg2 : Memref sig .tc .vmem S512x1024 .f32) (harg2 : arg2.IsWhole) (arg3 : Memref sig .tc .vmem S1x1024 .f32) (harg3 : arg3.IsWhole)
    (arg4 : Memref sig .tc .vmem S1x512x1408 .bf16) (harg4 : arg4.IsWhole) (arg5 : Memref sig .tc .vmem S1x1024x1408 .bf16) (harg5 : arg5.IsWhole)
    (arg6 : Memref sig .tc .vmem S512x1024 .f32) (harg6 : arg6.IsWhole) (arg7 : Memref sig .tc .vmem S512x1024 .f32) (harg7 : arg7.IsWhole)
    (arg8 : Memref sig .tc .vmem S1x1024x1408 .f32) (harg8 : arg8.IsWhole) (arg9 : Memref sig .tc .vmem S1x1024 .f32) (harg9 : arg9.IsWhole)
    (arg10 : Memref sig .tc .vmem S2048x1024 .f32) (harg10 : arg10.IsWhole) (arg11 : Memref sig .tc .vmem S1x1024 .f32) (harg11 : arg11.IsWhole)
    (x0 : Vec F S512x1024 .f32) (x1 : Vec F S1x1024 .f32) (x2 : Vec F S1x512x1408 .bf16) (x3 : Vec F S1x1024x1408 .bf16) (x4 : Vec F S512x1024 .f32)
    (d5 : Vec F S512x1024 .f32) (d6 : Vec F S1x1024x1408 .f32) (d7 : Vec F S1x1024 .f32) (H : Vec F S2048x1024 .f32) (G : Vec F S1x1024 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare d5
        ∗ owns (c : Thread nD τ) arg8 fullShare d6 ∗ owns (c : Thread nD τ) arg9 fullShare d7
        ∗ owns (c : Thread nD τ) arg10 fullShare H ∗ owns (c : Thread nD τ) arg11 fullShare G
        ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4
          ∗ owns (c : Thread nD τ) arg7 fullShare (if 12 ≤ t.val then k0_pay6 (k0_pay7 x1) (k0_pay9 x0) (k0_pay10 x0) (rows t x2 x3 H) x4 else d5)
          ∗ owns (c : Thread nD τ) arg8 fullShare (weight t x0 x1 x2 d6)
          ∗ owns (c : Thread nD τ) arg9 fullShare (if 12 ≤ t.val ∧ t.val % 4 = 3 then gain t x0 (rows t x2 x3 H) G else d7)
          ∗ owns (c : Thread nD τ) arg10 fullShare (VecWindow.put H (off t) S512x1024.size (rows t x2 x3 H))
          ∗ owns (c : Thread nD τ) arg11 fullShare (gain t x0 (rows t x2 x3 H) G)) -∗ K ⟨⟩))
      ⊢ wp frame (wpE (defs₀ (F := F)) Variants.none c none) E
          (cc0_ffn_up_bwd (grid0.coords t) arg2 harg2 arg3 harg3 arg4 harg4 arg5 harg5 arg6 harg6 arg7 harg7 arg8 harg8 arg9 harg9 arg10 harg10 arg11 harg11) K := by
  have hN : t.val < 16 := t.isLt
  obtain ⟨c1, c2, c3, c4, c5, c8, c6, c7⟩ := conds t
  obtain ⟨o1, o2, o3⟩ := off_eq t
  simp only [cc0_ffn_up_bwd_eq_skeleton]; unfold cc0_ffn_up_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9
  have hk : t.val < 4 ∨ ¬ t.val < 4 ∧ ¬ 12 ≤ t.val ∨ ¬ t.val < 4 ∧ 12 ≤ t.val := by omega
  have hj : t.val % 4 = 0 ∧ ¬ t.val % 4 = 3 ∨ ¬ t.val % 4 = 0 ∧ ¬ t.val % 4 = 3 ∨ ¬ t.val % 4 = 0 ∧ t.val % 4 = 3 := by omega
  rcases hk with hk | ⟨hk, hl⟩ | ⟨hk, hl⟩ <;> rcases hj with ⟨hj, hm⟩ | ⟨hj, hm⟩ | ⟨hj, hm⟩
  all_goals
    (try (have hl : ¬ 12 ≤ t.val := by omega))
    simp only [hk, hj, hl, hm, OfNat.ofNat_ne_zero, OfNat.zero_ne_ofNat, iff_true, iff_false, not_true, not_false_iff] at c1 c2 c3 c4 c5 c6 c7 c8
    sl_exec (disch := first | sl_exact c1 | sl_exact c2 | sl_exact c3 | sl_exact c4 | sl_exact c5 | sl_exact c8 | sl_exact c6 | sl_exact c7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr
      swap; · iexact H5
      ipureintro
      sl_unfold_run_names
      simp only [rows, weight, gain, hk, hj, hl, hm, if_true, if_false, _root_.true_and, _root_.and_true, _root_.false_and, _root_.and_false, not_true, not_false_iff, OfNat.ofNat_ne_zero, OfNat.zero_ne_ofNat, Cert.Loads.load2, Cert.Loads.load3, Cert.Loads.store2, Cert.Loads.store3, Cert.Loads.reload2, Cert.Loads.loadBand (s := S2048x1024) harg10 H _ o2 (off_inb t), Cert.Loads.storeBand (s := S2048x1024) harg10 H _ _ o1, Cert.Loads.storeBand (s := S2048x1024) harg10 H _ _ o2, Cert.Loads.reloadBand (s := S2048x1024) arg10.view _ _ _ (o2.trans o3.symm), harg7.read_unread, harg9.read_unread, harg11.read_unread]
    isplitl [H6]
    · iexists _; isplitr
      swap; · iexact H6
      ipureintro
      sl_unfold_run_names
      simp only [rows, weight, gain, hk, hj, hl, hm, if_true, if_false, _root_.true_and, _root_.and_true, _root_.false_and, _root_.and_false, not_true, not_false_iff, OfNat.ofNat_ne_zero, OfNat.zero_ne_ofNat, Cert.Loads.load2, Cert.Loads.load3, Cert.Loads.store2, Cert.Loads.store3, Cert.Loads.reload2, Cert.Loads.loadBand (s := S2048x1024) harg10 H _ o2 (off_inb t), Cert.Loads.storeBand (s := S2048x1024) harg10 H _ _ o1, Cert.Loads.storeBand (s := S2048x1024) harg10 H _ _ o2, Cert.Loads.reloadBand (s := S2048x1024) arg10.view _ _ _ (o2.trans o3.symm), harg7.read_unread, harg9.read_unread, harg11.read_unread]
    isplitl [H7]
    · iexists _; isplitr
      swap; · iexact H7
      ipureintro
      sl_unfold_run_names
      simp only [rows, weight, gain, hk, hj, hl, hm, if_true, if_false, _root_.true_and, _root_.and_true, _root_.false_and, _root_.and_false, not_true, not_false_iff, OfNat.ofNat_ne_zero, OfNat.zero_ne_ofNat, Cert.Loads.load2, Cert.Loads.load3, Cert.Loads.store2, Cert.Loads.store3, Cert.Loads.reload2, Cert.Loads.loadBand (s := S2048x1024) harg10 H _ o2 (off_inb t), Cert.Loads.storeBand (s := S2048x1024) harg10 H _ _ o1, Cert.Loads.storeBand (s := S2048x1024) harg10 H _ _ o2, Cert.Loads.reloadBand (s := S2048x1024) arg10.view _ _ _ (o2.trans o3.symm), harg7.read_unread, harg9.read_unread, harg11.read_unread]
    isplitl [H8]
    · iexists _; isplitr
      swap; · iexact H8
      ipureintro
      sl_unfold_run_names
      simp only [rows, weight, gain, hk, hj, hl, hm, if_true, if_false, _root_.true_and, _root_.and_true, _root_.false_and, _root_.and_false, not_true, not_false_iff, OfNat.ofNat_ne_zero, OfNat.zero_ne_ofNat, Cert.Loads.load2, Cert.Loads.load3, Cert.Loads.store2, Cert.Loads.store3, Cert.Loads.reload2, Cert.Loads.loadBand (s := S2048x1024) harg10 H _ o2 (off_inb t), Cert.Loads.storeBand (s := S2048x1024) harg10 H _ _ o1, Cert.Loads.storeBand (s := S2048x1024) harg10 H _ _ o2, Cert.Loads.reloadBand (s := S2048x1024) arg10.view _ _ _ (o2.trans o3.symm), harg7.read_unread, harg9.read_unread, harg11.read_unread]
    iexists _; isplitr
    swap; · iexact H9
    ipureintro
    sl_unfold_run_names
    simp only [rows, weight, gain, hk, hj, hl, hm, if_true, if_false, _root_.true_and, _root_.and_true, _root_.false_and, _root_.and_false, not_true, not_false_iff, OfNat.ofNat_ne_zero, OfNat.zero_ne_ofNat, Cert.Loads.load2, Cert.Loads.load3, Cert.Loads.store2, Cert.Loads.store3, Cert.Loads.reload2, Cert.Loads.loadBand (s := S2048x1024) harg10 H _ o2 (off_inb t), Cert.Loads.storeBand (s := S2048x1024) harg10 H _ _ o1, Cert.Loads.storeBand (s := S2048x1024) harg10 H _ _ o2, Cert.Loads.reloadBand (s := S2048x1024) arg10.view _ _ _ (o2.trans o3.symm), harg7.read_unread, harg9.read_unread, harg11.read_unread]

end Cert.NormFfnBwdIdeal.Body

end
-- ==== Proof.FfnRun.lean ====
/-
  The whole run of the kernel that undoes a norm and the projection after it.  Sixteen points, four rounds over the
  columns of the projection and in each round the four blocks of tokens: the gradient at the norm's result is summed over
  the rounds in a buffer of the core, each point touching the rows of its own block; the weight's gradient is summed over
  the blocks in the output's buffer; the gain's gradient is summed over the blocks of the last round in a second buffer.
-/
module

public import proofs.«01_k».proof.Proof.FfnBody
public import Idealize.ShloMosaic.Lib.Claim

@[expose] public section

set_option maxRecDepth 16384

noncomputable section

namespace Cert.NormFfnBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.NormFfnBwdIdeal Cert.NormFfnBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point of a number. -/
def pt (n : ℕ) : Fin cfg0.N := ⟨n % 16, lt_of_lt_of_eq (Nat.mod_lt _ (by decide)) N_0.symm⟩

theorem pt_val (t : Fin cfg0.N) : pt t.val = t := Fin.ext (Nat.mod_eq_of_lt (lt_of_lt_of_eq t.isLt N_0))

/-! The blocks the points work on: tokens, gain, the incoming gradient, the weight, the gradient added to the result. -/
abbrev xb (c : Dev nD) (n : ℕ) : Vec F S512x1024 .f32 := iblk m c 0 (pt n)
abbrev gn (c : Dev nD) (n : ℕ) : Vec F S1x1024 .f32 := iblk m c 1 (pt n)
abbrev du (c : Dev nD) (n : ℕ) : Vec F S1x512x1408 .bf16 := iblk m c 2 (pt n)
abbrev wt (c : Dev nD) (n : ℕ) : Vec F S1x1024x1408 .bf16 := iblk m c 3 (pt n)
abbrev dr (c : Dev nD) (n : ℕ) : Vec F S512x1024 .f32 := iblk m c 4 (pt n)

/-- The gradient at the norm's result for the `j`th block of tokens, summed up to round `k`. -/
def nh (c : Dev nD) (j : ℕ) : ℕ → Vec F S512x1024 .f32
  | 0 => k0_pay13 (du m c (j)) (wt m c (j))
  | k + 1 => k0_pay14 (du m c (4 * (k + 1) + j)) (wt m c (4 * (k + 1) + j)) (nh c j k)

/-- The weight's gradient for the columns of round `k`, summed up to the `j`th block of tokens. -/
def dw (c : Dev nD) (k : ℕ) : ℕ → Vec F S1x1024x1408 .f32
  | 0 => k0_pay1 (k0_pay15 (gn m c (4 * k)) (xb m c (4 * k)) (du m c (4 * k)))
  | j + 1 => k0_pay2 (k0_pay15 (gn m c (4 * k + (j + 1))) (xb m c (4 * k + (j + 1))) (du m c (4 * k + (j + 1)))) (dw c k j)

/-- The gain's gradient summed up to the `j`th block of tokens. -/
def dgv (c : Dev nD) : ℕ → Vec F S1x1024 .f32
  | 0 => k0_pay4 (k0_pay10 (xb m c 12)) (nh m c 0 3)
  | j + 1 => k0_pay5 (k0_pay10 (xb m c (12 + (j + 1)))) (nh m c (j + 1) 3) (dgv c j)

/-- The gradient at the tokens a point of the last round stores. -/
def dxv (c : Dev nD) (n : ℕ) : Vec F S512x1024 .f32 :=
  k0_pay6 (k0_pay7 (gn m c n)) (k0_pay9 (xb m c n)) (k0_pay10 (xb m c n)) (nh m c (n % 4) 3) (dr m c n)

/-- The rows of the `j`th block of tokens. -/
abbrev band (j : ℕ) : Fin 2 → ℕ := ![512 * j, 0]

theorem band_inb (j : Fin 4) : ∀ a, band j.val a + S512x1024.size a ≤ S2048x1024.size a :=
  (by decide +kernel : ∀ j : Fin 4, ∀ a, band j.val a + S512x1024.size a ≤ S2048x1024.size a) j

/-- What the two carried buffers hold before point `n`: of each block of rows already met the sum up to its last round,
    and from the fourteenth point on the gain's gradient so far. -/
structure Inv (c : Dev nD) (n : ℕ) (H : Vec F S2048x1024 .f32) (G : Vec F S1x1024 .f32) : Prop where
  rows : ∀ j : Fin 4, j.val < n → VecWindow.window (s := S2048x1024) H (band j.val) S512x1024.size (band_inb j) = nh m c j.val ((n - 1 - j.val) / 4)
  gain : 13 ≤ n → G = dgv m c (n - 13)

theorem rows_eq (c : Dev nD) (t : Fin cfg0.N) (H : Vec F S2048x1024 .f32) (G : Vec F S1x1024 .f32) (h : Inv m c t.val H G) :
    rows t (iblk m c 2 t) (iblk m c 3 t) H = nh m c (t.val % 4) (t.val / 4) := by
  have hN : t.val < 16 := lt_of_lt_of_eq t.isLt N_0
  unfold rows
  by_cases hk : t.val < 4
  · rw [if_pos hk, Nat.div_eq_of_lt hk, Nat.mod_eq_of_lt hk]
    unfold nh du wt; rw [pt_val]
  · rw [if_neg hk]
    have hr := h.rows ⟨t.val % 4, Nat.mod_lt _ (by decide)⟩ (show t.val % 4 < t.val by omega)
    obtain ⟨k, hk'⟩ : ∃ k, t.val / 4 = k + 1 := ⟨t.val / 4 - 1, by omega⟩
    rw [show (t.val - 1 - t.val % 4) / 4 = k from by omega] at hr
    rw [hk']
    have ht : 4 * (k + 1) + t.val % 4 = t.val := by omega
    unfold nh du wt; rw [ht, pt_val]
    exact congrArg _ hr

theorem gain_eq (c : Dev nD) (t : Fin cfg0.N) (H : Vec F S2048x1024 .f32) (G : Vec F S1x1024 .f32) (h : Inv m c t.val H G) (ht : 12 ≤ t.val) :
    gain t (iblk m c 0 t) (nh m c (t.val % 4) (t.val / 4)) G = dgv m c (t.val - 12) := by
  have hN : t.val < 16 := lt_of_lt_of_eq t.isLt N_0
  unfold gain
  rw [if_pos ht, show t.val / 4 = 3 from by omega]
  by_cases hj : t.val % 4 = 0
  · have h12 : 12 = t.val := by omega
    rw [if_pos hj, show t.val - 12 = 0 from by omega, hj]
    unfold dgv xb; rw [h12, pt_val]
  · obtain ⟨j, hj'⟩ : ∃ j, t.val - 12 = j + 1 := ⟨t.val - 13, by omega⟩
    have e : 12 + (j + 1) = t.val := by omega
    rw [if_neg hj, hj', show t.val % 4 = j + 1 from by omega, h.gain (by omega), show t.val - 13 = j from by omega]
    conv_rhs => unfold dgv xb
    rw [e, pt_val]

theorem inv_step (c : Dev nD) (t : Fin cfg0.N) (H : Vec F S2048x1024 .f32) (G : Vec F S1x1024 .f32) (h : Inv m c t.val H G) :
    Inv m c (t.val + 1) (VecWindow.put (s := S2048x1024) H (off t) S512x1024.size (nh m c (t.val % 4) (t.val / 4)))
      (gain t (iblk m c 0 t) (nh m c (t.val % 4) (t.val / 4)) G) := by
  have hN : t.val < 16 := lt_of_lt_of_eq t.isLt N_0
  refine ⟨fun j hj => ?_, fun hn => ?_⟩
  · by_cases he : j.val = t.val % 4
    · rw [show (t.val + 1 - 1 - j.val) / 4 = t.val / 4 from by omega]
      have key : ∀ (o : Fin 2 → ℕ) (inb : ∀ a, o a + S512x1024.size a ≤ S2048x1024.size a), o = off t →
          VecWindow.window (s := S2048x1024) (VecWindow.put (s := S2048x1024) H (off t) S512x1024.size (nh m c (t.val % 4) (t.val / 4))) o S512x1024.size inb
            = nh m c (t.val % 4) (t.val / 4) := by
        rintro o inb rfl
        exact VecWindow.window_put_same (s := S2048x1024) H (off t) S512x1024.size inb _
      refine (key _ _ (show ![512 * j.val, 0] = ![512 * (t.val % 4), 0] from by rw [he])).trans ?_
      exact congrArg (fun i => nh m c i (t.val / 4)) he.symm
    · rw [show (t.val + 1 - 1 - j.val) / 4 = (t.val - 1 - j.val) / 4 from by omega]
      rw [← h.rows j (by omega)]
      refine VecWindow.window_put_of_disjoint (s := S2048x1024) H (off t) S512x1024.size (band j.val) S512x1024.size (band_inb j) _ (0 : Fin 2) ?_
      show 512 * j.val + 512 ≤ 512 * (t.val % 4) ∨ 512 * (t.val % 4) + 512 ≤ 512 * j.val
      omega
  · rw [gain_eq m c t H G h (by omega), show t.val + 1 - 13 = t.val - 12 from by omega]

theorem weight_eq (c : Dev nD) (t : Fin cfg0.N) (d : Vec F S1x1024x1408 .f32) (h : t.val % 4 ≠ 0 → d = dw m c ((t.val - 1) / 4) ((t.val - 1) % 4)) :
    weight t (iblk m c 0 t) (iblk m c 1 t) (iblk m c 2 t) d = dw m c (t.val / 4) (t.val % 4) := by
  unfold weight
  by_cases hj : t.val % 4 = 0
  · have e : 4 * (t.val / 4) = t.val := by omega
    rw [if_pos hj, hj]
    unfold dw xb gn du; rw [e, pt_val]
  · obtain ⟨j, hj'⟩ : ∃ j, t.val % 4 = j + 1 := ⟨t.val % 4 - 1, by omega⟩
    have e : 4 * (t.val / 4) + (j + 1) = t.val := by omega
    rw [if_neg hj, h hj, hj', show (t.val - 1) / 4 = t.val / 4 from by omega, show (t.val - 1) % 4 = j from by omega]
    conv_rhs => unfold dw xb gn du
    rw [e, pt_val]

/-! ## The run -/

abbrev scH : Memref sig .tc .vmem S2048x1024 .f32 := Memref.whole cc0_scratch0
abbrev scG : Memref sig .tc .vmem S1x1024 .f32 := Memref.whole cc0_scratch1

/-- The core's own buffers before point `n`. -/
def Phi (c : Dev nD) (n : ℕ) : sProp 𝕄 :=
  iprop(∃ H G, ⌜Inv m c n H G⌝ ∗ owns (c : Thread nD τ) scH fullShare H ∗ owns (c : Thread nD τ) scG fullShare G ∗ (∃ r, prngReg c r))

theorem PhiA_eq (c : Dev nD) : (Pipeline.ΦA spec0 c : sProp 𝕄)
    = iprop(iprop((∃ d, owns (c : Thread nD τ) scH fullShare d) ∗ (∃ d, owns (c : Thread nD τ) scG fullShare d)) ∗ (∃ r, prngReg c r)) := by
  unfold Pipeline.ΦA; rw [scopedRest0_eq]; simp only [scH, scG, owns_whole]; try rfl

/-- Each buffer's contents after the body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dxv m c t.val
    | ⟨6, _⟩ => dw m c (t.val / 4) (t.val % 4)
    | ⟨7, _⟩ => dgv m c 3
  Φ t := Phi m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = dxv m c t.val := by dsimp only [dats]
theorem after0_6 (c : Dev nD) (t : Fin cfg0.N) : (dats m 0 c).after 6 t = dw m c (t.val / 4) (t.val % 4) := by dsimp only [dats]
theorem after0_7 (c : Dev nD) (t : Fin cfg0.N) : (dats m 0 c).after 7 t = dgv m c 3 := by dsimp only [dats]

theorem live : ∀ t : Fin cfg0.N, (cfg0.idle 5 (grid0.coords t) = !decide (12 ≤ t.val)) ∧ (cfg0.idle 6 (grid0.coords t) = false)
    ∧ (cfg0.idle 7 (grid0.coords t) = !decide (12 ≤ t.val ∧ t.val % 4 = 3)) ∧ ((cfg0.win 5).flush t = decide (12 ≤ t.val)) ∧ ((cfg0.win 7).flush t = decide (12 ≤ t.val ∧ t.val % 4 = 3)) := by
  decide +kernel

theorem live6 : ∀ i : grid0.Coords, cfg0.idle 6 i = false := by decide +kernel

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

/-- What an output's buffer may hold where its window is left alone, and holds where it is stored. -/
theorem leaves_of (c : Dev nD) (w : Fin cfg0.W) (t : Fin cfg0.N) (p : Bool) (hi : cfg0.idle w (grid0.coords t) = !p) (hf : (cfg0.win w).flush t = p) (d) :
    owns (c : Thread nD τ) ((cfg0.win w).stage (cfg0.slots t w)) fullShare (if p then (dats m 0 c).after w t else (dats m 0 c).before w t d)
      ⊢ (dats m 0 c).leavesExact w t := by
  cases p
  · rw [Dat.leavesExact_idle (dats m 0 c) w t hi hf]
    iintro H; iexists d; iexact H
  · unfold Dat.leavesExact; rw [hi]; exact .rfl

theorem leaves_live (c : Dev nD) (w : Fin cfg0.W) (t : Fin cfg0.N) (hi : cfg0.idle w (grid0.coords t) = false) :
    (dats m 0 c).leavesExact w t = owns (c : Thread nD τ) ((cfg0.win w).stage (cfg0.slots t w)) fullShare ((dats m 0 c).after w t) := by
  unfold Dat.leavesExact; rw [hi]

theorem before6 (c : Dev nD) (t : Fin cfg0.N) (ht : t.val % 4 ≠ 0) (d) : (dats m 0 c).before 6 t d = dw m c ((t.val - 1) / 4) ((t.val - 1) % 4) := by
  rw [Dat.before_out_kept (dats m 0 c) 6 rfl t (by omega) (by
    rw [Bool.eq_false_iff]; intro h
    have := (flush0_6 _).mp h
    have h2 : (t.val - 1) % 4 = 3 := this
    omega) live6 (fun _ _ => rfl), after0_6]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  obtain ⟨l5, l6, l7, f5, f7⟩ := live t
  have hN : t.val < 16 := lt_of_lt_of_eq t.isLt N_0
  unfold bodyPre bodyPost bodyAt0
  simp only [before0_0_of m (dats m 0 c) (A_eq m c 0) (after0_0 m c), before0_1_of m (dats m 0 c) (A_eq m c 1) (after0_1 m c),
    before0_2_of m (dats m 0 c) (A_eq m c 2) (after0_2 m c), before0_3_of m (dats m 0 c) (A_eq m c 3) (after0_3 m c),
    before0_4_of m (dats m 0 c) (A_eq m c 4) (after0_4 m c)]
  rw [show (dats m 0 c).owesAt () t.succ = (dats m 0 c).owesAt () t.castSucc from rfl,
    show (dats m 0 c).Φ t.succ = Phi m c (t.val + 1) from rfl, show (dats m 0 c).Φ t.castSucc = Phi m c t.val from rfl]
  rw [leaves_live m c 0 t rfl, leaves_live m c 1 t rfl, leaves_live m c 2 t rfl, leaves_live m c 3 t rfl, leaves_live m c 4 t rfl,
    leaves_live m c 6 t l6, after0_0, after0_1, after0_2, after0_3, after0_4, after0_6]
  unfold Phi
  iintro ⟨⟨%H, %G, %hI, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hr := rows_eq m c t H G hI
  have hw := weight_eq m c t ((dats m 0 c).before 6 t d6) fun h => before6 m c t h d6
  have hx : (if 12 ≤ t.val then k0_pay6 (k0_pay7 (iblk m c 1 t)) (k0_pay9 (iblk m c 0 t)) (k0_pay10 (iblk m c 0 t)) (nh m c (t.val % 4) (t.val / 4)) (iblk m c 4 t) else (dats m 0 c).before 5 t d5)
      = if decide (12 ≤ t.val) = true then (dats m 0 c).after 5 t else (dats m 0 c).before 5 t d5 := by
    by_cases h : 12 ≤ t.val
    · rw [if_pos h, if_pos (decide_eq_true h), after0_5, show t.val / 4 = 3 from by omega]
      unfold dxv xb gn dr; rw [pt_val]
    · rw [if_neg h, if_neg (by rw [decide_eq_true_iff]; exact h)]
  have hg : (if 12 ≤ t.val ∧ t.val % 4 = 3 then gain t (iblk m c 0 t) (nh m c (t.val % 4) (t.val / 4)) G else (dats m 0 c).before 7 t d7)
      = if decide (12 ≤ t.val ∧ t.val % 4 = 3) = true then (dats m 0 c).after 7 t else (dats m 0 c).before 7 t d7 := by
    by_cases h : 12 ≤ t.val ∧ t.val % 4 = 3
    · rw [if_pos h, if_pos (decide_eq_true h), after0_7, gain_eq m c t H G hI h.1, show t.val - 12 = 3 from by omega]
    · rw [if_neg h, if_neg (by rw [decide_eq_true_iff]; exact h)]
  iapply (run c t _ _ _ _ _ _ _ _ _ _ _ _ _ _ _ _ _ _ _ _ (iblk m c 0 t) (iblk m c 1 t) (iblk m c 2 t) (iblk m c 3 t) (iblk m c 4 t)
    ((dats m 0 c).before 5 t d5) ((dats m 0 c).before 6 t d6) ((dats m 0 c).before 7 t d7) H G Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  rw [hr, hw, hx, hg]
  iintro ⟨H0, H1, H2, H3, H4, H5, H6, H7, HS0, HS1⟩
  isplitl [HS0 HS1 Hg]
  · iexists _; iexists _; isplitr
    · ipureintro; exact inv_step m c t H G hI
    isplitl [HS0]; · iexact HS0
    isplitl [HS1]; · iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iapply (leaves_of m c 5 t _ l5 f5 d5); iexact H5
  isplitl [H6]; · iexact H6
  iapply (leaves_of m c 7 t _ l7 f7 d7); iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, PhiA_eq]
  unfold Phi
  iintro ⟨⟨⟨%H, HS0⟩, ⟨%G, HS1⟩⟩, Hg⟩
  iexists H; iexists G; isplitr
  · ipureintro; exact ⟨fun j h => absurd h (Nat.not_lt_zero _), fun h => absurd h (by decide)⟩
  isplitl [HS0]; · iexact HS0
  isplitl [HS1]; · iexact HS1
  iexact Hg

theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  iintro ⟨%H, %G, %hI, HS0, HS1, Hg⟩
  isplitl [HS0 HS1]
  · isplitl [HS0]; · iexists _; iexact HS0
    iexists _; iexact HS1
  iexact Hg

set_option backward.isDefEq.respectTransparency.types false in
/-- The whole program runs, and ends with every array at what the points left in its blocks and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- It leaves its arguments as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.NormFfnBwdIdeal.Body

end
-- ==== Proof.NormMath.lean ====
/-
  The arithmetic of undoing a norm and the projection after it, over rows of extended reals: shared by the two calls of
  the step that do so.
-/
module

public import proofs.«01_k».proof.Proof.Rms
public import Idealize.ShloMosaic.Lib.Pipeline.ValueKit
public import Idealize.ShloMosaic.Lib.Pointwise

@[expose] public section

noncomputable section

open Idealize.ShloMosaic

namespace Cert.NormMath

open Cert.Rms (W E)

/-- A row's entry brought to unit mean square. -/
def nrm (x : Fin 1024 → EReal) (j : Fin 1024) : EReal := x j * Rms.rinv W E x

/-- The gradient at a row, where `h` is the gradient at the normed row after the gain `g`, as the kernel writes it. -/
def back (x g h : Fin 1024 → EReal) (j : Fin 1024) : EReal :=
  Rms.rinv W E x * (h j * g j - nrm x j * Ideal.div (∑ k, h k * g k * nrm x k) W)

/-- The product of two rows. -/
def dot {N : ℕ} (d w : Fin N → EReal) : EReal := ∑ q, d q * w q

/-- One entry of the projection of a row brought to unit mean square and scaled by the gain. -/
def proj (x g w : Fin 1024 → EReal) : EReal := ∑ k, nrm x k * g k * w k

/-- Adding the derivative's three terms one after another to `e` is adding `back` to it. -/
theorem add_back (x g h : Fin 1024 → EReal) (e : EReal) (j : Fin 1024) :
    e + h j * g j * Rms.rinv W E x
        + x j * Ideal.div ((∑ k, x k * (h k * g k)) * (Ideal.div (Rms.rinv W E x) (Ideal.div (∑ k, x k * x k) W + E) * ((-(1 / 2) : ℝ) : EReal))) W
        + Ideal.div ((∑ k, x k * (h k * g k)) * (Ideal.div (Rms.rinv W E x) (Ideal.div (∑ k, x k * x k) W + E) * ((-(1 / 2) : ℝ) : EReal))) W * x j
      = e + back x g h j := by
  rw [add_assoc, add_assoc]
  refine congrArg (e + ·) ?_
  rw [← add_assoc]
  exact Rms.row_grad_const x (fun k => h k * g k) j

/-- Four parts, each a sum over `n` columns, added one after another are the sum over all. -/
theorem four {n N : ℕ} (hN : N = 4 * n) (f : Fin N → EReal) (t : ℕ → EReal)
    (ht : ∀ s : Fin 4, t s.val = ∑ q : Fin n, f ⟨s.val * n + q.val, by have := s.isLt; have := q.isLt; subst hN; nlinarith⟩) :
    t 0 + t 1 + t 2 + t 3 = ∑ q, f q := by
  subst hN
  have h : ∑ s : Fin 4, t s.val = ∑ q, f q :=
    (Finset.sum_congr rfl fun s _ => ht s).trans (Fin.sum_mul_add_congr (S := 4) (n := n) (fun s k hl => rfl))
  rw [← h, Fin.sum_univ_four]; rfl

end Cert.NormMath

end
-- ==== Proof.FfnValue.lean ====
/-
  The same kernel's three results, written at one place of each array: the sums its points make, block by block, are the
  sums over all columns and over all tokens.
-/
module

public import proofs.«01_k».proof.Proof.FfnRun
public import proofs.«01_k».proof.Proof.NormMath
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NormFfnBwdIdeal.Value

open Cert.NormFfnBwdIdeal Cert.NormFfnBwdIdeal.Gen Cert.NormFfnBwdIdeal.Body
open Cert.Rms (W E)
open Cert.NormMath (nrm back dot)

variable (m : (ℓ : Loc nD τ sig) → Buf (Elt Ideal) ℓ)

theorem idx : ∀ t : Fin cfg0.N, win0_0.index t = ![t.val % 4, 0] ∧ win0_1.index t = ![0, 0] ∧ win0_2.index t = ![t.val / 4 / 2, t.val % 4, t.val / 4 % 2] ∧ win0_3.index t = ![t.val / 4, 0, 0] ∧ win0_6.index t = ![t.val / 4, 0, 0] ∧ win0_7.index t = ![0, 0] :=
  (by decide +kernel : ∀ t : Fin grid0.N, _)

theorem idx_late : ∀ t : Fin cfg0.N, 12 ≤ t.val → win0_4.index t = ![t.val % 4, 0] ∧ win0_5.index t = ![t.val % 4, 0] :=
  (by decide +kernel : ∀ t : Fin grid0.N, 12 ≤ t.val → _)

/-- Rows of the arguments: tokens, gain, the weight's row for one lane, the incoming gradient, the gradient to add. -/
abbrev xrow (c : Dev nD) (i : Fin 2048) : Fin 1024 → EReal := fun k => m ((c.tc : Thread nD τ).loc main_arg0) (ix3 0 i k)
abbrev grow (c : Dev nD) : Fin 1024 → EReal := fun k => m ((c.tc : Thread nD τ).loc main_arg1) (ix1 k)
abbrev wrow (c : Dev nD) (j : Fin 1024) : Fin 5632 → EReal := fun q => m ((c.tc : Thread nD τ).loc main_arg2) (ix2 j q)
abbrev drow (c : Dev nD) (i : Fin 2048) : Fin 5632 → EReal := fun q => m ((c.tc : Thread nD τ).loc main_arg3) (ix3 0 i q)
abbrev erow (c : Dev nD) (i : Fin 2048) : Fin 1024 → EReal := fun k => m ((c.tc : Thread nD τ).loc main_arg4) (ix3 0 i k)

/-! ## One point's terms -/

variable (x0 x4 h : Vec Ideal S512x1024 .f32) (x1 v : Vec Ideal S1x1024 .f32) (x2 : Vec Ideal S1x512x1408 .bf16) (x3 : Vec Ideal S1x1024x1408 .bf16)
  (d : Vec Ideal S1x1024x1408 .f32)

theorem inv_apply (p : Fin 512) : k0_pay9 x0 (ix2 p 0) = Rms.rinv W E (fun k => x0 (ix2 p k)) := by
  pointwise [k0_pay9, k0_pay8]
  rfl

theorem nrm_apply (p : Fin 512) (j : Fin 1024) : k0_pay10 x0 (ix2 p j) = nrm (fun k => x0 (ix2 p k)) j := by
  pointwise [k0_pay10, k0_pay8, inv_apply]
  rfl

theorem prod_apply (p : Fin 512) (j : Fin 1024) :
    k0_pay13 x2 x3 (ix2 p j) = dot (fun q : Fin 1408 => x2 (ix3 0 p q)) (fun q => x3 (ix3 0 j q)) := by
  pointwise [k0_pay13, k0_pay12, k0_pay11]
  rfl

theorem prod_add (p : Fin 512) (j : Fin 1024) :
    k0_pay14 x2 x3 h (ix2 p j) = h (ix2 p j) + dot (fun q : Fin 1408 => x2 (ix3 0 p q)) (fun q => x3 (ix3 0 j q)) := by
  pointwise [k0_pay14, k0_pay12, k0_pay11]
  rfl

theorem outer_apply (j : Fin 1024) (q : Fin 1408) :
    k0_pay1 (k0_pay15 x1 x0 x2) (ix3 0 j q) = ∑ p : Fin 512, nrm (fun k => x0 (ix2 p k)) j * x1 (ix2 0 j) * x2 (ix3 0 p q) := by
  pointwise [k0_pay1, k0_pay15, k0_pay11, k0_pay7, nrm_apply]

theorem outer_add (j : Fin 1024) (q : Fin 1408) :
    k0_pay2 (k0_pay15 x1 x0 x2) d (ix3 0 j q) = d (ix3 0 j q) + ∑ p : Fin 512, nrm (fun k => x0 (ix2 p k)) j * x1 (ix2 0 j) * x2 (ix3 0 p q) := by
  pointwise [k0_pay1, k0_pay15, k0_pay11, k0_pay2, k0_pay7, nrm_apply]

theorem gain_apply (j : Fin 1024) :
    k0_pay4 (k0_pay10 x0) h (ix2 0 j) = ∑ p : Fin 512, h (ix2 p j) * nrm (fun k => x0 (ix2 p k)) j := by
  pointwise [k0_pay4, k0_pay3, nrm_apply]

theorem gain_add (j : Fin 1024) :
    k0_pay5 (k0_pay10 x0) h v (ix2 0 j) = v (ix2 0 j) + ∑ p : Fin 512, h (ix2 p j) * nrm (fun k => x0 (ix2 p k)) j := by
  pointwise [k0_pay5, k0_pay3, nrm_apply]

theorem back_apply (p : Fin 512) (j : Fin 1024) :
    k0_pay6 (k0_pay7 x1) (k0_pay9 x0) (k0_pay10 x0) h x4 (ix2 p j)
      = x4 (ix2 p j) + back (fun k => x0 (ix2 p k)) (fun k => x1 (ix2 0 k)) (fun k => h (ix2 p k)) j := by
  pointwise [k0_pay6, k0_pay7, inv_apply, nrm_apply]
  rfl

/-! ## The blocks, as rows of the arguments -/

section

variable (c : Dev nD) (t : Fin cfg0.N)

theorem x_blk (p : Fin 512) (k : Fin 1024) (hp : t.val % 4 * 512 + p.val < 2048) : iblk m c 0 t (ix2 p k) = xrow m c ⟨t.val % 4 * 512 + p.val, hp⟩ k := by
  blk_point [iblk, V, idx t]

theorem g_blk (k : Fin 1024) : iblk m c 1 t (ix2 0 k) = grow m c k := by
  blk_point [iblk, V, idx t]

theorem d_blk (p : Fin 512) (q : Fin 1408) (hp : t.val % 4 * 512 + p.val < 2048) (hq : t.val / 4 * 1408 + q.val < 5632) :
    iblk m c 2 t (ix3 0 p q) = drow m c ⟨t.val % 4 * 512 + p.val, hp⟩ ⟨t.val / 4 * 1408 + q.val, hq⟩ := by
  have hN : t.val < 16 := lt_of_lt_of_eq t.isLt N_0
  blk_point [iblk, V, idx t]

theorem w_blk (j : Fin 1024) (q : Fin 1408) (hq : t.val / 4 * 1408 + q.val < 5632) : iblk m c 3 t (ix3 0 j q) = wrow m c j ⟨t.val / 4 * 1408 + q.val, hq⟩ := by
  have hN : t.val < 16 := lt_of_lt_of_eq t.isLt N_0
  blk_point [iblk, V, idx t]

theorem e_blk (p : Fin 512) (k : Fin 1024) (hp : t.val % 4 * 512 + p.val < 2048) (ht : 12 ≤ t.val) : iblk m c 4 t (ix2 p k) = erow m c ⟨t.val % 4 * 512 + p.val, hp⟩ k := by
  have hN : t.val < 16 := lt_of_lt_of_eq t.isLt N_0
  blk_point [iblk, V, idx_late t ht]

end

theorem pt_at (k i : Fin 4) : (pt (4 * k.val + i.val)).val % 4 = i.val ∧ (pt (4 * k.val + i.val)).val / 4 = k.val := by
  have h : (pt (4 * k.val + i.val)).val = 4 * k.val + i.val := Nat.mod_eq_of_lt (by omega)
  rw [h]; omega

/-- Token `p` of block `i`, and column `q` of round `k`. -/
abbrev tok (i : Fin 4) (p : Fin 512) : Fin 2048 := ⟨i.val * 512 + p.val, by omega⟩
abbrev col (k : Fin 4) (q : Fin 1408) : Fin 5632 := ⟨k.val * 1408 + q.val, by omega⟩

variable (c : Dev nD) (k i : Fin 4)

theorem xb_at (p : Fin 512) : (fun l => xb m c (4 * k.val + i.val) (ix2 p l)) = xrow m c (tok i p) := by
  funext l
  rw [xb, x_blk m c _ p l (by have := (pt_at k i).1; omega)]
  simp only [(pt_at k i).1]

theorem gn_at : (fun l => gn m c (4 * k.val + i.val) (ix2 0 l)) = grow m c := by
  funext l; exact g_blk m c _ l

theorem du_at (p : Fin 512) (q : Fin 1408) : du m c (4 * k.val + i.val) (ix3 0 p q) = drow m c (tok i p) (col k q) := by
  rw [du, d_blk m c _ p q (by have := (pt_at k i).1; omega) (by have := (pt_at k i).2; omega)]
  simp only [(pt_at k i).1, (pt_at k i).2]

theorem wt_at (j : Fin 1024) (q : Fin 1408) : wt m c (4 * k.val + i.val) (ix3 0 j q) = wrow m c j (col k q) := by
  rw [wt, w_blk m c _ j q (by have := (pt_at k i).2; omega)]
  simp only [(pt_at k i).2]

theorem dr_at (p : Fin 512) (l : Fin 1024) : dr m c (4 * 3 + i.val) (ix2 p l) = erow m c (tok i p) l := by
  have h := pt_at 3 i
  rw [dr, e_blk m c _ p l (by have := h.1; omega) (by have h2 : (pt (4 * 3 + i.val)).val / 4 = 3 := h.2; omega)]
  exact congrArg (fun z => m ((c.tc : Thread nD τ).loc main_arg4) (ix3 0 z l)) (Fin.ext (congrArg (fun z => z * 512 + p.val) h.1))

/-! ## The sums -/

/-- The gradient at the normed row of a token. -/
abbrev hrow (i : Fin 2048) : Fin 1024 → EReal := fun j => dot (drow m c i) (wrow m c j)

theorem nh_total (p : Fin 512) (j : Fin 1024) : nh m c i.val 3 (ix2 p j) = hrow m c (tok i p) j := by
  have e : ∀ k : Fin 4, dot (fun q : Fin 1408 => du m c (4 * k.val + i.val) (ix3 0 p q)) (fun q => wt m c (4 * k.val + i.val) (ix3 0 j q))
      = ∑ q : Fin 1408, drow m c (tok i p) (col k q) * wrow m c j (col k q) := fun k => by
    unfold dot; simp only [du_at, wt_at]
  have e0 : nh m c i.val 0 (ix2 p j) = dot (fun q : Fin 1408 => du m c (4 * 0 + i.val) (ix3 0 p q)) (fun q => wt m c (4 * 0 + i.val) (ix3 0 j q)) := by
    rw [show 4 * 0 + i.val = i.val from by omega]; exact prod_apply _ _ p j
  have es : ∀ k, nh m c i.val (k + 1) (ix2 p j) = nh m c i.val k (ix2 p j)
      + dot (fun q : Fin 1408 => du m c (4 * (k + 1) + i.val) (ix3 0 p q)) (fun q => wt m c (4 * (k + 1) + i.val) (ix3 0 j q)) :=
    fun k => prod_add _ _ _ p j
  rw [es 2, es 1, es 0, e0]
  exact NormMath.four (n := 1408) rfl (fun q => drow m c (tok i p) q * wrow m c j q)
    (fun k => dot (fun q : Fin 1408 => du m c (4 * k + i.val) (ix3 0 p q)) (fun q => wt m c (4 * k + i.val) (ix3 0 j q))) e

theorem dw_total (j : Fin 1024) (q : Fin 1408) :
    dw m c k.val 3 (ix3 0 j q) = ∑ a : Fin 2048, nrm (xrow m c a) j * grow m c j * drow m c a (col k q) := by
  let T : ℕ → EReal := fun i => ∑ p : Fin 512, nrm (fun l => xb m c (4 * k.val + i) (ix2 p l)) j * gn m c (4 * k.val + i) (ix2 0 j)
    * du m c (4 * k.val + i) (ix3 0 p q)
  have e : ∀ i : Fin 4, T i.val = ∑ p : Fin 512, nrm (xrow m c (tok i p)) j * grow m c j * drow m c (tok i p) (col k q) := fun i => by
    refine Finset.sum_congr rfl fun p _ => ?_
    rw [xb_at, du_at]
    exact congrArg (fun z => _ * z * _) (congrFun (gn_at m c k i) j)
  have e0 : dw m c k.val 0 (ix3 0 j q) = T 0 := outer_apply _ _ _ j q
  have es : ∀ i, dw m c k.val (i + 1) (ix3 0 j q) = dw m c k.val i (ix3 0 j q) + T (i + 1) := fun i => outer_add _ _ _ _ j q
  rw [es 2, es 1, es 0, e0]
  exact NormMath.four (n := 512) rfl (fun a => nrm (xrow m c a) j * grow m c j * drow m c a (col k q)) T e

theorem dg_total (j : Fin 1024) : dgv m c 3 (ix2 0 j) = ∑ a : Fin 2048, hrow m c a j * nrm (xrow m c a) j := by
  let T : ℕ → EReal := fun i => ∑ p : Fin 512, (nh m c i 3 (ix2 p j) : EReal) * nrm (fun l => xb m c (12 + i) (ix2 p l)) j
  have e : ∀ i : Fin 4, T i.val = ∑ p : Fin 512, hrow m c (tok i p) j * nrm (xrow m c (tok i p)) j := fun i => by
    refine Finset.sum_congr rfl fun p _ => ?_
    rw [nh_total]
    exact congrArg (fun z => _ * nrm z j) (xb_at m c 3 i p)
  have e0 : dgv m c 0 (ix2 0 j) = T 0 := gain_apply _ _ j
  have es : ∀ i, dgv m c (i + 1) (ix2 0 j) = dgv m c i (ix2 0 j) + T (i + 1) := fun i => gain_add _ _ _ j
  rw [es 2, es 1, es 0, e0]
  exact NormMath.four (n := 512) rfl (fun a => hrow m c a j * nrm (xrow m c a) j) T e

theorem dx_total (p : Fin 512) (j : Fin 1024) :
    dxv m c (12 + i.val) (ix2 p j) = erow m c (tok i p) j + back (xrow m c (tok i p)) (grow m c) (hrow m c (tok i p)) j := by
  have h : (12 + i.val) % 4 = i.val := by omega
  refine (back_apply _ _ _ _ p j).trans ?_
  rw [h]
  have e1 : (fun l => nh m c i.val 3 (ix2 p l)) = hrow m c (tok i p) := funext fun l => nh_total m c i p l
  rw [e1]
  have e2 := xb_at m c 3 i p
  have e3 := gn_at m c 3 i
  have e4 := dr_at m c i p j
  exact congrArg₂ (· + ·) e4 (congrArg₂ (fun x g => back x g (hrow m c (tok i p)) j) e2 e3)

/-! ## The three arrays -/

def DX : Buf (Elt Ideal) ((c.tc : Thread nD τ).loc main_v9_0) := fun i =>
  show EReal from erow m c (i 0) (i 1) + back (xrow m c (i 0)) (grow m c) (hrow m c (i 0)) (i 1)
def DW : Buf (Elt Ideal) ((c.tc : Thread nD τ).loc main_v9_1) := fun i =>
  show EReal from ∑ a : Fin 2048, nrm (xrow m c a) (i 1) * grow m c (i 1) * drow m c a (col (i 0) (i 2))
def DG : Buf (Elt Ideal) ((c.tc : Thread nD τ).loc main_v9_2) := fun i =>
  show EReal from ∑ a : Fin 2048, hrow m c a (i 1) * nrm (xrow m c a) (i 1)

theorem dx_place (t : Fin cfg0.N) (ht : 12 ≤ t.val) (p : Fin 512) (j : Fin 1024) (h : t.val % 4 * 512 + p.val < 2048) :
    (ix2 ⟨t.val % 4 * 512 + p.val, h⟩ j : S2048x1024.Idx) = ((View.whole main_v9_0).slice (win0_5.rect t)).emb (ix2 p j) := by
  have hN : t.val < 16 := lt_of_lt_of_eq t.isLt N_0
  blk_ext [idx_late t ht]

theorem dw_place (t : Fin cfg0.N) (j : Fin 1024) (q : Fin 1408) (h : t.val / 4 < 4) :
    (ix3 ⟨t.val / 4, h⟩ j q : S4x1024x1408.Idx) = ((View.whole main_v9_1).slice (win0_6.rect t)).emb (ix3 0 j q) := by
  blk_ext [idx t]

theorem final_dx : (dats m 0 c).arrAt 5 cfg0.N = DX m c := by
  refine (dats m 0 c).arrAt_eq_of_covers 5 _ (by decide +kernel) fun t ht y => ?_
  have hN : t.val < 16 := lt_of_lt_of_eq t.isLt N_0
  have h12 : 12 ≤ t.val := of_decide_eq_true ((live t).2.2.2.1.symm.trans ht)
  blk_simp
  rw [after0_5]
  idx_vars y
  have key := dx_total m c ⟨t.val - 12, by omega⟩ y0 y1
  have e : 12 + (t.val - 12) = t.val := by omega
  simp only [e] at key
  refine (key.trans ?_ : _ = DX m c (((View.whole main_v9_0).slice (win0_5.rect t)).emb (ix2 y0 y1)))
  rw [← dx_place t h12 y0 y1 (by omega)]
  have e5 : tok ⟨t.val - 12, by omega⟩ y0 = ⟨t.val % 4 * 512 + y0.val, by omega⟩ := Fin.ext (by show (t.val - 12) * 512 + y0.val = t.val % 4 * 512 + y0.val; omega)
  rw [e5]; rfl

theorem final_dw : (dats m 0 c).arrAt 6 cfg0.N = DW m c := by
  refine (dats m 0 c).arrAt_eq_of_covers 6 _ (by decide +kernel) fun t ht y => ?_
  have hN : t.val < 16 := lt_of_lt_of_eq t.isLt N_0
  have h3 : t.val % 4 = 3 := (flush0_6 _).mp ht
  blk_simp
  rw [after0_6, h3]
  idx_vars y
  obtain rfl : y0 = 0 := Subsingleton.elim _ _
  refine (dw_total m c ⟨t.val / 4, by omega⟩ y1 y2).trans (?_ : _ = DW m c (((View.whole main_v9_1).slice (win0_6.rect t)).emb (ix3 0 y1 y2)))
  rw [← dw_place t y1 y2 (by omega)]
  rfl

abbrev last : Fin cfg0.N := ⟨15, by decide +kernel⟩

theorem final_dg : (dats m 0 c).arrAt 7 cfg0.N = DG m c := by
  refine (dats m 0 c).arrAt_eq_of_after_last 7 last (by decide +kernel) _ fun j => ?_
  blk_simp
  rw [after0_7]
  idx_vars j
  obtain rfl : j0 = 0 := Subsingleton.elim _ _
  exact dg_total m c j1

/-- The run: the three results named by what the points leave, the arguments as they were. -/
theorem run_arrays (ρ : Dev nD → PrngReg) : θ_run defs (onTc (τ := τ) (main (F := Ideal))) ⟨m, fun _ => 0, ρ⟩ fun r => ∀ c : Dev nD,
      r.2.mem ((c : Thread nD τ).loc main_v9_0) = DX m c
      ∧ r.2.mem ((c : Thread nD τ).loc main_v9_1) = DW m c
      ∧ r.2.mem ((c : Thread nD τ).loc main_v9_2) = DG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.2 c).1 5).trans (final_dx m c), ((h.2 c).1 6).trans (final_dw m c), ((h.2 c).1 7).trans (final_dg m c), h.1.1 c⟩)
    (θ_run_and (frame m ρ) (run_main m ρ))

end Cert.NormFfnBwdIdeal.Value

end
-- ==== Proof.FfnRef.lean ====
/-
  The derivative of the norm and the projection, as the problem's own lines give it, read at one place of each result.
-/
module

public import proofs.«01_k».proof.Proof.NormMath
public import proofs.«01_k».proof.Proof.Gen.NormFfnBwdRefIdeal.Run
public import proofs.«01_k».proof.Proof.Gen.NormFfnBwdRefIdeal.Read

@[expose] public section

set_option maxRecDepth 16384

noncomputable section

open Idealize.ShloMosaic Idealize.ShloMosaic.TcCoe Idealize.SL.Sem

namespace Cert.NormFfnBwdRefIdeal.Value

open Cert.NormFfnBwdRefIdeal Cert.NormFfnBwdRefIdeal.Gen Cert.NormFfnBwdRefIdeal.Read
open Cert.Rms (W E)
open Cert.NormMath (nrm back dot)

variable (x e : (⟨S1x2048x1024, .f32⟩ : BufTy).Contents (Elt Ideal)) (g : (⟨S1024, .f32⟩ : BufTy).Contents (Elt Ideal))
  (w : (⟨S1024x5632, .f32⟩ : BufTy).Contents (Elt Ideal)) (d : (⟨S1x2048x5632, .f32⟩ : BufTy).Contents (Elt Ideal))

abbrev xr (i : Fin 2048) : Fin 1024 → EReal := fun k => x (ix3 0 i k)
abbrev gr : Fin 1024 → EReal := fun k => g (ix1 k)
/-- The gradient at the normed row of token `i`. -/
abbrev hr (i : Fin 2048) : Fin 1024 → EReal := fun j => dot (fun q => d (ix3 0 i q)) (fun q => w (ix2 j q))

theorem v6_at (i : Fin 2048) : val_main_v6 (F := Ideal) x (ix3 0 i 0) = Ideal.div (∑ k, xr x i k * xr x i k) W + E := by
  pointwise [val_main_v6, val_main_v5, val_main_v4, val_main_v3, val_main_v2, val_main_v1, val_main_v0, val_main_cst, val_main_cst_0, val_main_cst_1]

theorem v7_at (i : Fin 2048) : val_main_v7 (F := Ideal) x (ix3 0 i 0) = Rms.rinv W E (xr x i) := by
  pointwise [val_main_v7, v6_at]
  rfl

theorem v10_at (i : Fin 2048) : val_main_v10 (F := Ideal) x (ix3 0 i 0)
    = Ideal.div (Rms.rinv W E (xr x i)) (Ideal.div (∑ k, xr x i k * xr x i k) W + E) * ((-(1 / 2) : ℝ) : EReal) := by
  pointwise [val_main_v10, val_main_v9, val_main_v8, val_main_cst_2, v7_at, v6_at]
  rw [Rms.neg_half_eq, mul_comm]

theorem v12_at (i : Fin 2048) (j : Fin 1024) : val_main_v12 (F := Ideal) x (ix3 0 i j) = nrm (xr x i) j := by
  pointwise [val_main_v12, val_main_v11, v7_at]
  rfl

theorem v15_at (i : Fin 2048) (j : Fin 1024) : val_main_v15 (F := Ideal) x g (ix3 0 i j) = nrm (xr x i) j * gr g j := by
  pointwise [val_main_v15, val_main_v14, val_main_v13, v12_at]

theorem v19_at (i : Fin 2048) (j : Fin 1024) : val_main_v19 (F := Ideal) w d (ix3 0 i j) = hr w d i j := by
  pointwise [val_main_v19]
  rfl

theorem v24_at (i : Fin 2048) (j : Fin 1024) : val_main_v24 (F := Ideal) g w d (ix3 0 i j) = hr w d i j * gr g j := by
  pointwise [val_main_v24, val_main_v23, val_main_v13, v19_at]

theorem v34_at (i : Fin 2048) : val_main_v34 (F := Ideal) x g w d (ix3 0 i 0)
    = Ideal.div ((∑ k, xr x i k * (hr w d i k * gr g k)) * (Ideal.div (Rms.rinv W E (xr x i)) (Ideal.div (∑ k, xr x i k * xr x i k) W + E) * ((-(1 / 2) : ℝ) : EReal))) W := by
  pointwise [val_main_v34, val_main_v33, val_main_v32, val_main_v28, val_main_v27, val_main_v26, v24_at, v10_at, val_main_cst_5, val_main_cst_6]

theorem v35_at (i : Fin 2048) : val_main_v35 (F := Ideal) x g w d (ix1 i) = val_main_v34 (F := Ideal) x g w d (ix3 0 i 0) := by
  refine (Rms.reduce_d0_2 reducesTo_S1x2048x1_S2048_d0_2 (val_main_v34 (F := Ideal) x g w d) _ i).trans ?_
  pointwise [val_main_cst_7]

theorem v25_at (j : Fin 1024) : val_main_v25 (F := Ideal) x w d (ix1 j) = val_main_v22 (F := Ideal) x w d (ix3 0 0 j) := by
  refine (Rms.reduce_d0_1 reducesTo_S1x1x1024_S1024_d0_1 (val_main_v22 (F := Ideal) x w d) _ j).trans ?_
  pointwise [val_main_cst_4]

theorem v42_at (i : Fin 2048) (j : Fin 1024) : val_main_v42 (F := Ideal) x g w d e (ix2 i j) = e (ix3 0 i j) + back (xr x i) (gr g) (hr w d i) j := by
  pointwise [val_main_v42, val_main_v41, val_main_v40, val_main_v39, val_main_v38, val_main_v37, val_main_v36, val_main_v31, val_main_v30, val_main_v29, v35_at, v34_at, v24_at, v7_at]
  exact NormMath.add_back (xr x i) (gr g) (hr w d i) _ j

theorem v45_at (j : Fin 1024) : val_main_v45 (F := Ideal) x w d (ix2 0 j) = ∑ i : Fin 2048, hr w d i j * nrm (xr x i) j := by
  pointwise [val_main_v45, v25_at, val_main_v22, val_main_v21, val_main_v20, v12_at, v19_at, val_main_cst_3]
  exact Finset.sum_congr rfl fun i _ => mul_comm _ _

theorem v44_at (s : Fin 4) (j : Fin 1024) (q : Fin 1408) : val_main_v44 (F := Ideal) x g d (ix3 s j q)
    = ∑ i : Fin 2048, nrm (xr x i) j * gr g j * d (ix3 0 i ⟨s.val * 1408 + q.val, by omega⟩) := by
  pointwise [val_main_v44, val_main_v43, val_main_v18, val_main_v17, v15_at]
  rw [Finset.univ_unique, Finset.sum_singleton]
  exact Finset.sum_congr rfl fun i _ => (mul_comm _ _).trans (congrArg (· * _) (v15_at x g i j))

/-- The reference's run, its three results named by their last lines. -/
theorem run_vals (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v44) = val_main_v44 (F := Ideal) (m ((c.tc : Thread nD τ).loc main_arg0)) (m ((c.tc : Thread nD τ).loc main_arg1)) (m ((c.tc : Thread nD τ).loc main_arg3))
      ∧ r.2.mem ((c.tc : Thread nD τ).loc main_v45) = val_main_v45 (F := Ideal) (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (val_main_v42_eq m c), (h c).2.1.trans (val_main_v44_eq _ _ _),
      (h c).2.2.1.trans (val_main_v45_eq _ _ _), (h c).2.2.2⟩)
    (run m ρ)

end Cert.NormFfnBwdRefIdeal.Value

end
-- ==== Proof.FfnFrame.lean ====
/-
  The kernel that undoes a norm and the projection after it, as it is compiled: it runs to the end from any memory and
  leaves its arguments as they were.  Nothing is said here of what it stores; the module of its ideal reading says that.
-/
module

public import proofs.«01_k».proof.Proof.Gen.NormFfnBwd.Frame
public import proofs.«01_k».proof.Proof.Gen.NormFfnBwd.Skeleton
public import Idealize.ShloMosaic.Lib.Claim

@[expose] public section

set_option maxRecDepth 16384

noncomputable section

namespace Cert.NormFfnBwd.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.NormFfnBwd Cert.NormFfnBwd.Gen

variable {F : FTy → Type} [FloatOps F]

local notation "𝕄" => MT nD τ sig Unit (Elt F) ℕ (UR sig nD τ) ℕ

/-- The conditions of the branches at a point, and no two that exclude each other. -/
theorem conds : ∀ t : Fin grid0.N, (k0_cond1 (grid0.coords t) = 1#1 ↔ t.val < 4) ∧ (k0_cond2 (grid0.coords t) = 1#1 ↔ ¬ t.val < 4)
    ∧ (k0_cond3 (grid0.coords t) = 1#1 ↔ t.val % 4 = 0) ∧ (k0_cond4 (grid0.coords t) = 1#1 ↔ ¬ t.val % 4 = 0)
    ∧ (k0_cond5 (grid0.coords t) = 1#1 ↔ 12 ≤ t.val) ∧ (k0_cond8 (grid0.coords t) = 1#1 ↔ t.val % 4 = 3)
    ∧ (Scalar.cmpi .ne (Scalar.extui (Scalar.cmpi .eq (BitVec.ofNat 32 (grid0.coords t 1).val) 0#32)) 0#32 = 1#1 ↔ t.val % 4 = 0)
    ∧ (Scalar.cmpi .ne (Scalar.extui (Scalar.xori (Scalar.cmpi .eq (BitVec.ofNat 32 (grid0.coords t 1).val) 0#32) 1#1)) 0#32 = 1#1 ↔ ¬ t.val % 4 = 0) := by
  decide +kernel

set_option maxHeartbeats 4000000 in
theorem run (c : Dev nD) (t : Fin grid0.N)
    (arg2 : Memref sig .tc .vmem S512x1024 .f32) (harg2 : arg2.IsWhole) (arg3 : Memref sig .tc .vmem S1x1024 .f32) (harg3 : arg3.IsWhole)
    (arg4 : Memref sig .tc .vmem S1x512x1408 .bf16) (harg4 : arg4.IsWhole) (arg5 : Memref sig .tc .vmem S1x1024x1408 .bf16) (harg5 : arg5.IsWhole)
    (arg6 : Memref sig .tc .vmem S512x1024 .f32) (harg6 : arg6.IsWhole) (arg7 : Memref sig .tc .vmem S512x1024 .f32) (harg7 : arg7.IsWhole)
    (arg8 : Memref sig .tc .vmem S1x1024x1408 .f32) (harg8 : arg8.IsWhole) (arg9 : Memref sig .tc .vmem S1x1024 .f32) (harg9 : arg9.IsWhole)
    (arg10 : Memref sig .tc .vmem S2048x1024 .f32) (harg10 : arg10.IsWhole) (arg11 : Memref sig .tc .vmem S1x1024 .f32) (harg11 : arg11.IsWhole)
    (x0 : Vec F S512x1024 .f32) (x1 : Vec F S1x1024 .f32) (x2 : Vec F S1x512x1408 .bf16) (x3 : Vec F S1x1024x1408 .bf16) (x4 : Vec F S512x1024 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4 ∗ (∃ d, owns (c : Thread nD τ) arg7 fullShare d)
          ∗ (∃ d, owns (c : Thread nD τ) arg8 fullShare d) ∗ (∃ d, owns (c : Thread nD τ) arg9 fullShare d)
          ∗ (∃ d, owns (c : Thread nD τ) arg10 fullShare d) ∗ (∃ d, owns (c : Thread nD τ) arg11 fullShare d)) -∗ K ⟨⟩))
      ⊢ wp frame (wpE (defs₀ (F := F)) Variants.none c none) E
          (cc0_ffn_up_bwd (grid0.coords t) arg2 harg2 arg3 harg3 arg4 harg4 arg5 harg5 arg6 harg6 arg7 harg7 arg8 harg8 arg9 harg9 arg10 harg10 arg11 harg11) K := by
  have hN : t.val < 16 := t.isLt
  obtain ⟨c1, c2, c3, c4, c5, c8, c6, c7⟩ := conds t
  simp only [cc0_ffn_up_bwd_eq_skeleton]; unfold cc0_ffn_up_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9
  have hk : t.val < 4 ∨ ¬ t.val < 4 ∧ ¬ 12 ≤ t.val ∨ ¬ t.val < 4 ∧ 12 ≤ t.val := by omega
  have hj : t.val % 4 = 0 ∧ ¬ t.val % 4 = 3 ∨ ¬ t.val % 4 = 0 ∧ ¬ t.val % 4 = 3 ∨ ¬ t.val % 4 = 0 ∧ t.val % 4 = 3 := by omega
  rcases hk with hk | ⟨hk, hl⟩ | ⟨hk, hl⟩ <;> rcases hj with ⟨hj, hm⟩ | ⟨hj, hm⟩ | ⟨hj, hm⟩
  all_goals
    (try (have hl : ¬ 12 ≤ t.val := by omega))
    simp only [hk, hj, hl, hm, OfNat.ofNat_ne_zero, OfNat.zero_ne_ofNat, iff_true, iff_false, not_true, not_false_iff] at c1 c2 c3 c4 c5 c6 c7 c8
    sl_exec (disch := first | sl_exact c1 | sl_exact c2 | sl_exact c3 | sl_exact c4 | sl_exact c5 | sl_exact c8 | sl_exact c6 | sl_exact c7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexists _; isplitr; swap; iexact H5; ipureintro; rfl
    isplitl [H6]
    · iexists _; iexists _; isplitr; swap; iexact H6; ipureintro; rfl
    isplitl [H7]
    · iexists _; iexists _; isplitr; swap; iexact H7; ipureintro; rfl
    isplitl [H8]
    · iexists _; iexists _; isplitr; swap; iexact H8; ipureintro; rfl
    iexists _; iexists _; isplitr; swap; iexact H9; ipureintro; rfl

variable (m : (ℓ : Loc nD τ sig) → Buf (Elt F) ℓ) (ρ : Dev nD → PrngReg)

/-- The results, of which nothing is said. -/
def forgets0 : Fin 8 → Bool := fun w => decide (5 ≤ w.val)

/-- The blocks of the arguments stay in their buffers; of the core's own buffers nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

abbrev scH : Memref sig .tc .vmem S2048x1024 .f32 := Memref.whole cc0_scratch0
abbrev scG : Memref sig .tc .vmem S1x1024 .f32 := Memref.whole cc0_scratch1

theorem PhiA_eq (c : Dev nD) : (Pipeline.ΦA spec0 c : sProp 𝕄)
    = iprop(iprop((∃ d, owns (c : Thread nD τ) scH fullShare d) ∗ (∃ d, owns (c : Thread nD τ) scG fullShare d)) ∗ (∃ r, prngReg c r)) := by
  unfold Pipeline.ΦA; rw [scopedRest0_eq]; simp only [scH, scG, owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d)
    ∗ (∃ d, owns (c : Thread nD τ) (st0_6 t) fullShare d)
    ∗ (∃ d, owns (c : Thread nD τ) (st0_7 t) fullShare d))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t
    ∗ (∃ d, owns (c : Thread nD τ) (st0_5 t) fullShare d)
    ∗ (∃ d, owns (c : Thread nD τ) (st0_6 t) fullShare d)
    ∗ (∃ d, owns (c : Thread nD τ) (st0_7 t) fullShare d))

theorem leaves_live (c : Dev nD) (w : Fin cfg0.W) (t : Fin cfg0.N) (hi : cfg0.idle w (grid0.coords t) = false) :
    (dats m 0 c).leavesExact w t = owns (c : Thread nD τ) ((cfg0.win w).stage (cfg0.slots t w)) fullShare ((dats m 0 c).after w t) := by
  unfold Dat.leavesExact; rw [hi]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after0_0 m c), before0_1_of m (dats m 0 c) (A_eq m c 1) (after0_1 m c),
    before0_2_of m (dats m 0 c) (A_eq m c 2) (after0_2 m c), before0_3_of m (dats m 0 c) (A_eq m c 3) (after0_3 m c),
    before0_4_of m (dats m 0 c) (A_eq m c 4) (after0_4 m c)]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA_eq]
  rw [leaves_live m c 0 t rfl, leaves_live m c 1 t rfl, leaves_live m c 2 t rfl, leaves_live m c 3 t rfl, leaves_live m c 4 t rfl,
    after0_0, after0_1, after0_2, after0_3, after0_4]
  iintro ⟨⟨⟨HS0, HS1⟩, Hg⟩, Ho, ⟨%d0, H0⟩, ⟨%d1, H1⟩, ⟨%d2, H2⟩, ⟨%d3, H3⟩, ⟨%d4, H4⟩, H5, H6, H7⟩
  iapply (run c t _ _ _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ forgets0 := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- It leaves its arguments as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
      have k (b : Ref sig .tc) (hb : b ∈ Pipeline.restRefs sig (cfgs 0).spec) : r.2.mem ((c.tc : Thread nD τ).loc b) = V m c b := (h.1 c).2 b hb
      ⟨(k main_arg0 (Pipeline.mem_restRefs_of main_arg0 (by decide) (by decide))).trans (V_main_arg0 m c),
       (k main_arg1 (Pipeline.mem_restRefs_of main_arg1 (by decide) (by decide))).trans (V_main_arg1 m c),
       (k main_arg2 (Pipeline.mem_restRefs_of main_arg2 (by decide) (by decide))).trans (V_main_arg2 m c),
       (k main_arg3 (Pipeline.mem_restRefs_of main_arg3 (by decide) (by decide))).trans (V_main_arg3 m c),
       (k main_arg4 (Pipeline.mem_restRefs_of main_arg4 (by decide) (by decide))).trans (V_main_arg4 m c)⟩, h.2⟩) (run_main_quiescent m ρ)

end Cert.NormFfnBwd.Body

end
-- ==== Proof.FfnPair.lean ====
/-
  The gradient through the norm and the projection before the gated unit: the three frames, and the equality of the kernel's three results with the
  derivative of the problem's own lines.
-/
module

public import proofs.«01_k».proof.Defs
public import proofs.«01_k».proof.Proof.FfnValue
public import proofs.«01_k».proof.Proof.FfnRef
public import proofs.«01_k».proof.Proof.FfnFrame

@[expose] public section

set_option maxRecDepth 16384

noncomputable section

namespace Cert.Proof

open Idealize.ShloMosaic Idealize.SL.Sem

theorem frame_NormFfnBwd : Cert.quiescent_NormFfnBwd := fun m ρ _ => Cert.NormFfnBwd.Body.frame m ρ
theorem frame_NormFfnBwdIdeal : Cert.quiescent_NormFfnBwdIdeal := fun m ρ _ => Cert.NormFfnBwdIdeal.Body.frame m ρ
theorem frame_NormFfnBwdRefIdeal : Cert.quiescent_NormFfnBwdRefIdeal := fun m ρ _ =>
  (θ_run Cert.NormFfnBwdRefIdeal.defs _ _).mono (fun r h => ⟨fun c => (h c).2.2.2,
      Idealize.ShloMosaic.sem_eq_zero_of_no_sems (by decide) r.2⟩)
    (Cert.NormFfnBwdRefIdeal.Value.run_vals m ρ)

/-- The gradients at the tokens, at the projection and at the gain: the kernel's three results are the derivative, at
    every argument. -/
theorem algebraic_NormFfnBwd : Cert.algebraic_NormFfnBwdIdeal_NormFfnBwdRefIdeal := by
  pair_intro
  · run_from Cert.NormFfnBwdIdeal.Value.run_arrays m g
  · run_from Cert.NormFfnBwdRefIdeal.Value.run_vals m' g'
    · funext i
      idx_vars i
      exact Cert.NormFfnBwdRefIdeal.Value.v42_at _ _ _ _ _ i0 i1
    · funext i
      idx_vars i
      exact Cert.NormFfnBwdRefIdeal.Value.v44_at _ _ _ i0 i1 i2
    · funext i
      idx_vars i
      obtain rfl : i0 = 0 := Subsingleton.elim _ _
      exact Cert.NormFfnBwdRefIdeal.Value.v45_at _ _ _ i1

end Cert.Proof

end
-- ==== Proof.NmxBody.lean ====
/-
  The kernel that undoes a norm and the projection after it, run at one grid point on any buffers: what each buffer holds
  afterwards, in every branch the point takes. One of its two carried buffers is first stored at the thirteenth
  point, so its contents before that are anything.
-/
module

public import proofs.«01_k».proof.Proof.Gen.NormMixBwdIdeal.Frame
public import proofs.«01_k».proof.Proof.Gen.NormMixBwdIdeal.Skeleton
public import Idealize.ShloMosaic.Lib.VecWindow
public import proofs.«01_k».proof.Proof.Loads

@[expose] public section

set_option maxRecDepth 16384

noncomputable section

namespace Cert.NormMixBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.NormMixBwdIdeal Cert.NormMixBwdIdeal.Gen

variable {F : FTy → Type} [FloatOps F]

local notation "𝕄" => MT nD τ sig Unit (Elt F) ℕ (UR sig nD τ) ℕ

/-- The first of the 512 rows of the point's block of tokens. -/
abbrev off (t : Fin grid0.N) : Fin 2 → ℕ := ![512 * (t.val % 4), 0]

theorem off_inb (t : Fin grid0.N) : ∀ a, off t a + S512x1024.size a ≤ S2048x1024.size a :=
  (by decide +kernel : ∀ t : Fin grid0.N, ∀ a, off t a + S512x1024.size a ≤ S2048x1024.size a) t

/-- Where each branch loads and stores its block of rows. -/
theorem off_eq : ∀ t : Fin grid0.N, k0_off1 (grid0.coords t) = off t ∧ k0_off2 (grid0.coords t) = off t ∧ k0_off3 (grid0.coords t) = off t := by
  decide +kernel

/-- Which points take which branch. -/
theorem conds : ∀ t : Fin grid0.N, (k0_cond1 (grid0.coords t) = 1#1 ↔ t.val < 4) ∧ (k0_cond2 (grid0.coords t) = 1#1 ↔ ¬ t.val < 4)
    ∧ (k0_cond3 (grid0.coords t) = 1#1 ↔ t.val % 4 = 0) ∧ (k0_cond4 (grid0.coords t) = 1#1 ↔ ¬ t.val % 4 = 0)
    ∧ (k0_cond5 (grid0.coords t) = 1#1 ↔ 12 ≤ t.val) ∧ (k0_cond8 (grid0.coords t) = 1#1 ↔ t.val % 4 = 3)
    ∧ (Scalar.cmpi .ne (Scalar.extui (Scalar.cmpi .eq (BitVec.ofNat 32 (grid0.coords t 1).val) 0#32)) 0#32 = 1#1 ↔ t.val % 4 = 0)
    ∧ (Scalar.cmpi .ne (Scalar.extui (Scalar.xori (Scalar.cmpi .eq (BitVec.ofNat 32 (grid0.coords t 1).val) 0#32) 1#1)) 0#32 = 1#1 ↔ ¬ t.val % 4 = 0) := by
  decide +kernel

/-- The block of the gradient at the norm's result after the point: the point's product, added to what was there from the second round on. -/
def rows (t : Fin grid0.N) (x2 : Vec F S512x1280 .bf16) (x3 : Vec F S1x1024x1280 .bf16) (H : Vec F S2048x1024 .f32) : Vec F S512x1024 .f32 :=
  if t.val < 4 then k0_pay12 x2 x3 else k0_pay13 x2 x3 (VecWindow.window H (off t) S512x1024.size (off_inb t))

/-- The weight gradient's block after the point. -/
def weight (t : Fin grid0.N) (x0 : Vec F S512x1024 .f32) (x1 : Vec F S1x1024 .f32) (x2 : Vec F S512x1280 .bf16) (d : Vec F S1x1024x1280 .f32) : Vec F S1x1024x1280 .f32 :=
  if t.val % 4 = 0 then k0_pay15 x1 x0 x2 else k0_pay1 (k0_pay14 x1 x0 x2) d

/-- The sum of the gain's gradient after the point: touched in the last round only. -/
def gain (t : Fin grid0.N) (x0 : Vec F S512x1024 .f32) (h : Vec F S512x1024 .f32) (G : Vec F S1x1024 .f32) : Vec F S1x1024 .f32 :=
  if 12 ≤ t.val then (if t.val % 4 = 0 then k0_pay3 (k0_pay9 x0) h else k0_pay4 (k0_pay9 x0) h G) else G

set_option maxHeartbeats 4000000 in
theorem run (c : Dev nD) (t : Fin grid0.N)
    (arg2 : Memref sig .tc .vmem S512x1024 .f32) (harg2 : arg2.IsWhole) (arg3 : Memref sig .tc .vmem S1x1024 .f32) (harg3 : arg3.IsWhole)
    (arg4 : Memref sig .tc .vmem S512x1280 .bf16) (harg4 : arg4.IsWhole) (arg5 : Memref sig .tc .vmem S1x1024x1280 .bf16) (harg5 : arg5.IsWhole)
    (arg6 : Memref sig .tc .vmem S512x1024 .f32) (harg6 : arg6.IsWhole) (arg7 : Memref sig .tc .vmem S512x1024 .f32) (harg7 : arg7.IsWhole)
    (arg8 : Memref sig .tc .vmem S1x1024x1280 .f32) (harg8 : arg8.IsWhole) (arg9 : Memref sig .tc .vmem S1x1024 .f32) (harg9 : arg9.IsWhole)
    (arg10 : Memref sig .tc .vmem S2048x1024 .f32) (harg10 : arg10.IsWhole) (arg11 : Memref sig .tc .vmem S1x1024 .f32) (harg11 : arg11.IsWhole)
    (x0 : Vec F S512x1024 .f32) (x1 : Vec F S1x1024 .f32) (x2 : Vec F S512x1280 .bf16) (x3 : Vec F S1x1024x1280 .bf16) (x4 : Vec F S512x1024 .f32)
    (d5 : Vec F S512x1024 .f32) (d6 : Vec F S1x1024x1280 .f32) (d7 : Vec F S1x1024 .f32) (H : Vec F S2048x1024 .f32) (G : Vec F S1x1024 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare d5
        ∗ owns (c : Thread nD τ) arg8 fullShare d6 ∗ owns (c : Thread nD τ) arg9 fullShare d7
        ∗ owns (c : Thread nD τ) arg10 fullShare H ∗ owns (c : Thread nD τ) arg11 fullShare G
        ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4
          ∗ owns (c : Thread nD τ) arg7 fullShare (if 12 ≤ t.val then k0_pay5 (k0_pay6 x1) (k0_pay8 x0) (k0_pay9 x0) (rows t x2 x3 H) x4 else d5)
          ∗ owns (c : Thread nD τ) arg8 fullShare (weight t x0 x1 x2 d6)
          ∗ owns (c : Thread nD τ) arg9 fullShare (if 12 ≤ t.val ∧ t.val % 4 = 3 then gain t x0 (rows t x2 x3 H) G else d7)
          ∗ owns (c : Thread nD τ) arg10 fullShare (VecWindow.put H (off t) S512x1024.size (rows t x2 x3 H))
          ∗ owns (c : Thread nD τ) arg11 fullShare (gain t x0 (rows t x2 x3 H) G)) -∗ K ⟨⟩))
      ⊢ wp frame (wpE (defs₀ (F := F)) Variants.none c none) E
          (cc0_mix_in_bwd (grid0.coords t) arg2 harg2 arg3 harg3 arg4 harg4 arg5 harg5 arg6 harg6 arg7 harg7 arg8 harg8 arg9 harg9 arg10 harg10 arg11 harg11) K := by
  have hN : t.val < 16 := t.isLt
  obtain ⟨c1, c2, c3, c4, c5, c8, c6, c7⟩ := conds t
  obtain ⟨o1, o2, o3⟩ := off_eq t
  simp only [cc0_mix_in_bwd_eq_skeleton]; unfold cc0_mix_in_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9
  have hk : t.val < 4 ∨ ¬ t.val < 4 ∧ ¬ 12 ≤ t.val ∨ ¬ t.val < 4 ∧ 12 ≤ t.val := by omega
  have hj : t.val % 4 = 0 ∧ ¬ t.val % 4 = 3 ∨ ¬ t.val % 4 = 0 ∧ ¬ t.val % 4 = 3 ∨ ¬ t.val % 4 = 0 ∧ t.val % 4 = 3 := by omega
  rcases hk with hk | ⟨hk, hl⟩ | ⟨hk, hl⟩ <;> rcases hj with ⟨hj, hm⟩ | ⟨hj, hm⟩ | ⟨hj, hm⟩
  all_goals
    (try (have hl : ¬ 12 ≤ t.val := by omega))
    simp only [hk, hj, hl, hm, OfNat.ofNat_ne_zero, OfNat.zero_ne_ofNat, iff_true, iff_false, not_true, not_false_iff] at c1 c2 c3 c4 c5 c6 c7 c8
    sl_exec (disch := first | sl_exact c1 | sl_exact c2 | sl_exact c3 | sl_exact c4 | sl_exact c5 | sl_exact c8 | sl_exact c6 | sl_exact c7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr
      swap; · iexact H5
      ipureintro
      sl_unfold_run_names
      simp only [rows, weight, gain, hk, hj, hl, hm, if_true, if_false, _root_.true_and, _root_.and_true, _root_.false_and, _root_.and_false, not_true, not_false_iff, OfNat.ofNat_ne_zero, OfNat.zero_ne_ofNat, Cert.Loads.load2, Cert.Loads.load3, Cert.Loads.store2, Cert.Loads.store3, Cert.Loads.reload2, Cert.Loads.loadBand (s := S2048x1024) harg10 H _ o2 (off_inb t), Cert.Loads.storeBand (s := S2048x1024) harg10 H _ _ o1, Cert.Loads.storeBand (s := S2048x1024) harg10 H _ _ o2, Cert.Loads.reloadBand (s := S2048x1024) arg10.view _ _ _ (o2.trans o3.symm), harg7.read_unread, harg9.read_unread, harg11.read_unread]
    isplitl [H6]
    · iexists _; isplitr
      swap; · iexact H6
      ipureintro
      sl_unfold_run_names
      simp only [rows, weight, gain, hk, hj, hl, hm, if_true, if_false, _root_.true_and, _root_.and_true, _root_.false_and, _root_.and_false, not_true, not_false_iff, OfNat.ofNat_ne_zero, OfNat.zero_ne_ofNat, Cert.Loads.load2, Cert.Loads.load3, Cert.Loads.store2, Cert.Loads.store3, Cert.Loads.reload2, Cert.Loads.loadBand (s := S2048x1024) harg10 H _ o2 (off_inb t), Cert.Loads.storeBand (s := S2048x1024) harg10 H _ _ o1, Cert.Loads.storeBand (s := S2048x1024) harg10 H _ _ o2, Cert.Loads.reloadBand (s := S2048x1024) arg10.view _ _ _ (o2.trans o3.symm), harg7.read_unread, harg9.read_unread, harg11.read_unread]
    isplitl [H7]
    · iexists _; isplitr
      swap; · iexact H7
      ipureintro
      sl_unfold_run_names
      simp only [rows, weight, gain, hk, hj, hl, hm, if_true, if_false, _root_.true_and, _root_.and_true, _root_.false_and, _root_.and_false, not_true, not_false_iff, OfNat.ofNat_ne_zero, OfNat.zero_ne_ofNat, Cert.Loads.load2, Cert.Loads.load3, Cert.Loads.store2, Cert.Loads.store3, Cert.Loads.reload2, Cert.Loads.loadBand (s := S2048x1024) harg10 H _ o2 (off_inb t), Cert.Loads.storeBand (s := S2048x1024) harg10 H _ _ o1, Cert.Loads.storeBand (s := S2048x1024) harg10 H _ _ o2, Cert.Loads.reloadBand (s := S2048x1024) arg10.view _ _ _ (o2.trans o3.symm), harg7.read_unread, harg9.read_unread, harg11.read_unread]
    isplitl [H8]
    · iexists _; isplitr
      swap; · iexact H8
      ipureintro
      sl_unfold_run_names
      simp only [rows, weight, gain, hk, hj, hl, hm, if_true, if_false, _root_.true_and, _root_.and_true, _root_.false_and, _root_.and_false, not_true, not_false_iff, OfNat.ofNat_ne_zero, OfNat.zero_ne_ofNat, Cert.Loads.load2, Cert.Loads.load3, Cert.Loads.store2, Cert.Loads.store3, Cert.Loads.reload2, Cert.Loads.loadBand (s := S2048x1024) harg10 H _ o2 (off_inb t), Cert.Loads.storeBand (s := S2048x1024) harg10 H _ _ o1, Cert.Loads.storeBand (s := S2048x1024) harg10 H _ _ o2, Cert.Loads.reloadBand (s := S2048x1024) arg10.view _ _ _ (o2.trans o3.symm), harg7.read_unread, harg9.read_unread, harg11.read_unread]
    iexists _; isplitr
    swap; · iexact H9
    ipureintro
    sl_unfold_run_names
    simp only [rows, weight, gain, hk, hj, hl, hm, if_true, if_false, _root_.true_and, _root_.and_true, _root_.false_and, _root_.and_false, not_true, not_false_iff, OfNat.ofNat_ne_zero, OfNat.zero_ne_ofNat, Cert.Loads.load2, Cert.Loads.load3, Cert.Loads.store2, Cert.Loads.store3, Cert.Loads.reload2, Cert.Loads.loadBand (s := S2048x1024) harg10 H _ o2 (off_inb t), Cert.Loads.storeBand (s := S2048x1024) harg10 H _ _ o1, Cert.Loads.storeBand (s := S2048x1024) harg10 H _ _ o2, Cert.Loads.reloadBand (s := S2048x1024) arg10.view _ _ _ (o2.trans o3.symm), harg7.read_unread, harg9.read_unread, harg11.read_unread]

end Cert.NormMixBwdIdeal.Body

end
-- ==== Proof.NmxRun.lean ====
/-
  The whole run of the kernel that undoes a norm and the projection after it.  Sixteen points, four rounds over the
  columns of the projection and in each round the four blocks of tokens: the gradient at the norm's result is summed over
  the rounds in a buffer of the core, each point touching the rows of its own block; the weight's gradient is summed over
  the blocks in the output's buffer; the gain's gradient is summed over the blocks of the last round in a second buffer.
-/
module

public import proofs.«01_k».proof.Proof.NmxBody
public import Idealize.ShloMosaic.Lib.Claim

@[expose] public section

set_option maxRecDepth 16384

noncomputable section

namespace Cert.NormMixBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.NormMixBwdIdeal Cert.NormMixBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point of a number. -/
def pt (n : ℕ) : Fin cfg0.N := ⟨n % 16, lt_of_lt_of_eq (Nat.mod_lt _ (by decide)) N_0.symm⟩

theorem pt_val (t : Fin cfg0.N) : pt t.val = t := Fin.ext (Nat.mod_eq_of_lt (lt_of_lt_of_eq t.isLt N_0))

/-! The blocks the points work on: tokens, gain, the incoming gradient, the weight, the gradient added to the result. -/
abbrev xb (c : Dev nD) (n : ℕ) : Vec F S512x1024 .f32 := iblk m c 0 (pt n)
abbrev gn (c : Dev nD) (n : ℕ) : Vec F S1x1024 .f32 := iblk m c 1 (pt n)
abbrev du (c : Dev nD) (n : ℕ) : Vec F S512x1280 .bf16 := iblk m c 2 (pt n)
abbrev wt (c : Dev nD) (n : ℕ) : Vec F S1x1024x1280 .bf16 := iblk m c 3 (pt n)
abbrev dr (c : Dev nD) (n : ℕ) : Vec F S512x1024 .f32 := iblk m c 4 (pt n)

/-- The gradient at the norm's result for the `j`th block of tokens, summed up to round `k`. -/
def nh (c : Dev nD) (j : ℕ) : ℕ → Vec F S512x1024 .f32
  | 0 => k0_pay12 (du m c (j)) (wt m c (j))
  | k + 1 => k0_pay13 (du m c (4 * (k + 1) + j)) (wt m c (4 * (k + 1) + j)) (nh c j k)

/-- The weight's gradient for the columns of round `k`, summed up to the `j`th block of tokens. -/
def dw (c : Dev nD) (k : ℕ) : ℕ → Vec F S1x1024x1280 .f32
  | 0 => k0_pay15 (gn m c (4 * k)) (xb m c (4 * k)) (du m c (4 * k))
  | j + 1 => k0_pay1 (k0_pay14 (gn m c (4 * k + (j + 1))) (xb m c (4 * k + (j + 1))) (du m c (4 * k + (j + 1)))) (dw c k j)

/-- The gain's gradient summed up to the `j`th block of tokens. -/
def dgv (c : Dev nD) : ℕ → Vec F S1x1024 .f32
  | 0 => k0_pay3 (k0_pay9 (xb m c 12)) (nh m c 0 3)
  | j + 1 => k0_pay4 (k0_pay9 (xb m c (12 + (j + 1)))) (nh m c (j + 1) 3) (dgv c j)

/-- The gradient at the tokens a point of the last round stores. -/
def dxv (c : Dev nD) (n : ℕ) : Vec F S512x1024 .f32 :=
  k0_pay5 (k0_pay6 (gn m c n)) (k0_pay8 (xb m c n)) (k0_pay9 (xb m c n)) (nh m c (n % 4) 3) (dr m c n)

/-- The rows of the `j`th block of tokens. -/
abbrev band (j : ℕ) : Fin 2 → ℕ := ![512 * j, 0]

theorem band_inb (j : Fin 4) : ∀ a, band j.val a + S512x1024.size a ≤ S2048x1024.size a :=
  (by decide +kernel : ∀ j : Fin 4, ∀ a, band j.val a + S512x1024.size a ≤ S2048x1024.size a) j

/-- What the two carried buffers hold before point `n`: of each block of rows already met the sum up to its last round,
    and from the fourteenth point on the gain's gradient so far. -/
structure Inv (c : Dev nD) (n : ℕ) (H : Vec F S2048x1024 .f32) (G : Vec F S1x1024 .f32) : Prop where
  rows : ∀ j : Fin 4, j.val < n → VecWindow.window (s := S2048x1024) H (band j.val) S512x1024.size (band_inb j) = nh m c j.val ((n - 1 - j.val) / 4)
  gain : 13 ≤ n → G = dgv m c (n - 13)

theorem rows_eq (c : Dev nD) (t : Fin cfg0.N) (H : Vec F S2048x1024 .f32) (G : Vec F S1x1024 .f32) (h : Inv m c t.val H G) :
    rows t (iblk m c 2 t) (iblk m c 3 t) H = nh m c (t.val % 4) (t.val / 4) := by
  have hN : t.val < 16 := lt_of_lt_of_eq t.isLt N_0
  unfold rows
  by_cases hk : t.val < 4
  · rw [if_pos hk, Nat.div_eq_of_lt hk, Nat.mod_eq_of_lt hk]
    unfold nh du wt; rw [pt_val]
  · rw [if_neg hk]
    have hr := h.rows ⟨t.val % 4, Nat.mod_lt _ (by decide)⟩ (show t.val % 4 < t.val by omega)
    obtain ⟨k, hk'⟩ : ∃ k, t.val / 4 = k + 1 := ⟨t.val / 4 - 1, by omega⟩
    rw [show (t.val - 1 - t.val % 4) / 4 = k from by omega] at hr
    rw [hk']
    have ht : 4 * (k + 1) + t.val % 4 = t.val := by omega
    unfold nh du wt; rw [ht, pt_val]
    exact congrArg _ hr

theorem gain_eq (c : Dev nD) (t : Fin cfg0.N) (H : Vec F S2048x1024 .f32) (G : Vec F S1x1024 .f32) (h : Inv m c t.val H G) (ht : 12 ≤ t.val) :
    gain t (iblk m c 0 t) (nh m c (t.val % 4) (t.val / 4)) G = dgv m c (t.val - 12) := by
  have hN : t.val < 16 := lt_of_lt_of_eq t.isLt N_0
  unfold gain
  rw [if_pos ht, show t.val / 4 = 3 from by omega]
  by_cases hj : t.val % 4 = 0
  · have h12 : 12 = t.val := by omega
    rw [if_pos hj, show t.val - 12 = 0 from by omega, hj]
    unfold dgv xb; rw [h12, pt_val]
  · obtain ⟨j, hj'⟩ : ∃ j, t.val - 12 = j + 1 := ⟨t.val - 13, by omega⟩
    have e : 12 + (j + 1) = t.val := by omega
    rw [if_neg hj, hj', show t.val % 4 = j + 1 from by omega, h.gain (by omega), show t.val - 13 = j from by omega]
    conv_rhs => unfold dgv xb
    rw [e, pt_val]

theorem inv_step (c : Dev nD) (t : Fin cfg0.N) (H : Vec F S2048x1024 .f32) (G : Vec F S1x1024 .f32) (h : Inv m c t.val H G) :
    Inv m c (t.val + 1) (VecWindow.put (s := S2048x1024) H (off t) S512x1024.size (nh m c (t.val % 4) (t.val / 4)))
      (gain t (iblk m c 0 t) (nh m c (t.val % 4) (t.val / 4)) G) := by
  have hN : t.val < 16 := lt_of_lt_of_eq t.isLt N_0
  refine ⟨fun j hj => ?_, fun hn => ?_⟩
  · by_cases he : j.val = t.val % 4
    · rw [show (t.val + 1 - 1 - j.val) / 4 = t.val / 4 from by omega]
      have key : ∀ (o : Fin 2 → ℕ) (inb : ∀ a, o a + S512x1024.size a ≤ S2048x1024.size a), o = off t →
          VecWindow.window (s := S2048x1024) (VecWindow.put (s := S2048x1024) H (off t) S512x1024.size (nh m c (t.val % 4) (t.val / 4))) o S512x1024.size inb
            = nh m c (t.val % 4) (t.val / 4) := by
        rintro o inb rfl
        exact VecWindow.window_put_same (s := S2048x1024) H (off t) S512x1024.size inb _
      refine (key _ _ (show ![512 * j.val, 0] = ![512 * (t.val % 4), 0] from by rw [he])).trans ?_
      exact congrArg (fun i => nh m c i (t.val / 4)) he.symm
    · rw [show (t.val + 1 - 1 - j.val) / 4 = (t.val - 1 - j.val) / 4 from by omega]
      rw [← h.rows j (by omega)]
      refine VecWindow.window_put_of_disjoint (s := S2048x1024) H (off t) S512x1024.size (band j.val) S512x1024.size (band_inb j) _ (0 : Fin 2) ?_
      show 512 * j.val + 512 ≤ 512 * (t.val % 4) ∨ 512 * (t.val % 4) + 512 ≤ 512 * j.val
      omega
  · rw [gain_eq m c t H G h (by omega), show t.val + 1 - 13 = t.val - 12 from by omega]

theorem weight_eq (c : Dev nD) (t : Fin cfg0.N) (d : Vec F S1x1024x1280 .f32) (h : t.val % 4 ≠ 0 → d = dw m c ((t.val - 1) / 4) ((t.val - 1) % 4)) :
    weight t (iblk m c 0 t) (iblk m c 1 t) (iblk m c 2 t) d = dw m c (t.val / 4) (t.val % 4) := by
  unfold weight
  by_cases hj : t.val % 4 = 0
  · have e : 4 * (t.val / 4) = t.val := by omega
    rw [if_pos hj, hj]
    unfold dw xb gn du; rw [e, pt_val]
  · obtain ⟨j, hj'⟩ : ∃ j, t.val % 4 = j + 1 := ⟨t.val % 4 - 1, by omega⟩
    have e : 4 * (t.val / 4) + (j + 1) = t.val := by omega
    rw [if_neg hj, h hj, hj', show (t.val - 1) / 4 = t.val / 4 from by omega, show (t.val - 1) % 4 = j from by omega]
    conv_rhs => unfold dw xb gn du
    rw [e, pt_val]

/-! ## The run -/

abbrev scH : Memref sig .tc .vmem S2048x1024 .f32 := Memref.whole cc0_scratch0
abbrev scG : Memref sig .tc .vmem S1x1024 .f32 := Memref.whole cc0_scratch1

/-- The core's own buffers before point `n`. -/
def Phi (c : Dev nD) (n : ℕ) : sProp 𝕄 :=
  iprop(∃ H G, ⌜Inv m c n H G⌝ ∗ owns (c : Thread nD τ) scH fullShare H ∗ owns (c : Thread nD τ) scG fullShare G ∗ (∃ r, prngReg c r))

theorem PhiA_eq (c : Dev nD) : (Pipeline.ΦA spec0 c : sProp 𝕄)
    = iprop(iprop((∃ d, owns (c : Thread nD τ) scH fullShare d) ∗ (∃ d, owns (c : Thread nD τ) scG fullShare d)) ∗ (∃ r, prngReg c r)) := by
  unfold Pipeline.ΦA; rw [scopedRest0_eq]; simp only [scH, scG, owns_whole]; try rfl

/-- Each buffer's contents after the body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dxv m c t.val
    | ⟨6, _⟩ => dw m c (t.val / 4) (t.val % 4)
    | ⟨7, _⟩ => dgv m c 3
  Φ t := Phi m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = dxv m c t.val := by dsimp only [dats]
theorem after0_6 (c : Dev nD) (t : Fin cfg0.N) : (dats m 0 c).after 6 t = dw m c (t.val / 4) (t.val % 4) := by dsimp only [dats]
theorem after0_7 (c : Dev nD) (t : Fin cfg0.N) : (dats m 0 c).after 7 t = dgv m c 3 := by dsimp only [dats]

theorem live : ∀ t : Fin cfg0.N, (cfg0.idle 5 (grid0.coords t) = !decide (12 ≤ t.val)) ∧ (cfg0.idle 6 (grid0.coords t) = false)
    ∧ (cfg0.idle 7 (grid0.coords t) = !decide (12 ≤ t.val ∧ t.val % 4 = 3)) ∧ ((cfg0.win 5).flush t = decide (12 ≤ t.val)) ∧ ((cfg0.win 7).flush t = decide (12 ≤ t.val ∧ t.val % 4 = 3)) := by
  decide +kernel

theorem live6 : ∀ i : grid0.Coords, cfg0.idle 6 i = false := by decide +kernel

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

/-- What an output's buffer may hold where its window is left alone, and holds where it is stored. -/
theorem leaves_of (c : Dev nD) (w : Fin cfg0.W) (t : Fin cfg0.N) (p : Bool) (hi : cfg0.idle w (grid0.coords t) = !p) (hf : (cfg0.win w).flush t = p) (d) :
    owns (c : Thread nD τ) ((cfg0.win w).stage (cfg0.slots t w)) fullShare (if p then (dats m 0 c).after w t else (dats m 0 c).before w t d)
      ⊢ (dats m 0 c).leavesExact w t := by
  cases p
  · rw [Dat.leavesExact_idle (dats m 0 c) w t hi hf]
    iintro H; iexists d; iexact H
  · unfold Dat.leavesExact; rw [hi]; exact .rfl

theorem leaves_live (c : Dev nD) (w : Fin cfg0.W) (t : Fin cfg0.N) (hi : cfg0.idle w (grid0.coords t) = false) :
    (dats m 0 c).leavesExact w t = owns (c : Thread nD τ) ((cfg0.win w).stage (cfg0.slots t w)) fullShare ((dats m 0 c).after w t) := by
  unfold Dat.leavesExact; rw [hi]

theorem before6 (c : Dev nD) (t : Fin cfg0.N) (ht : t.val % 4 ≠ 0) (d) : (dats m 0 c).before 6 t d = dw m c ((t.val - 1) / 4) ((t.val - 1) % 4) := by
  rw [Dat.before_out_kept (dats m 0 c) 6 rfl t (by omega) (by
    rw [Bool.eq_false_iff]; intro h
    have := (flush0_6 _).mp h
    have h2 : (t.val - 1) % 4 = 3 := this
    omega) live6 (fun _ _ => rfl), after0_6]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  obtain ⟨l5, l6, l7, f5, f7⟩ := live t
  have hN : t.val < 16 := lt_of_lt_of_eq t.isLt N_0
  unfold bodyPre bodyPost bodyAt0
  simp only [before0_0_of m (dats m 0 c) (A_eq m c 0) (after0_0 m c), before0_1_of m (dats m 0 c) (A_eq m c 1) (after0_1 m c),
    before0_2_of m (dats m 0 c) (A_eq m c 2) (after0_2 m c), before0_3_of m (dats m 0 c) (A_eq m c 3) (after0_3 m c),
    before0_4_of m (dats m 0 c) (A_eq m c 4) (after0_4 m c)]
  rw [show (dats m 0 c).owesAt () t.succ = (dats m 0 c).owesAt () t.castSucc from rfl,
    show (dats m 0 c).Φ t.succ = Phi m c (t.val + 1) from rfl, show (dats m 0 c).Φ t.castSucc = Phi m c t.val from rfl]
  rw [leaves_live m c 0 t rfl, leaves_live m c 1 t rfl, leaves_live m c 2 t rfl, leaves_live m c 3 t rfl, leaves_live m c 4 t rfl,
    leaves_live m c 6 t l6, after0_0, after0_1, after0_2, after0_3, after0_4, after0_6]
  unfold Phi
  iintro ⟨⟨%H, %G, %hI, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hr := rows_eq m c t H G hI
  have hw := weight_eq m c t ((dats m 0 c).before 6 t d6) fun h => before6 m c t h d6
  have hx : (if 12 ≤ t.val then k0_pay5 (k0_pay6 (iblk m c 1 t)) (k0_pay8 (iblk m c 0 t)) (k0_pay9 (iblk m c 0 t)) (nh m c (t.val % 4) (t.val / 4)) (iblk m c 4 t) else (dats m 0 c).before 5 t d5)
      = if decide (12 ≤ t.val) = true then (dats m 0 c).after 5 t else (dats m 0 c).before 5 t d5 := by
    by_cases h : 12 ≤ t.val
    · rw [if_pos h, if_pos (decide_eq_true h), after0_5, show t.val / 4 = 3 from by omega]
      unfold dxv xb gn dr; rw [pt_val]
    · rw [if_neg h, if_neg (by rw [decide_eq_true_iff]; exact h)]
  have hg : (if 12 ≤ t.val ∧ t.val % 4 = 3 then gain t (iblk m c 0 t) (nh m c (t.val % 4) (t.val / 4)) G else (dats m 0 c).before 7 t d7)
      = if decide (12 ≤ t.val ∧ t.val % 4 = 3) = true then (dats m 0 c).after 7 t else (dats m 0 c).before 7 t d7 := by
    by_cases h : 12 ≤ t.val ∧ t.val % 4 = 3
    · rw [if_pos h, if_pos (decide_eq_true h), after0_7, gain_eq m c t H G hI h.1, show t.val - 12 = 3 from by omega]
    · rw [if_neg h, if_neg (by rw [decide_eq_true_iff]; exact h)]
  iapply (run c t _ _ _ _ _ _ _ _ _ _ _ _ _ _ _ _ _ _ _ _ (iblk m c 0 t) (iblk m c 1 t) (iblk m c 2 t) (iblk m c 3 t) (iblk m c 4 t)
    ((dats m 0 c).before 5 t d5) ((dats m 0 c).before 6 t d6) ((dats m 0 c).before 7 t d7) H G Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  rw [hr, hw, hx, hg]
  iintro ⟨H0, H1, H2, H3, H4, H5, H6, H7, HS0, HS1⟩
  isplitl [HS0 HS1 Hg]
  · iexists _; iexists _; isplitr
    · ipureintro; exact inv_step m c t H G hI
    isplitl [HS0]; · iexact HS0
    isplitl [HS1]; · iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iapply (leaves_of m c 5 t _ l5 f5 d5); iexact H5
  isplitl [H6]; · iexact H6
  iapply (leaves_of m c 7 t _ l7 f7 d7); iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, PhiA_eq]
  unfold Phi
  iintro ⟨⟨⟨%H, HS0⟩, ⟨%G, HS1⟩⟩, Hg⟩
  iexists H; iexists G; isplitr
  · ipureintro; exact ⟨fun j h => absurd h (Nat.not_lt_zero _), fun h => absurd h (by decide)⟩
  isplitl [HS0]; · iexact HS0
  isplitl [HS1]; · iexact HS1
  iexact Hg

theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  iintro ⟨%H, %G, %hI, HS0, HS1, Hg⟩
  isplitl [HS0 HS1]
  · isplitl [HS0]; · iexists _; iexact HS0
    iexists _; iexact HS1
  iexact Hg

set_option backward.isDefEq.respectTransparency.types false in
/-- The whole program runs, and ends with every array at what the points left in its blocks and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- It leaves its arguments as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.NormMixBwdIdeal.Body

end
-- ==== Proof.NmxValue.lean ====
/-
  The same kernel's three results, written at one place of each array: the sums its points make, block by block, are the
  sums over all columns and over all tokens.
-/
module

public import proofs.«01_k».proof.Proof.NmxRun
public import proofs.«01_k».proof.Proof.NormMath
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NormMixBwdIdeal.Value

open Cert.NormMixBwdIdeal Cert.NormMixBwdIdeal.Gen Cert.NormMixBwdIdeal.Body
open Cert.Rms (W E)
open Cert.NormMath (nrm back dot)

variable (m : (ℓ : Loc nD τ sig) → Buf (Elt Ideal) ℓ)

theorem idx : ∀ t : Fin cfg0.N, win0_0.index t = ![t.val % 4, 0] ∧ win0_1.index t = ![0, 0] ∧ win0_2.index t = ![t.val % 4, t.val / 4] ∧ win0_3.index t = ![t.val / 4, 0, 0] ∧ win0_6.index t = ![t.val / 4, 0, 0] ∧ win0_7.index t = ![0, 0] :=
  (by decide +kernel : ∀ t : Fin grid0.N, _)

theorem idx_late : ∀ t : Fin cfg0.N, 12 ≤ t.val → win0_4.index t = ![t.val % 4, 0] ∧ win0_5.index t = ![t.val % 4, 0] :=
  (by decide +kernel : ∀ t : Fin grid0.N, 12 ≤ t.val → _)

/-- Rows of the arguments: tokens, gain, the weight's row for one lane, the incoming gradient, the gradient to add. -/
abbrev xrow (c : Dev nD) (i : Fin 2048) : Fin 1024 → EReal := fun k => m ((c.tc : Thread nD τ).loc main_arg0) (ix3 0 i k)
abbrev grow (c : Dev nD) : Fin 1024 → EReal := fun k => m ((c.tc : Thread nD τ).loc main_arg1) (ix1 k)
abbrev wrow (c : Dev nD) (j : Fin 1024) : Fin 5120 → EReal := fun q => m ((c.tc : Thread nD τ).loc main_arg2) (ix2 j q)
abbrev drow (c : Dev nD) (i : Fin 2048) : Fin 5120 → EReal := fun q => m ((c.tc : Thread nD τ).loc main_arg3) (ix3 0 i q)
abbrev erow (c : Dev nD) (i : Fin 2048) : Fin 1024 → EReal := fun k => m ((c.tc : Thread nD τ).loc main_arg4) (ix3 0 i k)

/-! ## One point's terms -/

variable (x0 x4 h : Vec Ideal S512x1024 .f32) (x1 v : Vec Ideal S1x1024 .f32) (x2 : Vec Ideal S512x1280 .bf16) (x3 : Vec Ideal S1x1024x1280 .bf16)
  (d : Vec Ideal S1x1024x1280 .f32)

theorem inv_apply (p : Fin 512) : k0_pay8 x0 (ix2 p 0) = Rms.rinv W E (fun k => x0 (ix2 p k)) := by
  pointwise [k0_pay8, k0_pay7]
  rfl

theorem nrm_apply (p : Fin 512) (j : Fin 1024) : k0_pay9 x0 (ix2 p j) = nrm (fun k => x0 (ix2 p k)) j := by
  pointwise [k0_pay9, k0_pay7, inv_apply]
  rfl

theorem prod_apply (p : Fin 512) (j : Fin 1024) :
    k0_pay12 x2 x3 (ix2 p j) = dot (fun q : Fin 1280 => x2 (ix2 p q)) (fun q => x3 (ix3 0 j q)) := by
  pointwise [k0_pay12, k0_pay11, k0_pay10]
  rfl

theorem prod_add (p : Fin 512) (j : Fin 1024) :
    k0_pay13 x2 x3 h (ix2 p j) = h (ix2 p j) + dot (fun q : Fin 1280 => x2 (ix2 p q)) (fun q => x3 (ix3 0 j q)) := by
  pointwise [k0_pay13, k0_pay11, k0_pay10]
  rfl

theorem outer_apply (j : Fin 1024) (q : Fin 1280) :
    k0_pay15 x1 x0 x2 (ix3 0 j q) = ∑ p : Fin 512, nrm (fun k => x0 (ix2 p k)) j * x1 (ix2 0 j) * x2 (ix2 p q) := by
  pointwise [k0_pay15, k0_pay14, k0_pay10, k0_pay6, nrm_apply]

theorem outer_add (j : Fin 1024) (q : Fin 1280) :
    k0_pay1 (k0_pay14 x1 x0 x2) d (ix3 0 j q) = d (ix3 0 j q) + ∑ p : Fin 512, nrm (fun k => x0 (ix2 p k)) j * x1 (ix2 0 j) * x2 (ix2 p q) := by
  pointwise [k0_pay15, k0_pay14, k0_pay10, k0_pay1, k0_pay6, nrm_apply]

theorem gain_apply (j : Fin 1024) :
    k0_pay3 (k0_pay9 x0) h (ix2 0 j) = ∑ p : Fin 512, h (ix2 p j) * nrm (fun k => x0 (ix2 p k)) j := by
  pointwise [k0_pay3, k0_pay2, nrm_apply]

theorem gain_add (j : Fin 1024) :
    k0_pay4 (k0_pay9 x0) h v (ix2 0 j) = v (ix2 0 j) + ∑ p : Fin 512, h (ix2 p j) * nrm (fun k => x0 (ix2 p k)) j := by
  pointwise [k0_pay4, k0_pay2, nrm_apply]

theorem back_apply (p : Fin 512) (j : Fin 1024) :
    k0_pay5 (k0_pay6 x1) (k0_pay8 x0) (k0_pay9 x0) h x4 (ix2 p j)
      = x4 (ix2 p j) + back (fun k => x0 (ix2 p k)) (fun k => x1 (ix2 0 k)) (fun k => h (ix2 p k)) j := by
  pointwise [k0_pay5, k0_pay6, inv_apply, nrm_apply]
  rfl

/-! ## The blocks, as rows of the arguments -/

section

variable (c : Dev nD) (t : Fin cfg0.N)

theorem x_blk (p : Fin 512) (k : Fin 1024) (hp : t.val % 4 * 512 + p.val < 2048) : iblk m c 0 t (ix2 p k) = xrow m c ⟨t.val % 4 * 512 + p.val, hp⟩ k := by
  blk_point [iblk, V, idx t]

theorem g_blk (k : Fin 1024) : iblk m c 1 t (ix2 0 k) = grow m c k := by
  blk_point [iblk, V, idx t]

theorem d_blk (p : Fin 512) (q : Fin 1280) (hp : t.val % 4 * 512 + p.val < 2048) (hq : t.val / 4 * 1280 + q.val < 5120) :
    iblk m c 2 t (ix2 p q) = drow m c ⟨t.val % 4 * 512 + p.val, hp⟩ ⟨t.val / 4 * 1280 + q.val, hq⟩ := by
  have hN : t.val < 16 := lt_of_lt_of_eq t.isLt N_0
  blk_point [iblk, V, idx t]

theorem w_blk (j : Fin 1024) (q : Fin 1280) (hq : t.val / 4 * 1280 + q.val < 5120) : iblk m c 3 t (ix3 0 j q) = wrow m c j ⟨t.val / 4 * 1280 + q.val, hq⟩ := by
  have hN : t.val < 16 := lt_of_lt_of_eq t.isLt N_0
  blk_point [iblk, V, idx t]

theorem e_blk (p : Fin 512) (k : Fin 1024) (hp : t.val % 4 * 512 + p.val < 2048) (ht : 12 ≤ t.val) : iblk m c 4 t (ix2 p k) = erow m c ⟨t.val % 4 * 512 + p.val, hp⟩ k := by
  have hN : t.val < 16 := lt_of_lt_of_eq t.isLt N_0
  blk_point [iblk, V, idx_late t ht]

end

theorem pt_at (k i : Fin 4) : (pt (4 * k.val + i.val)).val % 4 = i.val ∧ (pt (4 * k.val + i.val)).val / 4 = k.val := by
  have h : (pt (4 * k.val + i.val)).val = 4 * k.val + i.val := Nat.mod_eq_of_lt (by omega)
  rw [h]; omega

/-- Token `p` of block `i`, and column `q` of round `k`. -/
abbrev tok (i : Fin 4) (p : Fin 512) : Fin 2048 := ⟨i.val * 512 + p.val, by omega⟩
abbrev col (k : Fin 4) (q : Fin 1280) : Fin 5120 := ⟨k.val * 1280 + q.val, by omega⟩

variable (c : Dev nD) (k i : Fin 4)

theorem xb_at (p : Fin 512) : (fun l => xb m c (4 * k.val + i.val) (ix2 p l)) = xrow m c (tok i p) := by
  funext l
  rw [xb, x_blk m c _ p l (by have := (pt_at k i).1; omega)]
  simp only [(pt_at k i).1]

theorem gn_at : (fun l => gn m c (4 * k.val + i.val) (ix2 0 l)) = grow m c := by
  funext l; exact g_blk m c _ l

theorem du_at (p : Fin 512) (q : Fin 1280) : du m c (4 * k.val + i.val) (ix2 p q) = drow m c (tok i p) (col k q) := by
  rw [du, d_blk m c _ p q (by have := (pt_at k i).1; omega) (by have := (pt_at k i).2; omega)]
  simp only [(pt_at k i).1, (pt_at k i).2]

theorem wt_at (j : Fin 1024) (q : Fin 1280) : wt m c (4 * k.val + i.val) (ix3 0 j q) = wrow m c j (col k q) := by
  rw [wt, w_blk m c _ j q (by have := (pt_at k i).2; omega)]
  simp only [(pt_at k i).2]

theorem dr_at (p : Fin 512) (l : Fin 1024) : dr m c (4 * 3 + i.val) (ix2 p l) = erow m c (tok i p) l := by
  have h := pt_at 3 i
  rw [dr, e_blk m c _ p l (by have := h.1; omega) (by have h2 : (pt (4 * 3 + i.val)).val / 4 = 3 := h.2; omega)]
  exact congrArg (fun z => m ((c.tc : Thread nD τ).loc main_arg4) (ix3 0 z l)) (Fin.ext (congrArg (fun z => z * 512 + p.val) h.1))

/-! ## The sums -/

/-- The gradient at the normed row of a token. -/
abbrev hrow (i : Fin 2048) : Fin 1024 → EReal := fun j => dot (drow m c i) (wrow m c j)

theorem nh_total (p : Fin 512) (j : Fin 1024) : nh m c i.val 3 (ix2 p j) = hrow m c (tok i p) j := by
  have e : ∀ k : Fin 4, dot (fun q : Fin 1280 => du m c (4 * k.val + i.val) (ix2 p q)) (fun q => wt m c (4 * k.val + i.val) (ix3 0 j q))
      = ∑ q : Fin 1280, drow m c (tok i p) (col k q) * wrow m c j (col k q) := fun k => by
    unfold dot; simp only [du_at, wt_at]
  have e0 : nh m c i.val 0 (ix2 p j) = dot (fun q : Fin 1280 => du m c (4 * 0 + i.val) (ix2 p q)) (fun q => wt m c (4 * 0 + i.val) (ix3 0 j q)) := by
    rw [show 4 * 0 + i.val = i.val from by omega]; exact prod_apply _ _ p j
  have es : ∀ k, nh m c i.val (k + 1) (ix2 p j) = nh m c i.val k (ix2 p j)
      + dot (fun q : Fin 1280 => du m c (4 * (k + 1) + i.val) (ix2 p q)) (fun q => wt m c (4 * (k + 1) + i.val) (ix3 0 j q)) :=
    fun k => prod_add _ _ _ p j
  rw [es 2, es 1, es 0, e0]
  exact NormMath.four (n := 1280) rfl (fun q => drow m c (tok i p) q * wrow m c j q)
    (fun k => dot (fun q : Fin 1280 => du m c (4 * k + i.val) (ix2 p q)) (fun q => wt m c (4 * k + i.val) (ix3 0 j q))) e

theorem dw_total (j : Fin 1024) (q : Fin 1280) :
    dw m c k.val 3 (ix3 0 j q) = ∑ a : Fin 2048, nrm (xrow m c a) j * grow m c j * drow m c a (col k q) := by
  let T : ℕ → EReal := fun i => ∑ p : Fin 512, nrm (fun l => xb m c (4 * k.val + i) (ix2 p l)) j * gn m c (4 * k.val + i) (ix2 0 j)
    * du m c (4 * k.val + i) (ix2 p q)
  have e : ∀ i : Fin 4, T i.val = ∑ p : Fin 512, nrm (xrow m c (tok i p)) j * grow m c j * drow m c (tok i p) (col k q) := fun i => by
    refine Finset.sum_congr rfl fun p _ => ?_
    rw [xb_at, du_at]
    exact congrArg (fun z => _ * z * _) (congrFun (gn_at m c k i) j)
  have e0 : dw m c k.val 0 (ix3 0 j q) = T 0 := outer_apply _ _ _ j q
  have es : ∀ i, dw m c k.val (i + 1) (ix3 0 j q) = dw m c k.val i (ix3 0 j q) + T (i + 1) := fun i => outer_add _ _ _ _ j q
  rw [es 2, es 1, es 0, e0]
  exact NormMath.four (n := 512) rfl (fun a => nrm (xrow m c a) j * grow m c j * drow m c a (col k q)) T e

theorem dg_total (j : Fin 1024) : dgv m c 3 (ix2 0 j) = ∑ a : Fin 2048, hrow m c a j * nrm (xrow m c a) j := by
  let T : ℕ → EReal := fun i => ∑ p : Fin 512, (nh m c i 3 (ix2 p j) : EReal) * nrm (fun l => xb m c (12 + i) (ix2 p l)) j
  have e : ∀ i : Fin 4, T i.val = ∑ p : Fin 512, hrow m c (tok i p) j * nrm (xrow m c (tok i p)) j := fun i => by
    refine Finset.sum_congr rfl fun p _ => ?_
    rw [nh_total]
    exact congrArg (fun z => _ * nrm z j) (xb_at m c 3 i p)
  have e0 : dgv m c 0 (ix2 0 j) = T 0 := gain_apply _ _ j
  have es : ∀ i, dgv m c (i + 1) (ix2 0 j) = dgv m c i (ix2 0 j) + T (i + 1) := fun i => gain_add _ _ _ j
  rw [es 2, es 1, es 0, e0]
  exact NormMath.four (n := 512) rfl (fun a => hrow m c a j * nrm (xrow m c a) j) T e

theorem dx_total (p : Fin 512) (j : Fin 1024) :
    dxv m c (12 + i.val) (ix2 p j) = erow m c (tok i p) j + back (xrow m c (tok i p)) (grow m c) (hrow m c (tok i p)) j := by
  have h : (12 + i.val) % 4 = i.val := by omega
  refine (back_apply _ _ _ _ p j).trans ?_
  rw [h]
  have e1 : (fun l => nh m c i.val 3 (ix2 p l)) = hrow m c (tok i p) := funext fun l => nh_total m c i p l
  rw [e1]
  have e2 := xb_at m c 3 i p
  have e3 := gn_at m c 3 i
  have e4 := dr_at m c i p j
  exact congrArg₂ (· + ·) e4 (congrArg₂ (fun x g => back x g (hrow m c (tok i p)) j) e2 e3)

/-! ## The three arrays -/

def DX : Buf (Elt Ideal) ((c.tc : Thread nD τ).loc main_v8_0) := fun i =>
  show EReal from erow m c (i 0) (i 1) + back (xrow m c (i 0)) (grow m c) (hrow m c (i 0)) (i 1)
def DW : Buf (Elt Ideal) ((c.tc : Thread nD τ).loc main_v8_1) := fun i =>
  show EReal from ∑ a : Fin 2048, nrm (xrow m c a) (i 1) * grow m c (i 1) * drow m c a (col (i 0) (i 2))
def DG : Buf (Elt Ideal) ((c.tc : Thread nD τ).loc main_v8_2) := fun i =>
  show EReal from ∑ a : Fin 2048, hrow m c a (i 1) * nrm (xrow m c a) (i 1)

theorem dx_place (t : Fin cfg0.N) (ht : 12 ≤ t.val) (p : Fin 512) (j : Fin 1024) (h : t.val % 4 * 512 + p.val < 2048) :
    (ix2 ⟨t.val % 4 * 512 + p.val, h⟩ j : S2048x1024.Idx) = ((View.whole main_v8_0).slice (win0_5.rect t)).emb (ix2 p j) := by
  have hN : t.val < 16 := lt_of_lt_of_eq t.isLt N_0
  blk_ext [idx_late t ht]

theorem dw_place (t : Fin cfg0.N) (j : Fin 1024) (q : Fin 1280) (h : t.val / 4 < 4) :
    (ix3 ⟨t.val / 4, h⟩ j q : S4x1024x1280.Idx) = ((View.whole main_v8_1).slice (win0_6.rect t)).emb (ix3 0 j q) := by
  blk_ext [idx t]

theorem final_dx : (dats m 0 c).arrAt 5 cfg0.N = DX m c := by
  refine (dats m 0 c).arrAt_eq_of_covers 5 _ (by decide +kernel) fun t ht y => ?_
  have hN : t.val < 16 := lt_of_lt_of_eq t.isLt N_0
  have h12 : 12 ≤ t.val := of_decide_eq_true ((live t).2.2.2.1.symm.trans ht)
  blk_simp
  rw [after0_5]
  idx_vars y
  have key := dx_total m c ⟨t.val - 12, by omega⟩ y0 y1
  have e : 12 + (t.val - 12) = t.val := by omega
  simp only [e] at key
  refine (key.trans ?_ : _ = DX m c (((View.whole main_v8_0).slice (win0_5.rect t)).emb (ix2 y0 y1)))
  rw [← dx_place t h12 y0 y1 (by omega)]
  have e5 : tok ⟨t.val - 12, by omega⟩ y0 = ⟨t.val % 4 * 512 + y0.val, by omega⟩ := Fin.ext (by show (t.val - 12) * 512 + y0.val = t.val % 4 * 512 + y0.val; omega)
  rw [e5]; rfl

theorem final_dw : (dats m 0 c).arrAt 6 cfg0.N = DW m c := by
  refine (dats m 0 c).arrAt_eq_of_covers 6 _ (by decide +kernel) fun t ht y => ?_
  have hN : t.val < 16 := lt_of_lt_of_eq t.isLt N_0
  have h3 : t.val % 4 = 3 := (flush0_6 _).mp ht
  blk_simp
  rw [after0_6, h3]
  idx_vars y
  obtain rfl : y0 = 0 := Subsingleton.elim _ _
  refine (dw_total m c ⟨t.val / 4, by omega⟩ y1 y2).trans (?_ : _ = DW m c (((View.whole main_v8_1).slice (win0_6.rect t)).emb (ix3 0 y1 y2)))
  rw [← dw_place t y1 y2 (by omega)]
  rfl

abbrev last : Fin cfg0.N := ⟨15, by decide +kernel⟩

theorem final_dg : (dats m 0 c).arrAt 7 cfg0.N = DG m c := by
  refine (dats m 0 c).arrAt_eq_of_after_last 7 last (by decide +kernel) _ fun j => ?_
  blk_simp
  rw [after0_7]
  idx_vars j
  obtain rfl : j0 = 0 := Subsingleton.elim _ _
  exact dg_total m c j1

/-- The run: the three results named by what the points leave, the arguments as they were. -/
theorem run_arrays (ρ : Dev nD → PrngReg) : θ_run defs (onTc (τ := τ) (main (F := Ideal))) ⟨m, fun _ => 0, ρ⟩ fun r => ∀ c : Dev nD,
      r.2.mem ((c : Thread nD τ).loc main_v8_0) = DX m c
      ∧ r.2.mem ((c : Thread nD τ).loc main_v8_1) = DW m c
      ∧ r.2.mem ((c : Thread nD τ).loc main_v8_2) = DG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.2 c).1 5).trans (final_dx m c), ((h.2 c).1 6).trans (final_dw m c), ((h.2 c).1 7).trans (final_dg m c), h.1.1 c⟩)
    (θ_run_and (frame m ρ) (run_main m ρ))

end Cert.NormMixBwdIdeal.Value

end
-- ==== Proof.NmxRef.lean ====
/-
  The derivative of the norm and the projection, as the problem's own lines give it, read at one place of each result.
-/
module

public import proofs.«01_k».proof.Proof.NormMath
public import proofs.«01_k».proof.Proof.Gen.NormMixBwdRefIdeal.Run
public import proofs.«01_k».proof.Proof.Gen.NormMixBwdRefIdeal.Read

@[expose] public section

set_option maxRecDepth 16384

noncomputable section

open Idealize.ShloMosaic Idealize.ShloMosaic.TcCoe Idealize.SL.Sem

namespace Cert.NormMixBwdRefIdeal.Value

open Cert.NormMixBwdRefIdeal Cert.NormMixBwdRefIdeal.Gen Cert.NormMixBwdRefIdeal.Read
open Cert.Rms (W E)
open Cert.NormMath (nrm back dot)

variable (x e : (⟨S1x2048x1024, .f32⟩ : BufTy).Contents (Elt Ideal)) (g : (⟨S1024, .f32⟩ : BufTy).Contents (Elt Ideal))
  (w : (⟨S1024x5120, .f32⟩ : BufTy).Contents (Elt Ideal)) (d : (⟨S1x2048x5120, .f32⟩ : BufTy).Contents (Elt Ideal))

abbrev xr (i : Fin 2048) : Fin 1024 → EReal := fun k => x (ix3 0 i k)
abbrev gr : Fin 1024 → EReal := fun k => g (ix1 k)
/-- The gradient at the normed row of token `i`. -/
abbrev hr (i : Fin 2048) : Fin 1024 → EReal := fun j => dot (fun q => d (ix3 0 i q)) (fun q => w (ix2 j q))

theorem v6_at (i : Fin 2048) : val_main_v6 (F := Ideal) x (ix3 0 i 0) = Ideal.div (∑ k, xr x i k * xr x i k) W + E := by
  pointwise [val_main_v6, val_main_v5, val_main_v4, val_main_v3, val_main_v2, val_main_v1, val_main_v0, val_main_cst, val_main_cst_0, val_main_cst_1]

theorem v7_at (i : Fin 2048) : val_main_v7 (F := Ideal) x (ix3 0 i 0) = Rms.rinv W E (xr x i) := by
  pointwise [val_main_v7, v6_at]
  rfl

theorem v10_at (i : Fin 2048) : val_main_v10 (F := Ideal) x (ix3 0 i 0)
    = Ideal.div (Rms.rinv W E (xr x i)) (Ideal.div (∑ k, xr x i k * xr x i k) W + E) * ((-(1 / 2) : ℝ) : EReal) := by
  pointwise [val_main_v10, val_main_v9, val_main_v8, val_main_cst_2, v7_at, v6_at]
  rw [Rms.neg_half_eq, mul_comm]

theorem v12_at (i : Fin 2048) (j : Fin 1024) : val_main_v12 (F := Ideal) x (ix3 0 i j) = nrm (xr x i) j := by
  pointwise [val_main_v12, val_main_v11, v7_at]
  rfl

theorem v15_at (i : Fin 2048) (j : Fin 1024) : val_main_v15 (F := Ideal) x g (ix3 0 i j) = nrm (xr x i) j * gr g j := by
  pointwise [val_main_v15, val_main_v14, val_main_v13, v12_at]

theorem v19_at (i : Fin 2048) (j : Fin 1024) : val_main_v19 (F := Ideal) w d (ix3 0 i j) = hr w d i j := by
  pointwise [val_main_v19]
  rfl

theorem v24_at (i : Fin 2048) (j : Fin 1024) : val_main_v24 (F := Ideal) g w d (ix3 0 i j) = hr w d i j * gr g j := by
  pointwise [val_main_v24, val_main_v23, val_main_v13, v19_at]

theorem v34_at (i : Fin 2048) : val_main_v34 (F := Ideal) x g w d (ix3 0 i 0)
    = Ideal.div ((∑ k, xr x i k * (hr w d i k * gr g k)) * (Ideal.div (Rms.rinv W E (xr x i)) (Ideal.div (∑ k, xr x i k * xr x i k) W + E) * ((-(1 / 2) : ℝ) : EReal))) W := by
  pointwise [val_main_v34, val_main_v33, val_main_v32, val_main_v28, val_main_v27, val_main_v26, v24_at, v10_at, val_main_cst_5, val_main_cst_6]

theorem v35_at (i : Fin 2048) : val_main_v35 (F := Ideal) x g w d (ix1 i) = val_main_v34 (F := Ideal) x g w d (ix3 0 i 0) := by
  refine (Rms.reduce_d0_2 reducesTo_S1x2048x1_S2048_d0_2 (val_main_v34 (F := Ideal) x g w d) _ i).trans ?_
  pointwise [val_main_cst_7]

theorem v25_at (j : Fin 1024) : val_main_v25 (F := Ideal) x w d (ix1 j) = val_main_v22 (F := Ideal) x w d (ix3 0 0 j) := by
  refine (Rms.reduce_d0_1 reducesTo_S1x1x1024_S1024_d0_1 (val_main_v22 (F := Ideal) x w d) _ j).trans ?_
  pointwise [val_main_cst_4]

theorem v42_at (i : Fin 2048) (j : Fin 1024) : val_main_v42 (F := Ideal) x g w d e (ix2 i j) = e (ix3 0 i j) + back (xr x i) (gr g) (hr w d i) j := by
  pointwise [val_main_v42, val_main_v41, val_main_v40, val_main_v39, val_main_v38, val_main_v37, val_main_v36, val_main_v31, val_main_v30, val_main_v29, v35_at, v34_at, v24_at, v7_at]
  exact NormMath.add_back (xr x i) (gr g) (hr w d i) _ j

theorem v45_at (j : Fin 1024) : val_main_v45 (F := Ideal) x w d (ix2 0 j) = ∑ i : Fin 2048, hr w d i j * nrm (xr x i) j := by
  pointwise [val_main_v45, v25_at, val_main_v22, val_main_v21, val_main_v20, v12_at, v19_at, val_main_cst_3]
  exact Finset.sum_congr rfl fun i _ => mul_comm _ _

theorem v44_at (s : Fin 4) (j : Fin 1024) (q : Fin 1280) : val_main_v44 (F := Ideal) x g d (ix3 s j q)
    = ∑ i : Fin 2048, nrm (xr x i) j * gr g j * d (ix3 0 i ⟨s.val * 1280 + q.val, by omega⟩) := by
  pointwise [val_main_v44, val_main_v43, val_main_v18, val_main_v17, v15_at]
  rw [Finset.univ_unique, Finset.sum_singleton]
  exact Finset.sum_congr rfl fun i _ => (mul_comm _ _).trans (congrArg (· * _) (v15_at x g i j))

/-- The reference's run, its three results named by their last lines. -/
theorem run_vals (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v44) = val_main_v44 (F := Ideal) (m ((c.tc : Thread nD τ).loc main_arg0)) (m ((c.tc : Thread nD τ).loc main_arg1)) (m ((c.tc : Thread nD τ).loc main_arg3))
      ∧ r.2.mem ((c.tc : Thread nD τ).loc main_v45) = val_main_v45 (F := Ideal) (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (val_main_v42_eq m c), (h c).2.1.trans (val_main_v44_eq _ _ _),
      (h c).2.2.1.trans (val_main_v45_eq _ _ _), (h c).2.2.2⟩)
    (run m ρ)

end Cert.NormMixBwdRefIdeal.Value

end
-- ==== Proof.NmxFrame.lean ====
/-
  The kernel that undoes a norm and the projection after it, as it is compiled: it runs to the end from any memory and
  leaves its arguments as they were.  Nothing is said here of what it stores; the module of its ideal reading says that.
-/
module

public import proofs.«01_k».proof.Proof.Gen.NormMixBwd.Frame
public import proofs.«01_k».proof.Proof.Gen.NormMixBwd.Skeleton
public import Idealize.ShloMosaic.Lib.Claim

@[expose] public section

set_option maxRecDepth 16384

noncomputable section

namespace Cert.NormMixBwd.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.NormMixBwd Cert.NormMixBwd.Gen

variable {F : FTy → Type} [FloatOps F]

local notation "𝕄" => MT nD τ sig Unit (Elt F) ℕ (UR sig nD τ) ℕ

/-- The conditions of the branches at a point, and no two that exclude each other. -/
theorem conds : ∀ t : Fin grid0.N, (k0_cond1 (grid0.coords t) = 1#1 ↔ t.val < 4) ∧ (k0_cond2 (grid0.coords t) = 1#1 ↔ ¬ t.val < 4)
    ∧ (k0_cond3 (grid0.coords t) = 1#1 ↔ t.val % 4 = 0) ∧ (k0_cond4 (grid0.coords t) = 1#1 ↔ ¬ t.val % 4 = 0)
    ∧ (k0_cond5 (grid0.coords t) = 1#1 ↔ 12 ≤ t.val) ∧ (k0_cond8 (grid0.coords t) = 1#1 ↔ t.val % 4 = 3)
    ∧ (Scalar.cmpi .ne (Scalar.extui (Scalar.cmpi .eq (BitVec.ofNat 32 (grid0.coords t 1).val) 0#32)) 0#32 = 1#1 ↔ t.val % 4 = 0)
    ∧ (Scalar.cmpi .ne (Scalar.extui (Scalar.xori (Scalar.cmpi .eq (BitVec.ofNat 32 (grid0.coords t 1).val) 0#32) 1#1)) 0#32 = 1#1 ↔ ¬ t.val % 4 = 0) := by
  decide +kernel

set_option maxHeartbeats 4000000 in
theorem run (c : Dev nD) (t : Fin grid0.N)
    (arg2 : Memref sig .tc .vmem S512x1024 .f32) (harg2 : arg2.IsWhole) (arg3 : Memref sig .tc .vmem S1x1024 .f32) (harg3 : arg3.IsWhole)
    (arg4 : Memref sig .tc .vmem S512x1280 .bf16) (harg4 : arg4.IsWhole) (arg5 : Memref sig .tc .vmem S1x1024x1280 .bf16) (harg5 : arg5.IsWhole)
    (arg6 : Memref sig .tc .vmem S512x1024 .f32) (harg6 : arg6.IsWhole) (arg7 : Memref sig .tc .vmem S512x1024 .f32) (harg7 : arg7.IsWhole)
    (arg8 : Memref sig .tc .vmem S1x1024x1280 .f32) (harg8 : arg8.IsWhole) (arg9 : Memref sig .tc .vmem S1x1024 .f32) (harg9 : arg9.IsWhole)
    (arg10 : Memref sig .tc .vmem S2048x1024 .f32) (harg10 : arg10.IsWhole) (arg11 : Memref sig .tc .vmem S1x1024 .f32) (harg11 : arg11.IsWhole)
    (x0 : Vec F S512x1024 .f32) (x1 : Vec F S1x1024 .f32) (x2 : Vec F S512x1280 .bf16) (x3 : Vec F S1x1024x1280 .bf16) (x4 : Vec F S512x1024 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4 ∗ (∃ d, owns (c : Thread nD τ) arg7 fullShare d)
          ∗ (∃ d, owns (c : Thread nD τ) arg8 fullShare d) ∗ (∃ d, owns (c : Thread nD τ) arg9 fullShare d)
          ∗ (∃ d, owns (c : Thread nD τ) arg10 fullShare d) ∗ (∃ d, owns (c : Thread nD τ) arg11 fullShare d)) -∗ K ⟨⟩))
      ⊢ wp frame (wpE (defs₀ (F := F)) Variants.none c none) E
          (cc0_mix_in_bwd (grid0.coords t) arg2 harg2 arg3 harg3 arg4 harg4 arg5 harg5 arg6 harg6 arg7 harg7 arg8 harg8 arg9 harg9 arg10 harg10 arg11 harg11) K := by
  have hN : t.val < 16 := t.isLt
  obtain ⟨c1, c2, c3, c4, c5, c8, c6, c7⟩ := conds t
  simp only [cc0_mix_in_bwd_eq_skeleton]; unfold cc0_mix_in_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9
  have hk : t.val < 4 ∨ ¬ t.val < 4 ∧ ¬ 12 ≤ t.val ∨ ¬ t.val < 4 ∧ 12 ≤ t.val := by omega
  have hj : t.val % 4 = 0 ∧ ¬ t.val % 4 = 3 ∨ ¬ t.val % 4 = 0 ∧ ¬ t.val % 4 = 3 ∨ ¬ t.val % 4 = 0 ∧ t.val % 4 = 3 := by omega
  rcases hk with hk | ⟨hk, hl⟩ | ⟨hk, hl⟩ <;> rcases hj with ⟨hj, hm⟩ | ⟨hj, hm⟩ | ⟨hj, hm⟩
  all_goals
    (try (have hl : ¬ 12 ≤ t.val := by omega))
    simp only [hk, hj, hl, hm, OfNat.ofNat_ne_zero, OfNat.zero_ne_ofNat, iff_true, iff_false, not_true, not_false_iff] at c1 c2 c3 c4 c5 c6 c7 c8
    sl_exec (disch := first | sl_exact c1 | sl_exact c2 | sl_exact c3 | sl_exact c4 | sl_exact c5 | sl_exact c8 | sl_exact c6 | sl_exact c7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexists _; isplitr; swap; iexact H5; ipureintro; rfl
    isplitl [H6]
    · iexists _; iexists _; isplitr; swap; iexact H6; ipureintro; rfl
    isplitl [H7]
    · iexists _; iexists _; isplitr; swap; iexact H7; ipureintro; rfl
    isplitl [H8]
    · iexists _; iexists _; isplitr; swap; iexact H8; ipureintro; rfl
    iexists _; iexists _; isplitr; swap; iexact H9; ipureintro; rfl

variable (m : (ℓ : Loc nD τ sig) → Buf (Elt F) ℓ) (ρ : Dev nD → PrngReg)

/-- The results, of which nothing is said. -/
def forgets0 : Fin 8 → Bool := fun w => decide (5 ≤ w.val)

/-- The blocks of the arguments stay in their buffers; of the core's own buffers nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

abbrev scH : Memref sig .tc .vmem S2048x1024 .f32 := Memref.whole cc0_scratch0
abbrev scG : Memref sig .tc .vmem S1x1024 .f32 := Memref.whole cc0_scratch1

theorem PhiA_eq (c : Dev nD) : (Pipeline.ΦA spec0 c : sProp 𝕄)
    = iprop(iprop((∃ d, owns (c : Thread nD τ) scH fullShare d) ∗ (∃ d, owns (c : Thread nD τ) scG fullShare d)) ∗ (∃ r, prngReg c r)) := by
  unfold Pipeline.ΦA; rw [scopedRest0_eq]; simp only [scH, scG, owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d)
    ∗ (∃ d, owns (c : Thread nD τ) (st0_6 t) fullShare d)
    ∗ (∃ d, owns (c : Thread nD τ) (st0_7 t) fullShare d))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t
    ∗ (∃ d, owns (c : Thread nD τ) (st0_5 t) fullShare d)
    ∗ (∃ d, owns (c : Thread nD τ) (st0_6 t) fullShare d)
    ∗ (∃ d, owns (c : Thread nD τ) (st0_7 t) fullShare d))

theorem leaves_live (c : Dev nD) (w : Fin cfg0.W) (t : Fin cfg0.N) (hi : cfg0.idle w (grid0.coords t) = false) :
    (dats m 0 c).leavesExact w t = owns (c : Thread nD τ) ((cfg0.win w).stage (cfg0.slots t w)) fullShare ((dats m 0 c).after w t) := by
  unfold Dat.leavesExact; rw [hi]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after0_0 m c), before0_1_of m (dats m 0 c) (A_eq m c 1) (after0_1 m c),
    before0_2_of m (dats m 0 c) (A_eq m c 2) (after0_2 m c), before0_3_of m (dats m 0 c) (A_eq m c 3) (after0_3 m c),
    before0_4_of m (dats m 0 c) (A_eq m c 4) (after0_4 m c)]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA_eq]
  rw [leaves_live m c 0 t rfl, leaves_live m c 1 t rfl, leaves_live m c 2 t rfl, leaves_live m c 3 t rfl, leaves_live m c 4 t rfl,
    after0_0, after0_1, after0_2, after0_3, after0_4]
  iintro ⟨⟨⟨HS0, HS1⟩, Hg⟩, Ho, ⟨%d0, H0⟩, ⟨%d1, H1⟩, ⟨%d2, H2⟩, ⟨%d3, H3⟩, ⟨%d4, H4⟩, H5, H6, H7⟩
  iapply (run c t _ _ _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ forgets0 := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- It leaves its arguments as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
      have k (b : Ref sig .tc) (hb : b ∈ Pipeline.restRefs sig (cfgs 0).spec) : r.2.mem ((c.tc : Thread nD τ).loc b) = V m c b := (h.1 c).2 b hb
      ⟨(k main_arg0 (Pipeline.mem_restRefs_of main_arg0 (by decide) (by decide))).trans (V_main_arg0 m c),
       (k main_arg1 (Pipeline.mem_restRefs_of main_arg1 (by decide) (by decide))).trans (V_main_arg1 m c),
       (k main_arg2 (Pipeline.mem_restRefs_of main_arg2 (by decide) (by decide))).trans (V_main_arg2 m c),
       (k main_arg3 (Pipeline.mem_restRefs_of main_arg3 (by decide) (by decide))).trans (V_main_arg3 m c),
       (k main_arg4 (Pipeline.mem_restRefs_of main_arg4 (by decide) (by decide))).trans (V_main_arg4 m c)⟩, h.2⟩) (run_main_quiescent m ρ)

end Cert.NormMixBwd.Body

end
-- ==== Proof.NmxPair.lean ====
/-
  The gradient through the norm and the projection before the mixer: the three frames, and the equality of the kernel's three results with the
  derivative of the problem's own lines.
-/
module

public import proofs.«01_k».proof.Defs
public import proofs.«01_k».proof.Proof.NmxValue
public import proofs.«01_k».proof.Proof.NmxRef
public import proofs.«01_k».proof.Proof.NmxFrame

@[expose] public section

set_option maxRecDepth 16384

noncomputable section

namespace Cert.Proof

open Idealize.ShloMosaic Idealize.SL.Sem

theorem frame_NormMixBwd : Cert.quiescent_NormMixBwd := fun m ρ _ => Cert.NormMixBwd.Body.frame m ρ
theorem frame_NormMixBwdIdeal : Cert.quiescent_NormMixBwdIdeal := fun m ρ _ => Cert.NormMixBwdIdeal.Body.frame m ρ
theorem frame_NormMixBwdRefIdeal : Cert.quiescent_NormMixBwdRefIdeal := fun m ρ _ =>
  (θ_run Cert.NormMixBwdRefIdeal.defs _ _).mono (fun r h => ⟨fun c => (h c).2.2.2,
      Idealize.ShloMosaic.sem_eq_zero_of_no_sems (by decide) r.2⟩)
    (Cert.NormMixBwdRefIdeal.Value.run_vals m ρ)

/-- The gradients at the tokens, at the projection and at the gain: the kernel's three results are the derivative, at
    every argument. -/
theorem algebraic_NormMixBwd : Cert.algebraic_NormMixBwdIdeal_NormMixBwdRefIdeal := by
  pair_intro
  · run_from Cert.NormMixBwdIdeal.Value.run_arrays m g
  · run_from Cert.NormMixBwdRefIdeal.Value.run_vals m' g'
    · funext i
      idx_vars i
      exact Cert.NormMixBwdRefIdeal.Value.v42_at _ _ _ _ _ i0 i1
    · funext i
      idx_vars i
      exact Cert.NormMixBwdRefIdeal.Value.v44_at _ _ _ i0 i1 i2
    · funext i
      idx_vars i
      obtain rfl : i0 = 0 := Subsingleton.elim _ _
      exact Cert.NormMixBwdRefIdeal.Value.v45_at _ _ _ i1

end Cert.Proof

end
-- ==== Proof.Pieces.lean ====
/-
  Rectangles that cut an array along one axis: where their places lie.
-/
module

public import Idealize.ShloMosaic.Lib.Pipeline.ValueKit
public import Idealize.ShloMosaic.Lib.Pointwise

@[expose] public section

open Idealize.ShloMosaic

namespace Cert.Pieces

/-- One plane of a stack of planes. -/
theorem plane_emb {K R C : ℕ} (o : ℕ) (ho : o < K) (i : ∀ a, (![o, 0, 0] : Fin 3 → ℕ) a + (![1, R, C] : Fin 3 → ℕ) a ≤ (⟨3, ![K, R, C]⟩ : Shape).size a)
    (z : Fin 1) (p : Fin R) (f : Fin C) :
    (Rect.unit (s := (⟨3, ![K, R, C]⟩ : Shape)) ![o, 0, 0] ![1, R, C] i).emb (ix3 z p f) = ix3 (⟨o, ho⟩ : Fin K) p f := by
  funext a; apply Fin.ext
  match a with
  | ⟨0, _⟩ => simp [Rect.emb_apply]
  | ⟨1, _⟩ => simp [Rect.emb_apply]
  | ⟨2, _⟩ => simp [Rect.emb_apply]

theorem plane_mem {K R C : ℕ} (o : ℕ) (i : ∀ a, (![o, 0, 0] : Fin 3 → ℕ) a + (![1, R, C] : Fin 3 → ℕ) a ≤ (⟨3, ![K, R, C]⟩ : Shape).size a)
    (y : (⟨3, ![K, R, C]⟩ : Shape).Idx) (h : (y 0).val = o) :
    y ∈ (Rect.unit (s := (⟨3, ![K, R, C]⟩ : Shape)) ![o, 0, 0] ![1, R, C] i).set := by
  refine Rect.mem_set_unit.mpr fun a => ?_
  match a with
  | ⟨0, _⟩ => exact ⟨h.ge, by show (y 0).val < o + 1; omega⟩
  | ⟨1, _⟩ => exact ⟨Nat.zero_le _, by show (y 1).val < 0 + R; have : (y 1).val < R := (y 1).isLt; omega⟩
  | ⟨2, _⟩ => exact ⟨Nat.zero_le _, by show (y 2).val < 0 + C; have : (y 2).val < C := (y 2).isLt; omega⟩

/-- A band of columns. -/
theorem band_emb {R C D : ℕ} (o : ℕ) (i : ∀ a, (![0, o] : Fin 2 → ℕ) a + (![R, D] : Fin 2 → ℕ) a ≤ (⟨2, ![R, C]⟩ : Shape).size a)
    (p : Fin R) (f : Fin D) (h : o + f.val < C) :
    (Rect.unit (s := (⟨2, ![R, C]⟩ : Shape)) ![0, o] ![R, D] i).emb (ix2 p f) = ix2 p (⟨o + f.val, h⟩ : Fin C) := by
  funext a; apply Fin.ext
  match a with
  | ⟨0, _⟩ => simp [Rect.emb_apply]
  | ⟨1, _⟩ => simp [Rect.emb_apply]

section Planes
variable {R C : ℕ} {e : EltTy}
  (i3 : ∀ a, (![3, 0, 0] : Fin 3 → ℕ) a + (![1, R, C] : Fin 3 → ℕ) a ≤ (⟨3, ![4, R, C]⟩ : Shape).size a)
  (i2 : ∀ a, (![2, 0, 0] : Fin 3 → ℕ) a + (![1, R, C] : Fin 3 → ℕ) a ≤ (⟨3, ![4, R, C]⟩ : Shape).size a)
  (i1 : ∀ a, (![1, 0, 0] : Fin 3 → ℕ) a + (![1, R, C] : Fin 3 → ℕ) a ≤ (⟨3, ![4, R, C]⟩ : Shape).size a)
  (i0 : ∀ a, (![0, 0, 0] : Fin 3 → ℕ) a + (![1, R, C] : Fin 3 → ℕ) a ≤ (⟨3, ![4, R, C]⟩ : Shape).size a)
  (w3 w2 w1 w0 : (⟨3, ![1, R, C]⟩ : Shape).Idx → Elt Ideal e)

/-- Four planes stored one by one fill the stack. -/
theorem planes_cover (y : (⟨3, ![4, R, C]⟩ : Shape).Idx) :
    ∃ p ∈ ([⟨Rect.unit ![3, 0, 0] ![1, R, C] i3, w3⟩, ⟨Rect.unit ![2, 0, 0] ![1, R, C] i2, w2⟩, ⟨Rect.unit ![1, 0, 0] ![1, R, C] i1, w1⟩,
      ⟨Rect.unit ![0, 0, 0] ![1, R, C] i0, w0⟩] : List (View.Piece (Elt Ideal) (⟨3, ![4, R, C]⟩ : Shape) e)), y ∈ p.1.set := by
  have hy : (y 0).val < 4 := (y 0).isLt
  have h : (y 0).val = 0 ∨ (y 0).val = 1 ∨ (y 0).val = 2 ∨ (y 0).val = 3 := by omega
  rcases h with h | h | h | h
  · exact ⟨⟨Rect.unit ![0, 0, 0] ![1, R, C] i0, w0⟩, .tail _ (.tail _ (.tail _ (.head _))), plane_mem 0 i0 y h⟩
  · exact ⟨⟨Rect.unit ![1, 0, 0] ![1, R, C] i1, w1⟩, .tail _ (.tail _ (.head _)), plane_mem 1 i1 y h⟩
  · exact ⟨⟨Rect.unit ![2, 0, 0] ![1, R, C] i2, w2⟩, .tail _ (.head _), plane_mem 2 i2 y h⟩
  · exact ⟨⟨Rect.unit ![3, 0, 0] ![1, R, C] i3, w3⟩, .head _, plane_mem 3 i3 y h⟩

/-- What each plane holds then. -/
theorem planes_at (s : Fin 4) (p : Fin R) (f : Fin C) :
    View.canon (Val := Elt Ideal) [⟨Rect.unit ![3, 0, 0] ![1, R, C] i3, w3⟩, ⟨Rect.unit ![2, 0, 0] ![1, R, C] i2, w2⟩,
      ⟨Rect.unit ![1, 0, 0] ![1, R, C] i1, w1⟩, ⟨Rect.unit ![0, 0, 0] ![1, R, C] i0, w0⟩] (ix3 s p f) = (![w0, w1, w2, w3] s) (ix3 0 p f) := by
  refine View.canon_apply_of_pieces (fun y : (⟨3, ![4, R, C]⟩ : Shape).Idx => (![w0, w1, w2, w3] (y 0)) (ix3 0 (y 1) (y 2))) _ (fun q hq x => ?_) (ix3 s p f)
    (planes_cover i3 i2 i1 i0 w3 w2 w1 w0 _)
  simp only [List.mem_cons, List.not_mem_nil, or_false] at hq
  rcases hq with rfl | rfl | rfl | rfl
  · obtain ⟨z, p, f, rfl⟩ : ∃ (z : Fin 1) (p : Fin R) (f : Fin C), x = ix3 z p f := ⟨x 0, x 1, x 2, by funext a; fin_cases a <;> rfl⟩
    rw [plane_emb 3 (by omega) i3 z p f, Subsingleton.elim z 0]; rfl
  · obtain ⟨z, p, f, rfl⟩ : ∃ (z : Fin 1) (p : Fin R) (f : Fin C), x = ix3 z p f := ⟨x 0, x 1, x 2, by funext a; fin_cases a <;> rfl⟩
    rw [plane_emb 2 (by omega) i2 z p f, Subsingleton.elim z 0]; rfl
  · obtain ⟨z, p, f, rfl⟩ : ∃ (z : Fin 1) (p : Fin R) (f : Fin C), x = ix3 z p f := ⟨x 0, x 1, x 2, by funext a; fin_cases a <;> rfl⟩
    rw [plane_emb 1 (by omega) i1 z p f, Subsingleton.elim z 0]; rfl
  · obtain ⟨z, p, f, rfl⟩ : ∃ (z : Fin 1) (p : Fin R) (f : Fin C), x = ix3 z p f := ⟨x 0, x 1, x 2, by funext a; fin_cases a <;> rfl⟩
    rw [plane_emb 0 (by omega) i0 z p f, Subsingleton.elim z 0]; rfl

end Planes

theorem zero2 : (![0, 0] : Fin 2 → ℕ) = fun _ => 0 := by funext a; fin_cases a <;> rfl

/-- One store of a whole array fills it. -/
theorem whole_cover {A B : ℕ} {e : EltTy} (i : ∀ a, (![0, 0] : Fin 2 → ℕ) a + (![A, B] : Fin 2 → ℕ) a ≤ (⟨2, ![A, B]⟩ : Shape).size a)
    (w : (⟨2, ![A, B]⟩ : Shape).Idx → Elt Ideal e) (y : (⟨2, ![A, B]⟩ : Shape).Idx) :
    ∃ p ∈ ([⟨Rect.unit ![0, 0] ![A, B] i, w⟩] : List (View.Piece (Elt Ideal) (⟨2, ![A, B]⟩ : Shape) e)), y ∈ p.1.set :=
  ⟨⟨Rect.unit ![0, 0] ![A, B] i, w⟩, .head _, View.mem_set_unit_zero (S := (⟨2, ![A, B]⟩ : Shape)) zero2 i y⟩

section Pick
variable {α : Type} (a b c d : α)
theorem pick0 : (![a, b, c, d] : Fin 4 → α) 0 = a := rfl
theorem pick1 : (![a, b, c, d] : Fin 4 → α) 1 = b := rfl
theorem pick2 : (![a, b, c, d] : Fin 4 → α) 2 = c := rfl
theorem pick3 : (![a, b, c, d] : Fin 4 → α) 3 = d := rfl
end Pick

section Bands
variable {R C D : ℕ} {e : EltTy}
  (i1 : ∀ a, (![0, D] : Fin 2 → ℕ) a + (![R, D] : Fin 2 → ℕ) a ≤ (⟨2, ![R, C]⟩ : Shape).size a)
  (i0 : ∀ a, (![0, 0] : Fin 2 → ℕ) a + (![R, D] : Fin 2 → ℕ) a ≤ (⟨2, ![R, C]⟩ : Shape).size a)
  (w1 w0 : (⟨2, ![R, D]⟩ : Shape).Idx → Elt Ideal e) (p : Fin R) (f : Fin D)

/-- Two bands of columns stored one by one: the right one and the left one. -/
theorem bands_right (h : D + f.val < C) (L : List (View.Piece (Elt Ideal) (⟨2, ![R, C]⟩ : Shape) e)) :
    View.canon (Val := Elt Ideal) (⟨Rect.unit ![0, D] ![R, D] i1, w1⟩ :: L) (ix2 p ⟨D + f.val, h⟩) = w1 (ix2 p f) :=
  (congrArg _ (band_emb D i1 p f h).symm).trans (View.canon_cons_emb (Rect.unit (s := (⟨2, ![R, C]⟩ : Shape)) ![0, D] ![R, D] i1) w1 L (ix2 p f))

theorem bands_left (h : f.val < C) :
    View.canon (Val := Elt Ideal) [⟨Rect.unit ![0, D] ![R, D] i1, w1⟩, ⟨Rect.unit ![0, 0] ![R, D] i0, w0⟩] (ix2 p ⟨f.val, h⟩) = w0 (ix2 p f) := by
  have e : (ix2 p ⟨f.val, h⟩ : (⟨2, ![R, C]⟩ : Shape).Idx) = ix2 p ⟨0 + f.val, by omega⟩ := congrArg (ix2 p) (Fin.ext (Nat.zero_add _).symm)
  refine (View.canon_cons_of_not_mem _ _ fun hm => ?_).trans ((congrArg _ (e.trans (band_emb 0 i0 p f (by omega)).symm)).trans
    (View.canon_cons_emb (Rect.unit (s := (⟨2, ![R, C]⟩ : Shape)) ![0, 0] ![R, D] i0) w0 [] (ix2 p f)))
  have := (Rect.mem_set_unit.mp (show ix2 p ⟨f.val, h⟩ ∈ (Rect.unit (s := (⟨2, ![R, C]⟩ : Shape)) ![0, D] ![R, D] i1).set from hm) 1).1
  simp at this
  omega

end Bands

end Cert.Pieces
-- ==== Proof.MixValue.lean ====
/-
  The kernel of the gates' and projections' gradient: what its six results hold, written at one place of each array.
-/
module

public import proofs.«01_k».proof.Proof.Gen.MixOutBwdIdeal.Value
public import Idealize.ShloMosaic.Lib.Pipeline.ValueKit
public import Idealize.ShloMosaic.Lib.Claim
public import Idealize.ShloMosaic.Lib.Pointwise
public import proofs.«01_k».proof.Proof.Pieces

@[expose] public section

set_option maxRecDepth 16384

noncomputable section

open Idealize.ShloMosaic Idealize.ShloMosaic.TcCoe Idealize.SL.Sem
open Idealize.ShloMosaic.Pipeline (Dat)

namespace Cert.MixOutBwdIdeal.Value

open Cert.MixOutBwdIdeal Cert.MixOutBwdIdeal.Gen

variable (m : (ℓ : Loc nD τ sig) → Buf (Elt Ideal) ℓ)

theorem idx : ∀ t : Fin cfg0.N, win0_0.index t = ![t.val, 0] ∧ win0_1.index t = ![t.val, 3] ∧ win0_2.index t = ![t.val, 4]
    ∧ win0_3.index t = ![t.val, 0] ∧ win0_4.index t = ![t.val, 0] ∧ win0_5.index t = ![0, 0, 0] ∧ win0_6.index t = ![0, 0]
    ∧ win0_7.index t = ![0, 0] ∧ win0_8.index t = ![t.val, 0] ∧ win0_9.index t = ![t.val, 0] ∧ win0_10.index t = ![t.val, 0] :=
  (by decide +kernel : ∀ t : Fin grid0.N, _)

/-- The arguments at one place: the projections' row, the pooled and the recurrent branch, the three weights, the cotangent. -/
abbrev lp (c : Dev nD) (i : Fin 2048) (f : Fin 1024) : EReal := m ((c.tc : Thread nD τ).loc main_arg0) (ix3 0 i ⟨3072 + f.val, by omega⟩)
abbrev lr (c : Dev nD) (i : Fin 2048) (f : Fin 1024) : EReal := m ((c.tc : Thread nD τ).loc main_arg0) (ix3 0 i ⟨4096 + f.val, by omega⟩)
abbrev pm (c : Dev nD) (i : Fin 2048) (k : Fin 512) : EReal := m ((c.tc : Thread nD τ).loc main_arg1) (ix3 0 i k)
abbrev zl (c : Dev nD) (i : Fin 2048) (k : Fin 1280) : EReal := m ((c.tc : Thread nD τ).loc main_arg2) (ix3 0 i k)
abbrev wpu (c : Dev nD) (k : Fin 512) (f : Fin 1024) : EReal := m ((c.tc : Thread nD τ).loc main_arg3) (ix2 k f)
abbrev wlu (c : Dev nD) (k : Fin 1280) (f : Fin 1024) : EReal := m ((c.tc : Thread nD τ).loc main_arg4) (ix2 k f)
abbrev wo (c : Dev nD) (f k : Fin 1024) : EReal := m ((c.tc : Thread nD τ).loc main_arg5) (ix2 f k)
abbrev ct (c : Dev nD) (i : Fin 2048) (k : Fin 1024) : EReal := m ((c.tc : Thread nD τ).loc main_arg6) (ix3 0 i k)

theorem wpu_blk (c : Dev nD) (t : Fin cfg0.N) (s : Fin 4) (k : Fin 512) (g : Fin 256) : iblk m c 5 t (ix3 s k g) = wpu m c k ⟨s.val * 256 + g.val, by omega⟩ := by
  blk_point [iblk, V, idx t]

section Blocks
variable (c : Dev nD) (t : Fin cfg0.N) (p : Fin 256) (h : t.val * 256 + p.val < 2048)

theorem ct_blk (k : Fin 1024) : iblk m c 0 t (ix2 p k) = ct m c ⟨t.val * 256 + p.val, h⟩ k := by
  blk_point [iblk, V, idx t]
theorem lp_blk (f : Fin 1024) : iblk m c 1 t (ix2 p f) = lp m c ⟨t.val * 256 + p.val, h⟩ f := by
  blk_point [iblk, V, idx t]
theorem lr_blk (f : Fin 1024) : iblk m c 2 t (ix2 p f) = lr m c ⟨t.val * 256 + p.val, h⟩ f := by
  blk_point [iblk, V, idx t]
theorem pm_blk (k : Fin 512) : iblk m c 3 t (ix2 p k) = pm m c ⟨t.val * 256 + p.val, h⟩ k := by
  blk_point [iblk, V, idx t]
theorem zl_blk (k : Fin 1280) : iblk m c 4 t (ix2 p k) = zl m c ⟨t.val * 256 + p.val, h⟩ k := by
  blk_point [iblk, V, idx t]
theorem wlu_blk (k : Fin 1280) (f : Fin 1024) : iblk m c 6 t (ix2 k f) = wlu m c k f := by
  blk_point [iblk, V, idx t]
theorem wo_blk (f k : Fin 1024) : iblk m c 7 t (ix2 f k) = wo m c f k := by
  blk_point [iblk, V, idx t]
end Blocks

section Pays
variable (a0 a1 a2 : Vec Ideal S256x1024 .f32) (a3 : Vec Ideal S256x512 .bf16) (a4 : Vec Ideal S256x1280 .bf16)
  (a5 : Vec Ideal S4x512x256 .bf16) (a6 : Vec Ideal S1280x1024 .bf16) (a7 : Vec Ideal S1024x1024 .bf16)

/-- The gradient at the merged branches, in one block's coordinates. -/
abbrev bm (p : Fin 256) (f : Fin 1024) : EReal := ∑ k : Fin 1024, a0 (ix2 p k) * a7 (ix2 f k)

/-- The two branches in one block's coordinates. -/
abbrev byp (p : Fin 256) (s : Fin 4) (g : Fin 256) : EReal := ∑ k : Fin 512, a3 (ix2 p k) * a5 (ix3 s k g)
abbrev byl (p : Fin 256) (f : Fin 1024) : EReal := ∑ k : Fin 1280, a4 (ix2 p k) * a6 (ix2 k f)

theorem pay8_apply (p : Fin 256) (f : Fin 1024) : k0_pay8 (k0_pay7 a0) a7 (ix2 p f) = bm a0 a7 p f := by
  pointwise [k0_pay8, k0_pay7]
theorem pay14_apply (p : Fin 256) (f : Fin 1024) : k0_pay14 (k0_pay5 a1) (k0_pay7 a0) a7 (ix2 p f) = bm a0 a7 p f * Ideal.logistic (a1 (ix2 p f)) := by
  pointwise [k0_pay14, k0_pay5, pay8_apply]
theorem pay15_apply (p : Fin 256) (f : Fin 1024) : k0_pay15 (k0_pay6 a2) (k0_pay7 a0) a7 (ix2 p f) = bm a0 a7 p f * Ideal.logistic (a2 (ix2 p f)) := by
  pointwise [k0_pay15, k0_pay6, pay8_apply]
theorem pay4_apply (p : Fin 256) (f : Fin 1024) : k0_pay4 a4 a6 (ix2 p f) = byl a4 a6 p f := by
  pointwise [k0_pay4, k0_pay2]
abbrev q (s : Fin 4) (i : ∀ a, (![s.val, 0, 0] : Fin 3 → ℕ) a + (![1, 512, 256] : Fin 3 → ℕ) a ≤ S4x512x256.size a) : Vec Ideal S1x512x256 .bf16 :=
  View.ld a5 (Rect.unit ![s.val, 0, 0] ![1, 512, 256] i)
theorem pay3_apply (p : Fin 256) (s : Fin 4) (g : Fin 256) :
    k0_pay3 a3 (View.ld a5 (Rect.unit ![0, 0, 0] ![1, 512, 256] inb_S4x512x256_S1x512x256_0_0_0))
              (View.ld a5 (Rect.unit ![1, 0, 0] ![1, 512, 256] inb_S4x512x256_S1x512x256_1_0_0))
              (View.ld a5 (Rect.unit ![2, 0, 0] ![1, 512, 256] inb_S4x512x256_S1x512x256_2_0_0))
              (View.ld a5 (Rect.unit ![3, 0, 0] ![1, 512, 256] inb_S4x512x256_S1x512x256_3_0_0)) (ix2 p ⟨s.val * 256 + g.val, by omega⟩)
      = byp a3 a5 p s g := by
  have e : s = 0 ∨ s = 1 ∨ s = 2 ∨ s = 3 := by omega
  rcases e with rfl | rfl | rfl | rfl
  · pointwise [k0_pay3, k0_pay1]
  · pointwise [k0_pay3, k0_pay1]
  · pointwise [k0_pay3, k0_pay1]
    rw [dif_neg (by omega), dif_neg (by omega), dif_pos (by omega)]
    exact Finset.sum_congr rfl fun k _ => congrArg (fun q => a3 (ix2 p k) * a5 (ix3 2 k q)) (Fin.ext (by dsimp; omega))
  · pointwise [k0_pay3, k0_pay1]
    rw [dif_neg (by omega), dif_neg (by omega), dif_neg (by omega)]
    exact Finset.sum_congr rfl fun k _ => congrArg (fun q => a3 (ix2 p k) * a5 (ix3 3 k q)) (Fin.ext (by dsimp; omega))
theorem pay12_apply (y : FVec Ideal S256x1024 .f32) (p : Fin 256) (f : Fin 1024) : k0_pay12 y (k0_pay5 a1) (k0_pay7 a0) a7 (ix2 p f)
    = bm a0 a7 p f * y (ix2 p f) * (Ideal.logistic (a1 (ix2 p f)) * (1 - Ideal.logistic (a1 (ix2 p f)))) := by
  pointwise [k0_pay12, k0_pay5, pay8_apply]
theorem pay13_apply (y : FVec Ideal S256x1024 .f32) (p : Fin 256) (f : Fin 1024) : k0_pay13 y (k0_pay6 a2) (k0_pay7 a0) a7 (ix2 p f)
    = bm a0 a7 p f * y (ix2 p f) * (Ideal.logistic (a2 (ix2 p f)) * (1 - Ideal.logistic (a2 (ix2 p f)))) := by
  pointwise [k0_pay13, k0_pay6, pay8_apply]
theorem pay9_apply (y z : FVec Ideal S256x1024 .f32) (f g : Fin 1024) : k0_pay9 y z (k0_pay5 a1) (k0_pay6 a2) (k0_pay7 a0) (ix2 f g)
    = ∑ p : Fin 256, (Ideal.logistic (a1 (ix2 p f)) * y (ix2 p f) + Ideal.logistic (a2 (ix2 p f)) * z (ix2 p f)) * a0 (ix2 p g) := by
  pointwise [k0_pay9, k0_pay5, k0_pay6, k0_pay7]
theorem pay31_apply (p : Fin 256) (k : Fin 512) :
    k0_pay31 (k0_pay14 (k0_pay5 a1) (k0_pay7 a0) a7)
      (k0_pay26 (k0_pay14 (k0_pay5 a1) (k0_pay7 a0) a7)
        (k0_pay17 (k0_pay5 a1) (k0_pay7 a0) a7
          (View.ld a5 (Rect.unit ![0, 0, 0] ![1, 512, 256] inb_S4x512x256_S1x512x256_0_0_0)))
        (View.ld a5 (Rect.unit ![1, 0, 0] ![1, 512, 256] inb_S4x512x256_S1x512x256_1_0_0))
        (View.ld a5 (Rect.unit ![2, 0, 0] ![1, 512, 256] inb_S4x512x256_S1x512x256_2_0_0)))
      (View.ld a5 (Rect.unit ![3, 0, 0] ![1, 512, 256] inb_S4x512x256_S1x512x256_3_0_0)) (ix2 p k)
      = ∑ s : Fin 4, ∑ g : Fin 256, (bm a0 a7 p ⟨s.val * 256 + g.val, by omega⟩ * Ideal.logistic (a1 (ix2 p ⟨s.val * 256 + g.val, by omega⟩))) * a5 (ix3 s k g) := by
  pointwise [k0_pay31, k0_pay26, k0_pay17, k0_pay16, k0_pay21, k0_pay25, k0_pay30, pay14_apply]
  rw [Fin.sum_univ_four]
  refine congrArg₂ (· + ·) (congrArg₂ (· + ·) (congrArg₂ (· + ·) (Finset.sum_congr rfl fun x _ => ?_) rfl) rfl) rfl
  have z : (⟨x.val, by omega⟩ : Fin 1024) = ⟨(0 : Fin 4).val * 256 + x.val, by have := x.isLt; dsimp; omega⟩ := Fin.ext (by simp)
  rw [z]
theorem pay35_apply (p : Fin 256) (k : Fin 1280) : k0_pay35 (k0_pay15 (k0_pay6 a2) (k0_pay7 a0) a7) a6 (ix2 p k)
    = ∑ f : Fin 1024, (bm a0 a7 p f * Ideal.logistic (a2 (ix2 p f))) * a6 (ix2 k f) := by
  pointwise [k0_pay35, pay15_apply]
theorem pay36_apply (k : Fin 1280) (g : Fin 1024) : k0_pay36 (k0_pay2 a4) (k0_pay15 (k0_pay6 a2) (k0_pay7 a0) a7) (ix2 k g)
    = ∑ p : Fin 256, a4 (ix2 p k) * (bm a0 a7 p g * Ideal.logistic (a2 (ix2 p g))) := by
  pointwise [k0_pay36, k0_pay2, pay15_apply]
end Pays

variable (c : Dev nD) (t : Fin cfg0.N)

theorem lt8 : t.val < 8 := lt_of_lt_of_eq t.isLt N_0
theorem abc : t.val % 8 = 0 ∨ (¬t.val % 8 = 0 ∧ ¬t.val % 8 = 7) ∨ t.val % 8 = 7 := by omega

/-- The gradient at the merged branches, at the two branches, and the branches themselves. -/
def dm (i : Fin 2048) (f : Fin 1024) : EReal := ∑ k, ct m c i k * wo m c f k
def dyp (i : Fin 2048) (f : Fin 1024) : EReal := dm m c i f * Ideal.logistic (lp m c i f)
def dyl (i : Fin 2048) (f : Fin 1024) : EReal := dm m c i f * Ideal.logistic (lr m c i f)
def yp (i : Fin 2048) (f : Fin 1024) : EReal := ∑ k, pm m c i k * wpu m c k f
def yl (i : Fin 2048) (f : Fin 1024) : EReal := ∑ k, zl m c i k * wlu m c k f

theorem split4 (f : Fin 1024) : ∃ (s : Fin 4) (g : Fin 256), f = ⟨s.val * 256 + g.val, by omega⟩ :=
  ⟨⟨f.val / 256, by omega⟩, ⟨f.val % 256, by omega⟩, Fin.ext (by dsimp; omega)⟩

section Rows
variable (p : Fin 256) (h : t.val * 256 + p.val < 2048)

theorem bm_row (f : Fin 1024) : bm (iblk m c 0 t) (iblk m c 7 t) p f = dm m c ⟨t.val * 256 + p.val, h⟩ f :=
  Finset.sum_congr rfl fun k _ => by rw [ct_blk m c t p h, wo_blk m c t]
theorem yp_row (s : Fin 4) (g : Fin 256) : byp (iblk m c 3 t) (iblk m c 5 t) p s g
    = yp m c ⟨t.val * 256 + p.val, h⟩ ⟨s.val * 256 + g.val, by omega⟩ :=
  Finset.sum_congr rfl fun k _ => by rw [pm_blk m c t p h, wpu_blk m c t]
theorem yl_row (f : Fin 1024) : byl (iblk m c 4 t) (iblk m c 6 t) p f = yl m c ⟨t.val * 256 + p.val, h⟩ f :=
  Finset.sum_congr rfl fun k _ => by rw [zl_blk m c t p h, wlu_blk m c t]
/-- The pooled branch as the block's body holds it. -/
abbrev Yp : FVec Ideal S256x1024 .f32 :=
    k0_pay3 (iblk m c 3 t) (View.ld (iblk m c 5 t) (Rect.unit ![0, 0, 0] ![1, 512, 256] inb_S4x512x256_S1x512x256_0_0_0))
              (View.ld (iblk m c 5 t) (Rect.unit ![1, 0, 0] ![1, 512, 256] inb_S4x512x256_S1x512x256_1_0_0))
              (View.ld (iblk m c 5 t) (Rect.unit ![2, 0, 0] ![1, 512, 256] inb_S4x512x256_S1x512x256_2_0_0))
              (View.ld (iblk m c 5 t) (Rect.unit ![3, 0, 0] ![1, 512, 256] inb_S4x512x256_S1x512x256_3_0_0))
theorem Yp_row (f : Fin 1024) : Yp m c t (ix2 p f) = yp m c ⟨t.val * 256 + p.val, h⟩ f := by
  obtain ⟨s, g, rfl⟩ := split4 f
  exact (pay3_apply _ _ p s g).trans (yp_row m c t p h s g)
theorem Yl_row (f : Fin 1024) : k0_pay4 (iblk m c 4 t) (iblk m c 6 t) (ix2 p f) = yl m c ⟨t.val * 256 + p.val, h⟩ f :=
  (pay4_apply _ _ p f).trans (yl_row m c t p h f)
end Rows

/-- The gradient at the gates' logits. -/
def dgl (i : Fin 2048) (f : Fin 2048) : EReal :=
  if h : f.val < 1024 then
    dm m c i ⟨f.val, h⟩ * yp m c i ⟨f.val, h⟩ * (Ideal.logistic (lp m c i ⟨f.val, h⟩) * (1 - Ideal.logistic (lp m c i ⟨f.val, h⟩)))
  else dm m c i ⟨f.val - 1024, by omega⟩ * yl m c i ⟨f.val - 1024, by omega⟩
    * (Ideal.logistic (lr m c i ⟨f.val - 1024, by omega⟩) * (1 - Ideal.logistic (lr m c i ⟨f.val - 1024, by omega⟩)))
def dpm (i : Fin 2048) (k : Fin 512) : EReal := ∑ f, dyp m c i f * wpu m c k f
def dzl (i : Fin 2048) (k : Fin 1280) : EReal := ∑ f, dyl m c i f * wlu m c k f

theorem dgl_left (p : Fin 256) (f : Fin 1024) (h : t.val * 256 + p.val < 2048) :
    (outsAt0 m c t.val t.isLt).1 (ix2 p ⟨f.val, by omega⟩) = dgl m c ⟨t.val * 256 + p.val, h⟩ ⟨f.val, by omega⟩ := by
  have hN := lt8 t
  have key : k0_pay12 (Yp m c t) (k0_pay5 (iblk m c 1 t)) (k0_pay7 (iblk m c 0 t)) (iblk m c 7 t) (ix2 p f)
      = dgl m c ⟨t.val * 256 + p.val, h⟩ ⟨f.val, by omega⟩ := by
    rw [pay12_apply, bm_row m c t p h, Yp_row m c t p h, lp_blk m c t p h, dgl, dif_pos f.isLt]
  rcases abc t with ht | ht | ht
  · rw [outsAt0_A m c t (by omega) (by omega) (by omega) (by omega) (by omega) (by omega) (by omega) (by omega) (by omega) (by omega) (by omega) (by omega) (by omega)]
    frame_out
    exact (Cert.Pieces.bands_left _ _ _ _ p f _).trans key
  · rw [outsAt0_B m c t (by omega) (by omega) (by omega) (by omega) (by omega) (by omega) (by omega) (by omega) (by omega) (by omega) (by omega) (by omega) (by omega)]
    frame_out
    exact (Cert.Pieces.bands_left _ _ _ _ p f _).trans key
  · rw [outsAt0_C m c t (by omega) (by omega) (by omega) (by omega) (by omega) (by omega) (by omega) (by omega) (by omega) (by omega) (by omega) (by omega) (by omega)]
    frame_out
    exact (Cert.Pieces.bands_left _ _ _ _ p f _).trans key

theorem dgl_right (p : Fin 256) (f : Fin 1024) (h : t.val * 256 + p.val < 2048) :
    (outsAt0 m c t.val t.isLt).1 (ix2 p ⟨1024 + f.val, by omega⟩) = dgl m c ⟨t.val * 256 + p.val, h⟩ ⟨1024 + f.val, by omega⟩ := by
  have hN := lt8 t
  have key : k0_pay13 (k0_pay4 (iblk m c 4 t) (iblk m c 6 t)) (k0_pay6 (iblk m c 2 t)) (k0_pay7 (iblk m c 0 t)) (iblk m c 7 t) (ix2 p f)
      = dgl m c ⟨t.val * 256 + p.val, h⟩ ⟨1024 + f.val, by omega⟩ := by
    rw [pay13_apply, bm_row m c t p h, Yl_row m c t p h, lr_blk m c t p h, dgl, dif_neg (by dsimp; omega)]
    have e : (⟨1024 + f.val - 1024, by omega⟩ : Fin 1024) = f := Fin.ext (by dsimp; omega)
    rw [e]
  rcases abc t with ht | ht | ht
  · rw [outsAt0_A m c t (by omega) (by omega) (by omega) (by omega) (by omega) (by omega) (by omega) (by omega) (by omega) (by omega) (by omega) (by omega) (by omega)]
    frame_out
    exact (Cert.Pieces.bands_right _ _ p f _ _).trans key
  · rw [outsAt0_B m c t (by omega) (by omega) (by omega) (by omega) (by omega) (by omega) (by omega) (by omega) (by omega) (by omega) (by omega) (by omega) (by omega)]
    frame_out
    exact (Cert.Pieces.bands_right _ _ p f _ _).trans key
  · rw [outsAt0_C m c t (by omega) (by omega) (by omega) (by omega) (by omega) (by omega) (by omega) (by omega) (by omega) (by omega) (by omega) (by omega) (by omega)]
    frame_out
    exact (Cert.Pieces.bands_right _ _ p f _ _).trans key

theorem dgl_point (p : Fin 256) (f : Fin 2048) (h : t.val * 256 + p.val < 2048) :
    (outsAt0 m c t.val t.isLt).1 (ix2 p f) = dgl m c ⟨t.val * 256 + p.val, h⟩ f := by
  by_cases hf : f.val < 1024
  · exact dgl_left m c t p ⟨f.val, hf⟩ h
  · have e : f = ⟨1024 + (f.val - 1024), by omega⟩ := Fin.ext (by dsimp; omega)
    rw [e]
    exact dgl_right m c t p ⟨f.val - 1024, by omega⟩ h

theorem dpm_point (p : Fin 256) (k : Fin 512) (h : t.val * 256 + p.val < 2048) :
    (outsAt0 m c t.val t.isLt).2.1 (ix2 p k) = dpm m c ⟨t.val * 256 + p.val, h⟩ k := by
  have hN := lt8 t
  have key := (pay31_apply (iblk m c 0 t) (iblk m c 1 t) (iblk m c 5 t) (iblk m c 7 t) p k).trans
    (show _ = dpm m c ⟨t.val * 256 + p.val, h⟩ k from Fin.sum_mul_add_congr (S := 4) (n := 256) (f := fun f : Fin 1024 => dyp m c ⟨t.val * 256 + p.val, h⟩ f * wpu m c k f)
      fun s g hl => by rw [bm_row m c t p h, lp_blk m c t p h, wpu_blk m c t]; rfl)
  rcases abc t with ht | ht | ht
  · rw [outsAt0_A m c t (by omega) (by omega) (by omega) (by omega) (by omega) (by omega) (by omega) (by omega) (by omega) (by omega) (by omega) (by omega) (by omega)]
    frame_out
    exact key
  · rw [outsAt0_B m c t (by omega) (by omega) (by omega) (by omega) (by omega) (by omega) (by omega) (by omega) (by omega) (by omega) (by omega) (by omega) (by omega)]
    frame_out
    exact key
  · rw [outsAt0_C m c t (by omega) (by omega) (by omega) (by omega) (by omega) (by omega) (by omega) (by omega) (by omega) (by omega) (by omega) (by omega) (by omega)]
    frame_out
    exact key

theorem dzl_point (p : Fin 256) (k : Fin 1280) (h : t.val * 256 + p.val < 2048) :
    (outsAt0 m c t.val t.isLt).2.2.1 (ix2 p k) = dzl m c ⟨t.val * 256 + p.val, h⟩ k := by
  have hN := lt8 t
  have key := (pay35_apply (iblk m c 0 t) (iblk m c 2 t) (iblk m c 6 t) (iblk m c 7 t) p k).trans
    (show _ = dzl m c ⟨t.val * 256 + p.val, h⟩ k from Finset.sum_congr rfl
      fun f _ => by rw [bm_row m c t p h, lr_blk m c t p h, wlu_blk m c t]; rfl)
  rcases abc t with ht | ht | ht
  · rw [outsAt0_A m c t (by omega) (by omega) (by omega) (by omega) (by omega) (by omega) (by omega) (by omega) (by omega) (by omega) (by omega) (by omega) (by omega)]
    frame_out
    exact key
  · rw [outsAt0_B m c t (by omega) (by omega) (by omega) (by omega) (by omega) (by omega) (by omega) (by omega) (by omega) (by omega) (by omega) (by omega) (by omega)]
    frame_out
    exact key
  · rw [outsAt0_C m c t (by omega) (by omega) (by omega) (by omega) (by omega) (by omega) (by omega) (by omega) (by omega) (by omega) (by omega) (by omega) (by omega)]
    frame_out
    exact key

/-- What one point adds to each weight's gradient. -/
def woTerm (i : Fin 2048) (f g : Fin 1024) : EReal :=
  (Ideal.logistic (lp m c i f) * yp m c i f + Ideal.logistic (lr m c i f) * yl m c i f) * ct m c i g
def puTerm (i : Fin 2048) (s : Fin 4) (k : Fin 512) (g : Fin 256) : EReal := pm m c i k * dyp m c i ⟨s.val * 256 + g.val, by omega⟩
def luTerm (i : Fin 2048) (k : Fin 1280) (g : Fin 1024) : EReal := zl m c i k * dyl m c i g

def woPt (j : S1024x1024.Idx) : EReal := ∑ p : Fin 256, woTerm m c ⟨t.val * 256 + p.val, by have := lt8 t; omega⟩ (j 0) (j 1)
def puPt (j : S4x512x256.Idx) : EReal := ∑ p : Fin 256, puTerm m c ⟨t.val * 256 + p.val, by have := lt8 t; omega⟩ (j 0) (j 1) (j 2)
def luPt (j : S1280x1024.Idx) : EReal := ∑ p : Fin 256, luTerm m c ⟨t.val * 256 + p.val, by have := lt8 t; omega⟩ (j 0) (j 1)

theorem wo_pay (j : S1024x1024.Idx) : k0_pay9 (Yp m c t) (k0_pay4 (iblk m c 4 t) (iblk m c 6 t)) (k0_pay5 (iblk m c 1 t)) (k0_pay6 (iblk m c 2 t)) (k0_pay7 (iblk m c 0 t)) j = woPt m c t j := by
  have hN := lt8 t
  idx_vars j
  refine (pay9_apply _ _ _ _ _ _ _).trans (Finset.sum_congr rfl fun p _ => ?_)
  have h : t.val * 256 + p.val < 2048 := by omega
  rw [Yp_row m c t p h, Yl_row m c t p h, lp_blk m c t p h, lr_blk m c t p h, ct_blk m c t p h]
  rfl

theorem lu_pay (j : S1280x1024.Idx) : k0_pay36 (k0_pay2 (iblk m c 4 t)) (k0_pay15 (k0_pay6 (iblk m c 2 t)) (k0_pay7 (iblk m c 0 t)) (iblk m c 7 t)) j = luPt m c t j := by
  have hN := lt8 t
  idx_vars j
  refine (pay36_apply _ _ _ _ _ _).trans (Finset.sum_congr rfl fun p _ => ?_)
  have h : t.val * 256 + p.val < 2048 := by omega
  rw [zl_blk m c t p h, lr_blk m c t p h, bm_row m c t p h]
  rfl

/-- One plane of the pooled projection's gradient, without and with what was there. -/
abbrev P14 : FVec Ideal S256x1024 .bf16 := k0_pay14 (k0_pay5 (iblk m c 1 t)) (k0_pay7 (iblk m c 0 t)) (iblk m c 7 t)
theorem P14_row (p : Fin 256) (h : t.val * 256 + p.val < 2048) (f : Fin 1024) : P14 m c t (ix2 p f) = dyp m c ⟨t.val * 256 + p.val, h⟩ f := by
  rw [P14, pay14_apply, bm_row m c t p h, lp_blk m c t p h]
  rfl

theorem pu_sum (s : Fin 4) (k : Fin 512) (g : Fin 256) :
    (∑ p : Fin 256, (show EReal from iblk m c 3 t (ix2 p k)) * P14 m c t (ix2 p ⟨s.val * 256 + g.val, by omega⟩)) = puPt m c t (ix3 s k g) := by
  have hN := lt8 t
  refine Finset.sum_congr rfl fun p _ => ?_
  have h : t.val * 256 + p.val < 2048 := by omega
  rw [P14_row m c t p h]
  exact congrArg (· * _) (pm_blk m c t p h k)

theorem pu0 (k : Fin 512) (g : Fin 256) : k0_pay18 (k0_pay1 (iblk m c 3 t)) (k0_pay5 (iblk m c 1 t)) (k0_pay7 (iblk m c 0 t)) (iblk m c 7 t) (ix2 k g) = puPt m c t (ix3 0 k g) := by
  rw [← pu_sum]
  pointwise [k0_pay18, k0_pay16, k0_pay1]
theorem pu1 (k : Fin 512) (g : Fin 256) : k0_pay22 (k0_pay1 (iblk m c 3 t)) (P14 m c t) (ix2 k g) = puPt m c t (ix3 1 k g) := by
  rw [← pu_sum]
  pointwise [k0_pay22, k0_pay21, k0_pay1]
theorem pu2 (k : Fin 512) (g : Fin 256) : k0_pay27 (k0_pay1 (iblk m c 3 t)) (P14 m c t) (ix2 k g) = puPt m c t (ix3 2 k g) := by
  rw [← pu_sum]
  pointwise [k0_pay27, k0_pay25, k0_pay1]
theorem pu3 (k : Fin 512) (g : Fin 256) : k0_pay32 (k0_pay1 (iblk m c 3 t)) (P14 m c t) (ix2 k g) = puPt m c t (ix3 3 k g) := by
  rw [← pu_sum]
  pointwise [k0_pay32, k0_pay30, k0_pay1]

theorem wo_start (ht : t.val % 8 = 0) (j : S1024x1024.Idx) : (outsAt0 m c t.val t.isLt).2.2.2.1 j = 0 + woPt m c t j := by
  have hN := lt8 t
  rw [outsAt0_A m c t (by omega) (by omega) (by omega) (by omega) (by omega) (by omega) (by omega) (by omega) (by omega) (by omega) (by omega) (by omega) (by omega), zero_add, ← wo_pay]
  frame_out
  idx_vars j
  pointwise [k0_pay10]
  rfl
theorem lu_start (ht : t.val % 8 = 0) (j : S1280x1024.Idx) : (outsAt0 m c t.val t.isLt).2.2.2.2.2.1 j = 0 + luPt m c t j := by
  have hN := lt8 t
  rw [outsAt0_A m c t (by omega) (by omega) (by omega) (by omega) (by omega) (by omega) (by omega) (by omega) (by omega) (by omega) (by omega) (by omega) (by omega), zero_add, ← lu_pay]
  frame_out
  idx_vars j
  pointwise [k0_pay37]
theorem pu_start (ht : t.val % 8 = 0) (j : S4x512x256.Idx) : (outsAt0 m c t.val t.isLt).2.2.2.2.1 j = 0 + puPt m c t j := by
  have hN := lt8 t
  rw [outsAt0_A m c t (by omega) (by omega) (by omega) (by omega) (by omega) (by omega) (by omega) (by omega) (by omega) (by omega) (by omega) (by omega) (by omega), zero_add]
  frame_out
  idx_vars j
  refine (Cert.Pieces.planes_at _ _ _ _ _ _ _ _ j0 j1 j2).trans ?_
  have e : j0 = 0 ∨ j0 = 1 ∨ j0 = 2 ∨ j0 = 3 := by omega
  rcases e with rfl | rfl | rfl | rfl
  · rw [← pu0]; rw [Cert.Pieces.pick0]; pointwise [k0_pay19]
  · rw [← pu1]; rw [Cert.Pieces.pick1]; pointwise [k0_pay23]
  · rw [← pu2]; rw [Cert.Pieces.pick2]; pointwise [k0_pay28]
  · rw [← pu3]; rw [Cert.Pieces.pick3]; pointwise [k0_pay33]

abbrev prev := outsAt0 m c (t.val - 1) (Nat.lt_of_le_of_lt (Nat.sub_le _ _) t.isLt)

theorem wo_step (ht : ¬t.val % 8 = 0) (j : S1024x1024.Idx) : (outsAt0 m c t.val t.isLt).2.2.2.1 j = (prev m c t).2.2.2.1 j + woPt m c t j := by
  have hN := lt8 t
  rw [← wo_pay]
  have e : ¬t.val % 8 = 7 ∨ t.val % 8 = 7 := by omega
  rcases e with h7 | h7
  · rw [outsAt0_B m c t (by omega) (by omega) (by omega) (by omega) (by omega) (by omega) (by omega) (by omega) (by omega) (by omega) (by omega) (by omega) (by omega)]
    frame_out
    idx_vars j
    pointwise [k0_pay11]
    exact congrArg (· + _) (congrFun (Memref.IsWhole.read_unread _ _) _)
  · rw [outsAt0_C m c t (by omega) (by omega) (by omega) (by omega) (by omega) (by omega) (by omega) (by omega) (by omega) (by omega) (by omega) (by omega) (by omega)]
    frame_out
    idx_vars j
    pointwise [k0_pay11]
    exact congrArg (· + _) (congrFun (Memref.IsWhole.read_unread _ _) _)
theorem lu_step (ht : ¬t.val % 8 = 0) (j : S1280x1024.Idx) : (outsAt0 m c t.val t.isLt).2.2.2.2.2.1 j = (prev m c t).2.2.2.2.2.1 j + luPt m c t j := by
  have hN := lt8 t
  rw [← lu_pay]
  have e : ¬t.val % 8 = 7 ∨ t.val % 8 = 7 := by omega
  rcases e with h7 | h7
  · rw [outsAt0_B m c t (by omega) (by omega) (by omega) (by omega) (by omega) (by omega) (by omega) (by omega) (by omega) (by omega) (by omega) (by omega) (by omega)]
    frame_out
    idx_vars j
    pointwise [k0_pay38]
    exact congrArg (· + _) (congrFun (Memref.IsWhole.read_unread _ _) _)
  · rw [outsAt0_C m c t (by omega) (by omega) (by omega) (by omega) (by omega) (by omega) (by omega) (by omega) (by omega) (by omega) (by omega) (by omega) (by omega)]
    frame_out
    idx_vars j
    pointwise [k0_pay38]
    exact congrArg (· + _) (congrFun (Memref.IsWhole.read_unread _ _) _)
/-- The four stores of one point after the first, plane by plane. -/
theorem pu_planes (x : Vec Ideal S4x512x256 .f32) (s : Fin 4) (k : Fin 512) (g : Fin 256) :
    (![k0_pay20 (k0_pay18 (k0_pay1 (iblk m c 3 t)) (k0_pay5 (iblk m c 1 t)) (k0_pay7 (iblk m c 0 t)) (iblk m c 7 t))
          (View.ld x (Rect.unit ![0, 0, 0] ![1, 512, 256] inb_S4x512x256_S1x512x256_0_0_0)),
       k0_pay24 (k0_pay1 (iblk m c 3 t)) (P14 m c t) (View.ld x (Rect.unit ![1, 0, 0] ![1, 512, 256] inb_S4x512x256_S1x512x256_1_0_0)),
       k0_pay29 (k0_pay27 (k0_pay1 (iblk m c 3 t)) (P14 m c t)) (View.ld x (Rect.unit ![2, 0, 0] ![1, 512, 256] inb_S4x512x256_S1x512x256_2_0_0)),
       k0_pay34 (k0_pay1 (iblk m c 3 t)) (P14 m c t) (View.ld x (Rect.unit ![3, 0, 0] ![1, 512, 256] inb_S4x512x256_S1x512x256_3_0_0))]
      s) (ix3 0 k g) = x (ix3 s k g) + puPt m c t (ix3 s k g) := by
  have e : s = 0 ∨ s = 1 ∨ s = 2 ∨ s = 3 := by omega
  rcases e with rfl | rfl | rfl | rfl
  · rw [← pu0]; rw [Cert.Pieces.pick0]; pointwise [k0_pay20]
  · rw [← pu1]; rw [Cert.Pieces.pick1]; pointwise [k0_pay24]
  · rw [← pu2]; rw [Cert.Pieces.pick2]; pointwise [k0_pay29]
  · rw [← pu3]; rw [Cert.Pieces.pick3]; pointwise [k0_pay34]

theorem pu_step (ht : ¬t.val % 8 = 0) (j : S4x512x256.Idx) : (outsAt0 m c t.val t.isLt).2.2.2.2.1 j = (prev m c t).2.2.2.2.1 j + puPt m c t j := by
  have hN := lt8 t
  have e : ¬t.val % 8 = 7 ∨ t.val % 8 = 7 := by omega
  rcases e with h7 | h7
  · rw [outsAt0_B m c t (by omega) (by omega) (by omega) (by omega) (by omega) (by omega) (by omega) (by omega) (by omega) (by omega) (by omega) (by omega) (by omega)]
    frame_out
    idx_vars j
    refine (Cert.Pieces.planes_at _ _ _ _ _ _ _ _ j0 j1 j2).trans ((pu_planes m c t _ j0 j1 j2).trans (congrArg (· + _) ?_))
    exact congrFun (Memref.IsWhole.read_unread _ _) _
  · rw [outsAt0_C m c t (by omega) (by omega) (by omega) (by omega) (by omega) (by omega) (by omega) (by omega) (by omega) (by omega) (by omega) (by omega) (by omega)]
    frame_out
    idx_vars j
    refine (Cert.Pieces.planes_at _ _ _ _ _ _ _ _ j0 j1 j2).trans ((pu_planes m c t _ j0 j1 j2).trans (congrArg (· + _) ?_))
    exact congrFun (Memref.IsWhole.read_unread _ _) _

/-- At the last point the three results take what the three sums hold. -/
theorem wo_copy (ht : t.val % 8 = 7) : (outsAt0 m c t.val t.isLt).2.2.2.2.2.2.1 = (outsAt0 m c t.val t.isLt).2.2.2.1 := by
  have hN := lt8 t
  rw [outsAt0_C m c t (by omega) (by omega) (by omega) (by omega) (by omega) (by omega) (by omega) (by omega) (by omega) (by omega) (by omega) (by omega) (by omega)]
  frame_out
  dsimp only [hbw0_C_0]
  unfold kernelRun0_C
  dsimp only
  frame_out
  refine (View.write_whole_univ _ _ _).trans ?_
  refine (View.read_writes_eq_canon _ _ _ (Cert.Pieces.whole_cover _ _)).trans ?_
  exact View.canon_unit_zero Cert.Pieces.zero2 _ _
theorem pu_copy (ht : t.val % 8 = 7) : (outsAt0 m c t.val t.isLt).2.2.2.2.2.2.2.1 = (outsAt0 m c t.val t.isLt).2.2.2.2.1 := by
  have hN := lt8 t
  rw [outsAt0_C m c t (by omega) (by omega) (by omega) (by omega) (by omega) (by omega) (by omega) (by omega) (by omega) (by omega) (by omega) (by omega) (by omega)]
  frame_out
  dsimp only [hbw0_C_1]
  unfold kernelRun0_C
  dsimp only
  frame_out
  refine (View.write_whole_univ _ _ _).trans ?_
  refine (View.read_writes_eq_canon _ _ _ (Cert.Pieces.planes_cover _ _ _ _ _ _ _ _)).trans ?_
  rfl
theorem lu_copy (ht : t.val % 8 = 7) : (outsAt0 m c t.val t.isLt).2.2.2.2.2.2.2.2 = (outsAt0 m c t.val t.isLt).2.2.2.2.2.1 := by
  have hN := lt8 t
  rw [outsAt0_C m c t (by omega) (by omega) (by omega) (by omega) (by omega) (by omega) (by omega) (by omega) (by omega) (by omega) (by omega) (by omega) (by omega)]
  frame_out
  dsimp only [hbw0_C_2]
  unfold kernelRun0_C
  dsimp only
  frame_out
  refine (View.write_whole_univ _ _ _).trans ?_
  refine (View.read_writes_eq_canon _ _ _ (Cert.Pieces.whole_cover _ _)).trans ?_
  exact View.canon_unit_zero Cert.Pieces.zero2 _ _

/-- The six results. -/
def DGL : Buf (Elt Ideal) ((c.tc : Thread nD τ).loc main_v11_0) := fun j => dgl m c (j 0) (j 1)
def DPM : Buf (Elt Ideal) ((c.tc : Thread nD τ).loc main_v11_1) := fun j => dpm m c (j 0) (j 1)
def DZL : Buf (Elt Ideal) ((c.tc : Thread nD τ).loc main_v11_2) := fun j => dzl m c (j 0) (j 1)
def DWO : Buf (Elt Ideal) ((c.tc : Thread nD τ).loc main_v11_3) := fun j => show EReal from ∑ i : Fin 2048, woTerm m c i (j 0) (j 1)
def DPU : Buf (Elt Ideal) ((c.tc : Thread nD τ).loc main_v11_4) := fun j => show EReal from ∑ i : Fin 2048, puTerm m c i (j 0) (j 1) (j 2)
def DLU : Buf (Elt Ideal) ((c.tc : Thread nD τ).loc main_v11_5) := fun j => show EReal from ∑ i : Fin 2048, luTerm m c i (j 0) (j 1)

theorem dgl_place (p : Fin 256) (k : Fin 2048) (h : t.val * 256 + p.val < 2048) :
    (ix2 ⟨t.val * 256 + p.val, h⟩ k : S2048x2048.Idx) = ((View.whole main_v11_0).slice (win0_8.rect t)).emb (ix2 p k) := by
  blk_ext [idx t]
theorem dgl_point' (p : Fin 256) (k : Fin 2048) :
    (outsAt0 m c t.val t.isLt).1 (ix2 p k) = DGL m c (((View.whole main_v11_0).slice (win0_8.rect t)).emb (ix2 p k)) := by
  have hN := lt8 t
  rw [← dgl_place t p k (by omega)]
  exact dgl_point m c t p k (by omega)
theorem final_dgl : (dats m 0 c).arrAt 8 cfg0.N = DGL m c := by
  refine (dats m 0 c).arrAt_eq_of_covers 8 _ (by decide +kernel) fun t _ y => ?_
  blk_simp
  rw [after0_8]
  idx_vars y
  exact dgl_point' m c t y0 y1

theorem dpm_place (p : Fin 256) (k : Fin 512) (h : t.val * 256 + p.val < 2048) :
    (ix2 ⟨t.val * 256 + p.val, h⟩ k : S2048x512.Idx) = ((View.whole main_v11_1).slice (win0_9.rect t)).emb (ix2 p k) := by
  blk_ext [idx t]
theorem dpm_point' (p : Fin 256) (k : Fin 512) :
    (outsAt0 m c t.val t.isLt).2.1 (ix2 p k) = DPM m c (((View.whole main_v11_1).slice (win0_9.rect t)).emb (ix2 p k)) := by
  have hN := lt8 t
  rw [← dpm_place t p k (by omega)]
  exact dpm_point m c t p k (by omega)
theorem final_dpm : (dats m 0 c).arrAt 9 cfg0.N = DPM m c := by
  refine (dats m 0 c).arrAt_eq_of_covers 9 _ (by decide +kernel) fun t _ y => ?_
  blk_simp
  rw [after0_9]
  idx_vars y
  exact dpm_point' m c t y0 y1

theorem dzl_place (p : Fin 256) (k : Fin 1280) (h : t.val * 256 + p.val < 2048) :
    (ix2 ⟨t.val * 256 + p.val, h⟩ k : S2048x1280.Idx) = ((View.whole main_v11_2).slice (win0_10.rect t)).emb (ix2 p k) := by
  blk_ext [idx t]
theorem dzl_point' (p : Fin 256) (k : Fin 1280) :
    (outsAt0 m c t.val t.isLt).2.2.1 (ix2 p k) = DZL m c (((View.whole main_v11_2).slice (win0_10.rect t)).emb (ix2 p k)) := by
  have hN := lt8 t
  rw [← dzl_place t p k (by omega)]
  exact dzl_point m c t p k (by omega)
theorem final_dzl : (dats m 0 c).arrAt 10 cfg0.N = DZL m c := by
  refine (dats m 0 c).arrAt_eq_of_covers 10 _ (by decide +kernel) fun t _ y => ?_
  blk_simp
  rw [after0_10]
  idx_vars y
  exact dzl_point' m c t y0 y1

abbrev last : Fin cfg0.N := ⟨7, by decide +kernel⟩
theorem final_wo : (outsAt0 m c last.val last.isLt).2.2.2.2.2.2.1 = DWO m c := by
  rw [wo_copy m c last (by decide +kernel)]
  funext j
  refine (Pipeline.eq_sum_fin_of_reset_step_apply_last (fun n h => (outsAt0 m c n h).2.2.2.1) 8 (fun _ => 0) (woPt m c)
    (wo_start m c) (wo_step m c) (by decide +kernel) last (by decide +kernel) j).trans ?_
  rw [zero_add]
  exact Fin.sum_mul_add_congr (S := 8) (n := 256) (fun s k hl => rfl)
theorem final_pu : (outsAt0 m c last.val last.isLt).2.2.2.2.2.2.2.1 = DPU m c := by
  rw [pu_copy m c last (by decide +kernel)]
  funext j
  refine (Pipeline.eq_sum_fin_of_reset_step_apply_last (fun n h => (outsAt0 m c n h).2.2.2.2.1) 8 (fun _ => 0) (puPt m c)
    (pu_start m c) (pu_step m c) (by decide +kernel) last (by decide +kernel) j).trans ?_
  rw [zero_add]
  exact Fin.sum_mul_add_congr (S := 8) (n := 256) (fun s k hl => rfl)
theorem final_lu : (outsAt0 m c last.val last.isLt).2.2.2.2.2.2.2.2 = DLU m c := by
  rw [lu_copy m c last (by decide +kernel)]
  funext j
  refine (Pipeline.eq_sum_fin_of_reset_step_apply_last (fun n h => (outsAt0 m c n h).2.2.2.2.2.1) 8 (fun _ => 0) (luPt m c)
    (lu_start m c) (lu_step m c) (by decide +kernel) last (by decide +kernel) j).trans ?_
  rw [zero_add]
  exact Fin.sum_mul_add_congr (S := 8) (n := 256) (fun s k hl => rfl)

end Cert.MixOutBwdIdeal.Value
end
-- ==== Proof.MixRef.lean ====
/-
  The derivative of the two gated branches' own lines, read at one place of each of its six results.
-/
module

public import proofs.«01_k».proof.Proof.MixValue
public import proofs.«01_k».proof.Proof.Gen.MixOutBwdRefIdeal.Run
public import proofs.«01_k».proof.Proof.Gen.MixOutBwdRefIdeal.Read

@[expose] public section

set_option maxRecDepth 16384

noncomputable section

open Idealize.ShloMosaic Idealize.ShloMosaic.TcCoe Idealize.SL.Sem

namespace Cert.MixOutBwdRefIdeal.Value

open Cert.MixOutBwdRefIdeal Cert.MixOutBwdRefIdeal.Gen Cert.MixOutBwdRefIdeal.Read

variable (x0 : (⟨S1x2048x5120, .f32⟩ : BufTy).Contents (Elt Ideal)) (x1 : (⟨S1x2048x512, .f32⟩ : BufTy).Contents (Elt Ideal))
  (x2 : (⟨S1x2048x1280, .f32⟩ : BufTy).Contents (Elt Ideal)) (x3 : (⟨S512x1024, .f32⟩ : BufTy).Contents (Elt Ideal))
  (x4 : (⟨S1280x1024, .f32⟩ : BufTy).Contents (Elt Ideal)) (x5 : (⟨S1024x1024, .f32⟩ : BufTy).Contents (Elt Ideal))
  (x6 : (⟨S1x2048x1024, .f32⟩ : BufTy).Contents (Elt Ideal))

/-- The gate at token `i` and lane `f` of both halves; the two branches; the gradient at their merge. -/
abbrev gt (i : Fin 2048) (f : Fin 2048) : EReal := Ideal.logistic (x0 (ix3 0 i ⟨3072 + f.val, by omega⟩))
abbrev bp (i : Fin 2048) (f : Fin 1024) : EReal := ∑ k : Fin 512, x1 (ix3 0 i k) * x3 (ix2 k f)
abbrev bl (i : Fin 2048) (f : Fin 1024) : EReal := ∑ k : Fin 1280, x2 (ix3 0 i k) * x4 (ix2 k f)
abbrev mg (i : Fin 2048) (f : Fin 1024) : EReal := ∑ k : Fin 1024, x6 (ix3 0 i k) * x5 (ix2 f k)
abbrev lo (f : Fin 1024) : Fin 2048 := ⟨f.val, by omega⟩
abbrev gh (i : Fin 2048) (f : Fin 1024) : EReal := Ideal.logistic (x0 (ix3 0 i ⟨4096 + f.val, by omega⟩))
theorem gt_hi (i : Fin 2048) (f : Fin 2048) (g : Fin 1024) (h : f.val = 1024 + g.val) : gt x0 i f = gh x0 i g :=
  congrArg (fun q => Ideal.logistic (x0 (ix3 0 i q))) (Fin.ext (by dsimp; omega))

theorem v8_at (i : Fin 2048) (f : Fin 2048) : val_main_v8 (F := Ideal) x0 (ix3 0 i f) = gt x0 i f := by
  pointwise [val_main_v8, val_main_v7, val_main_cst_0, val_main_v6, val_main_v5, val_main_cst, val_main_v4, val_main_v3, val_main_v0]
  rfl
theorem v11_at (i : Fin 2048) (f : Fin 2048) : val_main_v11 (F := Ideal) x0 (ix3 0 i f) = gt x0 i f * (1 - gt x0 i f) := by
  pointwise [val_main_v11, val_main_v10, val_main_v9, val_main_cst_1, v8_at]
theorem v12_at (i : Fin 2048) (f : Fin 1024) : val_main_v12 (F := Ideal) x0 (ix3 0 i f) = gt x0 i (lo f) := by
  pointwise [val_main_v12, v8_at]
theorem v13_at (i : Fin 2048) (f : Fin 1024) : val_main_v13 (F := Ideal) x0 (ix3 0 i f) = gh x0 i f := by
  pointwise [val_main_v13, v8_at]
  exact gt_hi x0 i _ f rfl
theorem v1_at (i : Fin 2048) (f : Fin 1024) : val_main_v1 (F := Ideal) x1 x3 (ix3 0 i f) = bp x1 x3 i f := by
  pointwise [val_main_v1]
theorem v2_at (i : Fin 2048) (f : Fin 1024) : val_main_v2 (F := Ideal) x2 x4 (ix3 0 i f) = bl x2 x4 i f := by
  pointwise [val_main_v2]
theorem v20_at (i : Fin 2048) (f : Fin 1024) : val_main_v20 (F := Ideal) x5 x6 (ix3 0 i f) = mg x5 x6 i f := by
  pointwise [val_main_v20]
theorem v16_at (i : Fin 2048) (f : Fin 1024) : val_main_v16 (F := Ideal) x0 x1 x2 x3 x4 (ix3 0 i f)
    = gt x0 i (lo f) * bp x1 x3 i f + gh x0 i f * bl x2 x4 i f := by
  pointwise [val_main_v16, val_main_v14, val_main_v15, v12_at, v13_at, v1_at, v2_at]
theorem v21_at (i : Fin 2048) (f : Fin 1024) : val_main_v21 (F := Ideal) x0 x5 x6 (ix3 0 i f) = gh x0 i f * mg x5 x6 i f := by
  pointwise [val_main_v21, v13_at, v20_at]
theorem v23_at (i : Fin 2048) (f : Fin 1024) : val_main_v23 (F := Ideal) x0 x5 x6 (ix3 0 i f) = gt x0 i (lo f) * mg x5 x6 i f := by
  pointwise [val_main_v23, v12_at, v20_at]
theorem v22_at (i : Fin 2048) (f : Fin 1024) : val_main_v22 (F := Ideal) x2 x4 x5 x6 (ix3 0 i f) = mg x5 x6 i f * bl x2 x4 i f := by
  pointwise [val_main_v22, v2_at, v20_at]
theorem v24_at (i : Fin 2048) (f : Fin 1024) : val_main_v24 (F := Ideal) x1 x3 x5 x6 (ix3 0 i f) = mg x5 x6 i f * bp x1 x3 i f := by
  pointwise [val_main_v24, v1_at, v20_at]

theorem v36_left (i : Fin 2048) (f : Fin 2048) (h : f.val < 1024) : val_main_v36 (F := Ideal) x0 x1 x2 x3 x4 x5 x6 (ix2 i f)
    = mg x5 x6 i ⟨f.val, h⟩ * bp x1 x3 i ⟨f.val, h⟩ * (gt x0 i f * (1 - gt x0 i f)) := by
  pointwise [val_main_v36, val_main_v35, val_main_v28, val_main_v27, val_main_v26, val_main_v25, val_main_cst_2, val_main_cst_3, v11_at, v22_at, v24_at]
  rw [dif_neg (by omega), dif_pos h, zero_add]
theorem v36_right (i : Fin 2048) (f : Fin 2048) (h : ¬f.val < 1024) : val_main_v36 (F := Ideal) x0 x1 x2 x3 x4 x5 x6 (ix2 i f)
    = mg x5 x6 i ⟨f.val - 1024, by omega⟩ * bl x2 x4 i ⟨f.val - 1024, by omega⟩ * (gh x0 i ⟨f.val - 1024, by omega⟩ * (1 - gh x0 i ⟨f.val - 1024, by omega⟩)) := by
  pointwise [val_main_v36, val_main_v35, val_main_v28, val_main_v27, val_main_v26, val_main_v25, val_main_cst_2, val_main_cst_3, v11_at, v22_at, v24_at]
  rw [dif_pos (by omega), dif_neg h, add_zero, gt_hi x0 i f ⟨f.val - 1024, by omega⟩ (by dsimp; omega)]
theorem v37_at (i : Fin 2048) (k : Fin 512) : val_main_v37 (F := Ideal) x0 x3 x5 x6 (ix2 i k) = ∑ f : Fin 1024, mg x5 x6 i f * gt x0 i (lo f) * x3 (ix2 k f) := by
  pointwise [val_main_v37, val_main_v34, v23_at]
  exact Finset.sum_congr rfl fun f _ => congrArg (· * _) (mul_comm _ _)
theorem v38_at (i : Fin 2048) (k : Fin 1280) : val_main_v38 (F := Ideal) x0 x4 x5 x6 (ix2 i k) = ∑ f : Fin 1024, mg x5 x6 i f * gh x0 i f * x4 (ix2 k f) := by
  pointwise [val_main_v38, val_main_v31, v21_at]
  exact Finset.sum_congr rfl fun f _ => congrArg (· * _) (mul_comm _ _)
theorem v19_at (f g : Fin 1024) : val_main_v19 (F := Ideal) x0 x1 x2 x3 x4 x6 (ix2 f g)
    = ∑ i : Fin 2048, (gt x0 i (lo f) * bp x1 x3 i f + gh x0 i f * bl x2 x4 i f) * x6 (ix3 0 i g) := by
  pointwise [val_main_v19, val_main_v18, v16_at]
  rw [Finset.univ_unique, Finset.sum_singleton]
  exact Finset.sum_congr rfl fun i _ => (mul_comm _ _).trans (congrArg (· * _) (v16_at x0 x1 x2 x3 x4 i f))
theorem v30_at (k : Fin 1280) (g : Fin 1024) : val_main_v30 (F := Ideal) x0 x2 x5 x6 (ix2 k g)
    = ∑ i : Fin 2048, x2 (ix3 0 i k) * (mg x5 x6 i g * gh x0 i g) := by
  pointwise [val_main_v30, val_main_v29, v21_at]
  rw [Finset.univ_unique, Finset.sum_singleton]
  exact Finset.sum_congr rfl fun i _ => (mul_comm _ _).trans (congrArg (_ * ·) ((v21_at x0 x5 x6 i g).trans (mul_comm _ _)))
theorem v40_at (s : Fin 4) (k : Fin 512) (g : Fin 256) : val_main_v40 (F := Ideal) x0 x1 x5 x6 (ix3 s k g)
    = ∑ i : Fin 2048, x1 (ix3 0 i k) * (mg x5 x6 i ⟨s.val * 256 + g.val, by omega⟩ * gt x0 i (lo ⟨s.val * 256 + g.val, by omega⟩)) := by
  pointwise [val_main_v40, val_main_v39, val_main_v33, val_main_v32, v23_at]
  rw [Finset.univ_unique, Finset.sum_singleton]
  exact Finset.sum_congr rfl fun i _ => (mul_comm _ _).trans (congrArg (_ * ·) ((v23_at x0 x5 x6 i _).trans (mul_comm _ _)))

/-- The reference's run, its six results named by their last lines. -/
theorem run_vals (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = val_main_v36 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v37) = val_main_v37 (F := Ideal) (m ((c.tc : Thread nD τ).loc main_arg0)) (m ((c.tc : Thread nD τ).loc main_arg3)) (m ((c.tc : Thread nD τ).loc main_arg5)) (m ((c.tc : Thread nD τ).loc main_arg6))
      ∧ r.2.mem ((c.tc : Thread nD τ).loc main_v38) = val_main_v38 (F := Ideal) (m ((c.tc : Thread nD τ).loc main_arg0)) (m ((c.tc : Thread nD τ).loc main_arg4)) (m ((c.tc : Thread nD τ).loc main_arg5)) (m ((c.tc : Thread nD τ).loc main_arg6))
      ∧ r.2.mem ((c.tc : Thread nD τ).loc main_v19) = val_main_v19 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))
      ∧ r.2.mem ((c.tc : Thread nD τ).loc main_v40) = val_main_v40 (F := Ideal) (m ((c.tc : Thread nD τ).loc main_arg0)) (m ((c.tc : Thread nD τ).loc main_arg1)) (m ((c.tc : Thread nD τ).loc main_arg5)) (m ((c.tc : Thread nD τ).loc main_arg6))
      ∧ r.2.mem ((c.tc : Thread nD τ).loc main_v30) = val_main_v30 (F := Ideal) (m ((c.tc : Thread nD τ).loc main_arg0)) (m ((c.tc : Thread nD τ).loc main_arg2)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (val_main_v36_eq _ _ _ _ _ _ _), (h c).2.1.trans (val_main_v37_eq _ _ _ _), (h c).2.2.1.trans (val_main_v38_eq _ _ _ _),
      (h c).2.2.2.1.trans (val_main_v19_eq _ _ _ _ _ _), (h c).2.2.2.2.1.trans (val_main_v40_eq _ _ _ _), (h c).2.2.2.2.2.1.trans (val_main_v30_eq _ _ _ _), (h c).2.2.2.2.2.2⟩)
    (run m ρ)

end Cert.MixOutBwdRefIdeal.Value
end
-- ==== Proof.MixPair.lean ====
/-
  The gradient of the two gated branches and of the three projections around them: the frames, and the equality of the kernel's six
  results with the derivative of the branches' own lines.
-/
module

public import proofs.«01_k».proof.Defs
public import proofs.«01_k».proof.Proof.MixRef
public import proofs.«01_k».proof.Proof.Gen.MixOutBwd.Frame

@[expose] public section

set_option maxRecDepth 16384

noncomputable section

namespace Cert.Proof

open Idealize.ShloMosaic Idealize.SL.Sem

theorem frame_MixOutBwd : Cert.quiescent_MixOutBwd := fun m ρ _ => Cert.MixOutBwd.Gen.frame m ρ
theorem frame_MixOutBwdIdeal : Cert.quiescent_MixOutBwdIdeal := fun m ρ _ => Cert.MixOutBwdIdeal.Gen.frame m ρ
theorem frame_MixOutBwdRefIdeal : Cert.quiescent_MixOutBwdRefIdeal := fun m ρ _ =>
  (θ_run Cert.MixOutBwdRefIdeal.defs _ _).mono (fun r h => ⟨fun c => (h c).2.2.2.2.2.2,
      Idealize.ShloMosaic.sem_eq_zero_of_no_sems (by decide) r.2⟩)
    (Cert.MixOutBwdRefIdeal.Value.run_vals m ρ)

/-- The six results: the gradients at the gates' logits, at the pooled and at the recurrent branch, and at the three weights. -/
theorem algebraic_MixOutBwd : Cert.algebraic_MixOutBwdIdeal_MixOutBwdRefIdeal := by
  pair_intro
  · run_from Cert.MixOutBwdIdeal.Value.run_blocks m g
  · run_from Cert.MixOutBwdRefIdeal.Value.run_vals m' g'
    · rw [Cert.MixOutBwdIdeal.Value.final_dgl]
      funext i
      idx_vars i
      by_cases h : i1.val < 1024
      · exact (Cert.MixOutBwdRefIdeal.Value.v36_left _ _ _ _ _ _ _ i0 i1 h).trans
          (show _ = Cert.MixOutBwdIdeal.Value.dgl m c i0 i1 from (by rw [Cert.MixOutBwdIdeal.Value.dgl, dif_pos h]; rfl))
      · exact (Cert.MixOutBwdRefIdeal.Value.v36_right _ _ _ _ _ _ _ i0 i1 h).trans
          (show _ = Cert.MixOutBwdIdeal.Value.dgl m c i0 i1 from (by rw [Cert.MixOutBwdIdeal.Value.dgl, dif_neg h]; rfl))
    · rw [Cert.MixOutBwdIdeal.Value.final_dpm]
      funext i
      idx_vars i
      exact Cert.MixOutBwdRefIdeal.Value.v37_at _ _ _ _ i0 i1
    · rw [Cert.MixOutBwdIdeal.Value.final_dzl]
      funext i
      idx_vars i
      exact Cert.MixOutBwdRefIdeal.Value.v38_at _ _ _ _ i0 i1
    · refine Eq.trans ?_ (Cert.MixOutBwdIdeal.Value.final_wo m c).symm
      funext i
      idx_vars i
      exact Cert.MixOutBwdRefIdeal.Value.v19_at _ _ _ _ _ _ i0 i1
    · refine Eq.trans ?_ (Cert.MixOutBwdIdeal.Value.final_pu m c).symm
      funext i
      idx_vars i
      exact Cert.MixOutBwdRefIdeal.Value.v40_at _ _ _ _ i0 i1 i2
    · refine Eq.trans ?_ (Cert.MixOutBwdIdeal.Value.final_lu m c).symm
      funext i
      idx_vars i
      exact Cert.MixOutBwdRefIdeal.Value.v30_at _ _ _ _ i0 i1

end Cert.Proof

end
-- ==== Proof.PoolMath.lean ====
/-
  Window sums of a column of real numbers: as a difference of two partial sums, by doubling over shifted rows, and as the
  host's sum over a padded window.
-/
module

public import Idealize.ShloMosaic.PureOps.Ideal
public import Idealize.ShloMosaic.PureOps.Contract
public import Idealize.ShloMosaic.Lib.Pointwise
public import Idealize.ShloMosaic.Lib.WordCmp

@[expose] public section

set_option maxRecDepth 16384

noncomputable section

namespace Cert.PoolMath

open Idealize.ShloMosaic

/-- A column continued by zero. -/
def ext (r : Fin 2048 → ℝ) (s : ℕ) : ℝ := if h : s < 2048 then r ⟨s, h⟩ else 0

/-- The sum of the first `k` rows. -/
def csum (r : Fin 2048 → ℝ) (k : ℕ) : ℝ := ∑ s ∈ Finset.range k, ext r s

/-- The sum of the `n` rows ending at row `p`, and of the `n` rows starting there. -/
def back (r : Fin 2048 → ℝ) (n p : ℕ) : ℝ := csum r (p + 1) - csum r (p + 1 - n)
def ahead (r : Fin 2048 → ℝ) (n p : ℕ) : ℝ := csum r (p + n) - csum r p

variable (r : Fin 2048 → ℝ)

theorem csum_zero : csum r 0 = 0 := Finset.sum_range_zero _

theorem csum_succ (k : ℕ) : csum r (k + 1) = csum r k + ext r k := Finset.sum_range_succ _ _

theorem csum_end (k : ℕ) : csum r (2048 + k) = csum r 2048 := by
  induction k with
  | zero => rfl
  | succ k ih =>
    rw [← Nat.add_assoc, csum_succ, ih, ext, dif_neg (by omega), add_zero]

theorem back_one (i : Fin 2048) : back r 1 i.val = r i := by
  rw [back, Nat.add_sub_cancel, csum_succ, add_sub_cancel_left, ext, dif_pos i.isLt]

theorem ahead_one (i : Fin 2048) : ahead r 1 i.val = r i := by
  rw [ahead, csum_succ, add_sub_cancel_left, ext, dif_pos i.isLt]

theorem back_double (n p : ℕ) : back r n p + (if n ≤ p then back r n (p - n) else 0) = back r (n + n) p := by
  unfold back
  split
  · next h =>
    rw [show p - n + 1 = p + 1 - n by omega, show p + 1 - n - n = p + 1 - (n + n) by omega]
    ring
  · next h =>
    rw [show p + 1 - n = 0 by omega, show p + 1 - (n + n) = 0 by omega, add_zero]

theorem ahead_double (n p : ℕ) : ahead r n p + (if p + n < 2048 then ahead r n (p + n) else 0) = ahead r (n + n) p := by
  unfold ahead
  split
  · next h =>
    rw [show p + n + n = p + (n + n) by omega]
    ring
  · next h =>
    obtain ⟨k, hk⟩ := Nat.exists_eq_add_of_le (show 2048 ≤ p + n by omega)
    rw [hk, show p + (n + n) = 2048 + (k + n) by omega, csum_end, csum_end, add_zero]

/-- A sum over a window of places `i - lo, …, i - lo + m - 1`, those before place 0 left out. -/
theorem sum_window (lo i m : ℕ) :
    ∑ b ∈ Finset.range m, (if lo ≤ i + b then ext r (i + b - lo) else 0) = csum r (i + m - lo) - csum r (i - lo) := by
  induction m with
  | zero => rw [Finset.sum_range_zero, Nat.add_zero, sub_self]
  | succ m ih =>
    rw [Finset.sum_range_succ, ih]
    split
    · next h =>
      rw [show i + (m + 1) - lo = i + m - lo + 1 by omega, csum_succ]
      ring
    · next h =>
      rw [show i + (m + 1) - lo = i + m - lo by omega, add_zero]

theorem coe_sum {ι : Type*} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem foldl_add {α : Type*} (g : α → EReal) (l : List α) (z : EReal) : l.foldl (fun a n => a + g n) z = z + (l.map g).sum := by
  induction l generalizing z with
  | nil => exact (add_zero z).symm
  | cons a l ih => rw [List.foldl_cons, ih, List.map_cons, List.sum_cons, add_assoc]

/-- Place `j` of the window of row `i` is a row of the operand. -/
abbrev Inside (lo : ℕ) (q : Fin 128) (i : Fin 2048) (j : (⟨3, ![1, 2048, 1]⟩ : Shape).Idx) : Prop :=
  ∀ a : Fin 3, (![0, lo, 0] : Fin 3 → ℕ) a ≤ ((ix3 0 i q : (⟨3, ![1, 2048, 128]⟩ : Shape).Idx) a).val * (![1, 1, 1] : Fin 3 → ℕ) a + (j a).val
    ∧ ((ix3 0 i q : (⟨3, ![1, 2048, 128]⟩ : Shape).Idx) a).val * (![1, 1, 1] : Fin 3 → ℕ) a + (j a).val - (![0, lo, 0] : Fin 3 → ℕ) a
      < (⟨3, ![1, 2048, 128]⟩ : Shape).size a

/-- One place of the window. -/
theorem window_term (lo : ℕ) (x : (⟨3, ![1, 2048, 128]⟩ : Shape).Idx → EReal) (q : Fin 128)
    (hx : ∀ s : Fin 2048, x (ix3 0 s q) = (r s : EReal)) (i : Fin 2048) (j : (⟨3, ![1, 2048, 1]⟩ : Shape).Idx) (dec : Decidable (Inside lo q i j)) :
    @dite EReal (Inside lo q i j) dec
      (fun hin => x (fun a => ⟨((ix3 0 i q : (⟨3, ![1, 2048, 128]⟩ : Shape).Idx) a).val * (![1, 1, 1] : Fin 3 → ℕ) a + (j a).val - (![0, lo, 0] : Fin 3 → ℕ) a, (hin a).2⟩))
      (fun _ => 0) = ((if lo ≤ i.val + (j 1).val then ext r (i.val + (j 1).val - lo) else 0 : ℝ) : EReal) := by
  have j0 : (j 0).val < 1 := (j 0).isLt
  have j2 : (j 2).val < 1 := (j 2).isLt
  have hq := q.isLt
  by_cases hin : lo ≤ i.val + (j 1).val ∧ i.val + (j 1).val - lo < 2048
  · rw [dif_pos (fun a => by
      match a with
      | ⟨0, _⟩ => show 0 ≤ 0 * 1 + (j 0).val ∧ 0 * 1 + (j 0).val - 0 < 1; omega
      | ⟨1, _⟩ => show lo ≤ i.val * 1 + (j 1).val ∧ i.val * 1 + (j 1).val - lo < 2048; omega
      | ⟨2, _⟩ => show 0 ≤ q.val * 1 + (j 2).val ∧ q.val * 1 + (j 2).val - 0 < 128; omega), if_pos hin.1, ext, dif_pos hin.2, ← hx]
    refine congrArg x (funext fun a => Fin.ext ?_)
    match a with
    | ⟨0, _⟩ => show 0 * 1 + (j 0).val - 0 = 0; omega
    | ⟨1, _⟩ => show i.val * 1 + (j 1).val - lo = i.val + (j 1).val - lo; omega
    | ⟨2, _⟩ => show q.val * 1 + (j 2).val - 0 = q.val; omega
  · rw [dif_neg (fun hall => hin (by
      have h1 := hall 1
      change lo ≤ i.val * 1 + (j 1).val ∧ i.val * 1 + (j 1).val - lo < 2048 at h1
      omega))]
    split
    · next hl => rw [ext, dif_neg (fun h => hin ⟨hl, h⟩)]; rfl
    · rfl

/-- The host's window sum along the rows of a real column: the window of 2048 rows, `lo` of them before the row itself. -/
theorem reduceWindow_at (lo hi : ℕ) (x : (⟨3, ![1, 2048, 128]⟩ : Shape).Idx → EReal) (q : Fin 128)
    (hx : ∀ s : Fin 2048, x (ix3 0 s q) = (r s : EReal)) (init : (⟨0, ![]⟩ : Shape).Idx → EReal) (h0 : ∀ i, init i = 0)
    (h : (⟨3, ![1, 2048, 128]⟩ : Shape).ReduceWindows ![1, 2048, 1] ![1, 1, 1] ![0, lo, 0] ![0, hi, 0] ⟨3, ![1, 2048, 128]⟩)
    (hu : 0 < (⟨0, ![]⟩ : Shape).numel) (i : Fin 2048) :
    Host.reduceWindowAdd (F := Ideal) (φ := .f32) (s := ⟨3, ![1, 2048, 128]⟩) ![1, 2048, 1] ![1, 1, 1] ![0, lo, 0] ![0, hi, 0] x init h hu (ix3 0 i q)
      = ((csum r (i.val + 2048 - lo) - csum r (i.val - lo) : ℝ) : EReal) := by
  show Ideal.hostReduceWindowAdd _ _ _ _ h x (init (Shape.Idx.first hu)) (ix3 0 i q) = _
  unfold Ideal.hostReduceWindowAdd Host.reduceWindow
  dsimp only
  rw [foldl_add, h0, zero_add, ← Fin.sum_univ_def, ← sum_window, coe_sum]
  refine (Fintype.sum_equiv (Shape.rowMajor (⟨3, ![1, 2048, 1]⟩ : Shape)).symm _
    (fun j => ((if lo ≤ i.val + (j 1).val then ext r (i.val + (j 1).val - lo) else 0 : ℝ) : EReal)) fun n => ?_).trans ?_
  · exact window_term r lo x q hx i _ _
  · rw [sum_idx3]
    simp only [Fin.sum_univ_one, Finset.univ_unique, Finset.sum_singleton, ix3_1]
    exact Fin.sum_univ_eq_sum_range (fun b => ((if lo ≤ i.val + b then ext r (i.val + b - lo) else 0 : ℝ) : EReal)) 2048

/-- The number of rows a window ending at row `i` covers. -/
def cnt (n i : ℕ) : EReal := ((min (i + 1) n : ℕ) : ℝ)

theorem cnt_word (n : ℕ) (hn : n < 2048) (i : ℕ) (hi : i < 2048) :
    (((IntOp.minsi (IntOp.addi (BitVec.ofNat 32 i) 1#32) (BitVec.ofNat 32 n)).toInt : ℝ) : EReal) = cnt n i := by
  have h : IntOp.minsi (IntOp.addi (BitVec.ofNat 32 i) 1#32) (BitVec.ofNat 32 n) = BitVec.ofNat 32 (min (i + 1) n) := by
    have e : IntOp.addi (BitVec.ofNat 32 i) 1#32 = BitVec.ofNat 32 (i + 1) := (BitVec.ofNat_add i 1).symm
    rw [e, IntOp.minsi, BitVec.slt, WordCmp.toInt_ofNat_of_lt (by omega), WordCmp.toInt_ofNat_of_lt (by omega)]
    by_cases hlt : i + 1 < n
    · rw [if_pos (decide_eq_true (by omega)), Nat.min_eq_left (by omega)]
    · rw [if_neg (by rw [decide_eq_true_eq]; omega), Nat.min_eq_right (by omega)]
  rw [h, WordCmp.toInt_ofNat_of_lt (by omega), cnt, Int.cast_natCast]

theorem cnt_real (n i : ℕ) : min (1 + ((i : ℝ) : EReal)) ((n : ℝ) : EReal) = cnt n i := by
  rw [cnt, Nat.cast_min, EReal.coe_strictMono.monotone.map_min, Nat.cast_add, EReal.coe_add, add_comm, Nat.cast_one, EReal.coe_one]

/-- A window's mean less the row itself. -/
def pmean (n i : ℕ) (a u : EReal) : EReal := Ideal.div a (cnt n i) - u
/-- A group's linear map, bias and scale. -/
def mix (p w : Fin 128 → EReal) (b s : EReal) : EReal := ((∑ k, p k * w k) + b) * s

/-- The running sum moved `m + 1` rows down, zeros above it. -/
theorem shifted (m : ℕ) (cs : Fin 2048 → EReal) (hcs : ∀ i, cs i = (csum r (i.val + 1) : EReal)) (z z' : EReal) (hz : z = 0) (hz' : z' = 0) (i : Fin 2048) :
    (if h : i.val < m then z else if h' : i.val - m < 1 then z' else cs ⟨i.val - m - 1, by omega⟩) = (csum r (i.val - m) : EReal) := by
  split
  · rw [hz, show i.val - m = 0 by omega, csum_zero, EReal.coe_zero]
  · split
    · rw [hz', show i.val - m = 0 by omega, csum_zero, EReal.coe_zero]
    · rw [hcs]
      exact congrArg (fun k => ((csum r k : ℝ) : EReal)) (show i.val - m - 1 + 1 = i.val - m by omega)

/-- The trailing mean less the row, by the difference of two running sums. -/
theorem mean_at (m i : ℕ) (a b o t w u : EReal) (ha : a = (csum r (i + 1) : EReal)) (hb : b = (csum r (i - m) : EReal)) (ho : o = 1)
    (ht : t = ((i : ℝ) : EReal)) (hw : w = (((m + 1 : ℕ) : ℝ) : EReal)) : Ideal.div (a - b) (min (o + t) w) - u = pmean (m + 1) i (back r (m + 1) i) u := by
  rw [ha, hb, ho, ht, hw, cnt_real, pmean, back, ← EReal.coe_sub, Nat.add_sub_add_right]

/-- A row's number, made a real. -/
theorem row_real (i : Fin 2048) : FloatOps.sitofp (F := Ideal) .f32 (BitVec.ofNat 32 i.val) = ((i.val : ℝ) : EReal) := by
  show (((BitVec.ofNat 32 i.val).toInt : ℝ) : EReal) = _
  rw [WordCmp.toInt_ofNat_of_lt (by omega), Int.cast_natCast]

/-! The four windows' lengths. -/
theorem word2 : Ideal.ofBits .f32 0x40000000#32 = (((1 + 1 : ℕ) : ℝ) : EReal) := by
  simp [Ideal.ofBits, Ideal.ieee]; rw [← EReal.coe_mul]; norm_num
theorem word4 : Ideal.ofBits .f32 0x40800000#32 = (((3 + 1 : ℕ) : ℝ) : EReal) := by
  simp [Ideal.ofBits, Ideal.ieee]; rw [← EReal.coe_mul]; norm_num
theorem word8 : Ideal.ofBits .f32 0x41000000#32 = (((7 + 1 : ℕ) : ℝ) : EReal) := by
  simp [Ideal.ofBits, Ideal.ieee]; rw [← EReal.coe_mul]; norm_num
theorem word16 : Ideal.ofBits .f32 0x41800000#32 = (((15 + 1 : ℕ) : ℝ) : EReal) := by
  simp [Ideal.ofBits, Ideal.ieee]; rw [← EReal.coe_mul]; norm_num

/-- The columns of group `g`. -/
abbrev col (r : Fin 512 → Fin 2048 → ℝ) (g : Fin 4) (k : Fin 128) : Fin 2048 → ℝ := r ⟨128 * g.val + k.val, by omega⟩

/-- What the kernel writes at a place of channel `128 g + q`, from the columns, weights, biases and scales it reads. -/
def chan (X : Fin 2048 → Fin 512 → EReal) (r : Fin 512 → Fin 2048 → ℝ) (W : Fin 4 → Fin 128 → Fin 128 → EReal) (B : Fin 4 → Fin 128 → EReal)
    (S : Fin 512 → EReal) (g : Fin 4) (i : Fin 2048) (q : Fin 128) : EReal :=
  mix (fun k => pmean (2 ^ (g.val + 1)) i.val (back (col r g k) (2 ^ (g.val + 1)) i.val) (X i ⟨128 * g.val + k.val, by omega⟩))
    (fun k => W g k q) (B g q) (S ⟨128 * g.val + q.val, by omega⟩)

/-- A channel's group and its place in it. -/
def grp (k : Fin 512) : Fin 4 := ⟨k.val / 128, by omega⟩
def lane (k : Fin 512) : Fin 128 := ⟨k.val % 128, by omega⟩
theorem grp_lane (k : Fin 512) (h : 128 * (grp k).val + (lane k).val < 512) : (⟨128 * (grp k).val + (lane k).val, h⟩ : Fin 512) = k :=
  Fin.ext (Nat.div_add_mod k.val 128)

end Cert.PoolMath

end
-- ==== Proof.PoolGrad.lean ====
/-
  The pooling branch's gradients as formulas of the columns, weights, biases, scales and cotangents; and the window sum of
  the following rows, by a running sum from the end.
-/
module

public import proofs.«01_k».proof.Proof.PoolMath
public import proofs.«01_k».proof.Proof.Fin

@[expose] public section

noncomputable section

namespace Cert.PoolMath

open Idealize.ShloMosaic

/-- The count of a window's rows is a positive real number, so a real number divided by it is one. -/
theorem div_real (n i : ℕ) (hn : 0 < n) {x : EReal} (hx : ∃ a : ℝ, x = a) : ∃ a : ℝ, Ideal.div x (cnt n i) = a := by
  obtain ⟨a, rfl⟩ := hx
  have h : ((min (i + 1) n : ℕ) : ℝ) ≠ 0 := Nat.cast_ne_zero.mpr (by omega)
  exact ⟨a * (1 / ((min (i + 1) n : ℕ) : ℝ)), (Ideal.div_coe h _).trans (EReal.coe_mul _ _).symm⟩

/-- A column less itself `n` rows later. -/
def drop (n : ℕ) (r : Fin 2048 → ℝ) (s : Fin 2048) : ℝ := r s - ext r (s.val + n)

theorem ext_drop (n : ℕ) (r : Fin 2048 → ℝ) (s : ℕ) : ext (drop n r) s = ext r s - ext r (s + n) := by
  by_cases h : s < 2048
  · rw [ext, dif_pos h, drop, ext, ext, dif_pos h]
  · rw [ext, dif_neg h, ext, dif_neg h, ext, dif_neg (by omega), sub_zero]

theorem csum_drop (n : ℕ) (r : Fin 2048 → ℝ) (k : ℕ) : csum (drop n r) k = csum r k - csum r (k + n) + csum r n := by
  induction k with
  | zero => rw [csum_zero, csum_zero, Nat.zero_add, zero_sub, neg_add_cancel]
  | succ k ih =>
    rw [csum_succ, ih, ext_drop, csum_succ, Nat.add_right_comm, csum_succ]
    ring

/-- The sum from a row to the end of such differences is the sum of the `n` rows starting there. -/
theorem drop_ahead (n : ℕ) (r : Fin 2048 → ℝ) (i : ℕ) : csum (drop n r) (i + 2048 - 0) - csum (drop n r) (i - 0) = ahead r n i := by
  rw [Nat.sub_zero, Nat.sub_zero, csum_drop, csum_drop, Nat.add_comm i 2048, csum_end, Nat.add_assoc, csum_end, ahead]
  ring

section formulas
variable (X : Fin 2048 → Fin 512 → EReal) (r : Fin 512 → Fin 2048 → ℝ) (W : Fin 4 → Fin 128 → Fin 128 → EReal) (B : Fin 4 → Fin 128 → EReal)
  (S : Fin 512 → EReal) (C : Fin 2048 → Fin 512 → EReal) (g : Fin 4) (i : Fin 2048) (k q : Fin 128)

/-- Channel `q` of group `g`. -/
abbrev at4 (g : Fin 4) (q : Fin 128) : Fin 512 := ⟨128 * g.val + q.val, by omega⟩

/-- A group's pooled column. -/
def pl : EReal := pmean (2 ^ (g.val + 1)) i.val (back (col r g k) (2 ^ (g.val + 1)) i.val) (X i (at4 g k))
/-- The linear map of the pooled columns. -/
def mx : EReal := (∑ k, pl X r g i k * W g k q) + B g q
/-- The cotangent of the linear map. -/
def dm : EReal := C i (at4 g q) * S (at4 g q)
/-- The cotangent of the pooled column. -/
def dp : EReal := ∑ q, dm S C g i q * W g k q
/-- The gradients of the scale, the bias and the weights. -/
def dScale : EReal := ∑ i, C i (at4 g q) * mx X r W B g i q
def dBias : EReal := ∑ i, dm S C g i q
def dWts : EReal := ∑ i, pl X r g i k * dm S C g i q
/-- The gradient of the pooled branch's columns, `p` being the cotangent of the pooled column over the window's count. -/
def dCol (p : Fin 4 → Fin 128 → Fin 2048 → ℝ) : EReal := (ahead (p g k) (2 ^ (g.val + 1)) i.val : EReal) - dp W S C g i k

theorem dp_div_real (hW : ∀ g k q, ∃ a : ℝ, W g k q = a) (hS : ∀ k, ∃ a : ℝ, S k = a) (hC : ∀ i k, ∃ a : ℝ, C i k = a) :
    ∃ a : ℝ, Ideal.div (dp W S C g i k) (cnt (2 ^ (g.val + 1)) i.val) = a :=
  div_real _ _ (Nat.two_pow_pos _) (Cert.Finite.real_sum _ _ fun q => Cert.Finite.real_mul (Cert.Finite.real_mul (hC _ _) (hS _)) (hW _ _ _))
end formulas

end Cert.PoolMath

end
-- ==== Proof.PoolBuf.lean ====
/-
  The pooling kernels' buffer: eight zero rows, a block of 2048 rows, eight zero rows. Read some rows earlier or later it
  gives the block's rows there, and zero outside; so a window sum of `n` rows makes one of `2 n` rows.
-/
module

public import proofs.«01_k».proof.Proof.PoolMath
public import Idealize.ShloMosaic.Lib.WritesUnit
public import Idealize.ShloMosaic.Lib.Pipeline.ValueKit

@[expose] public section

set_option maxRecDepth 16384

noncomputable section

namespace Cert.PoolBuf

open Idealize.ShloMosaic Cert.PoolMath

abbrev Bu : Shape := ⟨2, ![2064, 128]⟩
abbrev Bl : Shape := ⟨2, ![2048, 128]⟩
abbrev Pd : Shape := ⟨2, ![8, 128]⟩

/-- A block holds, column by column, a sequence of real numbers. -/
def Holds (g : Fin 128 → ℕ → ℝ) (w : Bl.Idx → EReal) : Prop := ∀ (i : Fin 2048) (q : Fin 128), w (ix2 i q) = (g q i.val : EReal)

theorem Holds.of_eq {g : Fin 128 → ℕ → ℝ} {w x : Bl.Idx → EReal} (hx : Holds g x) (e : w = x) : Holds g w := e ▸ hx

variable {sg : RefSig} {κ : Kind} {sp : Space} {v : View sg κ sp Bu .f32} {f : v.ty.Contents (Elt Ideal)}
  {L : List (View.Piece (Elt Ideal) Bu .f32)}

/-- The first and the last eight rows hold zero. -/
structure Pads (v : View sg κ sp Bu .f32) (f : v.ty.Contents (Elt Ideal)) (L : List (View.Piece (Elt Ideal) Bu .f32)) : Prop where
  zero : ∀ (p : Fin 2064) (q : Fin 128), p.val < 8 ∨ 2056 ≤ p.val → v.read (Elt Ideal) (v.writes (Elt Ideal) f L) (ix2 p q) = 0

theorem Pads.start {w w' : Pd.Idx → EReal} (hw : ∀ i, w i = 0) (hw' : ∀ i, w' i = 0)
    (inb : ∀ a : Fin 2, ![2056, 0] a + Pd.size a ≤ Bu.size a) (inb' : ∀ a : Fin 2, ![0, 0] a + Pd.size a ≤ Bu.size a) :
    Pads v f [⟨Rect.unit (s := Bu) ![2056, 0] Pd.size inb, w⟩, ⟨Rect.unit (s := Bu) ![0, 0] Pd.size inb', w'⟩] :=
  ⟨fun p q hp => by
    have hlt := p.isLt
    by_cases hlow : p.val < 8
    · exact (View.read_writes_cons_rows_of_not_mem (o := 2056) (W := 8) v f inb w _ (ix2 p q) rfl rfl (Or.inl (by show p.val < 2056; omega))).trans
        ((View.read_writes_cons_rows_of_mem (o := 0) v f inb' w' _ (ix2 p q) (ix2 (⟨p.val, hlow⟩ : Fin 8) q) rfl (Nat.zero_add _).symm rfl).trans (hw' _))
    · exact (View.read_writes_cons_rows_of_mem (o := 2056) v f inb w _ (ix2 p q) (ix2 (⟨p.val - 2056, by omega⟩ : Fin 8) q) rfl
        (by show p.val = 2056 + (p.val - 2056); omega) rfl).trans (hw _)⟩

theorem Pads.cons (h : Pads v f L) (inb : ∀ a : Fin 2, ![8, 0] a + Bl.size a ≤ Bu.size a) (w : Bl.Idx → EReal) :
    Pads v f ((⟨Rect.unit (s := Bu) ![8, 0] Bl.size inb, w⟩ : View.Piece (Elt Ideal) Bu .f32) :: L) :=
  ⟨fun p q hp => (View.read_writes_cons_rows_of_not_mem (o := 8) (W := 2048) v f inb w L (ix2 p q) rfl rfl hp).trans (h.zero p q hp)⟩

/-- The block's rows read from row `o` of the buffer on. -/
theorem load (h : Pads v f L) (inb : ∀ a : Fin 2, ![8, 0] a + Bl.size a ≤ Bu.size a) {w : Bl.Idx → EReal} {g : Fin 128 → ℕ → ℝ} (hw : Holds g w)
    {o : ℕ} (ho : o ≤ 16) (inb' : ∀ a : Fin 2, ![o, 0] a + Bl.size a ≤ Bu.size a) (i : Fin 2048) (q : Fin 128) :
    v.readAt (Elt Ideal) (Rect.unit (s := Bu) ![o, 0] Bl.size inb').toLoadRect
      (v.writes (Elt Ideal) f ((⟨Rect.unit (s := Bu) ![8, 0] Bl.size inb, w⟩ : View.Piece (Elt Ideal) Bu .f32) :: L)) (ix2 i q)
      = ((if 8 ≤ o + i.val ∧ o + i.val < 2056 then g q (o + i.val - 8) else 0 : ℝ) : EReal) := by
  rw [View.readAt_apply]
  have hi := i.isLt
  have e : (Rect.unit (s := Bu) ![o, 0] Bl.size inb').toLoadRect.idx (ix2 i q) = ix2 (⟨o + i.val, by omega⟩ : Fin 2064) q := by
    funext a
    refine Fin.ext ?_
    match a with
    | ⟨0, _⟩ => show o + 1 * i.val = o + i.val; omega
    | ⟨1, _⟩ => show 0 + 1 * q.val = q.val; omega
  rw [e]
  by_cases hin : 8 ≤ o + i.val ∧ o + i.val < 2056
  · rw [if_pos hin, View.read_writes_cons_rows_of_mem (o := 8) v f inb w L _ (ix2 (⟨o + i.val - 8, by omega⟩ : Fin 2048) q) rfl
      (show o + i.val = 8 + (o + i.val - 8) by omega) rfl, hw]
  · rw [if_neg hin]
    exact (h.cons inb w).zero _ _ (show o + i.val < 8 ∨ 2056 ≤ o + i.val by omega)

variable {r : Fin 128 → Fin 2048 → ℝ}

/-- A window sum of `n` rows plus the same `n` rows earlier. -/
theorem double_back (h : Pads v f L) (inb : ∀ a : Fin 2, ![8, 0] a + Bl.size a ≤ Bu.size a) {w x : Bl.Idx → EReal} (n : ℕ)
    (hx : Holds (fun q => back (r q) n) x) (hw : Holds (fun q => back (r q) n) w) {o : ℕ} (ho : o + n = 8)
    (inb' : ∀ a : Fin 2, ![o, 0] a + Bl.size a ≤ Bu.size a) {z : Bl.Idx → EReal}
    (hz : z = fun j => x j + v.readAt (Elt Ideal) (Rect.unit (s := Bu) ![o, 0] Bl.size inb').toLoadRect
      (v.writes (Elt Ideal) f ((⟨Rect.unit (s := Bu) ![8, 0] Bl.size inb, w⟩ : View.Piece (Elt Ideal) Bu .f32) :: L)) j) :
    Holds (fun q => back (r q) (n + n)) z := fun i q => by
  have hi := i.isLt
  rw [hz]
  show x (ix2 i q) + _ = _
  rw [hx, load h inb hw (by omega) inb' i q, ← EReal.coe_add]
  refine Eq.trans (congrArg (fun e : ℝ => ((back (r q) n i.val + e : ℝ) : EReal)) ?_) (congrArg _ (back_double (r q) n i.val))
  by_cases hn : n ≤ i.val
  · rw [if_pos hn, if_pos (by omega), show o + i.val - 8 = i.val - n by omega]
  · rw [if_neg hn, if_neg (by omega)]

/-- A window sum of `n` rows plus the same `n` rows later. -/
theorem double_ahead (h : Pads v f L) (inb : ∀ a : Fin 2, ![8, 0] a + Bl.size a ≤ Bu.size a) {w x : Bl.Idx → EReal} (n : ℕ) (h8 : n ≤ 8)
    (hx : Holds (fun q => ahead (r q) n) x) (hw : Holds (fun q => ahead (r q) n) w) {o : ℕ} (ho : o = 8 + n)
    (inb' : ∀ a : Fin 2, ![o, 0] a + Bl.size a ≤ Bu.size a) {z : Bl.Idx → EReal}
    (hz : z = fun j => x j + v.readAt (Elt Ideal) (Rect.unit (s := Bu) ![o, 0] Bl.size inb').toLoadRect
      (v.writes (Elt Ideal) f ((⟨Rect.unit (s := Bu) ![8, 0] Bl.size inb, w⟩ : View.Piece (Elt Ideal) Bu .f32) :: L)) j) :
    Holds (fun q => ahead (r q) (n + n)) z := fun i q => by
  have hi := i.isLt
  rw [hz]
  show x (ix2 i q) + _ = _
  rw [hx, load h inb hw (by omega) inb' i q, ← EReal.coe_add]
  refine Eq.trans (congrArg (fun e : ℝ => ((ahead (r q) n i.val + e : ℝ) : EReal)) ?_) (congrArg _ (ahead_double (r q) n i.val))
  by_cases hn : i.val + n < 2048
  · rw [if_pos hn, if_pos (by omega), show o + i.val - 8 = i.val + n by omega]
  · rw [if_neg hn, if_neg (by omega)]

theorem one_back {x : Bl.Idx → EReal} (hx : ∀ (i : Fin 2048) q, x (ix2 i q) = (r q i : EReal)) : Holds (fun q => back (r q) 1) x :=
  fun i q => (hx i q).trans (congrArg _ (back_one (r q) i).symm)
theorem one_ahead {x : Bl.Idx → EReal} (hx : ∀ (i : Fin 2048) q, x (ix2 i q) = (r q i : EReal)) : Holds (fun q => ahead (r q) 1) x :=
  fun i q => (hx i q).trans (congrArg _ (ahead_one (r q) i).symm)

end Cert.PoolBuf

end
-- ==== Proof.PoolTail.lean ====
/-
  The pooling branch's gradient kernel: what each group's payloads compute from the blocks they read.
-/
module

public import proofs.«01_k».proof.Defs
public import proofs.«01_k».proof.Proof.PoolGrad
public import proofs.«01_k».proof.Proof.PoolBuf
public import proofs.«01_k».proof.Proof.Gen.PoolBwdIdeal.Value

@[expose] public section

set_option maxRecDepth 16384

noncomputable section

open Idealize.ShloMosaic Idealize.ShloMosaic.TcCoe Idealize.SL.Sem

namespace Cert.PoolBwdIdeal.Value

open Cert.PoolBwdIdeal Cert.PoolBwdIdeal.Gen Cert.PoolMath

variable (u a a1 a2 a3 d : Vec Ideal S2048x128 .f32) (w : Vec Ideal S1x128x128 .f32) (b : Vec Ideal S1x1x128 .f32) (s : Vec Ideal S1x128 .f32)
  (i : Fin 2048) (k q : Fin 128)

/-- A window sum's mean less the row; the linear map of such a block; the cotangents of the map and of the block. -/
abbrev mean (n : ℕ) (x : S2048x128.Idx → EReal) : EReal := pmean n i.val (x (ix2 i k)) (u (ix2 i k))
abbrev lin (x : S2048x128.Idx → EReal) : EReal := (∑ k, x (ix2 i k) * w (ix3 0 k q)) + b (ix3 0 0 q)
abbrev cot : EReal := d (ix2 i q) * s (ix2 0 q)
abbrev back1 : EReal := ∑ q, cot d s i q * w (ix3 0 k q)

theorem p2 : k0_pay15 u a (ix2 i k) = mean u i k 2 (fun j => u j + a j) := by
  pointwise [mean, k0_pay15, k0_pay13, pmean, ← cnt_word 2 (by decide) i.val i.isLt]
  rfl
theorem p4 : k0_pay30 u a a1 (ix2 i k) = mean u i k 4 (fun j => k0_pay28 u a j + a1 j) := by
  pointwise [mean, k0_pay30, k0_pay26, pmean, ← cnt_word 4 (by decide) i.val i.isLt]
  rfl
theorem p8 : k0_pay51 (k0_pay43 (F := Ideal) u) (k0_pay49 u a a1 a2) k0_pay50 8#32 (ix2 i k) = mean u i k 8 (fun j => k0_pay47 u a a1 j + a2 j) := by
  pointwise [mean, k0_pay51, k0_pay43, k0_pay49, k0_pay50, pmean, ← cnt_word 8 (by decide) i.val i.isLt]
  rfl
theorem p16 : k0_pay73 (k0_pay65 u) a a1 a2 a3 (ix2 i k) = mean u i k 16 (fun j => k0_pay71 (k0_pay65 u) a a1 a2 j + a3 j) := by
  pointwise [mean, k0_pay73, k0_pay65, pmean, ← cnt_word 16 (by decide) i.val i.isLt]
  rfl

theorem c0 : k0_pay18 (k0_pay17 d) s (ix2 i q) = cot d s i q := by pointwise [k0_pay18, k0_pay17]
theorem c1 : k0_pay33 d s (ix2 i q) = cot d s i q := by pointwise [k0_pay33, k0_pay32]
theorem c2 : k0_pay53 d s (ix2 i q) = cot d s i q := by pointwise [k0_pay53, k0_pay52]
theorem c3 : k0_pay76 d s (ix2 i q) = cot d s i q := by pointwise [k0_pay76, k0_pay75]

theorem s0 : k0_pay19 (k0_pay16 u a w b) (k0_pay17 d) (ix2 0 q) = ∑ i, d (ix2 i q) * lin w b i q (k0_pay15 u a) := by
  pointwise [k0_pay19, k0_pay16, k0_pay17]
theorem b0 : k0_pay20 (k0_pay17 d) s (ix3 0 0 q) = ∑ i, cot d s i q := by
  pointwise [k0_pay20, k0_pay18, k0_pay17]
theorem w0 : k0_pay21 u (k0_pay17 d) s (ix3 0 k q) = ∑ i, u (ix2 i k) * cot d s i q := by
  pointwise [k0_pay21, k0_pay18, k0_pay17]
theorem d0 : k0_pay22 (k0_pay17 d) s w (ix2 i k) = back1 d w s i k := by
  pointwise [k0_pay22, k0_pay18, k0_pay17]
theorem q0 : k0_pay23 (k0_pay17 d) s w (ix2 i k) = Ideal.div (back1 d w s i k) (cnt 2 i.val) := by
  pointwise [k0_pay23, d0, ← cnt_word 2 (by decide) i.val i.isLt]
  rfl

theorem s1 : k0_pay34 (k0_pay31 u a a1 w b) d (ix2 0 q) = ∑ i, d (ix2 i q) * lin w b i q (k0_pay30 u a a1) := by
  pointwise [k0_pay34, k0_pay31, k0_pay32]
theorem b1 : k0_pay35 d s (ix3 0 0 q) = ∑ i, cot d s i q := by
  pointwise [k0_pay35, c1]
theorem w1 : k0_pay36 u d s (ix3 0 k q) = ∑ i, u (ix2 i k) * cot d s i q := by
  pointwise [k0_pay36, c1]
theorem d1 : k0_pay37 d s w (ix2 i k) = back1 d w s i k := by
  pointwise [k0_pay37, c1]
theorem q1 : k0_pay38 d s w (ix2 i k) = Ideal.div (back1 d w s i k) (cnt 4 i.val) := by
  pointwise [k0_pay38, d1, ← cnt_word 4 (by decide) i.val i.isLt]
  rfl

theorem s2 (e : IVec S2048x128 32) (n : BitVec 32) : k0_pay54 u a e n w b d (ix2 0 q) = ∑ i, d (ix2 i q) * lin w b i q (k0_pay51 (F := Ideal) u a e n) := by
  pointwise [k0_pay54, k0_pay52]
theorem b2 : k0_pay55 d s (ix3 0 0 q) = ∑ i, cot d s i q := by
  pointwise [k0_pay55, c2]
theorem w2 (e : IVec S2048x128 32) (n : BitVec 32) : k0_pay56 u a e n d s (ix3 0 k q) = ∑ i, k0_pay51 (F := Ideal) u a e n (ix2 i k) * cot d s i q := by
  pointwise [k0_pay56, c2]
theorem d2 : k0_pay57 (k0_pay53 d s) w (ix2 i k) = back1 d w s i k := by
  pointwise [k0_pay57, c2]
theorem q2 : k0_pay58 (k0_pay53 d s) w (ix2 i k) = Ideal.div (back1 d w s i k) (cnt 8 i.val) := by
  pointwise [k0_pay58, d2, ← cnt_word 8 (by decide) i.val i.isLt]
  rfl

theorem s3 : k0_pay77 (k0_pay74 u a a1 a2 a3 w) b d (ix2 0 q) = ∑ i, d (ix2 i q) * lin w b i q (k0_pay73 u a a1 a2 a3) := by
  pointwise [k0_pay77, k0_pay74, k0_pay75]
theorem b3 : k0_pay78 d s (ix3 0 0 q) = ∑ i, cot d s i q := by
  pointwise [k0_pay78, c3]
theorem w3 : k0_pay79 u d s (ix3 0 k q) = ∑ i, u (ix2 i k) * cot d s i q := by
  pointwise [k0_pay79, c3]
theorem d3 : k0_pay80 d s w (ix2 i k) = back1 d w s i k := by
  pointwise [k0_pay80, c3]
theorem q3 : k0_pay1 (k0_pay80 d s w) k0_pay81 (ix2 i k) = Ideal.div (back1 d w s i k) (cnt 16 i.val) := by
  pointwise [k0_pay1, d3, k0_pay81, ← cnt_word 16 (by decide) i.val i.isLt]
  rfl

/-! What is stored of the columns' gradient: the window sum of the cotangents ahead, less the row's own. -/

theorem e0 : k0_pay25 u a a1 (ix2 i k) = (fun j => a j + a1 j) (ix2 i k) - u (ix2 i k) := by
  pointwise [k0_pay25]
theorem e1 : k0_pay42 u a a1 a2 (ix2 i k) = (fun j => k0_pay40 a a1 j + a2 j) (ix2 i k) - u (ix2 i k) := by
  pointwise [k0_pay42]
theorem e2 : k0_pay64 u w a a1 a2 (ix2 i k) = (fun j => k0_pay62 u w a a1 j + a2 j) (ix2 i k) - k0_pay57 u w (ix2 i k) := by
  pointwise [k0_pay64]
theorem e3 : k0_pay9 u d a a1 a2 a3 (ix2 i k) = (fun j => k0_pay7 u d a a1 a2 j + a3 j) (ix2 i k) - u (ix2 i k) := by
  pointwise [k0_pay9]

/-! Every stored block is the sum before it, and every sum is the one before it and the rows read again. -/

theorem pay14_eq : k0_pay14 u = u := funext fun j => by idx_vars j; pointwise [k0_pay14, k0_pay13]
theorem pay27_eq : k0_pay27 u = u := funext fun j => by idx_vars j; pointwise [k0_pay27, k0_pay26]
theorem pay28_eq : k0_pay28 u a = fun j => u j + a j := funext fun j => by idx_vars j; pointwise [k0_pay28, k0_pay26]
theorem pay29_eq : k0_pay29 u a = k0_pay28 u a := funext fun j => by idx_vars j; pointwise [k0_pay29]
theorem pay44_eq : k0_pay44 u = u := funext fun j => by idx_vars j; pointwise [k0_pay44, k0_pay43]
theorem pay45_eq : k0_pay45 u a = fun j => u j + a j := funext fun j => by idx_vars j; pointwise [k0_pay45, k0_pay43]
theorem pay46_eq : k0_pay46 u a = k0_pay45 u a := funext fun j => by idx_vars j; pointwise [k0_pay46]
theorem pay47_eq : k0_pay47 u a a1 = fun j => k0_pay45 u a j + a1 j := funext fun j => by idx_vars j; pointwise [k0_pay47]
theorem pay48_eq : k0_pay48 u a a1 = k0_pay47 u a a1 := funext fun j => by idx_vars j; pointwise [k0_pay48]
theorem pay65_eq : k0_pay65 (F := Ideal) u = u := funext fun j => by idx_vars j; pointwise [k0_pay65]
theorem pay66_eq : k0_pay66 (F := Ideal) u = u := funext fun j => by idx_vars j; pointwise [k0_pay66]
theorem pay67_eq : k0_pay67 u a = fun j => u j + a j := funext fun j => by idx_vars j; pointwise [k0_pay67]
theorem pay68_eq : k0_pay68 u a = k0_pay67 u a := funext fun j => by idx_vars j; pointwise [k0_pay68]
theorem pay69_eq : k0_pay69 u a a1 = fun j => k0_pay67 u a j + a1 j := funext fun j => by idx_vars j; pointwise [k0_pay69]
theorem pay70_eq : k0_pay70 u a a1 = k0_pay69 u a a1 := funext fun j => by idx_vars j; pointwise [k0_pay70]
theorem pay71_eq : k0_pay71 u a a1 a2 = fun j => k0_pay69 u a a1 j + a2 j := funext fun j => by idx_vars j; pointwise [k0_pay71]
theorem pay72_eq : k0_pay72 u a a1 a2 = k0_pay71 u a a1 a2 := funext fun j => by idx_vars j; pointwise [k0_pay72]

theorem pay24_eq : k0_pay24 u s w = k0_pay23 u s w := funext fun j => by idx_vars j; pointwise [k0_pay24]
theorem pay39_eq : k0_pay39 d s w = k0_pay38 d s w := funext fun j => by idx_vars j; pointwise [k0_pay39]
theorem pay40_eq : k0_pay40 u a = fun j => u j + a j := funext fun j => by idx_vars j; pointwise [k0_pay40]
theorem pay41_eq : k0_pay41 u a = k0_pay40 u a := funext fun j => by idx_vars j; pointwise [k0_pay41]
theorem pay59_eq : k0_pay59 u w = k0_pay58 u w := funext fun j => by idx_vars j; pointwise [k0_pay59]
theorem pay60_eq : k0_pay60 u w a = fun j => k0_pay58 u w j + a j := funext fun j => by idx_vars j; pointwise [k0_pay60]
theorem pay61_eq : k0_pay61 u w a = k0_pay60 u w a := funext fun j => by idx_vars j; pointwise [k0_pay61]
theorem pay62_eq : k0_pay62 u w a a1 = fun j => k0_pay60 u w a j + a1 j := funext fun j => by idx_vars j; pointwise [k0_pay62]
theorem pay63_eq : k0_pay63 u w a a1 = k0_pay62 u w a a1 := funext fun j => by idx_vars j; pointwise [k0_pay63]
theorem pay2_eq : k0_pay2 u d = k0_pay1 (F := Ideal) u d := funext fun j => by idx_vars j; pointwise [k0_pay2]
theorem pay3_eq : k0_pay3 u d a = fun j => k0_pay1 (F := Ideal) u d j + a j := funext fun j => by idx_vars j; pointwise [k0_pay3]
theorem pay4_eq : k0_pay4 u d a = k0_pay3 u d a := funext fun j => by idx_vars j; pointwise [k0_pay4]
theorem pay5_eq : k0_pay5 u d a a1 = fun j => k0_pay3 u d a j + a1 j := funext fun j => by idx_vars j; pointwise [k0_pay5]
theorem pay6_eq : k0_pay6 u d a a1 = k0_pay5 u d a a1 := funext fun j => by idx_vars j; pointwise [k0_pay6]
theorem pay7_eq : k0_pay7 u d a a1 a2 = fun j => k0_pay5 u d a a1 j + a2 j := funext fun j => by idx_vars j; pointwise [k0_pay7]
theorem pay8_eq : k0_pay8 u d a a1 a2 = k0_pay7 u d a a1 a2 := funext fun j => by idx_vars j; pointwise [k0_pay8]

theorem pad11 : ∀ i, k0_pay11 (F := Ideal) i = 0 := fun i => by idx_vars i; pointwise [k0_pay11, k0_pay10]
theorem pad12 : ∀ i, k0_pay12 (F := Ideal) i = 0 := fun i => by idx_vars i; pointwise [k0_pay12, k0_pay10]

end Cert.PoolBwdIdeal.Value

end
-- ==== Proof.PoolBwdKernel.lean ====
/-
  The pooling branch's gradient kernel: the window sums of its four groups, and what its one grid point writes.
-/
module

public import proofs.«01_k».proof.Defs
public import proofs.«01_k».proof.Proof.PoolTail
public import proofs.«01_k».proof.Proof.Loads
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.PoolBwdIdeal.Value

open Cert.PoolBwdIdeal Cert.PoolBwdIdeal.Gen Cert.PoolMath Cert.PoolBuf

/-! What a group reads: its columns of the activations or the cotangent, its slab of the weights, its bias and its scales. -/

section loads
variable {a1 : Memref sig .tc .vmem S2048x512 .f32} (h1 : a1.IsWhole) {a3 : Memref sig .tc .vmem S4x128x128 .f32} (h3 : a3.IsWhole)
  {a4 : Memref sig .tc .vmem S4x1x128 .f32} (h4 : a4.IsWhole) {a5 : Memref sig .tc .vmem S1x512 .f32} (h5 : a5.IsWhole)
  (x : Vec Ideal S2048x512 .f32) (w : Vec Ideal S4x128x128 .f32) (b : Vec Ideal S4x1x128 .f32) (s : Vec Ideal S1x512 .f32)
  (g : Fin 4) (i : Fin 2048) (k q : Fin 128)

abbrev cols (o : ℕ) (inb : ∀ a : Fin 2, ![0, o] a + S2048x128.size a ≤ S2048x512.size a) : Vec Ideal S2048x128 .f32 :=
  View.readAt (Elt Ideal) a1.view (Rect.unit (s := S2048x512) ![0, o] S2048x128.size inb).toLoadRect (h1.unread x)
abbrev slab (o : ℕ) (inb : ∀ a : Fin 3, ![o, 0, 0] a + S1x128x128.size a ≤ S4x128x128.size a) : Vec Ideal S1x128x128 .f32 :=
  View.readAt (Elt Ideal) a3.view (Rect.unit (s := S4x128x128) ![o, 0, 0] S1x128x128.size inb).toLoadRect (h3.unread w)
abbrev bias (o : ℕ) (inb : ∀ a : Fin 3, ![o, 0, 0] a + S1x1x128.size a ≤ S4x1x128.size a) : Vec Ideal S1x1x128 .f32 :=
  View.readAt (Elt Ideal) a4.view (Rect.unit (s := S4x1x128) ![o, 0, 0] S1x1x128.size inb).toLoadRect (h4.unread b)
abbrev scal (o : ℕ) (inb : ∀ a : Fin 2, ![0, o] a + S1x128.size a ≤ S1x512.size a) : Vec Ideal S1x128 .f32 :=
  View.readAt (Elt Ideal) a5.view (Rect.unit (s := S1x512) ![0, o] S1x128.size inb).toLoadRect (h5.unread s)

theorem cols_at {o : ℕ} (ho : o = 128 * g.val) (inb) : cols h1 x o inb (ix2 i k) = x (ix2 i (at4 g k)) := by
  rw [cols, Cert.Loads.loadBand h1 x inb rfl inb]
  unfold VecWindow.window
  refine congrArg x (funext fun a => Fin.ext ?_)
  match a with
  | ⟨0, _⟩ => show 0 + 1 * i.val = i.val; omega
  | ⟨1, _⟩ => show o + 1 * k.val = 128 * g.val + k.val; omega
theorem slab_at {o : ℕ} (ho : o = g.val) (inb) : slab h3 w o inb (ix3 0 k q) = w (ix3 g k q) := by
  rw [slab, Cert.Loads.loadBand h3 w inb rfl inb]
  unfold VecWindow.window
  refine congrArg w (funext fun a => Fin.ext ?_)
  match a with
  | ⟨0, _⟩ => show o + 1 * 0 = g.val; omega
  | ⟨1, _⟩ => show 0 + 1 * k.val = k.val; omega
  | ⟨2, _⟩ => show 0 + 1 * q.val = q.val; omega
theorem bias_at {o : ℕ} (ho : o = g.val) (inb) : bias h4 b o inb (ix3 0 0 q) = b (ix3 g 0 q) := by
  rw [bias, Cert.Loads.loadBand h4 b inb rfl inb]
  unfold VecWindow.window
  refine congrArg b (funext fun a => Fin.ext ?_)
  match a with
  | ⟨0, _⟩ => show o + 1 * 0 = g.val; omega
  | ⟨1, _⟩ => rfl
  | ⟨2, _⟩ => show 0 + 1 * q.val = q.val; omega
theorem scal_at {o : ℕ} (ho : o = 128 * g.val) (inb) : scal h5 s o inb (ix2 0 q) = s (ix2 0 (at4 g q)) := by
  rw [scal, Cert.Loads.loadBand h5 s inb rfl inb]
  unfold VecWindow.window
  refine congrArg s (funext fun a => Fin.ext ?_)
  match a with
  | ⟨0, _⟩ => rfl
  | ⟨1, _⟩ => show o + 1 * q.val = 128 * g.val + q.val; omega
end loads

variable (c : Dev nD) (g0 : grid0.Coords)
  {arg1 : Memref sig .tc .vmem S2048x512 .f32} (harg1 : arg1.IsWhole) {arg2 : Memref sig .tc .vmem S2048x512 .f32} (harg2 : arg2.IsWhole)
  {arg3 : Memref sig .tc .vmem S4x128x128 .f32} (harg3 : arg3.IsWhole) {arg4 : Memref sig .tc .vmem S4x1x128 .f32} (harg4 : arg4.IsWhole)
  {arg5 : Memref sig .tc .vmem S1x512 .f32} (harg5 : arg5.IsWhole) (arg10 : Memref sig .tc .vmem S2064x128 .f32)
  (x0 x1 : Vec Ideal S2048x512 .f32) (x2 : Vec Ideal S4x128x128 .f32) (x3 : Vec Ideal S4x1x128 .f32) (x4 : Vec Ideal S1x512 .f32)
  (r : Fin 512 → Fin 2048 → ℝ) (hr : ∀ i k, x0 (ix2 i k) = (r k i : EReal))

/-! The padding stays zero through the stores. -/

abbrev Z (L : List (View.Piece (Elt Ideal) S2064x128 .f32)) : Prop := Pads arg10.view arg10.view.junk L

theorem z3 : Z arg10 (kernelRun0_A.sl.HS0_3 c arg1 harg1 x0) := Pads.cons (Pads.start pad12 pad11 _ _) _ _
theorem z4 : Z arg10 (kernelRun0_A.sl.HS0_4 c arg1 harg1 arg2 harg2 arg3 harg3 arg5 harg5 x0 x1 x2 x4) := Pads.cons (z3 c harg1 arg10 x0) _ _
theorem z5 : Z arg10 (kernelRun0_A.sl.HS0_5 c arg1 harg1 arg2 harg2 arg3 harg3 arg5 harg5 x0 x1 x2 x4) := Pads.cons (z4 c harg1 harg2 harg3 harg5 arg10 x0 x1 x2 x4) _ _
theorem z6 : Z arg10 (kernelRun0_A.sl.HS0_6 c arg1 harg1 arg2 harg2 arg3 harg3 arg5 harg5 arg10 x0 x1 x2 x4) := Pads.cons (z5 c harg1 harg2 harg3 harg5 arg10 x0 x1 x2 x4) _ _
theorem z7 : Z arg10 (kernelRun0_A.sl.HS0_7 c arg1 harg1 arg2 harg2 arg3 harg3 arg5 harg5 arg10 x0 x1 x2 x4) := Pads.cons (z6 c harg1 harg2 harg3 harg5 arg10 x0 x1 x2 x4) _ _
theorem z8 : Z arg10 (kernelRun0_A.sl.HS0_8 c arg1 harg1 arg2 harg2 arg3 harg3 arg5 harg5 arg10 x0 x1 x2 x4) := Pads.cons (z7 c harg1 harg2 harg3 harg5 arg10 x0 x1 x2 x4) _ _
theorem z9 : Z arg10 (kernelRun0_A.sl.HS0_9 c arg1 harg1 arg2 harg2 arg3 harg3 arg5 harg5 arg10 x0 x1 x2 x4) := Pads.cons (z8 c harg1 harg2 harg3 harg5 arg10 x0 x1 x2 x4) _ _
theorem z10 : Z arg10 (kernelRun0_A.sl.HS0_10 c arg1 harg1 arg2 harg2 arg3 harg3 arg5 harg5 arg10 x0 x1 x2 x4) := Pads.cons (z9 c harg1 harg2 harg3 harg5 arg10 x0 x1 x2 x4) _ _
theorem z11 : Z arg10 (kernelRun0_A.sl.HS0_11 c arg1 harg1 arg2 harg2 arg3 harg3 arg5 harg5 arg10 x0 x1 x2 x4) := Pads.cons (z10 c harg1 harg2 harg3 harg5 arg10 x0 x1 x2 x4) _ _
theorem z12 : Z arg10 (kernelRun0_A.sl.HS0_12 c arg1 harg1 arg2 harg2 arg3 harg3 arg5 harg5 arg10 x0 x1 x2 x4) := Pads.cons (z11 c harg1 harg2 harg3 harg5 arg10 x0 x1 x2 x4) _ _
theorem z13 : Z arg10 (kernelRun0_A.sl.HS0_13 c arg1 harg1 arg2 harg2 arg3 harg3 arg5 harg5 arg10 x0 x1 x2 x4) := Pads.cons (z12 c harg1 harg2 harg3 harg5 arg10 x0 x1 x2 x4) _ _
theorem z14 : Z arg10 (kernelRun0_A.sl.HS0_14 c arg1 harg1 arg2 harg2 arg3 harg3 arg5 harg5 arg10 x0 x1 x2 x4) := Pads.cons (z13 c harg1 harg2 harg3 harg5 arg10 x0 x1 x2 x4) _ _
theorem z15 : Z arg10 (kernelRun0_A.sl.HS0_15 c arg1 harg1 arg2 harg2 arg3 harg3 arg5 harg5 arg10 x0 x1 x2 x4) := Pads.cons (z14 c harg1 harg2 harg3 harg5 arg10 x0 x1 x2 x4) _ _
theorem z16 : Z arg10 (kernelRun0_A.sl.HS0_16 c arg1 harg1 arg2 harg2 arg3 harg3 arg5 harg5 arg10 x0 x1 x2 x4) := Pads.cons (z15 c harg1 harg2 harg3 harg5 arg10 x0 x1 x2 x4) _ _
theorem z17 : Z arg10 (kernelRun0_A.sl.HS0_17 c arg1 harg1 arg2 harg2 arg3 harg3 arg5 harg5 arg10 x0 x1 x2 x4) := Pads.cons (z16 c harg1 harg2 harg3 harg5 arg10 x0 x1 x2 x4) _ _
theorem z18 : Z arg10 (kernelRun0_A.sl.HS0_18 c arg1 harg1 arg2 harg2 arg3 harg3 arg5 harg5 arg10 x0 x1 x2 x4) := Pads.cons (z17 c harg1 harg2 harg3 harg5 arg10 x0 x1 x2 x4) _ _
theorem z19 : Z arg10 (kernelRun0_A.sl.HS0_19 c arg1 harg1 arg2 harg2 arg3 harg3 arg5 harg5 arg10 x0 x1 x2 x4) := Pads.cons (z18 c harg1 harg2 harg3 harg5 arg10 x0 x1 x2 x4) _ _
theorem z20 : Z arg10 (kernelRun0_A.sl.HS0_20 c arg1 harg1 arg2 harg2 arg3 harg3 arg5 harg5 arg10 x0 x1 x2 x4) := Pads.cons (z19 c harg1 harg2 harg3 harg5 arg10 x0 x1 x2 x4) _ _
theorem z21 : Z arg10 (kernelRun0_A.sl.HS0_21 c arg1 harg1 arg2 harg2 arg3 harg3 arg5 harg5 arg10 x0 x1 x2 x4) := Pads.cons (z20 c harg1 harg2 harg3 harg5 arg10 x0 x1 x2 x4) _ _

/-! The window sums of the four groups, over the rows before. -/

include hr in
theorem start (g : Fin 4) {o : ℕ} (ho : o = 128 * g.val) (inb) : Holds (fun q => back (col r g q) 1) (cols harg1 x0 o inb) :=
  one_back fun i q => (cols_at harg1 x0 g i q ho inb).trans (hr i (at4 g q))

include hr in
theorem sum0 : Holds (fun q => back (col r 0 q) 2) (fun j => (cols harg1 x0 0 inb_S2048x512_S2048x128_0_0) j + kernelRun0_A.sl.v12 c arg1 harg1 arg10 x0 j) :=
  have h := start harg1 x0 r hr 0 rfl inb_S2048x512_S2048x128_0_0
  double_back (v := arg10.view) (f := arg10.view.junk) (Pads.start pad12 pad11 _ _) _ 1 h (h.of_eq (pay14_eq _)) rfl _ rfl

include hr in
theorem sum1 : Holds (fun q => back (col r 1 q) 4) (fun j => k0_pay28 (cols harg1 x0 128 inb_S2048x512_S2048x128_0_128) (kernelRun0_A.sl.v77 c arg1 harg1 arg2 harg2 arg3 harg3 arg5 harg5 arg10 x0 x1 x2 x4) j + kernelRun0_A.sl.v82 c arg1 harg1 arg2 harg2 arg3 harg3 arg5 harg5 arg10 x0 x1 x2 x4 j) :=
  have h := start harg1 x0 r hr 1 rfl inb_S2048x512_S2048x128_0_128
  have h2 := double_back (z4 c harg1 harg2 harg3 harg5 arg10 x0 x1 x2 x4) inb_S2064x128_S2048x128_8_0 1 h (h.of_eq (pay27_eq _)) (o := 7) rfl inb_S2064x128_S2048x128_7_0 (pay28_eq _ (kernelRun0_A.sl.v77 c arg1 harg1 arg2 harg2 arg3 harg3 arg5 harg5 arg10 x0 x1 x2 x4))
  double_back (z5 c harg1 harg2 harg3 harg5 arg10 x0 x1 x2 x4) inb_S2064x128_S2048x128_8_0 2 h2 (h2.of_eq (pay29_eq _ _)) (o := 6) rfl inb_S2064x128_S2048x128_6_0 rfl

include hr in
theorem sum2 : Holds (fun q => back (col r 2 q) 8) (fun j => k0_pay47 (cols harg1 x0 256 inb_S2048x512_S2048x128_0_256) (kernelRun0_A.sl.v152 c arg1 harg1 arg2 harg2 arg3 harg3 arg5 harg5 arg10 x0 x1 x2 x4) (kernelRun0_A.sl.v157 c arg1 harg1 arg2 harg2 arg3 harg3 arg5 harg5 arg10 x0 x1 x2 x4) j + kernelRun0_A.sl.v162 c arg1 harg1 arg2 harg2 arg3 harg3 arg5 harg5 arg10 x0 x1 x2 x4 j) :=
  have h := start harg1 x0 r hr 2 rfl inb_S2048x512_S2048x128_0_256
  have h2 := double_back (z8 c harg1 harg2 harg3 harg5 arg10 x0 x1 x2 x4) inb_S2064x128_S2048x128_8_0 1 h (h.of_eq (pay44_eq _)) (o := 7) rfl inb_S2064x128_S2048x128_7_0 (pay45_eq _ (kernelRun0_A.sl.v152 c arg1 harg1 arg2 harg2 arg3 harg3 arg5 harg5 arg10 x0 x1 x2 x4))
  have h4 := double_back (z9 c harg1 harg2 harg3 harg5 arg10 x0 x1 x2 x4) inb_S2064x128_S2048x128_8_0 2 h2 (h2.of_eq (pay46_eq _ _)) (o := 6) rfl inb_S2064x128_S2048x128_6_0 (pay47_eq _ _ (kernelRun0_A.sl.v157 c arg1 harg1 arg2 harg2 arg3 harg3 arg5 harg5 arg10 x0 x1 x2 x4))
  double_back (z10 c harg1 harg2 harg3 harg5 arg10 x0 x1 x2 x4) inb_S2064x128_S2048x128_8_0 4 h4 (h4.of_eq (pay48_eq _ _ _)) (o := 4) rfl inb_S2064x128_S2048x128_4_0 rfl

include hr in
theorem sum3 : Holds (fun q => back (col r 3 q) 16) (fun j => k0_pay71 (k0_pay65 (F := Ideal) (cols harg1 x0 384 inb_S2048x512_S2048x128_0_384)) (kernelRun0_A.sl.v237 c arg1 harg1 arg2 harg2 arg3 harg3 arg5 harg5 arg10 x0 x1 x2 x4) (kernelRun0_A.sl.v242 c arg1 harg1 arg2 harg2 arg3 harg3 arg5 harg5 arg10 x0 x1 x2 x4) (kernelRun0_A.sl.v247 c arg1 harg1 arg2 harg2 arg3 harg3 arg5 harg5 arg10 x0 x1 x2 x4) j + kernelRun0_A.sl.v252 c arg1 harg1 arg2 harg2 arg3 harg3 arg5 harg5 arg10 x0 x1 x2 x4 j) :=
  have h := (start harg1 x0 r hr 3 rfl inb_S2048x512_S2048x128_0_384).of_eq (pay65_eq _)
  have h2 := double_back (z14 c harg1 harg2 harg3 harg5 arg10 x0 x1 x2 x4) inb_S2064x128_S2048x128_8_0 1 h (h.of_eq (pay66_eq _)) (o := 7) rfl inb_S2064x128_S2048x128_7_0 (pay67_eq _ (kernelRun0_A.sl.v237 c arg1 harg1 arg2 harg2 arg3 harg3 arg5 harg5 arg10 x0 x1 x2 x4))
  have h4 := double_back (z15 c harg1 harg2 harg3 harg5 arg10 x0 x1 x2 x4) inb_S2064x128_S2048x128_8_0 2 h2 (h2.of_eq (pay68_eq _ _)) (o := 6) rfl inb_S2064x128_S2048x128_6_0 (pay69_eq _ _ (kernelRun0_A.sl.v242 c arg1 harg1 arg2 harg2 arg3 harg3 arg5 harg5 arg10 x0 x1 x2 x4))
  have h8 := double_back (z16 c harg1 harg2 harg3 harg5 arg10 x0 x1 x2 x4) inb_S2064x128_S2048x128_8_0 4 h4 (h4.of_eq (pay70_eq _ _ _)) (o := 4) rfl inb_S2064x128_S2048x128_4_0 (pay71_eq _ _ _ (kernelRun0_A.sl.v247 c arg1 harg1 arg2 harg2 arg3 harg3 arg5 harg5 arg10 x0 x1 x2 x4))
  double_back (z17 c harg1 harg2 harg3 harg5 arg10 x0 x1 x2 x4) inb_S2064x128_S2048x128_8_0 8 h8 (h8.of_eq (pay72_eq _ _ _ _)) (o := 0) rfl inb_S2064x128_S2048x128_0_0 rfl

/-! The pooled columns, the cotangents, and the four gradients' pieces, in terms of the blocks the kernel is given. -/

abbrev XX (x : Vec Ideal S2048x512 .f32) (i : Fin 2048) (k : Fin 512) : EReal := x (ix2 i k)
abbrev WW (x : Vec Ideal S4x128x128 .f32) (g : Fin 4) (k q : Fin 128) : EReal := x (ix3 g k q)
abbrev BB (x : Vec Ideal S4x1x128 .f32) (g : Fin 4) (q : Fin 128) : EReal := x (ix3 g 0 q)
abbrev SS (x : Vec Ideal S1x512 .f32) (k : Fin 512) : EReal := x (ix2 0 k)

section pieces
variable (g : Fin 4) {o : ℕ} (ho : o = 128 * g.val) {p : ℕ} (hp : p = g.val) (i : Fin 2048) (k q : Fin 128)

include ho in
theorem mean_pl {n : ℕ} (hn : n = 2 ^ (g.val + 1)) (inb) {x : S2048x128.Idx → EReal} (hx : Holds (fun q => back (col r g q) n) x) :
    mean (cols harg1 x0 o inb) i k n x = pl (XX x0) r g i k := by
  subst hn
  rw [mean, pl, hx, cols_at harg1 x0 g i k ho]

include ho in
theorem cot_dm (inb inb') : cot (cols harg2 x1 o inb) (scal harg5 x4 o inb') i q = dm (SS x4) (XX x1) g i q := by
  rw [cot, dm, cols_at harg2 x1 g i q ho, scal_at harg5 x4 g q ho]

include ho hp in
theorem back1_dp (inb inb' inb1) : back1 (cols harg2 x1 o inb) (slab harg3 x2 p inb1) (scal harg5 x4 o inb') i k = dp (WW x2) (SS x4) (XX x1) g i k :=
  Finset.sum_congr rfl fun q _ => congrArg₂ (· * ·) (cot_dm harg2 harg5 x1 x4 g ho i q inb inb') (slab_at harg3 x2 g k q hp inb1)

include hp in
theorem lin_mx (inb1 inb2) {y : S2048x128.Idx → EReal} (hy : ∀ i k, y (ix2 i k) = pl (XX x0) r g i k) :
    lin (slab harg3 x2 p inb1) (bias harg4 x3 p inb2) i q y = mx (XX x0) r (WW x2) (BB x3) g i q :=
  congrArg₂ (· + ·) (Finset.sum_congr rfl fun k _ => congrArg₂ (· * ·) (hy i k) (slab_at harg3 x2 g k q hp inb1)) (bias_at harg4 x3 g q hp inb2)

include ho hp in
theorem sum_scale (inb inb1 inb2) {y : S2048x128.Idx → EReal} (hy : ∀ i k, y (ix2 i k) = pl (XX x0) r g i k) :
    ∑ i, cols harg2 x1 o inb (ix2 i q) * lin (slab harg3 x2 p inb1) (bias harg4 x3 p inb2) i q y = dScale (XX x0) r (WW x2) (BB x3) (XX x1) g q :=
  Finset.sum_congr rfl fun i _ => congrArg₂ (· * ·) (cols_at harg2 x1 g i q ho inb) (lin_mx harg3 harg4 x0 x2 x3 r g hp i q inb1 inb2 hy)

include ho in
theorem sum_bias (inb inb') : ∑ i, cot (cols harg2 x1 o inb) (scal harg5 x4 o inb') i q = dBias (SS x4) (XX x1) g q :=
  Finset.sum_congr rfl fun i _ => cot_dm harg2 harg5 x1 x4 g ho i q inb inb'

include ho in
theorem sum_wts (inb inb') {y : S2048x128.Idx → EReal} (hy : ∀ i k, y (ix2 i k) = pl (XX x0) r g i k) :
    ∑ i, y (ix2 i k) * cot (cols harg2 x1 o inb) (scal harg5 x4 o inb') i q = dWts (XX x0) r (SS x4) (XX x1) g k q :=
  Finset.sum_congr rfl fun i _ => congrArg₂ (· * ·) (hy i k) (cot_dm harg2 harg5 x1 x4 g ho i q inb inb')
end pieces

section pooled
variable (i : Fin 2048) (k : Fin 128)
include hr

theorem pool0 : kernelRun0_A.sl.r c arg1 harg1 arg10 x0 (ix2 i k) = pl (XX x0) r 0 i k :=
  (p2 _ _ i k).trans (mean_pl harg1 x0 r 0 rfl i k rfl _ (sum0 c harg1 arg10 x0 r hr))
theorem pool1 : kernelRun0_A.sl.r_5 c arg1 harg1 arg2 harg2 arg3 harg3 arg5 harg5 arg10 x0 x1 x2 x4 (ix2 i k) = pl (XX x0) r 1 i k :=
  (p4 _ _ _ i k).trans (mean_pl harg1 x0 r 1 rfl i k rfl _ (sum1 c harg1 harg2 harg3 harg5 arg10 x0 x1 x2 x4 r hr))
theorem pool2 : k0_pay51 (F := Ideal) (kernelRun0_A.sl.r_10 c arg1 harg1 x0) (kernelRun0_A.sl.r_11 c arg1 harg1 arg2 harg2 arg3 harg3 arg5 harg5 arg10 x0 x1 x2 x4) k0_pay50 8#32 (ix2 i k) = pl (XX x0) r 2 i k :=
  (p8 _ _ _ _ i k).trans (mean_pl harg1 x0 r 2 rfl i k rfl _ (sum2 c harg1 harg2 harg3 harg5 arg10 x0 x1 x2 x4 r hr))
theorem pool3 : kernelRun0_A.sl.r_14 c arg1 harg1 arg2 harg2 arg3 harg3 arg5 harg5 arg10 x0 x1 x2 x4 (ix2 i k) = pl (XX x0) r 3 i k :=
  (p16 _ _ _ _ _ i k).trans (mean_pl harg1 x0 r 3 rfl i k rfl _ (sum3 c harg1 harg2 harg3 harg5 arg10 x0 x1 x2 x4 r hr))
end pooled

/-! The window sums of the four groups' cotangents, over the rows that follow. -/

section leads
variable (p : Fin 4 → Fin 128 → Fin 2048 → ℝ)
  (hq : ∀ (g : Fin 4) (i : Fin 2048) k, Ideal.div (dp (WW x2) (SS x4) (XX x1) g i k) (cnt (2 ^ (g.val + 1)) i.val) = (p g k i : EReal))
include hq

theorem lead0 : Holds (fun k => ahead (p 0 k) 2) (fun j => kernelRun0_A.sl.r_4 c arg2 harg2 arg3 harg3 arg5 harg5 x1 x2 x4 j + kernelRun0_A.sl.v67 c arg1 harg1 arg2 harg2 arg3 harg3 arg5 harg5 arg10 x0 x1 x2 x4 j) :=
  have h : Holds (fun k => ahead (p 0 k) 1) (kernelRun0_A.sl.r_4 c arg2 harg2 arg3 harg3 arg5 harg5 x1 x2 x4) := one_ahead fun i k =>
    (q0 _ _ _ i k).trans ((congrArg (Ideal.div · _) (back1_dp harg2 harg3 harg5 x1 x2 x4 0 rfl rfl i k _ _ _)).trans (hq 0 i k))
  double_ahead (z3 c harg1 arg10 x0) inb_S2064x128_S2048x128_8_0 1 (by decide) h (h.of_eq (pay24_eq _ _ _)) (o := 9) rfl inb_S2064x128_S2048x128_9_0 rfl

theorem lead1 : Holds (fun k => ahead (p 1 k) 4) (fun j => k0_pay40 (kernelRun0_A.sl.r_8 c arg2 harg2 arg3 harg3 arg5 harg5 x1 x2 x4) (kernelRun0_A.sl.v137 c arg1 harg1 arg2 harg2 arg3 harg3 arg5 harg5 arg10 x0 x1 x2 x4) j + kernelRun0_A.sl.v142 c arg1 harg1 arg2 harg2 arg3 harg3 arg5 harg5 arg10 x0 x1 x2 x4 j) :=
  have h : Holds (fun k => ahead (p 1 k) 1) (kernelRun0_A.sl.r_8 c arg2 harg2 arg3 harg3 arg5 harg5 x1 x2 x4) := one_ahead fun i k =>
    (q1 _ _ _ i k).trans ((congrArg (Ideal.div · _) (back1_dp harg2 harg3 harg5 x1 x2 x4 1 rfl rfl i k _ _ _)).trans (hq 1 i k))
  have h2 := double_ahead (z6 c harg1 harg2 harg3 harg5 arg10 x0 x1 x2 x4) inb_S2064x128_S2048x128_8_0 1 (by decide) h (h.of_eq (pay39_eq _ _ _)) (o := 9) rfl inb_S2064x128_S2048x128_9_0 (pay40_eq _ (kernelRun0_A.sl.v137 c arg1 harg1 arg2 harg2 arg3 harg3 arg5 harg5 arg10 x0 x1 x2 x4))
  double_ahead (z7 c harg1 harg2 harg3 harg5 arg10 x0 x1 x2 x4) inb_S2064x128_S2048x128_8_0 2 (by decide) h2 (h2.of_eq (pay41_eq _ _)) (o := 10) rfl inb_S2064x128_S2048x128_10_0 rfl

theorem lead2 : Holds (fun k => ahead (p 2 k) 8) (fun j => k0_pay62 (kernelRun0_A.sl.r_12 c arg2 harg2 arg5 harg5 x1 x4)
    (slab harg3 x2 2 inb_S4x128x128_S1x128x128_2_0_0) (kernelRun0_A.sl.v217 c arg1 harg1 arg2 harg2 arg3 harg3 arg5 harg5 arg10 x0 x1 x2 x4) (kernelRun0_A.sl.v222 c arg1 harg1 arg2 harg2 arg3 harg3 arg5 harg5 arg10 x0 x1 x2 x4) j + kernelRun0_A.sl.v227 c arg1 harg1 arg2 harg2 arg3 harg3 arg5 harg5 arg10 x0 x1 x2 x4 j) :=
  have h : Holds (fun k => ahead (p 2 k) 1) (k0_pay58 (kernelRun0_A.sl.r_12 c arg2 harg2 arg5 harg5 x1 x4) (slab harg3 x2 2 inb_S4x128x128_S1x128x128_2_0_0)) := one_ahead fun i k =>
    (q2 _ _ _ i k).trans ((congrArg (Ideal.div · _) (back1_dp harg2 harg3 harg5 x1 x2 x4 2 rfl rfl i k _ _ _)).trans (hq 2 i k))
  have h2 := double_ahead (z11 c harg1 harg2 harg3 harg5 arg10 x0 x1 x2 x4) inb_S2064x128_S2048x128_8_0 1 (by decide) h (h.of_eq (pay59_eq _ _)) (o := 9) rfl inb_S2064x128_S2048x128_9_0 (pay60_eq _ (kernelRun0_A.sl.v217 c arg1 harg1 arg2 harg2 arg3 harg3 arg5 harg5 arg10 x0 x1 x2 x4) _)
  have h4 := double_ahead (z12 c harg1 harg2 harg3 harg5 arg10 x0 x1 x2 x4) inb_S2064x128_S2048x128_8_0 2 (by decide) h2 (h2.of_eq (pay61_eq _ _ _)) (o := 10) rfl inb_S2064x128_S2048x128_10_0 (pay62_eq _ _ (kernelRun0_A.sl.v222 c arg1 harg1 arg2 harg2 arg3 harg3 arg5 harg5 arg10 x0 x1 x2 x4) _)
  double_ahead (z13 c harg1 harg2 harg3 harg5 arg10 x0 x1 x2 x4) inb_S2064x128_S2048x128_8_0 4 (by decide) h4 (h4.of_eq (pay63_eq _ _ _ _)) (o := 12) rfl inb_S2064x128_S2048x128_12_0 rfl

theorem lead3 : Holds (fun k => ahead (p 3 k) 16) (fun j => k0_pay7 (kernelRun0_A.sl.r_16 c arg2 harg2 arg3 harg3 arg5 harg5 x1 x2 x4) k0_pay81
    (kernelRun0_A.sl.v307 c arg1 harg1 arg2 harg2 arg3 harg3 arg5 harg5 arg10 x0 x1 x2 x4) (kernelRun0_A.sl.v312 c arg1 harg1 arg2 harg2 arg3 harg3 arg5 harg5 arg10 x0 x1 x2 x4) (kernelRun0_A.sl.v317 c arg1 harg1 arg2 harg2 arg3 harg3 arg5 harg5 arg10 x0 x1 x2 x4) j + kernelRun0_A.sl.v322 c arg1 harg1 arg2 harg2 arg3 harg3 arg5 harg5 arg10 x0 x1 x2 x4 j) :=
  have h : Holds (fun k => ahead (p 3 k) 1) (k0_pay1 (kernelRun0_A.sl.r_16 c arg2 harg2 arg3 harg3 arg5 harg5 x1 x2 x4) k0_pay81) := one_ahead fun i k =>
    (q3 _ _ _ i k).trans ((congrArg (Ideal.div · _) (back1_dp harg2 harg3 harg5 x1 x2 x4 3 rfl rfl i k _ _ _)).trans (hq 3 i k))
  have h2 := double_ahead (z18 c harg1 harg2 harg3 harg5 arg10 x0 x1 x2 x4) inb_S2064x128_S2048x128_8_0 1 (by decide) h (h.of_eq (pay2_eq _ _)) (o := 9) rfl inb_S2064x128_S2048x128_9_0 (pay3_eq _ (kernelRun0_A.sl.v307 c arg1 harg1 arg2 harg2 arg3 harg3 arg5 harg5 arg10 x0 x1 x2 x4) _)
  have h4 := double_ahead (z19 c harg1 harg2 harg3 harg5 arg10 x0 x1 x2 x4) inb_S2064x128_S2048x128_8_0 2 (by decide) h2 (h2.of_eq (pay4_eq _ _ _)) (o := 10) rfl inb_S2064x128_S2048x128_10_0 (pay5_eq _ _ (kernelRun0_A.sl.v312 c arg1 harg1 arg2 harg2 arg3 harg3 arg5 harg5 arg10 x0 x1 x2 x4) _)
  have h8 := double_ahead (z20 c harg1 harg2 harg3 harg5 arg10 x0 x1 x2 x4) inb_S2064x128_S2048x128_8_0 4 (by decide) h4 (h4.of_eq (pay6_eq _ _ _ _)) (o := 12) rfl inb_S2064x128_S2048x128_12_0 (pay7_eq _ _ _ (kernelRun0_A.sl.v317 c arg1 harg1 arg2 harg2 arg3 harg3 arg5 harg5 arg10 x0 x1 x2 x4) _)
  double_ahead (z21 c harg1 harg2 harg3 harg5 arg10 x0 x1 x2 x4) inb_S2064x128_S2048x128_8_0 8 (by decide) h8 (h8.of_eq (pay8_eq _ _ _ _ _)) (o := 16) rfl inb_S2064x128_S2048x128_16_0 rfl
end leads

end Cert.PoolBwdIdeal.Value

end
-- ==== Proof.PoolBwdOut.lean ====
/-
  The pooling branch's gradient kernel: what its one grid point leaves in the four results, group by group.
-/
module

public import proofs.«01_k».proof.Proof.PoolBwdKernel

@[expose] public section

set_option maxRecDepth 16384

noncomputable section

open Idealize.ShloMosaic Idealize.ShloMosaic.TcCoe Idealize.SL.Sem

namespace Cert.PoolBwdIdeal.Value

open Cert.PoolBwdIdeal Cert.PoolBwdIdeal.Gen Cert.PoolMath Cert.PoolBuf

section stores
variable {sg : RefSig} {κ : Kind} {sp : Space} {e : EltTy} {m : ℕ}

/-- Four stores of 128 columns each. -/
theorem four_cols (v : View sg κ sp ⟨2, ![m, 512]⟩ e) (f : v.ty.Contents (Elt Ideal)) (w0 w1 w2 w3 : (⟨2, ![m, 128]⟩ : Shape).Idx → Elt Ideal e)
    (n0 : ∀ a : Fin 2, ![0, 0] a + ![m, 128] a ≤ ![m, 512] a) (n1 : ∀ a : Fin 2, ![0, 128] a + ![m, 128] a ≤ ![m, 512] a)
    (n2 : ∀ a : Fin 2, ![0, 256] a + ![m, 128] a ≤ ![m, 512] a) (n3 : ∀ a : Fin 2, ![0, 384] a + ![m, 128] a ≤ ![m, 512] a)
    (g : Fin 4) (i : Fin m) (q : Fin 128) :
    v.read (Elt Ideal) (v.writes (Elt Ideal) f [⟨Rect.unit (s := ⟨2, ![m, 512]⟩) ![0, 384] ![m, 128] n3, w3⟩, ⟨Rect.unit (s := ⟨2, ![m, 512]⟩) ![0, 256] ![m, 128] n2, w2⟩,
      ⟨Rect.unit (s := ⟨2, ![m, 512]⟩) ![0, 128] ![m, 128] n1, w1⟩, ⟨Rect.unit (s := ⟨2, ![m, 512]⟩) ![0, 0] ![m, 128] n0, w0⟩]) (ix2 i (at4 g q))
      = (![w0, w1, w2, w3] g) (ix2 i q) := by
  have hit : ∀ (o : ℕ) (n : ∀ a : Fin 2, ![0, o] a + ![m, 128] a ≤ ![m, 512] a) (w : (⟨2, ![m, 128]⟩ : Shape).Idx → Elt Ideal e) L, 128 * g.val = o →
      v.read (Elt Ideal) (v.writes (Elt Ideal) f (⟨Rect.unit (s := ⟨2, ![m, 512]⟩) ![0, o] ![m, 128] n, w⟩ :: L)) (ix2 i (at4 g q)) = w (ix2 i q) := fun o n w L ho =>
    View.read_writes_cons_unit_of_mem v f n w L (ix2 i (at4 g q)) (ix2 i q : (⟨2, ![m, 128]⟩ : Shape).Idx) rfl fun a => by
      match a with
      | ⟨0, _⟩ => exact (Nat.zero_add _).symm
      | ⟨1, _⟩ => exact congrArg (· + q.val) ho
  have miss : ∀ (o : ℕ) (n : ∀ a : Fin 2, ![0, o] a + ![m, 128] a ≤ ![m, 512] a) (w : (⟨2, ![m, 128]⟩ : Shape).Idx → Elt Ideal e) L, 128 * g.val + 128 ≤ o →
      v.read (Elt Ideal) (v.writes (Elt Ideal) f (⟨Rect.unit (s := ⟨2, ![m, 512]⟩) ![0, o] ![m, 128] n, w⟩ :: L)) (ix2 i (at4 g q))
        = v.read (Elt Ideal) (v.writes (Elt Ideal) f L) (ix2 i (at4 g q)) := fun o n w L ho =>
    View.read_writes_cons_unit_of_not_mem v f n w L (ix2 i (at4 g q)) rfl 1 (Or.inl (show 128 * g.val + q.val < o by have := q.isLt; omega))
  match g with
  | 3 => exact hit 384 _ _ _ rfl
  | 2 => exact (miss 384 _ _ _ (by decide)).trans (hit 256 _ _ _ rfl)
  | 1 => exact (miss 384 _ _ _ (by decide)).trans ((miss 256 _ _ _ (by decide)).trans (hit 128 _ _ _ rfl))
  | 0 => exact (miss 384 _ _ _ (by decide)).trans ((miss 256 _ _ _ (by decide)).trans ((miss 128 _ _ _ (by decide)).trans (hit 0 _ _ _ rfl)))

/-- Four stores of one slab each. -/
theorem four_slabs (v : View sg κ sp ⟨3, ![4, m, 128]⟩ e) (f : v.ty.Contents (Elt Ideal)) (w0 w1 w2 w3 : (⟨3, ![1, m, 128]⟩ : Shape).Idx → Elt Ideal e)
    (n0 : ∀ a : Fin 3, ![0, 0, 0] a + ![1, m, 128] a ≤ ![4, m, 128] a) (n1 : ∀ a : Fin 3, ![1, 0, 0] a + ![1, m, 128] a ≤ ![4, m, 128] a)
    (n2 : ∀ a : Fin 3, ![2, 0, 0] a + ![1, m, 128] a ≤ ![4, m, 128] a) (n3 : ∀ a : Fin 3, ![3, 0, 0] a + ![1, m, 128] a ≤ ![4, m, 128] a)
    (g : Fin 4) (i : Fin m) (q : Fin 128) :
    v.read (Elt Ideal) (v.writes (Elt Ideal) f [⟨Rect.unit (s := ⟨3, ![4, m, 128]⟩) ![3, 0, 0] ![1, m, 128] n3, w3⟩, ⟨Rect.unit (s := ⟨3, ![4, m, 128]⟩) ![2, 0, 0] ![1, m, 128] n2, w2⟩,
      ⟨Rect.unit (s := ⟨3, ![4, m, 128]⟩) ![1, 0, 0] ![1, m, 128] n1, w1⟩, ⟨Rect.unit (s := ⟨3, ![4, m, 128]⟩) ![0, 0, 0] ![1, m, 128] n0, w0⟩]) (ix3 g i q)
      = (![w0, w1, w2, w3] g) (ix3 0 i q) := by
  have hit : ∀ (o : ℕ) (n : ∀ a : Fin 3, ![o, 0, 0] a + ![1, m, 128] a ≤ ![4, m, 128] a) (w : (⟨3, ![1, m, 128]⟩ : Shape).Idx → Elt Ideal e) L, g.val = o →
      v.read (Elt Ideal) (v.writes (Elt Ideal) f (⟨Rect.unit (s := ⟨3, ![4, m, 128]⟩) ![o, 0, 0] ![1, m, 128] n, w⟩ :: L)) (ix3 g i q) = w (ix3 0 i q) := fun o n w L ho =>
    View.read_writes_cons_unit_of_mem v f n w L (ix3 g i q) (ix3 0 i q : (⟨3, ![1, m, 128]⟩ : Shape).Idx) rfl fun a => by
      match a with
      | ⟨0, _⟩ => exact ho
      | ⟨1, _⟩ => exact (Nat.zero_add _).symm
      | ⟨2, _⟩ => exact (Nat.zero_add _).symm
  have miss : ∀ (o : ℕ) (n : ∀ a : Fin 3, ![o, 0, 0] a + ![1, m, 128] a ≤ ![4, m, 128] a) (w : (⟨3, ![1, m, 128]⟩ : Shape).Idx → Elt Ideal e) L, g.val < o →
      v.read (Elt Ideal) (v.writes (Elt Ideal) f (⟨Rect.unit (s := ⟨3, ![4, m, 128]⟩) ![o, 0, 0] ![1, m, 128] n, w⟩ :: L)) (ix3 g i q)
        = v.read (Elt Ideal) (v.writes (Elt Ideal) f L) (ix3 g i q) := fun o n w L ho =>
    View.read_writes_cons_unit_of_not_mem v f n w L (ix3 g i q) rfl 0 (Or.inl ho)
  match g with
  | 3 => exact hit 3 _ _ _ rfl
  | 2 => exact (miss 3 _ _ _ (by decide)).trans (hit 2 _ _ _ rfl)
  | 1 => exact (miss 3 _ _ _ (by decide)).trans ((miss 2 _ _ _ (by decide)).trans (hit 1 _ _ _ rfl))
  | 0 => exact (miss 3 _ _ _ (by decide)).trans ((miss 2 _ _ _ (by decide)).trans ((miss 1 _ _ _ (by decide)).trans (hit 0 _ _ _ rfl)))
end stores

variable (c : Dev nD) (g0 : grid0.Coords)
  {arg1 : Memref sig .tc .vmem S2048x512 .f32} (harg1 : arg1.IsWhole) {arg2 : Memref sig .tc .vmem S2048x512 .f32} (harg2 : arg2.IsWhole)
  {arg3 : Memref sig .tc .vmem S4x128x128 .f32} (harg3 : arg3.IsWhole) {arg4 : Memref sig .tc .vmem S4x1x128 .f32} (harg4 : arg4.IsWhole)
  {arg5 : Memref sig .tc .vmem S1x512 .f32} (harg5 : arg5.IsWhole) {arg6 : Memref sig .tc .vmem S2048x512 .bf16} (harg6 : arg6.IsWhole)
  {arg7 : Memref sig .tc .vmem S4x128x128 .f32} (harg7 : arg7.IsWhole) {arg8 : Memref sig .tc .vmem S4x1x128 .f32} (harg8 : arg8.IsWhole)
  {arg9 : Memref sig .tc .vmem S1x512 .f32} (harg9 : arg9.IsWhole) {arg10 : Memref sig .tc .vmem S2064x128 .f32} (harg10 : arg10.IsWhole)
  (x0 x1 : Vec Ideal S2048x512 .f32) (x2 : Vec Ideal S4x128x128 .f32) (x3 : Vec Ideal S4x1x128 .f32) (x4 : Vec Ideal S1x512 .f32)
  (r : Fin 512 → Fin 2048 → ℝ) (hr : ∀ i k, x0 (ix2 i k) = (r k i : EReal))
  (p : Fin 4 → Fin 128 → Fin 2048 → ℝ)
  (hq : ∀ (g : Fin 4) (i : Fin 2048) k, Ideal.div (dp (WW x2) (SS x4) (XX x1) g i k) (cnt (2 ^ (g.val + 1)) i.val) = (p g k i : EReal))
  (g : Fin 4) (i : Fin 2048) (k q : Fin 128)

include hq in
theorem out_cols : out0_A_5 c g0 arg1 harg1 arg2 harg2 arg3 harg3 arg4 harg4 arg5 harg5 arg6 harg6 arg7 harg7 arg8 harg8 arg9 harg9 arg10 harg10 x0 x1 x2 x3 x4
    (ix2 i (at4 g k)) = dCol (WW x2) (SS x4) (XX x1) g i k p := by
  unfold out0_A_5 kernelRun0_A
  refine (four_cols _ _ _ _ _ _ _ _ _ _ g i k).trans ?_
  unfold dCol
  match g with
  | 0 =>
    exact (e0 _ _ _ i k).trans (congrArg₂ (· - ·) (lead0 c harg1 harg2 harg3 harg5 arg10 x0 x1 x2 x4 p hq i k)
      ((d0 _ _ _ i k).trans (back1_dp harg2 harg3 harg5 x1 x2 x4 0 rfl rfl i k _ _ _)))
  | 1 =>
    exact (e1 _ _ _ _ i k).trans (congrArg₂ (· - ·) (lead1 c harg1 harg2 harg3 harg5 arg10 x0 x1 x2 x4 p hq i k)
      ((d1 _ _ _ i k).trans (back1_dp harg2 harg3 harg5 x1 x2 x4 1 rfl rfl i k _ _ _)))
  | 2 =>
    exact (e2 _ _ _ _ _ i k).trans (congrArg₂ (· - ·) (lead2 c harg1 harg2 harg3 harg5 arg10 x0 x1 x2 x4 p hq i k)
      ((d2 _ _ _ i k).trans (back1_dp harg2 harg3 harg5 x1 x2 x4 2 rfl rfl i k _ _ _)))
  | 3 =>
    exact (e3 _ _ _ _ _ _ i k).trans (congrArg₂ (· - ·) (lead3 c harg1 harg2 harg3 harg5 arg10 x0 x1 x2 x4 p hq i k)
      ((d3 _ _ _ i k).trans (back1_dp harg2 harg3 harg5 x1 x2 x4 3 rfl rfl i k _ _ _)))

include hr in
theorem out_wts : out0_A_6 c g0 arg1 harg1 arg2 harg2 arg3 harg3 arg4 harg4 arg5 harg5 arg6 harg6 arg7 harg7 arg8 harg8 arg9 harg9 arg10 harg10 x0 x1 x2 x3 x4
    (ix3 g k q) = dWts (XX x0) r (SS x4) (XX x1) g k q := by
  unfold out0_A_6 kernelRun0_A
  refine (four_slabs _ _ _ _ _ _ _ _ _ _ g k q).trans ?_
  match g with
  | 0 => exact (w0 _ _ _ k q).trans (sum_wts harg2 harg5 x0 x1 x4 r 0 rfl k q _ _ (pool0 c harg1 arg10 x0 r hr))
  | 1 => exact (w1 _ _ _ k q).trans (sum_wts harg2 harg5 x0 x1 x4 r 1 rfl k q _ _ (pool1 c harg1 harg2 harg3 harg5 arg10 x0 x1 x2 x4 r hr))
  | 2 => exact (w2 _ _ _ _ k q _ _).trans (sum_wts harg2 harg5 x0 x1 x4 r 2 rfl k q _ _ (pool2 c harg1 harg2 harg3 harg5 arg10 x0 x1 x2 x4 r hr))
  | 3 => exact (w3 _ _ _ k q).trans (sum_wts harg2 harg5 x0 x1 x4 r 3 rfl k q _ _ (pool3 c harg1 harg2 harg3 harg5 arg10 x0 x1 x2 x4 r hr))

theorem out_bias : out0_A_7 c g0 arg1 harg1 arg2 harg2 arg3 harg3 arg4 harg4 arg5 harg5 arg6 harg6 arg7 harg7 arg8 harg8 arg9 harg9 arg10 harg10 x0 x1 x2 x3 x4
    (ix3 g 0 q) = dBias (SS x4) (XX x1) g q := by
  unfold out0_A_7 kernelRun0_A
  refine (four_slabs _ _ _ _ _ _ _ _ _ _ g 0 q).trans ?_
  match g with
  | 0 => exact (b0 _ _ q).trans (sum_bias harg2 harg5 x1 x4 0 rfl q _ _)
  | 1 => exact (b1 _ _ q).trans (sum_bias harg2 harg5 x1 x4 1 rfl q _ _)
  | 2 => exact (b2 _ _ q).trans (sum_bias harg2 harg5 x1 x4 2 rfl q _ _)
  | 3 => exact (b3 _ _ q).trans (sum_bias harg2 harg5 x1 x4 3 rfl q _ _)

include hr in
theorem out_scale : out0_A_8 c g0 arg1 harg1 arg2 harg2 arg3 harg3 arg4 harg4 arg5 harg5 arg6 harg6 arg7 harg7 arg8 harg8 arg9 harg9 arg10 harg10 x0 x1 x2 x3 x4
    (ix2 0 (at4 g q)) = dScale (XX x0) r (WW x2) (BB x3) (XX x1) g q := by
  unfold out0_A_8 kernelRun0_A
  refine (four_cols _ _ _ _ _ _ _ _ _ _ g 0 q).trans ?_
  match g with
  | 0 => exact (s0 _ _ _ _ _ q).trans (sum_scale harg2 harg3 harg4 x0 x1 x2 x3 r 0 rfl rfl q _ _ _ (pool0 c harg1 arg10 x0 r hr))
  | 1 => exact (s1 _ _ _ _ _ _ q).trans (sum_scale harg2 harg3 harg4 x0 x1 x2 x3 r 1 rfl rfl q _ _ _ (pool1 c harg1 harg2 harg3 harg5 arg10 x0 x1 x2 x4 r hr))
  | 2 => exact (s2 _ _ _ _ _ q _ _).trans (sum_scale harg2 harg3 harg4 x0 x1 x2 x3 r 2 rfl rfl q _ _ _ (pool2 c harg1 harg2 harg3 harg5 arg10 x0 x1 x2 x4 r hr))
  | 3 => exact (s3 _ _ _ _ _ _ _ _ q).trans (sum_scale harg2 harg3 harg4 x0 x1 x2 x3 r 3 rfl rfl q _ _ _ (pool3 c harg1 harg2 harg3 harg5 arg10 x0 x1 x2 x4 r hr))

end Cert.PoolBwdIdeal.Value

end
-- ==== Proof.PoolBwdFinal.lean ====
/-
  The pooling branch's gradient: the four arrays the kernel leaves.
-/
module

public import proofs.«01_k».proof.Proof.PoolBwdOut
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PoolBwdIdeal.Value

open Cert.PoolBwdIdeal Cert.PoolBwdIdeal.Gen Cert.PoolMath

variable (m : (ℓ : Loc nD τ sig) → Buf (Elt Ideal) ℓ) (c : Dev nD) (t : Fin cfg0.N)

theorem idx : ∀ t : Fin cfg0.N, win0_0.index t = ![0, 0] ∧ win0_1.index t = ![0, 0] ∧ win0_2.index t = ![0, 0, 0] ∧ win0_3.index t = ![0, 0, 0]
    ∧ win0_4.index t = ![0, 0] ∧ win0_5.index t = ![0, 0] ∧ win0_6.index t = ![0, 0, 0] ∧ win0_7.index t = ![0, 0, 0]
    ∧ win0_8.index t = ![0, 0] := (by decide +kernel : ∀ t : Fin grid0.N, _)

/-- What the call is given: the pooled columns, the groups' weights and biases, the channels' scales and the cotangent. -/
abbrev gcol (i : Fin 2048) (k : Fin 512) : EReal := m ((c.tc : Thread nD τ).loc main_arg0) (ix3 0 i ⟨k.val, by omega⟩)
abbrev gwts (g : Fin 4) (k q : Fin 128) : EReal := m ((c.tc : Thread nD τ).loc main_arg1) (ix3 g k q)
abbrev gbias (g : Fin 4) (q : Fin 128) : EReal := m ((c.tc : Thread nD τ).loc main_arg2) (ix2 g q)
abbrev gscl (k : Fin 512) : EReal := m ((c.tc : Thread nD τ).loc main_arg3) (ix1 k)
abbrev gcot (i : Fin 2048) (k : Fin 512) : EReal := m ((c.tc : Thread nD τ).loc main_arg4) (ix3 0 i k)

theorem u_blk : XX (iblk m c 0 t) = gcol m c := by
  funext i k
  show iblk m c 0 t (ix2 i k) = m ((c.tc : Thread nD τ).loc main_arg0) (ix3 0 i ⟨k.val, by omega⟩)
  blk_point [iblk, V, idx t]
theorem c_blk : XX (iblk m c 1 t) = gcot m c := by
  funext i k
  show iblk m c 1 t (ix2 i k) = m ((c.tc : Thread nD τ).loc main_arg4) (ix3 0 i k)
  blk_point [iblk, V, idx t]
theorem w_blk : WW (iblk m c 2 t) = gwts m c := by
  funext g k q
  show iblk m c 2 t (ix3 g k q) = m ((c.tc : Thread nD τ).loc main_arg1) (ix3 g k q)
  blk_point [iblk, V, idx t]
theorem b_blk : BB (iblk m c 3 t) = gbias m c := by
  funext g q
  show iblk m c 3 t (ix3 g 0 q) = m ((c.tc : Thread nD τ).loc main_arg2) (ix2 g q)
  blk_point [iblk, V, idx t]
theorem s_blk : SS (iblk m c 4 t) = gscl m c := by
  funext k
  show iblk m c 4 t (ix2 0 k) = m ((c.tc : Thread nD τ).loc main_arg3) (ix1 k)
  blk_point [iblk, V, idx t]

theorem place5 (i : Fin 2048) (k : Fin 512) : (ix2 i k : S2048x512.Idx) = ((View.whole main_v4_0).slice (win0_5.rect t)).emb (ix2 i k) := by
  blk_ext [idx t]
theorem place6 (g : Fin 4) (k q : Fin 128) : (ix3 g k q : S4x128x128.Idx) = ((View.whole main_v4_1).slice (win0_6.rect t)).emb (ix3 g k q) := by
  blk_ext [idx t]
theorem place7 (g : Fin 4) (q : Fin 128) : (ix3 g 0 q : S4x1x128.Idx) = ((View.whole main_v4_2).slice (win0_7.rect t)).emb (ix3 g 0 q) := by
  blk_ext [idx t]
theorem place8 (k : Fin 512) : (ix2 0 k : S1x512.Idx) = ((View.whole main_v4_3).slice (win0_8.rect t)).emb (ix2 0 k) := by
  blk_ext [idx t]

/-- Every channel is one of its group's. -/
theorem at4_grp (k : Fin 512) : at4 (grp k) (lane k) = k := grp_lane k _

variable (r : Fin 512 → Fin 2048 → ℝ) (hr : ∀ i k, gcol m c i k = (r k i : EReal)) (p : Fin 4 → Fin 128 → Fin 2048 → ℝ)
  (hq : ∀ g i k, Ideal.div (dp (gwts m c) (gscl m c) (gcot m c) g i k) (cnt (2 ^ (g.val + 1)) i.val) = (p g k i : EReal))

def OUT5 : Buf (Elt Ideal) ((c.tc : Thread nD τ).loc main_v4_0) := fun j => dCol (gwts m c) (gscl m c) (gcot m c) (grp (j 1)) (j 0) (lane (j 1)) p
def OUT6 : Buf (Elt Ideal) ((c.tc : Thread nD τ).loc main_v4_1) := fun j => dWts (gcol m c) r (gscl m c) (gcot m c) (j 0) (j 1) (j 2)
def OUT7 : Buf (Elt Ideal) ((c.tc : Thread nD τ).loc main_v4_2) := fun j => dBias (gscl m c) (gcot m c) (j 0) (j 2)
def OUT8 : Buf (Elt Ideal) ((c.tc : Thread nD τ).loc main_v4_3) := fun j => dScale (gcol m c) r (gwts m c) (gbias m c) (gcot m c) (grp (j 1)) (lane (j 1))

include hq in
theorem point5 (i : Fin 2048) (k : Fin 512) : (outsAt0 m c t).1 (ix2 i k) = OUT5 m c p (((View.whole main_v4_0).slice (win0_5.rect t)).emb (ix2 i k)) := by
  rw [← place5 t i k]
  refine Eq.trans (congrArg (fun k => (outsAt0 m c t).1 (ix2 i k)) (at4_grp k).symm) ?_
  unfold outsAt0
  dsimp only
  refine (out_cols c _ _ _ _ _ _ _ _ _ _ _ _ _ _ _ _ p (by rw [w_blk, s_blk, c_blk]; exact hq) (grp k) i (lane k)).trans ?_
  rw [w_blk, s_blk, c_blk]
  rfl

include hr in
theorem point6 (g : Fin 4) (k q : Fin 128) : (outsAt0 m c t).2.1 (ix3 g k q) = OUT6 m c r (((View.whole main_v4_1).slice (win0_6.rect t)).emb (ix3 g k q)) := by
  rw [← place6 t g k q]
  unfold outsAt0
  dsimp only
  refine (out_wts c _ _ _ _ _ _ _ _ _ _ _ _ _ _ _ _ r (fun i k => (congrFun (congrFun (u_blk m c t) i) k).trans (hr i k)) g k q).trans ?_
  rw [u_blk, s_blk, c_blk]
  rfl

theorem point7 (g : Fin 4) (q : Fin 128) : (outsAt0 m c t).2.2.1 (ix3 g 0 q) = OUT7 m c (((View.whole main_v4_2).slice (win0_7.rect t)).emb (ix3 g 0 q)) := by
  rw [← place7 t g q]
  unfold outsAt0
  dsimp only
  refine (out_bias c _ _ _ _ _ _ _ _ _ _ _ _ _ _ _ _ g q).trans ?_
  rw [s_blk, c_blk]
  rfl

include hr in
theorem point8 (k : Fin 512) : (outsAt0 m c t).2.2.2 (ix2 0 k) = OUT8 m c r (((View.whole main_v4_3).slice (win0_8.rect t)).emb (ix2 0 k)) := by
  rw [← place8 t k]
  refine Eq.trans (congrArg (fun k => (outsAt0 m c t).2.2.2 (ix2 0 k)) (at4_grp k).symm) ?_
  unfold outsAt0
  dsimp only
  refine (out_scale c _ _ _ _ _ _ _ _ _ _ _ _ _ _ _ _ r (fun i k => (congrFun (congrFun (u_blk m c t) i) k).trans (hr i k)) (grp k) (lane k)).trans ?_
  rw [u_blk, w_blk, b_blk, c_blk]
  rfl

include hq in
theorem final5 : (dats m 0 c).arrAt 5 cfg0.N = OUT5 m c p := by
  refine (dats m 0 c).arrAt_eq_of_covers 5 _ (by decide +kernel) fun t _ y => ?_
  blk_simp
  rw [after0_5]
  idx_vars y
  exact point5 m c t p hq y0 y1

include hr in
theorem final6 : (dats m 0 c).arrAt 6 cfg0.N = OUT6 m c r := by
  refine (dats m 0 c).arrAt_eq_of_covers 6 _ (by decide +kernel) fun t _ y => ?_
  blk_simp
  rw [after0_6]
  idx_vars y
  exact point6 m c t r hr y0 y1 y2

theorem final7 : (dats m 0 c).arrAt 7 cfg0.N = OUT7 m c := by
  refine (dats m 0 c).arrAt_eq_of_covers 7 _ (by decide +kernel) fun t _ y => ?_
  blk_simp
  rw [after0_7]
  idx_vars y
  obtain rfl : y1 = 0 := Subsingleton.elim _ _
  exact point7 m c t y0 y2

include hr in
theorem final8 : (dats m 0 c).arrAt 8 cfg0.N = OUT8 m c r := by
  refine (dats m 0 c).arrAt_eq_of_covers 8 _ (by decide +kernel) fun t _ y => ?_
  blk_simp
  rw [after0_8]
  idx_vars y
  obtain rfl : y0 = 0 := Subsingleton.elim _ _
  exact point8 m c t r hr y1

end Cert.PoolBwdIdeal.Value

end
-- ==== Proof.PoolBwdRef.lean ====
/-
  The pooling branch's gradient in the reference: the pooled columns from running sums, the gradients of the weights, the bias
  and the scale, and the columns' gradient by a running sum from the end.
-/
module

public import proofs.«01_k».proof.Proof.PoolGrad
public import proofs.«01_k».proof.Proof.Gen.PoolBwdRefIdeal.Read
public import Idealize.ShloMosaic.Lib.WordCmp
public import Idealize.ShloMosaic.Lib.Pointwise

@[expose] public section

set_option maxRecDepth 16384
set_option backward.proofsInPublic true

noncomputable section

open Idealize.ShloMosaic Idealize.ShloMosaic.TcCoe Idealize.SL.Sem

namespace Cert.PoolBwdRefIdeal.Value

open Cert.PoolBwdRefIdeal Cert.PoolBwdRefIdeal.Gen Cert.PoolBwdRefIdeal.Read Cert.PoolMath

variable (x0 : (⟨S1x2048x5120, .f32⟩ : BufTy).Contents (Elt Ideal)) (x1 : (⟨S4x128x128, .f32⟩ : BufTy).Contents (Elt Ideal))
  (x2 : (⟨S4x128, .f32⟩ : BufTy).Contents (Elt Ideal)) (x3 : (⟨S512, .f32⟩ : BufTy).Contents (Elt Ideal))
  (x4 : (⟨S1x2048x512, .f32⟩ : BufTy).Contents (Elt Ideal))
  (r : Fin 512 → Fin 2048 → ℝ) (hr : ∀ i (k : Fin 512), x0 (ix3 0 i ⟨k.val, by omega⟩) = (r k i : EReal)) (g : Fin 4) (i : Fin 2048) (k q : Fin 128)

/-- What the reference is given: the pooled columns, the groups' weights and biases, the channels' scales, the cotangent. -/
abbrev XX (i : Fin 2048) (k : Fin 512) : EReal := x0 (ix3 0 i ⟨k.val, by omega⟩)
abbrev WW (g : Fin 4) (k q : Fin 128) : EReal := x1 (ix3 g k q)
abbrev BB (g : Fin 4) (q : Fin 128) : EReal := x2 (ix2 g q)
abbrev SS (k : Fin 512) : EReal := x3 (ix1 k)
abbrev CC (i : Fin 2048) (k : Fin 512) : EReal := x4 (ix3 0 i k)

/-- A window's count of rows. -/
theorem count_at (m i : ℕ) (o t w : EReal) (ho : o = 1) (ht : t = ((i : ℝ) : EReal)) (hw : w = (((m + 1 : ℕ) : ℝ) : EReal)) : min (o + t) w = cnt (m + 1) i := by
  rw [ho, ht, hw, cnt_real]

/-- A column and the negated column some rows later, with zeros past the end. -/
theorem drop_if (m N : ℕ) (hN : N + m = 2048) (c : Fin 2048 → ℝ) (i : Fin 2048) :
    ((c i : EReal) + if h : 1 + i.val < N then -(c ⟨m + (1 + i.val), by omega⟩ : EReal) else 0) = (drop (m + 1) c i : EReal) := by
  rw [drop, EReal.coe_sub, sub_eq_add_neg, ext]
  by_cases h : 1 + i.val < N
  · rw [dif_pos h, dif_pos (by omega)]
    exact congrArg (fun j => (c i : EReal) + -(c j : EReal)) (Fin.ext (by show m + (1 + i.val) = i.val + (m + 1); omega))
  · rw [dif_neg h, dif_neg (by omega), EReal.coe_zero, neg_zero]

/-- Four groups' columns, each padded with zeros to the whole, add up to the group of the channel. -/
theorem four_ifs (f : Fin 4 → Fin 128 → EReal) (g : Fin 4) (k : Fin 128) :
    ((((if h : (3 ≤ (128 * g.val + k.val) / 128 ∧ (128 * g.val + k.val) / 128 - 3 < 1) ∧ (128 * g.val + k.val) % 128 < 128 then f 3 ⟨(128 * g.val + k.val) % 128, h.2⟩ else 0)
        + if h : (2 ≤ (128 * g.val + k.val) / 128 ∧ (128 * g.val + k.val) / 128 - 2 < 1) ∧ (128 * g.val + k.val) % 128 < 128 then f 2 ⟨(128 * g.val + k.val) % 128, h.2⟩ else 0)
        + if h : (1 ≤ (128 * g.val + k.val) / 128 ∧ (128 * g.val + k.val) / 128 - 1 < 1) ∧ (128 * g.val + k.val) % 128 < 128 then f 1 ⟨(128 * g.val + k.val) % 128, h.2⟩ else 0)
        + if h : (128 * g.val + k.val) / 128 < 1 ∧ (128 * g.val + k.val) % 128 < 128 then f 0 ⟨(128 * g.val + k.val) % 128, h.2⟩ else 0) = f g k := by
  have hd : (128 * g.val + k.val) / 128 = g.val := by omega
  have hm : (128 * g.val + k.val) % 128 = k.val := by omega
  simp only [hd, hm, k.isLt, and_true]
  match g with
  | 0 => simp
  | 1 => simp
  | 2 => simp
  | 3 => simp

theorem dm_at : val_main_v102 (F := Ideal) x3 x4 (ix4 0 i g q) = dm (SS x3) (CC x4) g i q := by
  unfold dm
  pointwise [val_main_v102, val_main_v100, val_main_v99, val_main_v93]
  exact congrArg (fun k => x4 (ix3 0 i k) * x3 (ix1 k)) (Fin.ext (by show g.val * 128 + q.val = 128 * g.val + q.val; omega))

theorem dp_at : val_main_v108 (F := Ideal) x1 x3 x4 (ix4 0 i g k) = dp (WW x1) (SS x3) (CC x4) g i k := by
  unfold dp
  pointwise [val_main_v108, val_main_v107, val_main_v106, dm_at]

/-- A sum whose fibre is one place is the entry there. -/
theorem sum_one {s t : Shape} {axes : List (Fin s.rank)} (h : s.ReducesTo axes t) (v : s.Idx → EReal) (j : t.Idx) (a : s.Idx)
    (ha : ∀ i, h.drop i = j ↔ i = a) : Ideal.hostReduceAdd h v 0 j = v a := by
  unfold Ideal.hostReduceAdd
  rw [zero_add, show Finset.univ.filter (fun i => h.drop i = j) = {a} from Finset.ext fun i => by simp [ha i], Finset.sum_singleton]

theorem bias_at : val_main_v181 (F := Ideal) x3 x4 (ix3 g 0 q) = dBias (SS x3) (CC x4) g q := by
  unfold dBias
  pointwise [val_main_v181, val_main_v105, val_main_v104, val_main_v103, val_main_cst_25, val_main_cst_26]
  refine (sum_one _ _ _ (ix4 0 0 g q) fun i => ?_).trans ?_
  · idx_vars i
    have h0 := i0.isLt
    have h1 := i1.isLt
    constructor
    · intro e
      have e0 := congrFun e 0
      have e1 := congrFun e 1
      ext a
      match a with
      | 0 => exact Nat.lt_one_iff.mp h0
      | 1 => exact Nat.lt_one_iff.mp h1
      | 2 => exact congrArg Fin.val e0
      | 3 => exact congrArg Fin.val e1
    · intro e
      rw [e]
      funext b
      match b with
      | 0 => rfl
      | 1 => rfl
  · pointwise [dm_at]

theorem wts_at (hp : ∀ i k, val_main_v86 (F := Ideal) x0 (ix4 0 i g k) = pl (XX x0) r g i k) :
    val_main_v110 (F := Ideal) x0 x3 x4 (ix3 g k q) = dWts (XX x0) r (SS x3) (CC x4) g k q := by
  unfold dWts
  pointwise [val_main_v110, val_main_v109, val_main_v106, dm_at, hp]
  rw [Fin.sum_univ_one]
  refine Finset.sum_congr rfl fun i _ => ?_
  rw [mul_comm]
  exact congrArg (· * _) (hp i k)

theorem mx_at (hp : ∀ i k, val_main_v86 (F := Ideal) x0 (ix4 0 i g k) = pl (XX x0) r g i k) :
    val_main_v91 (F := Ideal) x0 x1 x2 (ix4 0 i g q) = mx (XX x0) r (WW x1) (BB x2) g i q := by
  unfold mx
  pointwise [val_main_v91, val_main_v90, val_main_v89, val_main_v88, val_main_v87, hp]
  exact congrArg (· + _) (Finset.sum_congr rfl fun k _ => mul_comm _ _)

/-! Group `g` reads columns `128 g` to `128 g + 127`. -/

theorem u0 : val_main_v3 (F := Ideal) x0 (ix3 0 i q) = x0 (ix3 0 i ⟨q.val, by omega⟩) := by
  pointwise [val_main_v3, val_main_v2, val_main_v1, val_main_v0]
theorem u1 : val_main_v23 (F := Ideal) x0 (ix3 0 i q) = x0 (ix3 0 i ⟨128 + q.val, by omega⟩) := by
  pointwise [val_main_v23, val_main_v22, val_main_v1, val_main_v0]
theorem u2 : val_main_v43 (F := Ideal) x0 (ix3 0 i q) = x0 (ix3 0 i ⟨256 + q.val, by omega⟩) := by
  pointwise [val_main_v43, val_main_v42, val_main_v1, val_main_v0]
theorem u3 : val_main_v63 (F := Ideal) x0 (ix3 0 i q) = x0 (ix3 0 i ⟨384 + q.val, by omega⟩) := by
  pointwise [val_main_v63, val_main_v62, val_main_v1, val_main_v0]

/-- A group's running sum. -/
theorem cumsum (c : Fin 2048 → ℝ) (x : S1x2048x128.Idx → EReal) (hx : ∀ s : Fin 2048, x (ix3 0 s q) = (c s : EReal)) (init : S_.Idx → EReal) (h0 : ∀ i, init i = 0) (h hu) :
    Host.reduceWindowAdd (F := Ideal) (φ := .f32) (s := S1x2048x128) (t := S1x2048x128) ![1, 2048, 1] ![1, 1, 1] ![0, 2047, 0] ![0, 0, 0] x init h hu (ix3 0 i q)
      = (csum c (i.val + 1) : EReal) := by
  refine (reduceWindow_at c 2047 0 x q hx init h0 h hu i).trans ?_
  rw [show i.val + 2048 - 2047 = i.val + 1 by omega, show i.val - 2047 = 0 by omega, csum_zero, sub_zero]

/-- A group's sum from a row to the end. -/
theorem tailsum (n : ℕ) (c : Fin 2048 → ℝ) (x : S1x2048x128.Idx → EReal) (hx : ∀ s : Fin 2048, x (ix3 0 s q) = (drop n c s : EReal)) (init : S_.Idx → EReal) (h0 : ∀ i, init i = 0) (h hu) :
    Host.reduceWindowAdd (F := Ideal) (φ := .f32) (s := S1x2048x128) (t := S1x2048x128) ![1, 2048, 1] ![1, 1, 1] ![0, 0, 0] ![0, 2047, 0] x init h hu (ix3 0 i q)
      = (ahead c n i.val : EReal) := by
  refine (reduceWindow_at (drop n c) 0 2047 x q hx init h0 h hu i).trans ?_
  rw [drop_ahead]

section groups
variable (c : Fin 2048 → ℝ)

theorem mean0 (hx : ∀ s, val_main_v3 (F := Ideal) x0 (ix3 0 s q) = (c s : EReal)) :
    val_main_v21 (F := Ideal) x0 (ix3 0 i q) = pmean 2 i.val (back c 2 i.val) (val_main_v3 (F := Ideal) x0 (ix3 0 i q)) := by
  have cs : ∀ i, val_main_v4 (F := Ideal) x0 (ix3 0 i q) = (csum c (i.val + 1) : EReal) := fun i => cumsum i q c _ hx (val_main_call0_call0_v0 (F := Ideal)) (fun j => by pointwise [val_main_call0_call0_v0, val_main_call0_call0_cst]) reduceWindows_S1x2048x128_S1x2048x128_w1s1p0_0_w2048s1p2047_0_w1s1p0_0 h_S_
  pointwise [val_main_v21, val_main_v20, val_main_v19, val_main_v18, val_main_v17, val_main_v16, val_main_v15, val_main_v14, val_main_v13, val_main_v12]
  refine mean_at c 1 i.val _ _ _ _ _ _ (cs i) ?_ ?_ (row_real i) ?_
  · pointwise [val_main_v10, val_main_v9, val_main_v8, val_main_v6, val_main_v5]
    exact shifted c 1 (fun s => val_main_v4 x0 (ix3 0 s q)) cs _ _ (by pointwise [val_main_cst_1]) (by pointwise [val_main_cst]) i
  · pointwise [val_main_cst_3]
  · pointwise [val_main_cst_4]
    exact word2
theorem mean1 (hx : ∀ s, val_main_v23 (F := Ideal) x0 (ix3 0 s q) = (c s : EReal)) :
    val_main_v41 (F := Ideal) x0 (ix3 0 i q) = pmean 4 i.val (back c 4 i.val) (val_main_v23 (F := Ideal) x0 (ix3 0 i q)) := by
  have cs : ∀ i, val_main_v24 (F := Ideal) x0 (ix3 0 i q) = (csum c (i.val + 1) : EReal) := fun i => cumsum i q c _ hx (val_main_call1_call0_v0 (F := Ideal)) (fun j => by pointwise [val_main_call1_call0_v0, val_main_call1_call0_cst]) reduceWindows_S1x2048x128_S1x2048x128_w1s1p0_0_w2048s1p2047_0_w1s1p0_0 h_S_
  pointwise [val_main_v41, val_main_v40, val_main_v39, val_main_v38, val_main_v37, val_main_v36, val_main_v35, val_main_v34, val_main_v33, val_main_v32]
  refine mean_at c 3 i.val _ _ _ _ _ _ (cs i) ?_ ?_ (row_real i) ?_
  · pointwise [val_main_v30, val_main_v29, val_main_v28, val_main_v26, val_main_v25]
    exact shifted c 3 (fun s => val_main_v24 x0 (ix3 0 s q)) cs _ _ (by pointwise [val_main_cst_7]) (by pointwise [val_main_cst_5]) i
  · pointwise [val_main_cst_9]
  · pointwise [val_main_cst_10]
    exact word4
theorem mean2 (hx : ∀ s, val_main_v43 (F := Ideal) x0 (ix3 0 s q) = (c s : EReal)) :
    val_main_v61 (F := Ideal) x0 (ix3 0 i q) = pmean 8 i.val (back c 8 i.val) (val_main_v43 (F := Ideal) x0 (ix3 0 i q)) := by
  have cs : ∀ i, val_main_v44 (F := Ideal) x0 (ix3 0 i q) = (csum c (i.val + 1) : EReal) := fun i => cumsum i q c _ hx (val_main_call2_call0_v0 (F := Ideal)) (fun j => by pointwise [val_main_call2_call0_v0, val_main_call2_call0_cst]) reduceWindows_S1x2048x128_S1x2048x128_w1s1p0_0_w2048s1p2047_0_w1s1p0_0 h_S_
  pointwise [val_main_v61, val_main_v60, val_main_v59, val_main_v58, val_main_v57, val_main_v56, val_main_v55, val_main_v54, val_main_v53, val_main_v52]
  refine mean_at c 7 i.val _ _ _ _ _ _ (cs i) ?_ ?_ (row_real i) ?_
  · pointwise [val_main_v50, val_main_v49, val_main_v48, val_main_v46, val_main_v45]
    exact shifted c 7 (fun s => val_main_v44 x0 (ix3 0 s q)) cs _ _ (by pointwise [val_main_cst_13]) (by pointwise [val_main_cst_11]) i
  · pointwise [val_main_cst_15]
  · pointwise [val_main_cst_16]
    exact word8
theorem mean3 (hx : ∀ s, val_main_v63 (F := Ideal) x0 (ix3 0 s q) = (c s : EReal)) :
    val_main_v81 (F := Ideal) x0 (ix3 0 i q) = pmean 16 i.val (back c 16 i.val) (val_main_v63 (F := Ideal) x0 (ix3 0 i q)) := by
  have cs : ∀ i, val_main_v64 (F := Ideal) x0 (ix3 0 i q) = (csum c (i.val + 1) : EReal) := fun i => cumsum i q c _ hx (val_main_call3_call0_v0 (F := Ideal)) (fun j => by pointwise [val_main_call3_call0_v0, val_main_call3_call0_cst]) reduceWindows_S1x2048x128_S1x2048x128_w1s1p0_0_w2048s1p2047_0_w1s1p0_0 h_S_
  pointwise [val_main_v81, val_main_v80, val_main_v79, val_main_v78, val_main_v77, val_main_v76, val_main_v75, val_main_v74, val_main_v73, val_main_v72]
  refine mean_at c 15 i.val _ _ _ _ _ _ (cs i) ?_ ?_ (row_real i) ?_
  · pointwise [val_main_v70, val_main_v69, val_main_v68, val_main_v66, val_main_v65]
    exact shifted c 15 (fun s => val_main_v64 x0 (ix3 0 s q)) cs _ _ (by pointwise [val_main_cst_19]) (by pointwise [val_main_cst_17]) i
  · pointwise [val_main_cst_21]
  · pointwise [val_main_cst_22]
    exact word16
end groups

include hr in
/-- A group's pooled column. -/
theorem pooled : val_main_v86 (F := Ideal) x0 (ix4 0 i g q) = pl (XX x0) r g i q := by
  have e : ∀ (g : Fin 4) s, x0 (ix3 0 s ⟨128 * g.val + q.val, by omega⟩) = (col r g q s : EReal) := fun g s => hr s ⟨128 * g.val + q.val, by omega⟩
  unfold pl
  pointwise [val_main_v86, val_main_v85, val_main_v84, val_main_v83, val_main_v82]
  match g with
  | 0 =>
    exact (mean0 x0 i q _ fun s => (u0 x0 s q).trans ((congrArg (fun k => x0 (ix3 0 s k)) (Fin.ext (Nat.zero_add _).symm)).trans (e 0 s))).trans
      (congrArg (pmean 2 i.val _) ((u0 x0 i q).trans (congrArg (fun k => x0 (ix3 0 i k)) (Fin.ext (Nat.zero_add _).symm))))
  | 1 => exact (mean1 x0 i q _ fun s => (u1 x0 s q).trans (e 1 s)).trans (congrArg (pmean 4 i.val _) (u1 x0 i q))
  | 2 => exact (mean2 x0 i q _ fun s => (u2 x0 s q).trans (e 2 s)).trans (congrArg (pmean 8 i.val _) (u2 x0 i q))
  | 3 => exact (mean3 x0 i q _ fun s => (u3 x0 s q).trans (e 3 s)).trans (congrArg (pmean 16 i.val _) (u3 x0 i q))

theorem scale_at (hp : ∀ i k, val_main_v86 (F := Ideal) x0 (ix4 0 i g k) = pl (XX x0) r g i k) :
    val_main_v182 (F := Ideal) x0 x1 x2 x4 (ix2 0 (at4 g q)) = dScale (XX x0) r (WW x1) (BB x2) (CC x4) g q := by
  unfold dScale
  pointwise [val_main_v182, val_main_v101, val_main_cst_24, val_main_v98, val_main_v97, val_main_cst_23, val_main_v96, val_main_v92]
  refine (sum_one _ _ _ (ix3 0 0 (at4 g q)) fun i => ?_).trans ?_
  · idx_vars i
    have h0 := i0.isLt
    have h1 := i1.isLt
    constructor
    · intro e
      have e0 := congrFun e 0
      ext a
      match a with
      | 0 => exact Nat.lt_one_iff.mp h0
      | 1 => exact Nat.lt_one_iff.mp h1
      | 2 => exact congrArg Fin.val e0
    · intro e
      rw [e]
      funext b
      match b with
      | 0 => rfl
  · pointwise []
    refine Finset.sum_congr rfl fun i _ => ?_
    rw [mul_comm, ← mx_at x0 x1 x2 r g i q hp]

/-! A group's gradient of its columns: the cotangent over the window's count, summed over the rows whose window holds the row, less the cotangent. -/

variable (p : Fin 4 → Fin 128 → Fin 2048 → ℝ)
  (hq : ∀ g i k, Ideal.div (dp (WW x1) (SS x3) (CC x4) g i k) (cnt (2 ^ (g.val + 1)) i.val) = (p g k i : EReal))

include hq in
theorem quot0 : val_main_v165 (F := Ideal) x1 x3 x4 (ix3 0 i k) = (p 0 k i : EReal) := by
  rw [← hq 0 i k]
  pointwise [val_main_v165, val_main_v164, val_main_v112, val_main_v111, val_main_v17, val_main_v16, val_main_v15, val_main_v14, val_main_v13, val_main_v12, dp_at]
  exact congrArg (Ideal.div _) (count_at 1 i.val _ _ _ (by pointwise [val_main_cst_3]) (row_real i) (by pointwise [val_main_cst_4]; exact word2))

include hq in
theorem drop0 : val_main_v172 (F := Ideal) x1 x3 x4 (ix3 0 i k) = (drop 2 (p 0 k) i : EReal) := by
  pointwise [val_main_v172, val_main_v171, val_main_v169, val_main_cst_33, val_main_v168, val_main_v166, quot0 x1 x3 x4 _ _ p hq]
  exact drop_if 1 2047 rfl (p 0 k) i

include hq in
theorem dcol0 : val_main_v174 (F := Ideal) x1 x3 x4 (ix3 0 i k) = dCol (WW x1) (SS x3) (CC x4) 0 i k p := by
  have ts : val_main_v173 (F := Ideal) x1 x3 x4 (ix3 0 i k) = (ahead (p 0 k) 2 i.val : EReal) := tailsum i k 2 (p 0 k) _ (fun s => drop0 x1 x3 x4 s k p hq) (val_main_call7_call0_v0 (F := Ideal)) (fun j => by pointwise [val_main_call7_call0_v0, val_main_call7_call0_cst]) reduceWindows_S1x2048x128_S1x2048x128_w1s1p0_0_w2048s1p0_2047_w1s1p0_0 h_S_
  pointwise [val_main_v174, val_main_v163, val_main_v112, val_main_v111, ts, dp_at]
  rw [dCol, sub_eq_add_neg, add_comm]
  rfl

include hq in
theorem quot1 : val_main_v150 (F := Ideal) x1 x3 x4 (ix3 0 i k) = (p 1 k i : EReal) := by
  rw [← hq 1 i k]
  pointwise [val_main_v150, val_main_v149, val_main_v114, val_main_v113, val_main_v37, val_main_v36, val_main_v35, val_main_v34, val_main_v33, val_main_v32, dp_at]
  exact congrArg (Ideal.div _) (count_at 3 i.val _ _ _ (by pointwise [val_main_cst_9]) (row_real i) (by pointwise [val_main_cst_10]; exact word4))

include hq in
theorem drop1 : val_main_v157 (F := Ideal) x1 x3 x4 (ix3 0 i k) = (drop 4 (p 1 k) i : EReal) := by
  pointwise [val_main_v157, val_main_v156, val_main_v154, val_main_cst_31, val_main_v153, val_main_v151, quot1 x1 x3 x4 _ _ p hq]
  exact drop_if 3 2045 rfl (p 1 k) i

include hq in
theorem dcol1 : val_main_v159 (F := Ideal) x1 x3 x4 (ix3 0 i k) = dCol (WW x1) (SS x3) (CC x4) 1 i k p := by
  have ts : val_main_v158 (F := Ideal) x1 x3 x4 (ix3 0 i k) = (ahead (p 1 k) 4 i.val : EReal) := tailsum i k 4 (p 1 k) _ (fun s => drop1 x1 x3 x4 s k p hq) (val_main_call6_call0_v0 (F := Ideal)) (fun j => by pointwise [val_main_call6_call0_v0, val_main_call6_call0_cst]) reduceWindows_S1x2048x128_S1x2048x128_w1s1p0_0_w2048s1p0_2047_w1s1p0_0 h_S_
  pointwise [val_main_v159, val_main_v148, val_main_v114, val_main_v113, ts, dp_at]
  rw [dCol, sub_eq_add_neg, add_comm]
  rfl

include hq in
theorem quot2 : val_main_v135 (F := Ideal) x1 x3 x4 (ix3 0 i k) = (p 2 k i : EReal) := by
  rw [← hq 2 i k]
  pointwise [val_main_v135, val_main_v134, val_main_v116, val_main_v115, val_main_v57, val_main_v56, val_main_v55, val_main_v54, val_main_v53, val_main_v52, dp_at]
  exact congrArg (Ideal.div _) (count_at 7 i.val _ _ _ (by pointwise [val_main_cst_15]) (row_real i) (by pointwise [val_main_cst_16]; exact word8))

include hq in
theorem drop2 : val_main_v142 (F := Ideal) x1 x3 x4 (ix3 0 i k) = (drop 8 (p 2 k) i : EReal) := by
  pointwise [val_main_v142, val_main_v141, val_main_v139, val_main_cst_29, val_main_v138, val_main_v136, quot2 x1 x3 x4 _ _ p hq]
  exact drop_if 7 2041 rfl (p 2 k) i

include hq in
theorem dcol2 : val_main_v144 (F := Ideal) x1 x3 x4 (ix3 0 i k) = dCol (WW x1) (SS x3) (CC x4) 2 i k p := by
  have ts : val_main_v143 (F := Ideal) x1 x3 x4 (ix3 0 i k) = (ahead (p 2 k) 8 i.val : EReal) := tailsum i k 8 (p 2 k) _ (fun s => drop2 x1 x3 x4 s k p hq) (val_main_call5_call0_v0 (F := Ideal)) (fun j => by pointwise [val_main_call5_call0_v0, val_main_call5_call0_cst]) reduceWindows_S1x2048x128_S1x2048x128_w1s1p0_0_w2048s1p0_2047_w1s1p0_0 h_S_
  pointwise [val_main_v144, val_main_v133, val_main_v116, val_main_v115, ts, dp_at]
  rw [dCol, sub_eq_add_neg, add_comm]
  rfl

include hq in
theorem quot3 : val_main_v121 (F := Ideal) x1 x3 x4 (ix3 0 i k) = (p 3 k i : EReal) := by
  rw [← hq 3 i k]
  pointwise [val_main_v121, val_main_v120, val_main_v118, val_main_v117, val_main_v77, val_main_v76, val_main_v75, val_main_v74, val_main_v73, val_main_v72, dp_at]
  exact congrArg (Ideal.div _) (count_at 15 i.val _ _ _ (by pointwise [val_main_cst_21]) (row_real i) (by pointwise [val_main_cst_22]; exact word16))

include hq in
theorem drop3 : val_main_v128 (F := Ideal) x1 x3 x4 (ix3 0 i k) = (drop 16 (p 3 k) i : EReal) := by
  pointwise [val_main_v128, val_main_v127, val_main_v125, val_main_cst_27, val_main_v124, val_main_v122, quot3 x1 x3 x4 _ _ p hq]
  exact drop_if 15 2033 rfl (p 3 k) i

include hq in
theorem dcol3 : val_main_v130 (F := Ideal) x1 x3 x4 (ix3 0 i k) = dCol (WW x1) (SS x3) (CC x4) 3 i k p := by
  have ts : val_main_v129 (F := Ideal) x1 x3 x4 (ix3 0 i k) = (ahead (p 3 k) 16 i.val : EReal) := tailsum i k 16 (p 3 k) _ (fun s => drop3 x1 x3 x4 s k p hq) (val_main_call4_call0_v0 (F := Ideal)) (fun j => by pointwise [val_main_call4_call0_v0, val_main_call4_call0_cst]) reduceWindows_S1x2048x128_S1x2048x128_w1s1p0_0_w2048s1p0_2047_w1s1p0_0 h_S_
  pointwise [val_main_v130, val_main_v119, val_main_v118, val_main_v117, ts, dp_at]
  rw [dCol, sub_eq_add_neg, add_comm]
  rfl

include hq in
/-- The gradient of the pooled branch's columns. -/
theorem cols_at : val_main_v180 (F := Ideal) x1 x3 x4 (ix2 i (at4 g k)) = dCol (WW x1) (SS x3) (CC x4) g i k p := by
  pointwise [val_main_v180, val_main_v179, val_main_v178, val_main_v177, val_main_v176, val_main_v175, val_main_v162, val_main_v161, val_main_v160, val_main_v147, val_main_v146, val_main_v145, val_main_v132, val_main_v131, val_main_cst_28, val_main_cst_30, val_main_cst_32, val_main_cst_34, dcol0 x1 x3 x4 _ _ p hq, dcol1 x1 x3 x4 _ _ p hq, dcol2 x1 x3 x4 _ _ p hq, dcol3 x1 x3 x4 _ _ p hq]
  exact four_ifs (fun g k => dCol (WW x1) (SS x3) (CC x4) g i k p) g k

end Cert.PoolBwdRefIdeal.Value

end
-- ==== Proof.PoolPair.lean ====
/-
  The pooling branch's gradient: the frames of the call, of its ideal program and of its reference, and the equality of the
  kernel's four results with the derivative where the columns, the weights, the scale and the cotangent are finite.
-/
module

public import proofs.«01_k».proof.Defs
public import proofs.«01_k».proof.Proof.Gen.PoolBwd.Frame
public import proofs.«01_k».proof.Proof.PoolBwdFinal
public import proofs.«01_k».proof.Proof.PoolBwdRef
public import proofs.«01_k».proof.Proof.Fin
public import proofs.«01_k».proof.Proof.Gen.Pre_pool_bwd_finite
public import Idealize.ShloMosaic.Lib.Claim

@[expose] public section

set_option maxRecDepth 16384

noncomputable section

namespace Cert.Proof

open Idealize.ShloMosaic Idealize.SL.Sem Cert.PoolMath

theorem facts_pool_bwd_finite : Cert.Pre_pool_bwd_finite.Facts := Cert.Pre_pool_bwd_finite.Gen.facts

/-- The call leaves its five arguments as they were and every counter at zero. -/
theorem frame_PoolBwd : Cert.quiescent_PoolBwd := fun m ρ _ => Cert.PoolBwd.Gen.frame m ρ
/-- The same of the ideal program. -/
theorem frame_PoolBwdIdeal : Cert.quiescent_PoolBwdIdeal := fun m ρ _ => Cert.PoolBwdIdeal.Gen.frame m ρ
theorem frame_PoolBwdIdeal_pre : Cert.quiescent_PoolBwdIdeal_pre_pool_bwd_finite := fun m ρ _ => Cert.PoolBwdIdeal.Gen.frame m ρ
/-- The reference leaves its arguments as they were: the end of its run's statement. -/
theorem frame_PoolBwdRefIdeal : Cert.quiescent_PoolBwdRefIdeal := fun m ρ _ =>
  (θ_run Cert.PoolBwdRefIdeal.defs _ _).mono (fun r h => ⟨fun c => (h c).2.2.2.2,
      Idealize.ShloMosaic.sem_eq_zero_of_no_sems (by decide) r.2⟩)
    (Cert.PoolBwdRefIdeal.Value.run m ρ)
theorem frame_PoolBwdRefIdeal_pre : Cert.quiescent_PoolBwdRefIdeal_pre_pool_bwd_finite := fun m ρ _ => frame_PoolBwdRefIdeal m ρ trivial

section finite
variable (x : FVec Ideal Cert.Pre_pool_bwd_finite.S1x2048x5120 .f32) (w : FVec Ideal Cert.Pre_pool_bwd_finite.S4x128x128 .f32)
  (b : FVec Ideal Cert.Pre_pool_bwd_finite.S4x128 .f32) (s : FVec Ideal Cert.Pre_pool_bwd_finite.S512 .f32)
  (y : FVec Ideal Cert.Pre_pool_bwd_finite.S1x2048x512 .f32)

/-- The precondition says the pooled columns, the weights, the scales and the cotangent are real numbers. -/
theorem cols_real (h : (Cert.Pre_pool_bwd_finite.fn (F := Ideal) x w b s y).1 = fun _ => 1#1) (k : Fin 512) (i : Fin 2048) :
    ∃ r : ℝ, x (ix3 0 i ⟨k.val, by omega⟩) = r := by
  obtain ⟨r, hr⟩ := Cert.Finite.real_of_all _ _ (fun _ => rfl) h (ix3 0 i k)
  refine ⟨r, Eq.trans ?_ hr⟩
  pointwise []
theorem wts_real (h : (Cert.Pre_pool_bwd_finite.fn (F := Ideal) x w b s y).2.1 = fun _ => 1#1) (g : Fin 4) (k q : Fin 128) : ∃ r : ℝ, w (ix3 g k q) = r :=
  Cert.Finite.real_of_all _ _ (fun _ => rfl) h (ix3 g k q)
theorem scl_real (h : (Cert.Pre_pool_bwd_finite.fn (F := Ideal) x w b s y).2.2.1 = fun _ => 1#1) (k : Fin 512) : ∃ r : ℝ, s (ix1 k) = r :=
  Cert.Finite.real_of_all _ _ (fun _ => rfl) h (ix1 k)
theorem cot_real (h : (Cert.Pre_pool_bwd_finite.fn (F := Ideal) x w b s y).2.2.2 = fun _ => 1#1) (i : Fin 2048) (k : Fin 512) : ∃ r : ℝ, y (ix3 0 i k) = r :=
  Cert.Finite.real_of_all _ _ (fun _ => rfl) h (ix3 0 i k)
end finite

/-- The pooling branch's gradient: at the pooled columns, at the groups' weights and biases, and at the channels' scales. -/
theorem algebraic_PoolBwd : Cert.algebraic_PoolBwdIdeal_PoolBwdRefIdeal_pre_pool_bwd_finite := by
  pair_intro
  · run_from Cert.PoolBwdIdeal.Value.run_blocks m g
  · run_from Cert.PoolBwdRefIdeal.Value.run m' g'
    all_goals
      have h0 : StableHlo.launchContents m' c (Proc.tc.devRef Cert.PoolBwdRefIdeal.main_arg0) = m ((c.tc : Thread Cert.PoolBwdIdeal.nD Cert.PoolBwdIdeal.τ).loc Cert.PoolBwdIdeal.main_arg0) := (hagree c).1
      have h1 : StableHlo.launchContents m' c (Proc.tc.devRef Cert.PoolBwdRefIdeal.main_arg1) = m ((c.tc : Thread Cert.PoolBwdIdeal.nD Cert.PoolBwdIdeal.τ).loc Cert.PoolBwdIdeal.main_arg1) := (hagree c).2.1
      have h2 : StableHlo.launchContents m' c (Proc.tc.devRef Cert.PoolBwdRefIdeal.main_arg2) = m ((c.tc : Thread Cert.PoolBwdIdeal.nD Cert.PoolBwdIdeal.τ).loc Cert.PoolBwdIdeal.main_arg2) := (hagree c).2.2.1
      have h3 : StableHlo.launchContents m' c (Proc.tc.devRef Cert.PoolBwdRefIdeal.main_arg3) = m ((c.tc : Thread Cert.PoolBwdIdeal.nD Cert.PoolBwdIdeal.τ).loc Cert.PoolBwdIdeal.main_arg3) := (hagree c).2.2.2.1
      have h4 : StableHlo.launchContents m' c (Proc.tc.devRef Cert.PoolBwdRefIdeal.main_arg4) = m ((c.tc : Thread Cert.PoolBwdIdeal.nD Cert.PoolBwdIdeal.τ).loc Cert.PoolBwdIdeal.main_arg4) := (hagree c).2.2.2.2
      choose r hr using fun k i => cols_real _ _ _ _ _ (hpre c).1 k i
      choose p hp using fun g k i => dp_div_real (Cert.PoolBwdIdeal.Value.gwts m c) (Cert.PoolBwdIdeal.Value.gscl m c) (Cert.PoolBwdIdeal.Value.gcot m c) g i k
        (wts_real _ _ _ _ _ (hpre c).2.1) (scl_real _ _ _ _ _ (hpre c).2.2.1) (cot_real _ _ _ _ _ (hpre c).2.2.2)
    · rw [Cert.PoolBwdIdeal.Value.final5 m c p fun g i k => hp g k i, Cert.PoolBwdRefIdeal.Read.val_main_v180_eq]
      funext i
      idx_vars i
      rw [h1, h3, h4]
      refine Eq.trans (congrArg (fun k => Cert.PoolBwdRefIdeal.Read.val_main_v180 (F := Ideal) _ _ _ (ix2 i0 k)) (Cert.PoolBwdIdeal.Value.at4_grp i1).symm) ?_
      exact Cert.PoolBwdRefIdeal.Value.cols_at _ _ _ (grp i1) i0 (lane i1) p fun g i k => hp g k i
    · rw [Cert.PoolBwdIdeal.Value.final6 m c r fun i k => hr k i, Cert.PoolBwdRefIdeal.Read.val_main_v110_eq]
      funext i
      idx_vars i
      rw [h0, h3, h4]
      exact Cert.PoolBwdRefIdeal.Value.wts_at _ _ _ r i0 i1 i2 fun i k => Cert.PoolBwdRefIdeal.Value.pooled _ r (fun i k => hr k i) i0 i k
    · rw [Cert.PoolBwdIdeal.Value.final7 m c, Cert.PoolBwdRefIdeal.Read.val_main_v181_eq]
      funext i
      idx_vars i
      obtain rfl : i1 = 0 := Subsingleton.elim _ _
      rw [h3, h4]
      exact Cert.PoolBwdRefIdeal.Value.bias_at _ _ i0 i2
    · rw [Cert.PoolBwdIdeal.Value.final8 m c r fun i k => hr k i]
      have e := Cert.PoolBwdRefIdeal.Read.val_main_v182_eq (F := Ideal) (StableHlo.launchContents m' c)
      rw [h0, h1, h2, h4] at e
      refine e.trans ?_
      funext i
      idx_vars i
      obtain rfl : i0 = 0 := Subsingleton.elim _ _
      refine Eq.trans (congrArg (fun k => Cert.PoolBwdRefIdeal.Read.val_main_v182 (F := Ideal) _ _ _ _ (ix2 0 k)) (Cert.PoolBwdIdeal.Value.at4_grp i1).symm) ?_
      exact Cert.PoolBwdRefIdeal.Value.scale_at _ _ _ _ r (grp i1) (lane i1) fun i k => Cert.PoolBwdRefIdeal.Value.pooled _ r (fun i k => hr k i) (grp i1) i k

end Cert.Proof

end
-- ==== Proof.LruBack.lean ====
/-
  The solved recurrence over the reals: the decay from one place to another, the state and the adjoint it gives, and the
  derivative by a coefficient's logarithm, once as the solved form has it and once as a product at the place itself.
-/
module

public import Idealize.ShloMosaic.PureOps.Ideal
public import Idealize.ShloMosaic.Lib.Pointwise

@[expose] public section

noncomputable section

namespace Cert.LruBack

variable {n : ℕ} (l g b : Fin n → ℝ)

/-- The sum of the logarithms up to a place. -/
def cum (t : Fin n) : ℝ := ∑ s, if s ≤ t then l s else 0

/-- What is left at place `t` of a unit at place `s`. -/
def dec (t s : Fin n) : ℝ := if s ≤ t then Real.exp (cum l t - cum l s) else 0

/-- The state, and the adjoint of a place's addend. -/
def hid (t : Fin n) : ℝ := ∑ s, dec l t s * b s
def adj (s : Fin n) : ℝ := ∑ t, dec l t s * g t

/-- The state of the place before. -/
def prev (t : Fin n) : ℝ := if h : 0 < t.val then hid l b ⟨t.val - 1, by omega⟩ else 0

theorem cum_succ (t t' : Fin n) (h : t'.val = t.val + 1) : cum l t' = cum l t + l t' := by
  unfold cum
  rw [← Finset.sum_ite_eq' Finset.univ t' l |>.trans (if_pos (Finset.mem_univ _)), ← Finset.sum_add_distrib]
  refine Finset.sum_congr rfl fun s _ => ?_
  by_cases e : s = t'
  · subst e
    rw [if_pos (le_refl _), if_neg (by rw [Fin.le_def]; omega), if_pos rfl, zero_add]
  · have e' : s.val ≠ t'.val := fun x => e (Fin.ext x)
    rw [if_neg e, add_zero]
    exact if_congr (by rw [Fin.le_def, Fin.le_def]; omega) rfl rfl

theorem dec_succ (t s s' : Fin n) (h : s'.val = s.val + 1) :
    dec l t s = (if t = s then 1 else 0) + Real.exp (l s') * dec l t s' := by
  unfold dec
  rcases lt_trichotomy t.val s.val with e | e | e
  · rw [if_neg (by rw [Fin.le_def]; omega), if_neg (fun x => by rw [x] at e; omega), if_neg (by rw [Fin.le_def]; omega), mul_zero, zero_add]
  · rw [if_pos (by rw [Fin.le_def]; omega), if_pos (Fin.ext e), if_neg (by rw [Fin.le_def]; omega), mul_zero, add_zero, Fin.ext e, sub_self, Real.exp_zero]
  · rw [if_pos (by rw [Fin.le_def]; omega), if_neg (fun x => by rw [x] at e; omega), if_pos (by rw [Fin.le_def]; omega), zero_add, ← Real.exp_add, cum_succ l s s' h]
    congr 1
    ring

/-- The adjoint, from the last place backwards. -/
theorem adj_succ (s s' : Fin n) (h : s'.val = s.val + 1) : adj l g s = Real.exp (l s') * adj l g s' + g s := by
  unfold adj
  simp only [dec_succ l _ s s' h, add_mul, ite_mul, one_mul, zero_mul, Finset.sum_add_distrib, Finset.sum_ite_eq', Finset.mem_univ, if_true]
  rw [Finset.mul_sum, add_comm]
  simp only [mul_assoc]

theorem adj_last (s : Fin n) (h : s.val + 1 = n) : adj l g s = g s := by
  unfold adj
  rw [Finset.sum_eq_single s]
  · rw [dec, if_pos (le_refl _), sub_self, Real.exp_zero, one_mul]
  · intro t _ ht
    have := t.isLt
    have ht' : t.val ≠ s.val := fun x => ht (Fin.ext x)
    rw [dec, if_neg (by rw [Fin.le_def]; omega), zero_mul]
  · intro h; exact absurd (Finset.mem_univ _) h

/-- A decay through a place between. -/
theorem dec_through (u t p s : Fin n) (hp : t.val = p.val + 1) (hs : s ≤ p) (hu : t ≤ u) :
    dec l u s = dec l u t * Real.exp (l t) * dec l p s := by
  have h : s ≤ u := by rw [Fin.le_def] at *; omega
  rw [dec, dec, dec, if_pos h, if_pos hu, if_pos hs, ← Real.exp_add, ← Real.exp_add, cum_succ l p t hp]
  congr 1
  ring

/-- A weight of two places, zero where the later one comes first, summed over the pairs a place lies between. -/
theorem between (w : Fin n → Fin n → ℝ) (hw : ∀ u s, ¬s ≤ u → w u s = 0) (t : Fin n) :
    (∑ p, if t ≤ p then (∑ s, w p s) - ∑ u, w u p else 0) = ∑ u, ∑ s, if t ≤ u ∧ s < t then w u s else 0 := by
  have e1 : (∑ p, if t ≤ p then (∑ s, w p s) - ∑ u, w u p else 0)
      = (∑ p, ∑ s, if t ≤ p then w p s else 0) - ∑ p, ∑ u, if t ≤ p then w u p else 0 := by
    rw [← Finset.sum_sub_distrib]
    refine Finset.sum_congr rfl fun p _ => ?_
    split <;> simp
  rw [e1, Finset.sum_comm (f := fun p u => if t ≤ p then w u p else 0), ← Finset.sum_sub_distrib]
  refine Finset.sum_congr rfl fun u _ => ?_
  rw [← Finset.sum_sub_distrib]
  refine Finset.sum_congr rfl fun s _ => ?_
  by_cases h1 : t ≤ u
  · by_cases h2 : s < t
    · rw [if_pos h1, if_neg (not_le.mpr h2), if_pos ⟨h1, h2⟩, sub_zero]
    · rw [if_pos h1, if_pos (not_lt.mp h2), if_neg (fun h => h2 h.2), sub_self]
  · rw [if_neg h1, if_neg (fun h : t ≤ u ∧ s < t => h1 h.1)]
    split
    · rw [hw u s (fun h => h1 (le_trans ‹_› h)), sub_self]
    · exact sub_self _

/-- The derivative by the logarithm at a place: the pairs it lies between, or the adjoint times the decayed state before. -/
theorem dlog (t : Fin n) :
    (∑ p, if t ≤ p then (∑ s, g p * b s * dec l p s) - ∑ u, g u * b p * dec l u p else 0) = adj l g t * prev l b t * Real.exp (l t) := by
  rw [between (fun u s => g u * b s * dec l u s) (fun u s h => by rw [dec, if_neg h, mul_zero]) t]
  unfold prev
  split
  · rename_i h
    obtain ⟨p, hp⟩ : ∃ p : Fin n, t.val = p.val + 1 := ⟨⟨t.val - 1, by omega⟩, by show t.val = t.val - 1 + 1; omega⟩
    have e : (⟨t.val - 1, by omega⟩ : Fin n) = p := Fin.ext (by show t.val - 1 = p.val; omega)
    rw [e, adj, hid, Finset.sum_mul_sum, Finset.sum_mul]
    refine Finset.sum_congr rfl fun u _ => ?_
    rw [Finset.sum_mul]
    refine Finset.sum_congr rfl fun s _ => ?_
    by_cases h1 : t ≤ u
    · by_cases h2 : s < t
      · rw [if_pos ⟨h1, h2⟩, dec_through l u t p s hp (by rw [Fin.lt_def] at h2; rw [Fin.le_def]; omega) h1]
        ring
      · rw [if_neg (fun h => h2 h.2)]
        have : dec l p s = 0 := if_neg (by rw [Fin.lt_def] at h2; rw [Fin.le_def]; omega)
        rw [this]
        ring
    · rw [if_neg (fun h : t ≤ u ∧ s < t => h1 h.1)]
      have : dec l u t = 0 := if_neg h1
      rw [this]
      ring
  · rename_i h
    rw [mul_zero, zero_mul]
    refine Finset.sum_eq_zero fun u _ => Finset.sum_eq_zero fun s _ => if_neg fun h' => ?_
    have := h'.2
    rw [Fin.lt_def] at this
    omega

end Cert.LruBack

end
-- ==== Proof.LruMath.lean ====
/-
  The arithmetic of the recurrence `h ↦ a h + b` over a sequence of extended reals: the products and sums over a stretch
  of the sequence, which doubling combines, and the identities between the two ways of writing the gates.
-/
module

public import Idealize.ShloMosaic.PureOps.Ideal
public import Idealize.ShloMosaic.Lib.Pointwise

@[expose] public section

noncomputable section

namespace Cert.LruMath

open Idealize.ShloMosaic

/-- The product of the last `n` coefficients up to place `p`. -/
def P (a : ℕ → EReal) : ℕ → ℕ → EReal
  | 0, _ => 1
  | n + 1, p => P a n p * a (p - n)

/-- What the last `n` places up to `p` add to the state. -/
def Q (a b : ℕ → EReal) : ℕ → ℕ → EReal
  | 0, _ => 0
  | n + 1, p => P a n p * b (p - n) + Q a b n p

/-- The state after `n` steps from zero, the sequence starting at place `o`. -/
def H (a b : ℕ → EReal) (o : ℕ) : ℕ → EReal
  | 0 => 0
  | n + 1 => a (o + n) * H a b o n + b (o + n)

variable (a b : ℕ → EReal)

/-- The coefficients lie between zero and one. -/
def Unit01 : Prop := ∀ p, 0 ≤ a p ∧ a p ≤ 1

variable {a}

theorem P_mem (ha : Unit01 a) : ∀ n p, 0 ≤ P a n p ∧ P a n p ≤ 1
  | 0, _ => ⟨zero_le_one, le_refl _⟩
  | n + 1, p => ⟨mul_nonneg (P_mem ha n p).1 (ha _).1, (mul_le_mul_of_nonneg_left (ha _).2 (P_mem ha n p).1).trans (by rw [mul_one]; exact (P_mem ha n p).2)⟩

theorem P_distrib (ha : Unit01 a) (n p : ℕ) (x y : EReal) : P a n p * (x + y) = P a n p * x + P a n p * y :=
  EReal.left_distrib_of_nonneg_of_ne_top (P_mem ha n p).1
    (ne_of_lt (lt_of_le_of_lt (P_mem ha n p).2 (by exact_mod_cast EReal.coe_lt_top 1))) x y

/-- Two stretches one after the other: the products multiply, -/
theorem P_add (m n p : ℕ) : P a (m + n) p = P a m p * P a n (p - m) := by
  induction n with
  | zero => exact (mul_one _).symm
  | succ n ih => rw [← Nat.add_assoc, P, P, ih, mul_assoc, Nat.sub_sub]

/-- and the sum over the earlier one passes through the later one's product. -/
theorem Q_add (ha : Unit01 a) (m n p : ℕ) : Q a b (m + n) p = P a m p * Q a b n (p - m) + Q a b m p := by
  induction n with
  | zero => rw [Q, mul_zero, zero_add]; rfl
  | succ n ih => rw [← Nat.add_assoc, Q, Q, ih, P_add, P_distrib ha, mul_assoc, Nat.sub_sub, add_assoc]

variable {b}

theorem Q_zero {o : ℕ} (hb : ∀ p, p < o → b p = 0) (n p : ℕ) (hp : p < o) : Q a b n p = 0 := by
  induction n with
  | zero => rfl
  | succ n ih => rw [Q, ih, hb _ (by omega), mul_zero, add_zero]

theorem P_one {o : ℕ} (h1 : ∀ p, p < o → a p = 1) (n p : ℕ) (hp : p < o) : P a n p = 1 := by
  induction n with
  | zero => rfl
  | succ n ih => rw [P, ih, h1 _ (by omega), mul_one]

/-- A stretch long enough to reach the start of the sequence sums to the state. -/
theorem Q_eq_H (ha : Unit01 a) {o : ℕ} (ho : 0 < o) (hb : ∀ p, p < o → b p = 0) (s n : ℕ) (hn : s < n) :
    Q a b n (o + s) = H a b o (s + 1) := by
  induction s generalizing n with
  | zero =>
    obtain ⟨n, rfl⟩ : ∃ k, n = 1 + k := ⟨n - 1, by omega⟩
    rw [Q_add b ha, Q_zero hb _ _ (by omega)]
    simp [P, Q, H]
  | succ s ih =>
    obtain ⟨n, rfl⟩ : ∃ k, n = 1 + k := ⟨n - 1, by omega⟩
    rw [Q_add b ha, show o + (s + 1) - 1 = o + s by omega, ih n (by omega)]
    simp [P, Q, H]

theorem exp_nonpos {l : EReal} (hl : l ≤ 0) : 0 ≤ Ideal.exp l ∧ Ideal.exp l ≤ 1 := by
  induction l using EReal.rec with
  | bot => exact ⟨le_refl _, zero_le_one⟩
  | top => exact absurd hl (by simp)
  | coe r =>
    have hr : r ≤ 0 := by exact_mod_cast hl
    show 0 ≤ ((Real.exp r : ℝ) : EReal) ∧ ((Real.exp r : ℝ) : EReal) ≤ 1
    exact ⟨by exact_mod_cast (Real.exp_pos r).le, by exact_mod_cast Real.exp_le_one_iff.mpr hr⟩

/-- `1 − exp (2 l)`, as the kernel writes it with the hyperbolic tangent. -/
theorem tanh_form (l : EReal) : (0 - Ideal.tanh l) * (1 + Ideal.exp l * Ideal.exp l) = -Ideal.expm1 (((2 : ℝ) : EReal) * l) := by
  induction l using EReal.rec with
  | bot =>
    rw [EReal.coe_mul_bot_of_pos (by norm_num : (0 : ℝ) < 2)]
    show (0 - (-1 : EReal)) * (1 + 0 * 0) = -(0 - 1)
    norm_num
  | top =>
    rw [EReal.coe_mul_top_of_pos (by norm_num : (0 : ℝ) < 2)]
    show (0 - (1 : EReal)) * (1 + ⊤ * ⊤) = -(⊤ - 1)
    have : (0 - (1 : EReal)) = ((-1 : ℝ) : EReal) := by norm_num
    rw [this, EReal.top_mul_top, show (1 : EReal) + ⊤ = ⊤ from rfl, EReal.coe_mul_top_of_neg (by norm_num)]
    rfl
  | coe r =>
    rw [← EReal.coe_mul]
    show (0 - ((Real.tanh r : ℝ) : EReal)) * (1 + ((Real.exp r : ℝ) : EReal) * ((Real.exp r : ℝ) : EReal)) = -(((Real.exp (2 * r) : ℝ) : EReal) - 1)
    have : (0 - Real.tanh r) * (1 + Real.exp r * Real.exp r) = -(Real.exp (2 * r) - 1) := by
      rw [Real.tanh_eq_sinh_div_cosh, Real.sinh_eq, Real.cosh_eq, two_mul, Real.exp_add, Real.exp_neg]
      have := Real.exp_pos r
      field_simp
      ring
    exact_mod_cast this

theorem exp_nonneg (x : EReal) : 0 ≤ Ideal.exp x := by
  induction x using EReal.rec with
  | bot => exact le_refl _
  | top => exact le_top
  | coe r =>
    show (0 : EReal) ≤ ((Real.exp r : ℝ) : EReal)
    exact_mod_cast (Real.exp_pos _).le

theorem logistic_nonneg (x : EReal) : 0 ≤ Ideal.logistic x := by
  unfold Ideal.logistic
  have h : 0 ≤ Ideal.exp (-x) := exp_nonneg _
  unfold Ideal.div
  split
  · exact absurd ‹_› (ne_of_gt (lt_of_lt_of_le zero_lt_one (le_add_of_nonneg_right h)))
  · rw [one_mul]; exact EReal.inv_nonneg_of_nonneg (add_nonneg zero_le_one h)

/-- `max (-x) 0 + log (1 + exp (-|x|))`. -/
def softplusNeg (x : EReal) : EReal := max (-x) 0 + Ideal.log1p (Ideal.exp (-(max (-x) (- -x))))

theorem softplusNeg_nonneg (x : EReal) : 0 ≤ softplusNeg x := by
  refine add_nonneg (le_max_right _ _) ?_
  generalize hy : Ideal.exp (-(max (-x) (- -x))) = y
  have h : 0 ≤ y := hy ▸ exp_nonneg _
  clear hy
  induction y using EReal.rec with
  | bot => exact absurd h (by simp)
  | top => exact le_top
  | coe r =>
    have hr : 0 ≤ r := by exact_mod_cast h
    show 0 ≤ Ideal.log (((1 + r : ℝ)) : EReal)
    show (0 : EReal) ≤ if 1 + r ≤ 0 then ⊥ else ((Real.log (1 + r) : ℝ) : EReal)
    rw [if_neg (by linarith)]
    exact_mod_cast Real.log_nonneg (by linarith)

/-- The logarithm of a coefficient is not positive. -/
theorem log_nonpos (c : ℝ) (hc : c ≤ 0) (g x : EReal) : (c : EReal) * Ideal.logistic g * softplusNeg x ≤ 0 := by
  have h : (c : EReal) * Ideal.logistic g ≤ 0 :=
    (mul_le_mul_of_nonneg_right (show (c : EReal) ≤ 0 by exact_mod_cast hc) (logistic_nonneg g)).trans_eq (zero_mul _)
  exact (mul_le_mul_of_nonneg_right h (softplusNeg_nonneg x)).trans_eq (zero_mul _)

end Cert.LruMath

end
-- ==== Proof.LruReal.lean ====
/-
  One head of the recurrent branch over the reals: its gates, coefficients, state and gradients, and how the extended
  reals' functions act on real numbers.
-/
module

public import proofs.«01_k».proof.Proof.LruBack
public import proofs.«01_k».proof.Proof.LruMath

@[expose] public section

noncomputable section

namespace Cert.LruReal

open Idealize.ShloMosaic Cert.LruBack

theorem coe_sum {ι : Type*} (s : Finset ι) (f : ι → ℝ) : (((∑ i ∈ s, f i) : ℝ) : EReal) = ∑ i ∈ s, (f i : EReal) := by
  classical
  induction s using Finset.induction_on with
  | empty => rfl
  | insert a s ha ih => rw [Finset.sum_insert ha, Finset.sum_insert ha, EReal.coe_add, ih]

theorem exp_coe (x : ℝ) : Ideal.exp (x : EReal) = ((Real.exp x : ℝ) : EReal) := rfl
theorem tanh_coe (x : ℝ) : Ideal.tanh (x : EReal) = ((Real.tanh x : ℝ) : EReal) := rfl

theorem div_coe (x : ℝ) {y : ℝ} (hy : y ≠ 0) : Ideal.div (x : EReal) (y : EReal) = ((x / y : ℝ) : EReal) := by
  have : (y : EReal) ≠ 0 := by exact_mod_cast hy
  rw [Ideal.div, if_neg this, ← EReal.coe_inv, ← EReal.coe_mul, div_eq_mul_inv]

theorem sqrt_coe {x : ℝ} (hx : 0 ≤ x) : Ideal.sqrt (x : EReal) = ((Real.sqrt x : ℝ) : EReal) := by
  show (if x < 0 then (⊥ : EReal) else ((Real.sqrt x : ℝ) : EReal)) = _
  rw [if_neg (not_lt.mpr hx)]

theorem log1p_coe {x : ℝ} (hx : 0 < 1 + x) : Ideal.log1p (x : EReal) = ((Real.log (1 + x) : ℝ) : EReal) := by
  show (if 1 + x ≤ 0 then (⊥ : EReal) else ((Real.log (1 + x) : ℝ) : EReal)) = _
  rw [if_neg (not_le.mpr hx)]

/-- The logistic function. -/
def sig (x : ℝ) : ℝ := 1 / (1 + Real.exp (-x))

theorem sig_pos (x : ℝ) : 0 < sig x := by
  have := Real.exp_pos (-x)
  exact div_pos one_pos (by linarith)

theorem logistic_coe (x : ℝ) : Ideal.logistic (x : EReal) = ((sig x : ℝ) : EReal) := by
  have := Real.exp_pos (-x)
  have h : Ideal.logistic (x : EReal) = Ideal.div ((1 : ℝ) : EReal) ((1 + Real.exp (-x) : ℝ) : EReal) := rfl
  rw [h, div_coe _ (by linarith), sig]

/-- A gate: the logistic function of a product with a weight and a bias. -/
theorem gate_coe {ι : Type*} [Fintype ι] (f g : ι → ℝ) (b : ℝ) :
    Ideal.div 1 (1 + Ideal.exp (-((∑ x, (f x : EReal) * (g x : EReal)) + (b : EReal)))) = ((sig ((∑ x, g x * f x) + b) : ℝ) : EReal) := by
  have e : (∑ x, (f x : EReal) * (g x : EReal)) + (b : EReal) = (((∑ x, g x * f x) + b : ℝ) : EReal) := by
    rw [EReal.coe_add, coe_sum]
    exact congrArg (· + _) (Finset.sum_congr rfl fun x _ => by rw [EReal.coe_mul, mul_comm])
  rw [e]
  exact logistic_coe _

/-- A sum over the places that a reduction sends to one place. -/
theorem sum_fibre {ι : Type*} [Fintype ι] {s t : Shape} {axes : List (Fin s.rank)} (h : s.ReducesTo axes t) (v : s.Idx → EReal) (j : t.Idx) (e : ι → s.Idx)
    (he : Function.Injective e) (ha : ∀ i, h.drop i = j ↔ ∃ x, e x = i) : Ideal.hostReduceAdd h v 0 j = ∑ x, v (e x) := by
  classical
  unfold Ideal.hostReduceAdd
  rw [zero_add, show Finset.univ.filter (fun i => h.drop i = j) = Finset.univ.image e from Finset.ext fun i => by simp [ha i],
    Finset.sum_image fun _ _ _ _ hx => he hx]

/-- The logarithm of one plus the exponential of `-x`. -/
def sp (x : ℝ) : ℝ := Real.log (1 + Real.exp (-x))

theorem sp_pos (x : ℝ) : 0 < sp x := Real.log_pos (by have := Real.exp_pos (-x); linarith)

theorem max_log (x : ℝ) : max (-x) 0 + Real.log (1 + Real.exp (-(max (-x) (- -x)))) = sp x := by
  have h1 := Real.exp_pos (-x)
  have h2 := Real.exp_pos x
  rw [sp, neg_neg]
  rcases le_total 0 x with h | h
  · rw [max_eq_right (by linarith), max_eq_right (by linarith), zero_add]
  · rw [max_eq_left (by linarith), max_eq_left (by linarith), neg_neg]
    conv_lhs => rw [← Real.log_exp (-x)]
    rw [← Real.log_mul (by positivity) (by positivity), mul_add, mul_one, ← Real.exp_add, neg_add_cancel, Real.exp_zero, add_comm]

theorem coe_max (x y : ℝ) : max (x : EReal) (y : EReal) = ((max x y : ℝ) : EReal) := (EReal.coe_strictMono.monotone.map_max).symm

theorem softplusNeg_coe (x : ℝ) : LruMath.softplusNeg (x : EReal) = ((sp x : ℝ) : EReal) := by
  rw [LruMath.softplusNeg, ← EReal.coe_neg, ← EReal.coe_neg, coe_max, ← EReal.coe_neg, exp_coe, ← EReal.coe_zero, coe_max,
    log1p_coe (by have := Real.exp_pos (-(max (-x) (- -x))); linarith), ← EReal.coe_add, max_log]

/-- The derivative of `sp`. -/
theorem exp_sub_sp (x : ℝ) : Real.exp (-x - sp x) = sig (-x) := by
  have h := Real.exp_pos (-x)
  rw [Real.exp_sub, sp, Real.exp_log (by linarith), sig, neg_neg]
  have h' := Real.exp_pos x
  rw [Real.exp_neg]
  field_simp
  ring

/-- What one head reads: its columns of the branch and of the gate, the convolution's taps and bias, the two gates, the
decay, and the gradient of its result. -/
structure Head where
  U : Fin 2048 → Fin 128 → ℝ
  G : Fin 2048 → Fin 128 → ℝ
  W : Fin 4 → Fin 128 → ℝ
  cb : Fin 128 → ℝ
  wa : Fin 128 → Fin 128 → ℝ
  ba : Fin 128 → ℝ
  wx : Fin 128 → Fin 128 → ℝ
  bx : Fin 128 → ℝ
  lam : Fin 128 → ℝ
  ct : Fin 2048 → Fin 128 → ℝ

/-- The rows of a block with eight zero rows before and after them. -/
def pad {α : Type*} [Zero α] (u : Fin 2048 → Fin 128 → α) (p : ℕ) (d : Fin 128) : α := if h : 8 ≤ p ∧ p < 2056 then u ⟨p - 8, by omega⟩ d else 0

variable (K : Head) (s : Fin 2048) (q : Fin 128)

def conv : ℝ :=
  pad K.U (5 + s.val) q * K.W 0 q + pad K.U (6 + s.val) q * K.W 1 q + pad K.U (7 + s.val) q * K.W 2 q + pad K.U (8 + s.val) q * K.W 3 q + K.cb q

/-- The two gates. -/
def ra : ℝ := sig ((∑ d, conv K s d * K.wa d q) + K.ba q)
def ix : ℝ := sig ((∑ d, conv K s d * K.wx d q) + K.bx q)

/-- A coefficient's logarithm, and the factor of the addend. -/
def la : ℝ := -8 * ra K s q * sp (K.lam q)
def mu : ℝ := Real.sqrt (-(Real.exp (2 * la K s q) - 1))

theorem la_neg : la K s q < 0 := by
  have h1 := sig_pos ((∑ d, conv K s d * K.wa d q) + K.ba q)
  have h2 := sp_pos (K.lam q)
  have := mul_pos h1 h2
  unfold la ra
  nlinarith

theorem mu_arg : 0 < -(Real.exp (2 * la K s q) - 1) := by
  have := Real.exp_lt_one_iff.mpr (show 2 * la K s q < 0 by have := la_neg K s q; linarith)
  linarith

theorem mu_pos : 0 < mu K s q := Real.sqrt_pos.mpr (mu_arg K s q)

def addend : ℝ := mu K s q * (ix K s q * conv K s q)
def state : ℝ := hid (fun s => la K s q) (fun s => addend K s q) s
def before : ℝ := prev (fun s => la K s q) (fun s => addend K s q) s

/-- The constant of the gelu, and its hyperbolic tangent. -/
def gc : ℝ := (Ideal.ofBits .f32 0x3F4C422A#32 : EReal).toReal
def th (x : ℝ) : ℝ := Real.tanh (gc * (x + 8943 / 200000 * (x * x * x)))
def gelu (x : ℝ) : ℝ := 1 / 2 * x * (1 + th x)
def slope (x : ℝ) : ℝ := 1 / 2 * (1 + th x) + 1 / 2 * x * (1 - th x * th x) * (gc * (1 + 26829 / 200000 * (x * x)))

/-- The gradient that reaches the state, its adjoint, and the gradient of the gate. -/
def up : ℝ := K.ct s q * gelu (K.G s q)
def ad : ℝ := adj (fun s => la K s q) (fun s => up K s q) s
def dug : ℝ := K.ct s q * state K s q * slope (K.G s q)

/-- The gradients of a coefficient's logarithm, of the gates' sums and of the convolution. -/
def dla : ℝ := ad K s q * before K s q * Real.exp (la K s q)
  - ad K s q * (ix K s q * conv K s q) * (Real.exp (la K s q) * Real.exp (la K s q)) / mu K s q
def dra : ℝ := dla K s q * (-8 * sp (K.lam q)) * (ra K s q * (1 - ra K s q))
def dia : ℝ := ad K s q * mu K s q * conv K s q * (ix K s q * (1 - ix K s q))
def dv : ℝ := ad K s q * mu K s q * ix K s q + ∑ e, dra K s e * K.wa q e + ∑ e, dia K s e * K.wx q e

def dul : ℝ := pad (dv K) (11 + s.val) q * K.W 0 q + pad (dv K) (10 + s.val) q * K.W 1 q + pad (dv K) (9 + s.val) q * K.W 2 q
  + pad (dv K) (8 + s.val) q * K.W 3 q
def dcw (k : Fin 4) : ℝ := ∑ s, dv K s q * pad K.U (5 + k.val + s.val) q
def dlam : ℝ := (∑ s, dla K s q * ra K s q) * (8 * sig (-K.lam q))

/-! The literals. -/
theorem half : Ideal.ofBits .f32 0x3F000000#32 = ((1 / 2 : ℝ) : EReal) := by
  simp [Ideal.ofBits, Ideal.ieee, -EReal.coe_mul]; norm_num
theorem one : Ideal.ofBits .f32 0x3F800000#32 = ((1 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem three : Ideal.ofBits .f32 0x40400000#32 = ((3 : ℝ) : EReal) := by
  simp [Ideal.ofBits, Ideal.ieee, -EReal.coe_mul]; norm_num
theorem eight : Ideal.ofBits .f32 0x41000000#32 = ((8 : ℝ) : EReal) := by
  simp [Ideal.ofBits, Ideal.ieee, -EReal.coe_mul]; norm_num
theorem meight : Ideal.ofBits .f32 0xC1000000#32 = ((-8 : ℝ) : EReal) := by
  simp [Ideal.ofBits, Ideal.ieee, -EReal.coe_mul]; norm_num
theorem thousands : Ideal.ofBits .f32 0x472EAB00#32 = ((44715 : ℝ) : EReal) := by
  simp [Ideal.ofBits, Ideal.ieee, -EReal.coe_mul]; norm_num
theorem million : Ideal.ofBits .f32 0x49742400#32 = ((1000000 : ℝ) : EReal) := by
  simp [Ideal.ofBits, Ideal.ieee, -EReal.coe_mul]; norm_num
theorem gc_coe : Ideal.ofBits .f32 0x3F4C422A#32 = ((gc : ℝ) : EReal) := by
  refine (EReal.coe_toReal ?_ ?_).symm <;> simp [Ideal.ofBits, Ideal.ieee, ← EReal.coe_mul]

/-- The addend's factor as the kernel writes it. -/
theorem mu_tanh : Ideal.sqrt ((0 - Ideal.tanh (la K s q : EReal)) * (1 + Ideal.exp (la K s q : EReal) * Ideal.exp (la K s q : EReal))) = ((mu K s q : ℝ) : EReal) := by
  rw [LruMath.tanh_form, ← EReal.coe_mul]
  exact sqrt_coe (mu_arg K s q).le

end Cert.LruReal

end
-- ==== Proof.LruBackRef.lean ====
/-
  The recurrent branch's gradient in the reference: the convolution, the gates, the coefficients and the state of a head.
-/
module

public import proofs.«01_k».proof.Proof.LruReal
public import proofs.«01_k».proof.Proof.Fin
public import proofs.«01_k».proof.Proof.Gen.LruBwdRefIdeal.Read
public import Idealize.ShloMosaic.Lib.WordCmp
public import Idealize.ShloMosaic.Lib.Pointwise

@[expose] public section

set_option maxRecDepth 16384
set_option backward.proofsInPublic true

noncomputable section

open Idealize.ShloMosaic Idealize.ShloMosaic.TcCoe Idealize.SL.Sem

namespace Cert.LruBwdRefIdeal.Value

open Idealize.ShloMosaic.WordCmp Cert.LruBwdRefIdeal Cert.LruBwdRefIdeal.Gen Cert.LruBwdRefIdeal.Read Cert.LruReal Cert.LruBack

variable {x0 : (⟨S1x2048x5120, .f32⟩ : BufTy).Contents (Elt Ideal)} {x1 : (⟨S4x1280, .f32⟩ : BufTy).Contents (Elt Ideal)}
  {x2 : (⟨S1280, .f32⟩ : BufTy).Contents (Elt Ideal)} {x3 : (⟨S10x128x128, .f32⟩ : BufTy).Contents (Elt Ideal)}
  {x4 : (⟨S10x128, .f32⟩ : BufTy).Contents (Elt Ideal)} {x5 : (⟨S10x128x128, .f32⟩ : BufTy).Contents (Elt Ideal)}
  {x6 : (⟨S10x128, .f32⟩ : BufTy).Contents (Elt Ideal)} {x7 : (⟨S1280, .f32⟩ : BufTy).Contents (Elt Ideal)}
  {x8 : (⟨S1x2048x1280, .f32⟩ : BufTy).Contents (Elt Ideal)} {R : Fin 10 → Head}

/-- The arguments are the heads' real numbers. -/
structure Args (x0 : (⟨S1x2048x5120, .f32⟩ : BufTy).Contents (Elt Ideal)) (x1 : (⟨S4x1280, .f32⟩ : BufTy).Contents (Elt Ideal))
  (x2 : (⟨S1280, .f32⟩ : BufTy).Contents (Elt Ideal)) (x3 : (⟨S10x128x128, .f32⟩ : BufTy).Contents (Elt Ideal))
  (x4 : (⟨S10x128, .f32⟩ : BufTy).Contents (Elt Ideal)) (x5 : (⟨S10x128x128, .f32⟩ : BufTy).Contents (Elt Ideal))
  (x6 : (⟨S10x128, .f32⟩ : BufTy).Contents (Elt Ideal)) (x7 : (⟨S1280, .f32⟩ : BufTy).Contents (Elt Ideal))
  (x8 : (⟨S1x2048x1280, .f32⟩ : BufTy).Contents (Elt Ideal)) (R : Fin 10 → Head) : Prop where
  U : ∀ (t : Fin 10) (i : Fin 2048) (q : Fin 128), x0 (ix3 0 i ⟨512 + (t.val * 128 + q.val), by omega⟩) = ((R t).U i q : EReal)
  G : ∀ (t : Fin 10) (i : Fin 2048) (q : Fin 128), x0 (ix3 0 i ⟨1792 + (t.val * 128 + q.val), by omega⟩) = ((R t).G i q : EReal)
  W : ∀ (k : Fin 4) (t : Fin 10) (q : Fin 128), x1 (ix2 k ⟨t.val * 128 + q.val, by omega⟩) = ((R t).W k q : EReal)
  cb : ∀ (t : Fin 10) (q : Fin 128), x2 (ix1 ⟨t.val * 128 + q.val, by omega⟩) = ((R t).cb q : EReal)
  wa : ∀ (t : Fin 10) (d q : Fin 128), x3 (ix3 t d q) = ((R t).wa d q : EReal)
  ba : ∀ (t : Fin 10) (q : Fin 128), x4 (ix2 t q) = ((R t).ba q : EReal)
  wx : ∀ (t : Fin 10) (d q : Fin 128), x5 (ix3 t d q) = ((R t).wx d q : EReal)
  bx : ∀ (t : Fin 10) (q : Fin 128), x6 (ix2 t q) = ((R t).bx q : EReal)
  lam : ∀ (t : Fin 10) (q : Fin 128), x7 (ix1 ⟨t.val * 128 + q.val, by omega⟩) = ((R t).lam q : EReal)
  ct : ∀ (t : Fin 10) (i : Fin 2048) (q : Fin 128), x8 (ix3 0 i ⟨t.val * 128 + q.val, by omega⟩) = ((R t).ct i q : EReal)

variable (h : Args x0 x1 x2 x3 x4 x5 x6 x7 x8 R) (t : Fin 10) (i : Fin 2048) (q : Fin 128)
include h

/-- The branch with three zero rows before it. -/
theorem v3_at (p : Fin 2051) : val_main_v3 (F := Ideal) x0 (ix3 0 p ⟨t.val * 128 + q.val, by omega⟩) = ((pad (R t).U (5 + p.val) q : ℝ) : EReal) := by
  pointwise [val_main_v3, val_main_v2, val_main_v0, val_main_cst]
  unfold LruReal.pad
  by_cases e : p.val < 3
  · rw [dif_pos e, dif_neg (by omega), EReal.coe_zero]
  · rw [dif_neg e, dif_pos ⟨by omega, by omega⟩, h.U]
    exact congrArg (fun a => (((R t).U a q : ℝ) : EReal)) (Fin.ext (by show p.val - 3 = 5 + p.val - 8; omega))

theorem v36_at : val_main_v36 (F := Ideal) x0 x1 x2 (ix3 0 i ⟨t.val * 128 + q.val, by omega⟩) = ((conv (R t) i q : ℝ) : EReal) := by
  pointwise [val_main_v36, val_main_v35, val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5, val_main_cst_1]
  simp only [v3_at h, h.W, h.cb, ← EReal.coe_mul, ← EReal.coe_add, ← Nat.add_assoc]
  rfl

theorem v37_at : val_main_v37 (F := Ideal) x0 x1 x2 (ix4 0 i t q) = ((conv (R t) i q : ℝ) : EReal) := by
  pointwise [val_main_v37, v36_at h]

/-- The two gates, and their slopes. -/
theorem v48_at : val_main_v48 (F := Ideal) x0 x1 x2 x3 x4 (ix4 0 i t q) = ((ra (R t) i q : ℝ) : EReal) := by
  pointwise [val_main_v48, val_main_v47, val_main_cst_3, val_main_v46, val_main_v45, val_main_cst_2, val_main_v44, val_main_v43, val_main_v42, val_main_v41, val_main_v40, val_main_v39, val_main_v38, v37_at h]
  simp only [h.wa, h.ba]
  exact gate_coe _ _ _

theorem v62_at : val_main_v62 (F := Ideal) x0 x1 x2 x5 x6 (ix4 0 i t q) = ((ix (R t) i q : ℝ) : EReal) := by
  pointwise [val_main_v62, val_main_v61, val_main_cst_6, val_main_v60, val_main_v59, val_main_cst_5, val_main_v58, val_main_v57, val_main_v56, val_main_v55, val_main_v54, val_main_v53, val_main_v52, v37_at h]
  simp only [h.wx, h.bx]
  exact gate_coe _ _ _

theorem v51_at : val_main_v51 (F := Ideal) x0 x1 x2 x3 x4 (ix4 0 i t q) = ((ra (R t) i q * (1 - ra (R t) i q) : ℝ) : EReal) := by
  pointwise [val_main_v51, val_main_v50, val_main_v49, val_main_cst_4, v48_at h]
  rw [EReal.coe_mul, EReal.coe_sub, EReal.coe_one]

theorem v65_at : val_main_v65 (F := Ideal) x0 x1 x2 x5 x6 (ix4 0 i t q) = ((ix (R t) i q * (1 - ix (R t) i q) : ℝ) : EReal) := by
  pointwise [val_main_v65, val_main_v64, val_main_v63, val_main_cst_7, v62_at h]
  rw [EReal.coe_mul, EReal.coe_sub, EReal.coe_one]

/-- The decay's factor and its slope. -/
theorem v69_at : val_main_v69_0 (F := Ideal) x7 (ix1 ⟨t.val * 128 + q.val, by omega⟩) = ((sp ((R t).lam q) : ℝ) : EReal) := by
  pointwise [val_main_v69_0, val_main_call0_cst, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_v68]
  simp only [h.lam]
  rw [if_neg fun e => e rfl]
  exact softplusNeg_coe _

theorem v69_1_at : val_main_v69_1 (F := Ideal) x7 (ix1 ⟨t.val * 128 + q.val, by omega⟩) = ((LruReal.sig (-(R t).lam q) : ℝ) : EReal) := by
  pointwise [val_main_v69_1, val_main_call0_v21, val_main_call0_v20, val_main_call0_v19, val_main_call0_v18, val_main_call0_v17, val_main_call0_v16, val_main_call0_v15, val_main_call0_v14, val_main_call0_v13, val_main_v68,
    val_main_call0_cst_0, val_main_call0_cst_1, val_main_call0_cst_2, val_main_call0_cst_3]
  simp only [h.lam, v69_at h]
  rw [Cert.Finite.top_eq, ← EReal.coe_neg, if_neg (EReal.coe_ne_top _), if_neg (EReal.coe_ne_top _), ← EReal.coe_sub, exp_coe, exp_sub_sp]

/-- A coefficient's logarithm, and the addend's factor. -/
theorem v67_at : val_main_v67 (F := Ideal) x0 x1 x2 x3 x4 (ix4 0 i t q) = ((-8 * ra (R t) i q : ℝ) : EReal) := by
  pointwise [val_main_v67, val_main_v66, val_main_cst_8, v48_at h]
  rw [meight, EReal.coe_mul]

theorem v73_at : val_main_v73 (F := Ideal) x0 x1 x2 x3 x4 x7 (ix4 0 i t q) = ((la (R t) i q : ℝ) : EReal) := by
  pointwise [val_main_v73, val_main_v72, val_main_v71, val_main_v70, v67_at h, v69_at h]
  rw [← EReal.coe_mul]
  rfl

theorem v75_at : val_main_v75 (F := Ideal) x0 x1 x2 x3 x4 x7 (ix4 0 i t q) = ((2 * la (R t) i q : ℝ) : EReal) := by
  pointwise [val_main_v75, val_main_v74, val_main_cst_9, v73_at h]
  rw [two, EReal.coe_mul]

theorem v77_at : val_main_v77 (F := Ideal) x0 x1 x2 x3 x4 x7 (ix4 0 i t q) = ((Real.exp (2 * la (R t) i q) : ℝ) : EReal) := by
  pointwise [val_main_v77, v75_at h]
  rfl

theorem v79_at : val_main_v79 (F := Ideal) x0 x1 x2 x3 x4 x7 (ix4 0 i t q) = ((mu (R t) i q : ℝ) : EReal) := by
  pointwise [val_main_v79, val_main_v78, val_main_v76, v75_at h]
  rw [exp_coe, ← EReal.coe_one, ← EReal.coe_sub, ← EReal.coe_neg]
  exact sqrt_coe (mu_arg (R t) i q).le

theorem v81_at : val_main_v81 (F := Ideal) x0 x1 x2 x3 x4 x7 (ix4 0 i t q) = ((1 / 2 / mu (R t) i q : ℝ) : EReal) := by
  pointwise [val_main_v81, val_main_v80, val_main_cst_10, v79_at h]
  rw [half]
  exact div_coe _ (mu_pos (R t) i q).ne'

theorem v82_at : val_main_v82 (F := Ideal) x0 x1 x2 x5 x6 (ix4 0 i t q) = ((ix (R t) i q * conv (R t) i q : ℝ) : EReal) := by
  pointwise [val_main_v82, v62_at h, v37_at h]
  rw [EReal.coe_mul]

theorem v83_at : val_main_v83 (F := Ideal) x0 x1 x2 x3 x4 x5 x6 x7 (ix4 0 i t q) = ((addend (R t) i q : ℝ) : EReal) := by
  pointwise [val_main_v83, v79_at h, v82_at h]
  rw [← EReal.coe_mul]
  rfl

omit h in
/-- The triangle of the rows up to a row. -/
theorem v90_at (a b : Fin 2048) : val_main_v90 (F := Ideal) (ix2 a b) = if b ≤ a then 1#1 else 0#1 := by
  pointwise [val_main_v90, val_main_v89, val_main_v88, val_main_v87, val_main_v86, val_main_v85, val_main_v84]
  by_cases e : b ≤ a
  · rw [if_pos e]
    exact (cmpi_sge_ofNat_eq_one_iff (w := 32) (by omega) (by omega)).mpr e
  · rw [if_neg e]
    exact (cmpi_sge_ofNat_eq_zero_iff (w := 32) (by omega) (by omega)).mpr (by omega)

omit h in
theorem sel_at (a b : Fin 2048) (x y : ℝ) : Scalar.select (if b ≤ a then 1#1 else 0#1) (x : EReal) (y : EReal) = ((if b ≤ a then x else y : ℝ) : EReal) := by
  by_cases e : b ≤ a
  · rw [if_pos e, if_pos e]; rfl
  · rw [if_neg e, if_neg e]; rfl

omit h in
theorem zero_id : (id (constant (F := Ideal) S_ FTy.f32 0#32) ix0 : EReal) = ((0 : ℝ) : EReal) := by
  show Ideal.ofBits .f32 0#32 = _
  simp [Ideal.ofBits, Ideal.ieee]

/-- The running sums of the logarithms, the decays between two rows, and the state. -/
theorem v94_at : val_main_v94 (F := Ideal) x0 x1 x2 x3 x4 x7 (ix4 0 i t q) = ((cum (fun s => la (R t) s q) i : ℝ) : EReal) := by
  pointwise [val_main_v94, val_main_v93_0, val_main_v93_1, val_main_call1_v2, val_main_call1_v3, val_main_call1_v0, val_main_cst_11, val_main_cst_12, val_main_v92, val_main_v91, v73_at h, v90_at]
  unfold cum
  rw [coe_sum]
  refine Finset.sum_congr rfl fun s _ => (Eq.trans ?_ (sel_at i s _ 0))
  exact congrArg _ zero_id

theorem v100_at (s : Fin 2048) : val_main_v100 (F := Ideal) x0 x1 x2 x3 x4 x7 (ix5 0 i s t q)
    = ((Real.exp (cum (fun s => la (R t) s q) i - cum (fun s => la (R t) s q) s) : ℝ) : EReal) := by
  pointwise [val_main_v100, val_main_v99, val_main_v98, val_main_v97, val_main_v96, val_main_v95, v94_at h]
  rw [← EReal.coe_sub]
  rfl

theorem v101_at (s : Fin 2048) : val_main_v101_0 (F := Ideal) x0 x1 x2 x3 x4 x7 (ix5 0 i s t q) = ((dec (fun s => la (R t) s q) i s : ℝ) : EReal) := by
  pointwise [val_main_v101_0, val_main_v101_1, val_main_call2_v2, val_main_call2_v0, val_main_cst_13, val_main_v91, v90_at, v100_at h]
  exact (congrArg _ zero_id).trans (sel_at i s _ 0)

theorem v105_at : val_main_v105 (F := Ideal) x0 x1 x2 x3 x4 x5 x6 x7 (ix4 0 i t q) = ((state (R t) i q : ℝ) : EReal) := by
  pointwise [val_main_v105, val_main_v104, val_main_v103, val_main_v102, val_main_cst_14, v101_at h, v83_at h]
  simp only [← EReal.coe_mul, ← coe_sum]
  rfl

theorem v106_at : val_main_v106 (F := Ideal) x0 x1 x2 x3 x4 x5 x6 x7 (ix3 0 i ⟨t.val * 128 + q.val, by omega⟩) = ((state (R t) i q : ℝ) : EReal) := by
  pointwise [val_main_v106]
  exact v105_at h t i q

/-- The gelu of the gate, its pieces, and the gradient that reaches the state. -/
theorem v1_at : val_main_v1 (F := Ideal) x0 (ix3 0 i ⟨t.val * 128 + q.val, by omega⟩) = ((R t).G i q : EReal) := by
  pointwise [val_main_v1]
  exact h.G t i q

theorem v119_at : val_main_v119 (F := Ideal) x0 (ix3 0 i ⟨t.val * 128 + q.val, by omega⟩) = ((th ((R t).G i q) : ℝ) : EReal) := by
  pointwise [val_main_v119, val_main_v118, val_main_v117, val_main_cst_18, val_main_v116, val_main_v115, val_main_v114, val_main_cst_17, val_main_v113, val_main_v112, val_main_cst_16, val_main_v108, val_main_v107, v1_at h]
  rw [gc_coe, million, thousands]
  simp only [← EReal.coe_mul]
  rw [div_coe _ (by norm_num), ← EReal.coe_add, ← EReal.coe_mul, tanh_coe, th]
  congr 3
  ring

theorem v128_at : val_main_v128 (F := Ideal) x0 (ix3 0 i ⟨t.val * 128 + q.val, by omega⟩) = ((1 / 2 * (1 + th ((R t).G i q)) : ℝ) : EReal) := by
  pointwise [val_main_v128, val_main_v127, val_main_v126, val_main_v125, val_main_cst_22, val_main_cst_21, v119_at h]
  rw [half, EReal.coe_mul, EReal.coe_add, EReal.coe_one]

theorem v124_at : val_main_v124 (F := Ideal) x0 (ix3 0 i ⟨t.val * 128 + q.val, by omega⟩) = ((1 - th ((R t).G i q) * th ((R t).G i q) : ℝ) : EReal) := by
  pointwise [val_main_v124, val_main_v123, val_main_v122, val_main_v121, val_main_v120, val_main_cst_20, val_main_cst_19, v119_at h]
  rw [← EReal.coe_one, ← EReal.coe_add, ← EReal.coe_sub, ← EReal.coe_mul]
  exact congrArg _ (by ring)

theorem v129_at : val_main_v129 (F := Ideal) x0 (ix3 0 i ⟨t.val * 128 + q.val, by omega⟩) = ((gelu ((R t).G i q) : ℝ) : EReal) := by
  pointwise [val_main_v129, v1_at h, v128_at h]
  rw [← EReal.coe_mul, gelu]
  exact congrArg _ (by ring)

theorem v132_at : val_main_v132 (F := Ideal) x0 x8 (ix3 0 i ⟨t.val * 128 + q.val, by omega⟩) = ((up (R t) i q : ℝ) : EReal) := by
  pointwise [val_main_v132, v129_at h]
  rw [h.ct, ← EReal.coe_mul]
  rfl

theorem v131_at : val_main_v131 (F := Ideal) x0 x1 x2 x3 x4 x5 x6 x7 x8 (ix3 0 i ⟨t.val * 128 + q.val, by omega⟩) = ((state (R t) i q * (R t).ct i q : ℝ) : EReal) := by
  pointwise [val_main_v131, v106_at h]
  rw [h.ct, EReal.coe_mul]

/-- The gradient of the gate's columns. -/
theorem v139_at : val_main_v139 (F := Ideal) x0 x1 x2 x3 x4 x5 x6 x7 x8 (ix3 0 i ⟨t.val * 128 + q.val, by omega⟩)
    = ((gc * (1 / 2 * ((R t).G i q * (state (R t) i q * (R t).ct i q)) * (1 - th ((R t).G i q) * th ((R t).G i q))) : ℝ) : EReal) := by
  pointwise [val_main_v139, val_main_v138, val_main_cst_24, val_main_v137, val_main_v136, val_main_v135, val_main_cst_23, val_main_v133, v124_at h, v1_at h, v131_at h]
  rw [gc_coe, half]
  simp only [← EReal.coe_mul]

theorem v146_at : val_main_v146 (F := Ideal) x0 x1 x2 x3 x4 x5 x6 x7 x8 (ix3 0 i ⟨t.val * 128 + q.val, by omega⟩) = ((dug (R t) i q : ℝ) : EReal) := by
  pointwise [val_main_v146, val_main_v145, val_main_v144, val_main_v143, val_main_cst_26, val_main_v142, val_main_v141, val_main_cst_25, val_main_v140, val_main_v134, val_main_v111, val_main_v110, val_main_cst_15, val_main_v109,
    v139_at h, v131_at h, v128_at h, v1_at h]
  rw [million, thousands, three, div_coe _ (by norm_num)]
  simp only [← EReal.coe_mul, ← EReal.coe_add]
  rw [dug, LruReal.slope]
  exact congrArg _ (by ring)

end Cert.LruBwdRefIdeal.Value

end
-- ==== Proof.LruBackHost.lean ====
/-
  The states that the host hands the backward kernel: the reference's own forward lines.
-/
module

public import proofs.«01_k».proof.Defs
public import proofs.«01_k».proof.Proof.Gen.LruBwdIdeal.Value
public import proofs.«01_k».proof.Proof.LruBackRef
public import Idealize.ShloMosaic.Lib.Pipeline.ValueKit
public import Idealize.ShloMosaic.Lib.StableHlo.ReadAt

@[expose] public section

set_option maxRecDepth 65536

noncomputable section

open Idealize.ShloMosaic Idealize.ShloMosaic.TcCoe Idealize.SL.Sem
open Idealize.ShloMosaic.Pipeline (Dat)

namespace Cert.LruBwdIdeal.Value

open Cert.LruBwdIdeal Cert.LruBwdIdeal.Gen

variable (m : (ℓ : Loc nD τ sig) → Buf (Elt Ideal) ℓ) (c : Dev nD)

/-- The branch's columns, cut out of the projection before or after its leading axis is dropped. -/
theorem host_u (x : Cert.LruBwdRefIdeal.S1x2048x5120.Idx → EReal) :
    (broadcastInDim S1x2048x1280 ![1, 2] bcast_S2048x1280_S1x2048x1280_1_2
      (extractStridedSlice S2048x1280 ![0, 512] (shapeCast S2048x5120 x shapeCasts_S1x2048x5120_S2048x5120) slices_S2048x5120_S2048x1280_0_512) : Vec Ideal S1x2048x1280 .f32)
      = Cert.LruBwdRefIdeal.Read.val_main_v0 (F := Ideal) x := by
  funext i
  idx_vars i
  pointwise [Cert.LruBwdRefIdeal.Read.val_main_v0]

set_option maxHeartbeats 4000000 in
theorem host_h : V m c main_v102 = shapeCast S2048x1280 (Cert.LruBwdRefIdeal.Read.val_main_v106 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7))) shapeCasts_S1x2048x1280_S2048x1280 := by
  have e6 : StableHlo.upto (List.flatten [hostOps0, hostOps0_1, hostOps0_2, hostOps0_3, hostOps0_4, hostOps0_5, hostOps0_6] : List (HloOp τ sig (Elt Ideal)))
      (fun b => m (c, b)) 9 (Proc.tc.devRef main_v6) = Cert.LruBwdRefIdeal.Read.val_main_v0 (F := Ideal) (m ((c : Thread nD τ).loc main_arg0)) := by
    after_reads_simp
    exact host_u _
  have e7 : StableHlo.upto (List.flatten [hostOps0, hostOps0_1, hostOps0_2, hostOps0_3, hostOps0_4, hostOps0_5, hostOps0_6] : List (HloOp τ sig (Elt Ideal)))
      (fun b => m (c, b)) 9 (Proc.tc.devRef main_v7) = Cert.LruBwdRefIdeal.Read.val_main_v2 (F := Ideal) := by
    after_reads_simp
    rfl
  unfold V
  after_reads_simp
  rw [e6, e7]
  rfl

/-! The other arrays that the kernel reads: arguments, some of them reshaped. -/

theorem host_0 : V m c main_v0 = shapeCast S2048x5120 (m ((c : Thread nD τ).loc main_arg0)) shapeCasts_S1x2048x5120_S2048x5120 := by
  unfold V
  after_reads_simp
  rfl
theorem host_1 : V m c main_v1 = shapeCast S1x1280 (m ((c : Thread nD τ).loc main_arg2)) shapeCasts_S1280_S1x1280 := by
  unfold V
  after_reads_simp
  rfl
theorem host_2 : V m c main_v2 = shapeCast S10x1x128 (m ((c : Thread nD τ).loc main_arg4)) shapeCasts_S10x128_S10x1x128 := by
  unfold V
  after_reads_simp
  rfl
theorem host_3 : V m c main_v3 = shapeCast S10x1x128 (m ((c : Thread nD τ).loc main_arg6)) shapeCasts_S10x128_S10x1x128 := by
  unfold V
  after_reads_simp
  rfl
theorem host_4 : V m c main_v4 = shapeCast S1x1280 (m ((c : Thread nD τ).loc main_arg7)) shapeCasts_S1280_S1x1280 := by
  unfold V
  after_reads_simp
  rfl
theorem host_ct : V m c main_v103 = shapeCast S2048x1280 (m ((c : Thread nD τ).loc main_arg8)) shapeCasts_S1x2048x1280_S2048x1280 := by
  unfold V
  after_reads_simp
  rfl
theorem host_args : V m c main_arg1 = m ((c : Thread nD τ).loc main_arg1) ∧ V m c main_arg3 = m ((c : Thread nD τ).loc main_arg3)
    ∧ V m c main_arg5 = m ((c : Thread nD τ).loc main_arg5) := by
  unfold V
  refine ⟨?_, ?_, ?_⟩ <;> after_reads_simp

end Cert.LruBwdIdeal.Value

end
-- ==== Proof.LruRev.lean ====
/-
  The backward kernel's scratch buffers.  The doubling scan runs from the last row to the first, over buffers whose last
  1024 rows are padding: a buffer whose middle rows hold the products (or the sums) of `n` places, read in place and `n`
  rows later, gives those of `2 n` places.  Place `p` of a column is its row `3071 - p`.
-/
module

public import proofs.«01_k».proof.Defs
public import proofs.«01_k».proof.Proof.LruReal
public import proofs.«01_k».proof.Proof.Gen.LruBwdIdeal.Value
public import Idealize.ShloMosaic.Lib.WritesUnit
public import Idealize.ShloMosaic.Lib.Pipeline.ValueKit
public import Idealize.ShloMosaic.Lib.Pointwise

@[expose] public section

set_option maxRecDepth 16384

noncomputable section

namespace Cert.LruRev

open Idealize.ShloMosaic Cert.LruBwdIdeal Cert.LruBwdIdeal.Gen Cert.LruMath

variable {sg : RefSig} {κ : Kind} {sp : Space}

/-- The last 1024 rows of a buffer, its pieces written over `f`, hold `k`. -/
structure Pad (v : View sg κ sp S4096x128 .f32) (f : v.ty.Contents (Elt Ideal)) (L : List (View.Piece (Elt Ideal) S4096x128 .f32))
    (k : EReal) : Prop where
  high : ∀ (p : Fin 4096) (q : Fin 128), 3072 ≤ p.val → v.read (Elt Ideal) (v.writes (Elt Ideal) f L) (ix2 p q) = k

/-- The padding as the first grid point writes it. -/
theorem Pad.start {v : View sg κ sp S4096x128 .f32} {f : v.ty.Contents (Elt Ideal)} {k : EReal} {w : S1024x128.Idx → EReal}
    (hw : ∀ i, w i = k) (inb : ∀ a : Fin 2, ![3072, 0] a + S1024x128.size a ≤ S4096x128.size a)
    (L : List (View.Piece (Elt Ideal) S4096x128 .f32)) :
    Pad v f ((⟨Rect.unit (s := S4096x128) ![3072, 0] S1024x128.size inb, w⟩ : View.Piece (Elt Ideal) S4096x128 .f32) :: L) k :=
  ⟨fun p q hp => (View.read_writes_cons_rows_of_mem (o := 3072) v f inb w L (ix2 p q) (ix2 (⟨p.val - 3072, by omega⟩ : Fin 1024) q) rfl
    (show p.val = 3072 + (p.val - 3072) by omega) rfl).trans (hw _)⟩

/-- A block of 2048 rows holds places 3071 … 1024 of a sequence a column. -/
def Rep (g : Fin 128 → ℕ → EReal) (w : S2048x128.Idx → EReal) : Prop :=
  ∀ (i : Fin 2048) (q : Fin 128), w (ix2 i q) = g q (3071 - i.val)

variable {v : View sg κ sp S4096x128 .f32} {f : v.ty.Contents (Elt Ideal)} {L : List (View.Piece (Elt Ideal) S4096x128 .f32)} {k : EReal}

/-- A piece written above the padding leaves it. -/
theorem Pad.cons (h : Pad v f L k) (inb : ∀ a : Fin 2, ![1024, 0] a + S2048x128.size a ≤ S4096x128.size a) (w : S2048x128.Idx → EReal) :
    Pad v f ((⟨Rect.unit (s := S4096x128) ![1024, 0] S2048x128.size inb, w⟩ : View.Piece (Elt Ideal) S4096x128 .f32) :: L) k :=
  ⟨fun p q hp => (View.read_writes_cons_rows_of_not_mem (o := 1024) (W := 2048) v f inb w L (ix2 p q) rfl rfl (Or.inr hp)).trans (h.high p q hp)⟩

/-- The rows `n` later than the middle ones: the middle piece's own, and the padding after them. -/
theorem shifted (h : Pad v f L k) (inb : ∀ a : Fin 2, ![1024, 0] a + S2048x128.size a ≤ S4096x128.size a) {w : S2048x128.Idx → EReal}
    {g : Fin 128 → ℕ → EReal} (hw : Rep g w) (hg : ∀ q p, p < 1024 → g q p = k) {o n : ℕ} (ho : o = 1024 + n)
    (inb' : ∀ a : Fin 2, ![o, 0] a + S2048x128.size a ≤ S4096x128.size a) (i : Fin 2048) (q : Fin 128) :
    v.readAt (Elt Ideal) (Rect.unit (s := S4096x128) ![o, 0] S2048x128.size inb').toLoadRect
      (v.writes (Elt Ideal) f ((⟨Rect.unit (s := S4096x128) ![1024, 0] S2048x128.size inb, w⟩ : View.Piece (Elt Ideal) S4096x128 .f32) :: L)) (ix2 i q)
      = g q (3071 - i.val - n) := by
  rw [View.readAt_apply]
  have hi := i.isLt
  have hr : o + 2048 ≤ 4096 := inb' 0
  have e : (Rect.unit (s := S4096x128) ![o, 0] S2048x128.size inb').toLoadRect.idx (ix2 i q) = ix2 (⟨o + i.val, by omega⟩ : Fin 4096) q := by
    funext a
    refine Fin.ext ?_
    match a with
    | ⟨0, _⟩ => show o + 1 * i.val = o + i.val; omega
    | ⟨1, _⟩ => show 0 + 1 * q.val = q.val; omega
  rw [e]
  by_cases hin : i.val + n < 2048
  · rw [View.read_writes_cons_rows_of_mem (o := 1024) v f inb w L _ (ix2 (⟨i.val + n, hin⟩ : Fin 2048) q) rfl
      (show o + i.val = 1024 + (i.val + n) by omega) rfl, hw, show 3071 - (i.val + n) = 3071 - i.val - n by omega]
  · rw [(h.cons inb w).high _ _ (show 3072 ≤ o + i.val by omega), hg q _ (by omega)]

/-- The scan's two writes, as the kernel's body composes them. -/
def mul (x y : Vec Ideal S2048x128 .f32) : FVec Ideal S2048x128 .f32 := shapeCast S2048x128 (mulf x y) shapeCasts_S2048x128_S2048x128
def madd (x y z : Vec Ideal S2048x128 .f32) : FVec Ideal S2048x128 .f32 := shapeCast S2048x128 (addf (mulf x y) z) shapeCasts_S2048x128_S2048x128

theorem mul_apply (x y : Vec Ideal S2048x128 .f32) (i : Fin 2048) (q : Fin 128) : mul x y (ix2 i q) = x (ix2 i q) * y (ix2 i q) := by
  pointwise [mul]
theorem madd_apply (x y z : Vec Ideal S2048x128 .f32) (i : Fin 2048) (q : Fin 128) :
    madd x y z (ix2 i q) = x (ix2 i q) * y (ix2 i q) + z (ix2 i q) := by
  pointwise [madd]

variable {u : View sg κ sp S4096x128 .f32} {fu : u.ty.Contents (Elt Ideal)} {M : List (View.Piece (Elt Ideal) S4096x128 .f32)}
  {a b : Fin 128 → ℕ → EReal}

/-- The coefficients are in the unit interval and one on the padding, the addends zero there. -/
structure Coef (a b : Fin 128 → ℕ → EReal) : Prop where
  unit : ∀ q, Unit01 (a q)
  one : ∀ q p, p < 1024 → a q p = 1
  zero : ∀ q p, p < 1024 → b q p = 0

variable (n o : ℕ) {wa wb : S2048x128.Idx → EReal}
  {inb inb2 inb3 inb4 : ∀ a : Fin 2, ![1024, 0] a + S2048x128.size a ≤ S4096x128.size a} {inb' inb2' : ∀ a : Fin 2, ![o, 0] a + S2048x128.size a ≤ S4096x128.size a}

/-- The sums of `2 n` places from the products and sums of `n`. -/
theorem double_sum (hc : Coef a b) (ho : o = 1024 + n) (h : Rep (fun q => P (a q) n) wa ∧ Rep (fun q => Q (a q) (b q) n) wb) (hu : Pad u fu M 0) :
    Rep (fun q => Q (a q) (b q) (n + n))
      (madd (v.readCov ((⟨Rect.unit (s := S4096x128) ![1024, 0] S2048x128.size inb, wa⟩ : View.Piece (Elt Ideal) S4096x128 .f32) :: L)
          (Rect.unit (s := S4096x128) ![1024, 0] S2048x128.size inb).toLoadRect)
        (u.readAt (Elt Ideal) (Rect.unit (s := S4096x128) ![o, 0] S2048x128.size inb').toLoadRect
          (u.writes (Elt Ideal) fu ((⟨Rect.unit (s := S4096x128) ![1024, 0] S2048x128.size inb2, wb⟩ : View.Piece (Elt Ideal) S4096x128 .f32) :: M)))
        (u.readCov ((⟨Rect.unit (s := S4096x128) ![1024, 0] S2048x128.size inb2, wb⟩ : View.Piece (Elt Ideal) S4096x128 .f32) :: M)
          (Rect.unit (s := S4096x128) ![1024, 0] S2048x128.size inb2).toLoadRect)) := fun i q => by
  rw [madd_apply, View.readCov_cons_toLoadRect, View.readCov_cons_toLoadRect,
    shifted hu inb2 h.2 (fun q p hp => Q_zero (hc.zero q) n p hp) ho inb' i q, h.1, h.2]
  exact (Q_add _ (hc.unit q) n n _).symm

/-- The products of `2 n` places from those of `n`. -/
theorem double_prod (hc : Coef a b) (ho : o = 1024 + n) (h : Rep (fun q => P (a q) n) wa) (hv : Pad v f L 1) :
    Rep (fun q => P (a q) (n + n))
      (mul (v.readCov ((⟨Rect.unit (s := S4096x128) ![1024, 0] S2048x128.size inb, wa⟩ : View.Piece (Elt Ideal) S4096x128 .f32) :: L)
          (Rect.unit (s := S4096x128) ![1024, 0] S2048x128.size inb).toLoadRect)
        (v.readAt (Elt Ideal) (Rect.unit (s := S4096x128) ![o, 0] S2048x128.size inb').toLoadRect
          (v.writes (Elt Ideal) f ((⟨Rect.unit (s := S4096x128) ![1024, 0] S2048x128.size inb, wa⟩ : View.Piece (Elt Ideal) S4096x128 .f32) :: L)))) := fun i q => by
  rw [mul_apply, View.readCov_cons_toLoadRect,
    shifted hv inb h (fun q p hp => P_one (hc.one q) n p hp) ho inb' i q, h]
  exact (P_add n n _).symm

/-- One level of the scan. -/
theorem level (hc : Coef a b) (ho : o = 1024 + n) (h : Rep (fun q => P (a q) n) wa ∧ Rep (fun q => Q (a q) (b q) n) wb)
    (hv : Pad v f L 1) (hu : Pad u fu M 0) :
    Rep (fun q => P (a q) (n + n))
      (mul (v.readCov ((⟨Rect.unit (s := S4096x128) ![1024, 0] S2048x128.size inb, wa⟩ : View.Piece (Elt Ideal) S4096x128 .f32) :: L)
          (Rect.unit (s := S4096x128) ![1024, 0] S2048x128.size inb).toLoadRect)
        (v.readAt (Elt Ideal) (Rect.unit (s := S4096x128) ![o, 0] S2048x128.size inb').toLoadRect
          (v.writes (Elt Ideal) f ((⟨Rect.unit (s := S4096x128) ![1024, 0] S2048x128.size inb, wa⟩ : View.Piece (Elt Ideal) S4096x128 .f32) :: L))))
    ∧ Rep (fun q => Q (a q) (b q) (n + n))
      (madd (v.readCov ((⟨Rect.unit (s := S4096x128) ![1024, 0] S2048x128.size inb, wa⟩ : View.Piece (Elt Ideal) S4096x128 .f32) :: L)
          (Rect.unit (s := S4096x128) ![1024, 0] S2048x128.size inb).toLoadRect)
        (u.readAt (Elt Ideal) (Rect.unit (s := S4096x128) ![o, 0] S2048x128.size inb').toLoadRect
          (u.writes (Elt Ideal) fu ((⟨Rect.unit (s := S4096x128) ![1024, 0] S2048x128.size inb2, wb⟩ : View.Piece (Elt Ideal) S4096x128 .f32) :: M)))
        (u.readCov ((⟨Rect.unit (s := S4096x128) ![1024, 0] S2048x128.size inb2, wb⟩ : View.Piece (Elt Ideal) S4096x128 .f32) :: M)
          (Rect.unit (s := S4096x128) ![1024, 0] S2048x128.size inb2).toLoadRect)) :=
  ⟨double_prod n o hc ho h.1 hv, double_sum n o hc ho h hu⟩

/-! The shift buffer: eight zero rows, a block's rows, eight zero rows. -/

section tap
variable {v : View sg κ sp S2064x128 .f32} {f : v.ty.Contents (Elt Ideal)} {L : List (View.Piece (Elt Ideal) S2064x128 .f32)}

/-- The first and the last eight rows hold zero. -/
structure Ends (v : View sg κ sp S2064x128 .f32) (f : v.ty.Contents (Elt Ideal)) (L : List (View.Piece (Elt Ideal) S2064x128 .f32)) : Prop where
  ends : ∀ (p : Fin 2064) (q : Fin 128), p.val < 8 ∨ 2056 ≤ p.val → v.read (Elt Ideal) (v.writes (Elt Ideal) f L) (ix2 p q) = 0

theorem Ends.cons (h : Ends v f L) (inb : ∀ a : Fin 2, ![8, 0] a + S2048x128.size a ≤ S2064x128.size a) (w : S2048x128.Idx → EReal) :
    Ends v f ((⟨Rect.unit (s := S2064x128) ![8, 0] S2048x128.size inb, w⟩ : View.Piece (Elt Ideal) S2064x128 .f32) :: L) :=
  ⟨fun p q hp => (View.read_writes_cons_rows_of_not_mem (o := 8) (W := 2048) v f inb w L (ix2 p q) rfl rfl hp).trans (h.ends p q hp)⟩

theorem Ends.start {w w' : S8x128.Idx → EReal} (hw : ∀ i, w i = 0) (hw' : ∀ i, w' i = 0)
    (inb : ∀ a : Fin 2, ![2056, 0] a + S8x128.size a ≤ S2064x128.size a) (inb' : ∀ a : Fin 2, ![0, 0] a + S8x128.size a ≤ S2064x128.size a)
    (L : List (View.Piece (Elt Ideal) S2064x128 .f32)) :
    Ends v f ((⟨Rect.unit (s := S2064x128) ![2056, 0] S8x128.size inb, w⟩ : View.Piece (Elt Ideal) S2064x128 .f32)
      :: (⟨Rect.unit (s := S2064x128) ![0, 0] S8x128.size inb', w'⟩ : View.Piece (Elt Ideal) S2064x128 .f32) :: L) :=
  ⟨fun p q hp => by
    by_cases h : 2056 ≤ p.val
    · exact (View.read_writes_cons_rows_of_mem (o := 2056) v f inb w _ (ix2 p q) (ix2 (⟨p.val - 2056, by omega⟩ : Fin 8) q) rfl
        (show p.val = 2056 + (p.val - 2056) by omega) rfl).trans (hw _)
    · have h8 : p.val < 8 := by omega
      exact (View.read_writes_cons_rows_of_not_mem (o := 2056) (W := 8) v f inb w _ (ix2 p q) rfl rfl (Or.inl (by show p.val < 2056; omega))).trans
        ((View.read_writes_cons_rows_of_mem (o := 0) v f inb' w' L (ix2 p q) (ix2 (⟨p.val, h8⟩ : Fin 8) q) rfl (Nat.zero_add _).symm rfl).trans (hw' _))⟩

/-- The buffer read from row `o` on. -/
theorem tap (h : Ends v f L) (inb : ∀ a : Fin 2, ![8, 0] a + S2048x128.size a ≤ S2064x128.size a) {w : S2048x128.Idx → EReal}
    {u : Fin 2048 → Fin 128 → ℝ} (hw : ∀ (i : Fin 2048) (q : Fin 128), w (ix2 i q) = u i q) {o : ℕ}
    (inb' : ∀ a : Fin 2, ![o, 0] a + S2048x128.size a ≤ S2064x128.size a) (i : Fin 2048) (q : Fin 128) :
    v.readAt (Elt Ideal) (Rect.unit (s := S2064x128) ![o, 0] S2048x128.size inb').toLoadRect
      (v.writes (Elt Ideal) f ((⟨Rect.unit (s := S2064x128) ![8, 0] S2048x128.size inb, w⟩ : View.Piece (Elt Ideal) S2064x128 .f32) :: L)) (ix2 i q)
      = (LruReal.pad u (o + i.val) q : ℝ) := by
  rw [View.readAt_apply]
  have hi := i.isLt
  have hr : o + 2048 ≤ 2064 := inb' 0
  have e : (Rect.unit (s := S2064x128) ![o, 0] S2048x128.size inb').toLoadRect.idx (ix2 i q) = ix2 (⟨o + i.val, by omega⟩ : Fin 2064) q := by
    funext a
    refine Fin.ext ?_
    match a with
    | ⟨0, _⟩ => show o + 1 * i.val = o + i.val; omega
    | ⟨1, _⟩ => show 0 + 1 * q.val = q.val; omega
  rw [e, LruReal.pad]
  by_cases hin : 8 ≤ o + i.val ∧ o + i.val < 2056
  · rw [dif_pos hin, View.read_writes_cons_rows_of_mem (o := 8) v f inb w L _ (ix2 (⟨o + i.val - 8, by omega⟩ : Fin 2048) q) rfl
      (show o + i.val = 8 + (o + i.val - 8) by omega) rfl, hw]
  · rw [dif_neg hin]
    exact (h.cons inb w).ends _ _ (show o + i.val < 8 ∨ 2056 ≤ o + i.val by omega)

end tap

/-! The adjoint as the scan's sums. -/

section adjoint
open Cert.LruReal

variable (K : Head)

/-- The coefficients of the rows after, and the addends, with padding on either side. -/
def A (q : Fin 128) (p : ℕ) : EReal := if 1024 ≤ p ∧ p < 3072 then (LruReal.pad (fun i q => Real.exp (la K i q)) (9 + (3071 - p)) q : ℝ) else 1
def B (q : Fin 128) (p : ℕ) : EReal := if h : 1024 ≤ p ∧ p < 3072 then (up K ⟨3071 - p, by omega⟩ q : ℝ) else 0

theorem coef : Coef (A K) (B K) where
  unit := fun q p => by
    unfold A LruReal.pad
    split
    · split
      · exact ⟨EReal.coe_nonneg.mpr (Real.exp_pos _).le, by exact_mod_cast Real.exp_le_one_iff.mpr (la_neg K _ q).le⟩
      · exact ⟨le_refl _, zero_le_one⟩
    · exact ⟨zero_le_one, le_refl _⟩
  one := fun q p hp => if_neg (by omega)
  zero := fun q p hp => dif_neg (by omega)

theorem state_at (q : Fin 128) : ∀ (n : ℕ) (h : n < 2048), H (A K q) (B K q) 1024 (n + 1) = (ad K ⟨2047 - n, by omega⟩ q : ℝ)
  | 0, h => by
    have ea : A K q 1024 = 0 := by rw [A, if_pos (by omega), LruReal.pad, dif_neg (by omega)]; rfl
    have eb : B K q 1024 = (up K ⟨2047, by omega⟩ q : ℝ) := by rw [B, dif_pos (by omega)]
    have e : ad K ⟨2047 - 0, by omega⟩ q = up K ⟨2047, by omega⟩ q := LruBack.adj_last _ _ _ rfl
    rw [e, ← eb]
    show A K q 1024 * 0 + B K q 1024 = _
    rw [mul_zero, zero_add]
  | n + 1, h => by
    have ea : A K q (1024 + (n + 1)) = (Real.exp (la K ⟨2047 - n, by omega⟩ q) : ℝ) := by
      rw [A, if_pos (by omega), LruReal.pad, dif_pos (by omega)]
      congr 3
      refine Fin.ext ?_
      show 9 + (3071 - (1024 + (n + 1))) - 8 = 2047 - n
      omega
    have eb : B K q (1024 + (n + 1)) = (up K ⟨2047 - (n + 1), by omega⟩ q : ℝ) := by
      rw [B, dif_pos (by omega)]
      congr 2
      refine Fin.ext ?_
      show 3071 - (1024 + (n + 1)) = 2047 - (n + 1)
      omega
    have e : ad K ⟨2047 - (n + 1), by omega⟩ q = Real.exp (la K ⟨2047 - n, by omega⟩ q) * ad K ⟨2047 - n, by omega⟩ q + up K ⟨2047 - (n + 1), by omega⟩ q :=
      LruBack.adj_succ _ _ _ _ (show 2047 - n = 2047 - (n + 1) + 1 by omega)
    rw [e, EReal.coe_add, EReal.coe_mul, ← ea, ← eb, ← state_at q n (by omega)]
    rfl

/-- The scan's sums after the last level. -/
theorem adjoint_at {w : S2048x128.Idx → EReal} (h : Rep (fun q => Q (A K q) (B K q) 2048) w) (i : Fin 2048) (q : Fin 128) : w (ix2 i q) = (ad K i q : ℝ) := by
  have hi := i.isLt
  have e := Q_eq_H ((coef K).unit q) (o := 1024) (by decide) ((coef K).zero q) (2047 - i.val) 2048 (by omega)
  rw [state_at K q (2047 - i.val) (by omega)] at e
  rw [h, show 3071 - i.val = 1024 + (2047 - i.val) by omega]
  refine e.trans (congrArg (fun s => ((ad K s q : ℝ) : EReal)) (Fin.ext ?_))
  show 2047 - (2047 - i.val) = i.val
  omega

end adjoint

end Cert.LruRev

end
-- ==== Proof.LruBackKer.lean ====
/-
  The backward kernel's body as functions of one head over the reals: what it computes before the scan, and what it makes of
  the scan's adjoint.
-/
module

public import proofs.«01_k».proof.Proof.LruRev

@[expose] public section

set_option maxRecDepth 16384

noncomputable section

namespace Cert.LruBackKer

open Idealize.ShloMosaic Cert.LruBwdIdeal Cert.LruBwdIdeal.Gen Cert.LruReal

/-- A block holds these reals. -/
def Is (w : S2048x128.Idx → EReal) (f : Fin 2048 → Fin 128 → ℝ) : Prop := ∀ (i : Fin 2048) (q : Fin 128), w (ix2 i q) = (f i q : EReal)

/-- The state's buffer read one row earlier. -/
theorem before_pad (K : Head) (i : Fin 2048) (q : Fin 128) : LruReal.pad (state K) (7 + i.val) q = before K i q := by
  have hi := i.isLt
  unfold LruReal.pad before LruBack.prev
  by_cases h : 0 < i.val
  · rw [dif_pos (by omega), dif_pos h]
    exact congrArg (fun s => state K s q) (Fin.ext (show 7 + i.val - 8 = i.val - 1 by omega))
  · rw [dif_neg (by omega), dif_neg h]

theorem pad_mid (u : Fin 2048 → Fin 128 → ℝ) (i : Fin 2048) (q : Fin 128) : LruReal.pad u (8 + i.val) q = u i q := by
  have hi := i.isLt
  rw [LruReal.pad, dif_pos (by omega)]
  exact congrArg (fun s => u s q) (Fin.ext (Nat.add_sub_cancel_left _ _))

/-- What the body loads is the head's, and four shifted reads of its rows. -/
structure Loads (K : Head) (v3 : Vec Ideal S2048x128 .f32) (v5 : Vec Ideal S4x128 .f32) (v6 : Vec Ideal S1x128 .f32) (v8 : Vec Ideal S1x128x128 .f32)
    (v10 : Vec Ideal S1x128x128 .f32) (v12 : Vec Ideal S1x128 .f32) (v14 v16 : Vec Ideal S1x1x128 .f32) (v83 v85 v118 t5 t6 t7 t8 : Vec Ideal S2048x128 .f32) : Prop where
  U : Is v3 K.U
  W : ∀ k q, v5 (ix2 k q) = (K.W k q : EReal)
  lam : ∀ q, v6 (ix2 0 q) = (K.lam q : EReal)
  wa : ∀ d q, v8 (ix3 0 d q) = (K.wa d q : EReal)
  wx : ∀ d q, v10 (ix3 0 d q) = (K.wx d q : EReal)
  cb : ∀ q, v12 (ix2 0 q) = (K.cb q : EReal)
  ba : ∀ q, v14 (ix3 0 0 q) = (K.ba q : EReal)
  bx : ∀ q, v16 (ix3 0 0 q) = (K.bx q : EReal)
  st : Is v83 (state K)
  G : Is v85 K.G
  ct : Is v118 K.ct
  t5 : Is t5 fun i q => LruReal.pad K.U (5 + i.val) q
  t6 : Is t6 fun i q => LruReal.pad K.U (6 + i.val) q
  t7 : Is t7 fun i q => LruReal.pad K.U (7 + i.val) q
  t8 : Is t8 fun i q => LruReal.pad K.U (8 + i.val) q

section loads
variable {K : Head} {v3 : Vec Ideal S2048x128 .f32} {v5 : Vec Ideal S4x128 .f32} {v6 : Vec Ideal S1x128 .f32} {v8 : Vec Ideal S1x128x128 .f32}
    {v10 : Vec Ideal S1x128x128 .f32} {v12 : Vec Ideal S1x128 .f32} {v14 v16 : Vec Ideal S1x1x128 .f32} {v83 v85 v118 t5 t6 t7 t8 : Vec Ideal S2048x128 .f32}
  (h : Loads K v3 v5 v6 v8 v10 v12 v14 v16 v83 v85 v118 t5 t6 t7 t8)
include h

theorem conv_is : Is (k0_pay28 v5 (k0_pay22 v12) (k0_pay26 v5 t5) (k0_pay27 v5 t6) t7 t8) (conv K) := fun i q => by
  have e : k0_pay28 v5 (k0_pay22 v12) (k0_pay26 v5 t5) (k0_pay27 v5 t6) t7 t8 (ix2 i q)
      = t5 (ix2 i q) * v5 (ix2 0 q) + t6 (ix2 i q) * v5 (ix2 1 q) + t7 (ix2 i q) * v5 (ix2 2 q) + t8 (ix2 i q) * v5 (ix2 3 q) + v12 (ix2 0 q) := by
    pointwise [k0_pay28, k0_pay22, k0_pay26, k0_pay27]
  rw [e, h.t5, h.t6, h.t7, h.t8, h.W, h.W, h.W, h.W, h.cb]
  simp only [← EReal.coe_mul, ← EReal.coe_add]
  rfl

theorem ra_is : Is (k0_pay29 v5 (k0_pay20 v8) (k0_pay22 v12) (k0_pay23 v14) (k0_pay26 v5 t5) (k0_pay27 v5 t6) t7 t8) (ra K) := fun i q => by
  pointwise [k0_pay29, k0_pay20, k0_pay23]
  simp only [conv_is h _ _, h.wa, h.ba]
  simp only [← EReal.coe_mul, ← coe_sum, ← EReal.coe_add, logistic_coe]
  rfl

theorem ix_is : Is (k0_pay30 v5 (k0_pay21 v10) (k0_pay22 v12) (k0_pay24 v16) (k0_pay26 v5 t5) (k0_pay27 v5 t6) t7 t8) (ix K) := fun i q => by
  pointwise [k0_pay30, k0_pay21, k0_pay24]
  simp only [conv_is h _ _, h.wx, h.bx]
  simp only [← EReal.coe_mul, ← coe_sum, ← EReal.coe_add, logistic_coe]
  rfl

theorem sp_is (q : Fin 128) : k0_pay31 (k0_pay19 v6) (ix2 0 q) = (sp (K.lam q) : EReal) := by
  rw [← softplusNeg_coe, ← h.lam]
  pointwise [k0_pay31, k0_pay19]
  simp only [ne_eq, not_true_eq_false, if_false, zero_sub]
  rfl

theorem la_is : Is (k0_pay32 v5 (k0_pay19 v6) (k0_pay20 v8) (k0_pay22 v12) (k0_pay23 v14) (k0_pay26 v5 t5) (k0_pay27 v5 t6) t7 t8) (la K) := fun i q => by
  pointwise [k0_pay32]
  rw [ra_is h, sp_is h, meight, ← EReal.coe_mul, ← EReal.coe_mul]
  rfl

theorem a_is : Is (k0_pay33 v5 (k0_pay19 v6) (k0_pay20 v8) (k0_pay22 v12) (k0_pay23 v14) (k0_pay26 v5 t5) (k0_pay27 v5 t6) t7 t8)
    (fun i q => Real.exp (la K i q)) := fun i q => by
  pointwise [k0_pay33]
  rw [la_is h, exp_coe]

theorem mu_is : Is (k0_pay35 (k0_pay33 v5 (k0_pay19 v6) (k0_pay20 v8) (k0_pay22 v12) (k0_pay23 v14) (k0_pay26 v5 t5) (k0_pay27 v5 t6) t7 t8)
      (k0_pay34 v5 (k0_pay19 v6) (k0_pay20 v8) (k0_pay22 v12) (k0_pay23 v14) (k0_pay26 v5 t5) (k0_pay27 v5 t6) t7 t8)) (mu K) := fun i q => by
  rw [← mu_tanh]
  pointwise [k0_pay35, k0_pay34, k0_pay33]
  rw [la_is h]

theorem th_is : Is (k0_pay39 v85) (fun i q => th (K.G i q)) := fun i q => by
  pointwise [k0_pay39, k0_pay38, k0_pay37]
  have e : Named.named (F := Ideal) Cert.LruBwdIdeal.κ "gelu_cubic" (φ := .f32) 0x3D372713#32 = ((8943 / 200000 : ℝ) : EReal) :=
    IdealRules.named_const.ideal_named_scalar _ _ _ _ rfl
  rw [e, h.G, gc_coe]
  simp only [← EReal.coe_mul, ← EReal.coe_add, tanh_coe]
  rfl

theorem gelu_is : Is (k0_pay40 v85) (fun i q => gelu (K.G i q)) := fun i q => by
  pointwise [k0_pay40, k0_pay37]
  rw [th_is h, h.G, half]
  simp only [← EReal.coe_one, ← EReal.coe_mul, ← EReal.coe_add]
  rfl

theorem slope_is : Is (k0_pay41 v85) (fun i q => LruReal.slope (K.G i q)) := fun i q => by
  pointwise [k0_pay41, k0_pay38, k0_pay37]
  have e : Named.named (F := Ideal) Cert.LruBwdIdeal.κ "gelu_cubic_slope" (φ := .f32) 0x3E095D4F#32 = ((26829 / 200000 : ℝ) : EReal) :=
    IdealRules.named_const.ideal_named_scalar _ _ _ _ rfl
  rw [e, th_is h, h.G, half, gc_coe]
  simp only [← EReal.coe_one, ← EReal.coe_mul, ← EReal.coe_add, ← EReal.coe_sub]
  rfl

theorem up_is : Is (k0_pay46 (k0_pay40 v85) (k0_pay42 v118)) (up K) := fun i q => by
  pointwise [k0_pay46, k0_pay42]
  rw [gelu_is h, h.ct, ← EReal.coe_mul]
  rfl

theorem dug_is : Is (k0_pay43 (k0_pay36 v83) (k0_pay41 v85) (k0_pay42 v118)) (dug K) := fun i q => by
  pointwise [k0_pay43, k0_pay42, k0_pay36]
  rw [slope_is h, h.ct, h.st, ← EReal.coe_mul, ← EReal.coe_mul]
  rfl

end loads

/-- What the body after the scan reads: the values before it, the adjoint and the state a row earlier. -/
structure Mid (K : Head) (v7 : Vec Ideal S1x128 .f32) (v9 v11 : Vec Ideal S128x128 .f32) (v41 v47 v53 : Vec Ideal S2048x128 .f32) (v69 : Vec Ideal S1x128 .f32)
    (v74 v82 v273 v277 : Vec Ideal S2048x128 .f32) : Prop where
  lam : ∀ q, v7 (ix2 0 q) = (K.lam q : EReal)
  wa : ∀ d q, v9 (ix2 d q) = (K.wa d q : EReal)
  wx : ∀ d q, v11 (ix2 d q) = (K.wx d q : EReal)
  conv : Is v41 (conv K)
  ra : Is v47 (ra K)
  ix : Is v53 (ix K)
  sp : ∀ q, v69 (ix2 0 q) = (sp (K.lam q) : EReal)
  a : Is v74 fun i q => Real.exp (la K i q)
  mu : Is v82 (mu K)
  ad : Is v273 (ad K)
  hp : Is v277 (before K)

theorem Loads.mid {K : Head} {v3 : Vec Ideal S2048x128 .f32} {v5 : Vec Ideal S4x128 .f32} {v6 : Vec Ideal S1x128 .f32} {v8 : Vec Ideal S1x128x128 .f32}
    {v10 : Vec Ideal S1x128x128 .f32} {v12 : Vec Ideal S1x128 .f32} {v14 v16 : Vec Ideal S1x1x128 .f32} {v83 v85 v118 t5 t6 t7 t8 v273 v277 : Vec Ideal S2048x128 .f32}
    (h : Loads K v3 v5 v6 v8 v10 v12 v14 v16 v83 v85 v118 t5 t6 t7 t8) (ha : Is v273 (LruReal.ad K)) (hp : Is v277 (before K)) :
    Mid K (k0_pay19 v6) (k0_pay20 v8) (k0_pay21 v10) (k0_pay28 v5 (k0_pay22 v12) (k0_pay26 v5 t5) (k0_pay27 v5 t6) t7 t8)
      (k0_pay29 v5 (k0_pay20 v8) (k0_pay22 v12) (k0_pay23 v14) (k0_pay26 v5 t5) (k0_pay27 v5 t6) t7 t8)
      (k0_pay30 v5 (k0_pay21 v10) (k0_pay22 v12) (k0_pay24 v16) (k0_pay26 v5 t5) (k0_pay27 v5 t6) t7 t8) (k0_pay31 (k0_pay19 v6))
      (k0_pay33 v5 (k0_pay19 v6) (k0_pay20 v8) (k0_pay22 v12) (k0_pay23 v14) (k0_pay26 v5 t5) (k0_pay27 v5 t6) t7 t8)
      (k0_pay35 (k0_pay33 v5 (k0_pay19 v6) (k0_pay20 v8) (k0_pay22 v12) (k0_pay23 v14) (k0_pay26 v5 t5) (k0_pay27 v5 t6) t7 t8)
        (k0_pay34 v5 (k0_pay19 v6) (k0_pay20 v8) (k0_pay22 v12) (k0_pay23 v14) (k0_pay26 v5 t5) (k0_pay27 v5 t6) t7 t8)) v273 v277 where
  lam := fun q => by pointwise [k0_pay19]; exact h.lam q
  wa := fun d q => by pointwise [k0_pay20]; exact h.wa d q
  wx := fun d q => by pointwise [k0_pay21]; exact h.wx d q
  conv := conv_is h
  ra := ra_is h
  ix := ix_is h
  sp := sp_is h
  a := a_is h
  mu := mu_is h
  ad := ha
  hp := hp

section mid
variable {K : Head} {v7 : Vec Ideal S1x128 .f32} {v9 v11 : Vec Ideal S128x128 .f32} {v41 v47 v53 : Vec Ideal S2048x128 .f32} {v69 : Vec Ideal S1x128 .f32}
    {v74 v82 v273 v277 : Vec Ideal S2048x128 .f32} (h : Mid K v7 v9 v11 v41 v47 v53 v69 v74 v82 v273 v277)
include h

theorem dla_is : Is (k0_pay72 v41 v53 v74 v82 v273 v277) (dla K) := fun i q => by
  pointwise [k0_pay72]
  rw [h.conv, h.ix, h.a, h.mu, h.ad, h.hp]
  simp only [← EReal.coe_mul]
  rw [div_coe _ (mu_pos K i q).ne', ← EReal.coe_sub]
  rfl

theorem dra_is : Is (k0_pay76 v47 (k0_pay74 v41 v53 v69 v74 v82 v273 v277) (k0_pay75 (F := Ideal))) (dra K) := fun i q => by
  pointwise [k0_pay76, k0_pay75, k0_pay74]
  rw [dla_is h, h.ra, h.sp, meight]
  simp only [← EReal.coe_one, ← EReal.coe_mul, ← EReal.coe_sub]
  rfl

theorem dia_is : Is (k0_pay77 v41 v53 (k0_pay71 v82 v273)) (dia K) := fun i q => by
  pointwise [k0_pay77, k0_pay71]
  rw [h.conv, h.ix, h.mu, h.ad]
  simp only [← EReal.coe_one, ← EReal.coe_mul, ← EReal.coe_sub]
  rfl

theorem admu_is : Is (k0_pay71 v82 v273) (fun i q => ad K i q * mu K i q) := fun i q => by
  pointwise [k0_pay71]
  rw [h.mu, h.ad, ← EReal.coe_mul]

theorem dv_is : Is (k0_pay85 (k0_pay82 v9 v47 v53 (k0_pay71 v82 v273) (k0_pay74 v41 v53 v69 v74 v82 v273 v277) (k0_pay75 (F := Ideal)))
    (k0_pay83 v41 v53 (k0_pay71 v82 v273)) (k0_pay84 v11) (constant (F := Ideal) S2048x128 .f32 0x00000000#32)) (dv K) := fun i q => by
  pointwise [k0_pay85, k0_pay82, k0_pay83, k0_pay84]
  simp only [dra_is h _ _, dia_is h _ _, admu_is h _ _, h.ix _ _, h.wa, h.wx]
  simp only [← EReal.coe_mul, ← coe_sum, ← EReal.coe_add]
  rfl

theorem dwa_is (d q : Fin 128) : k0_pay80 v41 v47 (k0_pay74 v41 v53 v69 v74 v82 v273 v277) (k0_pay75 (F := Ideal)) (ix3 0 d q)
    = ((∑ s, conv K s d * dra K s q : ℝ) : EReal) := by
  pointwise [k0_pay80]
  simp only [dra_is h _ _, h.conv _ _, ← EReal.coe_mul, ← coe_sum]

theorem dwx_is (d q : Fin 128) : k0_pay81 v41 v53 (k0_pay71 v82 v273) (ix3 0 d q) = ((∑ s, conv K s d * dia K s q : ℝ) : EReal) := by
  pointwise [k0_pay81]
  simp only [dia_is h _ _, h.conv _ _, ← EReal.coe_mul, ← coe_sum]

theorem dba_is (q : Fin 128) : k0_pay78 v47 (k0_pay74 v41 v53 v69 v74 v82 v273 v277) (k0_pay75 (F := Ideal)) (ix3 0 0 q)
    = ((∑ s, dra K s q : ℝ) : EReal) := by
  pointwise [k0_pay78]
  simp only [dra_is h _ _, ← coe_sum]

theorem dbx_is (q : Fin 128) : k0_pay79 v41 v53 (k0_pay71 v82 v273) (ix3 0 0 q) = ((∑ s, dia K s q : ℝ) : EReal) := by
  pointwise [k0_pay79]
  simp only [dia_is h _ _, ← coe_sum]

theorem dlam_is (q : Fin 128) : k0_pay73 v7 v41 v47 v53 v74 v82 v273 v277 (ix2 0 q) = (dlam K q : EReal) := by
  pointwise [k0_pay73]
  simp only [dla_is h _ _, h.ra _ _, h.lam, zero_sub, eight, logistic_coe, ← EReal.coe_neg, ← EReal.coe_mul, ← coe_sum]
  rfl

end mid

section taps
variable {K : Head} {x y : FVec Ideal S2048x128 .f32} {x' : FVec Ideal S2048x128 .bf16} {y' : FVec Ideal S128x128 .bf16}
  (h : Is (k0_pay85 x x' y' y) (dv K))
include h

theorem dcb_is (q : Fin 128) : k0_pay86 x x' y' y (ix2 0 q) = ((∑ s, dv K s q : ℝ) : EReal) := by
  pointwise [k0_pay86]
  simp only [h _ _, ← coe_sum]

/-- One row of the convolution's gradient. -/
theorem dcw_is {t : Vec Ideal S2048x128 .f32} {o : ℕ} (ht : Is t fun i q => LruReal.pad K.U (o + i.val) q) (q : Fin 128) :
    k0_pay88 x x' y' y t (ix2 0 q) = ((∑ s, dv K s q * LruReal.pad K.U (o + s.val) q : ℝ) : EReal) := by
  pointwise [k0_pay88]
  simp only [h _ _, ht _ _, ← EReal.coe_mul, ← coe_sum]

end taps

theorem dul_is {K : Head} {v5 : Vec Ideal S4x128 .f32} {w11 w10 w9 w8 : Vec Ideal S2048x128 .f32} (hW : ∀ k q, v5 (ix2 k q) = (K.W k q : EReal))
    (h11 : Is w11 fun i q => LruReal.pad (dv K) (11 + i.val) q) (h10 : Is w10 fun i q => LruReal.pad (dv K) (10 + i.val) q)
    (h9 : Is w9 fun i q => LruReal.pad (dv K) (9 + i.val) q) (h8 : Is w8 fun i q => LruReal.pad (dv K) (8 + i.val) q) : Is (k0_pay2 v5 w11 w10 w9 w8) (dul K) := fun i q => by
  have e : k0_pay2 v5 w11 w10 w9 w8 (ix2 i q)
      = w11 (ix2 i q) * v5 (ix2 0 q) + w10 (ix2 i q) * v5 (ix2 1 q) + w9 (ix2 i q) * v5 (ix2 2 q) + w8 (ix2 i q) * v5 (ix2 3 q) := by
    pointwise [k0_pay2]
  rw [e, h11, h10, h9, h8, hW, hW, hW, hW]
  simp only [← EReal.coe_mul, ← EReal.coe_add]
  rfl

end Cert.LruBackKer

end
-- ==== Proof.LruBackScan.lean ====
/-
  The backward kernel's scan: at either kind of grid point the last buffer holds the adjoint of the head's state.
-/
module

public import proofs.«01_k».proof.Proof.LruBackKer
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.LruBwdIdeal.Value

open Cert.LruBwdIdeal Cert.LruBwdIdeal.Gen Cert.LruMath Cert.LruRev Cert.LruBackKer Cert.LruReal

/-- The blocks a grid point loads are the head's. -/
structure Blocks (K : Head) (x0 x1 : Vec Ideal S2048x128 .f32) (x2 : Vec Ideal S4x128 .f32) (x3 : Vec Ideal S1x128 .f32) (x4 : Vec Ideal S1x128x128 .f32)
    (x5 : Vec Ideal S1x1x128 .f32) (x6 : Vec Ideal S1x128x128 .f32) (x7 : Vec Ideal S1x1x128 .f32) (x8 : Vec Ideal S1x128 .f32)
    (x9 x10 : Vec Ideal S2048x128 .f32) : Prop where
  U : Is x0 K.U
  G : Is x1 K.G
  W : ∀ k q, x2 (ix2 k q) = (K.W k q : EReal)
  cb : ∀ q, x3 (ix2 0 q) = (K.cb q : EReal)
  wa : ∀ d q, x4 (ix3 0 d q) = (K.wa d q : EReal)
  ba : ∀ q, x5 (ix3 0 0 q) = (K.ba q : EReal)
  wx : ∀ d q, x6 (ix3 0 d q) = (K.wx d q : EReal)
  bx : ∀ q, x7 (ix3 0 0 q) = (K.bx q : EReal)
  lam : ∀ q, x8 (ix2 0 q) = (K.lam q : EReal)
  st : Is x9 (state K)
  ct : Is x10 K.ct

/-- The padding rows of the scratch buffers. -/
structure Pads (xs0 : Vec Ideal S2064x128 .f32) (xs1 xs2 xs3 xs4 : Vec Ideal S4096x128 .f32) : Prop where
  shift : ∀ (p : Fin 2064) (q : Fin 128), p.val < 8 ∨ 2056 ≤ p.val → xs0 (ix2 p q) = 0
  a1 : ∀ (p : Fin 4096) (q : Fin 128), 3072 ≤ p.val → xs1 (ix2 p q) = 1
  a2 : ∀ (p : Fin 4096) (q : Fin 128), 3072 ≤ p.val → xs2 (ix2 p q) = 1
  b1 : ∀ (p : Fin 4096) (q : Fin 128), 3072 ≤ p.val → xs3 (ix2 p q) = 0
  b2 : ∀ (p : Fin 4096) (q : Fin 128), 3072 ≤ p.val → xs4 (ix2 p q) = 0

theorem pad_nil {mr : Memref sig .tc .vmem S4096x128 .f32} (h : mr.IsWhole) {x : Vec Ideal S4096x128 .f32} {k : EReal}
    (hx : ∀ (p : Fin 4096) (q : Fin 128), 3072 ≤ p.val → x (ix2 p q) = k) : Pad mr.view (h.unread x) [] k :=
  ⟨fun p q hp => (congrFun (h.read_unread x) (ix2 p q)).trans (hx p q hp)⟩

theorem ends_nil {mr : Memref sig .tc .vmem S2064x128 .f32} (h : mr.IsWhole) {x : Vec Ideal S2064x128 .f32}
    (hx : ∀ (p : Fin 2064) (q : Fin 128), p.val < 8 ∨ 2056 ≤ p.val → x (ix2 p q) = 0) : Ends mr.view (h.unread x) [] :=
  ⟨fun p q hp => (congrFun (h.read_unread x) (ix2 p q)).trans (hx p q hp)⟩

/-- A whole block read. -/
theorem load2 {d0 d1 : ℕ} {mr : Memref sig .tc .vmem ⟨2, ![d0, d1]⟩ .f32} (h : mr.IsWhole) (x : Vec Ideal ⟨2, ![d0, d1]⟩ .f32)
    (inb : ∀ a : Fin 2, ![0, 0] a + (⟨2, ![d0, d1]⟩ : Shape).size a ≤ (⟨2, ![d0, d1]⟩ : Shape).size a) :
    View.readAt (Elt Ideal) mr.view (Rect.unit (s := ⟨2, ![d0, d1]⟩) ![0, 0] (⟨2, ![d0, d1]⟩ : Shape).size inb).toLoadRect (h.unread x) = x := by
  have e := View.ld_unit_lit (Val := Elt Ideal) (S := ⟨2, ![d0, d1]⟩) (e := .f32) (off := ![0, 0]) inb x (by decide : ∀ a : Fin 2, (![0, 0] : Fin 2 → ℕ) a = 0)
  rw [← h.read_unread x] at e
  exact e.trans (h.read_unread x)

theorem load3 {d0 d1 d2 : ℕ} {mr : Memref sig .tc .vmem ⟨3, ![d0, d1, d2]⟩ .f32} (h : mr.IsWhole) (x : Vec Ideal ⟨3, ![d0, d1, d2]⟩ .f32)
    (inb : ∀ a : Fin 3, ![0, 0, 0] a + (⟨3, ![d0, d1, d2]⟩ : Shape).size a ≤ (⟨3, ![d0, d1, d2]⟩ : Shape).size a) :
    View.readAt (Elt Ideal) mr.view (Rect.unit (s := ⟨3, ![d0, d1, d2]⟩) ![0, 0, 0] (⟨3, ![d0, d1, d2]⟩ : Shape).size inb).toLoadRect (h.unread x) = x := by
  have e := View.ld_unit_lit (Val := Elt Ideal) (S := ⟨3, ![d0, d1, d2]⟩) (e := .f32) (off := ![0, 0, 0]) inb x (by decide : ∀ a : Fin 3, (![0, 0, 0] : Fin 3 → ℕ) a = 0)
  rw [← h.read_unread x] at e
  exact e.trans (h.read_unread x)

/-- A block's whole memory read, as the body reads it. -/
abbrev rd2 {d0 d1 : ℕ} {mr : Memref sig .tc .vmem ⟨2, ![d0, d1]⟩ .f32} (h : mr.IsWhole) (x : Vec Ideal ⟨2, ![d0, d1]⟩ .f32)
    (inb : ∀ a : Fin 2, ![0, 0] a + (⟨2, ![d0, d1]⟩ : Shape).size a ≤ (⟨2, ![d0, d1]⟩ : Shape).size a) : Vec Ideal ⟨2, ![d0, d1]⟩ .f32 :=
  View.readAt (Elt Ideal) mr.view (Rect.unit (s := ⟨2, ![d0, d1]⟩) ![0, 0] (⟨2, ![d0, d1]⟩ : Shape).size inb).toLoadRect (h.unread x)
abbrev rd3 {d0 d1 d2 : ℕ} {mr : Memref sig .tc .vmem ⟨3, ![d0, d1, d2]⟩ .f32} (h : mr.IsWhole) (x : Vec Ideal ⟨3, ![d0, d1, d2]⟩ .f32)
    (inb : ∀ a : Fin 3, ![0, 0, 0] a + (⟨3, ![d0, d1, d2]⟩ : Shape).size a ≤ (⟨3, ![d0, d1, d2]⟩ : Shape).size a) : Vec Ideal ⟨3, ![d0, d1, d2]⟩ .f32 :=
  View.readAt (Elt Ideal) mr.view (Rect.unit (s := ⟨3, ![d0, d1, d2]⟩) ![0, 0, 0] (⟨3, ![d0, d1, d2]⟩ : Shape).size inb).toLoadRect (h.unread x)

/-- The shift buffer read at its middle rows. -/
theorem middle {v : View sig .tc .vmem S2064x128 .f32} {L : List (View.Piece (Elt Ideal) S2064x128 .f32)} {w : S2048x128.Idx → EReal}
    {u : Fin 2048 → Fin 128 → ℝ} (hw : Is w u) (inb : ∀ a : Fin 2, ![8, 0] a + S2048x128.size a ≤ S2064x128.size a) :
    Is (v.readCov ((⟨Rect.unit (s := S2064x128) ![8, 0] S2048x128.size inb, w⟩ : View.Piece (Elt Ideal) S2064x128 .f32) :: L)
      (Rect.unit (s := S2064x128) ![8, 0] S2048x128.size inb).toLoadRect) fun i q => LruReal.pad u (8 + i.val) q := fun i q => by
  rw [View.readCov_cons_toLoadRect, hw]
  exact congrArg _ (pad_mid u i q).symm

/-- The pieces written into the shift buffer. -/
theorem copy_is {w : Vec Ideal S2048x128 .f32} {u : Fin 2048 → Fin 128 → ℝ} (h : Is w u) : Is (k0_pay25 (F := Ideal) w) u ∧ Is (k0_pay44 (F := Ideal) w) u ∧ Is (k0_pay70 (F := Ideal) (k0_pay36 w)) u
    ∧ Is (k0_pay87 (F := Ideal) (k0_pay18 w)) u ∧ Is (k0_pay1 (F := Ideal) w) u := by
  refine ⟨fun i q => ?_, fun i q => ?_, fun i q => ?_, fun i q => ?_, fun i q => ?_⟩
  · pointwise [k0_pay25, k0_pay18]; exact h i q
  · pointwise [k0_pay44]; exact h i q
  · pointwise [k0_pay70, k0_pay36]; exact h i q
  · pointwise [k0_pay87, k0_pay18]; exact h i q
  · pointwise [k0_pay1]; exact h i q

/-- What the scan starts from. -/
theorem first {K : Head} {x : Vec Ideal S2048x128 .f32} {y : FVec Ideal S2048x128 .f32} {z : FVec Ideal S2048x128 .f32}
    (hx : Is x fun i q => LruReal.pad (fun i q => Real.exp (la K i q)) (9 + i.val) q) (h : Is (k0_pay46 y z) (up K)) :
    Rep (fun q => P (A K q) 1) (k0_pay45 x) ∧ Rep (fun q => Q (A K q) (B K q) 1) (k0_pay46 y z) := by
  refine ⟨fun i q => ?_, fun i q => ?_⟩
  · have hi := i.isLt
    have e : k0_pay45 x (ix2 i q) = x (ix2 i q) := by pointwise [k0_pay45]
    rw [e, hx]
    simp only [P, A]
    rw [one_mul, Nat.sub_zero, if_pos (by omega), show 3071 - (3071 - i.val) = i.val by omega]
  · have hi := i.isLt
    rw [h]
    simp only [Q, P, B]
    rw [one_mul, add_zero, Nat.sub_zero, dif_pos (by omega)]
    exact congrArg (fun s => ((up K s q : ℝ) : EReal)) (Fin.ext (show i.val = 3071 - (3071 - i.val) by omega))

/-! The padding the first point writes. -/

theorem zeros8 : ∀ i, k0_pay4 (F := Ideal) i = (0 : EReal) := fun i => by idx_vars i; pointwise [k0_pay4, k0_pay3]
theorem ones : ∀ i, kernelRun0_A.sl.v401 (F := Ideal) i = (1 : EReal) := fun i => by
  idx_vars i
  show k0_pay7 (F := Ideal) _ = 1
  pointwise [k0_pay7, k0_pay6]
theorem zeros : ∀ i, kernelRun0_A.sl.v415 (F := Ideal) i = (0 : EReal) := fun i => by
  idx_vars i
  show k0_pay13 (F := Ideal) _ = 0
  pointwise [k0_pay13, k0_pay12]

section point
variable {c : Dev nD}
  {arg1 : Memref sig .tc .vmem S2048x128 .f32} (harg1 : arg1.IsWhole) {arg2 : Memref sig .tc .vmem S2048x128 .f32} (harg2 : arg2.IsWhole)
  {arg3 : Memref sig .tc .vmem S4x128 .f32} (harg3 : arg3.IsWhole) {arg4 : Memref sig .tc .vmem S1x128 .f32} (harg4 : arg4.IsWhole)
  {arg5 : Memref sig .tc .vmem S1x128x128 .f32} (harg5 : arg5.IsWhole) {arg6 : Memref sig .tc .vmem S1x1x128 .f32} (harg6 : arg6.IsWhole)
  {arg7 : Memref sig .tc .vmem S1x128x128 .f32} (harg7 : arg7.IsWhole) {arg8 : Memref sig .tc .vmem S1x1x128 .f32} (harg8 : arg8.IsWhole)
  {arg9 : Memref sig .tc .vmem S1x128 .f32} (harg9 : arg9.IsWhole) {arg10 : Memref sig .tc .vmem S2048x128 .f32} (harg10 : arg10.IsWhole)
  {arg11 : Memref sig .tc .vmem S2048x128 .f32} (harg11 : arg11.IsWhole) {arg21 : Memref sig .tc .vmem S2064x128 .f32} {harg21 : arg21.IsWhole}
  {arg22 : Memref sig .tc .vmem S4096x128 .f32} {harg22 : arg22.IsWhole} {arg23 : Memref sig .tc .vmem S4096x128 .f32} {harg23 : arg23.IsWhole}
  {arg24 : Memref sig .tc .vmem S4096x128 .f32} {harg24 : arg24.IsWhole} {arg25 : Memref sig .tc .vmem S4096x128 .f32} {harg25 : arg25.IsWhole}
  {x0 x1 : Vec Ideal S2048x128 .f32} {x2 : Vec Ideal S4x128 .f32} {x3 : Vec Ideal S1x128 .f32} {x4 : Vec Ideal S1x128x128 .f32} {x5 : Vec Ideal S1x1x128 .f32}
  {x6 : Vec Ideal S1x128x128 .f32} {x7 : Vec Ideal S1x1x128 .f32} {x8 : Vec Ideal S1x128 .f32} {x9 x10 : Vec Ideal S2048x128 .f32}
  {xs0 : Vec Ideal S2064x128 .f32} {xs1 xs2 xs3 xs4 : Vec Ideal S4096x128 .f32} {K : Head} (hx : Blocks K x0 x1 x2 x3 x4 x5 x6 x7 x8 x9 x10)
include hx harg1 harg2 harg3 harg4 harg5 harg6 harg7 harg8 harg9 harg10 harg11

/-- What the body loads before the scan, the shift buffer's tail being any list with zero rows at both ends. -/
theorem loads {v : View sig .tc .vmem S2064x128 .f32} {f : v.ty.Contents (Elt Ideal)} {L : List (View.Piece (Elt Ideal) S2064x128 .f32)} (h : Ends v f L) :
    let M := (⟨Rect.unit (s := S2064x128) ![8, 0] S2048x128.size inb_S2064x128_S2048x128_8_0, k0_pay25 (F := Ideal) (rd2 harg1 x0 inb_S2048x128_S2048x128_0_0)⟩
      : View.Piece (Elt Ideal) S2064x128 .f32) :: L
    Loads K (rd2 harg1 x0 inb_S2048x128_S2048x128_0_0) (rd2 harg3 x2 inb_S4x128_S4x128_0_0) (rd2 harg9 x8 inb_S1x128_S1x128_0_0)
      (rd3 harg5 x4 inb_S1x128x128_S1x128x128_0_0_0) (rd3 harg7 x6 inb_S1x128x128_S1x128x128_0_0_0) (rd2 harg4 x3 inb_S1x128_S1x128_0_0)
      (rd3 harg6 x5 inb_S1x1x128_S1x1x128_0_0_0) (rd3 harg8 x7 inb_S1x1x128_S1x1x128_0_0_0) (rd2 harg10 x9 inb_S2048x128_S2048x128_0_0)
      (rd2 harg2 x1 inb_S2048x128_S2048x128_0_0) (rd2 harg11 x10 inb_S2048x128_S2048x128_0_0)
      (v.readAt (Elt Ideal) (Rect.unit (s := S2064x128) ![5, 0] S2048x128.size inb_S2064x128_S2048x128_5_0).toLoadRect (v.writes (Elt Ideal) f M))
      (v.readAt (Elt Ideal) (Rect.unit (s := S2064x128) ![6, 0] S2048x128.size inb_S2064x128_S2048x128_6_0).toLoadRect (v.writes (Elt Ideal) f M))
      (v.readAt (Elt Ideal) (Rect.unit (s := S2064x128) ![7, 0] S2048x128.size inb_S2064x128_S2048x128_7_0).toLoadRect (v.writes (Elt Ideal) f M))
      (v.readCov M (Rect.unit (s := S2064x128) ![8, 0] S2048x128.size inb_S2064x128_S2048x128_8_0).toLoadRect) := by
  have u : Is (rd2 harg1 x0 inb_S2048x128_S2048x128_0_0) K.U := fun i q => (congrFun (load2 _ _ _) _).trans (hx.U i q)
  exact
    { U := u
      W := fun k q => (congrFun (load2 _ _ _) _).trans (hx.W k q)
      lam := fun q => (congrFun (load2 _ _ _) _).trans (hx.lam q)
      wa := fun d q => (congrFun (load3 _ _ _) _).trans (hx.wa d q)
      wx := fun d q => (congrFun (load3 _ _ _) _).trans (hx.wx d q)
      cb := fun q => (congrFun (load2 _ _ _) _).trans (hx.cb q)
      ba := fun q => (congrFun (load3 _ _ _) _).trans (hx.ba q)
      bx := fun q => (congrFun (load3 _ _ _) _).trans (hx.bx q)
      st := fun i q => (congrFun (load2 _ _ _) _).trans (hx.st i q)
      G := fun i q => (congrFun (load2 _ _ _) _).trans (hx.G i q)
      ct := fun i q => (congrFun (load2 _ _ _) _).trans (hx.ct i q)
      t5 := tap h _ (copy_is u).1 _
      t6 := tap h _ (copy_is u).1 _
      t7 := tap h _ (copy_is u).1 _
      t8 := middle (copy_is u).1 _ }

/-- The scan at a point after the first, and at the first, which writes the padding. -/
theorem scan_B (hp : Pads xs0 xs1 xs2 xs3 xs4) : Is (kernelRun0_B.sl.v273 c arg1 harg1 arg2 harg2 arg3 harg3 arg4 harg4 arg5 harg5 arg6 harg6 arg9 harg9 arg11 harg11 arg21 harg21 arg22 harg22 arg23 harg23 arg24 harg24 arg25 harg25 x0 x1 x2 x3 x4 x5 x8 x10 xs0 xs1 xs2 xs3 xs4) (ad K) := by
  refine adjoint_at K ?_
  unfold kernelRun0_B.sl.v273 kernelRun0_B.sl.HS4_6
  rw [View.readCov_cons_toLoadRect]
  on_goal 1 => refine double_sum 1024 2048 (coef K) rfl ?_ ?_
  on_goal 1 => refine level 512 1536 (coef K) rfl ?_ ?_ ?_
  on_goal 1 => refine level 256 1280 (coef K) rfl ?_ ?_ ?_
  on_goal 1 => refine level 128 1152 (coef K) rfl ?_ ?_ ?_
  on_goal 1 => refine level 64 1088 (coef K) rfl ?_ ?_ ?_
  on_goal 1 => refine level 32 1056 (coef K) rfl ?_ ?_ ?_
  on_goal 1 => refine level 16 1040 (coef K) rfl ?_ ?_ ?_
  on_goal 1 => refine level 8 1032 (coef K) rfl ?_ ?_ ?_
  on_goal 1 => refine level 4 1028 (coef K) rfl ?_ ?_ ?_
  on_goal 1 => refine level 2 1026 (coef K) rfl ?_ ?_ ?_
  on_goal 1 => refine level 1 1025 (coef K) rfl ?_ ?_ ?_
  on_goal 1 =>
    have E := ends_nil harg21 hp.shift
    exact first (tap (E.cons _ _) _ (copy_is (a_is (loads harg1 harg2 harg3 harg4 harg5 harg6 harg7 harg8 harg9 harg10 harg11 hx E))).2.1 _) (up_is (loads harg1 harg2 harg3 harg4 harg5 harg6 harg7 harg8 harg9 harg10 harg11 hx E))
  all_goals repeat (first
    | exact pad_nil harg22 hp.a1
    | exact pad_nil harg23 hp.a2
    | exact pad_nil harg24 hp.b1
    | exact pad_nil harg25 hp.b2
    | refine Pad.cons ?_ _ _)

theorem scan_A : Is (kernelRun0_A.sl.v273 c arg1 harg1 arg2 harg2 arg3 harg3 arg4 harg4 arg5 harg5 arg6 harg6 arg9 harg9 arg11 harg11 arg21 arg22 arg23 arg24 arg25 x0 x1 x2 x3 x4 x5 x8 x10) (ad K) := by
  refine adjoint_at K ?_
  unfold kernelRun0_A.sl.v273 kernelRun0_A.sl.HS4_8
  rw [View.readCov_cons_toLoadRect]
  on_goal 1 => refine double_sum 1024 2048 (coef K) rfl ?_ ?_
  on_goal 1 => refine level 512 1536 (coef K) rfl ?_ ?_ ?_
  on_goal 1 => refine level 256 1280 (coef K) rfl ?_ ?_ ?_
  on_goal 1 => refine level 128 1152 (coef K) rfl ?_ ?_ ?_
  on_goal 1 => refine level 64 1088 (coef K) rfl ?_ ?_ ?_
  on_goal 1 => refine level 32 1056 (coef K) rfl ?_ ?_ ?_
  on_goal 1 => refine level 16 1040 (coef K) rfl ?_ ?_ ?_
  on_goal 1 => refine level 8 1032 (coef K) rfl ?_ ?_ ?_
  on_goal 1 => refine level 4 1028 (coef K) rfl ?_ ?_ ?_
  on_goal 1 => refine level 2 1026 (coef K) rfl ?_ ?_ ?_
  on_goal 1 => refine level 1 1025 (coef K) rfl ?_ ?_ ?_
  on_goal 1 =>
    have E : Ends arg21.view arg21.view.junk _ := Ends.start zeros8 zeros8 (by decide) (by decide) []
    exact first (tap (E.cons _ _) _ (copy_is (a_is (loads harg1 harg2 harg3 harg4 harg5 harg6 harg7 harg8 harg9 harg10 harg11 hx E))).2.1 _) (up_is (loads harg1 harg2 harg3 harg4 harg5 harg6 harg7 harg8 harg9 harg10 harg11 hx E))
  all_goals repeat (first
    | exact Pad.start ones _ _
    | exact Pad.start zeros _ _
    | refine Pad.cons ?_ _ _)

/-- The states a row earlier, read back from the shift buffer. -/
theorem prev_B (hp : Pads xs0 xs1 xs2 xs3 xs4) :
    Is (kernelRun0_B.sl.v277 c arg1 harg1 arg3 harg3 arg4 harg4 arg5 harg5 arg6 harg6 arg9 harg9 arg10 harg10 arg21 harg21 x0 x2 x3 x4 x5 x8 x9 xs0) (before K) :=
  fun i q => (tap (((ends_nil harg21 hp.shift).cons _ _).cons _ _) _
    (copy_is (loads harg1 harg2 harg3 harg4 harg5 harg6 harg7 harg8 harg9 harg10 harg11 hx (ends_nil harg21 hp.shift)).st).2.2.1 _ i q).trans
      (congrArg _ (before_pad K i q))
theorem prev_A : Is (kernelRun0_A.sl.v277 c arg1 harg1 arg3 harg3 arg4 harg4 arg5 harg5 arg6 harg6 arg9 harg9 arg10 harg10 arg21 x0 x2 x3 x4 x5 x8 x9) (before K) := by
  have E : Ends arg21.view arg21.view.junk _ := Ends.start zeros8 zeros8 (by decide) (by decide) []
  exact fun i q => (tap ((E.cons _ _).cons _ _) _ (copy_is (loads harg1 harg2 harg3 harg4 harg5 harg6 harg7 harg8 harg9 harg10 harg11 hx E).st).2.2.1 _ i q).trans
    (congrArg _ (before_pad K i q))

end point

end Cert.LruBwdIdeal.Value

end
-- ==== Proof.LruBackKernel.lean ====
/-
  The blocks that the recurrent branch's backward kernel reads are the head's.
-/
module

public import proofs.«01_k».proof.Proof.LruBackHost
public import proofs.«01_k».proof.Proof.LruBackScan

@[expose] public section

set_option maxRecDepth 65536

noncomputable section

open Idealize.ShloMosaic Idealize.ShloMosaic.TcCoe Idealize.SL.Sem
open Idealize.ShloMosaic.Pipeline (Dat)

namespace Cert.LruBwdIdeal.Value

open Cert.LruBwdIdeal Cert.LruBwdIdeal.Gen Cert.LruMath Cert.LruBackKer

variable (m : (ℓ : Loc nD τ sig) → Buf (Elt Ideal) ℓ) (c : Dev nD) (t : Fin cfg0.N)

theorem idx : ∀ t : Fin cfg0.N, win0_0.index t = ![0, t.val + 4] ∧ win0_1.index t = ![0, t.val + 14] ∧ win0_2.index t = ![0, t.val]
    ∧ win0_3.index t = ![0, t.val] ∧ win0_4.index t = ![t.val, 0, 0] ∧ win0_5.index t = ![t.val, 0, 0] ∧ win0_6.index t = ![t.val, 0, 0]
    ∧ win0_7.index t = ![t.val, 0, 0] ∧ win0_8.index t = ![0, t.val] ∧ win0_9.index t = ![0, t.val] ∧ win0_10.index t = ![0, t.val]
    ∧ win0_11.index t = ![0, t.val] ∧ win0_12.index t = ![0, t.val] ∧ win0_13.index t = ![0, t.val] ∧ win0_14.index t = ![0, t.val]
    ∧ win0_15.index t = ![t.val, 0, 0] ∧ win0_16.index t = ![t.val, 0, 0] ∧ win0_17.index t = ![t.val, 0, 0] ∧ win0_18.index t = ![t.val, 0, 0]
    ∧ win0_19.index t = ![0, t.val] :=
  (by decide +kernel : ∀ t : Fin grid0.N, _)

/-! Where a block's entries lie in its array. -/

theorem read_0 (X : main_v0.ty.Contents (Elt Ideal)) (i : Fin 2048) (q : Fin 128) : View.read (Elt Ideal) ((cfg0.win 0).blk t).view X (ix2 i q)
    = X (ix2 i ⟨512 + (t.val * 128 + q.val), by have := t.isLt; have : t.val < 10 := this; omega⟩) := by
  blk_point [idx t]
theorem read_1 (X : main_v0.ty.Contents (Elt Ideal)) (i : Fin 2048) (q : Fin 128) : View.read (Elt Ideal) ((cfg0.win 1).blk t).view X (ix2 i q)
    = X (ix2 i ⟨1792 + (t.val * 128 + q.val), by have := t.isLt; have : t.val < 10 := this; omega⟩) := by
  blk_point [idx t]
theorem read_3 (X : main_v1.ty.Contents (Elt Ideal)) (q : Fin 128) : View.read (Elt Ideal) ((cfg0.win 3).blk t).view X (ix2 0 q)
    = X (ix2 0 ⟨t.val * 128 + q.val, by have := t.isLt; have : t.val < 10 := this; omega⟩) := by
  blk_point [idx t]
theorem read_5 (X : main_v2.ty.Contents (Elt Ideal)) (q : Fin 128) : View.read (Elt Ideal) ((cfg0.win 5).blk t).view X (ix3 0 0 q)
    = X (ix3 t 0 q) := by
  blk_point [idx t]
theorem read_7 (X : main_v3.ty.Contents (Elt Ideal)) (q : Fin 128) : View.read (Elt Ideal) ((cfg0.win 7).blk t).view X (ix3 0 0 q)
    = X (ix3 t 0 q) := by
  blk_point [idx t]
theorem read_8 (X : main_v4.ty.Contents (Elt Ideal)) (q : Fin 128) : View.read (Elt Ideal) ((cfg0.win 8).blk t).view X (ix2 0 q)
    = X (ix2 0 ⟨t.val * 128 + q.val, by have := t.isLt; have : t.val < 10 := this; omega⟩) := by
  blk_point [idx t]
theorem read_9 (X : main_v102.ty.Contents (Elt Ideal)) (i : Fin 2048) (q : Fin 128) : View.read (Elt Ideal) ((cfg0.win 9).blk t).view X (ix2 i q)
    = X (ix2 i ⟨t.val * 128 + q.val, by have := t.isLt; have : t.val < 10 := this; omega⟩) := by
  blk_point [idx t]
theorem read_10 (X : main_v103.ty.Contents (Elt Ideal)) (i : Fin 2048) (q : Fin 128) : View.read (Elt Ideal) ((cfg0.win 10).blk t).view X (ix2 i q)
    = X (ix2 i ⟨t.val * 128 + q.val, by have := t.isLt; have : t.val < 10 := this; omega⟩) := by
  blk_point [idx t]

/-! The reshaped arguments at an index. -/

theorem drop_at (x : S1x2048x1280.Idx → EReal) (i : Fin 2048) (f : Fin 1280) :
    shapeCast S2048x1280 x shapeCasts_S1x2048x1280_S2048x1280 (ix2 i f) = x (ix3 0 i f) := by
  pointwise []
theorem proj_at (x : S1x2048x5120.Idx → EReal) (i : Fin 2048) (f : Fin 5120) :
    shapeCast S2048x5120 x shapeCasts_S1x2048x5120_S2048x5120 (ix2 i f) = x (ix3 0 i f) := by
  pointwise []
theorem row_at (x : S1280.Idx → EReal) (f : Fin 1280) : shapeCast S1x1280 x shapeCasts_S1280_S1x1280 (ix2 0 f) = x (ix1 f) := by
  pointwise []
theorem head_at (x : S10x128.Idx → EReal) (g : Fin 10) (q : Fin 128) : shapeCast S10x1x128 x shapeCasts_S10x128_S10x1x128 (ix3 g 0 q) = x (ix2 g q) := by
  pointwise []

/-- The launch's arguments are the heads' numbers. -/
abbrev Given (R : Fin 10 → LruReal.Head) : Prop :=
  Cert.LruBwdRefIdeal.Value.Args (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) R

variable {R : Fin 10 → LruReal.Head} (h : Given m c R)
include h

theorem states (t : Fin 10) (i : Fin 2048) (q : Fin 128) : V m c main_v102 (ix2 i ⟨t.val * 128 + q.val, by omega⟩) = (LruReal.state (R t) i q : EReal) := by
  rw [host_h, drop_at]
  exact Cert.LruBwdRefIdeal.Value.v106_at h t i q

theorem U_blk (i : Fin 2048) (q : Fin 128) : iblk m c 0 t (ix2 i q) = ((R t).U i q : EReal) :=
  (read_0 t _ i q).trans ((congrFun (host_0 m c) _).trans ((proj_at _ _ _).trans (h.U t i q)))
theorem G_blk (i : Fin 2048) (q : Fin 128) : iblk m c 1 t (ix2 i q) = ((R t).G i q : EReal) :=
  (read_1 t _ i q).trans ((congrFun (host_0 m c) _).trans ((proj_at _ _ _).trans (h.G t i q)))
theorem W_blk (k : Fin 4) (q : Fin 128) : iblk m c 2 t (ix2 k q) = ((R t).W k q : EReal) := by
  refine Eq.trans ?_ (h.W k t q)
  unfold iblk
  rw [show V m c (Pipeline.arrRef spec0 2) = _ from (host_args m c).1]
  blk_point [idx t]
theorem cb_blk (q : Fin 128) : iblk m c 3 t (ix2 0 q) = ((R t).cb q : EReal) :=
  (read_3 t _ q).trans ((congrFun (host_1 m c) _).trans ((row_at _ _).trans (h.cb t q)))
theorem wa_blk (d q : Fin 128) : iblk m c 4 t (ix3 0 d q) = ((R t).wa d q : EReal) := by
  refine Eq.trans ?_ (h.wa t d q)
  unfold iblk
  rw [show V m c (Pipeline.arrRef spec0 4) = _ from (host_args m c).2.1]
  blk_point [idx t]
theorem ba_blk (q : Fin 128) : iblk m c 5 t (ix3 0 0 q) = ((R t).ba q : EReal) :=
  (read_5 t _ q).trans ((congrFun (host_2 m c) _).trans ((head_at _ _ _).trans (h.ba t q)))
theorem wx_blk (d q : Fin 128) : iblk m c 6 t (ix3 0 d q) = ((R t).wx d q : EReal) := by
  refine Eq.trans ?_ (h.wx t d q)
  unfold iblk
  rw [show V m c (Pipeline.arrRef spec0 6) = _ from (host_args m c).2.2]
  blk_point [idx t]
theorem bx_blk (q : Fin 128) : iblk m c 7 t (ix3 0 0 q) = ((R t).bx q : EReal) :=
  (read_7 t _ q).trans ((congrFun (host_3 m c) _).trans ((head_at _ _ _).trans (h.bx t q)))
theorem lam_blk (q : Fin 128) : iblk m c 8 t (ix2 0 q) = ((R t).lam q : EReal) :=
  (read_8 t _ q).trans ((congrFun (host_4 m c) _).trans ((row_at _ _).trans (h.lam t q)))
theorem st_blk (i : Fin 2048) (q : Fin 128) : iblk m c 9 t (ix2 i q) = (LruReal.state (R t) i q : EReal) :=
  (read_9 t _ i q).trans (states m c h t i q)

theorem ct_blk (i : Fin 2048) (q : Fin 128) : iblk m c 10 t (ix2 i q) = ((R t).ct i q : EReal) :=
  (read_10 t _ i q).trans ((congrFun (host_ct m c) _).trans ((drop_at _ _ _).trans (h.ct t i q)))
theorem blocks (t : Fin cfg0.N) : Blocks (R t) (iblk m c 0 t) (iblk m c 1 t) (iblk m c 2 t) (iblk m c 3 t) (iblk m c 4 t) (iblk m c 5 t) (iblk m c 6 t)
    (iblk m c 7 t) (iblk m c 8 t) (iblk m c 9 t) (iblk m c 10 t) :=
  ⟨U_blk m c t h, G_blk m c t h, W_blk m c t h, cb_blk m c t h, wa_blk m c t h, ba_blk m c t h, wx_blk m c t h, bx_blk m c t h, lam_blk m c t h, st_blk m c t h, ct_blk m c t h⟩

end Cert.LruBwdIdeal.Value

end
-- ==== Proof.LruBackCases.lean ====
/-
  A grid point of the recurrent branch's backward kernel leaves its head's nine gradients, at the first point and at the others.
-/
module

public import proofs.«01_k».proof.Proof.LruBackScan

@[expose] public section

set_option maxRecDepth 65536

noncomputable section

open Idealize.ShloMosaic Idealize.ShloMosaic.TcCoe Idealize.SL.Sem
open Idealize.ShloMosaic.Pipeline (Dat)

namespace Cert.LruBwdIdeal.Value

open Cert.LruBwdIdeal Cert.LruBwdIdeal.Gen Cert.LruMath Cert.LruRev Cert.LruBackKer

/-- The nine results' blocks and the five scratch buffers. -/
abbrev St := Vec Ideal S2048x128 .bf16 × Vec Ideal S2048x128 .bf16 × Vec Ideal S4x128 .f32 × Vec Ideal S1x128 .f32 × Vec Ideal S1x128x128 .f32
  × Vec Ideal S1x1x128 .f32 × Vec Ideal S1x128x128 .f32 × Vec Ideal S1x1x128 .f32 × Vec Ideal S1x128 .f32
  × Vec Ideal S2064x128 .f32 × Vec Ideal S4096x128 .f32 × Vec Ideal S4096x128 .f32 × Vec Ideal S4096x128 .f32 × Vec Ideal S4096x128 .f32

/-- What holds after a grid point: its nine results and the padding. -/
structure Good (K : LruReal.Head) (s : St) : Prop where
  dul : ∀ i q, s.1 (ix2 i q) = (LruReal.dul K i q : EReal)
  dug : ∀ i q, s.2.1 (ix2 i q) = (LruReal.dug K i q : EReal)
  dcw : ∀ k q, s.2.2.1 (ix2 k q) = (LruReal.dcw K q k : EReal)
  dcb : ∀ q, s.2.2.2.1 (ix2 0 q) = ((∑ i, LruReal.dv K i q : ℝ) : EReal)
  dwa : ∀ d q, s.2.2.2.2.1 (ix3 0 d q) = ((∑ i, LruReal.conv K i d * LruReal.dra K i q : ℝ) : EReal)
  dba : ∀ q, s.2.2.2.2.2.1 (ix3 0 0 q) = ((∑ i, LruReal.dra K i q : ℝ) : EReal)
  dwx : ∀ d q, s.2.2.2.2.2.2.1 (ix3 0 d q) = ((∑ i, LruReal.conv K i d * LruReal.dia K i q : ℝ) : EReal)
  dbx : ∀ q, s.2.2.2.2.2.2.2.1 (ix3 0 0 q) = ((∑ i, LruReal.dia K i q : ℝ) : EReal)
  dlam : ∀ q, s.2.2.2.2.2.2.2.2.1 (ix2 0 q) = (LruReal.dlam K q : EReal)
  pads : Pads s.2.2.2.2.2.2.2.2.2.1 s.2.2.2.2.2.2.2.2.2.2.1 s.2.2.2.2.2.2.2.2.2.2.2.1 s.2.2.2.2.2.2.2.2.2.2.2.2.1 s.2.2.2.2.2.2.2.2.2.2.2.2.2

section stores
variable {sg : RefSig} {κ : Kind} {sp : Space} {e : EltTy} {d0 d1 d2 : ℕ}

/-- A block written whole and read back. -/
theorem whole2 (v : View sg κ sp ⟨2, ![d0, d1]⟩ e) (f : v.ty.Contents (Elt Ideal)) (w : (⟨2, ![d0, d1]⟩ : Shape).Idx → Elt Ideal e)
    (inb : ∀ a : Fin 2, ![0, 0] a + ![d0, d1] a ≤ ![d0, d1] a) (i : Fin d0) (j : Fin d1) :
    v.read (Elt Ideal) (v.writes (Elt Ideal) f [⟨Rect.unit (s := ⟨2, ![d0, d1]⟩) ![0, 0] ![d0, d1] inb, w⟩]) (ix2 i j) = w (ix2 i j) :=
  View.read_writes_cons_rows_of_mem (o := 0) v f inb w [] (ix2 i j) (ix2 i j) rfl (Nat.zero_add _).symm rfl

theorem whole3 (v : View sg κ sp ⟨3, ![d0, d1, d2]⟩ e) (f : v.ty.Contents (Elt Ideal)) (w : (⟨3, ![d0, d1, d2]⟩ : Shape).Idx → Elt Ideal e)
    (inb : ∀ a : Fin 3, ![0, 0, 0] a + ![d0, d1, d2] a ≤ ![d0, d1, d2] a) (i : Fin d0) (j : Fin d1) (k : Fin d2) :
    v.read (Elt Ideal) (v.writes (Elt Ideal) f [⟨Rect.unit (s := ⟨3, ![d0, d1, d2]⟩) ![0, 0, 0] ![d0, d1, d2] inb, w⟩]) (ix3 i j k) = w (ix3 i j k) :=
  View.read_writes_cons_unit_of_mem v f inb w [] (ix3 i j k) (ix3 i j k : (⟨3, ![d0, d1, d2]⟩ : Shape).Idx) rfl fun a => by
    match a with
    | ⟨0, _⟩ => exact (Nat.zero_add _).symm
    | ⟨1, _⟩ => exact (Nat.zero_add _).symm
    | ⟨2, _⟩ => exact (Nat.zero_add _).symm

/-- Four rows written one after another. -/
theorem four_rows (v : View sg κ sp S4x128 e) (f : v.ty.Contents (Elt Ideal)) (w0 w1 w2 w3 : S1x128.Idx → Elt Ideal e)
    (n0 : ∀ a : Fin 2, ![0, 0] a + ![1, 128] a ≤ ![4, 128] a) (n1 : ∀ a : Fin 2, ![1, 0] a + ![1, 128] a ≤ ![4, 128] a)
    (n2 : ∀ a : Fin 2, ![2, 0] a + ![1, 128] a ≤ ![4, 128] a) (n3 : ∀ a : Fin 2, ![3, 0] a + ![1, 128] a ≤ ![4, 128] a) (q : Fin 128)
    {x : Fin 4 → Elt Ideal e} (h0 : w0 (ix2 0 q) = x 0) (h1 : w1 (ix2 0 q) = x 1) (h2 : w2 (ix2 0 q) = x 2) (h3 : w3 (ix2 0 q) = x 3) (k : Fin 4) :
    v.read (Elt Ideal) (v.writes (Elt Ideal) f [⟨Rect.unit (s := S4x128) ![3, 0] ![1, 128] n3, w3⟩, ⟨Rect.unit (s := S4x128) ![2, 0] ![1, 128] n2, w2⟩,
      ⟨Rect.unit (s := S4x128) ![1, 0] ![1, 128] n1, w1⟩, ⟨Rect.unit (s := S4x128) ![0, 0] ![1, 128] n0, w0⟩]) (ix2 k q) = x k := by
  have hit : ∀ (o : ℕ) (n : ∀ a : Fin 2, ![o, 0] a + ![1, 128] a ≤ ![4, 128] a) (w : S1x128.Idx → Elt Ideal e) L, k.val = o →
      v.read (Elt Ideal) (v.writes (Elt Ideal) f (⟨Rect.unit (s := S4x128) ![o, 0] ![1, 128] n, w⟩ :: L)) (ix2 k q) = w (ix2 0 q) := fun o n w L ho =>
    View.read_writes_cons_rows_of_mem (o := o) v f n w L (ix2 k q) (ix2 0 q) rfl ho rfl
  have miss : ∀ (o : ℕ) (n : ∀ a : Fin 2, ![o, 0] a + ![1, 128] a ≤ ![4, 128] a) (w : S1x128.Idx → Elt Ideal e) L, k.val < o →
      v.read (Elt Ideal) (v.writes (Elt Ideal) f (⟨Rect.unit (s := S4x128) ![o, 0] ![1, 128] n, w⟩ :: L)) (ix2 k q)
        = v.read (Elt Ideal) (v.writes (Elt Ideal) f L) (ix2 k q) := fun o n w L ho =>
    View.read_writes_cons_rows_of_not_mem (o := o) (W := 1) v f n w L (ix2 k q) rfl rfl (Or.inl ho)
  match k with
  | 3 => exact (hit 3 _ _ _ rfl).trans h3
  | 2 => exact (miss 3 _ _ _ (by decide)).trans ((hit 2 _ _ _ rfl).trans h2)
  | 1 => exact (miss 3 _ _ _ (by decide)).trans ((miss 2 _ _ _ (by decide)).trans ((hit 1 _ _ _ rfl).trans h1))
  | 0 => exact (miss 3 _ _ _ (by decide)).trans ((miss 2 _ _ _ (by decide)).trans ((miss 1 _ _ _ (by decide)).trans ((hit 0 _ _ _ rfl).trans h0)))

end stores

variable (m : (ℓ : Loc nD τ sig) → Buf (Elt Ideal) ℓ) (c : Dev nD) (t : Fin cfg0.N) {K : LruReal.Head}
  (hx : Blocks K (iblk m c 0 t) (iblk m c 1 t) (iblk m c 2 t) (iblk m c 3 t) (iblk m c 4 t) (iblk m c 5 t) (iblk m c 6 t) (iblk m c 7 t) (iblk m c 8 t) (iblk m c 9 t) (iblk m c 10 t))
include hx

set_option maxHeartbeats 4000000 in
/-- A point after the first. -/
theorem good_B (h0 : ¬t.val % 10 = 0) (acc : St) (hp : Pads acc.2.2.2.2.2.2.2.2.2.1 acc.2.2.2.2.2.2.2.2.2.2.1 acc.2.2.2.2.2.2.2.2.2.2.2.1
    acc.2.2.2.2.2.2.2.2.2.2.2.2.1 acc.2.2.2.2.2.2.2.2.2.2.2.2.2) : Good K (stAt0 m c t.val t.isLt acc) := by
  rw [stAt0_B m c t acc h0]
  have E := ends_nil (Memref.isWhole_whole _ : scM0_0.IsWhole) hp.shift
  have L := loads (hs0_0 t) (hs0_1 t) (hs0_2 t) (hs0_3 t) (hs0_4 t) (hs0_5 t) (hs0_6 t) (hs0_7 t) (hs0_8 t) (hs0_9 t) (hs0_10 t) hx E
  have S := scan_B (c := c) (harg21 := (Memref.isWhole_whole _ : scM0_0.IsWhole)) (harg22 := (Memref.isWhole_whole _ : scM0_1.IsWhole)) (harg23 := (Memref.isWhole_whole _ : scM0_2.IsWhole)) (harg24 := (Memref.isWhole_whole _ : scM0_3.IsWhole)) (harg25 := (Memref.isWhole_whole _ : scM0_4.IsWhole)) (hs0_0 t) (hs0_1 t) (hs0_2 t) (hs0_3 t) (hs0_4 t) (hs0_5 t) (hs0_6 t) (hs0_7 t) (hs0_8 t) (hs0_9 t) (hs0_10 t) hx hp
  have P := prev_B (c := c) (harg21 := (Memref.isWhole_whole _ : scM0_0.IsWhole)) (hs0_0 t) (hs0_1 t) (hs0_2 t) (hs0_3 t) (hs0_4 t) (hs0_5 t) (hs0_6 t) (hs0_7 t) (hs0_8 t) (hs0_9 t) (hs0_10 t) hx hp
  have M := L.mid S P
  have D := dv_is M
  constructor
  · intro i q; dsimp only; unfold out0_B_11 kernelRun0_B; dsimp only
    refine (whole2 _ _ _ _ i q).trans ?_
    exact dul_is L.W (tap ((((E.cons _ _).cons _ _).cons _ _).cons _ _) _ (copy_is D).2.2.2.2 _) (tap ((((E.cons _ _).cons _ _).cons _ _).cons _ _) _ (copy_is D).2.2.2.2 _) (tap ((((E.cons _ _).cons _ _).cons _ _).cons _ _) _ (copy_is D).2.2.2.2 _) (middle (copy_is D).2.2.2.2 _) i q
  · intro i q; dsimp only; unfold out0_B_12 kernelRun0_B; dsimp only
    refine (whole2 _ _ _ _ i q).trans ?_
    exact dug_is L i q
  · intro k q; dsimp only; unfold out0_B_13 kernelRun0_B; dsimp only
    refine four_rows (e := .f32) _ _ _ _ _ _ _ _ _ _ q (x := fun k => (LruReal.dcw K q k : EReal)) ?_ ?_ ?_ ?_ k
    · exact dcw_is D (tap (((E.cons _ _).cons _ _).cons _ _) _ (copy_is L.U).2.2.2.1 _) q
    · exact dcw_is D (tap (((E.cons _ _).cons _ _).cons _ _) _ (copy_is L.U).2.2.2.1 _) q
    · exact dcw_is D (tap (((E.cons _ _).cons _ _).cons _ _) _ (copy_is L.U).2.2.2.1 _) q
    · exact dcw_is D (middle (copy_is L.U).2.2.2.1 _) q
  · intro q; dsimp only; unfold out0_B_14 kernelRun0_B; dsimp only
    refine (whole2 _ _ _ _ 0 q).trans ?_
    exact dcb_is D q
  · intro d q; dsimp only; unfold out0_B_15 kernelRun0_B; dsimp only
    refine (whole3 _ _ _ _ 0 d q).trans ?_
    exact dwa_is M d q
  · intro q; dsimp only; unfold out0_B_16 kernelRun0_B; dsimp only
    refine (whole3 _ _ _ _ 0 0 q).trans ?_
    exact dba_is M q
  · intro d q; dsimp only; unfold out0_B_17 kernelRun0_B; dsimp only
    refine (whole3 _ _ _ _ 0 d q).trans ?_
    exact dwx_is M d q
  · intro q; dsimp only; unfold out0_B_18 kernelRun0_B; dsimp only
    refine (whole3 _ _ _ _ 0 0 q).trans ?_
    exact dbx_is M q
  · intro q; dsimp only; unfold out0_B_19 kernelRun0_B; dsimp only
    refine (whole2 _ _ _ _ 0 q).trans ?_
    exact dlam_is M q
  · unfold sout0_B_0 sout0_B_1 sout0_B_2 sout0_B_3 sout0_B_4 kernelRun0_B
    dsimp only
    refine ⟨((((E.cons _ _).cons _ _).cons _ _).cons _ _ |>.cons _ _).ends, Pad.high ?_, Pad.high ?_, Pad.high ?_, Pad.high ?_⟩
    all_goals repeat (first
      | exact pad_nil (Memref.isWhole_whole _ : scM0_1.IsWhole) hp.a1
      | exact pad_nil (Memref.isWhole_whole _ : scM0_2.IsWhole) hp.a2
      | exact pad_nil (Memref.isWhole_whole _ : scM0_3.IsWhole) hp.b1
      | exact pad_nil (Memref.isWhole_whole _ : scM0_4.IsWhole) hp.b2
      | refine Pad.cons ?_ _ _)

set_option maxHeartbeats 4000000 in
/-- The first point, which writes the padding. -/
theorem good_A (h0 : t.val % 10 = 0) (acc : St) : Good K (stAt0 m c t.val t.isLt acc) := by
  rw [stAt0_A m c t acc h0]
  have E : Ends scM0_0.view scM0_0.view.junk _ := Ends.start zeros8 zeros8 (by decide) (by decide) []
  have L := loads (hs0_0 t) (hs0_1 t) (hs0_2 t) (hs0_3 t) (hs0_4 t) (hs0_5 t) (hs0_6 t) (hs0_7 t) (hs0_8 t) (hs0_9 t) (hs0_10 t) hx E
  have S := scan_A (c := c) (arg21 := scM0_0) (arg22 := scM0_1) (arg23 := scM0_2) (arg24 := scM0_3) (arg25 := scM0_4) (hs0_0 t) (hs0_1 t) (hs0_2 t) (hs0_3 t) (hs0_4 t) (hs0_5 t) (hs0_6 t) (hs0_7 t) (hs0_8 t) (hs0_9 t) (hs0_10 t) hx
  have P := prev_A (c := c) (arg21 := scM0_0) (hs0_0 t) (hs0_1 t) (hs0_2 t) (hs0_3 t) (hs0_4 t) (hs0_5 t) (hs0_6 t) (hs0_7 t) (hs0_8 t) (hs0_9 t) (hs0_10 t) hx
  have M := L.mid S P
  have D := dv_is M
  constructor
  · intro i q; dsimp only; unfold out0_A_11 kernelRun0_A; dsimp only
    refine (whole2 _ _ _ _ i q).trans ?_
    exact dul_is L.W (tap ((((E.cons _ _).cons _ _).cons _ _).cons _ _) _ (copy_is D).2.2.2.2 _) (tap ((((E.cons _ _).cons _ _).cons _ _).cons _ _) _ (copy_is D).2.2.2.2 _) (tap ((((E.cons _ _).cons _ _).cons _ _).cons _ _) _ (copy_is D).2.2.2.2 _) (middle (copy_is D).2.2.2.2 _) i q
  · intro i q; dsimp only; unfold out0_A_12 kernelRun0_A; dsimp only
    refine (whole2 _ _ _ _ i q).trans ?_
    exact dug_is L i q
  · intro k q; dsimp only; unfold out0_A_13 kernelRun0_A; dsimp only
    refine four_rows (e := .f32) _ _ _ _ _ _ _ _ _ _ q (x := fun k => (LruReal.dcw K q k : EReal)) ?_ ?_ ?_ ?_ k
    · exact dcw_is D (tap (((E.cons _ _).cons _ _).cons _ _) _ (copy_is L.U).2.2.2.1 _) q
    · exact dcw_is D (tap (((E.cons _ _).cons _ _).cons _ _) _ (copy_is L.U).2.2.2.1 _) q
    · exact dcw_is D (tap (((E.cons _ _).cons _ _).cons _ _) _ (copy_is L.U).2.2.2.1 _) q
    · exact dcw_is D (middle (copy_is L.U).2.2.2.1 _) q
  · intro q; dsimp only; unfold out0_A_14 kernelRun0_A; dsimp only
    refine (whole2 _ _ _ _ 0 q).trans ?_
    exact dcb_is D q
  · intro d q; dsimp only; unfold out0_A_15 kernelRun0_A; dsimp only
    refine (whole3 _ _ _ _ 0 d q).trans ?_
    exact dwa_is M d q
  · intro q; dsimp only; unfold out0_A_16 kernelRun0_A; dsimp only
    refine (whole3 _ _ _ _ 0 0 q).trans ?_
    exact dba_is M q
  · intro d q; dsimp only; unfold out0_A_17 kernelRun0_A; dsimp only
    refine (whole3 _ _ _ _ 0 d q).trans ?_
    exact dwx_is M d q
  · intro q; dsimp only; unfold out0_A_18 kernelRun0_A; dsimp only
    refine (whole3 _ _ _ _ 0 0 q).trans ?_
    exact dbx_is M q
  · intro q; dsimp only; unfold out0_A_19 kernelRun0_A; dsimp only
    refine (whole2 _ _ _ _ 0 q).trans ?_
    exact dlam_is M q
  · unfold sout0_A_0 sout0_A_1 sout0_A_2 sout0_A_3 sout0_A_4 kernelRun0_A
    dsimp only
    refine ⟨((((E.cons _ _).cons _ _).cons _ _).cons _ _ |>.cons _ _).ends, Pad.high ?_, Pad.high ?_, Pad.high ?_, Pad.high ?_⟩
    all_goals repeat (first
      | exact Pad.start ones _ _
      | exact Pad.start zeros _ _
      | refine Pad.cons ?_ _ _)

end Cert.LruBwdIdeal.Value

end
-- ==== Proof.LruBwdFinal.lean ====
/-
  The backward kernel's nine arrays: each head's results, in the places where the launch leaves them.
-/
module

public import proofs.«01_k».proof.Proof.LruBackKernel
public import proofs.«01_k».proof.Proof.LruBackCases

@[expose] public section

set_option maxRecDepth 65536

noncomputable section

open Idealize.ShloMosaic Idealize.ShloMosaic.TcCoe Idealize.SL.Sem
open Idealize.ShloMosaic.Pipeline (Dat)

namespace Cert.LruBwdIdeal.Value

open Cert.LruBwdIdeal Cert.LruBwdIdeal.Gen Cert.LruMath Cert.LruBackKer

variable (m : (ℓ : Loc nD τ sig) → Buf (Elt Ideal) ℓ) (c : Dev nD) {R : Fin 10 → LruReal.Head} (h : Given m c R)

section
include h

/-- Every point leaves its head's gradients. -/
theorem good : ∀ (n : ℕ) (hn : n < cfg0.N), Good (R ⟨n, hn⟩) (outsAt0 m c n hn)
  | 0, hn => by
    rw [outsAt0_zero m c hn]
    exact good_A m c ⟨0, hn⟩ (blocks m c h ⟨0, hn⟩) (Nat.zero_mod _) _
  | n + 1, hn => by
    have hN : n + 1 < 10 := hn
    have h0 : ¬(⟨n + 1, hn⟩ : Fin cfg0.N).val % 10 = 0 := by show ¬(n + 1) % 10 = 0; omega
    have hp := (good n (Nat.lt_of_succ_lt hn)).pads
    rw [outsAt0_succ m c n hn]
    exact good_B m c ⟨n + 1, hn⟩ (blocks m c h ⟨n + 1, hn⟩) h0 _ hp

end

theorem place11 (t : Fin 10) (i : Fin 2048) (q : Fin 128) : (ix2 i ⟨t.val * 128 + q.val, by omega⟩ : S2048x1280.Idx) = ((View.whole main_v104_0).slice (win0_11.rect t)).emb (ix2 i q) := by
  blk_ext [idx t]
include h in
theorem array11 (X : Buf (Elt Ideal) ((c.tc : Thread nD τ).loc main_v104_0))
    (hX : ∀ (t : Fin 10) (i : Fin 2048) (q : Fin 128), X (ix2 i ⟨t.val * 128 + q.val, by omega⟩) = ((LruReal.dul (R t) i q : ℝ) : EReal)) : (dats m 0 c).arrAt 11 cfg0.N = X := by
  refine (dats m 0 c).arrAt_eq_of_covers 11 _ (by decide +kernel) fun t _ y => ?_
  blk_simp
  rw [after0_11]
  idx_vars y
  exact ((good m c h t.val t.isLt).dul y0 y1).trans ((hX t y0 y1).symm.trans (congrArg X (place11 t y0 y1)))

theorem place12 (t : Fin 10) (i : Fin 2048) (q : Fin 128) : (ix2 i ⟨t.val * 128 + q.val, by omega⟩ : S2048x1280.Idx) = ((View.whole main_v104_1).slice (win0_12.rect t)).emb (ix2 i q) := by
  blk_ext [idx t]
include h in
theorem array12 (X : Buf (Elt Ideal) ((c.tc : Thread nD τ).loc main_v104_1))
    (hX : ∀ (t : Fin 10) (i : Fin 2048) (q : Fin 128), X (ix2 i ⟨t.val * 128 + q.val, by omega⟩) = ((LruReal.dug (R t) i q : ℝ) : EReal)) : (dats m 0 c).arrAt 12 cfg0.N = X := by
  refine (dats m 0 c).arrAt_eq_of_covers 12 _ (by decide +kernel) fun t _ y => ?_
  blk_simp
  rw [after0_12]
  idx_vars y
  exact ((good m c h t.val t.isLt).dug y0 y1).trans ((hX t y0 y1).symm.trans (congrArg X (place12 t y0 y1)))

theorem place13 (t : Fin 10) (k : Fin 4) (q : Fin 128) : (ix2 k ⟨t.val * 128 + q.val, by omega⟩ : S4x1280.Idx) = ((View.whole main_v104_2).slice (win0_13.rect t)).emb (ix2 k q) := by
  blk_ext [idx t]
include h in
theorem array13 (X : Buf (Elt Ideal) ((c.tc : Thread nD τ).loc main_v104_2))
    (hX : ∀ (t : Fin 10) (k : Fin 4) (q : Fin 128), X (ix2 k ⟨t.val * 128 + q.val, by omega⟩) = ((LruReal.dcw (R t) q k : ℝ) : EReal)) : (dats m 0 c).arrAt 13 cfg0.N = X := by
  refine (dats m 0 c).arrAt_eq_of_covers 13 _ (by decide +kernel) fun t _ y => ?_
  blk_simp
  rw [after0_13]
  idx_vars y
  exact ((good m c h t.val t.isLt).dcw y0 y1).trans ((hX t y0 y1).symm.trans (congrArg X (place13 t y0 y1)))

theorem place14 (t : Fin 10) (q : Fin 128) : (ix2 0 ⟨t.val * 128 + q.val, by omega⟩ : S1x1280.Idx) = ((View.whole main_v104_3).slice (win0_14.rect t)).emb (ix2 0 q) := by
  blk_ext [idx t]
include h in
theorem array14 (X : Buf (Elt Ideal) ((c.tc : Thread nD τ).loc main_v104_3))
    (hX : ∀ (t : Fin 10) (q : Fin 128), X (ix2 0 ⟨t.val * 128 + q.val, by omega⟩) = ((∑ i, LruReal.dv (R t) i q : ℝ) : EReal)) : (dats m 0 c).arrAt 14 cfg0.N = X := by
  refine (dats m 0 c).arrAt_eq_of_covers 14 _ (by decide +kernel) fun t _ y => ?_
  blk_simp
  rw [after0_14]
  idx_vars y
  obtain rfl : y0 = 0 := Subsingleton.elim _ _
  exact ((good m c h t.val t.isLt).dcb y1).trans ((hX t y1).symm.trans (congrArg X (place14 t y1)))

theorem place15 (t : Fin 10) (d q : Fin 128) : (ix3 t d q : S10x128x128.Idx) = ((View.whole main_v104_4).slice (win0_15.rect t)).emb (ix3 0 d q) := by
  blk_ext [idx t]
include h in
theorem array15 (X : Buf (Elt Ideal) ((c.tc : Thread nD τ).loc main_v104_4))
    (hX : ∀ (t : Fin 10) (d q : Fin 128), X (ix3 t d q) = ((∑ i, LruReal.conv (R t) i d * LruReal.dra (R t) i q : ℝ) : EReal)) : (dats m 0 c).arrAt 15 cfg0.N = X := by
  refine (dats m 0 c).arrAt_eq_of_covers 15 _ (by decide +kernel) fun t _ y => ?_
  blk_simp
  rw [after0_15]
  idx_vars y
  obtain rfl : y0 = 0 := Subsingleton.elim _ _
  exact ((good m c h t.val t.isLt).dwa y1 y2).trans ((hX t y1 y2).symm.trans (congrArg X (place15 t y1 y2)))

theorem place16 (t : Fin 10) (q : Fin 128) : (ix3 t 0 q : S10x1x128.Idx) = ((View.whole main_v104_5).slice (win0_16.rect t)).emb (ix3 0 0 q) := by
  blk_ext [idx t]
include h in
theorem array16 (X : Buf (Elt Ideal) ((c.tc : Thread nD τ).loc main_v104_5))
    (hX : ∀ (t : Fin 10) (q : Fin 128), X (ix3 t 0 q) = ((∑ i, LruReal.dra (R t) i q : ℝ) : EReal)) : (dats m 0 c).arrAt 16 cfg0.N = X := by
  refine (dats m 0 c).arrAt_eq_of_covers 16 _ (by decide +kernel) fun t _ y => ?_
  blk_simp
  rw [after0_16]
  idx_vars y
  obtain rfl : y0 = 0 := Subsingleton.elim _ _
  obtain rfl : y1 = 0 := Subsingleton.elim _ _
  exact ((good m c h t.val t.isLt).dba y2).trans ((hX t y2).symm.trans (congrArg X (place16 t y2)))

theorem place17 (t : Fin 10) (d q : Fin 128) : (ix3 t d q : S10x128x128.Idx) = ((View.whole main_v104_6).slice (win0_17.rect t)).emb (ix3 0 d q) := by
  blk_ext [idx t]
include h in
theorem array17 (X : Buf (Elt Ideal) ((c.tc : Thread nD τ).loc main_v104_6))
    (hX : ∀ (t : Fin 10) (d q : Fin 128), X (ix3 t d q) = ((∑ i, LruReal.conv (R t) i d * LruReal.dia (R t) i q : ℝ) : EReal)) : (dats m 0 c).arrAt 17 cfg0.N = X := by
  refine (dats m 0 c).arrAt_eq_of_covers 17 _ (by decide +kernel) fun t _ y => ?_
  blk_simp
  rw [after0_17]
  idx_vars y
  obtain rfl : y0 = 0 := Subsingleton.elim _ _
  exact ((good m c h t.val t.isLt).dwx y1 y2).trans ((hX t y1 y2).symm.trans (congrArg X (place17 t y1 y2)))

theorem place18 (t : Fin 10) (q : Fin 128) : (ix3 t 0 q : S10x1x128.Idx) = ((View.whole main_v104_7).slice (win0_18.rect t)).emb (ix3 0 0 q) := by
  blk_ext [idx t]
include h in
theorem array18 (X : Buf (Elt Ideal) ((c.tc : Thread nD τ).loc main_v104_7))
    (hX : ∀ (t : Fin 10) (q : Fin 128), X (ix3 t 0 q) = ((∑ i, LruReal.dia (R t) i q : ℝ) : EReal)) : (dats m 0 c).arrAt 18 cfg0.N = X := by
  refine (dats m 0 c).arrAt_eq_of_covers 18 _ (by decide +kernel) fun t _ y => ?_
  blk_simp
  rw [after0_18]
  idx_vars y
  obtain rfl : y0 = 0 := Subsingleton.elim _ _
  obtain rfl : y1 = 0 := Subsingleton.elim _ _
  exact ((good m c h t.val t.isLt).dbx y2).trans ((hX t y2).symm.trans (congrArg X (place18 t y2)))

theorem place19 (t : Fin 10) (q : Fin 128) : (ix2 0 ⟨t.val * 128 + q.val, by omega⟩ : S1x1280.Idx) = ((View.whole main_v104_8).slice (win0_19.rect t)).emb (ix2 0 q) := by
  blk_ext [idx t]
include h in
theorem array19 (X : Buf (Elt Ideal) ((c.tc : Thread nD τ).loc main_v104_8))
    (hX : ∀ (t : Fin 10) (q : Fin 128), X (ix2 0 ⟨t.val * 128 + q.val, by omega⟩) = ((LruReal.dlam (R t) q : ℝ) : EReal)) : (dats m 0 c).arrAt 19 cfg0.N = X := by
  refine (dats m 0 c).arrAt_eq_of_covers 19 _ (by decide +kernel) fun t _ y => ?_
  blk_simp
  rw [after0_19]
  idx_vars y
  obtain rfl : y0 = 0 := Subsingleton.elim _ _
  exact ((good m c h t.val t.isLt).dlam y1).trans ((hX t y1).symm.trans (congrArg X (place19 t y1)))

end Cert.LruBwdIdeal.Value

end
-- ==== Proof.LruBackGrad.lean ====
/-
  The recurrent branch's gradient in the reference: the adjoint state and what it gives.
-/
module

public import proofs.«01_k».proof.Proof.LruReal
public import proofs.«01_k».proof.Proof.LruBackRef
public import proofs.«01_k».proof.Proof.Gen.LruBwdRefIdeal.Read
public import Idealize.ShloMosaic.Lib.WordCmp
public import Idealize.ShloMosaic.Lib.Pointwise

@[expose] public section

set_option maxRecDepth 16384
set_option backward.proofsInPublic true

noncomputable section

open Idealize.ShloMosaic Idealize.ShloMosaic.TcCoe Idealize.SL.Sem

namespace Cert.LruBwdRefIdeal.Value

open Idealize.ShloMosaic.WordCmp Cert.LruBwdRefIdeal Cert.LruBwdRefIdeal.Gen Cert.LruBwdRefIdeal.Read Cert.LruReal Cert.LruBack

variable {x0 : (⟨S1x2048x5120, .f32⟩ : BufTy).Contents (Elt Ideal)} {x1 : (⟨S4x1280, .f32⟩ : BufTy).Contents (Elt Ideal)}
  {x2 : (⟨S1280, .f32⟩ : BufTy).Contents (Elt Ideal)} {x3 : (⟨S10x128x128, .f32⟩ : BufTy).Contents (Elt Ideal)}
  {x4 : (⟨S10x128, .f32⟩ : BufTy).Contents (Elt Ideal)} {x5 : (⟨S10x128x128, .f32⟩ : BufTy).Contents (Elt Ideal)}
  {x6 : (⟨S10x128, .f32⟩ : BufTy).Contents (Elt Ideal)} {x7 : (⟨S1280, .f32⟩ : BufTy).Contents (Elt Ideal)}
  {x8 : (⟨S1x2048x1280, .f32⟩ : BufTy).Contents (Elt Ideal)} {R : Fin 10 → Head}

variable (h : Args x0 x1 x2 x3 x4 x5 x6 x7 x8 R) (t : Fin 10) (i : Fin 2048) (q : Fin 128)
include h

omit h in
/-- Sums over two unit axes. -/
theorem unit_ab (hr : S1x1x2048x10x128.ReducesTo [0, 1] S2048x10x128) (v : S1x1x2048x10x128.Idx → EReal) :
    Ideal.hostReduceAdd hr v 0 (ix3 i t q) = v (ix5 0 0 i t q) := by
  refine (sum_fibre hr v _ (fun _ : Fin 1 => ix5 0 0 i t q) (fun _ _ _ => Subsingleton.elim _ _) fun j => ?_).trans (Fin.sum_univ_one _)
  idx_vars j
  have h0 := j0.isLt
  have h1 := j1.isLt
  constructor
  · intro e
    refine ⟨0, ?_⟩
    have e0 := congrFun e 0
    have e1 := congrFun e 1
    have e2 := congrFun e 2
    ext a
    match a with
    | 0 => exact (Nat.lt_one_iff.mp h0).symm
    | 1 => exact (Nat.lt_one_iff.mp h1).symm
    | 2 => exact (congrArg Fin.val e0).symm
    | 3 => exact (congrArg Fin.val e1).symm
    | 4 => exact (congrArg Fin.val e2).symm
  · rintro ⟨_, e⟩
    rw [← e]
    funext b
    match b with
    | 0 => rfl
    | 1 => rfl
    | 2 => rfl

omit h in
theorem unit_ac (hr : S1x2048x1x10x128.ReducesTo [0, 2] S2048x10x128) (v : S1x2048x1x10x128.Idx → EReal) :
    Ideal.hostReduceAdd hr v 0 (ix3 i t q) = v (ix5 0 i 0 t q) := by
  refine (sum_fibre hr v _ (fun _ : Fin 1 => ix5 0 i 0 t q) (fun _ _ _ => Subsingleton.elim _ _) fun j => ?_).trans (Fin.sum_univ_one _)
  idx_vars j
  have h0 := j0.isLt
  have h2 := j2.isLt
  constructor
  · intro e
    refine ⟨0, ?_⟩
    have e0 := congrFun e 0
    have e1 := congrFun e 1
    have e2 := congrFun e 2
    ext a
    match a with
    | 0 => exact (Nat.lt_one_iff.mp h0).symm
    | 1 => exact (congrArg Fin.val e0).symm
    | 2 => exact (Nat.lt_one_iff.mp h2).symm
    | 3 => exact (congrArg Fin.val e1).symm
    | 4 => exact (congrArg Fin.val e2).symm
  · rintro ⟨_, e⟩
    rw [← e]
    funext b
    match b with
    | 0 => rfl
    | 1 => rfl
    | 2 => rfl

omit h in
/-- The sum over the rows of a table of two rows' places. -/
theorem rows_ab (hr : S1x2048x2048x10x128.ReducesTo [0, 1] S2048x10x128) (v : S1x2048x2048x10x128.Idx → EReal) :
    Ideal.hostReduceAdd hr v 0 (ix3 i t q) = ∑ p : Fin 2048, v (ix5 0 p i t q) := by
  refine sum_fibre hr v _ (fun p : Fin 2048 => ix5 0 p i t q) (fun p p' e => congrFun e 1) fun j => ?_
  idx_vars j
  have h0 := j0.isLt
  constructor
  · intro e
    refine ⟨j1, ?_⟩
    have e0 := congrFun e 0
    have e1 := congrFun e 1
    have e2 := congrFun e 2
    ext a
    match a with
    | 0 => exact (Nat.lt_one_iff.mp h0).symm
    | 1 => rfl
    | 2 => exact (congrArg Fin.val e0).symm
    | 3 => exact (congrArg Fin.val e1).symm
    | 4 => exact (congrArg Fin.val e2).symm
  · rintro ⟨_, e⟩
    rw [← e]
    funext b
    match b with
    | 0 => rfl
    | 1 => rfl
    | 2 => rfl

omit h in
theorem unit_heads (hr : S1x1x10x128.ReducesTo [0, 1] S10x128) (v : S1x1x10x128.Idx → EReal) :
    Ideal.hostReduceAdd hr v 0 (ix2 t q) = v (ix4 0 0 t q) := by
  refine (sum_fibre hr v _ (fun _ : Fin 1 => ix4 0 0 t q) (fun _ _ _ => Subsingleton.elim _ _) fun j => ?_).trans (Fin.sum_univ_one _)
  idx_vars j
  have h0 := j0.isLt
  have h1 := j1.isLt
  constructor
  · intro e
    refine ⟨0, ?_⟩
    have e0 := congrFun e 0
    have e1 := congrFun e 1
    ext a
    match a with
    | 0 => exact (Nat.lt_one_iff.mp h0).symm
    | 1 => exact (Nat.lt_one_iff.mp h1).symm
    | 2 => exact (congrArg Fin.val e0).symm
    | 3 => exact (congrArg Fin.val e1).symm
  · rintro ⟨_, e⟩
    rw [← e]
    funext b
    match b with
    | 0 => rfl
    | 1 => rfl

omit h in
theorem unit_cols (hr : S1x1x1280.ReducesTo [0, 1] S1280) (v : S1x1x1280.Idx → EReal) (k : Fin 1280) :
    Ideal.hostReduceAdd hr v 0 (ix1 k) = v (ix3 0 0 k) := by
  refine (sum_fibre hr v _ (fun _ : Fin 1 => ix3 0 0 k) (fun _ _ _ => Subsingleton.elim _ _) fun j => ?_).trans (Fin.sum_univ_one _)
  idx_vars j
  have h0 := j0.isLt
  have h1 := j1.isLt
  constructor
  · intro e
    refine ⟨0, ?_⟩
    have e0 := congrFun e 0
    ext a
    match a with
    | 0 => exact (Nat.lt_one_iff.mp h0).symm
    | 1 => exact (Nat.lt_one_iff.mp h1).symm
    | 2 => exact (congrArg Fin.val e0).symm
  · rintro ⟨_, e⟩
    rw [← e]
    funext b
    match b with
    | 0 => rfl

theorem v147_at : val_main_v147 (F := Ideal) x0 x8 (ix4 0 i t q) = ((up (R t) i q : ℝ) : EReal) := by
  pointwise [val_main_v147, v132_at h]

/-- The adjoint state. -/
theorem v150_at : val_main_v150 (F := Ideal) x0 x1 x2 x3 x4 x7 x8 (ix4 0 i t q) = ((ad (R t) i q : ℝ) : EReal) := by
  pointwise [val_main_v150, val_main_v149, val_main_v148, val_main_cst_27, v101_at h, v147_at h]
  simp only [← EReal.coe_mul, ← coe_sum]
  rfl

theorem v155_at : val_main_v155 (F := Ideal) x0 x1 x2 x3 x4 x7 x8 (ix4 0 i t q) = ((ad (R t) i q : ℝ) : EReal) := by
  pointwise [val_main_v155, val_main_v154, val_main_cst_28]
  refine (unit_ab _ _ _ _ _).trans ?_
  pointwise [val_main_v151, v150_at h]

/-- What a pair of rows gives. -/
theorem v157_at (s : Fin 2048) : val_main_v157 (F := Ideal) x0 x1 x2 x3 x4 x5 x6 x7 x8 (ix5 0 i s t q)
    = ((up (R t) i q * addend (R t) s q * dec (fun s => la (R t) s q) i s : ℝ) : EReal) := by
  pointwise [val_main_v157, val_main_v156, val_main_v153, val_main_v152, val_main_v148, val_main_v102, val_main_v101_1, val_main_v91, val_main_call3_v0, val_main_call3_cst, v90_at, v100_at h, v147_at h, v83_at h]
  simp only [← EReal.coe_mul]
  refine (sel_at i s _ 0).trans (congrArg _ ?_)
  unfold dec
  split
  · rfl
  · rw [mul_zero]

theorem v167_at : val_main_v167 (F := Ideal) x0 x1 x2 x3 x4 x5 x6 x7 x8 (ix4 0 i t q)
    = (((∑ s, up (R t) i q * addend (R t) s q * dec (fun s => la (R t) s q) i s) - ∑ u, up (R t) u q * addend (R t) i q * dec (fun s => la (R t) s q) u i : ℝ) : EReal) := by
  have e1 : val_main_v164 (F := Ideal) x0 x1 x2 x3 x4 x5 x6 x7 x8 (ix4 0 i t q) = ((-∑ u, up (R t) u q * addend (R t) i q * dec (fun s => la (R t) s q) u i : ℝ) : EReal) := by
    pointwise [val_main_v164, val_main_v163, val_main_cst_31]
    refine (unit_ab _ _ _ _ _).trans ?_
    pointwise [val_main_v162, val_main_v161, val_main_v160, val_main_cst_30, v157_at h]
    simp only [← EReal.coe_neg, ← coe_sum]
    rw [Finset.sum_neg_distrib]
  have e2 : val_main_v166 (F := Ideal) x0 x1 x2 x3 x4 x5 x6 x7 x8 (ix4 0 i t q) = ((∑ s, up (R t) i q * addend (R t) s q * dec (fun s => la (R t) s q) i s : ℝ) : EReal) := by
    pointwise [val_main_v166, val_main_v165, val_main_cst_32]
    refine (unit_ac _ _ _ _ _).trans ?_
    pointwise [val_main_v159, val_main_v158, val_main_cst_29, v157_at h]
    rw [coe_sum]
  pointwise [val_main_v167, e1, e2]
  rw [← EReal.coe_add]
  exact congrArg _ (by ring)

/-- The coefficients' part of the gradient of their logarithms. -/
theorem v171_at : val_main_v171 (F := Ideal) x0 x1 x2 x3 x4 x5 x6 x7 x8 (ix4 0 i t q)
    = ((ad (R t) i q * before (R t) i q * Real.exp (la (R t) i q) : ℝ) : EReal) := by
  pointwise [val_main_v171, val_main_v170, val_main_cst_33]
  refine (unit_ab _ _ _ _ _).trans ?_
  pointwise [val_main_v169, val_main_call4_v2, val_main_call4_cst_0]
  refine (rows_ab _ _ _ _ _).trans ?_
  rw [ad, before, ← dlog (fun s => la (R t) s q) (fun s => up (R t) s q) (fun s => addend (R t) s q) i, coe_sum]
  refine Finset.sum_congr rfl fun p _ => ?_
  pointwise [val_main_call4_v1, val_main_call4_v0, val_main_call4_cst, val_main_v93_1, val_main_v91, val_main_v168, v90_at, v167_at h]
  exact sel_at p i _ 0

theorem v172_at : val_main_v172 (F := Ideal) x0 x1 x2 x3 x4 x7 x8 (ix4 0 i t q) = ((ad (R t) i q * mu (R t) i q : ℝ) : EReal) := by
  pointwise [val_main_v172, v79_at h, v155_at h]
  rw [mul_comm, EReal.coe_mul]

/-- The gradient of a coefficient's logarithm. -/
theorem v181_at : val_main_v181 (F := Ideal) x0 x1 x2 x3 x4 x5 x6 x7 x8 (ix4 0 i t q) = ((dla (R t) i q : ℝ) : EReal) := by
  pointwise [val_main_v181, val_main_v180, val_main_v179, val_main_cst_34, val_main_v178, val_main_v177, val_main_v176, val_main_v173, v171_at h, v155_at h, v82_at h, v81_at h, v77_at h]
  rw [two]
  simp only [← EReal.coe_mul, ← EReal.coe_neg, ← EReal.coe_add]
  rw [dla, show 2 * la (R t) i q = la (R t) i q + la (R t) i q by ring, Real.exp_add]
  exact congrArg _ (by ring)

theorem v193_at : val_main_v193 (F := Ideal) x0 x1 x2 x3 x4 x5 x6 x7 x8 (ix4 0 i t q) = ((dia (R t) i q : ℝ) : EReal) := by
  pointwise [val_main_v193, val_main_v175, v172_at h, v37_at h, v65_at h]
  rw [← EReal.coe_mul, ← EReal.coe_mul]
  rfl

theorem v203_at : val_main_v203 (F := Ideal) x0 x1 x2 x3 x4 x5 x6 x7 x8 (ix4 0 i t q) = ((dra (R t) i q : ℝ) : EReal) := by
  pointwise [val_main_v203, val_main_v192, val_main_v191, val_main_cst_37, val_main_v186, val_main_v185, val_main_v71, val_main_v70, v181_at h, v69_at h, v51_at h]
  rw [meight]
  simp only [← EReal.coe_mul]
  rw [dra]
  exact congrArg _ (by ring)

/-- The gradient of the convolution's result. -/
theorem v210_at : val_main_v210 (F := Ideal) x0 x1 x2 x3 x4 x5 x6 x7 x8 (ix4 0 i t q) = ((dv (R t) i q : ℝ) : EReal) := by
  pointwise [val_main_v210, val_main_v209, val_main_v208, val_main_v207, val_main_v200, val_main_v199, val_main_v198, val_main_v197, val_main_v174, v203_at h, v193_at h, v172_at h, v62_at h]
  simp only [h.wa, h.wx, ← EReal.coe_mul, ← coe_sum, ← EReal.coe_add]
  rw [dv]
  exact congrArg _ (by ring)

theorem v213_at : val_main_v213 (F := Ideal) x0 x1 x2 x3 x4 x5 x6 x7 x8 (ix3 0 i ⟨t.val * 128 + q.val, by omega⟩) = ((dv (R t) i q : ℝ) : EReal) := by
  pointwise [val_main_v213, v210_at h]

/-! The results. -/

theorem dlam_at : val_main_v268 (F := Ideal) x0 x1 x2 x3 x4 x5 x6 x7 x8 (ix2 0 ⟨t.val * 128 + q.val, by omega⟩) = ((dlam (R t) q : ℝ) : EReal) := by
  have e : val_main_v187 (F := Ideal) x0 x1 x2 x3 x4 x5 x6 x7 x8 (ix2 t q) = ((∑ s, -8 * ra (R t) s q * dla (R t) s q : ℝ) : EReal) := by
    pointwise [val_main_v187, val_main_cst_36]
    refine (unit_heads _ _ _ _).trans ?_
    pointwise [val_main_v184, val_main_v183, val_main_cst_35, val_main_v182, v67_at h, v181_at h]
    simp only [← EReal.coe_mul, ← coe_sum]
  pointwise [val_main_v268, val_main_v190, val_main_v189, val_main_v188, v69_1_at h, e]
  rw [← EReal.coe_mul, ← EReal.coe_neg, dlam, show (∑ s, -8 * ra (R t) s q * dla (R t) s q) = -8 * ∑ s, dla (R t) s q * ra (R t) s q by
    rw [Finset.mul_sum]; exact Finset.sum_congr rfl fun s _ => by ring]
  exact congrArg _ (by ring)

theorem dbx_at : val_main_v267 (F := Ideal) x0 x1 x2 x3 x4 x5 x6 x7 x8 (ix3 t 0 q) = ((∑ s, dia (R t) s q : ℝ) : EReal) := by
  pointwise [val_main_v267, val_main_v196, val_main_cst_39]
  refine (unit_heads _ _ _ _).trans ?_
  pointwise [val_main_v195, val_main_v194, val_main_cst_38, v193_at h]
  rw [coe_sum]

theorem dba_at : val_main_v266 (F := Ideal) x0 x1 x2 x3 x4 x5 x6 x7 x8 (ix3 t 0 q) = ((∑ s, dra (R t) s q : ℝ) : EReal) := by
  pointwise [val_main_v266, val_main_v206, val_main_cst_41]
  refine (unit_heads _ _ _ _).trans ?_
  pointwise [val_main_v205, val_main_v204, val_main_cst_40, v203_at h]
  rw [coe_sum]

theorem dwx_at (d : Fin 128) : val_main_v202 (F := Ideal) x0 x1 x2 x3 x4 x5 x6 x7 x8 (ix3 t d q) = ((∑ s, conv (R t) s d * dia (R t) s q : ℝ) : EReal) := by
  pointwise [val_main_v202, val_main_v201, val_main_v197, v193_at h, v37_at h]
  rw [Fin.sum_univ_one, coe_sum]
  refine Finset.sum_congr rfl fun s _ => ?_
  rw [mul_comm, EReal.coe_mul]
  exact congrArg (· * _) (v37_at h t s d)

theorem dwa_at (d : Fin 128) : val_main_v212 (F := Ideal) x0 x1 x2 x3 x4 x5 x6 x7 x8 (ix3 t d q) = ((∑ s, conv (R t) s d * dra (R t) s q : ℝ) : EReal) := by
  pointwise [val_main_v212, val_main_v211, val_main_v207, v203_at h, v37_at h]
  rw [Fin.sum_univ_one, coe_sum]
  refine Finset.sum_congr rfl fun s _ => ?_
  rw [mul_comm, EReal.coe_mul]
  exact congrArg (· * _) (v37_at h t s d)

theorem dcb_at : val_main_v265 (F := Ideal) x0 x1 x2 x3 x4 x5 x6 x7 x8 (ix2 0 ⟨t.val * 128 + q.val, by omega⟩) = ((∑ s, dv (R t) s q : ℝ) : EReal) := by
  pointwise [val_main_v265, val_main_v216, val_main_cst_43]
  refine (unit_cols _ _ _).trans ?_
  pointwise [val_main_v215, val_main_v214, val_main_cst_42, v213_at h]
  rw [coe_sum]

theorem dug_at : val_main_v264 (F := Ideal) x0 x1 x2 x3 x4 x5 x6 x7 x8 (ix2 i ⟨t.val * 128 + q.val, by omega⟩) = ((dug (R t) i q : ℝ) : EReal) := by
  pointwise [val_main_v264, val_main_v263, v146_at h]

/-- The sums the taps' gradients are. -/
theorem tap3 : val_main_v222 (F := Ideal) x0 x1 x2 x3 x4 x5 x6 x7 x8 (ix1 ⟨t.val * 128 + q.val, by omega⟩) = ((dcw (R t) q 3 : ℝ) : EReal) := by
  pointwise [val_main_v222, val_main_cst_45]
  refine (unit_cols _ _ _).trans ?_
  pointwise [val_main_v219, val_main_v218, val_main_cst_44, val_main_v217, val_main_v27, v213_at h, v3_at h]
  simp only [← EReal.coe_mul, ← coe_sum]
  exact congrArg _ (Finset.sum_congr rfl fun s _ => by rw [mul_comm, ← Nat.add_assoc]; rfl)

theorem tap2 : val_main_v231 (F := Ideal) x0 x1 x2 x3 x4 x5 x6 x7 x8 (ix1 ⟨t.val * 128 + q.val, by omega⟩) = ((dcw (R t) q 2 : ℝ) : EReal) := by
  pointwise [val_main_v231, val_main_cst_49]
  refine (unit_cols _ _ _).trans ?_
  pointwise [val_main_v228, val_main_v227, val_main_cst_48, val_main_v226, val_main_v20, v213_at h, v3_at h]
  simp only [← EReal.coe_mul, ← coe_sum]
  exact congrArg _ (Finset.sum_congr rfl fun s _ => by rw [mul_comm, ← Nat.add_assoc]; rfl)

theorem tap1 : val_main_v242 (F := Ideal) x0 x1 x2 x3 x4 x5 x6 x7 x8 (ix1 ⟨t.val * 128 + q.val, by omega⟩) = ((dcw (R t) q 1 : ℝ) : EReal) := by
  pointwise [val_main_v242, val_main_cst_53]
  refine (unit_cols _ _ _).trans ?_
  pointwise [val_main_v239, val_main_v238, val_main_cst_52, val_main_v237, val_main_v13, v213_at h, v3_at h]
  simp only [← EReal.coe_mul, ← coe_sum]
  exact congrArg _ (Finset.sum_congr rfl fun s _ => by rw [mul_comm, ← Nat.add_assoc]; rfl)

theorem tap0 : val_main_v253 (F := Ideal) x0 x1 x2 x3 x4 x5 x6 x7 x8 (ix1 ⟨t.val * 128 + q.val, by omega⟩) = ((dcw (R t) q 0 : ℝ) : EReal) := by
  pointwise [val_main_v253, val_main_cst_57]
  refine (unit_cols _ _ _).trans ?_
  pointwise [val_main_v250, val_main_v249, val_main_cst_56, val_main_v248, val_main_v5, v213_at h, v3_at h]
  simp only [← EReal.coe_mul, ← coe_sum]
  exact congrArg _ (Finset.sum_congr rfl fun s _ => by rw [mul_comm]; rfl)

theorem dcw_at (k : Fin 4) : val_main_v256 (F := Ideal) x0 x1 x2 x3 x4 x5 x6 x7 x8 (ix2 k ⟨t.val * 128 + q.val, by omega⟩) = ((dcw (R t) q k : ℝ) : EReal) := by
  have hc : t.val * 128 + q.val < 1280 := by omega
  pointwise [val_main_v256, val_main_v245, val_main_v234, val_main_v224, val_main_v233, val_main_v244, val_main_v255, val_main_v223, val_main_v232, val_main_v243, val_main_v254, val_main_cst_46, val_main_cst_50, val_main_cst_54, val_main_cst_58,
    tap3 h, tap2 h, tap1 h, tap0 h]
  simp only [hc, and_true]
  match k with
  | 0 => simp
  | 1 => simp
  | 2 => simp
  | 3 => simp

omit h in
theorem tap_if (f : Fin 2048 → Fin 128 → ℝ) (w : ℝ) (n : ℕ) (p : Prop) [Decidable p] (hp : p ↔ n < 2048) :
    (if h : p then (f ⟨n, hp.mp h⟩ q : EReal) * (w : EReal) else 0) = ((LruReal.pad f (8 + n) q * w : ℝ) : EReal) := by
  unfold LruReal.pad
  by_cases e : p
  · have hn := hp.mp e
    rw [dif_pos e, dif_pos ⟨by omega, by omega⟩, EReal.coe_mul]
    exact congrArg (fun a => ((f a q : ℝ) : EReal) * (w : EReal)) (Fin.ext (by show n = 8 + n - 8; omega))
  · have hn : ¬n < 2048 := fun c => e (hp.mpr c)
    rw [dif_neg e, dif_neg (by omega), zero_mul, EReal.coe_zero]

theorem dul_at : val_main_v262 (F := Ideal) x0 x1 x2 x3 x4 x5 x6 x7 x8 (ix2 i ⟨t.val * 128 + q.val, by omega⟩) = ((dul (R t) i q : ℝ) : EReal) := by
  have hc : t.val * 128 + q.val < 1280 := by omega
  pointwise [val_main_v262, val_main_v261, val_main_v260, val_main_v258, val_main_v257, val_main_v252, val_main_v251, val_main_v247, val_main_v246, val_main_v241, val_main_v240,
    val_main_v236, val_main_v235, val_main_v230, val_main_v229, val_main_v225, val_main_v221, val_main_v220, val_main_cst_59, val_main_cst_55, val_main_cst_51, val_main_cst_47,
    val_main_v30, val_main_v29, val_main_v28, val_main_v23, val_main_v22, val_main_v21, val_main_v16, val_main_v15, val_main_v14, val_main_v8, val_main_v7, val_main_v6, v213_at h]
  simp only [h.W]
  refine (congrArg₂ (· + ·) (congrArg₂ (· + ·) (congrArg₂ (· + ·) (tap_if q (dv (R t)) _ i.val _ ⟨fun _ => i.isLt, fun _ => hc⟩)
    (tap_if q (dv (R t)) _ (3 + i.val - 2) _ ⟨fun c => c.1.2, fun c => ⟨⟨by omega, c⟩, hc⟩⟩)) (tap_if q (dv (R t)) _ (3 + i.val - 1) _ ⟨fun c => c.1.2, fun c => ⟨⟨by omega, c⟩, hc⟩⟩))
    (tap_if q (dv (R t)) _ (3 + i.val) _ ⟨fun c => c.1, fun c => ⟨c, hc⟩⟩)).trans ?_
  rw [show 8 + (3 + i.val - 2) = 9 + i.val by omega, show 8 + (3 + i.val - 1) = 10 + i.val by omega, show 8 + (3 + i.val) = 11 + i.val by omega]
  simp only [← EReal.coe_add]
  rw [dul]
  exact congrArg _ (by ring)

end Cert.LruBwdRefIdeal.Value

end
-- ==== Proof.LruBwdPair.lean ====
/-
  The recurrent branch's gradient: the frames of the call, of its ideal program and of its reference, and the equality of the
  kernel's nine results with the derivative where every argument is finite.
-/
module

public import proofs.«01_k».proof.Defs
public import proofs.«01_k».proof.Proof.Gen.LruBwd.Frame
public import proofs.«01_k».proof.Proof.LruBwdFinal
public import proofs.«01_k».proof.Proof.LruBackGrad
public import proofs.«01_k».proof.Proof.Fin
public import proofs.«01_k».proof.Proof.Gen.Pre_lru_bwd_finite
public import Idealize.ShloMosaic.Lib.Claim

@[expose] public section

set_option maxRecDepth 65536

noncomputable section

open Idealize.ShloMosaic Idealize.ShloMosaic.TcCoe Idealize.SL.Sem
open Idealize.ShloMosaic.Pipeline (Dat)

namespace Cert.Proof

theorem facts_lru_bwd_finite : Cert.Pre_lru_bwd_finite.Facts := Cert.Pre_lru_bwd_finite.Gen.facts

/-- The call leaves its nine arguments as they were and every counter at zero. -/
theorem frame_LruBwd : Cert.quiescent_LruBwd := fun m ρ _ => Cert.LruBwd.Gen.frame m ρ
/-- The same of the ideal program. -/
theorem frame_LruBwdIdeal : Cert.quiescent_LruBwdIdeal := fun m ρ _ => Cert.LruBwdIdeal.Gen.frame m ρ
theorem frame_LruBwdIdeal_pre : Cert.quiescent_LruBwdIdeal_pre_lru_bwd_finite := fun m ρ _ => Cert.LruBwdIdeal.Gen.frame m ρ
/-- The reference leaves its arguments as they were: the end of its run's statement. -/
theorem frame_LruBwdRefIdeal : Cert.quiescent_LruBwdRefIdeal := fun m ρ _ =>
  (θ_run Cert.LruBwdRefIdeal.defs _ _).mono (fun r h => ⟨fun c => (h c).2.2.2.2.2.2.2.2.2,
      Idealize.ShloMosaic.sem_eq_zero_of_no_sems (by decide) r.2⟩)
    (Cert.LruBwdRefIdeal.Value.run m ρ)
theorem frame_LruBwdRefIdeal_pre : Cert.quiescent_LruBwdRefIdeal_pre_lru_bwd_finite := fun m ρ _ => frame_LruBwdRefIdeal m ρ trivial

/-- The two constants of the gate's polynomial are named by the decimals that the program writes. -/
theorem preserves_LruBwd : Cert.preserves_LruBwd_LruBwdIdeal :=
  ⟨IdealRules.named_const.statement Cert.LruBwdIdeal.κ "gelu_cubic" .f32 0x3D372713#32 ((8943 / 200000 : ℝ) : EReal) rfl,
    IdealRules.named_const.statement Cert.LruBwdIdeal.κ "gelu_cubic_slope" .f32 0x3E095D4F#32 ((26829 / 200000 : ℝ) : EReal) rfl⟩

section finite

/-- A number that is some real number is the real number read off it. -/
theorem read_off {x : EReal} (h : ∃ r : ℝ, x = r) : x = ((x.toReal : ℝ) : EReal) := by
  obtain ⟨r, rfl⟩ := h
  rfl

open Cert.Pre_lru_bwd_finite

variable (x0 : FVec Ideal S1x2048x5120 .f32) (x1 : FVec Ideal S4x1280 .f32) (x2 : FVec Ideal S1280 .f32) (x3 : FVec Ideal S10x128x128 .f32)
  (x4 : FVec Ideal S10x128 .f32) (x5 : FVec Ideal S10x128x128 .f32) (x6 : FVec Ideal S10x128 .f32) (x7 : FVec Ideal S1280 .f32) (x8 : FVec Ideal S1x2048x1280 .f32)

/-- The heads' numbers, read off the arguments. -/
def headsOf (t : Fin 10) : LruReal.Head where
  U := fun i q => EReal.toReal (x0 (ix3 0 i ⟨512 + (t.val * 128 + q.val), by omega⟩))
  G := fun i q => EReal.toReal (x0 (ix3 0 i ⟨1792 + (t.val * 128 + q.val), by omega⟩))
  W := fun k q => EReal.toReal (x1 (ix2 k ⟨t.val * 128 + q.val, by omega⟩))
  cb := fun q => EReal.toReal (x2 (ix1 ⟨t.val * 128 + q.val, by omega⟩))
  wa := fun d q => EReal.toReal (x3 (ix3 t d q))
  ba := fun q => EReal.toReal (x4 (ix2 t q))
  wx := fun d q => EReal.toReal (x5 (ix3 t d q))
  bx := fun q => EReal.toReal (x6 (ix2 t q))
  lam := fun q => EReal.toReal (x7 (ix1 ⟨t.val * 128 + q.val, by omega⟩))
  ct := fun i q => EReal.toReal (x8 (ix3 0 i ⟨t.val * 128 + q.val, by omega⟩))

/-- The precondition's nine statements. -/
abbrev AllFinite : Prop :=
  let y := fn (F := Ideal) x0 x1 x2 x3 x4 x5 x6 x7 x8
  y.1 = (fun _ => 1#1) ∧ y.2.1 = (fun _ => 1#1) ∧ y.2.2.1 = (fun _ => 1#1) ∧ y.2.2.2.1 = (fun _ => 1#1) ∧ y.2.2.2.2.1 = (fun _ => 1#1) ∧
    y.2.2.2.2.2.1 = (fun _ => 1#1) ∧ y.2.2.2.2.2.2.1 = (fun _ => 1#1) ∧ y.2.2.2.2.2.2.2.1 = (fun _ => 1#1) ∧ y.2.2.2.2.2.2.2.2 = (fun _ => 1#1)

/-- Under the precondition the arguments are those numbers. -/
theorem heads_of (h : AllFinite x0 x1 x2 x3 x4 x5 x6 x7 x8) : Cert.LruBwdRefIdeal.Value.Args x0 x1 x2 x3 x4 x5 x6 x7 x8 (headsOf x0 x1 x2 x3 x4 x5 x6 x7 x8) := by
  obtain ⟨h0, h1, h2, h3, h4, h5, h6, h7, h8⟩ := h
  have cut : ∀ (i : Fin 2048) (f : Fin 2560), ∃ r : ℝ, x0 (ix3 0 i ⟨512 + f.val, by omega⟩) = r := fun i f => by
    obtain ⟨r, hr⟩ := Cert.Finite.real_of_all _ _ (fun _ => rfl) h0 (ix3 0 i f)
    refine ⟨r, Eq.trans ?_ hr⟩
    pointwise []
  refine ⟨fun t i q => read_off (cut i ⟨t.val * 128 + q.val, by omega⟩), fun t i q => read_off ?_,
    fun k t q => read_off (Cert.Finite.real_of_all _ _ (fun _ => rfl) h1 _), fun t q => read_off (Cert.Finite.real_of_all _ _ (fun _ => rfl) h2 _),
    fun t d q => read_off (Cert.Finite.real_of_all _ _ (fun _ => rfl) h3 _), fun t q => read_off (Cert.Finite.real_of_all _ _ (fun _ => rfl) h4 _),
    fun t d q => read_off (Cert.Finite.real_of_all _ _ (fun _ => rfl) h5 _), fun t q => read_off (Cert.Finite.real_of_all _ _ (fun _ => rfl) h6 _),
    fun t q => read_off (Cert.Finite.real_of_all _ _ (fun _ => rfl) h7 _), fun t i q => read_off (Cert.Finite.real_of_all _ _ (fun _ => rfl) h8 _)⟩
  obtain ⟨r, hr⟩ := cut i ⟨1280 + (t.val * 128 + q.val), by omega⟩
  exact ⟨r, (congrArg (fun f => x0 (ix3 0 i f)) (Fin.ext (by show 1792 + (t.val * 128 + q.val) = 512 + (1280 + (t.val * 128 + q.val)); omega))).trans hr⟩

end finite

open Cert.LruBwdIdeal.Value Cert.LruBwdRefIdeal.Read Cert.LruBwdRefIdeal.Value in
set_option maxHeartbeats 4000000 in
/-- The recurrent branch's gradient: at both column groups, at the convolution, at the gates' weights and biases, and at the decay. -/
theorem algebraic_LruBwd : Cert.algebraic_LruBwdIdeal_LruBwdRefIdeal_pre_lru_bwd_finite := by
  pair_intro
  · run_from Cert.LruBwdIdeal.Value.run_blocks m g
  · run_from Cert.LruBwdRefIdeal.Value.run m' g'
    all_goals
      obtain ⟨R, h⟩ : ∃ R, Given m c R := ⟨_, heads_of _ _ _ _ _ _ _ _ _ (hpre c)⟩
      have h1 := h
      have a0 : StableHlo.launchContents m' c (Proc.tc.devRef Cert.LruBwdRefIdeal.main_arg0) = m ((c.tc : Thread Cert.LruBwdIdeal.nD Cert.LruBwdIdeal.τ).loc Cert.LruBwdIdeal.main_arg0) := (hagree c).1
      have a1 : StableHlo.launchContents m' c (Proc.tc.devRef Cert.LruBwdRefIdeal.main_arg1) = m ((c.tc : Thread Cert.LruBwdIdeal.nD Cert.LruBwdIdeal.τ).loc Cert.LruBwdIdeal.main_arg1) := (hagree c).2.1
      have a2 : StableHlo.launchContents m' c (Proc.tc.devRef Cert.LruBwdRefIdeal.main_arg2) = m ((c.tc : Thread Cert.LruBwdIdeal.nD Cert.LruBwdIdeal.τ).loc Cert.LruBwdIdeal.main_arg2) := (hagree c).2.2.1
      have a3 : StableHlo.launchContents m' c (Proc.tc.devRef Cert.LruBwdRefIdeal.main_arg3) = m ((c.tc : Thread Cert.LruBwdIdeal.nD Cert.LruBwdIdeal.τ).loc Cert.LruBwdIdeal.main_arg3) := (hagree c).2.2.2.1
      have a4 : StableHlo.launchContents m' c (Proc.tc.devRef Cert.LruBwdRefIdeal.main_arg4) = m ((c.tc : Thread Cert.LruBwdIdeal.nD Cert.LruBwdIdeal.τ).loc Cert.LruBwdIdeal.main_arg4) := (hagree c).2.2.2.2.1
      have a5 : StableHlo.launchContents m' c (Proc.tc.devRef Cert.LruBwdRefIdeal.main_arg5) = m ((c.tc : Thread Cert.LruBwdIdeal.nD Cert.LruBwdIdeal.τ).loc Cert.LruBwdIdeal.main_arg5) := (hagree c).2.2.2.2.2.1
      have a6 : StableHlo.launchContents m' c (Proc.tc.devRef Cert.LruBwdRefIdeal.main_arg6) = m ((c.tc : Thread Cert.LruBwdIdeal.nD Cert.LruBwdIdeal.τ).loc Cert.LruBwdIdeal.main_arg6) := (hagree c).2.2.2.2.2.2.1
      have a7 : StableHlo.launchContents m' c (Proc.tc.devRef Cert.LruBwdRefIdeal.main_arg7) = m ((c.tc : Thread Cert.LruBwdIdeal.nD Cert.LruBwdIdeal.τ).loc Cert.LruBwdIdeal.main_arg7) := (hagree c).2.2.2.2.2.2.2.1
      have a8 : StableHlo.launchContents m' c (Proc.tc.devRef Cert.LruBwdRefIdeal.main_arg8) = m ((c.tc : Thread Cert.LruBwdIdeal.nD Cert.LruBwdIdeal.τ).loc Cert.LruBwdIdeal.main_arg8) := (hagree c).2.2.2.2.2.2.2.2
      unfold Given at h1
      rw [← a0, ← a1, ← a2, ← a3, ← a4, ← a5, ← a6, ← a7, ← a8] at h1
    · exact (val_main_v262_eq (F := Ideal) _).trans (array11 m c h _ (fun t i q => dul_at h1 t i q)).symm
    · exact (val_main_v264_eq (F := Ideal) _).trans (array12 m c h _ (fun t i q => dug_at h1 t i q)).symm
    · exact (val_main_v256_eq (F := Ideal) _).trans (array13 m c h _ (fun t k q => dcw_at h1 t q k)).symm
    · exact (val_main_v265_eq (F := Ideal) _).trans (array14 m c h _ (fun t q => dcb_at h1 t q)).symm
    · exact (val_main_v212_eq (F := Ideal) _).trans (array15 m c h _ (fun t d q => dwa_at h1 t q d)).symm
    · exact (val_main_v266_eq (F := Ideal) _).trans (array16 m c h _ (fun t q => dba_at h1 t q)).symm
    · exact (val_main_v202_eq (F := Ideal) _).trans (array17 m c h _ (fun t d q => dwx_at h1 t q d)).symm
    · exact (val_main_v267_eq (F := Ideal) _).trans (array18 m c h _ (fun t q => dbx_at h1 t q)).symm
    · exact (val_main_v268_eq (F := Ideal) _).trans (array19 m c h _ (fun t q => dlam_at h1 t q)).symm

end Cert.Proof

end
-- ==== Proof.SwigluFwd.lean ====
/-
  The gated unit forward: its down projection and the residual. The kernel's blocks, the reference's lines, and the pair.
-/
module

public import proofs.«01_k».proof.Defs
public import proofs.«01_k».proof.Proof.Gen.SwigluFwd.Frame
public import proofs.«01_k».proof.Proof.Gen.SwigluFwdIdeal.Value
public import proofs.«01_k».proof.Proof.Gen.SwigluFwdRefIdeal.Run
public import proofs.«01_k».proof.Proof.Gen.SwigluFwdRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SwigluFwdIdeal.Value

open Cert.SwigluFwdIdeal Cert.SwigluFwdIdeal.Gen

/-- One entry of the unit's result: the residual and half the product of the gated row with a column of the weight. -/
def unit (a b : Fin 2816 → EReal) (x : EReal) (w : Fin 2816 → EReal) : EReal :=
  x + Ideal.ofBits .f32 0x3F000000#32 * ∑ f, a f * Ideal.logistic (a f) * b f * w f

variable (m : (ℓ : Loc nD τ sig) → Buf (Elt Ideal) ℓ) (c : Dev nD) (t : Fin cfg0.N)

theorem idx : ∀ t : Fin cfg0.N, win0_0.index t = ![t.val, 0] ∧ win0_1.index t = ![t.val, 1]
    ∧ win0_2.index t = ![t.val, 0] ∧ win0_3.index t = ![0, 0] ∧ win0_4.index t = ![t.val, 0] :=
  (by decide +kernel : ∀ t : Fin grid0.N, _)

abbrev arg0 (i : Fin 2048) (f : Fin 5632) : EReal := m ((c.tc : Thread nD τ).loc main_arg0) (ix3 0 i f)
abbrev arg1 (i : Fin 2048) (k : Fin 1024) : EReal := m ((c.tc : Thread nD τ).loc main_arg1) (ix3 0 i k)
abbrev arg2 (f : Fin 2816) (k : Fin 1024) : EReal := m ((c.tc : Thread nD τ).loc main_arg2) (ix2 f k)

theorem pay_apply (a b : Vec Ideal S512x2816 .bf16) (x : Vec Ideal S512x1024 .f32) (w : Vec Ideal S2816x1024 .bf16) (p : Fin 512) (k : Fin 1024) :
    k0_pay1 a b x w (ix2 p k) = unit (fun f => a (ix2 p f)) (fun f => b (ix2 p f)) (x (ix2 p k)) (fun f => w (ix2 f k)) := by
  pointwise [k0_pay1]
  rfl

theorem a_blk (p : Fin 512) (f : Fin 2816) (h : t.val * 512 + p.val < 2048) :
    iblk m c 0 t (ix2 p f) = arg0 m c ⟨t.val * 512 + p.val, h⟩ ⟨f.val, by omega⟩ := by
  blk_point [iblk, V, idx t]
theorem b_blk (p : Fin 512) (f : Fin 2816) (h : t.val * 512 + p.val < 2048) :
    iblk m c 1 t (ix2 p f) = arg0 m c ⟨t.val * 512 + p.val, h⟩ ⟨f.val + 2816, by omega⟩ := by
  blk_point [iblk, V, idx t]
theorem x_blk (p : Fin 512) (k : Fin 1024) (h : t.val * 512 + p.val < 2048) :
    iblk m c 2 t (ix2 p k) = arg1 m c ⟨t.val * 512 + p.val, h⟩ k := by
  blk_point [iblk, V, idx t]
theorem w_blk (f : Fin 2816) (k : Fin 1024) : iblk m c 3 t (ix2 f k) = arg2 m c f k := by
  blk_point [iblk, V, idx t]

/-- The kernel's result, as one function of the arguments. -/
def out (i : Fin 2048) (k : Fin 1024) : EReal :=
  unit (fun f => arg0 m c i ⟨f.val, by omega⟩) (fun f => arg0 m c i ⟨f.val + 2816, by omega⟩) (arg1 m c i k) (fun f => arg2 m c f k)
def OUT : Buf (Elt Ideal) ((c.tc : Thread nD τ).loc main_v4) := fun j => out m c (j 0) (j 1)

theorem place (p : Fin 512) (k : Fin 1024) (h : t.val * 512 + p.val < 2048) :
    (ix2 ⟨t.val * 512 + p.val, h⟩ k : S2048x1024.Idx) = ((View.whole main_v4).slice (win0_4.rect t)).emb (ix2 p k) := by
  blk_ext [idx t]

theorem point (p : Fin 512) (k : Fin 1024) :
    k0_pay1 (iblk m c 0 t) (iblk m c 1 t) (iblk m c 2 t) (iblk m c 3 t) (ix2 p k)
      = OUT m c (((View.whole main_v4).slice (win0_4.rect t)).emb (ix2 p k)) := by
  have hN : t.val < 4 := t.isLt
  rw [← place t p k (by omega), pay_apply, x_blk m c t p k (by omega)]
  simp only [a_blk m c t p _ (show t.val * 512 + p.val < 2048 by omega), b_blk m c t p _ (show t.val * 512 + p.val < 2048 by omega), w_blk]
  rfl

theorem final : (dats m 0 c).arrAt 4 cfg0.N = OUT m c := by
  refine (dats m 0 c).arrAt_eq_of_covers 4 _ (by decide +kernel) fun t _ y => ?_
  blk_simp
  rw [after0_4]
  idx_vars y
  refine Eq.trans ?_ (point m c t y0 y1)
  frame_out

end Cert.SwigluFwdIdeal.Value

namespace Cert.SwigluFwdRefIdeal.Value

open Cert.SwigluFwdRefIdeal Cert.SwigluFwdRefIdeal.Gen Cert.SwigluFwdRefIdeal.Read
open Cert.SwigluFwdIdeal.Value (unit)

variable (u : (⟨S1x2048x5632, .f32⟩ : BufTy).Contents (Elt Ideal)) (x : (⟨S1x2048x1024, .f32⟩ : BufTy).Contents (Elt Ideal))
  (w : (⟨S2816x1024, .f32⟩ : BufTy).Contents (Elt Ideal))

/-- The reference's gated row: its sigmoid is written `1 / (1 + exp (-a))`. -/
theorem v3_at (i : Fin 2048) (f : Fin 2816) : val_main_v3 (F := Ideal) u (ix3 0 i f)
    = u (ix3 0 i ⟨f.val, by omega⟩) * Ideal.logistic (u (ix3 0 i ⟨f.val, by omega⟩)) * u (ix3 0 i ⟨f.val + 2816, by omega⟩) := by
  pointwise [val_main_v3, val_main_v2, val_main_call0_v5, val_main_call0_v4, val_main_call0_cst_0, val_main_call0_v3, val_main_call0_v2, val_main_call0_cst, val_main_call0_v1, val_main_call0_v0, val_main_v0, val_main_v1]
  have e : u (ix3 0 i ⟨2816 + f.val, by omega⟩) = u (ix3 0 i ⟨f.val + 2816, by omega⟩) := congrArg (fun q => u (ix3 0 i q)) (Fin.ext (Nat.add_comm _ _))
  exact congrArg (_ * ·) e

theorem v8_at (i : Fin 2048) (k : Fin 1024) : val_main_v8 (F := Ideal) u x w (ix2 i k)
    = unit (fun f => u (ix3 0 i ⟨f.val, by omega⟩)) (fun f => u (ix3 0 i ⟨f.val + 2816, by omega⟩)) (x (ix3 0 i k)) (fun f => w (ix2 f k)) := by
  pointwise [val_main_v8, val_main_v7, val_main_v6, val_main_v5, val_main_cst, val_main_v4, v3_at]
  rfl

end Cert.SwigluFwdRefIdeal.Value

namespace Cert.Proof

theorem frame_SwigluFwd : Cert.quiescent_SwigluFwd := fun m ρ _ => Cert.SwigluFwd.Gen.frame m ρ
theorem frame_SwigluFwdIdeal : Cert.quiescent_SwigluFwdIdeal := fun m ρ _ => Cert.SwigluFwdIdeal.Gen.frame m ρ
theorem frame_SwigluFwdRefIdeal : Cert.quiescent_SwigluFwdRefIdeal := fun m ρ _ =>
  (θ_run Cert.SwigluFwdRefIdeal.defs _ _).mono (fun r h => ⟨fun c => (h c).2,
      Idealize.ShloMosaic.sem_eq_zero_of_no_sems (by decide) r.2⟩)
    (Cert.SwigluFwdRefIdeal.Value.run m ρ)

/-- The gated unit's forward call: the kernel's result is the reference's lines, at every argument. -/
theorem algebraic_SwigluFwd : Cert.algebraic_SwigluFwdIdeal_SwigluFwdRefIdeal := by
  pair_intro
  · run_from Cert.SwigluFwdIdeal.Value.run_blocks m g
  · run_from Cert.SwigluFwdRefIdeal.Value.run m' g'
    · rw [Cert.SwigluFwdIdeal.Value.final, Cert.SwigluFwdRefIdeal.Read.val_main_v8_eq]
      funext i
      idx_vars i
      exact (Cert.SwigluFwdRefIdeal.Value.v8_at _ _ _ i0 i1)

end Cert.Proof

end
-- ==== Proof.NormFfnFwd.lean ====
/-
  The norm before the gated unit and the projection after it, forward: the kernel's blocks, the reference's lines, and the pair.
-/
module

public import proofs.«01_k».proof.Defs
public import proofs.«01_k».proof.Proof.Gen.NormFfnFwd.Frame
public import proofs.«01_k».proof.Proof.Gen.NormFfnFwdIdeal.Value
public import proofs.«01_k».proof.Proof.Gen.NormFfnFwdRefIdeal.Run
public import proofs.«01_k».proof.Proof.Gen.NormFfnFwdRefIdeal.Read
public import Idealize.ShloMosaic.Lib.Pipeline.ValueKit
public import Idealize.ShloMosaic.Lib.Claim
public import Idealize.ShloMosaic.Lib.Pointwise
public import proofs.«01_k».proof.Proof.NormMath

@[expose] public section

set_option maxRecDepth 16384

noncomputable section

open Idealize.ShloMosaic Idealize.ShloMosaic.TcCoe Idealize.SL.Sem
open Idealize.ShloMosaic.Pipeline (Dat)

namespace Cert.NormFfnFwdIdeal.Value

open Cert.NormFfnFwdIdeal Cert.NormFfnFwdIdeal.Gen
open Cert.Rms (W E)
open Cert.NormMath (nrm)

variable (m : (ℓ : Loc nD τ sig) → Buf (Elt Ideal) ℓ) (c : Dev nD) (t : Fin cfg0.N)

theorem idx : ∀ t : Fin cfg0.N, win0_0.index t = ![t.val % 4, 0] ∧ win0_1.index t = ![0, 0]
    ∧ win0_2.index t = ![t.val / 4, 0, 0] ∧ win0_3.index t = ![t.val % 4, t.val / 4] :=
  (by decide +kernel : ∀ t : Fin grid0.N, _)

/-- A token's row, the gain, a column of the projection. -/
abbrev xrow (i : Fin 2048) : Fin 1024 → EReal := fun k => m ((c.tc : Thread nD τ).loc main_arg0) (ix3 0 i k)
abbrev gain : Fin 1024 → EReal := fun k => m ((c.tc : Thread nD τ).loc main_arg1) (ix1 k)
abbrev wcol (f : Fin 5632) : Fin 1024 → EReal := fun k => m ((c.tc : Thread nD τ).loc main_arg2) (ix2 k f)

theorem pay_apply (x : Vec Ideal S512x1024 .f32) (g : Vec Ideal S1x1024 .f32) (w : Vec Ideal S1x1024x1408 .bf16) (p : Fin 512) (q : Fin 1408) :
    k0_pay1 x g w (ix2 p q) = NormMath.proj (fun k => x (ix2 p k)) (fun k => g (ix2 0 k)) (fun k => w (ix3 0 k q)) := by
  pointwise [k0_pay1]
  rfl

theorem x_blk (p : Fin 512) (k : Fin 1024) (h : t.val % 4 * 512 + p.val < 2048) :
    iblk m c 0 t (ix2 p k) = xrow m c ⟨t.val % 4 * 512 + p.val, h⟩ k := by
  blk_point [iblk, V, idx t]
theorem g_blk (k : Fin 1024) : iblk m c 1 t (ix2 0 k) = gain m c k := by
  blk_point [iblk, V, idx t]
theorem w_blk (k : Fin 1024) (q : Fin 1408) (h : t.val / 4 * 1408 + q.val < 5632) :
    iblk m c 2 t (ix3 0 k q) = wcol m c ⟨t.val / 4 * 1408 + q.val, h⟩ k := by
  blk_point [iblk, V, idx t]

/-- The kernel's result, as one function of the arguments. -/
def OUT : Buf (Elt Ideal) ((c.tc : Thread nD τ).loc main_v5) := fun j => NormMath.proj (xrow m c (j 0)) (gain m c) (wcol m c (j 1))

theorem place (p : Fin 512) (q : Fin 1408) (h : t.val % 4 * 512 + p.val < 2048) (h' : t.val / 4 * 1408 + q.val < 5632) :
    (ix2 ⟨t.val % 4 * 512 + p.val, h⟩ ⟨t.val / 4 * 1408 + q.val, h'⟩ : S2048x5632.Idx) = ((View.whole main_v5).slice (win0_3.rect t)).emb (ix2 p q) := by
  blk_ext [idx t]

theorem point (p : Fin 512) (q : Fin 1408) :
    k0_pay1 (iblk m c 0 t) (iblk m c 1 t) (iblk m c 2 t) (ix2 p q)
      = OUT m c (((View.whole main_v5).slice (win0_3.rect t)).emb (ix2 p q)) := by
  have hN : t.val < 16 := t.isLt
  rw [← place t p q (by omega) (by omega), pay_apply]
  simp only [x_blk m c t p _ (show t.val % 4 * 512 + p.val < 2048 by omega), g_blk, w_blk m c t _ q (show t.val / 4 * 1408 + q.val < 5632 by omega)]
  rfl

theorem final : (dats m 0 c).arrAt 3 cfg0.N = OUT m c := by
  refine (dats m 0 c).arrAt_eq_of_covers 3 _ (by decide +kernel) fun t _ y => ?_
  blk_simp
  rw [after0_3]
  idx_vars y
  refine Eq.trans ?_ (point m c t y0 y1)
  frame_out

end Cert.NormFfnFwdIdeal.Value

namespace Cert.NormFfnFwdRefIdeal.Value

open Cert.NormFfnFwdRefIdeal Cert.NormFfnFwdRefIdeal.Gen Cert.NormFfnFwdRefIdeal.Read
open Cert.Rms (W E)
open Cert.NormMath (nrm)

variable (x : (⟨S1x2048x1024, .f32⟩ : BufTy).Contents (Elt Ideal)) (g : (⟨S1024, .f32⟩ : BufTy).Contents (Elt Ideal))
  (w : (⟨S1024x5632, .f32⟩ : BufTy).Contents (Elt Ideal))

theorem v7_at (i : Fin 2048) : val_main_v7 (F := Ideal) x (ix3 0 i 0) = Rms.rinv W E (fun k => x (ix3 0 i k)) := by
  pointwise [val_main_v7, val_main_v6, val_main_v5, val_main_cst_1, val_main_v4, val_main_v3, val_main_cst_0, val_main_v2, val_main_v1, val_main_cst, val_main_v0]
  rfl

theorem v15_at (i : Fin 2048) (f : Fin 5632) : val_main_v15 (F := Ideal) x g w (ix2 i f)
    = NormMath.proj (fun k => x (ix3 0 i k)) (fun k => g (ix1 k)) (fun k => w (ix2 k f)) := by
  pointwise [val_main_v15, val_main_v14, val_main_v13, val_main_v12, val_main_v11, val_main_v10, val_main_v9, val_main_v8, v7_at]
  rfl

end Cert.NormFfnFwdRefIdeal.Value

namespace Cert.Proof

theorem frame_NormFfnFwd : Cert.quiescent_NormFfnFwd := fun m ρ _ => Cert.NormFfnFwd.Gen.frame m ρ
theorem frame_NormFfnFwdIdeal : Cert.quiescent_NormFfnFwdIdeal := fun m ρ _ => Cert.NormFfnFwdIdeal.Gen.frame m ρ
theorem frame_NormFfnFwdRefIdeal : Cert.quiescent_NormFfnFwdRefIdeal := fun m ρ _ =>
  (θ_run Cert.NormFfnFwdRefIdeal.defs _ _).mono (fun r h => ⟨fun c => (h c).2,
      Idealize.ShloMosaic.sem_eq_zero_of_no_sems (by decide) r.2⟩)
    (Cert.NormFfnFwdRefIdeal.Value.run m ρ)

/-- The norm and the projection after it: the kernel's result is the reference's lines, at every argument. -/
theorem algebraic_NormFfnFwd : Cert.algebraic_NormFfnFwdIdeal_NormFfnFwdRefIdeal := by
  pair_intro
  · run_from Cert.NormFfnFwdIdeal.Value.run_blocks m g
  · run_from Cert.NormFfnFwdRefIdeal.Value.run m' g'
    · rw [Cert.NormFfnFwdIdeal.Value.final, Cert.NormFfnFwdRefIdeal.Read.val_main_v15_eq]
      funext i
      idx_vars i
      exact (Cert.NormFfnFwdRefIdeal.Value.v15_at _ _ _ i0 i1)

end Cert.Proof

end
-- ==== Proof.NormMixFwd.lean ====
/-
  The norm before the mixer and the projection after it, forward: the kernel's blocks, the reference's lines, and the pair.
-/
module

public import proofs.«01_k».proof.Defs
public import proofs.«01_k».proof.Proof.Gen.NormMixFwd.Frame
public import proofs.«01_k».proof.Proof.Gen.NormMixFwdIdeal.Value
public import proofs.«01_k».proof.Proof.Gen.NormMixFwdRefIdeal.Run
public import proofs.«01_k».proof.Proof.Gen.NormMixFwdRefIdeal.Read
public import Idealize.ShloMosaic.Lib.Pipeline.ValueKit
public import Idealize.ShloMosaic.Lib.Claim
public import Idealize.ShloMosaic.Lib.Pointwise
public import proofs.«01_k».proof.Proof.NormMath

@[expose] public section

set_option maxRecDepth 16384

noncomputable section

open Idealize.ShloMosaic Idealize.ShloMosaic.TcCoe Idealize.SL.Sem
open Idealize.ShloMosaic.Pipeline (Dat)

namespace Cert.NormMixFwdIdeal.Value

open Cert.NormMixFwdIdeal Cert.NormMixFwdIdeal.Gen
open Cert.Rms (W E)
open Cert.NormMath (nrm)

variable (m : (ℓ : Loc nD τ sig) → Buf (Elt Ideal) ℓ) (c : Dev nD) (t : Fin cfg0.N)

theorem idx : ∀ t : Fin cfg0.N, win0_0.index t = ![t.val % 4, 0] ∧ win0_1.index t = ![0, 0]
    ∧ win0_2.index t = ![t.val / 4, 0, 0] ∧ win0_3.index t = ![t.val % 4, t.val / 4] :=
  (by decide +kernel : ∀ t : Fin grid0.N, _)

/-- A token's row, the gain, a column of the projection. -/
abbrev xrow (i : Fin 2048) : Fin 1024 → EReal := fun k => m ((c.tc : Thread nD τ).loc main_arg0) (ix3 0 i k)
abbrev gain : Fin 1024 → EReal := fun k => m ((c.tc : Thread nD τ).loc main_arg1) (ix1 k)
abbrev wcol (f : Fin 5120) : Fin 1024 → EReal := fun k => m ((c.tc : Thread nD τ).loc main_arg2) (ix2 k f)

theorem pay_apply (x : Vec Ideal S512x1024 .f32) (g : Vec Ideal S1x1024 .f32) (w : Vec Ideal S1x1024x1280 .bf16) (p : Fin 512) (q : Fin 1280) :
    k0_pay1 x g w (ix2 p q) = NormMath.proj (fun k => x (ix2 p k)) (fun k => g (ix2 0 k)) (fun k => w (ix3 0 k q)) := by
  pointwise [k0_pay1]
  rfl

theorem x_blk (p : Fin 512) (k : Fin 1024) (h : t.val % 4 * 512 + p.val < 2048) :
    iblk m c 0 t (ix2 p k) = xrow m c ⟨t.val % 4 * 512 + p.val, h⟩ k := by
  blk_point [iblk, V, idx t]
theorem g_blk (k : Fin 1024) : iblk m c 1 t (ix2 0 k) = gain m c k := by
  blk_point [iblk, V, idx t]
theorem w_blk (k : Fin 1024) (q : Fin 1280) (h : t.val / 4 * 1280 + q.val < 5120) :
    iblk m c 2 t (ix3 0 k q) = wcol m c ⟨t.val / 4 * 1280 + q.val, h⟩ k := by
  blk_point [iblk, V, idx t]

/-- The kernel's result, as one function of the arguments. -/
def OUT : Buf (Elt Ideal) ((c.tc : Thread nD τ).loc main_v5) := fun j => NormMath.proj (xrow m c (j 0)) (gain m c) (wcol m c (j 1))

theorem place (p : Fin 512) (q : Fin 1280) (h : t.val % 4 * 512 + p.val < 2048) (h' : t.val / 4 * 1280 + q.val < 5120) :
    (ix2 ⟨t.val % 4 * 512 + p.val, h⟩ ⟨t.val / 4 * 1280 + q.val, h'⟩ : S2048x5120.Idx) = ((View.whole main_v5).slice (win0_3.rect t)).emb (ix2 p q) := by
  blk_ext [idx t]

theorem point (p : Fin 512) (q : Fin 1280) :
    k0_pay1 (iblk m c 0 t) (iblk m c 1 t) (iblk m c 2 t) (ix2 p q)
      = OUT m c (((View.whole main_v5).slice (win0_3.rect t)).emb (ix2 p q)) := by
  have hN : t.val < 16 := t.isLt
  rw [← place t p q (by omega) (by omega), pay_apply]
  simp only [x_blk m c t p _ (show t.val % 4 * 512 + p.val < 2048 by omega), g_blk, w_blk m c t _ q (show t.val / 4 * 1280 + q.val < 5120 by omega)]
  rfl

theorem final : (dats m 0 c).arrAt 3 cfg0.N = OUT m c := by
  refine (dats m 0 c).arrAt_eq_of_covers 3 _ (by decide +kernel) fun t _ y => ?_
  blk_simp
  rw [after0_3]
  idx_vars y
  refine Eq.trans ?_ (point m c t y0 y1)
  frame_out

end Cert.NormMixFwdIdeal.Value

namespace Cert.NormMixFwdRefIdeal.Value

open Cert.NormMixFwdRefIdeal Cert.NormMixFwdRefIdeal.Gen Cert.NormMixFwdRefIdeal.Read
open Cert.Rms (W E)
open Cert.NormMath (nrm)

variable (x : (⟨S1x2048x1024, .f32⟩ : BufTy).Contents (Elt Ideal)) (g : (⟨S1024, .f32⟩ : BufTy).Contents (Elt Ideal))
  (w : (⟨S1024x5120, .f32⟩ : BufTy).Contents (Elt Ideal))

theorem v7_at (i : Fin 2048) : val_main_v7 (F := Ideal) x (ix3 0 i 0) = Rms.rinv W E (fun k => x (ix3 0 i k)) := by
  pointwise [val_main_v7, val_main_v6, val_main_v5, val_main_cst_1, val_main_v4, val_main_v3, val_main_cst_0, val_main_v2, val_main_v1, val_main_cst, val_main_v0]
  rfl

theorem v14_at (i : Fin 2048) (f : Fin 5120) : val_main_v14 (F := Ideal) x g w (ix2 i f)
    = NormMath.proj (fun k => x (ix3 0 i k)) (fun k => g (ix1 k)) (fun k => w (ix2 k f)) := by
  pointwise [val_main_v14, val_main_v13, val_main_v12, val_main_v11, val_main_v10, val_main_v9, val_main_v8, v7_at]
  rfl

end Cert.NormMixFwdRefIdeal.Value

namespace Cert.Proof

theorem frame_NormMixFwd : Cert.quiescent_NormMixFwd := fun m ρ _ => Cert.NormMixFwd.Gen.frame m ρ
theorem frame_NormMixFwdIdeal : Cert.quiescent_NormMixFwdIdeal := fun m ρ _ => Cert.NormMixFwdIdeal.Gen.frame m ρ
theorem frame_NormMixFwdRefIdeal : Cert.quiescent_NormMixFwdRefIdeal := fun m ρ _ =>
  (θ_run Cert.NormMixFwdRefIdeal.defs _ _).mono (fun r h => ⟨fun c => (h c).2,
      Idealize.ShloMosaic.sem_eq_zero_of_no_sems (by decide) r.2⟩)
    (Cert.NormMixFwdRefIdeal.Value.run m ρ)

/-- The norm and the projection after it: the kernel's result is the reference's lines, at every argument. -/
theorem algebraic_NormMixFwd : Cert.algebraic_NormMixFwdIdeal_NormMixFwdRefIdeal := by
  pair_intro
  · run_from Cert.NormMixFwdIdeal.Value.run_blocks m g
  · run_from Cert.NormMixFwdRefIdeal.Value.run m' g'
    · rw [Cert.NormMixFwdIdeal.Value.final, Cert.NormMixFwdRefIdeal.Read.val_main_v14_eq]
      funext i
      idx_vars i
      exact (Cert.NormMixFwdRefIdeal.Value.v14_at _ _ _ i0 i1)

end Cert.Proof

end
-- ==== Proof.MixOutFwd.lean ====
/-
  The branches' gates and projections, forward: the kernel's blocks, the reference's lines, and the pair.
-/
module

public import proofs.«01_k».proof.Defs
public import proofs.«01_k».proof.Proof.Gen.MixOutFwd.Frame
public import proofs.«01_k».proof.Proof.Gen.MixOutFwdIdeal.Value
public import proofs.«01_k».proof.Proof.Gen.MixOutFwdRefIdeal.Run
public import proofs.«01_k».proof.Proof.Gen.MixOutFwdRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixOutFwdIdeal.Value

open Cert.MixOutFwdIdeal Cert.MixOutFwdIdeal.Gen

variable (m : (ℓ : Loc nD τ sig) → Buf (Elt Ideal) ℓ) (c : Dev nD) (t : Fin cfg0.N)

theorem idx : ∀ t : Fin cfg0.N, win0_0.index t = ![t.val, 0] ∧ win0_1.index t = ![t.val, 3] ∧ win0_2.index t = ![t.val, 4]
    ∧ win0_3.index t = ![t.val, 0] ∧ win0_4.index t = ![t.val, 0] ∧ win0_5.index t = ![0, 0, 0] ∧ win0_6.index t = ![0, 0]
    ∧ win0_7.index t = ![0, 0] ∧ win0_8.index t = ![t.val, 0] :=
  (by decide +kernel : ∀ t : Fin grid0.N, _)

/-- The two branches, each gated and added, at one lane: `a b` the gates' arguments, `p z` the branches' rows, `u v` the columns of their
    projections. -/
def gated (a b : EReal) (p u : Fin 512 → EReal) (z v : Fin 1280 → EReal) : EReal :=
  Ideal.logistic a * (∑ k, p k * u k) + Ideal.logistic b * ∑ k, z k * v k

/-- One entry of the result: the residual and the merged branches' projection, as a function of the arguments' entries. -/
def merge (x : Fin 1024 → EReal) (pr : Fin 5120 → EReal) (p : Fin 512 → EReal) (z : Fin 1280 → EReal)
    (u : Fin 512 → Fin 1024 → EReal) (v : Fin 1280 → Fin 1024 → EReal) (w : Fin 1024 → Fin 1024 → EReal) (k : Fin 1024) : EReal :=
  x k + ∑ f : Fin 1024, gated (pr ⟨3072 + f.val, by omega⟩) (pr ⟨4096 + f.val, by omega⟩) p (fun l => u l f) z (fun l => v l f) * w f k

abbrev xr (i : Fin 2048) : Fin 1024 → EReal := fun k => m ((c.tc : Thread nD τ).loc main_arg0) (ix3 0 i k)
abbrev pr (i : Fin 2048) : Fin 5120 → EReal := fun k => m ((c.tc : Thread nD τ).loc main_arg1) (ix3 0 i k)
abbrev pm (i : Fin 2048) : Fin 512 → EReal := fun k => m ((c.tc : Thread nD τ).loc main_arg2) (ix3 0 i k)
abbrev zl (i : Fin 2048) : Fin 1280 → EReal := fun k => m ((c.tc : Thread nD τ).loc main_arg3) (ix3 0 i k)
abbrev wpu (k : Fin 512) (f : Fin 1024) : EReal := m ((c.tc : Thread nD τ).loc main_arg4) (ix2 k f)
abbrev wlu (k : Fin 1280) (f : Fin 1024) : EReal := m ((c.tc : Thread nD τ).loc main_arg5) (ix2 k f)
abbrev wo (f k : Fin 1024) : EReal := m ((c.tc : Thread nD τ).loc main_arg6) (ix2 f k)

theorem wpu_blk (s : Fin 4) (k : Fin 512) (g : Fin 256) : iblk m c 5 t (ix3 s k g) = wpu m c k ⟨s.val * 256 + g.val, by omega⟩ := by
  blk_point [iblk, V, idx t]

section Blocks
variable (p : Fin 512) (h : t.val * 512 + p.val < 2048)

theorem x_blk (k : Fin 1024) : iblk m c 0 t (ix2 p k) = xr m c ⟨t.val * 512 + p.val, h⟩ k := by
  blk_point [iblk, V, idx t]
theorem lp_blk (f : Fin 1024) : iblk m c 1 t (ix2 p f) = pr m c ⟨t.val * 512 + p.val, h⟩ ⟨3072 + f.val, by omega⟩ := by
  blk_point [iblk, V, idx t]
theorem lr_blk (f : Fin 1024) : iblk m c 2 t (ix2 p f) = pr m c ⟨t.val * 512 + p.val, h⟩ ⟨4096 + f.val, by omega⟩ := by
  blk_point [iblk, V, idx t]
theorem pm_blk (k : Fin 512) : iblk m c 3 t (ix2 p k) = pm m c ⟨t.val * 512 + p.val, h⟩ k := by
  blk_point [iblk, V, idx t]
theorem zl_blk (k : Fin 1280) : iblk m c 4 t (ix2 p k) = zl m c ⟨t.val * 512 + p.val, h⟩ k := by
  blk_point [iblk, V, idx t]
theorem wlu_blk (k : Fin 1280) (f : Fin 1024) : iblk m c 6 t (ix2 k f) = wlu m c k f := by
  blk_point [iblk, V, idx t]
theorem wo_blk (f k : Fin 1024) : iblk m c 7 t (ix2 f k) = wo m c f k := by
  blk_point [iblk, V, idx t]
end Blocks

section Pays
variable (a0 a1 a2 : Vec Ideal S512x1024 .f32) (a3 : Vec Ideal S512x512 .bf16) (a4 : Vec Ideal S512x1280 .bf16)
  (a5 : Vec Ideal S4x512x256 .bf16) (a6 : Vec Ideal S1280x1024 .bf16) (a7 : Vec Ideal S1024x1024 .bf16)

/-- The pooled branch after its gate: its projection's four slabs side by side. -/
abbrev gatedPool : FVec Ideal S512x1024 .f32 := k0_pay3 a3 a1 (View.ld a5 (Rect.unit ![0, 0, 0] ![1, 512, 256] inb_S4x512x256_S1x512x256_0_0_0))
              (View.ld a5 (Rect.unit ![1, 0, 0] ![1, 512, 256] inb_S4x512x256_S1x512x256_1_0_0))
              (View.ld a5 (Rect.unit ![2, 0, 0] ![1, 512, 256] inb_S4x512x256_S1x512x256_2_0_0))
              (View.ld a5 (Rect.unit ![3, 0, 0] ![1, 512, 256] inb_S4x512x256_S1x512x256_3_0_0))

theorem pool_apply (p : Fin 512) (s : Fin 4) (g : Fin 256) : gatedPool a1 a3 a5 (ix2 p ⟨s.val * 256 + g.val, by omega⟩)
      = Ideal.logistic (a1 (ix2 p ⟨s.val * 256 + g.val, by omega⟩)) * ∑ k : Fin 512, a3 (ix2 p k) * a5 (ix3 s k g) := by
  have e : s = 0 ∨ s = 1 ∨ s = 2 ∨ s = 3 := by omega
  rcases e with rfl | rfl | rfl | rfl
  · pointwise [gatedPool, k0_pay3]
  · pointwise [gatedPool, k0_pay3]
  · pointwise [gatedPool, k0_pay3]
    rw [dif_neg (by omega), dif_neg (by omega), dif_pos (by omega)]
    exact congrArg (_ * ·) (Finset.sum_congr rfl fun k _ => congrArg (fun q => a3 (ix2 p k) * a5 (ix3 2 k q)) (Fin.ext (by dsimp; omega)))
  · pointwise [gatedPool, k0_pay3]
    rw [dif_neg (by omega), dif_neg (by omega), dif_neg (by omega)]
    exact congrArg (_ * ·) (Finset.sum_congr rfl fun k _ => congrArg (fun q => a3 (ix2 p k) * a5 (ix3 3 k q)) (Fin.ext (by dsimp; omega)))

theorem lru_apply (p : Fin 512) (f : Fin 1024) : k0_pay4 a4 a2 a6 (ix2 p f)
    = Ideal.logistic (a2 (ix2 p f)) * ∑ k : Fin 1280, a4 (ix2 p k) * a6 (ix2 k f) := by
  pointwise [k0_pay4]

theorem pay_apply (p : Fin 512) (k : Fin 1024) : k0_pay1 (k0_pay2 a0) (gatedPool a1 a3 a5) (k0_pay4 a4 a2 a6) a7 (ix2 p k)
    = a0 (ix2 p k) + ∑ f : Fin 1024, (gatedPool a1 a3 a5 (ix2 p f)
        + Ideal.logistic (a2 (ix2 p f)) * ∑ k : Fin 1280, a4 (ix2 p k) * a6 (ix2 k f)) * a7 (ix2 f k) := by
  pointwise [k0_pay1, k0_pay2, lru_apply]
end Pays

theorem pool_blk (p : Fin 512) (h : t.val * 512 + p.val < 2048) (f : Fin 1024) : gatedPool (iblk m c 1 t) (iblk m c 3 t) (iblk m c 5 t) (ix2 p f)
    = Ideal.logistic (pr m c ⟨t.val * 512 + p.val, h⟩ ⟨3072 + f.val, by omega⟩) * ∑ k : Fin 512, pm m c ⟨t.val * 512 + p.val, h⟩ k * wpu m c k f := by
  obtain ⟨s, g, rfl⟩ : ∃ (s : Fin 4) (g : Fin 256), f = ⟨s.val * 256 + g.val, by omega⟩ :=
    ⟨⟨f.val / 256, by omega⟩, ⟨f.val % 256, by omega⟩, Fin.ext (by dsimp; omega)⟩
  rw [pool_apply, lp_blk m c t p h]
  simp only [pm_blk m c t p h, wpu_blk]

/-- The kernel's result, as one function of the arguments. -/
def OUT : Buf (Elt Ideal) ((c.tc : Thread nD τ).loc main_v11) := fun j =>
  merge (xr m c (j 0)) (pr m c (j 0)) (pm m c (j 0)) (zl m c (j 0)) (wpu m c) (wlu m c) (wo m c) (j 1)

theorem place (p : Fin 512) (k : Fin 1024) (h : t.val * 512 + p.val < 2048) :
    (ix2 ⟨t.val * 512 + p.val, h⟩ k : S2048x1024.Idx) = ((View.whole main_v11).slice (win0_8.rect t)).emb (ix2 p k) := by
  blk_ext [idx t]

theorem point (p : Fin 512) (k : Fin 1024) :
    k0_pay1 (k0_pay2 (iblk m c 0 t)) (gatedPool (iblk m c 1 t) (iblk m c 3 t) (iblk m c 5 t)) (k0_pay4 (iblk m c 4 t) (iblk m c 2 t) (iblk m c 6 t)) (iblk m c 7 t) (ix2 p k)
      = OUT m c (((View.whole main_v11).slice (win0_8.rect t)).emb (ix2 p k)) := by
  have hN : t.val < 4 := t.isLt
  have h : t.val * 512 + p.val < 2048 := by omega
  rw [← place t p k h, pay_apply, x_blk m c t p h]
  simp only [pool_blk m c t p h, lr_blk m c t p h, zl_blk m c t p h, wlu_blk, wo_blk]
  rfl

theorem final : (dats m 0 c).arrAt 8 cfg0.N = OUT m c := by
  refine (dats m 0 c).arrAt_eq_of_covers 8 _ (by decide +kernel) fun t _ y => ?_
  blk_simp
  rw [after0_8]
  idx_vars y
  refine Eq.trans ?_ (point m c t y0 y1)
  frame_out

end Cert.MixOutFwdIdeal.Value

namespace Cert.MixOutFwdRefIdeal.Value

open Cert.MixOutFwdRefIdeal Cert.MixOutFwdRefIdeal.Gen Cert.MixOutFwdRefIdeal.Read
open Cert.MixOutFwdIdeal.Value (gated merge)

variable (x : (⟨S1x2048x1024, .f32⟩ : BufTy).Contents (Elt Ideal)) (pr : (⟨S1x2048x5120, .f32⟩ : BufTy).Contents (Elt Ideal))
  (pm : (⟨S1x2048x512, .f32⟩ : BufTy).Contents (Elt Ideal)) (zl : (⟨S1x2048x1280, .f32⟩ : BufTy).Contents (Elt Ideal))
  (u : (⟨S512x1024, .f32⟩ : BufTy).Contents (Elt Ideal)) (v : (⟨S1280x1024, .f32⟩ : BufTy).Contents (Elt Ideal))
  (w : (⟨S1024x1024, .f32⟩ : BufTy).Contents (Elt Ideal))

/-- The reference's gates: a sigmoid written `1 / (1 + exp (-a))`. -/
theorem v8_at (i f : Fin 2048) : val_main_v8 (F := Ideal) pr (ix3 0 i f) = Ideal.logistic (pr (ix3 0 i ⟨3072 + f.val, by omega⟩)) := by
  pointwise [val_main_v8, val_main_v7, val_main_cst_0, val_main_v6, val_main_v5, val_main_cst, val_main_v4, val_main_v3, val_main_v2]
  rfl

theorem v13_at (i : Fin 2048) (f : Fin 1024) : val_main_v13 (F := Ideal) pr pm zl u v (ix3 0 i f)
    = gated (pr (ix3 0 i ⟨3072 + f.val, by omega⟩)) (pr (ix3 0 i ⟨4096 + f.val, by omega⟩)) (fun k => pm (ix3 0 i k)) (fun k => u (ix2 k f))
        (fun k => zl (ix3 0 i k)) (fun k => v (ix2 k f)) := by
  pointwise [val_main_v13, val_main_v12, val_main_v11, val_main_v10, val_main_v9, val_main_v1, val_main_v0, v8_at]
  have e : pr (ix3 0 i ⟨3072 + (1024 + f.val), by omega⟩) = pr (ix3 0 i ⟨4096 + f.val, by omega⟩) := congrArg (fun q => pr (ix3 0 i q)) (Fin.ext (by dsimp; omega))
  rw [e]
  rfl

theorem v16_at (i : Fin 2048) (k : Fin 1024) : val_main_v16 (F := Ideal) x pr pm zl u v w (ix2 i k)
    = merge (fun k => x (ix3 0 i k)) (fun k => pr (ix3 0 i k)) (fun k => pm (ix3 0 i k)) (fun k => zl (ix3 0 i k)) (fun k f => u (ix2 k f))
        (fun k f => v (ix2 k f)) (fun f k => w (ix2 f k)) k := by
  pointwise [val_main_v16, val_main_v15, val_main_v14, v13_at]
  rfl

end Cert.MixOutFwdRefIdeal.Value

namespace Cert.Proof

theorem frame_MixOutFwd : Cert.quiescent_MixOutFwd := fun m ρ _ => Cert.MixOutFwd.Gen.frame m ρ
theorem frame_MixOutFwdIdeal : Cert.quiescent_MixOutFwdIdeal := fun m ρ _ => Cert.MixOutFwdIdeal.Gen.frame m ρ
theorem frame_MixOutFwdRefIdeal : Cert.quiescent_MixOutFwdRefIdeal := fun m ρ _ =>
  (θ_run Cert.MixOutFwdRefIdeal.defs _ _).mono (fun r h => ⟨fun c => (h c).2,
      Idealize.ShloMosaic.sem_eq_zero_of_no_sems (by decide) r.2⟩)
    (Cert.MixOutFwdRefIdeal.Value.run m ρ)

/-- The gates and projections forward: the kernel's result is the reference's lines, at every argument. -/
theorem algebraic_MixOutFwd : Cert.algebraic_MixOutFwdIdeal_MixOutFwdRefIdeal := by
  pair_intro
  · run_from Cert.MixOutFwdIdeal.Value.run_blocks m g
  · run_from Cert.MixOutFwdRefIdeal.Value.run m' g'
    · rw [Cert.MixOutFwdIdeal.Value.final, Cert.MixOutFwdRefIdeal.Read.val_main_v16_eq]
      funext i
      idx_vars i
      exact (Cert.MixOutFwdRefIdeal.Value.v16_at _ _ _ _ _ _ _ i0 i1)

end Cert.Proof

end
-- ==== Proof.LruScan.lean ====
/-
  The doubling scan over buffers whose first 1024 rows are padding: a buffer whose middle rows hold the products (or the
  sums) of `n` places, read in place and `n` rows earlier, gives those of `2 n` places.
-/
module

public import proofs.«01_k».proof.Defs
public import proofs.«01_k».proof.Proof.LruMath
public import proofs.«01_k».proof.Proof.Gen.LruFwdIdeal.Value
public import Idealize.ShloMosaic.Lib.WritesUnit
public import Idealize.ShloMosaic.Lib.Pipeline.ValueKit
public import Idealize.ShloMosaic.Lib.Pointwise

@[expose] public section

set_option maxRecDepth 16384

noncomputable section

namespace Cert.LruScan

open Idealize.ShloMosaic Cert.LruFwdIdeal Cert.LruFwdIdeal.Gen Cert.LruMath

variable {sg : RefSig} {κ : Kind} {sp : Space}

/-- The first 1024 rows of a buffer, its pieces written over `f`, hold `k`. -/
structure Pad (v : View sg κ sp S4096x128 .f32) (f : v.ty.Contents (Elt Ideal)) (L : List (View.Piece (Elt Ideal) S4096x128 .f32))
    (k : EReal) : Prop where
  low : ∀ (p : Fin 4096) (q : Fin 128), p.val < 1024 → v.read (Elt Ideal) (v.writes (Elt Ideal) f L) (ix2 p q) = k

/-- The padding as the first grid point writes it. -/
theorem Pad.start {v : View sg κ sp S4096x128 .f32} {f : v.ty.Contents (Elt Ideal)} {k : EReal} {w w' : S1024x128.Idx → EReal}
    (hw : ∀ i, w' i = k) (inb : ∀ a : Fin 2, ![3072, 0] a + S1024x128.size a ≤ S4096x128.size a)
    (inb' : ∀ a : Fin 2, ![0, 0] a + S1024x128.size a ≤ S4096x128.size a) :
    Pad v f [⟨Rect.unit (s := S4096x128) ![3072, 0] S1024x128.size inb, w⟩, ⟨Rect.unit (s := S4096x128) ![0, 0] S1024x128.size inb', w'⟩] k :=
  ⟨fun p q hp => (View.read_writes_cons_rows_of_not_mem (o := 3072) (W := 1024) v f inb w _ (ix2 p q) rfl rfl (Or.inl (by show p.val < 3072; omega))).trans
    ((View.read_writes_cons_rows_of_mem (o := 0) v f inb' w' _ (ix2 p q) (ix2 (⟨p.val, hp⟩ : Fin 1024) q) rfl (Nat.zero_add _).symm rfl).trans (hw _))⟩

/-- A block of 2048 rows holds places 1024 … 3071 of a sequence a column. -/
def Rep (g : Fin 128 → ℕ → EReal) (w : S2048x128.Idx → EReal) : Prop :=
  ∀ (i : Fin 2048) (q : Fin 128), w (ix2 i q) = g q (1024 + i.val)

variable {v : View sg κ sp S4096x128 .f32} {f : v.ty.Contents (Elt Ideal)} {L : List (View.Piece (Elt Ideal) S4096x128 .f32)} {k : EReal}

/-- A piece written below the padding leaves it. -/
theorem Pad.cons (h : Pad v f L k) (inb : ∀ a : Fin 2, ![1024, 0] a + S2048x128.size a ≤ S4096x128.size a) (w : S2048x128.Idx → EReal) :
    Pad v f ((⟨Rect.unit (s := S4096x128) ![1024, 0] S2048x128.size inb, w⟩ : View.Piece (Elt Ideal) S4096x128 .f32) :: L) k :=
  ⟨fun p q hp => (View.read_writes_cons_rows_of_not_mem (o := 1024) (W := 2048) v f inb w L (ix2 p q) rfl rfl (Or.inl hp)).trans (h.low p q hp)⟩

/-- The rows `n` earlier than the middle ones: the middle piece's own, and the padding before them. -/
theorem shifted (h : Pad v f L k) (inb : ∀ a : Fin 2, ![1024, 0] a + S2048x128.size a ≤ S4096x128.size a) {w : S2048x128.Idx → EReal}
    {g : Fin 128 → ℕ → EReal} (hw : Rep g w) (hg : ∀ q p, p < 1024 → g q p = k) {o n : ℕ} (ho : o + n = 1024)
    (inb' : ∀ a : Fin 2, ![o, 0] a + S2048x128.size a ≤ S4096x128.size a) (i : Fin 2048) (q : Fin 128) :
    v.readAt (Elt Ideal) (Rect.unit (s := S4096x128) ![o, 0] S2048x128.size inb').toLoadRect
      (v.writes (Elt Ideal) f ((⟨Rect.unit (s := S4096x128) ![1024, 0] S2048x128.size inb, w⟩ : View.Piece (Elt Ideal) S4096x128 .f32) :: L)) (ix2 i q)
      = g q (1024 + i.val - n) := by
  rw [View.readAt_apply]
  have hi := i.isLt
  have e : (Rect.unit (s := S4096x128) ![o, 0] S2048x128.size inb').toLoadRect.idx (ix2 i q) = ix2 (⟨o + i.val, by omega⟩ : Fin 4096) q := by
    funext a
    refine Fin.ext ?_
    match a with
    | ⟨0, _⟩ => show o + 1 * i.val = o + i.val; omega
    | ⟨1, _⟩ => show 0 + 1 * q.val = q.val; omega
  rw [e]
  by_cases hin : n ≤ i.val
  · rw [View.read_writes_cons_rows_of_mem (o := 1024) v f inb w L _ (ix2 (⟨i.val - n, by omega⟩ : Fin 2048) q) rfl
      (show o + i.val = 1024 + (i.val - n) by omega) rfl, hw, show 1024 + i.val - n = 1024 + (i.val - n) by omega]
  · rw [(h.cons inb w).low _ _ (show o + i.val < 1024 by omega), hg q _ (by omega)]

/-- The scan's two writes, as the kernel's body composes them. -/
def mul (x y : Vec Ideal S2048x128 .f32) : FVec Ideal S2048x128 .f32 := shapeCast S2048x128 (mulf x y) shapeCasts_S2048x128_S2048x128
def madd (x y z : Vec Ideal S2048x128 .f32) : FVec Ideal S2048x128 .f32 := shapeCast S2048x128 (addf (mulf x y) z) shapeCasts_S2048x128_S2048x128

theorem mul_apply (x y : Vec Ideal S2048x128 .f32) (i : Fin 2048) (q : Fin 128) : mul x y (ix2 i q) = x (ix2 i q) * y (ix2 i q) := by
  pointwise [mul]
theorem madd_apply (x y z : Vec Ideal S2048x128 .f32) (i : Fin 2048) (q : Fin 128) :
    madd x y z (ix2 i q) = x (ix2 i q) * y (ix2 i q) + z (ix2 i q) := by
  pointwise [madd]

variable {u : View sg κ sp S4096x128 .f32} {fu : u.ty.Contents (Elt Ideal)} {M : List (View.Piece (Elt Ideal) S4096x128 .f32)}
  {a b : Fin 128 → ℕ → EReal}

/-- The coefficients are in the unit interval and one on the padding, the addends zero there. -/
structure Coef (a b : Fin 128 → ℕ → EReal) : Prop where
  unit : ∀ q, Unit01 (a q)
  one : ∀ q p, p < 1024 → a q p = 1
  zero : ∀ q p, p < 1024 → b q p = 0

variable (n o : ℕ) {wa wb : S2048x128.Idx → EReal}
  {inb inb2 inb3 inb4 : ∀ a : Fin 2, ![1024, 0] a + S2048x128.size a ≤ S4096x128.size a} {inb' inb2' : ∀ a : Fin 2, ![o, 0] a + S2048x128.size a ≤ S4096x128.size a}

/-- The sums of `2 n` places from the products and sums of `n`. -/
theorem double_sum (hc : Coef a b) (ho : o + n = 1024) (h : Rep (fun q => P (a q) n) wa ∧ Rep (fun q => Q (a q) (b q) n) wb) (hu : Pad u fu M 0) :
    Rep (fun q => Q (a q) (b q) (n + n))
      (madd (v.readCov ((⟨Rect.unit (s := S4096x128) ![1024, 0] S2048x128.size inb, wa⟩ : View.Piece (Elt Ideal) S4096x128 .f32) :: L)
          (Rect.unit (s := S4096x128) ![1024, 0] S2048x128.size inb).toLoadRect)
        (u.readAt (Elt Ideal) (Rect.unit (s := S4096x128) ![o, 0] S2048x128.size inb').toLoadRect
          (u.writes (Elt Ideal) fu ((⟨Rect.unit (s := S4096x128) ![1024, 0] S2048x128.size inb2, wb⟩ : View.Piece (Elt Ideal) S4096x128 .f32) :: M)))
        (u.readCov ((⟨Rect.unit (s := S4096x128) ![1024, 0] S2048x128.size inb2, wb⟩ : View.Piece (Elt Ideal) S4096x128 .f32) :: M)
          (Rect.unit (s := S4096x128) ![1024, 0] S2048x128.size inb2).toLoadRect)) := fun i q => by
  rw [madd_apply, View.readCov_cons_toLoadRect, View.readCov_cons_toLoadRect,
    shifted hu inb2 h.2 (fun q p hp => Q_zero (hc.zero q) n p hp) ho inb' i q, h.1, h.2]
  exact (Q_add _ (hc.unit q) n n _).symm

/-- The products of `2 n` places from those of `n`. -/
theorem double_prod (hc : Coef a b) (ho : o + n = 1024) (h : Rep (fun q => P (a q) n) wa) (hv : Pad v f L 1) :
    Rep (fun q => P (a q) (n + n))
      (mul (v.readCov ((⟨Rect.unit (s := S4096x128) ![1024, 0] S2048x128.size inb, wa⟩ : View.Piece (Elt Ideal) S4096x128 .f32) :: L)
          (Rect.unit (s := S4096x128) ![1024, 0] S2048x128.size inb).toLoadRect)
        (v.readAt (Elt Ideal) (Rect.unit (s := S4096x128) ![o, 0] S2048x128.size inb').toLoadRect
          (v.writes (Elt Ideal) f ((⟨Rect.unit (s := S4096x128) ![1024, 0] S2048x128.size inb, wa⟩ : View.Piece (Elt Ideal) S4096x128 .f32) :: L)))) := fun i q => by
  rw [mul_apply, View.readCov_cons_toLoadRect,
    shifted hv inb h (fun q p hp => P_one (hc.one q) n p hp) ho inb' i q, h]
  exact (P_add n n _).symm

/-- One level of the scan. -/
theorem level (hc : Coef a b) (ho : o + n = 1024) (h : Rep (fun q => P (a q) n) wa ∧ Rep (fun q => Q (a q) (b q) n) wb)
    (hv : Pad v f L 1) (hu : Pad u fu M 0) :
    Rep (fun q => P (a q) (n + n))
      (mul (v.readCov ((⟨Rect.unit (s := S4096x128) ![1024, 0] S2048x128.size inb, wa⟩ : View.Piece (Elt Ideal) S4096x128 .f32) :: L)
          (Rect.unit (s := S4096x128) ![1024, 0] S2048x128.size inb).toLoadRect)
        (v.readAt (Elt Ideal) (Rect.unit (s := S4096x128) ![o, 0] S2048x128.size inb').toLoadRect
          (v.writes (Elt Ideal) f ((⟨Rect.unit (s := S4096x128) ![1024, 0] S2048x128.size inb, wa⟩ : View.Piece (Elt Ideal) S4096x128 .f32) :: L))))
    ∧ Rep (fun q => Q (a q) (b q) (n + n))
      (madd (v.readCov ((⟨Rect.unit (s := S4096x128) ![1024, 0] S2048x128.size inb, wa⟩ : View.Piece (Elt Ideal) S4096x128 .f32) :: L)
          (Rect.unit (s := S4096x128) ![1024, 0] S2048x128.size inb).toLoadRect)
        (u.readAt (Elt Ideal) (Rect.unit (s := S4096x128) ![o, 0] S2048x128.size inb').toLoadRect
          (u.writes (Elt Ideal) fu ((⟨Rect.unit (s := S4096x128) ![1024, 0] S2048x128.size inb2, wb⟩ : View.Piece (Elt Ideal) S4096x128 .f32) :: M)))
        (u.readCov ((⟨Rect.unit (s := S4096x128) ![1024, 0] S2048x128.size inb2, wb⟩ : View.Piece (Elt Ideal) S4096x128 .f32) :: M)
          (Rect.unit (s := S4096x128) ![1024, 0] S2048x128.size inb2).toLoadRect)) :=
  ⟨double_prod n o hc ho h.1 hv, double_sum n o hc ho h hu⟩

end Cert.LruScan

end
-- ==== Proof.LruCol.lean ====
/-
  One head of the recurrent branch: its convolution, gates, coefficients and state, as functions of its own columns; and
  the kernel's body before the scan as these functions.
-/
module

public import proofs.«01_k».proof.Proof.LruScan

@[expose] public section

set_option maxRecDepth 16384

noncomputable section

namespace Cert.LruCol

open Idealize.ShloMosaic Cert.LruFwdIdeal Cert.LruFwdIdeal.Gen Cert.LruMath Cert.LruScan

/-- What one head reads: its columns of the branch, the convolution's taps and bias, the two gates and the decay. -/
structure Head where
  U : Fin 2048 → Fin 128 → EReal
  W : Fin 4 → Fin 128 → EReal
  cb : Fin 128 → EReal
  wa : Fin 128 → Fin 128 → EReal
  ba : Fin 128 → EReal
  wx : Fin 128 → Fin 128 → EReal
  bx : Fin 128 → EReal
  lam : Fin 128 → EReal

variable (K : Head)

/-- The rows with eight zero rows before and after them. -/
def row (p : ℕ) (d : Fin 128) : EReal := if h : 8 ≤ p ∧ p < 2056 then K.U ⟨p - 8, by omega⟩ d else 0

def conv (s : ℕ) (d : Fin 128) : EReal :=
  row K (5 + s) d * K.W 0 d + row K (6 + s) d * K.W 1 d + row K (7 + s) d * K.W 2 d + row K (8 + s) d * K.W 3 d + K.cb d

/-- The logarithm of the coefficient of a place. -/
def loga (s : ℕ) (q : Fin 128) : EReal :=
  Ideal.ofBits .f32 0xC1000000#32 * Ideal.logistic ((∑ d, conv K s d * K.wa d q) + K.ba q) * softplusNeg (K.lam q)

/-- The addend of a place. -/
def addend (s : ℕ) (q : Fin 128) : EReal :=
  Ideal.sqrt (-Ideal.expm1 (((2 : ℝ) : EReal) * loga K s q)) * (Ideal.logistic ((∑ d, conv K s d * K.wx d q) + K.bx q) * conv K s q)

/-- The coefficients and addends, with 1024 places of padding before and after. -/
def A (q : Fin 128) (p : ℕ) : EReal := if 1024 ≤ p ∧ p < 3072 then Ideal.exp (loga K (p - 1024) q) else 1
def B (q : Fin 128) (p : ℕ) : EReal := if 1024 ≤ p ∧ p < 3072 then addend K (p - 1024) q else 0

theorem eight : Ideal.ofBits .f32 0xC1000000#32 = ((-8 : ℝ) : EReal) := by
  simp [Ideal.ofBits, Ideal.ieee]
  rw [← EReal.coe_mul]
  norm_num

theorem coef : Coef (A K) (B K) where
  unit := fun q p => by
    unfold A
    split
    · refine exp_nonpos ?_
      rw [loga, eight]
      exact log_nonpos _ (by norm_num) _ _
    · exact ⟨zero_le_one, le_refl _⟩
  one := fun q p hp => if_neg (by omega)
  zero := fun q p hp => if_neg (by omega)

/-- The state after place `s`. -/
def state (s : ℕ) (q : Fin 128) : EReal := H (A K q) (B K q) 1024 (s + 1)

theorem A_at (q : Fin 128) (s : ℕ) (hs : s < 2048) : A K q (1024 + s) = Ideal.exp (loga K s q) := by
  rw [A, if_pos (by omega), Nat.add_sub_cancel_left]
theorem B_at (q : Fin 128) (s : ℕ) (hs : s < 2048) : B K q (1024 + s) = addend K s q := by
  rw [B, if_pos (by omega), Nat.add_sub_cancel_left]

/-- The head `t` of a whole branch. -/
def headOf (p : Fin 2048 → Fin 5120 → EReal) (cw : Fin 4 → Fin 1280 → EReal) (cb : Fin 1280 → EReal) (wa : Fin 10 → Fin 128 → Fin 128 → EReal)
    (ba : Fin 10 → Fin 128 → EReal) (wx : Fin 10 → Fin 128 → Fin 128 → EReal) (bx : Fin 10 → Fin 128 → EReal) (lam : Fin 1280 → EReal) (t : Fin 10) : Head where
  U := fun i q => p i ⟨t.val * 128 + q.val + 512, by omega⟩
  W := fun k q => cw k ⟨t.val * 128 + q.val, by omega⟩
  cb := fun q => cb ⟨t.val * 128 + q.val, by omega⟩
  wa := wa t
  ba := ba t
  wx := wx t
  bx := bx t
  lam := fun q => lam ⟨t.val * 128 + q.val, by omega⟩

/-- A state times the gelu gate. -/
def gated (h g : EReal) : EReal :=
  h * (g * (Ideal.ofBits .f32 0x3F000000#32 * (1 + Ideal.tanh (Ideal.ofBits .f32 0x3F4C422A#32 * (g + Ideal.ofBits .f32 0x3D372713#32 * (g * (g * g)))))))

theorem gated_at (v : Vec Ideal S2048x128 .f32) (g : Vec Ideal S2048x128 .f32) (i : Fin 2048) (q : Fin 128) :
    k0_pay2 v g (ix2 i q) = gated (v (ix2 i q)) (g (ix2 i q)) := by
  pointwise [k0_pay2]
  rfl

/-! The convolution's scratch: eight zero rows, the branch's rows, eight zero rows. -/

section tap
variable {sg : RefSig} {κ : Kind} {sp : Space} {v : View sg κ sp S2064x128 .f32} {f : v.ty.Contents (Elt Ideal)}
  {L : List (View.Piece (Elt Ideal) S2064x128 .f32)}

/-- The first eight rows hold zero. -/
structure Low (v : View sg κ sp S2064x128 .f32) (f : v.ty.Contents (Elt Ideal)) (L : List (View.Piece (Elt Ideal) S2064x128 .f32)) : Prop where
  low : ∀ (p : Fin 2064) (q : Fin 128), p.val < 8 → v.read (Elt Ideal) (v.writes (Elt Ideal) f L) (ix2 p q) = 0

theorem Low.cons (h : Low v f L) (inb : ∀ a : Fin 2, ![8, 0] a + S2048x128.size a ≤ S2064x128.size a) (w : S2048x128.Idx → EReal) :
    Low v f ((⟨Rect.unit (s := S2064x128) ![8, 0] S2048x128.size inb, w⟩ : View.Piece (Elt Ideal) S2064x128 .f32) :: L) :=
  ⟨fun p q hp => (View.read_writes_cons_rows_of_not_mem (o := 8) (W := 2048) v f inb w L (ix2 p q) rfl rfl (Or.inl hp)).trans (h.low p q hp)⟩

variable {K}

theorem tap (h : Low v f L) (inb : ∀ a : Fin 2, ![8, 0] a + S2048x128.size a ≤ S2064x128.size a) {w : S2048x128.Idx → EReal}
    (hw : ∀ (i : Fin 2048) (q : Fin 128), w (ix2 i q) = K.U i q) {o : ℕ} (ho : o ≤ 8)
    (inb' : ∀ a : Fin 2, ![o, 0] a + S2048x128.size a ≤ S2064x128.size a) (i : Fin 2048) (q : Fin 128) :
    v.readAt (Elt Ideal) (Rect.unit (s := S2064x128) ![o, 0] S2048x128.size inb').toLoadRect
      (v.writes (Elt Ideal) f ((⟨Rect.unit (s := S2064x128) ![8, 0] S2048x128.size inb, w⟩ : View.Piece (Elt Ideal) S2064x128 .f32) :: L)) (ix2 i q)
      = row K (o + i.val) q := by
  rw [View.readAt_apply]
  have hi := i.isLt
  have e : (Rect.unit (s := S2064x128) ![o, 0] S2048x128.size inb').toLoadRect.idx (ix2 i q) = ix2 (⟨o + i.val, by omega⟩ : Fin 2064) q := by
    funext a
    refine Fin.ext ?_
    match a with
    | ⟨0, _⟩ => show o + 1 * i.val = o + i.val; omega
    | ⟨1, _⟩ => show 0 + 1 * q.val = q.val; omega
  rw [e, row]
  by_cases hin : 8 ≤ o + i.val
  · rw [dif_pos ⟨hin, by omega⟩, View.read_writes_cons_rows_of_mem (o := 8) v f inb w L _ (ix2 (⟨o + i.val - 8, by omega⟩ : Fin 2048) q) rfl
      (show o + i.val = 8 + (o + i.val - 8) by omega) rfl, hw]
  · rw [dif_neg (by omega)]
    exact (h.cons inb w).low _ _ (show o + i.val < 8 by omega)

end tap

/-- The loads of the kernel's body are the head's. -/
structure Loads (v5 : Vec Ideal S4x128 .f32) (v6 : Vec Ideal S1x128 .f32) (v8 : Vec Ideal S1x128x128 .f32) (v10 : Vec Ideal S1x1x128 .f32)
    (v12 : Vec Ideal S1x128x128 .f32) (v14 : Vec Ideal S1x1x128 .f32) (v16 : Vec Ideal S1x128 .f32) (t5 t6 t7 t8 : Vec Ideal S2048x128 .f32) : Prop where
  W : ∀ k q, v5 (ix2 k q) = K.W k q
  cb : ∀ q, v6 (ix2 0 q) = K.cb q
  wa : ∀ d q, v8 (ix3 0 d q) = K.wa d q
  ba : ∀ q, v10 (ix3 0 0 q) = K.ba q
  wx : ∀ d q, v12 (ix3 0 d q) = K.wx d q
  bx : ∀ q, v14 (ix3 0 0 q) = K.bx q
  lam : ∀ q, v16 (ix2 0 q) = K.lam q
  t5 : ∀ (i : Fin 2048) q, t5 (ix2 i q) = row K (5 + i.val) q
  t6 : ∀ (i : Fin 2048) q, t6 (ix2 i q) = row K (6 + i.val) q
  t7 : ∀ (i : Fin 2048) q, t7 (ix2 i q) = row K (7 + i.val) q
  t8 : ∀ (i : Fin 2048) q, t8 (ix2 i q) = row K (8 + i.val) q

variable {K} {v5 : Vec Ideal S4x128 .f32} {v6 : Vec Ideal S1x128 .f32} {v8 : Vec Ideal S1x128x128 .f32} {v10 : Vec Ideal S1x1x128 .f32}
    {v12 : Vec Ideal S1x128x128 .f32} {v14 : Vec Ideal S1x1x128 .f32} {v16 : Vec Ideal S1x128 .f32} {t5 t6 t7 t8 : Vec Ideal S2048x128 .f32}
  (h : Loads K v5 v6 v8 v10 v12 v14 v16 t5 t6 t7 t8)
include h

theorem conv_at (i : Fin 2048) (q : Fin 128) :
    k0_pay27 v5 (k0_pay18 v6) (k0_pay25 v5 t5) (k0_pay26 v5 t6) t7 t8 (ix2 i q) = conv K i.val q := by
  have e : k0_pay27 v5 (k0_pay18 v6) (k0_pay25 v5 t5) (k0_pay26 v5 t6) t7 t8 (ix2 i q)
      = t5 (ix2 i q) * v5 (ix2 0 q) + t6 (ix2 i q) * v5 (ix2 1 q) + t7 (ix2 i q) * v5 (ix2 2 q) + t8 (ix2 i q) * v5 (ix2 3 q) + v6 (ix2 0 q) := by
    pointwise [k0_pay27, k0_pay18, k0_pay25, k0_pay26]
  rw [e, h.t5, h.t6, h.t7, h.t8, h.W, h.W, h.W, h.W, h.cb]
  rfl

theorem gate_at (i : Fin 2048) (q : Fin 128) :
    k0_pay28 v5 (k0_pay18 v6) (k0_pay21 v12) (k0_pay22 v14) (k0_pay25 v5 t5) (k0_pay26 v5 t6) t7 t8 (ix2 i q)
      = Ideal.logistic ((∑ d, conv K i.val d * K.wx d q) + K.bx q) := by
  pointwise [k0_pay28, k0_pay21, k0_pay22, conv_at h]
  simp only [h.wx, h.bx]

theorem loga_at (i : Fin 2048) (q : Fin 128) :
    k0_pay29 v5 (k0_pay18 v6) (k0_pay19 v8) (k0_pay20 v10) (k0_pay23 v16) (k0_pay25 v5 t5) (k0_pay26 v5 t6) t7 t8 (ix2 i q)
      = loga K i.val q := by
  pointwise [k0_pay29, k0_pay19, k0_pay20, k0_pay23, conv_at h]
  simp only [ne_eq, not_true_eq_false, if_false, h.wa, h.ba, h.lam, zero_sub]
  rfl

theorem first_a (i : Fin 2048) (q : Fin 128) :
    k0_pay32 (k0_pay30 v5 (k0_pay18 v6) (k0_pay19 v8) (k0_pay20 v10) (k0_pay23 v16) (k0_pay25 v5 t5) (k0_pay26 v5 t6) t7 t8) (ix2 i q)
      = A K q (1024 + i.val) := by
  rw [A_at K q i.val i.isLt]
  pointwise [k0_pay32, k0_pay30, loga_at h]

theorem first_b (i : Fin 2048) (q : Fin 128) :
    k0_pay33 (k0_pay27 v5 (k0_pay18 v6) (k0_pay25 v5 t5) (k0_pay26 v5 t6) t7 t8)
        (k0_pay28 v5 (k0_pay18 v6) (k0_pay21 v12) (k0_pay22 v14) (k0_pay25 v5 t5) (k0_pay26 v5 t6) t7 t8)
        (k0_pay30 v5 (k0_pay18 v6) (k0_pay19 v8) (k0_pay20 v10) (k0_pay23 v16) (k0_pay25 v5 t5) (k0_pay26 v5 t6) t7 t8)
        (k0_pay31 v5 (k0_pay18 v6) (k0_pay19 v8) (k0_pay20 v10) (k0_pay23 v16) (k0_pay25 v5 t5) (k0_pay26 v5 t6) t7 t8) (ix2 i q)
      = B K q (1024 + i.val) := by
  rw [B_at K q i.val i.isLt, addend, ← tanh_form]
  pointwise [k0_pay33, k0_pay31, k0_pay30, loga_at h, conv_at h, gate_at h]

/-- The scan's first coefficients and addends. -/
theorem first : Rep (fun q => P (A K q) 1) (k0_pay32 (k0_pay30 v5 (k0_pay18 v6) (k0_pay19 v8) (k0_pay20 v10) (k0_pay23 v16) (k0_pay25 v5 t5) (k0_pay26 v5 t6) t7 t8))
    ∧ Rep (fun q => Q (A K q) (B K q) 1) (k0_pay33 (k0_pay27 v5 (k0_pay18 v6) (k0_pay25 v5 t5) (k0_pay26 v5 t6) t7 t8)
        (k0_pay28 v5 (k0_pay18 v6) (k0_pay21 v12) (k0_pay22 v14) (k0_pay25 v5 t5) (k0_pay26 v5 t6) t7 t8)
        (k0_pay30 v5 (k0_pay18 v6) (k0_pay19 v8) (k0_pay20 v10) (k0_pay23 v16) (k0_pay25 v5 t5) (k0_pay26 v5 t6) t7 t8)
        (k0_pay31 v5 (k0_pay18 v6) (k0_pay19 v8) (k0_pay20 v10) (k0_pay23 v16) (k0_pay25 v5 t5) (k0_pay26 v5 t6) t7 t8)) :=
  ⟨fun i q => (first_a h i q).trans (by simp [P]), fun i q => (first_b h i q).trans (by simp [P, Q])⟩

end Cert.LruCol

end
-- ==== Proof.LruKernel.lean ====
/-
  The recurrent branch's forward kernel: what its blocks hold, what a grid point writes, and its two results.
-/
module

public import proofs.«01_k».proof.Proof.LruCol
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.LruFwdIdeal.Value

open Cert.LruFwdIdeal Cert.LruFwdIdeal.Gen Cert.LruMath Cert.LruScan Cert.LruCol

variable (m : (ℓ : Loc nD τ sig) → Buf (Elt Ideal) ℓ) (c : Dev nD) (t : Fin cfg0.N)

theorem idx : ∀ t : Fin cfg0.N, win0_0.index t = ![0, t.val + 4] ∧ win0_1.index t = ![0, t.val + 14] ∧ win0_2.index t = ![0, t.val]
    ∧ win0_3.index t = ![0, t.val] ∧ win0_4.index t = ![t.val, 0, 0] ∧ win0_5.index t = ![t.val, 0, 0] ∧ win0_6.index t = ![t.val, 0, 0]
    ∧ win0_7.index t = ![t.val, 0, 0] ∧ win0_8.index t = ![0, t.val] ∧ win0_9.index t = ![0, t.val] ∧ win0_10.index t = ![0, t.val] :=
  (by decide +kernel : ∀ t : Fin grid0.N, _)

abbrev arg0 (i : Fin 2048) (f : Fin 5120) : EReal := m ((c.tc : Thread nD τ).loc main_arg0) (ix3 0 i f)
abbrev arg1 (k : Fin 4) (d : Fin 1280) : EReal := m ((c.tc : Thread nD τ).loc main_arg1) (ix2 k d)
abbrev arg2 (d : Fin 1280) : EReal := m ((c.tc : Thread nD τ).loc main_arg2) (ix1 d)
abbrev arg3 (h : Fin 10) (d q : Fin 128) : EReal := m ((c.tc : Thread nD τ).loc main_arg3) (ix3 h d q)
abbrev arg4 (h : Fin 10) (q : Fin 128) : EReal := m ((c.tc : Thread nD τ).loc main_arg4) (ix2 h q)
abbrev arg5 (h : Fin 10) (d q : Fin 128) : EReal := m ((c.tc : Thread nD τ).loc main_arg5) (ix3 h d q)
abbrev arg6 (h : Fin 10) (q : Fin 128) : EReal := m ((c.tc : Thread nD τ).loc main_arg6) (ix2 h q)
abbrev arg7 (d : Fin 1280) : EReal := m ((c.tc : Thread nD τ).loc main_arg7) (ix1 d)

/-- What head `t` reads. -/
def head (t : Fin 10) : Head := headOf (arg0 m c) (arg1 m c) (arg2 m c) (arg3 m c) (arg4 m c) (arg5 m c) (arg6 m c) (arg7 m c) t

theorem u_blk (i : Fin 2048) (q : Fin 128) : iblk m c 0 t (ix2 i q) = (head m c t).U i q := by
  have hN : t.val < 10 := t.isLt
  refine Eq.trans (b := arg0 m c i ⟨t.val * 128 + q.val + 512, by omega⟩) ?_ rfl
  blk_point [iblk, V, idx t]
theorem g_blk (i : Fin 2048) (q : Fin 128) (h : t.val * 128 + q.val + 1792 < 5120) :
    iblk m c 1 t (ix2 i q) = arg0 m c i ⟨t.val * 128 + q.val + 1792, h⟩ := by
  blk_point [iblk, V, idx t]
theorem cw_blk (k : Fin 4) (q : Fin 128) : iblk m c 2 t (ix2 k q) = (head m c t).W k q := by
  have hN : t.val < 10 := t.isLt
  refine Eq.trans (b := arg1 m c k ⟨t.val * 128 + q.val, by omega⟩) ?_ rfl
  blk_point [iblk, V, idx t]
theorem cb_blk (q : Fin 128) : iblk m c 3 t (ix2 0 q) = (head m c t).cb q := by
  have hN : t.val < 10 := t.isLt
  refine Eq.trans (b := arg2 m c ⟨t.val * 128 + q.val, by omega⟩) ?_ rfl
  blk_point [iblk, V, idx t]
theorem wa_blk (d q : Fin 128) : iblk m c 4 t (ix3 0 d q) = (head m c t).wa d q := by
  refine Eq.trans (b := arg3 m c t d q) ?_ rfl
  blk_point [iblk, V, idx t]
theorem ba_blk (q : Fin 128) : iblk m c 5 t (ix3 0 0 q) = (head m c t).ba q := by
  refine Eq.trans (b := arg4 m c t q) ?_ rfl
  blk_point [iblk, V, idx t]
theorem wx_blk (d q : Fin 128) : iblk m c 6 t (ix3 0 d q) = (head m c t).wx d q := by
  refine Eq.trans (b := arg5 m c t d q) ?_ rfl
  blk_point [iblk, V, idx t]
theorem bx_blk (q : Fin 128) : iblk m c 7 t (ix3 0 0 q) = (head m c t).bx q := by
  refine Eq.trans (b := arg6 m c t q) ?_ rfl
  blk_point [iblk, V, idx t]
theorem lam_blk (q : Fin 128) : iblk m c 8 t (ix2 0 q) = (head m c t).lam q := by
  have hN : t.val < 10 := t.isLt
  refine Eq.trans (b := arg7 m c ⟨t.val * 128 + q.val, by omega⟩) ?_ rfl
  blk_point [iblk, V, idx t]

end Cert.LruFwdIdeal.Value

end
-- ==== Proof.LruCases.lean ====
/-
  A grid point of the recurrent branch's forward kernel, at the first point (which writes the padding) and at the others.
-/
module

public import proofs.«01_k».proof.Proof.LruKernel

@[expose] public section

set_option maxRecDepth 16384

noncomputable section

open Idealize.ShloMosaic Idealize.ShloMosaic.TcCoe Idealize.SL.Sem
open Idealize.ShloMosaic.Pipeline (Dat)

namespace Cert.LruFwdIdeal.Value

open Cert.LruFwdIdeal Cert.LruFwdIdeal.Gen Cert.LruMath Cert.LruScan Cert.LruCol

variable (m : (ℓ : Loc nD τ sig) → Buf (Elt Ideal) ℓ) (c : Dev nD) (t : Fin cfg0.N)

/-- The two results' blocks and the five scratch buffers. -/
abbrev St := Vec Ideal S2048x128 .bf16 × Vec Ideal S2048x128 .f32 × Vec Ideal S2064x128 .f32 × Vec Ideal S4096x128 .f32 × Vec Ideal S4096x128 .f32 × Vec Ideal S4096x128 .f32 × Vec Ideal S4096x128 .f32

/-- The padding rows of the scratch buffers. -/
structure Pads (s : St) : Prop where
  conv : ∀ (p : Fin 2064) (q : Fin 128), p.val < 8 → s.2.2.1 (ix2 p q) = 0
  a1 : ∀ (p : Fin 4096) (q : Fin 128), p.val < 1024 → s.2.2.2.1 (ix2 p q) = 1
  a2 : ∀ (p : Fin 4096) (q : Fin 128), p.val < 1024 → s.2.2.2.2.1 (ix2 p q) = 1
  b1 : ∀ (p : Fin 4096) (q : Fin 128), p.val < 1024 → s.2.2.2.2.2.1 (ix2 p q) = 0
  b2 : ∀ (p : Fin 4096) (q : Fin 128), p.val < 1024 → s.2.2.2.2.2.2 (ix2 p q) = 0

/-- What holds after a grid point: its two results and the padding. -/
structure Good (K : Head) (g : Fin 2048 → Fin 128 → EReal) (s : St) : Prop where
  zl : ∀ i q, s.1 (ix2 i q) = gated (state K i.val q) (g i q)
  h : ∀ i q, s.2.1 (ix2 i q) = state K i.val q
  pads : Pads s

theorem pad_nil {mr : Memref sig .tc .vmem S4096x128 .f32} (h : mr.IsWhole) {x : Vec Ideal S4096x128 .f32} {k : EReal}
    (hx : ∀ (p : Fin 4096) (q : Fin 128), p.val < 1024 → x (ix2 p q) = k) : Pad mr.view (h.unread x) [] k :=
  ⟨fun p q hp => (congrFun (h.read_unread x) (ix2 p q)).trans (hx p q hp)⟩

theorem low_nil {mr : Memref sig .tc .vmem S2064x128 .f32} (h : mr.IsWhole) {x : Vec Ideal S2064x128 .f32}
    (hx : ∀ (p : Fin 2064) (q : Fin 128), p.val < 8 → x (ix2 p q) = 0) : Low mr.view (h.unread x) [] :=
  ⟨fun p q hp => (congrFun (h.read_unread x) (ix2 p q)).trans (hx p q hp)⟩

/-- A whole block read. -/
theorem load2 {d0 d1 : ℕ} {mr : Memref sig .tc .vmem ⟨2, ![d0, d1]⟩ .f32} (h : mr.IsWhole) (x : Vec Ideal ⟨2, ![d0, d1]⟩ .f32)
    (inb : ∀ a : Fin 2, ![0, 0] a + (⟨2, ![d0, d1]⟩ : Shape).size a ≤ (⟨2, ![d0, d1]⟩ : Shape).size a) :
    View.readAt (Elt Ideal) mr.view (Rect.unit (s := ⟨2, ![d0, d1]⟩) ![0, 0] (⟨2, ![d0, d1]⟩ : Shape).size inb).toLoadRect (h.unread x) = x := by
  have e := View.ld_unit_lit (Val := Elt Ideal) (S := ⟨2, ![d0, d1]⟩) (e := .f32) (off := ![0, 0]) inb x (by decide : ∀ a : Fin 2, (![0, 0] : Fin 2 → ℕ) a = 0)
  rw [← h.read_unread x] at e
  exact e.trans (h.read_unread x)

theorem load3 {d0 d1 d2 : ℕ} {mr : Memref sig .tc .vmem ⟨3, ![d0, d1, d2]⟩ .f32} (h : mr.IsWhole) (x : Vec Ideal ⟨3, ![d0, d1, d2]⟩ .f32)
    (inb : ∀ a : Fin 3, ![0, 0, 0] a + (⟨3, ![d0, d1, d2]⟩ : Shape).size a ≤ (⟨3, ![d0, d1, d2]⟩ : Shape).size a) :
    View.readAt (Elt Ideal) mr.view (Rect.unit (s := ⟨3, ![d0, d1, d2]⟩) ![0, 0, 0] (⟨3, ![d0, d1, d2]⟩ : Shape).size inb).toLoadRect (h.unread x) = x := by
  have e := View.ld_unit_lit (Val := Elt Ideal) (S := ⟨3, ![d0, d1, d2]⟩) (e := .f32) (off := ![0, 0, 0]) inb x (by decide : ∀ a : Fin 3, (![0, 0, 0] : Fin 3 → ℕ) a = 0)
  rw [← h.read_unread x] at e
  exact e.trans (h.read_unread x)

theorem u_pay (i : Fin 2048) (q : Fin 128) : k0_pay24 (iblk m c 0 t) (ix2 i q) = (head m c t).U i q := by
  pointwise [k0_pay24]
  exact u_blk m c t i q

/-! The padding the first point writes. -/

theorem pay4_at : ∀ i, k0_pay4 (F := Ideal) i = 0 := fun i => by idx_vars i; pointwise [k0_pay4, k0_pay3]
theorem pay7_at : ∀ i, k0_pay7 (F := Ideal) i = 1 := fun i => by idx_vars i; pointwise [k0_pay7, k0_pay6]
theorem pay10_at : ∀ i, k0_pay10 (F := Ideal) i = 1 := fun i => by idx_vars i; pointwise [k0_pay10, k0_pay9]
theorem pay13_at : ∀ i, k0_pay13 (F := Ideal) i = 0 := fun i => by idx_vars i; pointwise [k0_pay13, k0_pay12]
theorem pay16_at : ∀ i, k0_pay16 (k0_pay15 (F := Ideal)) i = 0 := fun i => by idx_vars i; pointwise [k0_pay16, k0_pay15]

theorem low_start {v : View sig .tc .vmem S2064x128 .f32} {f : v.ty.Contents (Elt Ideal)} {w : S8x128.Idx → EReal}
    (inb : ∀ a : Fin 2, ![2056, 0] a + S8x128.size a ≤ S2064x128.size a) (inb' : ∀ a : Fin 2, ![0, 0] a + S8x128.size a ≤ S2064x128.size a) :
    Low v f [⟨Rect.unit (s := S2064x128) ![2056, 0] S8x128.size inb, w⟩, ⟨Rect.unit (s := S2064x128) ![0, 0] S8x128.size inb', k0_pay4 (F := Ideal)⟩] :=
  ⟨fun p q hp => (View.read_writes_cons_rows_of_not_mem (o := 2056) (W := 8) v f inb w _ (ix2 p q) rfl rfl (Or.inl (by show p.val < 2056; omega))).trans
    ((View.read_writes_cons_rows_of_mem (o := 0) v f inb' (k0_pay4 (F := Ideal)) _ (ix2 p q) (ix2 (⟨p.val, hp⟩ : Fin 8) q) rfl (Nat.zero_add _).symm rfl).trans (pay4_at _))⟩

/-- At a point after the first: the state's block. -/
theorem h_B (h0 : ¬t.val % 10 = 0) (acc : St) (hp : Pads acc) (i : Fin 2048) (q : Fin 128) :
    (stAt0 m c t.val t.isLt acc).2.1 (ix2 i q) = state (head m c t) i.val q := by
  rw [stAt0_B m c t acc h0]
  refine Eq.trans ?_ (Q_eq_H ((coef (head m c t)).unit q) (o := 1024) (by decide) ((coef (head m c t)).zero q) i.val 2048 i.isLt)
  dsimp only
  unfold out0_B_10 kernelRun0_B
  dsimp only
  refine (View.read_writes_cons_rows_of_mem (o := 0) _ _ _ _ _ _ (ix2 i q) rfl (Nat.zero_add _).symm rfl).trans ?_
  unfold kernelRun0_B.sl.v229 kernelRun0_B.sl.HS4_6
  rw [View.readCov_cons_toLoadRect]
  refine (?_ : Rep (fun q => Q (A (head m c t) q) (B (head m c t) q) 2048) _) i q
  on_goal 1 => unfold kernelRun0_B.sl.r_15 kernelRun0_B.sl.v221 kernelRun0_B.sl.v222 kernelRun0_B.sl.v224 kernelRun0_B.sl.HS3_6 kernelRun0_B.sl.HS1_6
  on_goal 1 => refine double_sum 1024 0 (coef (head m c t)) rfl ?_ ?_
  on_goal 1 => unfold kernelRun0_B.sl.v208 kernelRun0_B.sl.v209 kernelRun0_B.sl.v211 kernelRun0_B.sl.v216 kernelRun0_B.sl.HS2_5 kernelRun0_B.sl.HS4_5
  on_goal 1 => refine level 512 512 (coef (head m c t)) rfl ?_ ?_ ?_
  on_goal 1 => unfold kernelRun0_B.sl.v195 kernelRun0_B.sl.v196 kernelRun0_B.sl.v198 kernelRun0_B.sl.v203 kernelRun0_B.sl.HS1_5 kernelRun0_B.sl.HS3_5
  on_goal 1 => refine level 256 768 (coef (head m c t)) rfl ?_ ?_ ?_
  on_goal 1 => unfold kernelRun0_B.sl.v182 kernelRun0_B.sl.v183 kernelRun0_B.sl.v185 kernelRun0_B.sl.v190 kernelRun0_B.sl.HS2_4 kernelRun0_B.sl.HS4_4
  on_goal 1 => refine level 128 896 (coef (head m c t)) rfl ?_ ?_ ?_
  on_goal 1 => unfold kernelRun0_B.sl.v169 kernelRun0_B.sl.v170 kernelRun0_B.sl.v172 kernelRun0_B.sl.v177 kernelRun0_B.sl.HS1_4 kernelRun0_B.sl.HS3_4
  on_goal 1 => refine level 64 960 (coef (head m c t)) rfl ?_ ?_ ?_
  on_goal 1 => unfold kernelRun0_B.sl.r_14 kernelRun0_B.sl.v156 kernelRun0_B.sl.v157 kernelRun0_B.sl.v159 kernelRun0_B.sl.v164 kernelRun0_B.sl.HS2_3 kernelRun0_B.sl.HS4_3
  on_goal 1 => refine level 32 992 (coef (head m c t)) rfl ?_ ?_ ?_
  on_goal 1 => unfold kernelRun0_B.sl.v143 kernelRun0_B.sl.v144 kernelRun0_B.sl.v146 kernelRun0_B.sl.v151 kernelRun0_B.sl.HS1_3 kernelRun0_B.sl.HS3_3
  on_goal 1 => refine level 16 1008 (coef (head m c t)) rfl ?_ ?_ ?_
  on_goal 1 => unfold kernelRun0_B.sl.v130 kernelRun0_B.sl.v131 kernelRun0_B.sl.v133 kernelRun0_B.sl.v138 kernelRun0_B.sl.HS2_2 kernelRun0_B.sl.HS4_2
  on_goal 1 => refine level 8 1016 (coef (head m c t)) rfl ?_ ?_ ?_
  on_goal 1 => unfold kernelRun0_B.sl.v117 kernelRun0_B.sl.v118 kernelRun0_B.sl.v120 kernelRun0_B.sl.v125 kernelRun0_B.sl.HS1_2 kernelRun0_B.sl.HS3_2
  on_goal 1 => refine level 4 1020 (coef (head m c t)) rfl ?_ ?_ ?_
  on_goal 1 => unfold kernelRun0_B.sl.r_13 kernelRun0_B.sl.v104 kernelRun0_B.sl.v105 kernelRun0_B.sl.v107 kernelRun0_B.sl.v112 kernelRun0_B.sl.HS2_1 kernelRun0_B.sl.HS4_1
  on_goal 1 => refine level 2 1022 (coef (head m c t)) rfl ?_ ?_ ?_
  on_goal 1 => unfold kernelRun0_B.sl.v91 kernelRun0_B.sl.v92 kernelRun0_B.sl.v94 kernelRun0_B.sl.v99 kernelRun0_B.sl.HS1_1 kernelRun0_B.sl.HS3_1
  on_goal 1 => refine level 1 1023 (coef (head m c t)) rfl ?_ ?_ ?_
  on_goal 1 =>
    unfold kernelRun0_B.sl.r_9 kernelRun0_B.sl.r_10 kernelRun0_B.sl.r_11 kernelRun0_B.sl.r_12 kernelRun0_B.sl.r_7 kernelRun0_B.sl.r_8 kernelRun0_B.sl.r_6 kernelRun0_B.sl.r_5 kernelRun0_B.sl.r_4 kernelRun0_B.sl.r_3 kernelRun0_B.sl.r_2 kernelRun0_B.sl.r_1 kernelRun0_B.sl.r kernelRun0_B.sl.v35 kernelRun0_B.sl.HS0_1
    have z := low_nil (Memref.isWhole_whole _ : scM0_0.IsWhole) hp.conv
    have u := fun (i : Fin 2048) (q : Fin 128) => (congrFun (congrArg k0_pay24 (load2 (hs0_0 t) (iblk m c 0 t) inb_S2048x128_S2048x128_0_0)) (ix2 i q)).trans (u_pay m c t i q)
    refine first (K := head m c t) ⟨fun k q => (congrFun (load2 _ _ _) _).trans (cw_blk m c t k q), fun q => (congrFun (load2 _ _ _) _).trans (cb_blk m c t q),
      fun d q => (congrFun (load3 _ _ _) _).trans (wa_blk m c t d q), fun q => (congrFun (load3 _ _ _) _).trans (ba_blk m c t q),
      fun d q => (congrFun (load3 _ _ _) _).trans (wx_blk m c t d q), fun q => (congrFun (load3 _ _ _) _).trans (bx_blk m c t q),
      fun q => (congrFun (load2 _ _ _) _).trans (lam_blk m c t q), fun i q => tap z _ u (by decide) _ i q, fun i q => tap z _ u (by decide) _ i q,
      fun i q => tap z _ u (by decide) _ i q, fun i q => ?_⟩
    rw [View.readCov_cons_toLoadRect, u, row, dif_pos ⟨Nat.le_add_right _ _, by omega⟩]
    exact congrArg (fun p => (head m c t).U p q) (Fin.ext (Nat.add_sub_cancel_left _ _).symm)
  all_goals repeat (first
    | exact pad_nil (Memref.isWhole_whole _ : scM0_1.IsWhole) hp.a1
    | exact pad_nil (Memref.isWhole_whole _ : scM0_2.IsWhole) hp.a2
    | exact pad_nil (Memref.isWhole_whole _ : scM0_3.IsWhole) hp.b1
    | exact pad_nil (Memref.isWhole_whole _ : scM0_4.IsWhole) hp.b2
    | refine Pad.cons ?_ _ _)

theorem zl_B (h0 : ¬t.val % 10 = 0) (acc : St) (i : Fin 2048) (q : Fin 128) :
    ∃ v : Vec Ideal S2048x128 .f32, (stAt0 m c t.val t.isLt acc).2.1 (ix2 i q) = v (ix2 i q)
      ∧ (stAt0 m c t.val t.isLt acc).1 (ix2 i q) = gated (v (ix2 i q)) (iblk m c 1 t (ix2 i q)) := by
  rw [stAt0_B m c t acc h0]
  dsimp only
  unfold out0_B_9 out0_B_10 kernelRun0_B
  dsimp only
  refine ⟨_, View.read_writes_cons_rows_of_mem (o := 0) _ _ _ _ _ _ (ix2 i q) rfl (Nat.zero_add _).symm rfl, ?_⟩
  refine (View.read_writes_cons_rows_of_mem (o := 0) _ _ _ _ _ _ (ix2 i q) rfl (Nat.zero_add _).symm rfl).trans ?_
  rw [gated_at, load2]

theorem pads_B (h0 : ¬t.val % 10 = 0) (acc : St) (hp : Pads acc) : Pads (stAt0 m c t.val t.isLt acc) := by
  rw [stAt0_B m c t acc h0]
  unfold sout0_B_0 sout0_B_1 sout0_B_2 sout0_B_3 sout0_B_4 kernelRun0_B
  refine ⟨?_, ?_, ?_, ?_, ?_⟩
  all_goals dsimp only
  on_goal 1 =>
    refine Low.low ?_
    unfold kernelRun0_B.sl.HS0_1
    exact Low.cons (low_nil (Memref.isWhole_whole _ : scM0_0.IsWhole) hp.conv) _ _
  all_goals refine Pad.low ?_
  all_goals repeat (first
    | exact pad_nil (Memref.isWhole_whole _ : scM0_1.IsWhole) hp.a1
    | exact pad_nil (Memref.isWhole_whole _ : scM0_2.IsWhole) hp.a2
    | exact pad_nil (Memref.isWhole_whole _ : scM0_3.IsWhole) hp.b1
    | exact pad_nil (Memref.isWhole_whole _ : scM0_4.IsWhole) hp.b2
    | refine Pad.cons ?_ _ _)

/-- At the first point: the state's block. -/
theorem h_A (h0 : t.val % 10 = 0) (acc : St) (i : Fin 2048) (q : Fin 128) :
    (stAt0 m c t.val t.isLt acc).2.1 (ix2 i q) = state (head m c t) i.val q := by
  rw [stAt0_A m c t acc h0]
  refine Eq.trans ?_ (Q_eq_H ((coef (head m c t)).unit q) (o := 1024) (by decide) ((coef (head m c t)).zero q) i.val 2048 i.isLt)
  dsimp only
  unfold out0_A_10 kernelRun0_A
  dsimp only
  refine (View.read_writes_cons_rows_of_mem (o := 0) _ _ _ _ _ _ (ix2 i q) rfl (Nat.zero_add _).symm rfl).trans ?_
  unfold kernelRun0_A.sl.v229 kernelRun0_A.sl.HS4_8
  rw [View.readCov_cons_toLoadRect]
  refine (?_ : Rep (fun q => Q (A (head m c t) q) (B (head m c t) q) 2048) _) i q
  on_goal 1 => unfold kernelRun0_A.sl.r_15 kernelRun0_A.sl.v221 kernelRun0_A.sl.v222 kernelRun0_A.sl.v224 kernelRun0_A.sl.HS3_8 kernelRun0_A.sl.HS1_8
  on_goal 1 => refine double_sum 1024 0 (coef (head m c t)) rfl ?_ ?_
  on_goal 1 => unfold kernelRun0_A.sl.v208 kernelRun0_A.sl.v209 kernelRun0_A.sl.v211 kernelRun0_A.sl.v216 kernelRun0_A.sl.HS2_7 kernelRun0_A.sl.HS4_7
  on_goal 1 => refine level 512 512 (coef (head m c t)) rfl ?_ ?_ ?_
  on_goal 1 => unfold kernelRun0_A.sl.v195 kernelRun0_A.sl.v196 kernelRun0_A.sl.v198 kernelRun0_A.sl.v203 kernelRun0_A.sl.HS1_7 kernelRun0_A.sl.HS3_7
  on_goal 1 => refine level 256 768 (coef (head m c t)) rfl ?_ ?_ ?_
  on_goal 1 => unfold kernelRun0_A.sl.v182 kernelRun0_A.sl.v183 kernelRun0_A.sl.v185 kernelRun0_A.sl.v190 kernelRun0_A.sl.HS2_6 kernelRun0_A.sl.HS4_6
  on_goal 1 => refine level 128 896 (coef (head m c t)) rfl ?_ ?_ ?_
  on_goal 1 => unfold kernelRun0_A.sl.v169 kernelRun0_A.sl.v170 kernelRun0_A.sl.v172 kernelRun0_A.sl.v177 kernelRun0_A.sl.HS1_6 kernelRun0_A.sl.HS3_6
  on_goal 1 => refine level 64 960 (coef (head m c t)) rfl ?_ ?_ ?_
  on_goal 1 => unfold kernelRun0_A.sl.r_14 kernelRun0_A.sl.v156 kernelRun0_A.sl.v157 kernelRun0_A.sl.v159 kernelRun0_A.sl.v164 kernelRun0_A.sl.HS2_5 kernelRun0_A.sl.HS4_5
  on_goal 1 => refine level 32 992 (coef (head m c t)) rfl ?_ ?_ ?_
  on_goal 1 => unfold kernelRun0_A.sl.v143 kernelRun0_A.sl.v144 kernelRun0_A.sl.v146 kernelRun0_A.sl.v151 kernelRun0_A.sl.HS1_5 kernelRun0_A.sl.HS3_5
  on_goal 1 => refine level 16 1008 (coef (head m c t)) rfl ?_ ?_ ?_
  on_goal 1 => unfold kernelRun0_A.sl.v130 kernelRun0_A.sl.v131 kernelRun0_A.sl.v133 kernelRun0_A.sl.v138 kernelRun0_A.sl.HS2_4 kernelRun0_A.sl.HS4_4
  on_goal 1 => refine level 8 1016 (coef (head m c t)) rfl ?_ ?_ ?_
  on_goal 1 => unfold kernelRun0_A.sl.v117 kernelRun0_A.sl.v118 kernelRun0_A.sl.v120 kernelRun0_A.sl.v125 kernelRun0_A.sl.HS1_4 kernelRun0_A.sl.HS3_4
  on_goal 1 => refine level 4 1020 (coef (head m c t)) rfl ?_ ?_ ?_
  on_goal 1 => unfold kernelRun0_A.sl.r_13 kernelRun0_A.sl.v104 kernelRun0_A.sl.v105 kernelRun0_A.sl.v107 kernelRun0_A.sl.v112 kernelRun0_A.sl.HS2_3 kernelRun0_A.sl.HS4_3
  on_goal 1 => refine level 2 1022 (coef (head m c t)) rfl ?_ ?_ ?_
  on_goal 1 => unfold kernelRun0_A.sl.v91 kernelRun0_A.sl.v92 kernelRun0_A.sl.v94 kernelRun0_A.sl.v99 kernelRun0_A.sl.HS1_3 kernelRun0_A.sl.HS3_3
  on_goal 1 => refine level 1 1023 (coef (head m c t)) rfl ?_ ?_ ?_
  on_goal 1 =>
    unfold kernelRun0_A.sl.r_9 kernelRun0_A.sl.r_10 kernelRun0_A.sl.r_11 kernelRun0_A.sl.r_12 kernelRun0_A.sl.r_7 kernelRun0_A.sl.r_8 kernelRun0_A.sl.r_6 kernelRun0_A.sl.r_5 kernelRun0_A.sl.r_4 kernelRun0_A.sl.r_3 kernelRun0_A.sl.r_2 kernelRun0_A.sl.r_1 kernelRun0_A.sl.r kernelRun0_A.sl.v35 kernelRun0_A.sl.v21 kernelRun0_A.sl.v25 kernelRun0_A.sl.v30 kernelRun0_A.sl.HS0_3
    have u := fun (i : Fin 2048) (q : Fin 128) => (congrFun (congrArg k0_pay24 (load2 (hs0_0 t) (iblk m c 0 t) inb_S2048x128_S2048x128_0_0)) (ix2 i q)).trans (u_pay m c t i q)
    refine first (K := head m c t) ⟨fun k q => (congrFun (load2 _ _ _) _).trans (cw_blk m c t k q), fun q => (congrFun (load2 _ _ _) _).trans (cb_blk m c t q),
      fun d q => (congrFun (load3 _ _ _) _).trans (wa_blk m c t d q), fun q => (congrFun (load3 _ _ _) _).trans (ba_blk m c t q),
      fun d q => (congrFun (load3 _ _ _) _).trans (wx_blk m c t d q), fun q => (congrFun (load3 _ _ _) _).trans (bx_blk m c t q),
      fun q => (congrFun (load2 _ _ _) _).trans (lam_blk m c t q), fun i q => tap (low_start _ _) _ u (by decide) _ i q, fun i q => tap (low_start _ _) _ u (by decide) _ i q,
      fun i q => tap (low_start _ _) _ u (by decide) _ i q, fun i q => ?_⟩
    rw [View.readCov_cons_toLoadRect, u, row, dif_pos ⟨Nat.le_add_right _ _, by omega⟩]
    exact congrArg (fun p => (head m c t).U p q) (Fin.ext (Nat.add_sub_cancel_left _ _).symm)
  all_goals repeat (first
    | exact Pad.start pay7_at _ _
    | exact Pad.start pay10_at _ _
    | exact Pad.start pay13_at _ _
    | exact Pad.start pay16_at _ _
    | refine Pad.cons ?_ _ _)

theorem zl_A (h0 : t.val % 10 = 0) (acc : St) (i : Fin 2048) (q : Fin 128) :
    ∃ v : Vec Ideal S2048x128 .f32, (stAt0 m c t.val t.isLt acc).2.1 (ix2 i q) = v (ix2 i q)
      ∧ (stAt0 m c t.val t.isLt acc).1 (ix2 i q) = gated (v (ix2 i q)) (iblk m c 1 t (ix2 i q)) := by
  rw [stAt0_A m c t acc h0]
  dsimp only
  unfold out0_A_9 out0_A_10 kernelRun0_A
  dsimp only
  refine ⟨_, View.read_writes_cons_rows_of_mem (o := 0) _ _ _ _ _ _ (ix2 i q) rfl (Nat.zero_add _).symm rfl, ?_⟩
  refine (View.read_writes_cons_rows_of_mem (o := 0) _ _ _ _ _ _ (ix2 i q) rfl (Nat.zero_add _).symm rfl).trans ?_
  rw [gated_at, load2]

theorem pads_A (h0 : t.val % 10 = 0) (acc : St) : Pads (stAt0 m c t.val t.isLt acc) := by
  rw [stAt0_A m c t acc h0]
  unfold sout0_A_0 sout0_A_1 sout0_A_2 sout0_A_3 sout0_A_4 kernelRun0_A
  refine ⟨?_, ?_, ?_, ?_, ?_⟩
  all_goals dsimp only
  on_goal 1 =>
    refine Low.low ?_
    unfold kernelRun0_A.sl.HS0_3
    exact Low.cons (low_start _ _) _ _
  all_goals refine Pad.low ?_
  all_goals repeat (first
    | exact Pad.start pay7_at _ _
    | exact Pad.start pay10_at _ _
    | exact Pad.start pay13_at _ _
    | exact Pad.start pay16_at _ _
    | refine Pad.cons ?_ _ _)

theorem gated_of {x : S2048x128.Idx} {z h s g : EReal} (e : ∃ v : Vec Ideal S2048x128 .f32, h = v x ∧ z = gated (v x) g) (hs : h = s) : z = gated s g := by
  obtain ⟨v, e1, e2⟩ := e
  rw [e2, ← e1, hs]

/-- Every point leaves its head's results. -/
theorem good : ∀ (n : ℕ) (hn : n < cfg0.N), Good (head m c ⟨n, hn⟩) (fun i q => iblk m c 1 ⟨n, hn⟩ (ix2 i q)) (outsAt0 m c n hn)
  | 0, hn => by
    rw [outsAt0_zero m c hn]
    exact ⟨fun i q => gated_of (zl_A m c ⟨0, hn⟩ (Nat.zero_mod _) _ i q) (h_A m c ⟨0, hn⟩ (Nat.zero_mod _) _ i q), h_A m c ⟨0, hn⟩ (Nat.zero_mod _) _,
      pads_A m c ⟨0, hn⟩ (Nat.zero_mod _) _⟩
  | n + 1, hn => by
    have hN : n + 1 < 10 := hn
    have h0 : ¬(⟨n + 1, hn⟩ : Fin cfg0.N).val % 10 = 0 := by show ¬(n + 1) % 10 = 0; omega
    have hp := (good n (Nat.lt_of_succ_lt hn)).pads
    rw [outsAt0_succ m c n hn]
    exact ⟨fun i q => gated_of (zl_B m c ⟨n + 1, hn⟩ h0 _ i q) (h_B m c ⟨n + 1, hn⟩ h0 _ hp i q), h_B m c ⟨n + 1, hn⟩ h0 _ hp,
      pads_B m c ⟨n + 1, hn⟩ h0 _ hp⟩

end Cert.LruFwdIdeal.Value

end
-- ==== Proof.LruRun.lean ====
/-
  The run of the recurrent branch's reference: its loop carries a state from place to place, and its results are read off the
  state after the last place.
-/
module

public import proofs.«01_k».proof.Proof.Gen.LruFwdRefIdeal.Run
public import proofs.«01_k».proof.Proof.Gen.LruFwdRefIdeal.Step
public import Idealize.ShloMosaic.Lib.Pointwise

@[expose] public section

set_option maxRecDepth 16384

noncomputable section

open Idealize.ShloMosaic Idealize.ShloMosaic.TcCoe Idealize.SL.Sem Idealize.ShloMosaic.StableHlo

namespace Cert.LruFwdRefIdeal.Value

open Cert.LruFwdRefIdeal Cert.LruFwdRefIdeal.Gen Cert.LruFwdRefIdeal.Step

/-- What the buffers hold before a trip, as a state and the trip's number. -/
structure On (V : Valuation τ sig (Elt Ideal)) (s : State Ideal) (j : ℕ) : Prop where
  carry : V (Proc.devRef .tc main_v78_3) = s.main_v78_3
  rows : V (Proc.devRef .tc main_v78_4) = s.main_v78_4
  a : V (Proc.devRef .tc main_v78_0) = s.main_v78_0
  b : V (Proc.devRef .tc main_v78_1) = s.main_v78_1
  trip : V (Proc.devRef .tc main_v78_2) = constantI S_ 32 (BitVec.ofNat 32 j)

theorem On.next {V : Valuation τ sig (Elt Ideal)} {s : State Ideal} {j : ℕ} (h : On V s j) : On (STEP V) (step j s) (j + 1) where
  a := (STEP_main_v78_0 V).trans h.a
  b := (STEP_main_v78_1 V).trans h.b
  carry := (STEP_main_v78_3 V).trans (by
    unfold step_main_v78_3 res_main_while0b_v101
    rw [h.carry, h.a, h.b, h.trip]
    rfl)
  rows := (STEP_main_v78_4 V).trans (by
    unfold step_main_v78_4 res_main_while0b_v101
    rw [h.carry, h.rows, h.a, h.b, h.trip]
    rfl)
  trip := (STEP_main_v78_2 V).trans (by
    unfold step_main_v78_2
    rw [h.trip]
    exact funext fun i => (show BitVec.ofNat 32 j + 1#32 = BitVec.ofNat 32 (j + 1) by rw [BitVec.ofNat_add]))

section states
variable (x0 : (⟨S1x2048x5120, .f32⟩ : BufTy).Contents (Elt Ideal)) (x1 : (⟨S4x1280, .f32⟩ : BufTy).Contents (Elt Ideal))
  (x2 : (⟨S1280, .f32⟩ : BufTy).Contents (Elt Ideal)) (x3 : (⟨S10x128x128, .f32⟩ : BufTy).Contents (Elt Ideal))
  (x4 : (⟨S10x128, .f32⟩ : BufTy).Contents (Elt Ideal)) (x5 : (⟨S10x128x128, .f32⟩ : BufTy).Contents (Elt Ideal))
  (x6 : (⟨S10x128, .f32⟩ : BufTy).Contents (Elt Ideal)) (x7 : (⟨S1280, .f32⟩ : BufTy).Contents (Elt Ideal))

/-- The state after `n` trips. -/
def states : ℕ → State Ideal
  | 0 => init x0 x1 x2 x3 x4 x5 x6 x7
  | n + 1 => step n (states n)

end states

variable (m : (ℓ : Loc nD τ sig) → Buf (Elt Ideal) ℓ) (c : Dev nD)

/-- The same, of the arguments a memory holds. -/
abbrev statesOf : ℕ → State Ideal :=
  states (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))

set_option maxRecDepth 65536 in
set_option maxHeartbeats 500000 in
theorem on_states : ∀ n, On (STEP^[n] (entryContents preI m c)) (statesOf m c n) n
  | 0 => by
    refine ⟨?_, ?_, ?_, ?_, ?_⟩
    all_goals rw [Function.iterate_zero, id_eq]
    all_goals simp only [entryContents, afterL_cons, afterL_nil]
    all_goals after_reads_simp
    all_goals rfl
  | n + 1 => by
    rw [Function.iterate_succ_apply']
    exact (on_states n).next

/-- The results after the last trip; the arguments end unchanged. -/
theorem run_states (ρ : Dev nD → PrngReg) :
    θ_run (defs (F := Ideal)) (onTc (τ := τ) (main (F := Ideal))) ⟨m, fun _ => 0, ρ⟩ fun r => ∀ c : Dev nD,
      r.2.mem ((c.tc : Thread nD τ).loc main_v96) = R_main_v96 (states (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) 2048) (m ((c.tc : Thread nD τ).loc main_arg0))
      ∧ r.2.mem ((c.tc : Thread nD τ).loc main_v97) = R_main_v97 (states (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) 2048)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun _ h c => ?_) (run m ρ)
  obtain ⟨z, s, rest⟩ := h c
  have o := on_states m c 2048
  refine ⟨z.trans ?_, s.trans ?_, rest⟩
  · unfold out_main_v96
    rw [o.rows, iter_main_arg0 m c 2048]
    rfl
  · unfold out_main_v97
    rw [o.rows]
    rfl

end Cert.LruFwdRefIdeal.Value

end
-- ==== Proof.LruRef.lean ====
/-
  The recurrent branch's reference: its coefficients and addends are those of the heads, and its loop over the places, which
  carries one state for all channels, leaves the heads' states.
-/
module

public import proofs.«01_k».proof.Proof.LruCol
public import proofs.«01_k».proof.Proof.LruRun
public import Idealize.ShloMosaic.Lib.WordCmp
public import Idealize.ShloMosaic.Lib.Pointwise

@[expose] public section

set_option maxRecDepth 16384

noncomputable section

open Idealize.ShloMosaic Idealize.ShloMosaic.TcCoe Idealize.SL.Sem

namespace Cert.LruCol

/-- The head of a channel and the channel's place in it. -/
def headNo (k : Fin 1280) : Fin 10 := ⟨k.val / 128, by omega⟩
def lane (k : Fin 1280) : Fin 128 := ⟨k.val % 128, by omega⟩

theorem headNo_at (t : Fin 10) (q : Fin 128) (h : t.val * 128 + q.val < 1280) : headNo ⟨t.val * 128 + q.val, h⟩ = t :=
  Fin.ext (by show (t.val * 128 + q.val) / 128 = t.val; omega)
theorem lane_at (t : Fin 10) (q : Fin 128) (h : t.val * 128 + q.val < 1280) : lane ⟨t.val * 128 + q.val, h⟩ = q :=
  Fin.ext (by show (t.val * 128 + q.val) % 128 = q.val; omega)

/-- A channel from its head and place. -/
def chan (t : Fin 10) (q : Fin 128) : Fin 1280 := ⟨t.val * 128 + q.val, by omega⟩
theorem chan_eq (k : Fin 1280) : chan (headNo k) (lane k) = k := Fin.ext (by show k.val / 128 * 128 + k.val % 128 = k.val; omega)

end Cert.LruCol

namespace Cert.LruFwdRefIdeal.Value

open Idealize.ShloMosaic.WordCmp Cert.LruFwdRefIdeal Cert.LruFwdRefIdeal.Gen Cert.LruFwdRefIdeal.Step Cert.LruMath Cert.LruCol

variable (x0 : (⟨S1x2048x5120, .f32⟩ : BufTy).Contents (Elt Ideal)) (x1 : (⟨S4x1280, .f32⟩ : BufTy).Contents (Elt Ideal))
  (x2 : (⟨S1280, .f32⟩ : BufTy).Contents (Elt Ideal)) (x3 : (⟨S10x128x128, .f32⟩ : BufTy).Contents (Elt Ideal))
  (x4 : (⟨S10x128, .f32⟩ : BufTy).Contents (Elt Ideal)) (x5 : (⟨S10x128x128, .f32⟩ : BufTy).Contents (Elt Ideal))
  (x6 : (⟨S10x128, .f32⟩ : BufTy).Contents (Elt Ideal)) (x7 : (⟨S1280, .f32⟩ : BufTy).Contents (Elt Ideal))

/-- What head `t` of the reference's arguments reads. -/
def headR (t : Fin 10) : Head :=
  headOf (fun i f => x0 (ix3 0 i f)) (fun k d => x1 (ix2 k d)) (fun d => x2 (ix1 d)) (fun h d q => x3 (ix3 h d q)) (fun h q => x4 (ix2 h q))
    (fun h d q => x5 (ix3 h d q)) (fun h q => x6 (ix2 h q)) (fun d => x7 (ix1 d)) t

local notation "KR" => headR x0 x1 x2 x3 x4 x5 x6 x7

variable (t : Fin 10) (q : Fin 128)

theorem div_chan (h : (chan t q).val / 128 < 10) : (⟨(chan t q).val / 128, h⟩ : Fin 10) = t := headNo_at t q _
theorem mod_chan (h : (chan t q).val % 128 < 128) : (⟨(chan t q).val % 128, h⟩ : Fin 128) = q := lane_at t q _
theorem chan_of (x : Fin 128) (h : (chan t q).val / 128 * 128 + x.val < 1280) : (⟨(chan t q).val / 128 * 128 + x.val, h⟩ : Fin 1280) = chan t x :=
  Fin.ext (by show (t.val * 128 + q.val) / 128 * 128 + x.val = t.val * 128 + x.val; omega)

/-- The branch with three zero rows before it. -/
theorem v1_at (p : Fin 2051) : A_main_v1 (F := Ideal) x0 x1 x2 x3 x4 x5 x6 x7 (ix3 0 p (chan t q)) = row (KR t) (5 + p.val) q := by
  pointwise [A_main_v1, A_main_v0, K_main_call0_v0, K_main_c]
  rw [row]
  by_cases hp : 3 ≤ p.val
  · rw [dif_pos ⟨hp, by omega⟩, dif_pos ⟨by omega, by omega⟩]
    refine congrArg₂ (fun a b => x0 (ix3 0 a b)) (Fin.ext (by show p.val - 3 = 5 + p.val - 8; omega)) (Fin.ext ?_)
    show 512 + (t.val * 128 + q.val) = t.val * 128 + q.val + 512
    omega
  · rw [dif_neg (by omega), dif_neg (by omega)]
    show (((0#32 : BitVec 32).toInt : ℝ) : EReal) = 0
    simp

theorem v33_at (i : Fin 2048) : A_main_v33 (F := Ideal) x0 x1 x2 x3 x4 x5 x6 x7 (ix3 0 i (chan t q)) = conv (KR t) i.val q := by
  pointwise [A_main_v33, A_main_v32, A_main_v31, A_main_v30, A_main_v29, A_main_v28, A_main_v27, A_main_v26, A_main_v25, A_main_v24, A_main_v23, A_main_v22, A_main_v21,
    A_main_v20, A_main_v19, A_main_v18, A_main_v17, A_main_v16, A_main_v15, A_main_v14, A_main_v13, A_main_v12, A_main_v11, A_main_v10, A_main_v9, A_main_v7, A_main_v6,
    A_main_v5, A_main_v4, A_main_v3, A_main_v2, K_main_v8, K_main_cst]
  simp only [v1_at, ← Nat.add_assoc]
  rfl

/-- The two gates. -/
theorem v46_at (i : Fin 2048) : A_main_v46 (F := Ideal) x0 x1 x2 x3 x4 x5 x6 x7 (ix3 0 i (chan t q))
    = Ideal.logistic ((∑ d, conv (KR t) i.val d * (KR t).wa d q) + (KR t).ba q) := by
  pointwise [A_main_v46, A_main_v45, A_main_v43, A_main_v41, A_main_v40, A_main_v39, A_main_v38, A_main_v37, A_main_v36, A_main_v35, A_main_v34, K_main_v42, K_main_cst_0, K_main_v44, K_main_cst_1]
  simp only [div_chan, mod_chan, chan_of, v33_at, mul_comm (x3 _)]
  rfl

theorem v58_at (i : Fin 2048) : A_main_v58 (F := Ideal) x0 x1 x2 x3 x4 x5 x6 x7 (ix3 0 i (chan t q))
    = Ideal.logistic ((∑ d, conv (KR t) i.val d * (KR t).wx d q) + (KR t).bx q) := by
  pointwise [A_main_v58, A_main_v57, A_main_v55, A_main_v53, A_main_v52, A_main_v51, A_main_v50, A_main_v49, A_main_v48, A_main_v47, A_main_v34, K_main_v54, K_main_cst_2, K_main_v56, K_main_cst_3]
  simp only [div_chan, mod_chan, chan_of, v33_at, mul_comm (x5 _)]
  rfl

theorem v62_at (k : Fin 1280) : A_main_v62 (F := Ideal) x0 x1 x2 x3 x4 x5 x6 x7 (ix1 k) = softplusNeg (x7 (ix1 k)) := by
  pointwise [A_main_v62, A_main_call1_v1, A_main_call1_v3, A_main_call1_v4, A_main_call1_v6, A_main_call1_v7, A_main_call1_v8, A_main_call1_v9, A_main_call1_v10, A_main_call1_v11,
    A_main_v61, K_main_call1_v0, K_main_call1_v2, K_main_call1_v5, K_main_call1_cst]
  rw [if_neg (fun h => h rfl)]
  rfl

theorem v65_at (i : Fin 2048) : A_main_v65 (F := Ideal) x0 x1 x2 x3 x4 x5 x6 x7 (ix3 0 i (chan t q)) = loga (KR t) i.val q := by
  pointwise [A_main_v65, A_main_v64, A_main_v63, A_main_v60, K_main_v59, K_main_cst_4, v46_at, v62_at]
  rfl

theorem two : Ideal.ofBits .f32 0x40000000#32 = ((2 : ℝ) : EReal) := by
  simp [Ideal.ofBits, Ideal.ieee]
  rw [← EReal.coe_mul]
  norm_num

/-- The coefficients and the addends the loop reads. -/
theorem a_at (i : Fin 2048) : A_main_v75 (F := Ideal) x0 x1 x2 x3 x4 x5 x6 x7 (ix3 i 0 (chan t q)) = A (KR t) q (1024 + i.val) := by
  rw [A_at _ q i.val i.isLt]
  pointwise [A_main_v75, A_main_v66, v65_at]

theorem b_at (i : Fin 2048) : A_main_v76 (F := Ideal) x0 x1 x2 x3 x4 x5 x6 x7 (ix3 i 0 (chan t q)) = B (KR t) q (1024 + i.val) := by
  rw [B_at _ q i.val i.isLt, addend, ← two]
  pointwise [A_main_v76, A_main_v73, A_main_v72, A_main_v71, A_main_v70, A_main_v69, A_main_v68, K_main_v67, K_main_cst_5, v65_at, v58_at, v33_at]
  rfl

section trip
variable (j : ℕ) (hj : j < 2048) (s : State Ideal) (k : Fin 1280)
include hj

theorem inside : S2048x1x1280.Slices ![j, 0, 0] S1x1x1280 :=
  ⟨rfl, fun a => match a with
    | ⟨0, _⟩ => (show j + 1 ≤ 2048 by omega)
    | ⟨1, _⟩ => (show 0 + 1 ≤ 1 by omega)
    | ⟨2, _⟩ => (show 0 + 1280 ≤ 1280 by omega)⟩

/-- Trip `j` reads row `j`. -/
theorem row_read (x : Vec Ideal S2048x1x1280 .f32) (start : Fin 3 → ℤ) (e : ∀ a : Fin 3, start a = ((![j, 0, 0] : Fin 3 → ℕ) a : ℤ)) :
    shapeCast S1x1280 (Host.dynamicSlice S1x1x1280 x start sliceFits_S2048x1x1280_S1x1x1280) shapeCasts_S1x1x1280_S1x1280 (ix2 0 k) = x (ix3 ⟨j, hj⟩ 0 k) := by
  rw [dynamicSlice_eq_extract _ _ _ _ ![j, 0, 0] (inside j hj) e]
  pointwise []

theorem start_at (a : Fin 3) : ((![(constantI S_ 32 (BitVec.ofNat 32 j) : (⟨S_, .i32⟩ : BufTy).Contents (Elt Ideal)), constantI S_ 32 0#32, constantI S_ 32 0#32] : Fin 3 → (⟨S_, .i32⟩ : BufTy).Contents (Elt Ideal)) a (Shape.Idx.first h_S_)).toInt
    = ((![j, 0, 0] : Fin 3 → ℕ) a : ℤ) :=
  match a with
  | ⟨0, _⟩ => toInt_ofNat_of_lt (w := 32) (show j < 2 ^ 31 by omega)
  | ⟨1, _⟩ => rfl
  | ⟨2, _⟩ => rfl

/-- The carry after trip `j`, and the rows: row `j` is the carry, the others stay. -/
theorem carry_at : b9 j s (ix2 0 k) = s.main_v78_0 (ix3 ⟨j, hj⟩ 0 k) * s.main_v78_3 (ix2 0 k) + s.main_v78_1 (ix3 ⟨j, hj⟩ 0 k) := by
  have ea := row_read j hj k s.main_v78_0 _ (start_at j hj)
  have eb := row_read j hj k s.main_v78_1 _ (start_at j hj)
  exact congrArg₂ (fun a b => a * s.main_v78_3 (ix2 0 k) + b) ea eb

theorem rows_at (i : Fin 2048) : b13 j s (ix3 i 0 k) = if i.val = j then b9 j s (ix2 0 k) else s.main_v78_4 (ix3 i 0 k) := by
  unfold b13
  refine (congrFun (dynamicUpdateSlice_eq_update _ _ _ _ ![j, 0, 0] (inside j hj) (start_at j hj)) _).trans ?_
  unfold updateSlice
  by_cases hi : i.val = j
  · rw [if_pos hi, dif_pos (fun a => match a with
      | ⟨0, _⟩ => (show j ≤ i.val ∧ i.val < j + 1 by omega)
      | ⟨1, _⟩ => (show 0 ≤ 0 ∧ 0 < 0 + 1 by omega)
      | ⟨2, _⟩ => (show 0 ≤ k.val ∧ k.val < 0 + 1280 by omega))]
    unfold b10 broadcastInDim
    refine congrArg (b9 j s) (funext fun a => ?_)
    match a with
    | ⟨0, _⟩ => exact Fin.ext (by simp)
    | ⟨1, _⟩ => exact Fin.ext (by simp)
  · rw [if_neg hi, dif_neg (fun h => hi (by have h0 : j ≤ i.val ∧ i.val < j + 1 := h 0; omega))]

end trip

local notation "st" => states x0 x1 x2 x3 x4 x5 x6 x7

theorem a_kept : ∀ n, (st n).main_v78_0 = A_main_v75 x0 x1 x2 x3 x4 x5 x6 x7
  | 0 => rfl
  | n + 1 => a_kept n
theorem b_kept : ∀ n, (st n).main_v78_1 = A_main_v76 x0 x1 x2 x3 x4 x5 x6 x7
  | 0 => rfl
  | n + 1 => b_kept n

/-- The carry after `n` trips is the head's recurrence. -/
theorem carry_eq : ∀ n, n ≤ 2048 → (st n).main_v78_3 (ix2 0 (chan t q)) = H (A (KR t) q) (B (KR t) q) 1024 n
  | 0, _ => by
    show K_main_v74 (F := Ideal) (ix2 0 (chan t q)) = 0
    pointwise [K_main_v74, K_main_cst_6]
  | n + 1, hn => by
    refine (carry_at n hn (st n) (chan t q)).trans ?_
    rw [a_kept, b_kept, carry_eq n (Nat.le_of_succ_le hn), a_at, b_at]
    rfl

/-- The rows written so far. -/
theorem rows_eq (i : Fin 2048) : ∀ n, n ≤ 2048 → i.val < n → (st n).main_v78_4 (ix3 i 0 (chan t q)) = state (KR t) i.val q
  | 0, _, h => absurd h (Nat.not_lt_zero _)
  | n + 1, hn, h => by
    refine (rows_at n hn (st n) (chan t q) i).trans ?_
    by_cases hi : i.val = n
    · rw [if_pos hi, hi]
      exact carry_eq x0 x1 x2 x3 x4 x5 x6 x7 t q (n + 1) hn
    · rw [if_neg hi]
      exact rows_eq i n (Nat.le_of_succ_le hn) (by omega)

/-- The two results. -/
theorem h_at (i : Fin 2048) (k : Fin 1280) : R_main_v97 (st 2048) (ix2 i k) = state (KR (headNo k)) i.val (lane k) := by
  pointwise [R_main_v97]
  rw [← rows_eq x0 x1 x2 x3 x4 x5 x6 x7 (headNo k) (lane k) i 2048 (le_refl _) i.isLt, chan_eq]

theorem zl_at (i : Fin 2048) (k : Fin 1280) :
    R_main_v96 (st 2048) x0 (ix2 i k) = gated (state (KR (headNo k)) i.val (lane k)) (x0 (ix3 0 i ⟨k.val + 1792, by omega⟩)) := by
  have e : (⟨1792 + k.val, by omega⟩ : Fin 5120) = ⟨k.val + 1792, by omega⟩ := Fin.ext (Nat.add_comm _ _)
  pointwise [R_main_v96]
  rw [← rows_eq x0 x1 x2 x3 x4 x5 x6 x7 (headNo k) (lane k) i 2048 (le_refl _) i.isLt, chan_eq, gated, e]
  simp only [mul_comm (x0 _ * x0 _)]

end Cert.LruFwdRefIdeal.Value

end
-- ==== Proof.LruFwd.lean ====
/-
  The recurrent branch's forward call: the kernel's two results, each as one function of the arguments, and its frames.
-/
module

public import proofs.«01_k».proof.Defs
public import proofs.«01_k».proof.Proof.Gen.LruFwd.Frame
public import proofs.«01_k».proof.Proof.LruCases
public import proofs.«01_k».proof.Proof.LruRef
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LruFwdIdeal.Value

open Cert.LruFwdIdeal Cert.LruFwdIdeal.Gen Cert.LruMath Cert.LruScan Cert.LruCol

variable (m : (ℓ : Loc nD τ sig) → Buf (Elt Ideal) ℓ) (c : Dev nD) (t : Fin cfg0.N)

/-- The carried state of a channel after a place, and the gated state: channel `k` is place `k % 128` of head `k / 128`. -/
def outH (i : Fin 2048) (k : Fin 1280) : EReal := state (head m c (headNo k)) i.val (lane k)
def outZ (i : Fin 2048) (k : Fin 1280) : EReal := gated (outH m c i k) (arg0 m c i ⟨k.val + 1792, by omega⟩)
def OUTZ : Buf (Elt Ideal) ((c.tc : Thread nD τ).loc main_v5_0) := fun j => outZ m c (j 0) (j 1)
def OUTH : Buf (Elt Ideal) ((c.tc : Thread nD τ).loc main_v5_1) := fun j => outH m c (j 0) (j 1)

theorem placeZ (i : Fin 2048) (q : Fin 128) (h : t.val * 128 + q.val < 1280) :
    (ix2 i ⟨t.val * 128 + q.val, h⟩ : S2048x1280.Idx) = ((View.whole main_v5_0).slice (win0_9.rect t)).emb (ix2 i q) := by
  blk_ext [idx t]
theorem placeH (i : Fin 2048) (q : Fin 128) (h : t.val * 128 + q.val < 1280) :
    (ix2 i ⟨t.val * 128 + q.val, h⟩ : S2048x1280.Idx) = ((View.whole main_v5_1).slice (win0_10.rect t)).emb (ix2 i q) := by
  blk_ext [idx t]

theorem outH_at (t : Fin 10) (i : Fin 2048) (q : Fin 128) (h : t.val * 128 + q.val < 1280) :
    outH m c i ⟨t.val * 128 + q.val, h⟩ = state (head m c t) i.val q := by
  rw [outH, headNo_at, lane_at]

theorem pointH (i : Fin 2048) (q : Fin 128) :
    (outsAt0 m c t.val t.isLt).2.1 (ix2 i q) = OUTH m c (((View.whole main_v5_1).slice (win0_10.rect t)).emb (ix2 i q)) := by
  have hN : t.val < 10 := t.isLt
  rw [← placeH t i q (by omega), (good m c t.val t.isLt).h]
  exact (outH_at m c t i q (by omega)).symm

theorem pointZ (i : Fin 2048) (q : Fin 128) :
    (outsAt0 m c t.val t.isLt).1 (ix2 i q) = OUTZ m c (((View.whole main_v5_0).slice (win0_9.rect t)).emb (ix2 i q)) := by
  have hN : t.val < 10 := t.isLt
  rw [← placeZ t i q (by omega), (good m c t.val t.isLt).zl, g_blk m c _ i q (show t.val * 128 + q.val + 1792 < 5120 by omega)]
  exact congrArg (fun h => gated h _) (outH_at m c t i q (by omega)).symm

theorem finalH : (dats m 0 c).arrAt 10 cfg0.N = OUTH m c := by
  refine (dats m 0 c).arrAt_eq_of_covers 10 _ (by decide +kernel) fun t _ y => ?_
  blk_simp
  rw [after0_10]
  idx_vars y
  exact pointH m c t y0 y1

theorem finalZ : (dats m 0 c).arrAt 9 cfg0.N = OUTZ m c := by
  refine (dats m 0 c).arrAt_eq_of_covers 9 _ (by decide +kernel) fun t _ y => ?_
  blk_simp
  rw [after0_9]
  idx_vars y
  exact pointZ m c t y0 y1

end Cert.LruFwdIdeal.Value

namespace Cert.Proof

open Cert.LruCol

theorem frame_LruFwd : Cert.quiescent_LruFwd := fun m ρ _ => Cert.LruFwd.Gen.frame m ρ
theorem frame_LruFwdIdeal : Cert.quiescent_LruFwdIdeal := fun m ρ _ => Cert.LruFwdIdeal.Gen.frame m ρ
theorem frame_LruFwdRefIdeal : Cert.quiescent_LruFwdRefIdeal := fun m ρ _ =>
  (θ_run Cert.LruFwdRefIdeal.defs _ _).mono (fun r h => ⟨fun c => (h c).2.2,
      Idealize.ShloMosaic.sem_eq_zero_of_no_sems (by decide) r.2⟩)
    (Cert.LruFwdRefIdeal.Value.run_states m ρ)

/-- The recurrent branch's forward call: the gated state and the state are the reference's, at every argument. -/
theorem algebraic_LruFwd : Cert.algebraic_LruFwdIdeal_LruFwdRefIdeal := by
  pair_intro
  · run_from Cert.LruFwdIdeal.Value.run_blocks m g
  · run_from Cert.LruFwdRefIdeal.Value.run_states m' g'
    · rw [Cert.LruFwdIdeal.Value.finalZ]
      funext i
      idx_vars i
      exact Cert.LruFwdRefIdeal.Value.zl_at _ _ _ _ _ _ _ _ i0 i1
    · rw [Cert.LruFwdIdeal.Value.finalH]
      funext i
      idx_vars i
      exact Cert.LruFwdRefIdeal.Value.h_at _ _ _ _ _ _ _ _ i0 i1

end Cert.Proof

end
-- ==== Proof.PoolKernel.lean ====
/-
  The pooling branch's forward kernel: each group's payloads, and what its one grid point writes.
-/
module

public import proofs.«01_k».proof.Defs
public import proofs.«01_k».proof.Proof.PoolBuf
public import proofs.«01_k».proof.Proof.Loads
public import proofs.«01_k».proof.Proof.Gen.PoolFwdIdeal.Value
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.PoolFwdIdeal.Value

open Cert.PoolFwdIdeal Cert.PoolFwdIdeal.Gen Cert.PoolMath Cert.PoolBuf

section tails
variable (u a a1 a2 a3 : Vec Ideal S2048x128 .f32) (w : Vec Ideal S1x128x128 .f32) (b : Vec Ideal S1x1x128 .f32) (s : Vec Ideal S1x128 .f32) (i : Fin 2048) (q : Fin 128)

/-- What a group stores, from its window sum `x`. -/
abbrev tail (n : ℕ) (x : S2048x128.Idx → EReal) : EReal :=
  mix (fun k => pmean n i.val (x (ix2 i k)) (u (ix2 i k))) (fun k => w (ix3 0 k q)) (b (ix3 0 0 q)) (s (ix2 0 q))

theorem tail2 : k0_pay9 (k0_pay7 u a w b) (k0_pay8 s) (ix2 i q) = tail u w b s i q 2 (fun j => u j + a j) := by
  pointwise [tail, k0_pay9, k0_pay7, k0_pay8, k0_pay5, mix, pmean, ← cnt_word 2 (by decide) i.val i.isLt]
  rfl
theorem tail4 : k0_pay16 (k0_pay14 u a a1 w b) (k0_pay15 s) (ix2 i q) = tail u w b s i q 4 (fun j => k0_pay12 u a j + a1 j) := by
  pointwise [tail, k0_pay16, k0_pay14, k0_pay15, k0_pay10, mix, pmean, ← cnt_word 4 (by decide) i.val i.isLt]
  rfl
theorem tail8 : k0_pay24 (k0_pay23 u a a1 a2 w) b s (ix2 i q) = tail u w b s i q 8 (fun j => k0_pay21 u a a1 j + a2 j) := by
  pointwise [tail, k0_pay24, k0_pay23, k0_pay17, mix, pmean, ← cnt_word 8 (by decide) i.val i.isLt]
  rfl
theorem tail16 : k0_pay1 (k0_pay25 u) (k0_pay31 u a a1 a2) a3 w b s (ix2 i q) = tail u w b s i q 16 (fun j => k0_pay31 u a a1 a2 j + a3 j) := by
  pointwise [tail, k0_pay1, k0_pay25, mix, pmean, ← cnt_word 16 (by decide) i.val i.isLt]
  rfl
end tails

section cases
variable (c : Dev nD) (g0 : grid0.Coords)
  {arg1 : Memref sig .tc .vmem S2048x512 .f32} (harg1 : arg1.IsWhole) (arg6 : Memref sig .tc .vmem S2064x128 .f32) (x0 : Vec Ideal S2048x512 .f32)
  (r : Fin 512 → Fin 2048 → ℝ) (hr : ∀ i k, x0 (ix2 i k) = (r k i : EReal))

theorem ld (o : ℕ) (inb : ∀ a : Fin 2, ![0, o] a + S2048x128.size a ≤ S2048x512.size a) (i : Fin 2048) (k : Fin 128) (h : o + k.val < 512) :
    View.readAt (Elt Ideal) arg1.view (Rect.unit (s := S2048x512) ![0, o] S2048x128.size inb).toLoadRect (harg1.unread x0) (ix2 i k) = x0 (ix2 i ⟨o + k.val, h⟩) := by
  rw [Cert.Loads.loadBand harg1 x0 inb rfl inb]
  unfold VecWindow.window
  refine congrArg x0 (funext fun a => Fin.ext ?_)
  match a with
  | ⟨0, _⟩ => show 0 + 1 * i.val = i.val; omega
  | ⟨1, _⟩ => show o + 1 * k.val = o + k.val; omega

theorem pad3 : ∀ i, k0_pay3 (F := Ideal) i = 0 := fun i => by idx_vars i; pointwise [k0_pay3, k0_pay2]
theorem pad4 : ∀ i, k0_pay4 (F := Ideal) i = 0 := fun i => by idx_vars i; pointwise [k0_pay4, k0_pay2]

/-! Every stored block is the sum before it, and every sum is the one before it and the rows read again. -/

variable (u a b d : Vec Ideal S2048x128 .f32)

theorem pay6_eq : k0_pay6 u = u := funext fun j => by idx_vars j; pointwise [k0_pay6, k0_pay5]
theorem pay11_eq : k0_pay11 u = u := funext fun j => by idx_vars j; pointwise [k0_pay11, k0_pay10]
theorem pay18_eq : k0_pay18 u = u := funext fun j => by idx_vars j; pointwise [k0_pay18, k0_pay17]
theorem pay26_eq : k0_pay26 u = u := funext fun j => by idx_vars j; pointwise [k0_pay26, k0_pay25]
theorem pay12_eq : k0_pay12 u a = fun j => u j + a j := funext fun j => by idx_vars j; pointwise [k0_pay12, k0_pay10]
theorem pay13_eq : k0_pay13 u a = k0_pay12 u a := funext fun j => by idx_vars j; pointwise [k0_pay13]
theorem pay19_eq : k0_pay19 u a = fun j => u j + a j := funext fun j => by idx_vars j; pointwise [k0_pay19, k0_pay17]
theorem pay20_eq : k0_pay20 u a = k0_pay19 u a := funext fun j => by idx_vars j; pointwise [k0_pay20]
theorem pay21_eq : k0_pay21 u a b = fun j => k0_pay19 u a j + b j := funext fun j => by idx_vars j; pointwise [k0_pay21]
theorem pay22_eq : k0_pay22 u a b = k0_pay21 u a b := funext fun j => by idx_vars j; pointwise [k0_pay22]
theorem pay27_eq : k0_pay27 u a = fun j => u j + a j := funext fun j => by idx_vars j; pointwise [k0_pay27, k0_pay25]
theorem pay28_eq : k0_pay28 u a = k0_pay27 u a := funext fun j => by idx_vars j; pointwise [k0_pay28]
theorem pay29_eq : k0_pay29 u a b = fun j => k0_pay27 u a j + b j := funext fun j => by idx_vars j; pointwise [k0_pay29]
theorem pay30_eq : k0_pay30 u a b = k0_pay29 u a b := funext fun j => by idx_vars j; pointwise [k0_pay30]
theorem pay31_eq : k0_pay31 u a b d = fun j => k0_pay29 u a b j + d j := funext fun j => by idx_vars j; pointwise [k0_pay31]
theorem pay32_eq : k0_pay32 u a b d = k0_pay31 u a b d := funext fun j => by idx_vars j; pointwise [k0_pay32]

/-! The padding stays zero through the sixteen stores. -/

abbrev Z (L : List (View.Piece (Elt Ideal) S2064x128 .f32)) : Prop := Pads arg6.view arg6.view.junk L

theorem z3 : Z arg6 (kernelRun0_A.sl.HS0_3 c arg1 harg1 x0) := Pads.cons (Pads.start pad4 pad3 _ _) _ _
theorem z4 : Z arg6 (kernelRun0_A.sl.HS0_4 c arg1 harg1 x0) := Pads.cons (z3 c harg1 arg6 x0) _ _
theorem z5 : Z arg6 (kernelRun0_A.sl.HS0_5 c arg1 harg1 arg6 x0) := Pads.cons (z4 c harg1 arg6 x0) _ _
theorem z6 : Z arg6 (kernelRun0_A.sl.HS0_6 c arg1 harg1 arg6 x0) := Pads.cons (z5 c harg1 arg6 x0) _ _
theorem z7 : Z arg6 (kernelRun0_A.sl.HS0_7 c arg1 harg1 arg6 x0) := Pads.cons (z6 c harg1 arg6 x0) _ _
theorem z8 : Z arg6 (kernelRun0_A.sl.HS0_8 c arg1 harg1 arg6 x0) := Pads.cons (z7 c harg1 arg6 x0) _ _
theorem z9 : Z arg6 (kernelRun0_A.sl.HS0_9 c arg1 harg1 arg6 x0) := Pads.cons (z8 c harg1 arg6 x0) _ _
theorem z10 : Z arg6 (kernelRun0_A.sl.HS0_10 c arg1 harg1 arg6 x0) := Pads.cons (z9 c harg1 arg6 x0) _ _
theorem z11 : Z arg6 (kernelRun0_A.sl.HS0_11 c arg1 harg1 arg6 x0) := Pads.cons (z10 c harg1 arg6 x0) _ _

/-! The window sums of the four groups. -/

include hr in
theorem start (g : Fin 4) (o : ℕ) (inb : ∀ a : Fin 2, ![0, o] a + S2048x128.size a ≤ S2048x512.size a) (ho : o = 128 * g.val) :
    Holds (fun q => back (col r g q) 1)
      (View.readAt (Elt Ideal) arg1.view (Rect.unit (s := S2048x512) ![0, o] S2048x128.size inb).toLoadRect (harg1.unread x0)) :=
  one_back fun i q => by
    subst ho
    rw [ld harg1 x0 _ inb i q (by omega), hr]

include hr in
theorem sum0 : Holds (fun q => back (col r 0 q) 2) (fun j => View.readAt (Elt Ideal) arg1.view (Rect.unit (s := S2048x512) ![0, 0] S2048x128.size inb_S2048x512_S2048x128_0_0).toLoadRect (harg1.unread x0) j + kernelRun0_A.sl.v12 c arg1 harg1 arg6 x0 j) :=
  have h := start harg1 x0 r hr 0 0 inb_S2048x512_S2048x128_0_0 rfl
  double_back (v := arg6.view) (f := arg6.view.junk) (Pads.start pad4 pad3 _ _) _ 1 h (h.of_eq (pay6_eq _)) rfl _ rfl

include hr in
theorem sum1 : Holds (fun q => back (col r 1 q) 4) (fun j => k0_pay12 (View.readAt (Elt Ideal) arg1.view (Rect.unit (s := S2048x512) ![0, 128] S2048x128.size inb_S2048x512_S2048x128_0_128).toLoadRect (harg1.unread x0)) (kernelRun0_A.sl.v42 c arg1 harg1 arg6 x0) j + kernelRun0_A.sl.v47 c arg1 harg1 arg6 x0 j) :=
  have h := start harg1 x0 r hr 1 128 inb_S2048x512_S2048x128_0_128 rfl
  have h2 := double_back (z3 c harg1 arg6 x0) inb_S2064x128_S2048x128_8_0 1 h (h.of_eq (pay11_eq _)) (o := 7) rfl inb_S2064x128_S2048x128_7_0 (pay12_eq _ (kernelRun0_A.sl.v42 c arg1 harg1 arg6 x0))
  double_back (z4 c harg1 arg6 x0) inb_S2064x128_S2048x128_8_0 2 h2 (h2.of_eq (pay13_eq _ _)) (o := 6) rfl inb_S2064x128_S2048x128_6_0 rfl

include hr in
theorem sum2 : Holds (fun q => back (col r 2 q) 8) (fun j => k0_pay21 (View.readAt (Elt Ideal) arg1.view (Rect.unit (s := S2048x512) ![0, 256] S2048x128.size inb_S2048x512_S2048x128_0_256).toLoadRect (harg1.unread x0)) (kernelRun0_A.sl.v77 c arg1 harg1 arg6 x0) (kernelRun0_A.sl.v82 c arg1 harg1 arg6 x0) j + kernelRun0_A.sl.v87 c arg1 harg1 arg6 x0 j) :=
  have h := start harg1 x0 r hr 2 256 inb_S2048x512_S2048x128_0_256 rfl
  have h2 := double_back (z5 c harg1 arg6 x0) inb_S2064x128_S2048x128_8_0 1 h (h.of_eq (pay18_eq _)) (o := 7) rfl inb_S2064x128_S2048x128_7_0 (pay19_eq _ (kernelRun0_A.sl.v77 c arg1 harg1 arg6 x0))
  have h4 := double_back (z6 c harg1 arg6 x0) inb_S2064x128_S2048x128_8_0 2 h2 (h2.of_eq (pay20_eq _ _)) (o := 6) rfl inb_S2064x128_S2048x128_6_0 (pay21_eq _ _ (kernelRun0_A.sl.v82 c arg1 harg1 arg6 x0))
  double_back (z7 c harg1 arg6 x0) inb_S2064x128_S2048x128_8_0 4 h4 (h4.of_eq (pay22_eq _ _ _)) (o := 4) rfl inb_S2064x128_S2048x128_4_0 rfl

include hr in
theorem sum3 : Holds (fun q => back (col r 3 q) 16) (fun j => k0_pay31 (View.readAt (Elt Ideal) arg1.view (Rect.unit (s := S2048x512) ![0, 384] S2048x128.size inb_S2048x512_S2048x128_0_384).toLoadRect (harg1.unread x0)) (kernelRun0_A.sl.v117 c arg1 harg1 arg6 x0) (kernelRun0_A.sl.v122 c arg1 harg1 arg6 x0) (kernelRun0_A.sl.v127 c arg1 harg1 arg6 x0) j + kernelRun0_A.sl.v132 c arg1 harg1 arg6 x0 j) :=
  have h := start harg1 x0 r hr 3 384 inb_S2048x512_S2048x128_0_384 rfl
  have h2 := double_back (z8 c harg1 arg6 x0) inb_S2064x128_S2048x128_8_0 1 h (h.of_eq (pay26_eq _)) (o := 7) rfl inb_S2064x128_S2048x128_7_0 (pay27_eq _ (kernelRun0_A.sl.v117 c arg1 harg1 arg6 x0))
  have h4 := double_back (z9 c harg1 arg6 x0) inb_S2064x128_S2048x128_8_0 2 h2 (h2.of_eq (pay28_eq _ _)) (o := 6) rfl inb_S2064x128_S2048x128_6_0 (pay29_eq _ _ (kernelRun0_A.sl.v122 c arg1 harg1 arg6 x0))
  have h8 := double_back (z10 c harg1 arg6 x0) inb_S2064x128_S2048x128_8_0 4 h4 (h4.of_eq (pay30_eq _ _ _)) (o := 4) rfl inb_S2064x128_S2048x128_4_0 (pay31_eq _ _ _ (kernelRun0_A.sl.v127 c arg1 harg1 arg6 x0))
  double_back (z11 c harg1 arg6 x0) inb_S2064x128_S2048x128_8_0 8 h8 (h8.of_eq (pay32_eq _ _ _ _)) (o := 0) rfl inb_S2064x128_S2048x128_0_0 rfl

end cases

section columns
variable {sg : RefSig} {κ : Kind} {sp : Space} (v : View sg κ sp S2048x512 .bf16) (f : v.ty.Contents (Elt Ideal)) (o : ℕ)
  (inb : ∀ a : Fin 2, ![0, o] a + S2048x128.size a ≤ S2048x512.size a) (w : S2048x128.Idx → EReal) (L : List (View.Piece (Elt Ideal) S2048x512 .bf16))
  (i : Fin 2048) (q : Fin 128) (y : Fin 512)

/-- A place in the columns just stored, and one before them. -/
theorem hit (hy : y.val = o + q.val) :
    v.read (Elt Ideal) (v.writes (Elt Ideal) f ((⟨Rect.unit (s := S2048x512) ![0, o] S2048x128.size inb, w⟩ : View.Piece (Elt Ideal) S2048x512 .bf16) :: L)) (ix2 i y) = w (ix2 i q) :=
  View.read_writes_cons_unit_of_mem v f inb w L (ix2 i y) (ix2 i q : S2048x128.Idx) rfl fun a => by
    match a with
    | ⟨0, _⟩ => exact (Nat.zero_add _).symm
    | ⟨1, _⟩ => exact hy
theorem miss (hy : y.val < o) :
    v.read (Elt Ideal) (v.writes (Elt Ideal) f ((⟨Rect.unit (s := S2048x512) ![0, o] S2048x128.size inb, w⟩ : View.Piece (Elt Ideal) S2048x512 .bf16) :: L)) (ix2 i y)
      = v.read (Elt Ideal) (v.writes (Elt Ideal) f L) (ix2 i y) :=
  View.read_writes_cons_unit_of_not_mem v f inb w L (ix2 i y) rfl 1 (Or.inl hy)
end columns

section points
variable (c : Dev nD) (g0 : grid0.Coords)
  {arg1 : Memref sig .tc .vmem S2048x512 .f32} (harg1 : arg1.IsWhole) {arg2 : Memref sig .tc .vmem S4x128x128 .f32} (harg2 : arg2.IsWhole)
  {arg3 : Memref sig .tc .vmem S4x1x128 .f32} (harg3 : arg3.IsWhole) {arg4 : Memref sig .tc .vmem S1x512 .f32} (harg4 : arg4.IsWhole)
  {arg5 : Memref sig .tc .vmem S2048x512 .bf16} (harg5 : arg5.IsWhole) {arg6 : Memref sig .tc .vmem S2064x128 .f32} (harg6 : arg6.IsWhole)
  (x0 : Vec Ideal S2048x512 .f32) (x1 : Vec Ideal S4x128x128 .f32) (x2 : Vec Ideal S4x1x128 .f32) (x3 : Vec Ideal S1x512 .f32)
  (r : Fin 512 → Fin 2048 → ℝ) (hr : ∀ i k, x0 (ix2 i k) = (r k i : EReal))

/-- A group's payload is its channel's value, once its window sum is known. -/
theorem tail_chan (g : Fin 4) {n o : ℕ} (hn : n = 2 ^ (g.val + 1)) (ho : o = 128 * g.val) (inb inb1 inb2 inb3)
    {x : S2048x128.Idx → EReal} (hx : Holds (fun q => back (col r g q) n) x) (i : Fin 2048) (q : Fin 128) :
    tail (View.readAt (Elt Ideal) arg1.view (Rect.unit (s := S2048x512) ![0, o] S2048x128.size inb).toLoadRect (harg1.unread x0))
      (View.readAt (Elt Ideal) arg2.view (Rect.unit (s := S4x128x128) ![g.val, 0, 0] S1x128x128.size inb1).toLoadRect (harg2.unread x1))
      (View.readAt (Elt Ideal) arg3.view (Rect.unit (s := S4x1x128) ![g.val, 0, 0] S1x1x128.size inb2).toLoadRect (harg3.unread x2))
      (View.readAt (Elt Ideal) arg4.view (Rect.unit (s := S1x512) ![0, o] S1x128.size inb3).toLoadRect (harg4.unread x3)) i q n x
      = chan (fun i k => x0 (ix2 i k)) r (fun g k q => x1 (ix3 g k q)) (fun g q => x2 (ix3 g 0 q)) (fun k => x3 (ix2 0 k)) g i q := by
  subst hn ho
  unfold tail chan
  have e1 : ∀ k : Fin 128, View.readAt (Elt Ideal) arg2.view (Rect.unit (s := S4x128x128) ![g.val, 0, 0] S1x128x128.size inb1).toLoadRect (harg2.unread x1) (ix3 0 k q) = x1 (ix3 g k q) := fun k => by
    rw [Cert.Loads.loadBand harg2 x1 inb1 rfl inb1]
    unfold VecWindow.window
    refine congrArg x1 (funext fun a => Fin.ext ?_)
    match a with
    | ⟨0, _⟩ => rfl
    | ⟨1, _⟩ => show 0 + 1 * k.val = k.val; omega
    | ⟨2, _⟩ => show 0 + 1 * q.val = q.val; omega
  have e2 : View.readAt (Elt Ideal) arg3.view (Rect.unit (s := S4x1x128) ![g.val, 0, 0] S1x1x128.size inb2).toLoadRect (harg3.unread x2) (ix3 0 0 q) = x2 (ix3 g 0 q) := by
    rw [Cert.Loads.loadBand harg3 x2 inb2 rfl inb2]
    unfold VecWindow.window
    refine congrArg x2 (funext fun a => Fin.ext ?_)
    match a with
    | ⟨0, _⟩ => rfl
    | ⟨1, _⟩ => rfl
    | ⟨2, _⟩ => show 0 + 1 * q.val = q.val; omega
  have e3 : View.readAt (Elt Ideal) arg4.view (Rect.unit (s := S1x512) ![0, 128 * g.val] S1x128.size inb3).toLoadRect (harg4.unread x3) (ix2 0 q) = x3 (ix2 0 ⟨128 * g.val + q.val, by omega⟩) := by
    rw [Cert.Loads.loadBand harg4 x3 inb3 rfl inb3]
    unfold VecWindow.window
    refine congrArg x3 (funext fun a => Fin.ext ?_)
    match a with
    | ⟨0, _⟩ => rfl
    | ⟨1, _⟩ => show 128 * g.val + 1 * q.val = 128 * g.val + q.val; omega
  rw [e2, e3]
  refine congrArg₂ (fun p w => mix p w _ _) (funext fun k => ?_) (funext e1)
  rw [ld harg1 x0 _ inb i k (by omega), hx]

include hr in
theorem out_chan (g : Fin 4) (i : Fin 2048) (q : Fin 128) :
    out0_A_4 c g0 arg1 harg1 arg2 harg2 arg3 harg3 arg4 harg4 arg5 harg5 arg6 harg6 x0 x1 x2 x3 (ix2 i ⟨128 * g.val + q.val, by omega⟩)
      = chan (fun i k => x0 (ix2 i k)) r (fun g k q => x1 (ix3 g k q)) (fun g q => x2 (ix3 g 0 q)) (fun k => x3 (ix2 0 k)) g i q := by
  have hq := q.isLt
  unfold out0_A_4 kernelRun0_A
  dsimp only
  match g with
  | 3 => exact (hit _ _ 384 _ _ _ i q _ rfl).trans ((tail16 _ _ _ _ _ _ _ _ i q).trans
      (tail_chan harg1 harg2 harg3 harg4 x0 x1 x2 x3 r 3 rfl rfl _ _ _ _ (sum3 c harg1 arg6 x0 r hr) i q))
  | 2 => exact (miss _ _ 384 _ _ _ i _ (show 128 * 2 + q.val < 384 by omega)).trans ((hit _ _ 256 _ _ _ i q _ rfl).trans
      ((tail8 _ _ _ _ _ _ _ i q).trans (tail_chan harg1 harg2 harg3 harg4 x0 x1 x2 x3 r 2 rfl rfl _ _ _ _ (sum2 c harg1 arg6 x0 r hr) i q)))
  | 1 => exact (miss _ _ 384 _ _ _ i _ (show 128 * 1 + q.val < 384 by omega)).trans ((miss _ _ 256 _ _ _ i _ (show 128 * 1 + q.val < 256 by omega)).trans
      ((hit _ _ 128 _ _ _ i q _ rfl).trans ((tail4 _ _ _ _ _ _ i q).trans
        (tail_chan harg1 harg2 harg3 harg4 x0 x1 x2 x3 r 1 rfl rfl _ _ _ _ (sum1 c harg1 arg6 x0 r hr) i q))))
  | 0 => exact (miss _ _ 384 _ _ _ i _ (show 128 * 0 + q.val < 384 by omega)).trans ((miss _ _ 256 _ _ _ i _ (show 128 * 0 + q.val < 256 by omega)).trans
      ((miss _ _ 128 _ _ _ i _ (show 128 * 0 + q.val < 128 by omega)).trans ((hit _ _ 0 _ _ _ i q _ rfl).trans ((tail2 _ _ _ _ _ i q).trans
        (tail_chan harg1 harg2 harg3 harg4 x0 x1 x2 x3 r 0 rfl rfl _ _ _ _ (sum0 c harg1 arg6 x0 r hr) i q)))))
end points

end Cert.PoolFwdIdeal.Value

end
-- ==== Proof.PoolRef.lean ====
/-
  The pooling branch's reference: a group's trailing mean less the row, from the running sum of a real column.
-/
module

public import proofs.«01_k».proof.Proof.PoolMath
public import proofs.«01_k».proof.Proof.Gen.PoolFwdRefIdeal.Read
public import Idealize.ShloMosaic.Lib.WordCmp
public import Idealize.ShloMosaic.Lib.Pointwise

@[expose] public section

set_option maxRecDepth 16384

noncomputable section

open Idealize.ShloMosaic Idealize.ShloMosaic.TcCoe Idealize.SL.Sem

namespace Cert.PoolFwdRefIdeal.Value

open Cert.PoolFwdRefIdeal Cert.PoolFwdRefIdeal.Gen Cert.PoolFwdRefIdeal.Read Cert.PoolMath

variable (x0 : (⟨S1x2048x5120, .f32⟩ : BufTy).Contents (Elt Ideal)) (x1 : (⟨S4x128x128, .f32⟩ : BufTy).Contents (Elt Ideal))
  (x2 : (⟨S4x128, .f32⟩ : BufTy).Contents (Elt Ideal)) (x3 : (⟨S512, .f32⟩ : BufTy).Contents (Elt Ideal))
  (r : Fin 512 → Fin 2048 → ℝ) (hr : ∀ i (k : Fin 512), x0 (ix3 0 i ⟨k.val, by omega⟩) = (r k i : EReal)) (i : Fin 2048) (q : Fin 128)

/-! Group `g` reads columns `128 g` to `128 g + 127`. -/

theorem u0 : val_main_v3 (F := Ideal) x0 (ix3 0 i q) = x0 (ix3 0 i ⟨q.val, by omega⟩) := by
  pointwise [val_main_v3, val_main_v2, val_main_v1, val_main_v0]
theorem u1 : val_main_v21 (F := Ideal) x0 (ix3 0 i q) = x0 (ix3 0 i ⟨128 + q.val, by omega⟩) := by
  pointwise [val_main_v21, val_main_v20, val_main_v1, val_main_v0]
theorem u2 : val_main_v39 (F := Ideal) x0 (ix3 0 i q) = x0 (ix3 0 i ⟨256 + q.val, by omega⟩) := by
  pointwise [val_main_v39, val_main_v38, val_main_v1, val_main_v0]
theorem u3 : val_main_v57 (F := Ideal) x0 (ix3 0 i q) = x0 (ix3 0 i ⟨384 + q.val, by omega⟩) := by
  pointwise [val_main_v57, val_main_v56, val_main_v1, val_main_v0]

/-- A group's running sum. -/
theorem cumsum (c : Fin 2048 → ℝ) (x : S1x2048x128.Idx → EReal) (hx : ∀ s : Fin 2048, x (ix3 0 s q) = (c s : EReal)) (init : S_.Idx → EReal) (h0 : ∀ i, init i = 0) (h hu) :
    Host.reduceWindowAdd (F := Ideal) (φ := .f32) (s := S1x2048x128) (t := S1x2048x128) ![1, 2048, 1] ![1, 1, 1] ![0, 2047, 0] ![0, 0, 0] x init h hu (ix3 0 i q)
      = (csum c (i.val + 1) : EReal) := by
  refine (reduceWindow_at c 2047 0 x q hx init h0 h hu i).trans ?_
  rw [show i.val + 2048 - 2047 = i.val + 1 by omega, show i.val - 2047 = 0 by omega, csum_zero, sub_zero]

section groups
variable (c : Fin 2048 → ℝ)

theorem mean0 (hx : ∀ s, val_main_v3 (F := Ideal) x0 (ix3 0 s q) = (c s : EReal)) :
    val_main_v19 (F := Ideal) x0 (ix3 0 i q) = pmean 2 i.val (back c 2 i.val) (val_main_v3 (F := Ideal) x0 (ix3 0 i q)) := by
  have cs : ∀ i, val_main_v4 (F := Ideal) x0 (ix3 0 i q) = (csum c (i.val + 1) : EReal) := fun i => cumsum i q c _ hx (val_main_call0_call0_v0 (F := Ideal)) (fun j => by pointwise [val_main_call0_call0_v0, val_main_call0_call0_cst]) reduceWindows_S1x2048x128_S1x2048x128_w1s1p0_0_w2048s1p2047_0_w1s1p0_0 h_S_
  pointwise [val_main_v19, val_main_v18, val_main_v17, val_main_v16, val_main_v15, val_main_v14, val_main_v13, val_main_v12, val_main_v11, val_main_v10]
  refine mean_at c 1 i.val _ _ _ _ _ _ (cs i) ?_ ?_ (row_real i) ?_
  · pointwise [val_main_v9, val_main_v8, val_main_v7, val_main_v6, val_main_v5]
    exact shifted c 1 (fun s => val_main_v4 x0 (ix3 0 s q)) cs _ _ (by pointwise [val_main_cst_0]) (by pointwise [val_main_cst]) i
  · pointwise [val_main_cst_1]
  · pointwise [val_main_cst_2]
    exact word2
theorem mean1 (hx : ∀ s, val_main_v21 (F := Ideal) x0 (ix3 0 s q) = (c s : EReal)) :
    val_main_v37 (F := Ideal) x0 (ix3 0 i q) = pmean 4 i.val (back c 4 i.val) (val_main_v21 (F := Ideal) x0 (ix3 0 i q)) := by
  have cs : ∀ i, val_main_v22 (F := Ideal) x0 (ix3 0 i q) = (csum c (i.val + 1) : EReal) := fun i => cumsum i q c _ hx (val_main_call1_call0_v0 (F := Ideal)) (fun j => by pointwise [val_main_call1_call0_v0, val_main_call1_call0_cst]) reduceWindows_S1x2048x128_S1x2048x128_w1s1p0_0_w2048s1p2047_0_w1s1p0_0 h_S_
  pointwise [val_main_v37, val_main_v36, val_main_v35, val_main_v34, val_main_v33, val_main_v32, val_main_v31, val_main_v30, val_main_v29, val_main_v28]
  refine mean_at c 3 i.val _ _ _ _ _ _ (cs i) ?_ ?_ (row_real i) ?_
  · pointwise [val_main_v27, val_main_v26, val_main_v25, val_main_v24, val_main_v23]
    exact shifted c 3 (fun s => val_main_v22 x0 (ix3 0 s q)) cs _ _ (by pointwise [val_main_cst_4]) (by pointwise [val_main_cst_3]) i
  · pointwise [val_main_cst_5]
  · pointwise [val_main_cst_6]
    exact word4
theorem mean2 (hx : ∀ s, val_main_v39 (F := Ideal) x0 (ix3 0 s q) = (c s : EReal)) :
    val_main_v55 (F := Ideal) x0 (ix3 0 i q) = pmean 8 i.val (back c 8 i.val) (val_main_v39 (F := Ideal) x0 (ix3 0 i q)) := by
  have cs : ∀ i, val_main_v40 (F := Ideal) x0 (ix3 0 i q) = (csum c (i.val + 1) : EReal) := fun i => cumsum i q c _ hx (val_main_call2_call0_v0 (F := Ideal)) (fun j => by pointwise [val_main_call2_call0_v0, val_main_call2_call0_cst]) reduceWindows_S1x2048x128_S1x2048x128_w1s1p0_0_w2048s1p2047_0_w1s1p0_0 h_S_
  pointwise [val_main_v55, val_main_v54, val_main_v53, val_main_v52, val_main_v51, val_main_v50, val_main_v49, val_main_v48, val_main_v47, val_main_v46]
  refine mean_at c 7 i.val _ _ _ _ _ _ (cs i) ?_ ?_ (row_real i) ?_
  · pointwise [val_main_v45, val_main_v44, val_main_v43, val_main_v42, val_main_v41]
    exact shifted c 7 (fun s => val_main_v40 x0 (ix3 0 s q)) cs _ _ (by pointwise [val_main_cst_8]) (by pointwise [val_main_cst_7]) i
  · pointwise [val_main_cst_9]
  · pointwise [val_main_cst_10]
    exact word8
theorem mean3 (hx : ∀ s, val_main_v57 (F := Ideal) x0 (ix3 0 s q) = (c s : EReal)) :
    val_main_v73 (F := Ideal) x0 (ix3 0 i q) = pmean 16 i.val (back c 16 i.val) (val_main_v57 (F := Ideal) x0 (ix3 0 i q)) := by
  have cs : ∀ i, val_main_v58 (F := Ideal) x0 (ix3 0 i q) = (csum c (i.val + 1) : EReal) := fun i => cumsum i q c _ hx (val_main_call3_call0_v0 (F := Ideal)) (fun j => by pointwise [val_main_call3_call0_v0, val_main_call3_call0_cst]) reduceWindows_S1x2048x128_S1x2048x128_w1s1p0_0_w2048s1p2047_0_w1s1p0_0 h_S_
  pointwise [val_main_v73, val_main_v72, val_main_v71, val_main_v70, val_main_v69, val_main_v68, val_main_v67, val_main_v66, val_main_v65, val_main_v64]
  refine mean_at c 15 i.val _ _ _ _ _ _ (cs i) ?_ ?_ (row_real i) ?_
  · pointwise [val_main_v63, val_main_v62, val_main_v61, val_main_v60, val_main_v59]
    exact shifted c 15 (fun s => val_main_v58 x0 (ix3 0 s q)) cs _ _ (by pointwise [val_main_cst_12]) (by pointwise [val_main_cst_11]) i
  · pointwise [val_main_cst_13]
  · pointwise [val_main_cst_14]
    exact word16
end groups

include hr in
/-- A group's pooled column. -/
theorem pooled (g : Fin 4) : val_main_v78 (F := Ideal) x0 (ix4 0 i g q)
    = pmean (2 ^ (g.val + 1)) i.val (back (col r g q) (2 ^ (g.val + 1)) i.val) (x0 (ix3 0 i ⟨128 * g.val + q.val, by omega⟩)) := by
  have e : ∀ (g : Fin 4) s, x0 (ix3 0 s ⟨128 * g.val + q.val, by omega⟩) = (col r g q s : EReal) := fun g s => hr s ⟨128 * g.val + q.val, by omega⟩
  pointwise [val_main_v78, val_main_v77, val_main_v76, val_main_v75, val_main_v74]
  match g with
  | 0 =>
    exact (mean0 x0 i q _ fun s => (u0 x0 s q).trans ((congrArg (fun k => x0 (ix3 0 s k)) (Fin.ext (Nat.zero_add _).symm)).trans (e 0 s))).trans
      (congrArg (pmean 2 i.val _) ((u0 x0 i q).trans (congrArg (fun k => x0 (ix3 0 i k)) (Fin.ext (Nat.zero_add _).symm))))
  | 1 => exact (mean1 x0 i q _ fun s => (u1 x0 s q).trans (e 1 s)).trans (congrArg (pmean 4 i.val _) (u1 x0 i q))
  | 2 => exact (mean2 x0 i q _ fun s => (u2 x0 s q).trans (e 2 s)).trans (congrArg (pmean 8 i.val _) (u2 x0 i q))
  | 3 => exact (mean3 x0 i q _ fun s => (u3 x0 s q).trans (e 3 s)).trans (congrArg (pmean 16 i.val _) (u3 x0 i q))

include hr in
set_option backward.proofsInPublic true in
/-- The reference's result: what `chan` says of each channel. -/
theorem out_at (k : Fin 512) : val_main_v89 (F := Ideal) x0 x1 x2 x3 (ix2 i k)
    = chan (fun i k => x0 (ix3 0 i ⟨k.val, by omega⟩)) r (fun g k q => x1 (ix3 g k q)) (fun g q => x2 (ix2 g q)) (fun k => x3 (ix1 k)) (grp k) i (lane k) := by
  pointwise [val_main_v89, val_main_v88, val_main_v87, val_main_v86, val_main_v85, val_main_v84, val_main_v83, val_main_v82, val_main_v81, val_main_v80, val_main_v79]
  unfold chan mix
  rw [grp_lane]
  refine congrArg (fun z => (z + _) * _) (Finset.sum_congr rfl fun d _ => ?_)
  rw [mul_comm]
  exact congrArg (· * _) (pooled x0 r hr i d (grp k))

end Cert.PoolFwdRefIdeal.Value

end
-- ==== Proof.PoolFwd.lean ====
/-
  The pooling branch's forward call: what the kernel leaves, and the equality with the reference where the pooled columns are finite.
-/
module

public import proofs.«01_k».proof.Defs
public import proofs.«01_k».proof.Proof.Gen.PoolFwd.Frame
public import proofs.«01_k».proof.Proof.PoolKernel
public import proofs.«01_k».proof.Proof.PoolRef
public import proofs.«01_k».proof.Proof.Fin
public import proofs.«01_k».proof.Proof.Gen.Pre_pool_fwd_finite
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PoolFwdIdeal.Value

open Cert.PoolFwdIdeal Cert.PoolFwdIdeal.Gen Cert.PoolMath

variable (m : (ℓ : Loc nD τ sig) → Buf (Elt Ideal) ℓ) (c : Dev nD) (t : Fin cfg0.N)

theorem idx : ∀ t : Fin cfg0.N, win0_0.index t = ![0, 0] ∧ win0_1.index t = ![0, 0, 0] ∧ win0_2.index t = ![0, 0, 0] ∧ win0_3.index t = ![0, 0]
    ∧ win0_4.index t = ![0, 0] := (by decide +kernel : ∀ t : Fin grid0.N, _)

/-- What the call is given: the pooled columns, the groups' weights, biases, and the channels' scales. -/
abbrev cols (i : Fin 2048) (k : Fin 512) : EReal := m ((c.tc : Thread nD τ).loc main_arg0) (ix3 0 i ⟨k.val, by omega⟩)
abbrev wts (g : Fin 4) (k q : Fin 128) : EReal := m ((c.tc : Thread nD τ).loc main_arg1) (ix3 g k q)
abbrev bias (g : Fin 4) (q : Fin 128) : EReal := m ((c.tc : Thread nD τ).loc main_arg2) (ix2 g q)
abbrev scl (k : Fin 512) : EReal := m ((c.tc : Thread nD τ).loc main_arg3) (ix1 k)

theorem u_blk (i : Fin 2048) (k : Fin 512) : iblk m c 0 t (ix2 i k) = cols m c i k := by
  blk_point [iblk, V, idx t]
theorem w_blk (g : Fin 4) (k q : Fin 128) : iblk m c 1 t (ix3 g k q) = wts m c g k q := by
  blk_point [iblk, V, idx t]
theorem b_blk (g : Fin 4) (q : Fin 128) : iblk m c 2 t (ix3 g 0 q) = bias m c g q := by
  blk_point [iblk, V, idx t]
theorem s_blk (k : Fin 512) : iblk m c 3 t (ix2 0 k) = scl m c k := by
  blk_point [iblk, V, idx t]

theorem place (i : Fin 2048) (k : Fin 512) : (ix2 i k : S2048x512.Idx) = ((View.whole main_v3).slice (win0_4.rect t)).emb (ix2 i k) := by
  blk_ext [idx t]

variable (r : Fin 512 → Fin 2048 → ℝ) (hr : ∀ i k, cols m c i k = (r k i : EReal))

def OUT : Buf (Elt Ideal) ((c.tc : Thread nD τ).loc main_v3) :=
  fun j => chan (cols m c) r (wts m c) (bias m c) (scl m c) (grp (j 1)) (j 0) (lane (j 1))

include hr in
theorem point (i : Fin 2048) (k : Fin 512) : outsAt0 m c t (ix2 i k) = OUT m c r (((View.whole main_v3).slice (win0_4.rect t)).emb (ix2 i k)) := by
  rw [← place t i k]
  refine Eq.trans (congrArg (fun k => outsAt0 m c t (ix2 i k)) (grp_lane k (by have := (grp k).isLt; have := (lane k).isLt; omega)).symm) ?_
  refine (out_chan c _ _ _ _ _ _ _ _ _ _ _ r (fun i k => (u_blk m c t i k).trans (hr i k)) (grp k) i (lane k)).trans ?_
  rw [funext fun i => funext fun k => u_blk m c t i k, funext fun g => funext fun k => funext fun q => w_blk m c t g k q,
    funext fun g => funext fun q => b_blk m c t g q, funext fun k => s_blk m c t k]
  rfl

include hr in
theorem final : (dats m 0 c).arrAt 4 cfg0.N = OUT m c r := by
  refine (dats m 0 c).arrAt_eq_of_covers 4 _ (by decide +kernel) fun t _ y => ?_
  blk_simp
  rw [after0_4]
  idx_vars y
  exact point m c t r hr y0 y1

end Cert.PoolFwdIdeal.Value

namespace Cert.Proof

open Cert.PoolMath

theorem facts_pool_fwd_finite : Cert.Pre_pool_fwd_finite.Facts := Cert.Pre_pool_fwd_finite.Gen.facts

theorem frame_PoolFwd : Cert.quiescent_PoolFwd := fun m ρ _ => Cert.PoolFwd.Gen.frame m ρ
theorem frame_PoolFwdIdeal : Cert.quiescent_PoolFwdIdeal := fun m ρ _ => Cert.PoolFwdIdeal.Gen.frame m ρ
theorem frame_PoolFwdIdeal_pre : Cert.quiescent_PoolFwdIdeal_pre_pool_fwd_finite := fun m ρ _ => Cert.PoolFwdIdeal.Gen.frame m ρ
theorem frame_PoolFwdRefIdeal : Cert.quiescent_PoolFwdRefIdeal := fun m ρ _ =>
  (θ_run Cert.PoolFwdRefIdeal.defs _ _).mono (fun r h => ⟨fun c => (h c).2, Idealize.ShloMosaic.sem_eq_zero_of_no_sems (by decide) r.2⟩)
    (Cert.PoolFwdRefIdeal.Value.run m ρ)
theorem frame_PoolFwdRefIdeal_pre : Cert.quiescent_PoolFwdRefIdeal_pre_pool_fwd_finite := fun m ρ _ => frame_PoolFwdRefIdeal m ρ trivial

/-- The precondition says the pooled columns are real numbers. -/
theorem pool_real (x : FVec Ideal Cert.Pre_pool_fwd_finite.S1x2048x5120 .f32) (w : FVec Ideal Cert.Pre_pool_fwd_finite.S4x128x128 .f32)
    (b : FVec Ideal Cert.Pre_pool_fwd_finite.S4x128 .f32) (s : FVec Ideal Cert.Pre_pool_fwd_finite.S512 .f32)
    (h : Cert.Pre_pool_fwd_finite.fn (F := Ideal) x w b s = fun _ => 1#1) (i : Fin 2048) (k : Fin 512) : ∃ r : ℝ, x (ix3 0 i ⟨k.val, by omega⟩) = r := by
  obtain ⟨r, hr⟩ := Cert.Finite.real_of_all _ _ (fun _ => rfl) h (ix3 0 i k)
  refine ⟨r, Eq.trans ?_ hr⟩
  pointwise []

/-- The pooling branch's forward call: each channel's windowed means, their linear map, bias and scale, where the pooled columns are finite. -/
theorem algebraic_PoolFwd : Cert.algebraic_PoolFwdIdeal_PoolFwdRefIdeal_pre_pool_fwd_finite := by
  pair_intro
  · run_from Cert.PoolFwdIdeal.Value.run_blocks m g
  · run_from Cert.PoolFwdRefIdeal.Value.run m' g'
    choose r hr using fun k i => pool_real _ _ _ _ (hpre c) i k
    rw [Cert.PoolFwdIdeal.Value.final m c r fun i k => hr k i, Cert.PoolFwdRefIdeal.Read.val_main_v89_eq]
    funext i
    idx_vars i
    rw [(hagree c).1, (hagree c).2.1, (hagree c).2.2.1, (hagree c).2.2.2]
    exact Cert.PoolFwdRefIdeal.Value.out_at _ _ _ _ r (fun i k => hr k i) i0 i1

end Cert.Proof

end
-- ==== Proof.lean ====
/-
  The proof of `Cert.Claim`: each call's frames and value stand in a module of their own; here they are put together.
-/
module

public import proofs.«01_k».proof.Proof.LossPair
public import proofs.«01_k».proof.Proof.SwigluPair
public import proofs.«01_k».proof.Proof.FfnPair
public import proofs.«01_k».proof.Proof.NmxPair
public import proofs.«01_k».proof.Proof.MixPair
public import proofs.«01_k».proof.Proof.PoolPair
public import proofs.«01_k».proof.Proof.LruBwdPair
public import proofs.«01_k».proof.Proof.SwigluFwd
public import proofs.«01_k».proof.Proof.NormFfnFwd
public import proofs.«01_k».proof.Proof.NormMixFwd
public import proofs.«01_k».proof.Proof.MixOutFwd
public import proofs.«01_k».proof.Proof.LruFwd
public import proofs.«01_k».proof.Proof.PoolFwd

@[expose] public section

namespace Cert.Proof

/-- Every claim of the statement, call by call. -/
theorem claim : Cert.Claim := ⟨Cert.LossHead.Gen.facts, Cert.LossHeadIdeal.Gen.facts, Cert.LossHeadRefIdeal.Gen.facts, Cert.SwigluBwd.Gen.facts, Cert.SwigluBwdIdeal.Gen.facts, Cert.SwigluBwdRefIdeal.Gen.facts, Cert.NormFfnBwd.Gen.facts, Cert.NormFfnBwdIdeal.Gen.facts, Cert.NormFfnBwdRefIdeal.Gen.facts, Cert.NormMixBwd.Gen.facts, Cert.NormMixBwdIdeal.Gen.facts, Cert.NormMixBwdRefIdeal.Gen.facts, Cert.MixOutBwd.Gen.facts, Cert.MixOutBwdIdeal.Gen.facts, Cert.MixOutBwdRefIdeal.Gen.facts, Cert.PoolBwd.Gen.facts, Cert.PoolBwdIdeal.Gen.facts, Cert.PoolBwdRefIdeal.Gen.facts, Cert.LruBwd.Gen.facts, Cert.LruBwdIdeal.Gen.facts, Cert.LruBwdRefIdeal.Gen.facts, Cert.SwigluFwd.Gen.facts, Cert.SwigluFwdIdeal.Gen.facts, Cert.SwigluFwdRefIdeal.Gen.facts, Cert.NormFfnFwd.Gen.facts, Cert.NormFfnFwdIdeal.Gen.facts, Cert.NormFfnFwdRefIdeal.Gen.facts, Cert.NormMixFwd.Gen.facts, Cert.NormMixFwdIdeal.Gen.facts, Cert.NormMixFwdRefIdeal.Gen.facts, Cert.MixOutFwd.Gen.facts, Cert.MixOutFwdIdeal.Gen.facts, Cert.MixOutFwdRefIdeal.Gen.facts, Cert.LruFwd.Gen.facts, Cert.LruFwdIdeal.Gen.facts, Cert.LruFwdRefIdeal.Gen.facts, Cert.PoolFwd.Gen.facts, Cert.PoolFwdIdeal.Gen.facts, Cert.PoolFwdRefIdeal.Gen.facts, facts_swiglu_bwd_finite, facts_pool_bwd_finite, facts_lru_bwd_finite, facts_pool_fwd_finite,
  frame_LossHead, frame_LossHeadIdeal, frame_LossHeadRefIdeal,
  frame_SwigluBwd, frame_SwigluBwdIdeal, frame_SwigluBwdIdeal_pre, frame_SwigluBwdRefIdeal, frame_SwigluBwdRefIdeal_pre,
  frame_NormFfnBwd, frame_NormFfnBwdIdeal, frame_NormFfnBwdRefIdeal,
  frame_NormMixBwd, frame_NormMixBwdIdeal, frame_NormMixBwdRefIdeal,
  frame_MixOutBwd, frame_MixOutBwdIdeal, frame_MixOutBwdRefIdeal,
  frame_PoolBwd, frame_PoolBwdIdeal, frame_PoolBwdIdeal_pre, frame_PoolBwdRefIdeal, frame_PoolBwdRefIdeal_pre,
  frame_LruBwd, frame_LruBwdIdeal, frame_LruBwdIdeal_pre, frame_LruBwdRefIdeal, frame_LruBwdRefIdeal_pre,
  frame_SwigluFwd, frame_SwigluFwdIdeal, frame_SwigluFwdRefIdeal,
  frame_NormFfnFwd, frame_NormFfnFwdIdeal, frame_NormFfnFwdRefIdeal,
  frame_NormMixFwd, frame_NormMixFwdIdeal, frame_NormMixFwdRefIdeal,
  frame_MixOutFwd, frame_MixOutFwdIdeal, frame_MixOutFwdRefIdeal,
  frame_LruFwd, frame_LruFwdIdeal, frame_LruFwdRefIdeal,
  frame_PoolFwd, frame_PoolFwdIdeal, frame_PoolFwdIdeal_pre, frame_PoolFwdRefIdeal, frame_PoolFwdRefIdeal_pre,
  trivial, algebraic_LossHead,
  trivial, algebraic_SwigluBwd,
  trivial, algebraic_NormFfnBwd,
  trivial, algebraic_NormMixBwd,
  trivial, algebraic_MixOutBwd,
  trivial, algebraic_PoolBwd,
  preserves_LruBwd, algebraic_LruBwd,
  trivial, algebraic_SwigluFwd,
  trivial, algebraic_NormFfnFwd,
  trivial, algebraic_NormMixFwd,
  trivial, algebraic_MixOutFwd,
  trivial, algebraic_LruFwd,
  trivial, algebraic_PoolFwd⟩

end Cert.Proof
